-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2 = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite2 [hPre_finite2 : Cert.Pre_finite2.Facts] (m : (ℓ : Loc Cert.DiffIdeal.nD Cert.DiffIdeal.τ Cert.DiffIdeal.sig) → Buf (Elt Ideal) ℓ) : Prop :=
  ∀ c : Dev Cert.DiffIdeal.nD,
    (Cert.Pre_finite2.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).1 = (fun _ => 1#1)
    ∧ (Cert.Pre_finite2.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.1 = (fun _ => 1#1)
    ∧ (Cert.Pre_finite2.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.1 = (fun _ => 1#1)
    ∧ (Cert.Pre_finite2.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.1 = (fun _ => 1#1)
    ∧ (Cert.Pre_finite2.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.1 = (fun _ => 1#1)
    ∧ (Cert.Pre_finite2.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.2.1 = (fun _ => 1#1)
    ∧ (Cert.Pre_finite2.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite2 [hPre_finite2 : Cert.Pre_finite2.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite2.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).1 = (fun _ => 1#1)
    ∧ (Cert.Pre_finite2.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.1 = (fun _ => 1#1)
    ∧ (Cert.Pre_finite2.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.1 = (fun _ => 1#1)
    ∧ (Cert.Pre_finite2.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.1 = (fun _ => 1#1)
    ∧ (Cert.Pre_finite2.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.1 = (fun _ => 1#1)
    ∧ (Cert.Pre_finite2.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.2.1 = (fun _ => 1#1)
    ∧ (Cert.Pre_finite2.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.2.2 = (fun _ => 1#1)

def Pre_DiffLate (m : (ℓ : Loc Cert.DiffLate.nD Cert.DiffLate.τ Cert.DiffLate.sig) → Buf (Elt Bits) ℓ) : Prop :=
  True

def Pre_DiffLateIdeal (m : (ℓ : Loc Cert.DiffLateIdeal.nD Cert.DiffLateIdeal.τ Cert.DiffLateIdeal.sig) → Buf (Elt Ideal) ℓ) : Prop :=
  True

def Pre_DiffLateIdeal_finite2 [hPre_finite2 : Cert.Pre_finite2.Facts] (m : (ℓ : Loc Cert.DiffLateIdeal.nD Cert.DiffLateIdeal.τ Cert.DiffLateIdeal.sig) → Buf (Elt Ideal) ℓ) : Prop :=
  ∀ c : Dev Cert.DiffLateIdeal.nD,
    (Cert.Pre_finite2.fn (F := Ideal) (m ((c.tc : Thread Cert.DiffLateIdeal.nD Cert.DiffLateIdeal.τ).loc Cert.DiffLateIdeal.main_arg0)) (m ((c.tc : Thread Cert.DiffLateIdeal.nD Cert.DiffLateIdeal.τ).loc Cert.DiffLateIdeal.main_arg1)) (m ((c.tc : Thread Cert.DiffLateIdeal.nD Cert.DiffLateIdeal.τ).loc Cert.DiffLateIdeal.main_arg2)) (m ((c.tc : Thread Cert.DiffLateIdeal.nD Cert.DiffLateIdeal.τ).loc Cert.DiffLateIdeal.main_arg3)) (m ((c.tc : Thread Cert.DiffLateIdeal.nD Cert.DiffLateIdeal.τ).loc Cert.DiffLateIdeal.main_arg4)) (m ((c.tc : Thread Cert.DiffLateIdeal.nD Cert.DiffLateIdeal.τ).loc Cert.DiffLateIdeal.main_arg5)) (m ((c.tc : Thread Cert.DiffLateIdeal.nD Cert.DiffLateIdeal.τ).loc Cert.DiffLateIdeal.main_arg6)) (m ((c.tc : Thread Cert.DiffLateIdeal.nD Cert.DiffLateIdeal.τ).loc Cert.DiffLateIdeal.main_arg7))).1 = (fun _ => 1#1)
    ∧ (Cert.Pre_finite2.fn (F := Ideal) (m ((c.tc : Thread Cert.DiffLateIdeal.nD Cert.DiffLateIdeal.τ).loc Cert.DiffLateIdeal.main_arg0)) (m ((c.tc : Thread Cert.DiffLateIdeal.nD Cert.DiffLateIdeal.τ).loc Cert.DiffLateIdeal.main_arg1)) (m ((c.tc : Thread Cert.DiffLateIdeal.nD Cert.DiffLateIdeal.τ).loc Cert.DiffLateIdeal.main_arg2)) (m ((c.tc : Thread Cert.DiffLateIdeal.nD Cert.DiffLateIdeal.τ).loc Cert.DiffLateIdeal.main_arg3)) (m ((c.tc : Thread Cert.DiffLateIdeal.nD Cert.DiffLateIdeal.τ).loc Cert.DiffLateIdeal.main_arg4)) (m ((c.tc : Thread Cert.DiffLateIdeal.nD Cert.DiffLateIdeal.τ).loc Cert.DiffLateIdeal.main_arg5)) (m ((c.tc : Thread Cert.DiffLateIdeal.nD Cert.DiffLateIdeal.τ).loc Cert.DiffLateIdeal.main_arg6)) (m ((c.tc : Thread Cert.DiffLateIdeal.nD Cert.DiffLateIdeal.τ).loc Cert.DiffLateIdeal.main_arg7))).2.1 = (fun _ => 1#1)
    ∧ (Cert.Pre_finite2.fn (F := Ideal) (m ((c.tc : Thread Cert.DiffLateIdeal.nD Cert.DiffLateIdeal.τ).loc Cert.DiffLateIdeal.main_arg0)) (m ((c.tc : Thread Cert.DiffLateIdeal.nD Cert.DiffLateIdeal.τ).loc Cert.DiffLateIdeal.main_arg1)) (m ((c.tc : Thread Cert.DiffLateIdeal.nD Cert.DiffLateIdeal.τ).loc Cert.DiffLateIdeal.main_arg2)) (m ((c.tc : Thread Cert.DiffLateIdeal.nD Cert.DiffLateIdeal.τ).loc Cert.DiffLateIdeal.main_arg3)) (m ((c.tc : Thread Cert.DiffLateIdeal.nD Cert.DiffLateIdeal.τ).loc Cert.DiffLateIdeal.main_arg4)) (m ((c.tc : Thread Cert.DiffLateIdeal.nD Cert.DiffLateIdeal.τ).loc Cert.DiffLateIdeal.main_arg5)) (m ((c.tc : Thread Cert.DiffLateIdeal.nD Cert.DiffLateIdeal.τ).loc Cert.DiffLateIdeal.main_arg6)) (m ((c.tc : Thread Cert.DiffLateIdeal.nD Cert.DiffLateIdeal.τ).loc Cert.DiffLateIdeal.main_arg7))).2.2.1 = (fun _ => 1#1)
    ∧ (Cert.Pre_finite2.fn (F := Ideal) (m ((c.tc : Thread Cert.DiffLateIdeal.nD Cert.DiffLateIdeal.τ).loc Cert.DiffLateIdeal.main_arg0)) (m ((c.tc : Thread Cert.DiffLateIdeal.nD Cert.DiffLateIdeal.τ).loc Cert.DiffLateIdeal.main_arg1)) (m ((c.tc : Thread Cert.DiffLateIdeal.nD Cert.DiffLateIdeal.τ).loc Cert.DiffLateIdeal.main_arg2)) (m ((c.tc : Thread Cert.DiffLateIdeal.nD Cert.DiffLateIdeal.τ).loc Cert.DiffLateIdeal.main_arg3)) (m ((c.tc : Thread Cert.DiffLateIdeal.nD Cert.DiffLateIdeal.τ).loc Cert.DiffLateIdeal.main_arg4)) (m ((c.tc : Thread Cert.DiffLateIdeal.nD Cert.DiffLateIdeal.τ).loc Cert.DiffLateIdeal.main_arg5)) (m ((c.tc : Thread Cert.DiffLateIdeal.nD Cert.DiffLateIdeal.τ).loc Cert.DiffLateIdeal.main_arg6)) (m ((c.tc : Thread Cert.DiffLateIdeal.nD Cert.DiffLateIdeal.τ).loc Cert.DiffLateIdeal.main_arg7))).2.2.2.1 = (fun _ => 1#1)
    ∧ (Cert.Pre_finite2.fn (F := Ideal) (m ((c.tc : Thread Cert.DiffLateIdeal.nD Cert.DiffLateIdeal.τ).loc Cert.DiffLateIdeal.main_arg0)) (m ((c.tc : Thread Cert.DiffLateIdeal.nD Cert.DiffLateIdeal.τ).loc Cert.DiffLateIdeal.main_arg1)) (m ((c.tc : Thread Cert.DiffLateIdeal.nD Cert.DiffLateIdeal.τ).loc Cert.DiffLateIdeal.main_arg2)) (m ((c.tc : Thread Cert.DiffLateIdeal.nD Cert.DiffLateIdeal.τ).loc Cert.DiffLateIdeal.main_arg3)) (m ((c.tc : Thread Cert.DiffLateIdeal.nD Cert.DiffLateIdeal.τ).loc Cert.DiffLateIdeal.main_arg4)) (m ((c.tc : Thread Cert.DiffLateIdeal.nD Cert.DiffLateIdeal.τ).loc Cert.DiffLateIdeal.main_arg5)) (m ((c.tc : Thread Cert.DiffLateIdeal.nD Cert.DiffLateIdeal.τ).loc Cert.DiffLateIdeal.main_arg6)) (m ((c.tc : Thread Cert.DiffLateIdeal.nD Cert.DiffLateIdeal.τ).loc Cert.DiffLateIdeal.main_arg7))).2.2.2.2.1 = (fun _ => 1#1)
    ∧ (Cert.Pre_finite2.fn (F := Ideal) (m ((c.tc : Thread Cert.DiffLateIdeal.nD Cert.DiffLateIdeal.τ).loc Cert.DiffLateIdeal.main_arg0)) (m ((c.tc : Thread Cert.DiffLateIdeal.nD Cert.DiffLateIdeal.τ).loc Cert.DiffLateIdeal.main_arg1)) (m ((c.tc : Thread Cert.DiffLateIdeal.nD Cert.DiffLateIdeal.τ).loc Cert.DiffLateIdeal.main_arg2)) (m ((c.tc : Thread Cert.DiffLateIdeal.nD Cert.DiffLateIdeal.τ).loc Cert.DiffLateIdeal.main_arg3)) (m ((c.tc : Thread Cert.DiffLateIdeal.nD Cert.DiffLateIdeal.τ).loc Cert.DiffLateIdeal.main_arg4)) (m ((c.tc : Thread Cert.DiffLateIdeal.nD Cert.DiffLateIdeal.τ).loc Cert.DiffLateIdeal.main_arg5)) (m ((c.tc : Thread Cert.DiffLateIdeal.nD Cert.DiffLateIdeal.τ).loc Cert.DiffLateIdeal.main_arg6)) (m ((c.tc : Thread Cert.DiffLateIdeal.nD Cert.DiffLateIdeal.τ).loc Cert.DiffLateIdeal.main_arg7))).2.2.2.2.2.1 = (fun _ => 1#1)
    ∧ (Cert.Pre_finite2.fn (F := Ideal) (m ((c.tc : Thread Cert.DiffLateIdeal.nD Cert.DiffLateIdeal.τ).loc Cert.DiffLateIdeal.main_arg0)) (m ((c.tc : Thread Cert.DiffLateIdeal.nD Cert.DiffLateIdeal.τ).loc Cert.DiffLateIdeal.main_arg1)) (m ((c.tc : Thread Cert.DiffLateIdeal.nD Cert.DiffLateIdeal.τ).loc Cert.DiffLateIdeal.main_arg2)) (m ((c.tc : Thread Cert.DiffLateIdeal.nD Cert.DiffLateIdeal.τ).loc Cert.DiffLateIdeal.main_arg3)) (m ((c.tc : Thread Cert.DiffLateIdeal.nD Cert.DiffLateIdeal.τ).loc Cert.DiffLateIdeal.main_arg4)) (m ((c.tc : Thread Cert.DiffLateIdeal.nD Cert.DiffLateIdeal.τ).loc Cert.DiffLateIdeal.main_arg5)) (m ((c.tc : Thread Cert.DiffLateIdeal.nD Cert.DiffLateIdeal.τ).loc Cert.DiffLateIdeal.main_arg6)) (m ((c.tc : Thread Cert.DiffLateIdeal.nD Cert.DiffLateIdeal.τ).loc Cert.DiffLateIdeal.main_arg7))).2.2.2.2.2.2 = (fun _ => 1#1)

def Pre_DiffLateRefIdeal (m : (ℓ : Loc Cert.DiffLateRefIdeal.nD Cert.DiffLateRefIdeal.τ Cert.DiffLateRefIdeal.sig) → Buf (Elt Ideal) ℓ) : Prop :=
  True

def Pre_DiffLateRefIdeal_finite2 [hPre_finite2 : Cert.Pre_finite2.Facts] (m : (ℓ : Loc Cert.DiffLateRefIdeal.nD Cert.DiffLateRefIdeal.τ Cert.DiffLateRefIdeal.sig) → Buf (Elt Ideal) ℓ) : Prop :=
  ∀ c : Dev Cert.DiffLateRefIdeal.nD,
    (Cert.Pre_finite2.fn (F := Ideal) (m ((c.tc : Thread Cert.DiffLateRefIdeal.nD Cert.DiffLateRefIdeal.τ).loc Cert.DiffLateRefIdeal.main_arg0)) (m ((c.tc : Thread Cert.DiffLateRefIdeal.nD Cert.DiffLateRefIdeal.τ).loc Cert.DiffLateRefIdeal.main_arg1)) (m ((c.tc : Thread Cert.DiffLateRefIdeal.nD Cert.DiffLateRefIdeal.τ).loc Cert.DiffLateRefIdeal.main_arg2)) (m ((c.tc : Thread Cert.DiffLateRefIdeal.nD Cert.DiffLateRefIdeal.τ).loc Cert.DiffLateRefIdeal.main_arg3)) (m ((c.tc : Thread Cert.DiffLateRefIdeal.nD Cert.DiffLateRefIdeal.τ).loc Cert.DiffLateRefIdeal.main_arg4)) (m ((c.tc : Thread Cert.DiffLateRefIdeal.nD Cert.DiffLateRefIdeal.τ).loc Cert.DiffLateRefIdeal.main_arg5)) (m ((c.tc : Thread Cert.DiffLateRefIdeal.nD Cert.DiffLateRefIdeal.τ).loc Cert.DiffLateRefIdeal.main_arg6)) (m ((c.tc : Thread Cert.DiffLateRefIdeal.nD Cert.DiffLateRefIdeal.τ).loc Cert.DiffLateRefIdeal.main_arg7))).1 = (fun _ => 1#1)
    ∧ (Cert.Pre_finite2.fn (F := Ideal) (m ((c.tc : Thread Cert.DiffLateRefIdeal.nD Cert.DiffLateRefIdeal.τ).loc Cert.DiffLateRefIdeal.main_arg0)) (m ((c.tc : Thread Cert.DiffLateRefIdeal.nD Cert.DiffLateRefIdeal.τ).loc Cert.DiffLateRefIdeal.main_arg1)) (m ((c.tc : Thread Cert.DiffLateRefIdeal.nD Cert.DiffLateRefIdeal.τ).loc Cert.DiffLateRefIdeal.main_arg2)) (m ((c.tc : Thread Cert.DiffLateRefIdeal.nD Cert.DiffLateRefIdeal.τ).loc Cert.DiffLateRefIdeal.main_arg3)) (m ((c.tc : Thread Cert.DiffLateRefIdeal.nD Cert.DiffLateRefIdeal.τ).loc Cert.DiffLateRefIdeal.main_arg4)) (m ((c.tc : Thread Cert.DiffLateRefIdeal.nD Cert.DiffLateRefIdeal.τ).loc Cert.DiffLateRefIdeal.main_arg5)) (m ((c.tc : Thread Cert.DiffLateRefIdeal.nD Cert.DiffLateRefIdeal.τ).loc Cert.DiffLateRefIdeal.main_arg6)) (m ((c.tc : Thread Cert.DiffLateRefIdeal.nD Cert.DiffLateRefIdeal.τ).loc Cert.DiffLateRefIdeal.main_arg7))).2.1 = (fun _ => 1#1)
    ∧ (Cert.Pre_finite2.fn (F := Ideal) (m ((c.tc : Thread Cert.DiffLateRefIdeal.nD Cert.DiffLateRefIdeal.τ).loc Cert.DiffLateRefIdeal.main_arg0)) (m ((c.tc : Thread Cert.DiffLateRefIdeal.nD Cert.DiffLateRefIdeal.τ).loc Cert.DiffLateRefIdeal.main_arg1)) (m ((c.tc : Thread Cert.DiffLateRefIdeal.nD Cert.DiffLateRefIdeal.τ).loc Cert.DiffLateRefIdeal.main_arg2)) (m ((c.tc : Thread Cert.DiffLateRefIdeal.nD Cert.DiffLateRefIdeal.τ).loc Cert.DiffLateRefIdeal.main_arg3)) (m ((c.tc : Thread Cert.DiffLateRefIdeal.nD Cert.DiffLateRefIdeal.τ).loc Cert.DiffLateRefIdeal.main_arg4)) (m ((c.tc : Thread Cert.DiffLateRefIdeal.nD Cert.DiffLateRefIdeal.τ).loc Cert.DiffLateRefIdeal.main_arg5)) (m ((c.tc : Thread Cert.DiffLateRefIdeal.nD Cert.DiffLateRefIdeal.τ).loc Cert.DiffLateRefIdeal.main_arg6)) (m ((c.tc : Thread Cert.DiffLateRefIdeal.nD Cert.DiffLateRefIdeal.τ).loc Cert.DiffLateRefIdeal.main_arg7))).2.2.1 = (fun _ => 1#1)
    ∧ (Cert.Pre_finite2.fn (F := Ideal) (m ((c.tc : Thread Cert.DiffLateRefIdeal.nD Cert.DiffLateRefIdeal.τ).loc Cert.DiffLateRefIdeal.main_arg0)) (m ((c.tc : Thread Cert.DiffLateRefIdeal.nD Cert.DiffLateRefIdeal.τ).loc Cert.DiffLateRefIdeal.main_arg1)) (m ((c.tc : Thread Cert.DiffLateRefIdeal.nD Cert.DiffLateRefIdeal.τ).loc Cert.DiffLateRefIdeal.main_arg2)) (m ((c.tc : Thread Cert.DiffLateRefIdeal.nD Cert.DiffLateRefIdeal.τ).loc Cert.DiffLateRefIdeal.main_arg3)) (m ((c.tc : Thread Cert.DiffLateRefIdeal.nD Cert.DiffLateRefIdeal.τ).loc Cert.DiffLateRefIdeal.main_arg4)) (m ((c.tc : Thread Cert.DiffLateRefIdeal.nD Cert.DiffLateRefIdeal.τ).loc Cert.DiffLateRefIdeal.main_arg5)) (m ((c.tc : Thread Cert.DiffLateRefIdeal.nD Cert.DiffLateRefIdeal.τ).loc Cert.DiffLateRefIdeal.main_arg6)) (m ((c.tc : Thread Cert.DiffLateRefIdeal.nD Cert.DiffLateRefIdeal.τ).loc Cert.DiffLateRefIdeal.main_arg7))).2.2.2.1 = (fun _ => 1#1)
    ∧ (Cert.Pre_finite2.fn (F := Ideal) (m ((c.tc : Thread Cert.DiffLateRefIdeal.nD Cert.DiffLateRefIdeal.τ).loc Cert.DiffLateRefIdeal.main_arg0)) (m ((c.tc : Thread Cert.DiffLateRefIdeal.nD Cert.DiffLateRefIdeal.τ).loc Cert.DiffLateRefIdeal.main_arg1)) (m ((c.tc : Thread Cert.DiffLateRefIdeal.nD Cert.DiffLateRefIdeal.τ).loc Cert.DiffLateRefIdeal.main_arg2)) (m ((c.tc : Thread Cert.DiffLateRefIdeal.nD Cert.DiffLateRefIdeal.τ).loc Cert.DiffLateRefIdeal.main_arg3)) (m ((c.tc : Thread Cert.DiffLateRefIdeal.nD Cert.DiffLateRefIdeal.τ).loc Cert.DiffLateRefIdeal.main_arg4)) (m ((c.tc : Thread Cert.DiffLateRefIdeal.nD Cert.DiffLateRefIdeal.τ).loc Cert.DiffLateRefIdeal.main_arg5)) (m ((c.tc : Thread Cert.DiffLateRefIdeal.nD Cert.DiffLateRefIdeal.τ).loc Cert.DiffLateRefIdeal.main_arg6)) (m ((c.tc : Thread Cert.DiffLateRefIdeal.nD Cert.DiffLateRefIdeal.τ).loc Cert.DiffLateRefIdeal.main_arg7))).2.2.2.2.1 = (fun _ => 1#1)
    ∧ (Cert.Pre_finite2.fn (F := Ideal) (m ((c.tc : Thread Cert.DiffLateRefIdeal.nD Cert.DiffLateRefIdeal.τ).loc Cert.DiffLateRefIdeal.main_arg0)) (m ((c.tc : Thread Cert.DiffLateRefIdeal.nD Cert.DiffLateRefIdeal.τ).loc Cert.DiffLateRefIdeal.main_arg1)) (m ((c.tc : Thread Cert.DiffLateRefIdeal.nD Cert.DiffLateRefIdeal.τ).loc Cert.DiffLateRefIdeal.main_arg2)) (m ((c.tc : Thread Cert.DiffLateRefIdeal.nD Cert.DiffLateRefIdeal.τ).loc Cert.DiffLateRefIdeal.main_arg3)) (m ((c.tc : Thread Cert.DiffLateRefIdeal.nD Cert.DiffLateRefIdeal.τ).loc Cert.DiffLateRefIdeal.main_arg4)) (m ((c.tc : Thread Cert.DiffLateRefIdeal.nD Cert.DiffLateRefIdeal.τ).loc Cert.DiffLateRefIdeal.main_arg5)) (m ((c.tc : Thread Cert.DiffLateRefIdeal.nD Cert.DiffLateRefIdeal.τ).loc Cert.DiffLateRefIdeal.main_arg6)) (m ((c.tc : Thread Cert.DiffLateRefIdeal.nD Cert.DiffLateRefIdeal.τ).loc Cert.DiffLateRefIdeal.main_arg7))).2.2.2.2.2.1 = (fun _ => 1#1)
    ∧ (Cert.Pre_finite2.fn (F := Ideal) (m ((c.tc : Thread Cert.DiffLateRefIdeal.nD Cert.DiffLateRefIdeal.τ).loc Cert.DiffLateRefIdeal.main_arg0)) (m ((c.tc : Thread Cert.DiffLateRefIdeal.nD Cert.DiffLateRefIdeal.τ).loc Cert.DiffLateRefIdeal.main_arg1)) (m ((c.tc : Thread Cert.DiffLateRefIdeal.nD Cert.DiffLateRefIdeal.τ).loc Cert.DiffLateRefIdeal.main_arg2)) (m ((c.tc : Thread Cert.DiffLateRefIdeal.nD Cert.DiffLateRefIdeal.τ).loc Cert.DiffLateRefIdeal.main_arg3)) (m ((c.tc : Thread Cert.DiffLateRefIdeal.nD Cert.DiffLateRefIdeal.τ).loc Cert.DiffLateRefIdeal.main_arg4)) (m ((c.tc : Thread Cert.DiffLateRefIdeal.nD Cert.DiffLateRefIdeal.τ).loc Cert.DiffLateRefIdeal.main_arg5)) (m ((c.tc : Thread Cert.DiffLateRefIdeal.nD Cert.DiffLateRefIdeal.τ).loc Cert.DiffLateRefIdeal.main_arg6)) (m ((c.tc : Thread Cert.DiffLateRefIdeal.nD Cert.DiffLateRefIdeal.τ).loc Cert.DiffLateRefIdeal.main_arg7))).2.2.2.2.2.2 = (fun _ => 1#1)

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_Moe [hPre_routed : Cert.Pre_routed.Facts] (m : (ℓ : Loc Cert.Moe.nD Cert.Moe.τ Cert.Moe.sig) → Buf (Elt Bits) ℓ) : Prop :=
  ∀ c : Dev Cert.Moe.nD,
    (Cert.Pre_routed.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).1 = (fun _ => 1#1)
    ∧ (Cert.Pre_routed.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.1 = (fun _ => 1#1)
    ∧ (Cert.Pre_routed.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.2.1 = (fun _ => 1#1)
    ∧ (Cert.Pre_routed.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.2.2 = (fun _ => 1#1)

def Pre_MoeIdeal [hPre_routed : Cert.Pre_routed.Facts] (m : (ℓ : Loc Cert.MoeIdeal.nD Cert.MoeIdeal.τ Cert.MoeIdeal.sig) → Buf (Elt Ideal) ℓ) : Prop :=
  ∀ c : Dev Cert.MoeIdeal.nD,
    (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
    ∧ (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.1 = (fun _ => 1#1)
    ∧ (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.1 = (fun _ => 1#1)
    ∧ (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_routed [hPre_routed : Cert.Pre_routed.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).1 = (fun _ => 1#1)
    ∧ (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.1 = (fun _ => 1#1)
    ∧ (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.1 = (fun _ => 1#1)
    ∧ (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2 = (fun _ => 1#1)

def Pre_FinalLn (m : (ℓ : Loc Cert.FinalLn.nD Cert.FinalLn.τ Cert.FinalLn.sig) → Buf (Elt Bits) ℓ) : Prop :=
  True

def Pre_FinalLnIdeal (m : (ℓ : Loc Cert.FinalLnIdeal.nD Cert.FinalLnIdeal.τ Cert.FinalLnIdeal.sig) → Buf (Elt Ideal) ℓ) : Prop :=
  True

def Pre_FinalLnRefIdeal (m : (ℓ : Loc Cert.FinalLnRefIdeal.nD Cert.FinalLnRefIdeal.τ Cert.FinalLnRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_GateSums (m : (ℓ : Loc Cert.GateSums.nD Cert.GateSums.τ Cert.GateSums.sig) → Buf (Elt Bits) ℓ) : Prop :=
  True

def Pre_GateSumsIdeal (m : (ℓ : Loc Cert.GateSumsIdeal.nD Cert.GateSumsIdeal.τ Cert.GateSumsIdeal.sig) → Buf (Elt Ideal) ℓ) : Prop :=
  True

def Pre_GateSumsRefIdeal (m : (ℓ : Loc Cert.GateSumsRefIdeal.nD Cert.GateSumsRefIdeal.τ Cert.GateSumsRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffIdeal_pre_finite2 [hDiffIdeal : Cert.DiffIdeal.Facts] [hPre_finite2 : Cert.Pre_finite2.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite2 m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_DiffRefIdeal_pre_finite2 [hDiffRefIdeal : Cert.DiffRefIdeal.Facts] [hPre_finite2 : Cert.Pre_finite2.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite2 m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_DiffLate [hDiffLate : Cert.DiffLate.Facts] : Prop :=
  ∀ (m : (ℓ : Loc Cert.DiffLate.nD Cert.DiffLate.τ Cert.DiffLate.sig) → Buf (Elt Bits) ℓ) (g : Dev Cert.DiffLate.nD → PrngReg), Pre_DiffLate m →
    θ_run (Cert.DiffLate.defs (F := Bits)) (onTc (τ := Cert.DiffLate.τ) (Cert.DiffLate.main (F := Bits))) ⟨m, fun _ => 0, g⟩ (fun r => (∀ c : Dev Cert.DiffLate.nD,
      r.2.mem ((c.tc : Thread Cert.DiffLate.nD Cert.DiffLate.τ).loc Cert.DiffLate.main_arg0) = m ((c.tc : Thread Cert.DiffLate.nD Cert.DiffLate.τ).loc Cert.DiffLate.main_arg0)
      ∧ r.2.mem ((c.tc : Thread Cert.DiffLate.nD Cert.DiffLate.τ).loc Cert.DiffLate.main_arg1) = m ((c.tc : Thread Cert.DiffLate.nD Cert.DiffLate.τ).loc Cert.DiffLate.main_arg1)
      ∧ r.2.mem ((c.tc : Thread Cert.DiffLate.nD Cert.DiffLate.τ).loc Cert.DiffLate.main_arg2) = m ((c.tc : Thread Cert.DiffLate.nD Cert.DiffLate.τ).loc Cert.DiffLate.main_arg2)
      ∧ r.2.mem ((c.tc : Thread Cert.DiffLate.nD Cert.DiffLate.τ).loc Cert.DiffLate.main_arg3) = m ((c.tc : Thread Cert.DiffLate.nD Cert.DiffLate.τ).loc Cert.DiffLate.main_arg3)
      ∧ r.2.mem ((c.tc : Thread Cert.DiffLate.nD Cert.DiffLate.τ).loc Cert.DiffLate.main_arg4) = m ((c.tc : Thread Cert.DiffLate.nD Cert.DiffLate.τ).loc Cert.DiffLate.main_arg4)
      ∧ r.2.mem ((c.tc : Thread Cert.DiffLate.nD Cert.DiffLate.τ).loc Cert.DiffLate.main_arg5) = m ((c.tc : Thread Cert.DiffLate.nD Cert.DiffLate.τ).loc Cert.DiffLate.main_arg5)
      ∧ r.2.mem ((c.tc : Thread Cert.DiffLate.nD Cert.DiffLate.τ).loc Cert.DiffLate.main_arg6) = m ((c.tc : Thread Cert.DiffLate.nD Cert.DiffLate.τ).loc Cert.DiffLate.main_arg6)
      ∧ r.2.mem ((c.tc : Thread Cert.DiffLate.nD Cert.DiffLate.τ).loc Cert.DiffLate.main_arg7) = m ((c.tc : Thread Cert.DiffLate.nD Cert.DiffLate.τ).loc Cert.DiffLate.main_arg7))
      ∧ r.2.sem = fun _ => 0)

def quiescent_DiffLateIdeal [hDiffLateIdeal : Cert.DiffLateIdeal.Facts] : Prop :=
  ∀ (m : (ℓ : Loc Cert.DiffLateIdeal.nD Cert.DiffLateIdeal.τ Cert.DiffLateIdeal.sig) → Buf (Elt Ideal) ℓ) (g : Dev Cert.DiffLateIdeal.nD → PrngReg), Pre_DiffLateIdeal m →
    θ_run (Cert.DiffLateIdeal.defs (F := Ideal)) (onTc (τ := Cert.DiffLateIdeal.τ) (Cert.DiffLateIdeal.main (F := Ideal))) ⟨m, fun _ => 0, g⟩ (fun r => (∀ c : Dev Cert.DiffLateIdeal.nD,
      r.2.mem ((c.tc : Thread Cert.DiffLateIdeal.nD Cert.DiffLateIdeal.τ).loc Cert.DiffLateIdeal.main_arg0) = m ((c.tc : Thread Cert.DiffLateIdeal.nD Cert.DiffLateIdeal.τ).loc Cert.DiffLateIdeal.main_arg0)
      ∧ r.2.mem ((c.tc : Thread Cert.DiffLateIdeal.nD Cert.DiffLateIdeal.τ).loc Cert.DiffLateIdeal.main_arg1) = m ((c.tc : Thread Cert.DiffLateIdeal.nD Cert.DiffLateIdeal.τ).loc Cert.DiffLateIdeal.main_arg1)
      ∧ r.2.mem ((c.tc : Thread Cert.DiffLateIdeal.nD Cert.DiffLateIdeal.τ).loc Cert.DiffLateIdeal.main_arg2) = m ((c.tc : Thread Cert.DiffLateIdeal.nD Cert.DiffLateIdeal.τ).loc Cert.DiffLateIdeal.main_arg2)
      ∧ r.2.mem ((c.tc : Thread Cert.DiffLateIdeal.nD Cert.DiffLateIdeal.τ).loc Cert.DiffLateIdeal.main_arg3) = m ((c.tc : Thread Cert.DiffLateIdeal.nD Cert.DiffLateIdeal.τ).loc Cert.DiffLateIdeal.main_arg3)
      ∧ r.2.mem ((c.tc : Thread Cert.DiffLateIdeal.nD Cert.DiffLateIdeal.τ).loc Cert.DiffLateIdeal.main_arg4) = m ((c.tc : Thread Cert.DiffLateIdeal.nD Cert.DiffLateIdeal.τ).loc Cert.DiffLateIdeal.main_arg4)
      ∧ r.2.mem ((c.tc : Thread Cert.DiffLateIdeal.nD Cert.DiffLateIdeal.τ).loc Cert.DiffLateIdeal.main_arg5) = m ((c.tc : Thread Cert.DiffLateIdeal.nD Cert.DiffLateIdeal.τ).loc Cert.DiffLateIdeal.main_arg5)
      ∧ r.2.mem ((c.tc : Thread Cert.DiffLateIdeal.nD Cert.DiffLateIdeal.τ).loc Cert.DiffLateIdeal.main_arg6) = m ((c.tc : Thread Cert.DiffLateIdeal.nD Cert.DiffLateIdeal.τ).loc Cert.DiffLateIdeal.main_arg6)
      ∧ r.2.mem ((c.tc : Thread Cert.DiffLateIdeal.nD Cert.DiffLateIdeal.τ).loc Cert.DiffLateIdeal.main_arg7) = m ((c.tc : Thread Cert.DiffLateIdeal.nD Cert.DiffLateIdeal.τ).loc Cert.DiffLateIdeal.main_arg7))
      ∧ r.2.sem = fun _ => 0)

def quiescent_DiffLateIdeal_pre_finite2 [hDiffLateIdeal : Cert.DiffLateIdeal.Facts] [hPre_finite2 : Cert.Pre_finite2.Facts] : Prop :=
  ∀ (m : (ℓ : Loc Cert.DiffLateIdeal.nD Cert.DiffLateIdeal.τ Cert.DiffLateIdeal.sig) → Buf (Elt Ideal) ℓ) (g : Dev Cert.DiffLateIdeal.nD → PrngReg), Pre_DiffLateIdeal_finite2 m →
    θ_run (Cert.DiffLateIdeal.defs (F := Ideal)) (onTc (τ := Cert.DiffLateIdeal.τ) (Cert.DiffLateIdeal.main (F := Ideal))) ⟨m, fun _ => 0, g⟩ (fun r => (∀ c : Dev Cert.DiffLateIdeal.nD,
      r.2.mem ((c.tc : Thread Cert.DiffLateIdeal.nD Cert.DiffLateIdeal.τ).loc Cert.DiffLateIdeal.main_arg0) = m ((c.tc : Thread Cert.DiffLateIdeal.nD Cert.DiffLateIdeal.τ).loc Cert.DiffLateIdeal.main_arg0)
      ∧ r.2.mem ((c.tc : Thread Cert.DiffLateIdeal.nD Cert.DiffLateIdeal.τ).loc Cert.DiffLateIdeal.main_arg1) = m ((c.tc : Thread Cert.DiffLateIdeal.nD Cert.DiffLateIdeal.τ).loc Cert.DiffLateIdeal.main_arg1)
      ∧ r.2.mem ((c.tc : Thread Cert.DiffLateIdeal.nD Cert.DiffLateIdeal.τ).loc Cert.DiffLateIdeal.main_arg2) = m ((c.tc : Thread Cert.DiffLateIdeal.nD Cert.DiffLateIdeal.τ).loc Cert.DiffLateIdeal.main_arg2)
      ∧ r.2.mem ((c.tc : Thread Cert.DiffLateIdeal.nD Cert.DiffLateIdeal.τ).loc Cert.DiffLateIdeal.main_arg3) = m ((c.tc : Thread Cert.DiffLateIdeal.nD Cert.DiffLateIdeal.τ).loc Cert.DiffLateIdeal.main_arg3)
      ∧ r.2.mem ((c.tc : Thread Cert.DiffLateIdeal.nD Cert.DiffLateIdeal.τ).loc Cert.DiffLateIdeal.main_arg4) = m ((c.tc : Thread Cert.DiffLateIdeal.nD Cert.DiffLateIdeal.τ).loc Cert.DiffLateIdeal.main_arg4)
      ∧ r.2.mem ((c.tc : Thread Cert.DiffLateIdeal.nD Cert.DiffLateIdeal.τ).loc Cert.DiffLateIdeal.main_arg5) = m ((c.tc : Thread Cert.DiffLateIdeal.nD Cert.DiffLateIdeal.τ).loc Cert.DiffLateIdeal.main_arg5)
      ∧ r.2.mem ((c.tc : Thread Cert.DiffLateIdeal.nD Cert.DiffLateIdeal.τ).loc Cert.DiffLateIdeal.main_arg6) = m ((c.tc : Thread Cert.DiffLateIdeal.nD Cert.DiffLateIdeal.τ).loc Cert.DiffLateIdeal.main_arg6)
      ∧ r.2.mem ((c.tc : Thread Cert.DiffLateIdeal.nD Cert.DiffLateIdeal.τ).loc Cert.DiffLateIdeal.main_arg7) = m ((c.tc : Thread Cert.DiffLateIdeal.nD Cert.DiffLateIdeal.τ).loc Cert.DiffLateIdeal.main_arg7))
      ∧ r.2.sem = fun _ => 0)

def quiescent_DiffLateRefIdeal [hDiffLateRefIdeal : Cert.DiffLateRefIdeal.Facts] : Prop :=
  ∀ (m : (ℓ : Loc Cert.DiffLateRefIdeal.nD Cert.DiffLateRefIdeal.τ Cert.DiffLateRefIdeal.sig) → Buf (Elt Ideal) ℓ) (g : Dev Cert.DiffLateRefIdeal.nD → PrngReg), Pre_DiffLateRefIdeal m →
    θ_run (Cert.DiffLateRefIdeal.defs (F := Ideal)) (onTc (τ := Cert.DiffLateRefIdeal.τ) (Cert.DiffLateRefIdeal.main (F := Ideal))) ⟨m, fun _ => 0, g⟩ (fun r => (∀ c : Dev Cert.DiffLateRefIdeal.nD,
      r.2.mem ((c.tc : Thread Cert.DiffLateRefIdeal.nD Cert.DiffLateRefIdeal.τ).loc Cert.DiffLateRefIdeal.main_arg0) = m ((c.tc : Thread Cert.DiffLateRefIdeal.nD Cert.DiffLateRefIdeal.τ).loc Cert.DiffLateRefIdeal.main_arg0)
      ∧ r.2.mem ((c.tc : Thread Cert.DiffLateRefIdeal.nD Cert.DiffLateRefIdeal.τ).loc Cert.DiffLateRefIdeal.main_arg1) = m ((c.tc : Thread Cert.DiffLateRefIdeal.nD Cert.DiffLateRefIdeal.τ).loc Cert.DiffLateRefIdeal.main_arg1)
      ∧ r.2.mem ((c.tc : Thread Cert.DiffLateRefIdeal.nD Cert.DiffLateRefIdeal.τ).loc Cert.DiffLateRefIdeal.main_arg2) = m ((c.tc : Thread Cert.DiffLateRefIdeal.nD Cert.DiffLateRefIdeal.τ).loc Cert.DiffLateRefIdeal.main_arg2)
      ∧ r.2.mem ((c.tc : Thread Cert.DiffLateRefIdeal.nD Cert.DiffLateRefIdeal.τ).loc Cert.DiffLateRefIdeal.main_arg3) = m ((c.tc : Thread Cert.DiffLateRefIdeal.nD Cert.DiffLateRefIdeal.τ).loc Cert.DiffLateRefIdeal.main_arg3)
      ∧ r.2.mem ((c.tc : Thread Cert.DiffLateRefIdeal.nD Cert.DiffLateRefIdeal.τ).loc Cert.DiffLateRefIdeal.main_arg4) = m ((c.tc : Thread Cert.DiffLateRefIdeal.nD Cert.DiffLateRefIdeal.τ).loc Cert.DiffLateRefIdeal.main_arg4)
      ∧ r.2.mem ((c.tc : Thread Cert.DiffLateRefIdeal.nD Cert.DiffLateRefIdeal.τ).loc Cert.DiffLateRefIdeal.main_arg5) = m ((c.tc : Thread Cert.DiffLateRefIdeal.nD Cert.DiffLateRefIdeal.τ).loc Cert.DiffLateRefIdeal.main_arg5)
      ∧ r.2.mem ((c.tc : Thread Cert.DiffLateRefIdeal.nD Cert.DiffLateRefIdeal.τ).loc Cert.DiffLateRefIdeal.main_arg6) = m ((c.tc : Thread Cert.DiffLateRefIdeal.nD Cert.DiffLateRefIdeal.τ).loc Cert.DiffLateRefIdeal.main_arg6)
      ∧ r.2.mem ((c.tc : Thread Cert.DiffLateRefIdeal.nD Cert.DiffLateRefIdeal.τ).loc Cert.DiffLateRefIdeal.main_arg7) = m ((c.tc : Thread Cert.DiffLateRefIdeal.nD Cert.DiffLateRefIdeal.τ).loc Cert.DiffLateRefIdeal.main_arg7))
      ∧ r.2.sem = fun _ => 0)

def quiescent_DiffLateRefIdeal_pre_finite2 [hDiffLateRefIdeal : Cert.DiffLateRefIdeal.Facts] [hPre_finite2 : Cert.Pre_finite2.Facts] : Prop :=
  ∀ (m : (ℓ : Loc Cert.DiffLateRefIdeal.nD Cert.DiffLateRefIdeal.τ Cert.DiffLateRefIdeal.sig) → Buf (Elt Ideal) ℓ) (g : Dev Cert.DiffLateRefIdeal.nD → PrngReg), Pre_DiffLateRefIdeal_finite2 m →
    θ_run (Cert.DiffLateRefIdeal.defs (F := Ideal)) (onTc (τ := Cert.DiffLateRefIdeal.τ) (Cert.DiffLateRefIdeal.main (F := Ideal))) ⟨m, fun _ => 0, g⟩ (fun r => (∀ c : Dev Cert.DiffLateRefIdeal.nD,
      r.2.mem ((c.tc : Thread Cert.DiffLateRefIdeal.nD Cert.DiffLateRefIdeal.τ).loc Cert.DiffLateRefIdeal.main_arg0) = m ((c.tc : Thread Cert.DiffLateRefIdeal.nD Cert.DiffLateRefIdeal.τ).loc Cert.DiffLateRefIdeal.main_arg0)
      ∧ r.2.mem ((c.tc : Thread Cert.DiffLateRefIdeal.nD Cert.DiffLateRefIdeal.τ).loc Cert.DiffLateRefIdeal.main_arg1) = m ((c.tc : Thread Cert.DiffLateRefIdeal.nD Cert.DiffLateRefIdeal.τ).loc Cert.DiffLateRefIdeal.main_arg1)
      ∧ r.2.mem ((c.tc : Thread Cert.DiffLateRefIdeal.nD Cert.DiffLateRefIdeal.τ).loc Cert.DiffLateRefIdeal.main_arg2) = m ((c.tc : Thread Cert.DiffLateRefIdeal.nD Cert.DiffLateRefIdeal.τ).loc Cert.DiffLateRefIdeal.main_arg2)
      ∧ r.2.mem ((c.tc : Thread Cert.DiffLateRefIdeal.nD Cert.DiffLateRefIdeal.τ).loc Cert.DiffLateRefIdeal.main_arg3) = m ((c.tc : Thread Cert.DiffLateRefIdeal.nD Cert.DiffLateRefIdeal.τ).loc Cert.DiffLateRefIdeal.main_arg3)
      ∧ r.2.mem ((c.tc : Thread Cert.DiffLateRefIdeal.nD Cert.DiffLateRefIdeal.τ).loc Cert.DiffLateRefIdeal.main_arg4) = m ((c.tc : Thread Cert.DiffLateRefIdeal.nD Cert.DiffLateRefIdeal.τ).loc Cert.DiffLateRefIdeal.main_arg4)
      ∧ r.2.mem ((c.tc : Thread Cert.DiffLateRefIdeal.nD Cert.DiffLateRefIdeal.τ).loc Cert.DiffLateRefIdeal.main_arg5) = m ((c.tc : Thread Cert.DiffLateRefIdeal.nD Cert.DiffLateRefIdeal.τ).loc Cert.DiffLateRefIdeal.main_arg5)
      ∧ r.2.mem ((c.tc : Thread Cert.DiffLateRefIdeal.nD Cert.DiffLateRefIdeal.τ).loc Cert.DiffLateRefIdeal.main_arg6) = m ((c.tc : Thread Cert.DiffLateRefIdeal.nD Cert.DiffLateRefIdeal.τ).loc Cert.DiffLateRefIdeal.main_arg6)
      ∧ r.2.mem ((c.tc : Thread Cert.DiffLateRefIdeal.nD Cert.DiffLateRefIdeal.τ).loc Cert.DiffLateRefIdeal.main_arg7) = m ((c.tc : Thread Cert.DiffLateRefIdeal.nD Cert.DiffLateRefIdeal.τ).loc Cert.DiffLateRefIdeal.main_arg7))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6))
      ∧ r.2.sem = fun _ => 0)

def quiescent_Moe [hMoe : Cert.Moe.Facts] [hPre_routed : Cert.Pre_routed.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_routed [hMoeRefIdeal : Cert.MoeRefIdeal.Facts] [hPre_routed : Cert.Pre_routed.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_routed m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_FinalLn [hFinalLn : Cert.FinalLn.Facts] : Prop :=
  ∀ (m : (ℓ : Loc Cert.FinalLn.nD Cert.FinalLn.τ Cert.FinalLn.sig) → Buf (Elt Bits) ℓ) (g : Dev Cert.FinalLn.nD → PrngReg), Pre_FinalLn m →
    θ_run (Cert.FinalLn.defs (F := Bits)) (onTc (τ := Cert.FinalLn.τ) (Cert.FinalLn.main (F := Bits))) ⟨m, fun _ => 0, g⟩ (fun r => (∀ c : Dev Cert.FinalLn.nD,
      r.2.mem ((c.tc : Thread Cert.FinalLn.nD Cert.FinalLn.τ).loc Cert.FinalLn.main_arg0) = m ((c.tc : Thread Cert.FinalLn.nD Cert.FinalLn.τ).loc Cert.FinalLn.main_arg0)
      ∧ r.2.mem ((c.tc : Thread Cert.FinalLn.nD Cert.FinalLn.τ).loc Cert.FinalLn.main_arg1) = m ((c.tc : Thread Cert.FinalLn.nD Cert.FinalLn.τ).loc Cert.FinalLn.main_arg1)
      ∧ r.2.mem ((c.tc : Thread Cert.FinalLn.nD Cert.FinalLn.τ).loc Cert.FinalLn.main_arg2) = m ((c.tc : Thread Cert.FinalLn.nD Cert.FinalLn.τ).loc Cert.FinalLn.main_arg2)
      ∧ r.2.mem ((c.tc : Thread Cert.FinalLn.nD Cert.FinalLn.τ).loc Cert.FinalLn.main_arg3) = m ((c.tc : Thread Cert.FinalLn.nD Cert.FinalLn.τ).loc Cert.FinalLn.main_arg3)
      ∧ r.2.mem ((c.tc : Thread Cert.FinalLn.nD Cert.FinalLn.τ).loc Cert.FinalLn.main_arg4) = m ((c.tc : Thread Cert.FinalLn.nD Cert.FinalLn.τ).loc Cert.FinalLn.main_arg4))
      ∧ r.2.sem = fun _ => 0)

def quiescent_FinalLnIdeal [hFinalLnIdeal : Cert.FinalLnIdeal.Facts] : Prop :=
  ∀ (m : (ℓ : Loc Cert.FinalLnIdeal.nD Cert.FinalLnIdeal.τ Cert.FinalLnIdeal.sig) → Buf (Elt Ideal) ℓ) (g : Dev Cert.FinalLnIdeal.nD → PrngReg), Pre_FinalLnIdeal m →
    θ_run (Cert.FinalLnIdeal.defs (F := Ideal)) (onTc (τ := Cert.FinalLnIdeal.τ) (Cert.FinalLnIdeal.main (F := Ideal))) ⟨m, fun _ => 0, g⟩ (fun r => (∀ c : Dev Cert.FinalLnIdeal.nD,
      r.2.mem ((c.tc : Thread Cert.FinalLnIdeal.nD Cert.FinalLnIdeal.τ).loc Cert.FinalLnIdeal.main_arg0) = m ((c.tc : Thread Cert.FinalLnIdeal.nD Cert.FinalLnIdeal.τ).loc Cert.FinalLnIdeal.main_arg0)
      ∧ r.2.mem ((c.tc : Thread Cert.FinalLnIdeal.nD Cert.FinalLnIdeal.τ).loc Cert.FinalLnIdeal.main_arg1) = m ((c.tc : Thread Cert.FinalLnIdeal.nD Cert.FinalLnIdeal.τ).loc Cert.FinalLnIdeal.main_arg1)
      ∧ r.2.mem ((c.tc : Thread Cert.FinalLnIdeal.nD Cert.FinalLnIdeal.τ).loc Cert.FinalLnIdeal.main_arg2) = m ((c.tc : Thread Cert.FinalLnIdeal.nD Cert.FinalLnIdeal.τ).loc Cert.FinalLnIdeal.main_arg2)
      ∧ r.2.mem ((c.tc : Thread Cert.FinalLnIdeal.nD Cert.FinalLnIdeal.τ).loc Cert.FinalLnIdeal.main_arg3) = m ((c.tc : Thread Cert.FinalLnIdeal.nD Cert.FinalLnIdeal.τ).loc Cert.FinalLnIdeal.main_arg3)
      ∧ r.2.mem ((c.tc : Thread Cert.FinalLnIdeal.nD Cert.FinalLnIdeal.τ).loc Cert.FinalLnIdeal.main_arg4) = m ((c.tc : Thread Cert.FinalLnIdeal.nD Cert.FinalLnIdeal.τ).loc Cert.FinalLnIdeal.main_arg4))
      ∧ r.2.sem = fun _ => 0)

def quiescent_FinalLnRefIdeal [hFinalLnRefIdeal : Cert.FinalLnRefIdeal.Facts] : Prop :=
  ∀ (m : (ℓ : Loc Cert.FinalLnRefIdeal.nD Cert.FinalLnRefIdeal.τ Cert.FinalLnRefIdeal.sig) → Buf (Elt Ideal) ℓ) (g : Dev Cert.FinalLnRefIdeal.nD → PrngReg), Pre_FinalLnRefIdeal m →
    θ_run (Cert.FinalLnRefIdeal.defs (F := Ideal)) (onTc (τ := Cert.FinalLnRefIdeal.τ) (Cert.FinalLnRefIdeal.main (F := Ideal))) ⟨m, fun _ => 0, g⟩ (fun r => (∀ c : Dev Cert.FinalLnRefIdeal.nD,
      r.2.mem ((c.tc : Thread Cert.FinalLnRefIdeal.nD Cert.FinalLnRefIdeal.τ).loc Cert.FinalLnRefIdeal.main_arg0) = m ((c.tc : Thread Cert.FinalLnRefIdeal.nD Cert.FinalLnRefIdeal.τ).loc Cert.FinalLnRefIdeal.main_arg0)
      ∧ r.2.mem ((c.tc : Thread Cert.FinalLnRefIdeal.nD Cert.FinalLnRefIdeal.τ).loc Cert.FinalLnRefIdeal.main_arg1) = m ((c.tc : Thread Cert.FinalLnRefIdeal.nD Cert.FinalLnRefIdeal.τ).loc Cert.FinalLnRefIdeal.main_arg1)
      ∧ r.2.mem ((c.tc : Thread Cert.FinalLnRefIdeal.nD Cert.FinalLnRefIdeal.τ).loc Cert.FinalLnRefIdeal.main_arg2) = m ((c.tc : Thread Cert.FinalLnRefIdeal.nD Cert.FinalLnRefIdeal.τ).loc Cert.FinalLnRefIdeal.main_arg2)
      ∧ r.2.mem ((c.tc : Thread Cert.FinalLnRefIdeal.nD Cert.FinalLnRefIdeal.τ).loc Cert.FinalLnRefIdeal.main_arg3) = m ((c.tc : Thread Cert.FinalLnRefIdeal.nD Cert.FinalLnRefIdeal.τ).loc Cert.FinalLnRefIdeal.main_arg3)
      ∧ r.2.mem ((c.tc : Thread Cert.FinalLnRefIdeal.nD Cert.FinalLnRefIdeal.τ).loc Cert.FinalLnRefIdeal.main_arg4) = m ((c.tc : Thread Cert.FinalLnRefIdeal.nD Cert.FinalLnRefIdeal.τ).loc Cert.FinalLnRefIdeal.main_arg4))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_GateSums [hGateSums : Cert.GateSums.Facts] : Prop :=
  ∀ (m : (ℓ : Loc Cert.GateSums.nD Cert.GateSums.τ Cert.GateSums.sig) → Buf (Elt Bits) ℓ) (g : Dev Cert.GateSums.nD → PrngReg), Pre_GateSums m →
    θ_run (Cert.GateSums.defs (F := Bits)) (onTc (τ := Cert.GateSums.τ) (Cert.GateSums.main (F := Bits))) ⟨m, fun _ => 0, g⟩ (fun r => (∀ c : Dev Cert.GateSums.nD,
      r.2.mem ((c.tc : Thread Cert.GateSums.nD Cert.GateSums.τ).loc Cert.GateSums.main_arg0) = m ((c.tc : Thread Cert.GateSums.nD Cert.GateSums.τ).loc Cert.GateSums.main_arg0))
      ∧ r.2.sem = fun _ => 0)

def quiescent_GateSumsIdeal [hGateSumsIdeal : Cert.GateSumsIdeal.Facts] : Prop :=
  ∀ (m : (ℓ : Loc Cert.GateSumsIdeal.nD Cert.GateSumsIdeal.τ Cert.GateSumsIdeal.sig) → Buf (Elt Ideal) ℓ) (g : Dev Cert.GateSumsIdeal.nD → PrngReg), Pre_GateSumsIdeal m →
    θ_run (Cert.GateSumsIdeal.defs (F := Ideal)) (onTc (τ := Cert.GateSumsIdeal.τ) (Cert.GateSumsIdeal.main (F := Ideal))) ⟨m, fun _ => 0, g⟩ (fun r => (∀ c : Dev Cert.GateSumsIdeal.nD,
      r.2.mem ((c.tc : Thread Cert.GateSumsIdeal.nD Cert.GateSumsIdeal.τ).loc Cert.GateSumsIdeal.main_arg0) = m ((c.tc : Thread Cert.GateSumsIdeal.nD Cert.GateSumsIdeal.τ).loc Cert.GateSumsIdeal.main_arg0))
      ∧ r.2.sem = fun _ => 0)

def quiescent_GateSumsRefIdeal [hGateSumsRefIdeal : Cert.GateSumsRefIdeal.Facts] : Prop :=
  ∀ (m : (ℓ : Loc Cert.GateSumsRefIdeal.nD Cert.GateSumsRefIdeal.τ Cert.GateSumsRefIdeal.sig) → Buf (Elt Ideal) ℓ) (g : Dev Cert.GateSumsRefIdeal.nD → PrngReg), Pre_GateSumsRefIdeal m →
    θ_run (Cert.GateSumsRefIdeal.defs (F := Ideal)) (onTc (τ := Cert.GateSumsRefIdeal.τ) (Cert.GateSumsRefIdeal.main (F := Ideal))) ⟨m, fun _ => 0, g⟩ (fun r => (∀ c : Dev Cert.GateSumsRefIdeal.nD,
      r.2.mem ((c.tc : Thread Cert.GateSumsRefIdeal.nD Cert.GateSumsRefIdeal.τ).loc Cert.GateSumsRefIdeal.main_arg0) = m ((c.tc : Thread Cert.GateSumsRefIdeal.nD Cert.GateSumsRefIdeal.τ).loc Cert.GateSumsRefIdeal.main_arg0))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v1)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v1) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v36) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Diff_DiffIdeal : Prop :=
  IdealRules.named_const.Statement Cert.DiffIdeal.κ "mask" .f32 0xF149F2CA#32 ⊥

def algebraic_DiffIdeal_DiffRefIdeal_pre_finite2 [hDiffIdeal : Cert.DiffIdeal.Facts] [hDiffRefIdeal : Cert.DiffRefIdeal.Facts] [hPre_finite2 : Cert.Pre_finite2.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite2 m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)
      ∧ m' ((c.tc : Thread Cert.DiffRefIdeal.nD Cert.DiffRefIdeal.τ).loc Cert.DiffRefIdeal.main_arg7) = m ((c.tc : Thread Cert.DiffIdeal.nD Cert.DiffIdeal.τ).loc Cert.DiffIdeal.main_arg7)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v62) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7))

def preserves_DiffLate_DiffLateIdeal : Prop :=
  IdealRules.named_const.Statement Cert.DiffLateIdeal.κ "mask" .f32 0xF149F2CA#32 ⊥

def algebraic_DiffLateIdeal_DiffLateRefIdeal_pre_finite2 [hDiffLateIdeal : Cert.DiffLateIdeal.Facts] [hDiffLateRefIdeal : Cert.DiffLateRefIdeal.Facts] [hPre_finite2 : Cert.Pre_finite2.Facts] : Prop :=
  ∀ (m : (ℓ : Loc Cert.DiffLateIdeal.nD Cert.DiffLateIdeal.τ Cert.DiffLateIdeal.sig) → Buf (Elt Ideal) ℓ) (g : Dev Cert.DiffLateIdeal.nD → PrngReg)
    (m' : (ℓ : Loc Cert.DiffLateRefIdeal.nD Cert.DiffLateRefIdeal.τ Cert.DiffLateRefIdeal.sig) → Buf (Elt Ideal) ℓ) (g' : Dev Cert.DiffLateRefIdeal.nD → PrngReg), Pre_DiffLateIdeal_finite2 m →
    (∀ c : Dev Cert.DiffLateIdeal.nD,
      m' ((c.tc : Thread Cert.DiffLateRefIdeal.nD Cert.DiffLateRefIdeal.τ).loc Cert.DiffLateRefIdeal.main_arg0) = m ((c.tc : Thread Cert.DiffLateIdeal.nD Cert.DiffLateIdeal.τ).loc Cert.DiffLateIdeal.main_arg0)
      ∧ m' ((c.tc : Thread Cert.DiffLateRefIdeal.nD Cert.DiffLateRefIdeal.τ).loc Cert.DiffLateRefIdeal.main_arg1) = m ((c.tc : Thread Cert.DiffLateIdeal.nD Cert.DiffLateIdeal.τ).loc Cert.DiffLateIdeal.main_arg1)
      ∧ m' ((c.tc : Thread Cert.DiffLateRefIdeal.nD Cert.DiffLateRefIdeal.τ).loc Cert.DiffLateRefIdeal.main_arg2) = m ((c.tc : Thread Cert.DiffLateIdeal.nD Cert.DiffLateIdeal.τ).loc Cert.DiffLateIdeal.main_arg2)
      ∧ m' ((c.tc : Thread Cert.DiffLateRefIdeal.nD Cert.DiffLateRefIdeal.τ).loc Cert.DiffLateRefIdeal.main_arg3) = m ((c.tc : Thread Cert.DiffLateIdeal.nD Cert.DiffLateIdeal.τ).loc Cert.DiffLateIdeal.main_arg3)
      ∧ m' ((c.tc : Thread Cert.DiffLateRefIdeal.nD Cert.DiffLateRefIdeal.τ).loc Cert.DiffLateRefIdeal.main_arg4) = m ((c.tc : Thread Cert.DiffLateIdeal.nD Cert.DiffLateIdeal.τ).loc Cert.DiffLateIdeal.main_arg4)
      ∧ m' ((c.tc : Thread Cert.DiffLateRefIdeal.nD Cert.DiffLateRefIdeal.τ).loc Cert.DiffLateRefIdeal.main_arg5) = m ((c.tc : Thread Cert.DiffLateIdeal.nD Cert.DiffLateIdeal.τ).loc Cert.DiffLateIdeal.main_arg5)
      ∧ m' ((c.tc : Thread Cert.DiffLateRefIdeal.nD Cert.DiffLateRefIdeal.τ).loc Cert.DiffLateRefIdeal.main_arg6) = m ((c.tc : Thread Cert.DiffLateIdeal.nD Cert.DiffLateIdeal.τ).loc Cert.DiffLateIdeal.main_arg6)
      ∧ m' ((c.tc : Thread Cert.DiffLateRefIdeal.nD Cert.DiffLateRefIdeal.τ).loc Cert.DiffLateRefIdeal.main_arg7) = m ((c.tc : Thread Cert.DiffLateIdeal.nD Cert.DiffLateIdeal.τ).loc Cert.DiffLateIdeal.main_arg7)) →
    ∃ (v0 : (c : Dev Cert.DiffLateIdeal.nD) → Buf (Elt Ideal) ((c.tc : Thread Cert.DiffLateIdeal.nD Cert.DiffLateIdeal.τ).loc Cert.DiffLateIdeal.main_v0)),
      θ_run (Cert.DiffLateIdeal.defs (F := Ideal)) (onTc (τ := Cert.DiffLateIdeal.τ) (Cert.DiffLateIdeal.main (F := Ideal))) ⟨m, fun _ => 0, g⟩ (fun r => ∀ c : Dev Cert.DiffLateIdeal.nD,
          r.2.mem ((c.tc : Thread Cert.DiffLateIdeal.nD Cert.DiffLateIdeal.τ).loc Cert.DiffLateIdeal.main_v0) = v0 c
          ∧ r.2.mem ((c.tc : Thread Cert.DiffLateIdeal.nD Cert.DiffLateIdeal.τ).loc Cert.DiffLateIdeal.main_arg0) = m ((c.tc : Thread Cert.DiffLateIdeal.nD Cert.DiffLateIdeal.τ).loc Cert.DiffLateIdeal.main_arg0)
          ∧ r.2.mem ((c.tc : Thread Cert.DiffLateIdeal.nD Cert.DiffLateIdeal.τ).loc Cert.DiffLateIdeal.main_arg1) = m ((c.tc : Thread Cert.DiffLateIdeal.nD Cert.DiffLateIdeal.τ).loc Cert.DiffLateIdeal.main_arg1)
          ∧ r.2.mem ((c.tc : Thread Cert.DiffLateIdeal.nD Cert.DiffLateIdeal.τ).loc Cert.DiffLateIdeal.main_arg2) = m ((c.tc : Thread Cert.DiffLateIdeal.nD Cert.DiffLateIdeal.τ).loc Cert.DiffLateIdeal.main_arg2)
          ∧ r.2.mem ((c.tc : Thread Cert.DiffLateIdeal.nD Cert.DiffLateIdeal.τ).loc Cert.DiffLateIdeal.main_arg3) = m ((c.tc : Thread Cert.DiffLateIdeal.nD Cert.DiffLateIdeal.τ).loc Cert.DiffLateIdeal.main_arg3)
          ∧ r.2.mem ((c.tc : Thread Cert.DiffLateIdeal.nD Cert.DiffLateIdeal.τ).loc Cert.DiffLateIdeal.main_arg4) = m ((c.tc : Thread Cert.DiffLateIdeal.nD Cert.DiffLateIdeal.τ).loc Cert.DiffLateIdeal.main_arg4)
          ∧ r.2.mem ((c.tc : Thread Cert.DiffLateIdeal.nD Cert.DiffLateIdeal.τ).loc Cert.DiffLateIdeal.main_arg5) = m ((c.tc : Thread Cert.DiffLateIdeal.nD Cert.DiffLateIdeal.τ).loc Cert.DiffLateIdeal.main_arg5)
          ∧ r.2.mem ((c.tc : Thread Cert.DiffLateIdeal.nD Cert.DiffLateIdeal.τ).loc Cert.DiffLateIdeal.main_arg6) = m ((c.tc : Thread Cert.DiffLateIdeal.nD Cert.DiffLateIdeal.τ).loc Cert.DiffLateIdeal.main_arg6)
          ∧ r.2.mem ((c.tc : Thread Cert.DiffLateIdeal.nD Cert.DiffLateIdeal.τ).loc Cert.DiffLateIdeal.main_arg7) = m ((c.tc : Thread Cert.DiffLateIdeal.nD Cert.DiffLateIdeal.τ).loc Cert.DiffLateIdeal.main_arg7))
      ∧ θ_run (Cert.DiffLateRefIdeal.defs (F := Ideal)) (onTc (τ := Cert.DiffLateRefIdeal.τ) (Cert.DiffLateRefIdeal.main (F := Ideal))) ⟨m', fun _ => 0, g'⟩ (fun r => ∀ c : Dev Cert.DiffLateRefIdeal.nD,
          r.2.mem ((c.tc : Thread Cert.DiffLateRefIdeal.nD Cert.DiffLateRefIdeal.τ).loc Cert.DiffLateRefIdeal.main_v62) = v0 c
          ∧ r.2.mem ((c.tc : Thread Cert.DiffLateRefIdeal.nD Cert.DiffLateRefIdeal.τ).loc Cert.DiffLateRefIdeal.main_arg0) = m' ((c.tc : Thread Cert.DiffLateRefIdeal.nD Cert.DiffLateRefIdeal.τ).loc Cert.DiffLateRefIdeal.main_arg0)
          ∧ r.2.mem ((c.tc : Thread Cert.DiffLateRefIdeal.nD Cert.DiffLateRefIdeal.τ).loc Cert.DiffLateRefIdeal.main_arg1) = m' ((c.tc : Thread Cert.DiffLateRefIdeal.nD Cert.DiffLateRefIdeal.τ).loc Cert.DiffLateRefIdeal.main_arg1)
          ∧ r.2.mem ((c.tc : Thread Cert.DiffLateRefIdeal.nD Cert.DiffLateRefIdeal.τ).loc Cert.DiffLateRefIdeal.main_arg2) = m' ((c.tc : Thread Cert.DiffLateRefIdeal.nD Cert.DiffLateRefIdeal.τ).loc Cert.DiffLateRefIdeal.main_arg2)
          ∧ r.2.mem ((c.tc : Thread Cert.DiffLateRefIdeal.nD Cert.DiffLateRefIdeal.τ).loc Cert.DiffLateRefIdeal.main_arg3) = m' ((c.tc : Thread Cert.DiffLateRefIdeal.nD Cert.DiffLateRefIdeal.τ).loc Cert.DiffLateRefIdeal.main_arg3)
          ∧ r.2.mem ((c.tc : Thread Cert.DiffLateRefIdeal.nD Cert.DiffLateRefIdeal.τ).loc Cert.DiffLateRefIdeal.main_arg4) = m' ((c.tc : Thread Cert.DiffLateRefIdeal.nD Cert.DiffLateRefIdeal.τ).loc Cert.DiffLateRefIdeal.main_arg4)
          ∧ r.2.mem ((c.tc : Thread Cert.DiffLateRefIdeal.nD Cert.DiffLateRefIdeal.τ).loc Cert.DiffLateRefIdeal.main_arg5) = m' ((c.tc : Thread Cert.DiffLateRefIdeal.nD Cert.DiffLateRefIdeal.τ).loc Cert.DiffLateRefIdeal.main_arg5)
          ∧ r.2.mem ((c.tc : Thread Cert.DiffLateRefIdeal.nD Cert.DiffLateRefIdeal.τ).loc Cert.DiffLateRefIdeal.main_arg6) = m' ((c.tc : Thread Cert.DiffLateRefIdeal.nD Cert.DiffLateRefIdeal.τ).loc Cert.DiffLateRefIdeal.main_arg6)
          ∧ r.2.mem ((c.tc : Thread Cert.DiffLateRefIdeal.nD Cert.DiffLateRefIdeal.τ).loc Cert.DiffLateRefIdeal.main_arg7) = m' ((c.tc : Thread Cert.DiffLateRefIdeal.nD Cert.DiffLateRefIdeal.τ).loc Cert.DiffLateRefIdeal.main_arg7))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v0_0)) (v1 : (c : Dev Cert.OddInIdeal.nD) → Buf (Elt Ideal) ((c.tc : Thread Cert.OddInIdeal.nD Cert.OddInIdeal.τ).loc Cert.OddInIdeal.main_v0_1)) (v2 : (c : Dev Cert.OddInIdeal.nD) → Buf (Elt Ideal) ((c.tc : Thread Cert.OddInIdeal.nD Cert.OddInIdeal.τ).loc Cert.OddInIdeal.main_v0_2)) (v3 : (c : Dev Cert.OddInIdeal.nD) → Buf (Elt Ideal) ((c.tc : Thread Cert.OddInIdeal.nD Cert.OddInIdeal.τ).loc Cert.OddInIdeal.main_v0_3)) (v4 : (c : Dev Cert.OddInIdeal.nD) → Buf (Elt Ideal) ((c.tc : Thread Cert.OddInIdeal.nD Cert.OddInIdeal.τ).loc Cert.OddInIdeal.main_v0_4)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0_0) = v0 c
          ∧ r.2.mem ((c.tc : Thread Cert.OddInIdeal.nD Cert.OddInIdeal.τ).loc Cert.OddInIdeal.main_v0_1) = v1 c
          ∧ r.2.mem ((c.tc : Thread Cert.OddInIdeal.nD Cert.OddInIdeal.τ).loc Cert.OddInIdeal.main_v0_2) = v2 c
          ∧ r.2.mem ((c.tc : Thread Cert.OddInIdeal.nD Cert.OddInIdeal.τ).loc Cert.OddInIdeal.main_v0_3) = v3 c
          ∧ r.2.mem ((c.tc : Thread Cert.OddInIdeal.nD Cert.OddInIdeal.τ).loc Cert.OddInIdeal.main_v0_4) = v4 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v23) = v0 c
          ∧ r.2.mem ((c.tc : Thread Cert.OddInRefIdeal.nD Cert.OddInRefIdeal.τ).loc Cert.OddInRefIdeal.main_v24) = v1 c
          ∧ r.2.mem ((c.tc : Thread Cert.OddInRefIdeal.nD Cert.OddInRefIdeal.τ).loc Cert.OddInRefIdeal.main_v25) = v2 c
          ∧ r.2.mem ((c.tc : Thread Cert.OddInRefIdeal.nD Cert.OddInRefIdeal.τ).loc Cert.OddInRefIdeal.main_v21) = v3 c
          ∧ r.2.mem ((c.tc : Thread Cert.OddInRefIdeal.nD Cert.OddInRefIdeal.τ).loc Cert.OddInRefIdeal.main_v22) = v4 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v0_0)) (v1 : (c : Dev Cert.EvenInIdeal.nD) → Buf (Elt Ideal) ((c.tc : Thread Cert.EvenInIdeal.nD Cert.EvenInIdeal.τ).loc Cert.EvenInIdeal.main_v0_1)) (v2 : (c : Dev Cert.EvenInIdeal.nD) → Buf (Elt Ideal) ((c.tc : Thread Cert.EvenInIdeal.nD Cert.EvenInIdeal.τ).loc Cert.EvenInIdeal.main_v0_2)) (v3 : (c : Dev Cert.EvenInIdeal.nD) → Buf (Elt Ideal) ((c.tc : Thread Cert.EvenInIdeal.nD Cert.EvenInIdeal.τ).loc Cert.EvenInIdeal.main_v0_3)) (v4 : (c : Dev Cert.EvenInIdeal.nD) → Buf (Elt Ideal) ((c.tc : Thread Cert.EvenInIdeal.nD Cert.EvenInIdeal.τ).loc Cert.EvenInIdeal.main_v0_4)) (v5 : (c : Dev Cert.EvenInIdeal.nD) → Buf (Elt Ideal) ((c.tc : Thread Cert.EvenInIdeal.nD Cert.EvenInIdeal.τ).loc Cert.EvenInIdeal.main_v0_5)) (v6 : (c : Dev Cert.EvenInIdeal.nD) → Buf (Elt Ideal) ((c.tc : Thread Cert.EvenInIdeal.nD Cert.EvenInIdeal.τ).loc Cert.EvenInIdeal.main_v0_6)) (v7 : (c : Dev Cert.EvenInIdeal.nD) → Buf (Elt Ideal) ((c.tc : Thread Cert.EvenInIdeal.nD Cert.EvenInIdeal.τ).loc Cert.EvenInIdeal.main_v0_7)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v0_0) = v0 c
          ∧ r.2.mem ((c.tc : Thread Cert.EvenInIdeal.nD Cert.EvenInIdeal.τ).loc Cert.EvenInIdeal.main_v0_1) = v1 c
          ∧ r.2.mem ((c.tc : Thread Cert.EvenInIdeal.nD Cert.EvenInIdeal.τ).loc Cert.EvenInIdeal.main_v0_2) = v2 c
          ∧ r.2.mem ((c.tc : Thread Cert.EvenInIdeal.nD Cert.EvenInIdeal.τ).loc Cert.EvenInIdeal.main_v0_3) = v3 c
          ∧ r.2.mem ((c.tc : Thread Cert.EvenInIdeal.nD Cert.EvenInIdeal.τ).loc Cert.EvenInIdeal.main_v0_4) = v4 c
          ∧ r.2.mem ((c.tc : Thread Cert.EvenInIdeal.nD Cert.EvenInIdeal.τ).loc Cert.EvenInIdeal.main_v0_5) = v5 c
          ∧ r.2.mem ((c.tc : Thread Cert.EvenInIdeal.nD Cert.EvenInIdeal.τ).loc Cert.EvenInIdeal.main_v0_6) = v6 c
          ∧ r.2.mem ((c.tc : Thread Cert.EvenInIdeal.nD Cert.EvenInIdeal.τ).loc Cert.EvenInIdeal.main_v0_7) = v7 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v36) = v0 c
          ∧ r.2.mem ((c.tc : Thread Cert.EvenInRefIdeal.nD Cert.EvenInRefIdeal.τ).loc Cert.EvenInRefIdeal.main_v37) = v1 c
          ∧ r.2.mem ((c.tc : Thread Cert.EvenInRefIdeal.nD Cert.EvenInRefIdeal.τ).loc Cert.EvenInRefIdeal.main_v38) = v2 c
          ∧ r.2.mem ((c.tc : Thread Cert.EvenInRefIdeal.nD Cert.EvenInRefIdeal.τ).loc Cert.EvenInRefIdeal.main_v34) = v3 c
          ∧ r.2.mem ((c.tc : Thread Cert.EvenInRefIdeal.nD Cert.EvenInRefIdeal.τ).loc Cert.EvenInRefIdeal.main_v35) = v4 c
          ∧ r.2.mem ((c.tc : Thread Cert.EvenInRefIdeal.nD Cert.EvenInRefIdeal.τ).loc Cert.EvenInRefIdeal.main_v39) = v5 c
          ∧ r.2.mem ((c.tc : Thread Cert.EvenInRefIdeal.nD Cert.EvenInRefIdeal.τ).loc Cert.EvenInRefIdeal.main_v41) = v6 c
          ∧ r.2.mem ((c.tc : Thread Cert.EvenInRefIdeal.nD Cert.EvenInRefIdeal.τ).loc Cert.EvenInRefIdeal.main_v42) = v7 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4))

def preserves_OddOut_OddOutIdeal : Prop :=
  IdealRules.named_const.Statement Cert.OddOutIdeal.κ "alpha" .f32 0x3FD744FD#32 ((Real.sqrt (Real.sqrt 8) : ℝ) : EReal)

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v45) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5))

def preserves_EvenOut_EvenOutIdeal : Prop :=
  IdealRules.named_const.Statement Cert.EvenOutIdeal.κ "alpha" .f32 0x3FD744FD#32 ((Real.sqrt (Real.sqrt 8) : ℝ) : EReal)

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)) →
    ∃ (v0 : (c : Dev Cert.EvenOutIdeal.nD) → Buf (Elt Ideal) ((c.tc : Thread Cert.EvenOutIdeal.nD Cert.EvenOutIdeal.τ).loc Cert.EvenOutIdeal.main_v0)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v0) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v46) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6))

def preserves_Moe_MoeIdeal : Prop :=
  True

def algebraic_MoeIdeal_MoeRefIdeal [hMoeIdeal : Cert.MoeIdeal.Facts] [hMoeRefIdeal : Cert.MoeRefIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v51) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_FinalLn_FinalLnIdeal : Prop :=
  IdealRules.named_const.Statement Cert.FinalLnIdeal.κ "alpha" .f32 0x3FD744FD#32 ((Real.sqrt (Real.sqrt 8) : ℝ) : EReal)

def algebraic_FinalLnIdeal_FinalLnRefIdeal [hFinalLnIdeal : Cert.FinalLnIdeal.Facts] [hFinalLnRefIdeal : Cert.FinalLnRefIdeal.Facts] : Prop :=
  ∀ (m : (ℓ : Loc Cert.FinalLnIdeal.nD Cert.FinalLnIdeal.τ Cert.FinalLnIdeal.sig) → Buf (Elt Ideal) ℓ) (g : Dev Cert.FinalLnIdeal.nD → PrngReg)
    (m' : (ℓ : Loc Cert.FinalLnRefIdeal.nD Cert.FinalLnRefIdeal.τ Cert.FinalLnRefIdeal.sig) → Buf (Elt Ideal) ℓ) (g' : Dev Cert.FinalLnRefIdeal.nD → PrngReg), Pre_FinalLnIdeal m →
    (∀ c : Dev Cert.FinalLnIdeal.nD,
      m' ((c.tc : Thread Cert.FinalLnRefIdeal.nD Cert.FinalLnRefIdeal.τ).loc Cert.FinalLnRefIdeal.main_arg0) = m ((c.tc : Thread Cert.FinalLnIdeal.nD Cert.FinalLnIdeal.τ).loc Cert.FinalLnIdeal.main_arg0)
      ∧ m' ((c.tc : Thread Cert.FinalLnRefIdeal.nD Cert.FinalLnRefIdeal.τ).loc Cert.FinalLnRefIdeal.main_arg1) = m ((c.tc : Thread Cert.FinalLnIdeal.nD Cert.FinalLnIdeal.τ).loc Cert.FinalLnIdeal.main_arg1)
      ∧ m' ((c.tc : Thread Cert.FinalLnRefIdeal.nD Cert.FinalLnRefIdeal.τ).loc Cert.FinalLnRefIdeal.main_arg2) = m ((c.tc : Thread Cert.FinalLnIdeal.nD Cert.FinalLnIdeal.τ).loc Cert.FinalLnIdeal.main_arg2)
      ∧ m' ((c.tc : Thread Cert.FinalLnRefIdeal.nD Cert.FinalLnRefIdeal.τ).loc Cert.FinalLnRefIdeal.main_arg3) = m ((c.tc : Thread Cert.FinalLnIdeal.nD Cert.FinalLnIdeal.τ).loc Cert.FinalLnIdeal.main_arg3)
      ∧ m' ((c.tc : Thread Cert.FinalLnRefIdeal.nD Cert.FinalLnRefIdeal.τ).loc Cert.FinalLnRefIdeal.main_arg4) = m ((c.tc : Thread Cert.FinalLnIdeal.nD Cert.FinalLnIdeal.τ).loc Cert.FinalLnIdeal.main_arg4)) →
    ∃ (v0 : (c : Dev Cert.FinalLnIdeal.nD) → Buf (Elt Ideal) ((c.tc : Thread Cert.FinalLnIdeal.nD Cert.FinalLnIdeal.τ).loc Cert.FinalLnIdeal.main_v0)),
      θ_run (Cert.FinalLnIdeal.defs (F := Ideal)) (onTc (τ := Cert.FinalLnIdeal.τ) (Cert.FinalLnIdeal.main (F := Ideal))) ⟨m, fun _ => 0, g⟩ (fun r => ∀ c : Dev Cert.FinalLnIdeal.nD,
          r.2.mem ((c.tc : Thread Cert.FinalLnIdeal.nD Cert.FinalLnIdeal.τ).loc Cert.FinalLnIdeal.main_v0) = v0 c
          ∧ r.2.mem ((c.tc : Thread Cert.FinalLnIdeal.nD Cert.FinalLnIdeal.τ).loc Cert.FinalLnIdeal.main_arg0) = m ((c.tc : Thread Cert.FinalLnIdeal.nD Cert.FinalLnIdeal.τ).loc Cert.FinalLnIdeal.main_arg0)
          ∧ r.2.mem ((c.tc : Thread Cert.FinalLnIdeal.nD Cert.FinalLnIdeal.τ).loc Cert.FinalLnIdeal.main_arg1) = m ((c.tc : Thread Cert.FinalLnIdeal.nD Cert.FinalLnIdeal.τ).loc Cert.FinalLnIdeal.main_arg1)
          ∧ r.2.mem ((c.tc : Thread Cert.FinalLnIdeal.nD Cert.FinalLnIdeal.τ).loc Cert.FinalLnIdeal.main_arg2) = m ((c.tc : Thread Cert.FinalLnIdeal.nD Cert.FinalLnIdeal.τ).loc Cert.FinalLnIdeal.main_arg2)
          ∧ r.2.mem ((c.tc : Thread Cert.FinalLnIdeal.nD Cert.FinalLnIdeal.τ).loc Cert.FinalLnIdeal.main_arg3) = m ((c.tc : Thread Cert.FinalLnIdeal.nD Cert.FinalLnIdeal.τ).loc Cert.FinalLnIdeal.main_arg3)
          ∧ r.2.mem ((c.tc : Thread Cert.FinalLnIdeal.nD Cert.FinalLnIdeal.τ).loc Cert.FinalLnIdeal.main_arg4) = m ((c.tc : Thread Cert.FinalLnIdeal.nD Cert.FinalLnIdeal.τ).loc Cert.FinalLnIdeal.main_arg4))
      ∧ θ_run (Cert.FinalLnRefIdeal.defs (F := Ideal)) (onTc (τ := Cert.FinalLnRefIdeal.τ) (Cert.FinalLnRefIdeal.main (F := Ideal))) ⟨m', fun _ => 0, g'⟩ (fun r => ∀ c : Dev Cert.FinalLnRefIdeal.nD,
          r.2.mem ((c.tc : Thread Cert.FinalLnRefIdeal.nD Cert.FinalLnRefIdeal.τ).loc Cert.FinalLnRefIdeal.main_v43) = v0 c
          ∧ r.2.mem ((c.tc : Thread Cert.FinalLnRefIdeal.nD Cert.FinalLnRefIdeal.τ).loc Cert.FinalLnRefIdeal.main_arg0) = m' ((c.tc : Thread Cert.FinalLnRefIdeal.nD Cert.FinalLnRefIdeal.τ).loc Cert.FinalLnRefIdeal.main_arg0)
          ∧ r.2.mem ((c.tc : Thread Cert.FinalLnRefIdeal.nD Cert.FinalLnRefIdeal.τ).loc Cert.FinalLnRefIdeal.main_arg1) = m' ((c.tc : Thread Cert.FinalLnRefIdeal.nD Cert.FinalLnRefIdeal.τ).loc Cert.FinalLnRefIdeal.main_arg1)
          ∧ r.2.mem ((c.tc : Thread Cert.FinalLnRefIdeal.nD Cert.FinalLnRefIdeal.τ).loc Cert.FinalLnRefIdeal.main_arg2) = m' ((c.tc : Thread Cert.FinalLnRefIdeal.nD Cert.FinalLnRefIdeal.τ).loc Cert.FinalLnRefIdeal.main_arg2)
          ∧ r.2.mem ((c.tc : Thread Cert.FinalLnRefIdeal.nD Cert.FinalLnRefIdeal.τ).loc Cert.FinalLnRefIdeal.main_arg3) = m' ((c.tc : Thread Cert.FinalLnRefIdeal.nD Cert.FinalLnRefIdeal.τ).loc Cert.FinalLnRefIdeal.main_arg3)
          ∧ r.2.mem ((c.tc : Thread Cert.FinalLnRefIdeal.nD Cert.FinalLnRefIdeal.τ).loc Cert.FinalLnRefIdeal.main_arg4) = m' ((c.tc : Thread Cert.FinalLnRefIdeal.nD Cert.FinalLnRefIdeal.τ).loc Cert.FinalLnRefIdeal.main_arg4))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v5) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v23) = v0 c
          ∧ r.2.mem ((c.tc : Thread Cert.ConvRefIdeal.nD Cert.ConvRefIdeal.τ).loc Cert.ConvRefIdeal.main_v24) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_GateSums_GateSumsIdeal : Prop :=
  True

def algebraic_GateSumsIdeal_GateSumsRefIdeal [hGateSumsIdeal : Cert.GateSumsIdeal.Facts] [hGateSumsRefIdeal : Cert.GateSumsRefIdeal.Facts] : Prop :=
  ∀ (m : (ℓ : Loc Cert.GateSumsIdeal.nD Cert.GateSumsIdeal.τ Cert.GateSumsIdeal.sig) → Buf (Elt Ideal) ℓ) (g : Dev Cert.GateSumsIdeal.nD → PrngReg)
    (m' : (ℓ : Loc Cert.GateSumsRefIdeal.nD Cert.GateSumsRefIdeal.τ Cert.GateSumsRefIdeal.sig) → Buf (Elt Ideal) ℓ) (g' : Dev Cert.GateSumsRefIdeal.nD → PrngReg), Pre_GateSumsIdeal m →
    (∀ c : Dev Cert.GateSumsIdeal.nD,
      m' ((c.tc : Thread Cert.GateSumsRefIdeal.nD Cert.GateSumsRefIdeal.τ).loc Cert.GateSumsRefIdeal.main_arg0) = m ((c.tc : Thread Cert.GateSumsIdeal.nD Cert.GateSumsIdeal.τ).loc Cert.GateSumsIdeal.main_arg0)) →
    ∃ (v0 : (c : Dev Cert.GateSumsIdeal.nD) → Buf (Elt Ideal) ((c.tc : Thread Cert.GateSumsIdeal.nD Cert.GateSumsIdeal.τ).loc Cert.GateSumsIdeal.main_v0_0)) (v1 : (c : Dev Cert.GateSumsIdeal.nD) → Buf (Elt Ideal) ((c.tc : Thread Cert.GateSumsIdeal.nD Cert.GateSumsIdeal.τ).loc Cert.GateSumsIdeal.main_v0_1)) (v2 : (c : Dev Cert.GateSumsIdeal.nD) → Buf (Elt Ideal) ((c.tc : Thread Cert.GateSumsIdeal.nD Cert.GateSumsIdeal.τ).loc Cert.GateSumsIdeal.main_v0_2)),
      θ_run (Cert.GateSumsIdeal.defs (F := Ideal)) (onTc (τ := Cert.GateSumsIdeal.τ) (Cert.GateSumsIdeal.main (F := Ideal))) ⟨m, fun _ => 0, g⟩ (fun r => ∀ c : Dev Cert.GateSumsIdeal.nD,
          r.2.mem ((c.tc : Thread Cert.GateSumsIdeal.nD Cert.GateSumsIdeal.τ).loc Cert.GateSumsIdeal.main_v0_0) = v0 c
          ∧ r.2.mem ((c.tc : Thread Cert.GateSumsIdeal.nD Cert.GateSumsIdeal.τ).loc Cert.GateSumsIdeal.main_v0_1) = v1 c
          ∧ r.2.mem ((c.tc : Thread Cert.GateSumsIdeal.nD Cert.GateSumsIdeal.τ).loc Cert.GateSumsIdeal.main_v0_2) = v2 c
          ∧ r.2.mem ((c.tc : Thread Cert.GateSumsIdeal.nD Cert.GateSumsIdeal.τ).loc Cert.GateSumsIdeal.main_arg0) = m ((c.tc : Thread Cert.GateSumsIdeal.nD Cert.GateSumsIdeal.τ).loc Cert.GateSumsIdeal.main_arg0))
      ∧ θ_run (Cert.GateSumsRefIdeal.defs (F := Ideal)) (onTc (τ := Cert.GateSumsRefIdeal.τ) (Cert.GateSumsRefIdeal.main (F := Ideal))) ⟨m', fun _ => 0, g'⟩ (fun r => ∀ c : Dev Cert.GateSumsRefIdeal.nD,
          r.2.mem ((c.tc : Thread Cert.GateSumsRefIdeal.nD Cert.GateSumsRefIdeal.τ).loc Cert.GateSumsRefIdeal.main_v2) = v0 c
          ∧ r.2.mem ((c.tc : Thread Cert.GateSumsRefIdeal.nD Cert.GateSumsRefIdeal.τ).loc Cert.GateSumsRefIdeal.main_v3) = v1 c
          ∧ r.2.mem ((c.tc : Thread Cert.GateSumsRefIdeal.nD Cert.GateSumsRefIdeal.τ).loc Cert.GateSumsRefIdeal.main_v5) = v2 c
          ∧ r.2.mem ((c.tc : Thread Cert.GateSumsRefIdeal.nD Cert.GateSumsRefIdeal.τ).loc Cert.GateSumsRefIdeal.main_arg0) = m' ((c.tc : Thread Cert.GateSumsRefIdeal.nD Cert.GateSumsRefIdeal.τ).loc Cert.GateSumsRefIdeal.main_arg0))

def Claim : Prop :=
  ∃ (hFox : Cert.Fox.Facts) (hFoxIdeal : Cert.FoxIdeal.Facts) (hFoxRefIdeal : Cert.FoxRefIdeal.Facts) (hDiff : Cert.Diff.Facts) (hDiffIdeal : Cert.DiffIdeal.Facts) (hDiffRefIdeal : Cert.DiffRefIdeal.Facts) (hDiffLate : Cert.DiffLate.Facts) (hDiffLateIdeal : Cert.DiffLateIdeal.Facts) (hDiffLateRefIdeal : Cert.DiffLateRefIdeal.Facts) (hOddIn : Cert.OddIn.Facts) (hOddInIdeal : Cert.OddInIdeal.Facts) (hOddInRefIdeal : Cert.OddInRefIdeal.Facts) (hEvenIn : Cert.EvenIn.Facts) (hEvenInIdeal : Cert.EvenInIdeal.Facts) (hEvenInRefIdeal : Cert.EvenInRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts) (hMoe : Cert.Moe.Facts) (hMoeIdeal : Cert.MoeIdeal.Facts) (hMoeRefIdeal : Cert.MoeRefIdeal.Facts) (hFinalLn : Cert.FinalLn.Facts) (hFinalLnIdeal : Cert.FinalLnIdeal.Facts) (hFinalLnRefIdeal : Cert.FinalLnRefIdeal.Facts) (hAdaln : Cert.Adaln.Facts) (hAdalnIdeal : Cert.AdalnIdeal.Facts) (hAdalnRefIdeal : Cert.AdalnRefIdeal.Facts) (hConv : Cert.Conv.Facts) (hConvIdeal : Cert.ConvIdeal.Facts) (hConvRefIdeal : Cert.ConvRefIdeal.Facts) (hGateSums : Cert.GateSums.Facts) (hGateSumsIdeal : Cert.GateSumsIdeal.Facts) (hGateSumsRefIdeal : Cert.GateSumsRefIdeal.Facts) (hPre_finite : Cert.Pre_finite.Facts) (hPre_finite2 : Cert.Pre_finite2.Facts) (hPre_routed : Cert.Pre_routed.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Diff (hDiff := hDiff)
    ∧ quiescent_DiffIdeal (hDiffIdeal := hDiffIdeal)
    ∧ quiescent_DiffIdeal_pre_finite2 (hDiffIdeal := hDiffIdeal) (hPre_finite2 := hPre_finite2)
    ∧ quiescent_DiffRefIdeal (hDiffRefIdeal := hDiffRefIdeal)
    ∧ quiescent_DiffRefIdeal_pre_finite2 (hDiffRefIdeal := hDiffRefIdeal) (hPre_finite2 := hPre_finite2)
    ∧ quiescent_DiffLate (hDiffLate := hDiffLate)
    ∧ quiescent_DiffLateIdeal (hDiffLateIdeal := hDiffLateIdeal)
    ∧ quiescent_DiffLateIdeal_pre_finite2 (hDiffLateIdeal := hDiffLateIdeal) (hPre_finite2 := hPre_finite2)
    ∧ quiescent_DiffLateRefIdeal (hDiffLateRefIdeal := hDiffLateRefIdeal)
    ∧ quiescent_DiffLateRefIdeal_pre_finite2 (hDiffLateRefIdeal := hDiffLateRefIdeal) (hPre_finite2 := hPre_finite2)
    ∧ quiescent_OddIn (hOddIn := hOddIn)
    ∧ quiescent_OddInIdeal (hOddInIdeal := hOddInIdeal)
    ∧ quiescent_OddInRefIdeal (hOddInRefIdeal := hOddInRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_Moe (hMoe := hMoe) (hPre_routed := hPre_routed)
    ∧ quiescent_MoeIdeal (hMoeIdeal := hMoeIdeal) (hPre_routed := hPre_routed)
    ∧ quiescent_MoeRefIdeal (hMoeRefIdeal := hMoeRefIdeal)
    ∧ quiescent_MoeRefIdeal_pre_routed (hMoeRefIdeal := hMoeRefIdeal) (hPre_routed := hPre_routed)
    ∧ quiescent_FinalLn (hFinalLn := hFinalLn)
    ∧ quiescent_FinalLnIdeal (hFinalLnIdeal := hFinalLnIdeal)
    ∧ quiescent_FinalLnRefIdeal (hFinalLnRefIdeal := hFinalLnRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Conv (hConv := hConv)
    ∧ quiescent_ConvIdeal (hConvIdeal := hConvIdeal)
    ∧ quiescent_ConvRefIdeal (hConvRefIdeal := hConvRefIdeal)
    ∧ quiescent_GateSums (hGateSums := hGateSums)
    ∧ quiescent_GateSumsIdeal (hGateSumsIdeal := hGateSumsIdeal)
    ∧ quiescent_GateSumsRefIdeal (hGateSumsRefIdeal := hGateSumsRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Diff_DiffIdeal
    ∧ algebraic_DiffIdeal_DiffRefIdeal_pre_finite2 (hDiffIdeal := hDiffIdeal) (hDiffRefIdeal := hDiffRefIdeal) (hPre_finite2 := hPre_finite2)
    ∧ preserves_DiffLate_DiffLateIdeal
    ∧ algebraic_DiffLateIdeal_DiffLateRefIdeal_pre_finite2 (hDiffLateIdeal := hDiffLateIdeal) (hDiffLateRefIdeal := hDiffLateRefIdeal) (hPre_finite2 := hPre_finite2)
    ∧ preserves_OddIn_OddInIdeal
    ∧ algebraic_OddInIdeal_OddInRefIdeal (hOddInIdeal := hOddInIdeal) (hOddInRefIdeal := hOddInRefIdeal)
    ∧ preserves_EvenIn_EvenInIdeal
    ∧ algebraic_EvenInIdeal_EvenInRefIdeal (hEvenInIdeal := hEvenInIdeal) (hEvenInRefIdeal := hEvenInRefIdeal)
    ∧ preserves_OddOut_OddOutIdeal
    ∧ algebraic_OddOutIdeal_OddOutRefIdeal (hOddOutIdeal := hOddOutIdeal) (hOddOutRefIdeal := hOddOutRefIdeal)
    ∧ preserves_EvenOut_EvenOutIdeal
    ∧ algebraic_EvenOutIdeal_EvenOutRefIdeal (hEvenOutIdeal := hEvenOutIdeal) (hEvenOutRefIdeal := hEvenOutRefIdeal)
    ∧ preserves_Moe_MoeIdeal
    ∧ algebraic_MoeIdeal_MoeRefIdeal (hMoeIdeal := hMoeIdeal) (hMoeRefIdeal := hMoeRefIdeal) (hPre_routed := hPre_routed)
    ∧ preserves_FinalLn_FinalLnIdeal
    ∧ algebraic_FinalLnIdeal_FinalLnRefIdeal (hFinalLnIdeal := hFinalLnIdeal) (hFinalLnRefIdeal := hFinalLnRefIdeal)
    ∧ preserves_Adaln_AdalnIdeal
    ∧ algebraic_AdalnIdeal_AdalnRefIdeal (hAdalnIdeal := hAdalnIdeal) (hAdalnRefIdeal := hAdalnRefIdeal)
    ∧ preserves_Conv_ConvIdeal
    ∧ algebraic_ConvIdeal_ConvRefIdeal (hConvIdeal := hConvIdeal) (hConvRefIdeal := hConvRefIdeal)
    ∧ preserves_GateSums_GateSumsIdeal
    ∧ algebraic_GateSumsIdeal_GateSumsRefIdeal (hGateSumsIdeal := hGateSumsIdeal) (hGateSumsRefIdeal := hGateSumsRefIdeal)
-- ==== Pre_finite.lean ====
abbrev S16384x512 : Shape := ⟨2, ![16384, 512]⟩
abbrev S16384x128 : Shape := ⟨2, ![16384, 128]⟩
abbrev S2x8x8192 : Shape := ⟨3, ![2, 8, 8192]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S16384x128 : S_.BroadcastsInDim S16384x128 (![] : Fin 0 → Fin S16384x128.rank)
  bcast_S_S2x8x8192 : S_.BroadcastsInDim S2x8x8192 (![] : Fin 0 → Fin S2x8x8192.rank)

variable [Facts]

def fn {F : FTy → Type} [FloatOps F] (main_arg0 : FVec F S16384x512 .bf16) (main_arg1 : FVec F S16384x512 .bf16) (main_arg2 : FVec F S16384x512 .bf16) (main_arg3 : FVec F S16384x128 .f32) (main_arg4 : FVec F S2x8x8192 .f32) : IVec S16384x512 1 × IVec S16384x512 1 × IVec S16384x128 1 × IVec S2x8x8192 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : FVec F S16384x128 .f32 := Host.absf main_arg3
  let main_cst_1 : FVec F S_ .f32 := constant S_ .f32 0x7F800000#32
  let main_v9 : FVec F S16384x128 .f32 := broadcastInDim S16384x128 ![] bcast_S_S16384x128 main_cst_1
  let main_v10 : IVec S16384x128 1 := cmpf .olt main_v8 main_v9
  let main_v11 : FVec F S2x8x8192 .f32 := Host.absf main_arg4
  let main_cst_2 : FVec F S_ .f32 := constant S_ .f32 0x7F800000#32
  let main_v12 : FVec F S2x8x8192 .f32 := broadcastInDim S2x8x8192 ![] bcast_S_S2x8x8192 main_cst_2
  let main_v13 : IVec S2x8x8192 1 := cmpf .olt main_v11 main_v12
  (main_v3, main_v7, main_v10, main_v13)
-- ==== Pre_finite2.lean ====
abbrev S16384x1024 : Shape := ⟨2, ![16384, 1024]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S1x64 : S_.BroadcastsInDim S1x64 (![] : Fin 0 → Fin S1x64.rank)

variable [Facts]

def fn_part1 {F : FTy → Type} [FloatOps F] (main_arg6 : FVec F S1x64 .f32) (main_v3 : IVec S16384x1024 1) (main_v7 : IVec S16384x1024 1) (main_v11 : IVec S16384x1024 1) (main_v14 : IVec S1x64 1) (main_v17 : IVec S1x64 1) (main_v18 : FVec F S1x64 .f32) : IVec S16384x1024 1 × IVec S16384x1024 1 × IVec S16384x1024 1 × IVec S1x64 1 × IVec S1x64 1 × IVec S1x64 1 × IVec S1x64 1 :=
  let main_cst_4 : FVec F S_ .f32 := constant S_ .f32 0x7F800000#32
  let main_v19 : FVec F S1x64 .f32 := broadcastInDim S1x64 ![] bcast_S_S1x64 main_cst_4
  let main_v20 : IVec S1x64 1 := cmpf .olt main_v18 main_v19
  let main_v21 : FVec F S1x64 .f32 := Host.absf main_arg6
  let main_cst_5 : FVec F S_ .f32 := constant S_ .f32 0x7F800000#32
  let main_v22 : FVec F S1x64 .f32 := broadcastInDim S1x64 ![] bcast_S_S1x64 main_cst_5
  let main_v23 : IVec S1x64 1 := cmpf .olt main_v21 main_v22
  (main_v3, main_v7, main_v11, main_v14, main_v17, main_v20, main_v23)

def fn {F : FTy → Type} [FloatOps F] (main_arg0 : FVec F S16384x1024 .bf16) (main_arg1 : FVec F S16384x1024 .bf16) (main_arg2 : FVec F S16384x1024 .bf16) (main_arg3 : FVec F S1x64 .f32) (main_arg4 : FVec F S1x64 .f32) (main_arg5 : FVec F S1x64 .f32) (main_arg6 : FVec F S1x64 .f32) (main_arg7 : FVec F S1x128 .f32) : IVec S16384x1024 1 × IVec S16384x1024 1 × IVec S16384x1024 1 × IVec S1x64 1 × IVec S1x64 1 × IVec S1x64 1 × IVec S1x64 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : FVec F S16384x1024 .f32 := (extf .f32 · bitsLt_bf16_f32) main_arg2
  let main_v9 : FVec F S16384x1024 .f32 := Host.absf main_v8
  let main_cst_1 : FVec F S_ .f32 := constant S_ .f32 0x7F800000#32
  let main_v10 : FVec F S16384x1024 .f32 := broadcastInDim S16384x1024 ![] bcast_S_S16384x1024 main_cst_1
  let main_v11 : IVec S16384x1024 1 := cmpf .olt main_v9 main_v10
  let main_v12 : FVec F S1x64 .f32 := Host.absf main_arg3
  let main_cst_2 : FVec F S_ .f32 := constant S_ .f32 0x7F800000#32
  let main_v13 : FVec F S1x64 .f32 := broadcastInDim S1x64 ![] bcast_S_S1x64 main_cst_2
  let main_v14 : IVec S1x64 1 := cmpf .olt main_v12 main_v13
  let main_v15 : FVec F S1x64 .f32 := Host.absf main_arg4
  let main_cst_3 : FVec F S_ .f32 := constant S_ .f32 0x7F800000#32
  let main_v16 : FVec F S1x64 .f32 := broadcastInDim S1x64 ![] bcast_S_S1x64 main_cst_3
  let main_v17 : IVec S1x64 1 := cmpf .olt main_v15 main_v16
  let main_v18 : FVec F S1x64 .f32 := Host.absf main_arg5
  fn_part1 (F := F) main_arg6 main_v3 main_v7 main_v11 main_v14 main_v17 main_v18
-- ==== Pre_routed.lean ====
abbrev S16384x1152 : Shape := ⟨2, ![16384, 1152]⟩
abbrev S17408 : Shape := ⟨1, ![17408]⟩
abbrev S68 : Shape := ⟨1, ![68]⟩
abbrev S4x4x8x1024x256 : Shape := ⟨5, ![4, 4, 8, 1024, 256]⟩
abbrev S4x4x8x256x1024 : Shape := ⟨5, ![4, 4, 8, 256, 1024]⟩
abbrev S_ : Shape := ⟨0, ![]⟩
abbrev S256 : Shape := ⟨1, ![256]⟩
abbrev S1x256 : Shape := ⟨2, ![1, 256]⟩
abbrev S68x1 : Shape := ⟨2, ![68, 1]⟩
abbrev S68x256 : Shape := ⟨2, ![68, 256]⟩
abbrev S68x256x1 : Shape := ⟨3, ![68, 256, 1]⟩
abbrev S16384 : Shape := ⟨1, ![16384]⟩
abbrev S1x1x16384 : Shape := ⟨3, ![1, 1, 16384]⟩
abbrev S68x256x16384 : Shape := ⟨3, ![68, 256, 16384]⟩

class Facts : Prop where
  bcast_S_S17408 : S_.BroadcastsInDim S17408 (![] : Fin 0 → Fin S17408.rank)
  bcast_S_S68 : S_.BroadcastsInDim S68 (![] : Fin 0 → Fin S68.rank)
  bcast_S256_S1x256_1 : S256.BroadcastsInDim S1x256 (![1] : Fin 1 → Fin S1x256.rank)
  bcast_S68_S68x1_0 : S68.BroadcastsInDim S68x1 (![0] : Fin 1 → Fin S68x1.rank)
  bcast_S1x256_S68x256_0_1 : S1x256.BroadcastsInDim S68x256 (![0, 1] : Fin 2 → Fin S68x256.rank)
  bcast_S68x1_S68x256_0_1 : S68x1.BroadcastsInDim S68x256 (![0, 1] : Fin 2 → Fin S68x256.rank)
  shapeCasts_S17408_S68x256 : S17408.ShapeCasts S68x256
  bcast_S68x256_S68x256x1_0_1 : S68x256.BroadcastsInDim S68x256x1 (![0, 1] : Fin 2 → Fin S68x256x1.rank)
  bcast_S16384_S1x1x16384_2 : S16384.BroadcastsInDim S1x1x16384 (![2] : Fin 1 → Fin S1x1x16384.rank)
  bcast_S68x256x1_S68x256x16384_0_1_2 : S68x256x1.BroadcastsInDim S68x256x16384 (![0, 1, 2] : Fin 3 → Fin S68x256x16384.rank)
  bcast_S1x1x16384_S68x256x16384_0_1_2 : S1x1x16384.BroadcastsInDim S68x256x16384 (![0, 1, 2] : Fin 3 → Fin S68x256x16384.rank)
  natLt_1_32 : 1 < 32
  reducesTo_S68x256x16384_S16384_d0_1 : S68x256x16384.ReducesTo [0, 1] S16384
  h_S_ : 0 < S_.numel
  bcast_S_S16384 : S_.BroadcastsInDim S16384 (![] : Fin 0 → Fin S16384.rank)

variable [Facts]

def fn_part1 {F : FTy → Type} [FloatOps F] (main_arg1 : IVec S17408 32) (main_v4 : IVec S17408 1) (main_v9 : IVec S68 1) (main_v14 : IVec S68 1) (main_v16 : IVec S1x256 32) (main_v17 : IVec S68x1 32) : IVec S17408 1 × IVec S68 1 × IVec S68 1 × IVec S16384 1 :=
  let main_v18 : IVec S68x256 32 := broadcastInDim S68x256 ![0, 1] bcast_S1x256_S68x256_0_1 main_v16
  let main_v19 : IVec S68x256 32 := broadcastInDim S68x256 ![0, 1] bcast_S68x1_S68x256_0_1 main_v17
  let main_v20 : IVec S68x256 1 := cmpi .slt main_v18 main_v19
  let main_v21 : IVec S68x256 32 := shapeCast S68x256 main_arg1 shapeCasts_S17408_S68x256
  let main_v22 : IVec S68x256x1 32 := broadcastInDim S68x256x1 ![0, 1] bcast_S68x256_S68x256x1_0_1 main_v21
  let main_v23 : IVec S16384 32 := iotaInDim S16384 32 0
  let main_v24 : IVec S1x1x16384 32 := broadcastInDim S1x1x16384 ![2] bcast_S16384_S1x1x16384_2 main_v23
  let main_v25 : IVec S68x256x16384 32 := broadcastInDim S68x256x16384 ![0, 1, 2] bcast_S68x256x1_S68x256x16384_0_1_2 main_v22
  let main_v26 : IVec S68x256x16384 32 := broadcastInDim S68x256x16384 ![0, 1, 2] bcast_S1x1x16384_S68x256x16384_0_1_2 main_v24
  let main_v27 : IVec S68x256x16384 1 := cmpi .eq main_v25 main_v26
  let main_v28 : IVec S68x256x1 1 := broadcastInDim S68x256x1 ![0, 1] bcast_S68x256_S68x256x1_0_1 main_v20
  let main_v29 : IVec S68x256x16384 1 := broadcastInDim S68x256x16384 ![0, 1, 2] bcast_S68x256x1_S68x256x16384_0_1_2 main_v28
  let main_v30 : IVec S68x256x16384 1 := andi main_v27 main_v29
  let main_v31 : IVec S68x256x16384 32 := (extui 32 · natLt_1_32) main_v30
  let main_c_5 : IVec S_ 32 := constantI S_ 32 0#32
  let main_v32 : IVec S16384 32 := (fun x v => Host.reduce IntOp.addi x v reducesTo_S68x256x16384_S16384_d0_1 h_S_) main_v31 main_c_5
  let main_c_6 : IVec S_ 32 := constantI S_ 32 1#32
  let main_v33 : IVec S16384 32 := broadcastInDim S16384 ![] bcast_S_S16384 main_c_6
  let main_v34 : IVec S16384 1 := cmpi .eq main_v32 main_v33
  (main_v4, main_v9, main_v14, main_v34)

def fn {F : FTy → Type} [FloatOps F] (main_arg0 : FVec F S16384x1152 .f32) (main_arg1 : IVec S17408 32) (main_arg2 : IVec S68 32) (main_arg3 : IVec S68 32) (main_arg4 : FVec F S4x4x8x1024x256 .bf16) (main_arg5 : FVec F S4x4x8x1024x256 .bf16) (main_arg6 : FVec F S4x4x8x256x1024 .bf16) : IVec S17408 1 × IVec S68 1 × IVec S68 1 × IVec S16384 1 :=
  let main_c : IVec S_ 32 := constantI S_ 32 0#32
  let main_v0 : IVec S17408 32 := broadcastInDim S17408 ![] bcast_S_S17408 main_c
  let main_v1 : IVec S17408 1 := cmpi .sge main_arg1 main_v0
  let main_c_0 : IVec S_ 32 := constantI S_ 32 16384#32
  let main_v2 : IVec S17408 32 := broadcastInDim S17408 ![] bcast_S_S17408 main_c_0
  let main_v3 : IVec S17408 1 := cmpi .slt main_arg1 main_v2
  let main_v4 : IVec S17408 1 := andi main_v1 main_v3
  let main_c_1 : IVec S_ 32 := constantI S_ 32 0#32
  let main_v5 : IVec S68 32 := broadcastInDim S68 ![] bcast_S_S68 main_c_1
  let main_v6 : IVec S68 1 := cmpi .sge main_arg2 main_v5
  let main_c_2 : IVec S_ 32 := constantI S_ 32 4#32
  let main_v7 : IVec S68 32 := broadcastInDim S68 ![] bcast_S_S68 main_c_2
  let main_v8 : IVec S68 1 := cmpi .slt main_arg2 main_v7
  let main_v9 : IVec S68 1 := andi main_v6 main_v8
  let main_c_3 : IVec S_ 32 := constantI S_ 32 0#32
  let main_v10 : IVec S68 32 := broadcastInDim S68 ![] bcast_S_S68 main_c_3
  let main_v11 : IVec S68 1 := cmpi .sge main_arg3 main_v10
  let main_c_4 : IVec S_ 32 := constantI S_ 32 256#32
  let main_v12 : IVec S68 32 := broadcastInDim S68 ![] bcast_S_S68 main_c_4
  let main_v13 : IVec S68 1 := cmpi .sle main_arg3 main_v12
  let main_v14 : IVec S68 1 := andi main_v11 main_v13
  let main_v15 : IVec S256 32 := iotaInDim S256 32 0
  let main_v16 : IVec S1x256 32 := broadcastInDim S1x256 ![1] bcast_S256_S1x256_1 main_v15
  let main_v17 : IVec S68x1 32 := broadcastInDim S68x1 ![0] bcast_S68_S68x1_0 main_arg3
  fn_part1 (F := F) main_arg1 main_v4 main_v9 main_v14 main_v16 main_v17
-- ==== Fox.lean ====
abbrev S16384x512 : Shape := ⟨2, ![16384, 512]⟩
abbrev S16384x128 : Shape := ⟨2, ![16384, 128]⟩
abbrev S2x8x8192 : Shape := ⟨3, ![2, 8, 8192]⟩
abbrev S2x4x2x8192 : Shape := ⟨4, ![2, 4, 2, 8192]⟩
abbrev S512x128 : Shape := ⟨2, ![512, 128]⟩
abbrev S8192x128 : Shape := ⟨2, ![8192, 128]⟩
abbrev S1x1x2x8192 : Shape := ⟨4, ![1, 1, 2, 8192]⟩
abbrev S512 : Shape := ⟨1, ![512]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x128, .f32⟩
  | .hbm, ⟨4, _⟩ => ⟨S2x8x8192, .f32⟩
  | .hbm, ⟨5, _⟩ => ⟨S2x4x2x8192, .f32⟩
  | .hbm, ⟨6, _⟩ => ⟨S16384x512, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S1x1x2x8192, .f32⟩
  | .local _ .vmem, ⟨9, _⟩ => ⟨S1x1x2x8192, .f32⟩
  | .local _ .vmem, ⟨10, _⟩ => ⟨S512x128, .f32⟩
  | .local _ .vmem, ⟨11, _⟩ => ⟨S512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32 : BitVec 32 := 0#32
  let arg2 : BitVec 32 := BitVec.ofNat 32 (i 2).val
  let v26 : BitVec 32 := Scalar.subi arg2 c0_i32
  let c1_i32_11 : BitVec 32 := 1#32
  let v28 : BitVec 32 := Scalar.divsi v26 c1_i32_11
  let v29 : BitVec 32 := Scalar.muli v28 c1_i32_11
  let v30 : BitVec 32 := Scalar.addi c0_i32 v29
  let c1_i32_12 : BitVec 32 := 1#32
  ⟨c0_i32, v30, c1_i32_12⟩
def k0_mult1 (i : grid0.Coords) (k0_t1 : Fin (k0_t1_loop i).trips) : BitVec 32 :=
  let c0_i32 : BitVec 32 := 0#32
  let c1_i32_12 : BitVec 32 := 1#32
  let arg9 : BitVec 32 := Scf.iv c0_i32 c1_i32_12 k0_t1
  let c512_i32_33 : BitVec 32 := 512#32
  let v102 : BitVec 32 := Scalar.muli arg9 c512_i32_33
  v102
def k0_off1 (i : grid0.Coords) (k0_t1 : Fin (k0_t1_loop i).trips) : Fin 2 → Nat :=
  let c0_i32 : BitVec 32 := 0#32
  let c1_i32_12 : BitVec 32 := 1#32
  let arg9 : BitVec 32 := Scf.iv c0_i32 c1_i32_12 k0_t1
  let c512_i32_33 : BitVec 32 := 512#32
  let v102 : BitVec 32 := Scalar.muli arg9 c512_i32_33
  let v103 : BitVec 32 := v102
  let v104 : Index := Scalar.indexCast v103
  let c0_34 : Index := 0#32
  ![v104.toNat, 0]
def k0_off2 (i : grid0.Coords) (k0_t1 : Fin (k0_t1_loop i).trips) : Fin 4 → Nat :=
  let c0_38 : Index := 0#32
  let c0_39 : Index := 0#32
  let c0_40 : Index := 0#32
  let c0_i32 : BitVec 32 := 0#32
  let c1_i32_12 : BitVec 32 := 1#32
  let arg9 : BitVec 32 := Scf.iv c0_i32 c1_i32_12 k0_t1
  let c512_i32_33 : BitVec 32 := 512#32
  let v102 : BitVec 32 := Scalar.muli arg9 c512_i32_33
  let v103 : BitVec 32 := v102
  let v112 : Index := Scalar.indexCast v103
  ![0, 0, 0, v112.toNat]
def k0_off3 (i : grid0.Coords) (k0_t1 : Fin (k0_t1_loop i).trips) : Fin 4 → Nat :=
  let c0_41 : Index := 0#32
  let c0_42 : Index := 0#32
  let c1_43 : Index := 1#32
  let c0_i32 : BitVec 32 := 0#32
  let c1_i32_12 : BitVec 32 := 1#32
  let arg9 : BitVec 32 := Scf.iv c0_i32 c1_i32_12 k0_t1
  let c512_i32_33 : BitVec 32 := 512#32
  let v102 : BitVec 32 := Scalar.muli arg9 c512_i32_33
  let v103 : BitVec 32 := v102
  let v119 : Index := Scalar.indexCast v103
  ![0, 0, 1, v119.toNat]
@[reducible] def k0_t2_loop (i : grid0.Coords) : Scf.Loop 32 :=
  let c0_i32 : BitVec 32 := 0#32
  let arg2 : BitVec 32 := BitVec.ofNat 32 (i 2).val
  let v26 : BitVec 32 := Scalar.subi arg2 c0_i32
  let c1_i32_11 : BitVec 32 := 1#32
  let v28 : BitVec 32 := Scalar.divsi v26 c1_i32_11
  let v29 : BitVec 32 := Scalar.muli v28 c1_i32_11
  let v30 : BitVec 32 := Scalar.addi c0_i32 v29
  let v27 : BitVec 32 := Scalar.addi c0_i32 v26
  let c1_i32_13 : BitVec 32 := 1#32
  ⟨v30, v27, c1_i32_13⟩
def k0_mult2 (i : grid0.Coords) (k0_t2 : Fin (k0_t2_loop i).trips) : BitVec 32 :=
  let c0_i32 : BitVec 32 := 0#32
  let arg2 : BitVec 32 := BitVec.ofNat 32 (i 2).val
  let v26 : BitVec 32 := Scalar.subi arg2 c0_i32
  let c1_i32_11 : BitVec 32 := 1#32
  let v28 : BitVec 32 := Scalar.divsi v26 c1_i32_11
  let v29 : BitVec 32 := Scalar.muli v28 c1_i32_11
  let v30 : BitVec 32 := Scalar.addi c0_i32 v29
  let c1_i32_13 : BitVec 32 := 1#32
  let arg9 : BitVec 32 := Scf.iv v30 c1_i32_13 k0_t2
  let c512_i32_33 : BitVec 32 := 512#32
  let v102 : BitVec 32 := Scalar.muli arg9 c512_i32_33
  v102
def k0_off4 (i : grid0.Coords) (k0_t2 : Fin (k0_t2_loop i).trips) : Fin 2 → Nat :=
  let c0_i32 : BitVec 32 := 0#32
  let arg2 : BitVec 32 := BitVec.ofNat 32 (i 2).val
  let v26 : BitVec 32 := Scalar.subi arg2 c0_i32
  let c1_i32_11 : BitVec 32 := 1#32
  let v28 : BitVec 32 := Scalar.divsi v26 c1_i32_11
  let v29 : BitVec 32 := Scalar.muli v28 c1_i32_11
  let v30 : BitVec 32 := Scalar.addi c0_i32 v29
  let c1_i32_13 : BitVec 32 := 1#32
  let arg9 : BitVec 32 := Scf.iv v30 c1_i32_13 k0_t2
  let c512_i32_33 : BitVec 32 := 512#32
  let v102 : BitVec 32 := Scalar.muli arg9 c512_i32_33
  let v103 : BitVec 32 := v102
  let v104 : Index := Scalar.indexCast v103
  let c0_34 : Index := 0#32
  ![v104.toNat, 0]
def k0_off5 (i : grid0.Coords) (k0_t2 : Fin (k0_t2_loop i).trips) : Fin 4 → Nat :=
  let c0_38 : Index := 0#32
  let c0_39 : Index := 0#32
  let c0_40 : Index := 0#32
  let c0_i32 : BitVec 32 := 0#32
  let arg2 : BitVec 32 := BitVec.ofNat 32 (i 2).val
  let v26 : BitVec 32 := Scalar.subi arg2 c0_i32
  let c1_i32_11 : BitVec 32 := 1#32
  let v28 : BitVec 32 := Scalar.divsi v26 c1_i32_11
  let v29 : BitVec 32 := Scalar.muli v28 c1_i32_11
  let v30 : BitVec 32 := Scalar.addi c0_i32 v29
  let c1_i32_13 : BitVec 32 := 1#32
  let arg9 : BitVec 32 := Scf.iv v30 c1_i32_13 k0_t2
  let c512_i32_33 : BitVec 32 := 512#32
  let v102 : BitVec 32 := Scalar.muli arg9 c512_i32_33
  let v103 : BitVec 32 := v102
  let v112 : Index := Scalar.indexCast v103
  ![0, 0, 0, v112.toNat]
def k0_off6 (i : grid0.Coords) (k0_t2 : Fin (k0_t2_loop i).trips) : Fin 4 → Nat :=
  let c0_41 : Index := 0#32
  let c0_42 : Index := 0#32
  let c1_43 : Index := 1#32
  let c0_i32 : BitVec 32 := 0#32
  let arg2 : BitVec 32 := BitVec.ofNat 32 (i 2).val
  let v26 : BitVec 32 := Scalar.subi arg2 c0_i32
  let c1_i32_11 : BitVec 32 := 1#32
  let v28 : BitVec 32 := Scalar.divsi v26 c1_i32_11
  let v29 : BitVec 32 := Scalar.muli v28 c1_i32_11
  let v30 : BitVec 32 := Scalar.addi c0_i32 v29
  let c1_i32_13 : BitVec 32 := 1#32
  let arg9 : BitVec 32 := Scf.iv v30 c1_i32_13 k0_t2
  let c512_i32_33 : BitVec 32 := 512#32
  let v102 : BitVec 32 := Scalar.muli arg9 c512_i32_33
  let v103 : BitVec 32 := v102
  let v119 : Index := Scalar.indexCast v103
  ![0, 0, 1, v119.toNat]
def k0_mult3 (i : grid0.Coords) : BitVec 32 :=
  let arg2 : BitVec 32 := BitVec.ofNat 32 (i 2).val
  let c512_i32 : BitVec 32 := 512#32
  let v33 : BitVec 32 := Scalar.muli arg2 c512_i32
  v33
def k0_off7 (i : grid0.Coords) : Fin 2 → Nat :=
  let arg2 : BitVec 32 := BitVec.ofNat 32 (i 2).val
  let c512_i32 : BitVec 32 := 512#32
  let v33 : BitVec 32 := Scalar.muli arg2 c512_i32
  let v34 : BitVec 32 := v33
  let v35 : Index := Scalar.indexCast v34
  let c0_14 : Index := 0#32
  ![v35.toNat, 0]
def k0_off8 (i : grid0.Coords) : Fin 4 → Nat :=
  let c0_18 : Index := 0#32
  let c0_19 : Index := 0#32
  let c0_20 : Index := 0#32
  let arg2 : BitVec 32 := BitVec.ofNat 32 (i 2).val
  let c512_i32 : BitVec 32 := 512#32
  let v33 : BitVec 32 := Scalar.muli arg2 c512_i32
  let v34 : BitVec 32 := v33
  let v43 : Index := Scalar.indexCast v34
  ![0, 0, 0, v43.toNat]
def k0_off9 (i : grid0.Coords) : Fin 4 → Nat :=
  let c0_21 : Index := 0#32
  let c0_22 : Index := 0#32
  let c1 : Index := 1#32
  let arg2 : BitVec 32 := BitVec.ofNat 32 (i 2).val
  let c512_i32 : BitVec 32 := 512#32
  let v33 : BitVec 32 := Scalar.muli arg2 c512_i32
  let v34 : BitVec 32 := v33
  let v50 : Index := Scalar.indexCast v34
  ![0, 0, 1, v50.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S16384x512 : Shape := ⟨2, ![16384, 512]⟩
abbrev S16384x128 : Shape := ⟨2, ![16384, 128]⟩
abbrev S2x8x8192 : Shape := ⟨3, ![2, 8, 8192]⟩
abbrev S2x8192x8x64 : Shape := ⟨4, ![2, 8192, 8, 64]⟩
abbrev S16384x8 : Shape := ⟨2, ![16384, 8]⟩
abbrev S2x8192x8 : Shape := ⟨3, ![2, 8192, 8]⟩
abbrev S8192 : Shape := ⟨1, ![8192]⟩
abbrev S2x8x8192x8192 : Shape := ⟨4, ![2, 8, 8192, 8192]⟩
abbrev S2x8x8192x1 : Shape := ⟨4, ![2, 8, 8192, 1]⟩
abbrev S2x8x1x8192 : Shape := ⟨4, ![2, 8, 1, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x64x8192 : Shape := ⟨4, ![2, 8, 64, 8192]⟩

abbrev nBuf : Space → Nat
  | .hbm => 49
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x128, .f32⟩
  | .hbm, ⟨4, _⟩ => ⟨S2x8x8192, .f32⟩
  | .hbm, ⟨5, _⟩ => ⟨S16384x512, .f32⟩
  | .hbm, ⟨6, _⟩ => ⟨S2x8192x8x64, .f32⟩
  | .hbm, ⟨7, _⟩ => ⟨S16384x512, .f32⟩
  | .hbm, ⟨8, _⟩ => ⟨S2x8192x8x64, .f32⟩
  | .hbm, ⟨9, _⟩ => ⟨S16384x512, .f32⟩
  | .hbm, ⟨10, _⟩ => ⟨S2x8192x8x64, .f32⟩
  | .hbm, ⟨11, _⟩ => ⟨S16384x8, .f32⟩
  | .hbm, ⟨12, _⟩ => ⟨S2x8192x8, .f32⟩
  | .hbm, ⟨13, _⟩ => ⟨S8192, .i32⟩
  | .hbm, ⟨14, _⟩ => ⟨S2x8x8192x8192, .f32⟩
  | .hbm, ⟨15, _⟩ => ⟨S2x8x8192, .f32⟩
  | .hbm, ⟨16, _⟩ => ⟨S2x8x8192x1, .f32⟩
  | .hbm, ⟨17, _⟩ => ⟨S2x8x8192x8192, .f32⟩
  | .hbm, ⟨18, _⟩ => ⟨S2x8x8192x8192, .f32⟩
  | .hbm, ⟨19, _⟩ => ⟨S2x8x1x8192, .f32⟩
  | .hbm, ⟨20, _⟩ => ⟨S2x8x8192x8192, .f32⟩
  | .hbm, ⟨21, _⟩ => ⟨S2x8x8192x8192, .f32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S2x8x8192x8192, .i1⟩
  | .hbm, ⟨30, _⟩ => ⟨S2x8x8192x8192, .f32⟩
  | .hbm, ⟨31, _⟩ => ⟨S2x8x8192x8192, .f32⟩
  | .hbm, ⟨32, _⟩ => ⟨S_, .f32⟩
  | .hbm, ⟨33, _⟩ => ⟨S2x8x8192, .f32⟩
  | .hbm, ⟨34, _⟩ => ⟨S_, .f32⟩
  | .hbm, ⟨35, _⟩ => ⟨S2x8x8192, .f32⟩
  | .hbm, ⟨36, _⟩ => ⟨S2x8x8192, .f32⟩
  | .hbm, ⟨37, _⟩ => ⟨S2x8x8192x1, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S_, .f32⟩
  | .hbm, ⟨42, _⟩ => ⟨S2x8x8192, .f32⟩
  | .hbm, ⟨43, _⟩ => ⟨S2x8x8192x1, .f32⟩
  | .hbm, ⟨44, _⟩ => ⟨S2x8x8192x8192, .f32⟩
  | .hbm, ⟨45, _⟩ => ⟨S2x8x8192x8192, .f32⟩
  | .hbm, ⟨46, _⟩ => ⟨S2x8x64x8192, .f32⟩
  | .hbm, ⟨47, _⟩ => ⟨S2x8192x8x64, .f32⟩
  | .hbm, ⟨48, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

def κ : String → Option EReal := fun
  | "mask" => some ⊥
  | _ => none
-- ==== Diff.lean ====
abbrev S16384x1024 : Shape := ⟨2, ![16384, 1024]⟩
abbrev S1x64 : Shape := ⟨2, ![1, 64]⟩
abbrev S1x128 : Shape := ⟨2, ![1, 128]⟩
abbrev S512x128 : Shape := ⟨2, ![512, 128]⟩
abbrev S8192x128 : Shape := ⟨2, ![8192, 128]⟩
abbrev S512x1 : Shape := ⟨2, ![512, 1]⟩
abbrev S512x512 : Shape := ⟨2, ![512, 512]⟩
abbrev S512 : Shape := ⟨1, ![512]⟩
abbrev S1 : Shape := ⟨1, ![1]⟩
abbrev S1x1 : Shape := ⟨2, ![1, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16384x1024, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_4 : BitVec 32 := 1#32
  ⟨c0_i32, v14, c1_i32_4⟩
def k0_mult1 (i : grid0.Coords) (k0_t1 : Fin (k0_t1_loop i).trips) : BitVec 32 :=
  let c0_i32 : BitVec 32 := 0#32
  let c1_i32_4 : BitVec 32 := 1#32
  let arg12 : BitVec 32 := Scf.iv c0_i32 c1_i32_4 k0_t1
  let c512_i32_37 : BitVec 32 := 512#32
  let v104 : BitVec 32 := Scalar.muli arg12 c512_i32_37
  v104
def k0_off1 (i : grid0.Coords) (k0_t1 : Fin (k0_t1_loop i).trips) : Fin 2 → Nat :=
  let c0_i32 : BitVec 32 := 0#32
  let c1_i32_4 : BitVec 32 := 1#32
  let arg12 : BitVec 32 := Scf.iv c0_i32 c1_i32_4 k0_t1
  let c512_i32_37 : BitVec 32 := 512#32
  let v104 : BitVec 32 := Scalar.muli arg12 c512_i32_37
  let v105 : BitVec 32 := v104
  let v106 : Index := Scalar.indexCast v105
  let c0_38 : Index := 0#32
  ![v106.toNat, 0]
@[reducible] def k0_t2_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_5 : BitVec 32 := 1#32
  ⟨v14, v11, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_5 : BitVec 32 := 1#32
  let arg12 : BitVec 32 := Scf.iv v14 c1_i32_5 k0_t2
  let c512_i32_37 : BitVec 32 := 512#32
  let v104 : BitVec 32 := Scalar.muli arg12 c512_i32_37
  v104
def k0_off2 (i : grid0.Coords) (k0_t2 : Fin (k0_t2_loop i).trips) : Fin 2 → Nat :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_5 : BitVec 32 := 1#32
  let arg12 : BitVec 32 := Scf.iv v14 c1_i32_5 k0_t2
  let c512_i32_37 : BitVec 32 := 512#32
  let v104 : BitVec 32 := Scalar.muli arg12 c512_i32_37
  let v105 : BitVec 32 := v104
  let v106 : Index := Scalar.indexCast v105
  let c0_38 : Index := 0#32
  ![v106.toNat, 0]
def k0_mult3 (i : grid0.Coords) : BitVec 32 :=
  let arg2 : BitVec 32 := BitVec.ofNat 32 (i 2).val
  let c512_i32 : BitVec 32 := 512#32
  let v17 : BitVec 32 := Scalar.muli arg2 c512_i32
  v17
def k0_off3 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v19 : Index := Scalar.indexCast v18
  let c0_6 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== DiffIdeal.lean ====
variable {F : FTy → Type} [FloatOps F] [Named F]
def κ : String → Option EReal := fun
  | "mask" => some ⊥
  | _ => none
-- ==== DiffRefIdeal.lean ====
abbrev S16384x1024 : Shape := ⟨2, ![16384, 1024]⟩
abbrev S1x64 : Shape := ⟨2, ![1, 64]⟩
abbrev S1x128 : Shape := ⟨2, ![1, 128]⟩
abbrev S2x8192x8x2x64 : Shape := ⟨5, ![2, 8192, 8, 2, 64]⟩
abbrev S2x8192x8x128 : Shape := ⟨4, ![2, 8192, 8, 128]⟩
abbrev S64 : Shape := ⟨1, ![64]⟩
abbrev S_ : Shape := ⟨0, ![]⟩
abbrev S8192 : Shape := ⟨1, ![8192]⟩
abbrev S2x8x2x8192x8192 : Shape := ⟨5, ![2, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16384x1024, .f32⟩
  | .hbm, ⟨9, _⟩ => ⟨S2x8192x8x2x64, .f32⟩
  | .hbm, ⟨10, _⟩ => ⟨S16384x1024, .f32⟩
  | .hbm, ⟨11, _⟩ => ⟨S2x8192x8x2x64, .f32⟩
  | .hbm, ⟨12, _⟩ => ⟨S16384x1024, .f32⟩
  | .hbm, ⟨13, _⟩ => ⟨S2x8192x8x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .i32⟩
  | .hbm, ⟨30, _⟩ => ⟨S2x8x2x8192x8192, .f32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S2x8x2x8192x8192, .i1⟩
  | .hbm, ⟨39, _⟩ => ⟨S2x8x2x8192x8192, .f32⟩
  | .hbm, ⟨40, _⟩ => ⟨S2x8x2x8192x8192, .f32⟩
  | .hbm, ⟨41, _⟩ => ⟨S_, .f32⟩
  | .hbm, ⟨42, _⟩ => ⟨S2x8x2x8192, .f32⟩
  | .hbm, ⟨43, _⟩ => ⟨S_, .f32⟩
  | .hbm, ⟨44, _⟩ => ⟨S2x8x2x8192, .f32⟩
  | .hbm, ⟨45, _⟩ => ⟨S2x8x2x8192, .f32⟩
  | .hbm, ⟨46, _⟩ => ⟨S2x8x2x8192x1, .f32⟩
  | .hbm, ⟨47, _⟩ => ⟨S2x8x2x8192x8192, .f32⟩
  | .hbm, ⟨48, _⟩ => ⟨S2x8x2x8192x8192, .f32⟩
  | .hbm, ⟨49, _⟩ => ⟨S2x8x2x8192x8192, .f32⟩
  | .hbm, ⟨50, _⟩ => ⟨S_, .f32⟩
  | .hbm, ⟨51, _⟩ => ⟨S2x8x2x8192, .f32⟩
  | .hbm, ⟨52, _⟩ => ⟨S2x8x2x8192x1, .f32⟩
  | .hbm, ⟨53, _⟩ => ⟨S2x8x2x8192x8192, .f32⟩
  | .hbm, ⟨54, _⟩ => ⟨S2x8x2x8192x8192, .f32⟩
  | .hbm, ⟨55, _⟩ => ⟨S2x8x1x8192x8192, .f32⟩
  | .hbm, ⟨56, _⟩ => ⟨S2x8x8192x8192, .f32⟩
  | .hbm, ⟨57, _⟩ => ⟨S2x8x1x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x128x8192, .f32⟩
  | .hbm, ⟨63, _⟩ => ⟨S2x8192x8x128, .f32⟩
  | .hbm, ⟨64, _⟩ => ⟨S2x8192x8x128, .f32⟩
  | .hbm, ⟨65, _⟩ => ⟨S_, .f32⟩
  | .hbm, ⟨66, _⟩ => ⟨S2x8192x8, .f32⟩
  | .hbm, ⟨67, _⟩ => ⟨S2x8192x8x1, .f32⟩
  | .hbm, ⟨68, _⟩ => ⟨S_, .f32⟩
  | .hbm, ⟨69, _⟩ => ⟨S2x8192x8x1, .f32⟩
  | .hbm, ⟨70, _⟩ => ⟨S2x8192x8x1, .f32⟩
  | .hbm, ⟨71, _⟩ => ⟨S_, .f32⟩
  | .hbm, ⟨72, _⟩ => ⟨S2x8192x8x1, .f32⟩
  | .hbm, ⟨73, _⟩ => ⟨S2x8192x8x1, .f32⟩
  | .hbm, ⟨74, _⟩ => ⟨S2x8192x8x1, .f32⟩
  | .hbm, ⟨75, _⟩ => ⟨S2x8192x8x128, .f32⟩
  | .hbm, ⟨76, _⟩ => ⟨S2x8192x8x128, .f32⟩
  | .hbm, ⟨77, _⟩ => ⟨S128, .f32⟩
  | .hbm, ⟨78, _⟩ => ⟨S1x1x1x128, .f32⟩
  | .hbm, ⟨79, _⟩ => ⟨S2x8192x8x128, .f32⟩
  | .hbm, ⟨80, _⟩ => ⟨S2x8192x8x128, .f32⟩
  | .hbm, ⟨81, _⟩ => ⟨S_, .f32⟩
  | .hbm, ⟨82, _⟩ => ⟨S2x8192x8x128, .f32⟩
  | .hbm, ⟨83, _⟩ => ⟨S2x8192x8x128, .f32⟩
  | .hbm, ⟨84, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

def κ : String → Option EReal := fun
  | "mask" => some ⊥
  | _ => none
-- ==== DiffLate.lean ====
abbrev S16384x1024 : Shape := ⟨2, ![16384, 1024]⟩
abbrev S1x64 : Shape := ⟨2, ![1, 64]⟩
abbrev S1x128 : Shape := ⟨2, ![1, 128]⟩
abbrev S512x128 : Shape := ⟨2, ![512, 128]⟩
abbrev S8192x128 : Shape := ⟨2, ![8192, 128]⟩
abbrev S512x1 : Shape := ⟨2, ![512, 1]⟩
abbrev S512x512 : Shape := ⟨2, ![512, 512]⟩
abbrev S512 : Shape := ⟨1, ![512]⟩
abbrev S1 : Shape := ⟨1, ![1]⟩
abbrev S1x1 : Shape := ⟨2, ![1, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16384x1024, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_4 : BitVec 32 := 1#32
  ⟨c0_i32, v14, c1_i32_4⟩
def k0_mult1 (i : grid0.Coords) (k0_t1 : Fin (k0_t1_loop i).trips) : BitVec 32 :=
  let c0_i32 : BitVec 32 := 0#32
  let c1_i32_4 : BitVec 32 := 1#32
  let arg12 : BitVec 32 := Scf.iv c0_i32 c1_i32_4 k0_t1
  let c512_i32_37 : BitVec 32 := 512#32
  let v104 : BitVec 32 := Scalar.muli arg12 c512_i32_37
  v104
def k0_off1 (i : grid0.Coords) (k0_t1 : Fin (k0_t1_loop i).trips) : Fin 2 → Nat :=
  let c0_i32 : BitVec 32 := 0#32
  let c1_i32_4 : BitVec 32 := 1#32
  let arg12 : BitVec 32 := Scf.iv c0_i32 c1_i32_4 k0_t1
  let c512_i32_37 : BitVec 32 := 512#32
  let v104 : BitVec 32 := Scalar.muli arg12 c512_i32_37
  let v105 : BitVec 32 := v104
  let v106 : Index := Scalar.indexCast v105
  let c0_38 : Index := 0#32
  ![v106.toNat, 0]
@[reducible] def k0_t2_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_5 : BitVec 32 := 1#32
  ⟨v14, v11, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_5 : BitVec 32 := 1#32
  let arg12 : BitVec 32 := Scf.iv v14 c1_i32_5 k0_t2
  let c512_i32_37 : BitVec 32 := 512#32
  let v104 : BitVec 32 := Scalar.muli arg12 c512_i32_37
  v104
def k0_off2 (i : grid0.Coords) (k0_t2 : Fin (k0_t2_loop i).trips) : Fin 2 → Nat :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_5 : BitVec 32 := 1#32
  let arg12 : BitVec 32 := Scf.iv v14 c1_i32_5 k0_t2
  let c512_i32_37 : BitVec 32 := 512#32
  let v104 : BitVec 32 := Scalar.muli arg12 c512_i32_37
  let v105 : BitVec 32 := v104
  let v106 : Index := Scalar.indexCast v105
  let c0_38 : Index := 0#32
  ![v106.toNat, 0]
def k0_mult3 (i : grid0.Coords) : BitVec 32 :=
  let arg2 : BitVec 32 := BitVec.ofNat 32 (i 2).val
  let c512_i32 : BitVec 32 := 512#32
  let v17 : BitVec 32 := Scalar.muli arg2 c512_i32
  v17
def k0_off3 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v19 : Index := Scalar.indexCast v18
  let c0_6 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== DiffLateIdeal.lean ====
variable {F : FTy → Type} [FloatOps F] [Named F]
def κ : String → Option EReal := fun
  | "mask" => some ⊥
  | _ => none
-- ==== DiffLateRefIdeal.lean ====
abbrev S16384x1024 : Shape := ⟨2, ![16384, 1024]⟩
abbrev S1x64 : Shape := ⟨2, ![1, 64]⟩
abbrev S1x128 : Shape := ⟨2, ![1, 128]⟩
abbrev S2x8192x8x2x64 : Shape := ⟨5, ![2, 8192, 8, 2, 64]⟩
abbrev S2x8192x8x128 : Shape := ⟨4, ![2, 8192, 8, 128]⟩
abbrev S64 : Shape := ⟨1, ![64]⟩
abbrev S_ : Shape := ⟨0, ![]⟩
abbrev S8192 : Shape := ⟨1, ![8192]⟩
abbrev S2x8x2x8192x8192 : Shape := ⟨5, ![2, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16384x1024, .f32⟩
  | .hbm, ⟨9, _⟩ => ⟨S2x8192x8x2x64, .f32⟩
  | .hbm, ⟨10, _⟩ => ⟨S16384x1024, .f32⟩
  | .hbm, ⟨11, _⟩ => ⟨S2x8192x8x2x64, .f32⟩
  | .hbm, ⟨12, _⟩ => ⟨S16384x1024, .f32⟩
  | .hbm, ⟨13, _⟩ => ⟨S2x8192x8x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .i32⟩
  | .hbm, ⟨30, _⟩ => ⟨S2x8x2x8192x8192, .f32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S2x8x2x8192x8192, .i1⟩
  | .hbm, ⟨39, _⟩ => ⟨S2x8x2x8192x8192, .f32⟩
  | .hbm, ⟨40, _⟩ => ⟨S2x8x2x8192x8192, .f32⟩
  | .hbm, ⟨41, _⟩ => ⟨S_, .f32⟩
  | .hbm, ⟨42, _⟩ => ⟨S2x8x2x8192, .f32⟩
  | .hbm, ⟨43, _⟩ => ⟨S_, .f32⟩
  | .hbm, ⟨44, _⟩ => ⟨S2x8x2x8192, .f32⟩
  | .hbm, ⟨45, _⟩ => ⟨S2x8x2x8192, .f32⟩
  | .hbm, ⟨46, _⟩ => ⟨S2x8x2x8192x1, .f32⟩
  | .hbm, ⟨47, _⟩ => ⟨S2x8x2x8192x8192, .f32⟩
  | .hbm, ⟨48, _⟩ => ⟨S2x8x2x8192x8192, .f32⟩
  | .hbm, ⟨49, _⟩ => ⟨S2x8x2x8192x8192, .f32⟩
  | .hbm, ⟨50, _⟩ => ⟨S_, .f32⟩
  | .hbm, ⟨51, _⟩ => ⟨S2x8x2x8192, .f32⟩
  | .hbm, ⟨52, _⟩ => ⟨S2x8x2x8192x1, .f32⟩
  | .hbm, ⟨53, _⟩ => ⟨S2x8x2x8192x8192, .f32⟩
  | .hbm, ⟨54, _⟩ => ⟨S2x8x2x8192x8192, .f32⟩
  | .hbm, ⟨55, _⟩ => ⟨S2x8x1x8192x8192, .f32⟩
  | .hbm, ⟨56, _⟩ => ⟨S2x8x8192x8192, .f32⟩
  | .hbm, ⟨57, _⟩ => ⟨S2x8x1x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x128x8192, .f32⟩
  | .hbm, ⟨63, _⟩ => ⟨S2x8192x8x128, .f32⟩
  | .hbm, ⟨64, _⟩ => ⟨S2x8192x8x128, .f32⟩
  | .hbm, ⟨65, _⟩ => ⟨S_, .f32⟩
  | .hbm, ⟨66, _⟩ => ⟨S2x8192x8, .f32⟩
  | .hbm, ⟨67, _⟩ => ⟨S2x8192x8x1, .f32⟩
  | .hbm, ⟨68, _⟩ => ⟨S_, .f32⟩
  | .hbm, ⟨69, _⟩ => ⟨S2x8192x8x1, .f32⟩
  | .hbm, ⟨70, _⟩ => ⟨S2x8192x8x1, .f32⟩
  | .hbm, ⟨71, _⟩ => ⟨S_, .f32⟩
  | .hbm, ⟨72, _⟩ => ⟨S2x8192x8x1, .f32⟩
  | .hbm, ⟨73, _⟩ => ⟨S2x8192x8x1, .f32⟩
  | .hbm, ⟨74, _⟩ => ⟨S2x8192x8x1, .f32⟩
  | .hbm, ⟨75, _⟩ => ⟨S2x8192x8x128, .f32⟩
  | .hbm, ⟨76, _⟩ => ⟨S2x8192x8x128, .f32⟩
  | .hbm, ⟨77, _⟩ => ⟨S128, .f32⟩
  | .hbm, ⟨78, _⟩ => ⟨S1x1x1x128, .f32⟩
  | .hbm, ⟨79, _⟩ => ⟨S2x8192x8x128, .f32⟩
  | .hbm, ⟨80, _⟩ => ⟨S2x8192x8x128, .f32⟩
  | .hbm, ⟨81, _⟩ => ⟨S_, .f32⟩
  | .hbm, ⟨82, _⟩ => ⟨S2x8192x8x128, .f32⟩
  | .hbm, ⟨83, _⟩ => ⟨S2x8192x8x128, .f32⟩
  | .hbm, ⟨84, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

def κ : String → Option EReal := fun
  | "mask" => some ⊥
  | _ => none
-- ==== OddIn.lean ====
abbrev S16384x1024 : Shape := ⟨2, ![16384, 1024]⟩
abbrev S2x1x6144 : Shape := ⟨3, ![2, 1, 6144]⟩
abbrev S1024x3072 : Shape := ⟨2, ![1024, 3072]⟩
abbrev S512x1024 : Shape := ⟨2, ![512, 1024]⟩
abbrev S1x1x1024 : Shape := ⟨3, ![1, 1, 1024]⟩
abbrev S1x1024 : Shape := ⟨2, ![1, 1024]⟩
abbrev S1024x1024 : Shape := ⟨2, ![1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S2x1x6144, .f32⟩
  | .hbm, ⟨2, _⟩ => ⟨S1024x3072, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OddInRefIdeal.lean ====
abbrev S16384x1024 : Shape := ⟨2, ![16384, 1024]⟩
abbrev S2x1x6144 : Shape := ⟨3, ![2, 1, 6144]⟩
abbrev S1024x3072 : Shape := ⟨2, ![1024, 3072]⟩
abbrev S2x1x1024 : Shape := ⟨3, ![2, 1, 1024]⟩
abbrev S2x8192x1024 : Shape := ⟨3, ![2, 8192, 1024]⟩
abbrev S_ : Shape := ⟨0, ![]⟩
abbrev S2x8192x3072 : Shape := ⟨3, ![2, 8192, 3072]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x6144, .f32⟩
  | .hbm, ⟨2, _⟩ => ⟨S1024x3072, .bf16⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x8192x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S1024x3072, .f32⟩
  | .hbm, ⟨18, _⟩ => ⟨S2x8192x3072, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x8192x1024, .f32⟩
  | .hbm, ⟨24, _⟩ => ⟨S2x8192x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .bf16⟩
  | .hbm, ⟨29, _⟩ => ⟨S16384x1024, .bf16⟩
  | .hbm, ⟨30, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== EvenIn.lean ====
abbrev S16384x1024 : Shape := ⟨2, ![16384, 1024]⟩
abbrev S2x1x6144 : Shape := ⟨3, ![2, 1, 6144]⟩
abbrev S1024x3072 : Shape := ⟨2, ![1024, 3072]⟩
abbrev S1024x128 : Shape := ⟨2, ![1024, 128]⟩
abbrev S1x128 : Shape := ⟨2, ![1, 128]⟩
abbrev S16384x512 : Shape := ⟨2, ![16384, 512]⟩
abbrev S16384x128 : Shape := ⟨2, ![16384, 128]⟩
abbrev S512x1024 : Shape := ⟨2, ![512, 1024]⟩
abbrev S1x1x1024 : Shape := ⟨3, ![1, 1, 1024]⟩
abbrev S512x512 : Shape := ⟨2, ![512, 512]⟩
abbrev S512x128 : Shape := ⟨2, ![512, 128]⟩
abbrev S1x1024 : Shape := ⟨2, ![1, 1024]⟩
abbrev S1024x512 : Shape := ⟨2, ![1024, 512]⟩

abbrev nBuf : Space → Nat
  | .hbm => 13
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S2x1x6144, .f32⟩
  | .hbm, ⟨2, _⟩ => ⟨S1024x3072, .bf16⟩
  | .hbm, ⟨3, _⟩ => ⟨S1024x128, .bf16⟩
  | .hbm, ⟨4, _⟩ => ⟨S1x128, .f32⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1024x128, .bf16⟩
  | .local _ .vmem, ⟨8, _⟩ => ⟨S1x128, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x128, .f32⟩
  | .local _ .vmem, ⟨24, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== EvenInRefIdeal.lean ====
abbrev S16384x1024 : Shape := ⟨2, ![16384, 1024]⟩
abbrev S2x1x6144 : Shape := ⟨3, ![2, 1, 6144]⟩
abbrev S1024x3072 : Shape := ⟨2, ![1024, 3072]⟩
abbrev S1024x128 : Shape := ⟨2, ![1024, 128]⟩
abbrev S1x128 : Shape := ⟨2, ![1, 128]⟩
abbrev S2x1x1024 : Shape := ⟨3, ![2, 1, 1024]⟩
abbrev S2x8192x1024 : Shape := ⟨3, ![2, 8192, 1024]⟩
abbrev S_ : Shape := ⟨0, ![]⟩
abbrev S2x8192x3072 : Shape := ⟨3, ![2, 8192, 3072]⟩
abbrev S2x8192x512 : Shape := ⟨3, ![2, 8192, 512]⟩
abbrev S1024x8 : Shape := ⟨2, ![1024, 8]⟩
abbrev S2x8192x8 : Shape := ⟨3, ![2, 8192, 8]⟩
abbrev S1x8 : Shape := ⟨2, ![1, 8]⟩
abbrev S8 : Shape := ⟨1, ![8]⟩
abbrev S1x1x8 : Shape := ⟨3, ![1, 1, 8]⟩
abbrev S2x8192x128 : Shape := ⟨3, ![2, 8192, 128]⟩
abbrev S16384x512 : Shape := ⟨2, ![16384, 512]⟩
abbrev S16384x128 : Shape := ⟨2, ![16384, 128]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x6144, .f32⟩
  | .hbm, ⟨2, _⟩ => ⟨S1024x3072, .bf16⟩
  | .hbm, ⟨3, _⟩ => ⟨S1024x128, .bf16⟩
  | .hbm, ⟨4, _⟩ => ⟨S1x128, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x8192x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S1024x3072, .f32⟩
  | .hbm, ⟨20, _⟩ => ⟨S2x8192x3072, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S1024x128, .f32⟩
  | .hbm, ⟨28, _⟩ => ⟨S1024x8, .f32⟩
  | .hbm, ⟨29, _⟩ => ⟨S2x8192x8, .f32⟩
  | .hbm, ⟨30, _⟩ => ⟨S1x8, .f32⟩
  | .hbm, ⟨31, _⟩ => ⟨S8, .f32⟩
  | .hbm, ⟨32, _⟩ => ⟨S1x1x8, .f32⟩
  | .hbm, ⟨33, _⟩ => ⟨S2x8192x8, .f32⟩
  | .hbm, ⟨34, _⟩ => ⟨S2x8192x8, .f32⟩
  | .hbm, ⟨35, _⟩ => ⟨S2x8192x8, .f32⟩
  | .hbm, ⟨36, _⟩ => ⟨S_, .f32⟩
  | .hbm, ⟨37, _⟩ => ⟨S2x8192x8, .f32⟩
  | .hbm, ⟨38, _⟩ => ⟨S2x8192x8, .f32⟩
  | .hbm, ⟨39, _⟩ => ⟨S2x8192x8, .f32⟩
  | .hbm, ⟨40, _⟩ => ⟨S2x8192x8, .f32⟩
  | .hbm, ⟨41, _⟩ => ⟨S2x8192x8, .i1⟩
  | .hbm, ⟨42, _⟩ => ⟨S2x8192x8, .f32⟩
  | .hbm, ⟨43, _⟩ => ⟨S2x8192x8, .f32⟩
  | .hbm, ⟨44, _⟩ => ⟨S2x8192x8, .f32⟩
  | .hbm, ⟨45, _⟩ => ⟨S2x8192x8, .f32⟩
  | .hbm, ⟨46, _⟩ => ⟨S2x8192x8, .f32⟩
  | .hbm, ⟨47, _⟩ => ⟨S2x8192x8, .f32⟩
  | .hbm, ⟨48, _⟩ => ⟨S2x8192x8, .f32⟩
  | .hbm, ⟨49, _⟩ => ⟨S2x8192x8, .f32⟩
  | .hbm, ⟨50, _⟩ => ⟨S2x8192x8, .f32⟩
  | .hbm, ⟨51, _⟩ => ⟨S_, .i32⟩
  | .hbm, ⟨52, _⟩ => ⟨S_, .f32⟩
  | .hbm, ⟨53, _⟩ => ⟨S2x8192x128, .f32⟩
  | .hbm, ⟨54, _⟩ => ⟨S_, .f32⟩
  | .hbm, ⟨55, _⟩ => ⟨S2x8192x512, .f32⟩
  | .hbm, ⟨56, _⟩ => ⟨S2x8192x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .bf16⟩
  | .hbm, ⟨61, _⟩ => ⟨S16384x512, .bf16⟩
  | .hbm, ⟨62, _⟩ => ⟨S16384x512, .bf16⟩
  | .hbm, ⟨63, _⟩ => ⟨S16384x512, .f32⟩
  | .hbm, ⟨64, _⟩ => ⟨S2x8192x512, .f32⟩
  | .hbm, ⟨65, _⟩ => ⟨S16384x512, .f32⟩
  | .hbm, ⟨66, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v29 : Ref sig .tc := ⟨.hbm, 50, rfl⟩
abbrev main_c : Ref sig .tc := ⟨.hbm, 51, rfl⟩
abbrev main_call1_v0 : Ref sig .tc := ⟨.hbm, 52, rfl⟩
abbrev main_v30 : Ref sig .tc := ⟨.hbm, 53, rfl⟩
abbrev main_cst_0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== OddOut.lean ====
abbrev S16384x1024 : Shape := ⟨2, ![16384, 1024]⟩
abbrev S1024x1024 : Shape := ⟨2, ![1024, 1024]⟩
abbrev S2x1x6144 : Shape := ⟨3, ![2, 1, 6144]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S2x1x6144, .f32⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OddOutIdeal.lean ====
variable {F : FTy → Type} [FloatOps F] [Named F]
def κ : String → Option EReal := fun
  | "alpha" => some ((Real.sqrt (Real.sqrt 8) : ℝ) : EReal)
  | _ => none
-- ==== OddOutRefIdeal.lean ====
abbrev S16384x1024 : Shape := ⟨2, ![16384, 1024]⟩
abbrev S1024x1024 : Shape := ⟨2, ![1024, 1024]⟩
abbrev S2x1x6144 : Shape := ⟨3, ![2, 1, 6144]⟩
abbrev S1x1024 : Shape := ⟨2, ![1, 1024]⟩
abbrev S2x1x1024 : Shape := ⟨3, ![2, 1, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S2x1x6144, .f32⟩
  | .hbm, ⟨4, _⟩ => ⟨S1x1024, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x8192x1024, .f32⟩
  | .hbm, ⟨13, _⟩ => ⟨S1024x1024, .f32⟩
  | .hbm, ⟨14, _⟩ => ⟨S2x8192x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x1, .f32⟩
  | .hbm, ⟨48, _⟩ => ⟨S2x8192x1024, .f32⟩
  | .hbm, ⟨49, _⟩ => ⟨S2x8192x1024, .f32⟩
  | .hbm, ⟨50, _⟩ => ⟨S1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== EvenOut.lean ====
abbrev S16384x512 : Shape := ⟨2, ![16384, 512]⟩
abbrev S1024x1024 : Shape := ⟨2, ![1024, 1024]⟩
abbrev S16384x1024 : Shape := ⟨2, ![16384, 1024]⟩
abbrev S2x1x6144 : Shape := ⟨3, ![2, 1, 6144]⟩
abbrev S1x1024 : Shape := ⟨2, ![1, 1024]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .bf16⟩
  | .hbm, ⟨3, _⟩ => ⟨S16384x1024, .f32⟩
  | .hbm, ⟨4, _⟩ => ⟨S2x1x6144, .f32⟩
  | .hbm, ⟨5, _⟩ => ⟨S1x1024, .f32⟩
  | .hbm, ⟨6, _⟩ => ⟨S1x1024, .f32⟩
  | .hbm, ⟨7, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenOutIdeal.lean ====
variable {F : FTy → Type} [FloatOps F] [Named F]
def κ : String → Option EReal := fun
  | "alpha" => some ((Real.sqrt (Real.sqrt 8) : ℝ) : EReal)
  | _ => none
-- ==== EvenOutRefIdeal.lean ====
abbrev S16384x512 : Shape := ⟨2, ![16384, 512]⟩
abbrev S1024x1024 : Shape := ⟨2, ![1024, 1024]⟩
abbrev S16384x1024 : Shape := ⟨2, ![16384, 1024]⟩
abbrev S2x1x6144 : Shape := ⟨3, ![2, 1, 6144]⟩
abbrev S1x1024 : Shape := ⟨2, ![1, 1024]⟩
abbrev S2x1x1024 : Shape := ⟨3, ![2, 1, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .bf16⟩
  | .hbm, ⟨3, _⟩ => ⟨S16384x1024, .f32⟩
  | .hbm, ⟨4, _⟩ => ⟨S2x1x6144, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x8192x1024, .f32⟩
  | .hbm, ⟨15, _⟩ => ⟨S1024x1024, .f32⟩
  | .hbm, ⟨16, _⟩ => ⟨S2x8192x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1024, .f32⟩
  | .hbm, ⟨53, _⟩ => ⟨S1x1x1024, .f32⟩
  | .hbm, ⟨54, _⟩ => ⟨S2x8192x1024, .f32⟩
  | .hbm, ⟨55, _⟩ => ⟨S2x8192x1024, .f32⟩
  | .hbm, ⟨56, _⟩ => ⟨S1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Moe.lean ====
abbrev S16384x1152 : Shape := ⟨2, ![16384, 1152]⟩
abbrev S17408 : Shape := ⟨1, ![17408]⟩
abbrev S68 : Shape := ⟨1, ![68]⟩
abbrev S4x4x8x1024x256 : Shape := ⟨5, ![4, 4, 8, 1024, 256]⟩
abbrev S4x4x8x256x1024 : Shape := ⟨5, ![4, 4, 8, 256, 1024]⟩
abbrev S16384x1024 : Shape := ⟨2, ![16384, 1024]⟩
abbrev S1x1x8x1024x256 : Shape := ⟨5, ![1, 1, 8, 1024, 256]⟩
abbrev S1 : Shape := ⟨1, ![1]⟩
abbrev S1x1x8x256x1024 : Shape := ⟨5, ![1, 1, 8, 256, 1024]⟩
abbrev S256x1152 : Shape := ⟨2, ![256, 1152]⟩
abbrev S256x1024 : Shape := ⟨2, ![256, 1024]⟩
abbrev S_ : Shape := ⟨0, ![]⟩
abbrev S1x1152 : Shape := ⟨2, ![1, 1152]⟩
abbrev S256x128 : Shape := ⟨2, ![256, 128]⟩
abbrev S1x1x1x1024x256 : Shape := ⟨5, ![1, 1, 1, 1024, 256]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩
abbrev S1x1x1x256x1024 : Shape := ⟨5, ![1, 1, 1, 256, 1024]⟩
abbrev S1x1024 : Shape := ⟨2, ![1, 1024]⟩

abbrev nBuf : Space → Nat
  | .hbm => 5
  | .vmem => 8
  | .smem => 3
  | _ => 0

abbrev bufTy : (tb : Table) → Fin (tcTables nBuf tb) → BufTy
  | .hbm, ⟨0, _⟩ => ⟨S16384x1152, .f32⟩
  | .hbm, ⟨1, _⟩ => ⟨S4x4x8x1024x256, .bf16⟩
  | .hbm, ⟨2, _⟩ => ⟨S4x4x8x1024x256, .bf16⟩
  | .hbm, ⟨3, _⟩ => ⟨S4x4x8x256x1024, .bf16⟩
  | .hbm, ⟨4, _⟩ => ⟨S16384x1024, .f32⟩
  | .local _ .vmem, ⟨0, _⟩ => ⟨S1x1x8x1024x256, .bf16⟩
  | .local _ .vmem, ⟨1, _⟩ => ⟨S1x1x8x1024x256, .bf16⟩
  | .local _ .vmem, ⟨2, _⟩ => ⟨S1x1x8x1024x256, .bf16⟩
  | .local _ .vmem, ⟨3, _⟩ => ⟨S1x1x8x1024x256, .bf16⟩
  | .local _ .vmem, ⟨4, _⟩ => ⟨S1x1x8x256x1024, .bf16⟩
  | .local _ .vmem, ⟨5, _⟩ => ⟨S1x1x8x256x1024, .bf16⟩
  | .local _ .vmem, ⟨6, _⟩ => ⟨S256x1152, .f32⟩
  | .local _ .vmem, ⟨7, _⟩ => ⟨S256x1024, .f32⟩
  | .local _ .smem, ⟨0, _⟩ => ⟨S17408, .i32⟩
  | .local _ .smem, ⟨1, _⟩ => ⟨S68, .i32⟩
  | .local _ .smem, ⟨2, _⟩ => ⟨S68, .i32⟩
  | _, _ => ⟨S16384x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![68], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_1 : BitVec 32 := 0#32
  let c256_i32_2 : BitVec 32 := 256#32
  let v6 : BitVec 32 := Scalar.addi c0_i32_1 c256_i32_2
  let c1_i32 : BitVec 32 := 1#32
  ⟨c0_i32_1, v6, c1_i32⟩
def k0_off2 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32_1 : BitVec 32 := 0#32
  let c1_i32 : BitVec 32 := 1#32
  let arg13 : BitVec 32 := Scf.iv c0_i32_1 c1_i32 k0_t1
  let v228 : BitVec 32 := Scalar.addi v0 arg13
  let v229 : Index := Scalar.indexCast v228
  ![v229.toNat]
def k0_off3 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c0_i32_192 : BitVec 32 := 0#32
  ![arg13.toNat, 0]
def k0_off4 (v230 : BitVec 32) : Fin 2 → Nat :=
  let c0_i32_193 : BitVec 32 := 0#32
  ![v230.toNat, 0]
def k0_cond1 (v2 : BitVec 32) : BitVec 1 :=
  let c0_i32 : BitVec 32 := 0#32
  let v3 : BitVec 1 := Scalar.cmpi .sgt v2 c0_i32
  let v4 : BitVec 32 := Scalar.extui v3
  let c0_i32_0 : BitVec 32 := 0#32
  let v5 : BitVec 1 := Scalar.cmpi .ne v4 c0_i32_0
  v5

def k0_chk1 (v2 : BitVec 32) (v230 : BitVec 32) : Prop :=
  (∀ (k0_h1 : k0_cond1 v2 = 1#1), ∀ a, (k0_off4 v230) a + S1x1152.size a ≤ S16384x1152.size a)
theorem k0_off4_inb : ∀ (v2 : BitVec 32) (v230 : BitVec 32) (k0_hw1 : k0_chk1 v2 v230), ∀ (k0_h1 : k0_cond1 v2 = 1#1), ∀ a, (k0_off4 v230) a + S1x1152.size a ≤ S16384x1152.size a := fun v2 v230 k0_hw1 k0_h1 => k0_hw1 k0_h1

@[reducible] def k0_t2_loop : Scf.Loop 32 :=
  let c0_i32_4 : BitVec 32 := 0#32
  let c256_i32_5 : BitVec 32 := 256#32
  let v7 : BitVec 32 := Scalar.addi c0_i32_4 c256_i32_5
  let c1_i32_6 : BitVec 32 := 1#32
  ⟨c0_i32_4, v7, c1_i32_6⟩
def k0_off5 (k0_t2 : Fin k0_t2_loop.trips) : Fin 2 → Nat :=
  let c0_i32_4 : BitVec 32 := 0#32
  let c1_i32_6 : BitVec 32 := 1#32
  let arg13 : BitVec 32 := Scf.iv c0_i32_4 c1_i32_6 k0_t2
  let c0_i32_192 : BitVec 32 := 0#32
  ![arg13.toNat, 0]
def k0_off6 (i : grid0.Coords) : Fin 1 → Nat :=
  let arg0 : BitVec 32 := BitVec.ofNat 32 (i 0).val
  let v8 : Index := Scalar.indexCast arg0
  ![v8.toNat]
@[reducible] def k0_t3_loop (v2 : BitVec 32) : Scf.Loop 32 :=
  let c0_i32_183 : BitVec 32 := 0#32
  let v218 : BitVec 32 := Scalar.subi v2 c0_i32_183
  let c1_i32_184 : BitVec 32 := 1#32
  let v220 : BitVec 32 := Scalar.divsi v218 c1_i32_184
  let v221 : BitVec 32 := Scalar.muli v220 c1_i32_184
  let v222 : BitVec 32 := Scalar.addi c0_i32_183 v221
  let c1_i32_185 : BitVec 32 := 1#32
  ⟨c0_i32_183, v222, c1_i32_185⟩

def k0_off7 (i : grid0.Coords) (v2 : BitVec 32) (k0_t3 : Fin (k0_t3_loop v2).trips) : Fin 1 → Nat :=
  let arg0 : BitVec 32 := BitVec.ofNat 32 (i 0).val
  let c256_i32 : BitVec 32 := 256#32
  let v0 : BitVec 32 := Scalar.muli arg0 c256_i32
  let c0_i32_183 : BitVec 32 := 0#32
  let c1_i32_185 : BitVec 32 := 1#32
  let arg13 : BitVec 32 := Scf.iv c0_i32_183 c1_i32_185 k0_t3
  let v228 : BitVec 32 := Scalar.addi v0 arg13
  let v229 : Index := Scalar.indexCast v228
  ![v229.toNat]
def k0_off8 (v230 : BitVec 32) : Fin 2 → Nat :=
  let c0_i32_192 : BitVec 32 := 0#32
  ![v230.toNat, 0]

def k0_chk3 (v2 : BitVec 32) (v230 : BitVec 32) : Prop :=
  (∀ (k0_h1 : k0_cond1 v2 = 1#1), ∀ a, (k0_off8 v230) a + S1x1024.size a ≤ S16384x1024.size a)
theorem k0_off8_inb : ∀ (v2 : BitVec 32) (v230 : BitVec 32) (k0_hw3 : k0_chk3 v2 v230), ∀ (k0_h1 : k0_cond1 v2 = 1#1), ∀ a, (k0_off8 v230) a + S1x1024.size a ≤ S16384x1024.size a := fun v2 v230 k0_hw3 k0_h1 => k0_hw3 k0_h1

def k0_off9 (v2 : BitVec 32) (k0_t3 : Fin (k0_t3_loop v2).trips) : Fin 2 → Nat :=
  let c0_i32_183 : BitVec 32 := 0#32
  let c1_i32_185 : BitVec 32 := 1#32
  let arg13 : BitVec 32 := Scf.iv c0_i32_183 c1_i32_185 k0_t3
  let c0_i32_193 : BitVec 32 := 0#32
  ![arg13.toNat, 0]
@[reducible] def k0_t4_loop (v2 : BitVec 32) : Scf.Loop 32 :=
  let c0_i32_183 : BitVec 32 := 0#32
  let v218 : BitVec 32 := Scalar.subi v2 c0_i32_183
  let c1_i32_184 : BitVec 32 := 1#32
  let v220 : BitVec 32 := Scalar.divsi v218 c1_i32_184
  let v221 : BitVec 32 := Scalar.muli v220 c1_i32_184
  let v222 : BitVec 32 := Scalar.addi c0_i32_183 v221
  let v219 : BitVec 32 := Scalar.addi c0_i32_183 v218
  let c1_i32_186 : BitVec 32 := 1#32
  ⟨v222, v219, c1_i32_186⟩
def k0_off10 (i : grid0.Coords) (v2 : BitVec 32) (k0_t4 : Fin (k0_t4_loop v2).trips) : Fin 1 → Nat :=
  let arg0 : BitVec 32 := BitVec.ofNat 32 (i 0).val
  let c256_i32 : BitVec 32 := 256#32
  let v0 : BitVec 32 := Scalar.muli arg0 c256_i32
  let c0_i32_183 : BitVec 32 := 0#32
  let v218 : BitVec 32 := Scalar.subi v2 c0_i32_183
  let c1_i32_184 : BitVec 32 := 1#32
  let v220 : BitVec 32 := Scalar.divsi v218 c1_i32_184
  let v221 : BitVec 32 := Scalar.muli v220 c1_i32_184
  let v222 : BitVec 32 := Scalar.addi c0_i32_183 v221
  let c1_i32_186 : BitVec 32 := 1#32
  let arg13 : BitVec 32 := Scf.iv v222 c1_i32_186 k0_t4
  let v228 : BitVec 32 := Scalar.addi v0 arg13
  let v229 : Index := Scalar.indexCast v228
  ![v229.toNat]
def k0_off11 (v230 : BitVec 32) : Fin 2 → Nat :=
  let c0_i32_192 : BitVec 32 := 0#32
  ![v230.toNat, 0]

def k0_chk4 (v2 : BitVec 32) (v230 : BitVec 32) : Prop :=
  (∀ (k0_h1 : k0_cond1 v2 = 1#1), ∀ a, (k0_off11 v230) a + S1x1024.size a ≤ S16384x1024.size a)
theorem k0_off11_inb : ∀ (v2 : BitVec 32) (v230 : BitVec 32) (k0_hw4 : k0_chk4 v2 v230), ∀ (k0_h1 : k0_cond1 v2 = 1#1), ∀ a, (k0_off11 v230) a + S1x1024.size a ≤ S16384x1024.size a := fun v2 v230 k0_hw4 k0_h1 => k0_hw4 k0_h1

def k0_off12 (v2 : BitVec 32) (k0_t4 : Fin (k0_t4_loop v2).trips) : Fin 2 → Nat :=
  let c0_i32_183 : BitVec 32 := 0#32
  let v218 : BitVec 32 := Scalar.subi v2 c0_i32_183
  let c1_i32_184 : BitVec 32 := 1#32
  let v220 : BitVec 32 := Scalar.divsi v218 c1_i32_184
  let v221 : BitVec 32 := Scalar.muli v220 c1_i32_184
  let v222 : BitVec 32 := Scalar.addi c0_i32_183 v221
  let c1_i32_186 : BitVec 32 := 1#32
  let arg13 : BitVec 32 := Scf.iv v222 c1_i32_186 k0_t4
  let c0_i32_193 : BitVec 32 := 0#32
  ![arg13.toNat, 0]
@[reducible] def k0_t5_loop (v2 : BitVec 32) : Scf.Loop 32 :=
  let c0_i32_188 : BitVec 32 := 0#32
  let v223 : BitVec 32 := Scalar.subi v2 c0_i32_188
  let c1_i32_189 : BitVec 32 := 1#32
  let v225 : BitVec 32 := Scalar.divsi v223 c1_i32_189
  let v226 : BitVec 32 := Scalar.muli v225 c1_i32_189
  let v227 : BitVec 32 := Scalar.addi c0_i32_188 v226
  let c1_i32_190 : BitVec 32 := 1#32
  ⟨c0_i32_188, v227, c1_i32_190⟩
def k0_off13 (v2 : BitVec 32) (k0_t5 : Fin (k0_t5_loop v2).trips) : Fin 2 → Nat :=
  let c0_i32_188 : BitVec 32 := 0#32
  let c1_i32_190 : BitVec 32 := 1#32
  let arg13 : BitVec 32 := Scf.iv c0_i32_188 c1_i32_190 k0_t5
  let c0_i32_194 : BitVec 32 := 0#32
  ![arg13.toNat, 0]
@[reducible] def k0_t6_loop (v2 : BitVec 32) : Scf.Loop 32 :=
  let c0_i32_188 : BitVec 32 := 0#32
  let v223 : BitVec 32 := Scalar.subi v2 c0_i32_188
  let c1_i32_189 : BitVec 32 := 1#32
  let v225 : BitVec 32 := Scalar.divsi v223 c1_i32_189
  let v226 : BitVec 32 := Scalar.muli v225 c1_i32_189
  let v227 : BitVec 32 := Scalar.addi c0_i32_188 v226
  let v224 : BitVec 32 := Scalar.addi c0_i32_188 v223
  let c1_i32_191 : BitVec 32 := 1#32
  ⟨v227, v224, c1_i32_191⟩
def k0_off14 (v2 : BitVec 32) (k0_t6 : Fin (k0_t6_loop v2).trips) : Fin 2 → Nat :=
  let c0_i32_188 : BitVec 32 := 0#32
  let v223 : BitVec 32 := Scalar.subi v2 c0_i32_188
  let c1_i32_189 : BitVec 32 := 1#32
  let v225 : BitVec 32 := Scalar.divsi v223 c1_i32_189
  let v226 : BitVec 32 := Scalar.muli v225 c1_i32_189
  let v227 : BitVec 32 := Scalar.addi c0_i32_188 v226
  let c1_i32_191 : BitVec 32 := 1#32
  let arg13 : BitVec 32 := Scf.iv v227 c1_i32_191 k0_t6
  let c0_i32_194 : BitVec 32 := 0#32
  ![arg13.toNat, 0]

def k0_chk2 (i : grid0.Coords) (v2 : BitVec 32) : Prop :=
  (∀ (k0_h1 : k0_cond1 v2 = 1#1), (k0_t3_loop v2).OK) ∧
  (∀ k0_t3 : Fin (k0_t3_loop v2).trips, ∀ (k0_h1 : k0_cond1 v2 = 1#1), ∀ a, (k0_off7 i v2 k0_t3) a + S1.size a ≤ S17408.size a) ∧
  (∀ k0_t3 : Fin (k0_t3_loop v2).trips, ∀ (k0_h1 : k0_cond1 v2 = 1#1), ∀ a, (k0_off9 v2 k0_t3) a + S1x1024.size a ≤ S256x1024.size a) ∧
  (∀ (k0_h1 : k0_cond1 v2 = 1#1), (k0_t4_loop v2).OK) ∧
  (∀ k0_t4 : Fin (k0_t4_loop v2).trips, ∀ (k0_h1 : k0_cond1 v2 = 1#1), ∀ a, (k0_off10 i v2 k0_t4) a + S1.size a ≤ S17408.size a) ∧
  (∀ k0_t4 : Fin (k0_t4_loop v2).trips, ∀ (k0_h1 : k0_cond1 v2 = 1#1), ∀ a, (k0_off12 v2 k0_t4) a + S1x1024.size a ≤ S256x1024.size a) ∧
  (∀ (k0_h1 : k0_cond1 v2 = 1#1), (k0_t5_loop v2).OK) ∧
  (∀ k0_t5 : Fin (k0_t5_loop v2).trips, ∀ (k0_h1 : k0_cond1 v2 = 1#1), ∀ a, (k0_off13 v2 k0_t5) a + S1x1024.size a ≤ S256x1024.size a) ∧
  (∀ (k0_h1 : k0_cond1 v2 = 1#1), (k0_t6_loop v2).OK) ∧
  (∀ k0_t6 : Fin (k0_t6_loop v2).trips, ∀ (k0_h1 : k0_cond1 v2 = 1#1), ∀ a, (k0_off14 v2 k0_t6) a + S1x1024.size a ≤ S256x1024.size a)
theorem k0_t3_ok : ∀ (i : grid0.Coords) (v2 : BitVec 32) (k0_hw2 : k0_chk2 i v2), ∀ (k0_h1 : k0_cond1 v2 = 1#1), (k0_t3_loop v2).OK := fun i v2 k0_hw2 k0_h1 => k0_hw2.1 k0_h1
theorem k0_off7_inb : ∀ (i : grid0.Coords) (v2 : BitVec 32) (k0_hw2 : k0_chk2 i v2) (k0_t3 : Fin (k0_t3_loop v2).trips), ∀ (k0_h1 : k0_cond1 v2 = 1#1), ∀ a, (k0_off7 i v2 k0_t3) a + S1.size a ≤ S17408.size a := fun i v2 k0_hw2 k0_t3 k0_h1 => k0_hw2.2.1 k0_t3 k0_h1
theorem k0_off9_inb : ∀ (i : grid0.Coords) (v2 : BitVec 32) (k0_hw2 : k0_chk2 i v2) (k0_t3 : Fin (k0_t3_loop v2).trips), ∀ (k0_h1 : k0_cond1 v2 = 1#1), ∀ a, (k0_off9 v2 k0_t3) a + S1x1024.size a ≤ S256x1024.size a := fun i v2 k0_hw2 k0_t3 k0_h1 => k0_hw2.2.2.1 k0_t3 k0_h1
theorem k0_t4_ok : ∀ (i : grid0.Coords) (v2 : BitVec 32) (k0_hw2 : k0_chk2 i v2), ∀ (k0_h1 : k0_cond1 v2 = 1#1), (k0_t4_loop v2).OK := fun i v2 k0_hw2 k0_h1 => k0_hw2.2.2.2.1 k0_h1
theorem k0_off10_inb : ∀ (i : grid0.Coords) (v2 : BitVec 32) (k0_hw2 : k0_chk2 i v2) (k0_t4 : Fin (k0_t4_loop v2).trips), ∀ (k0_h1 : k0_cond1 v2 = 1#1), ∀ a, (k0_off10 i v2 k0_t4) a + S1.size a ≤ S17408.size a := fun i v2 k0_hw2 k0_t4 k0_h1 => k0_hw2.2.2.2.2.1 k0_t4 k0_h1
theorem k0_off12_inb : ∀ (i : grid0.Coords) (v2 : BitVec 32) (k0_hw2 : k0_chk2 i v2) (k0_t4 : Fin (k0_t4_loop v2).trips), ∀ (k0_h1 : k0_cond1 v2 = 1#1), ∀ a, (k0_off12 v2 k0_t4) a + S1x1024.size a ≤ S256x1024.size a := fun i v2 k0_hw2 k0_t4 k0_h1 => k0_hw2.2.2.2.2.2.1 k0_t4 k0_h1
theorem k0_t5_ok : ∀ (i : grid0.Coords) (v2 : BitVec 32) (k0_hw2 : k0_chk2 i v2), ∀ (k0_h1 : k0_cond1 v2 = 1#1), (k0_t5_loop v2).OK := fun i v2 k0_hw2 k0_h1 => k0_hw2.2.2.2.2.2.2.1 k0_h1
theorem k0_off13_inb : ∀ (i : grid0.Coords) (v2 : BitVec 32) (k0_hw2 : k0_chk2 i v2) (k0_t5 : Fin (k0_t5_loop v2).trips), ∀ (k0_h1 : k0_cond1 v2 = 1#1), ∀ a, (k0_off13 v2 k0_t5) a + S1x1024.size a ≤ S256x1024.size a := fun i v2 k0_hw2 k0_t5 k0_h1 => k0_hw2.2.2.2.2.2.2.2.1 k0_t5 k0_h1
theorem k0_t6_ok : ∀ (i : grid0.Coords) (v2 : BitVec 32) (k0_hw2 : k0_chk2 i v2), ∀ (k0_h1 : k0_cond1 v2 = 1#1), (k0_t6_loop v2).OK := fun i v2 k0_hw2 k0_h1 => k0_hw2.2.2.2.2.2.2.2.2.1 k0_h1
theorem k0_off14_inb : ∀ (i : grid0.Coords) (v2 : BitVec 32) (k0_hw2 : k0_chk2 i v2) (k0_t6 : Fin (k0_t6_loop v2).trips), ∀ (k0_h1 : k0_cond1 v2 = 1#1), ∀ a, (k0_off14 v2 k0_t6) a + S1x1024.size a ≤ S256x1024.size a := fun i v2 k0_hw2 k0_t6 k0_h1 => k0_hw2.2.2.2.2.2.2.2.2.2 k0_t6 k0_h1

def cc0_transform_1 (k0_off1_inb : ∀ i : grid0.Coords, ∀ a, (k0_off1 i) a + S1.size a ≤ S68.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 1 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc0_transform_2 (k0_off1_inb : ∀ i : grid0.Coords, ∀ a, (k0_off1 i) a + S1.size a ≤ S68.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 1 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc0_transform_3 (k0_off1_inb : ∀ i : grid0.Coords, ∀ a, (k0_off1 i) a + S1.size a ≤ S68.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 1 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

abbrev stage0_0 : Fin 2 → Memref sig .tc .vmem S1x1x8x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MoeRefIdeal.lean ====
abbrev S16384x1152 : Shape := ⟨2, ![16384, 1152]⟩
abbrev S17408 : Shape := ⟨1, ![17408]⟩
abbrev S68 : Shape := ⟨1, ![68]⟩
abbrev S4x4x8x1024x256 : Shape := ⟨5, ![4, 4, 8, 1024, 256]⟩
abbrev S4x4x8x256x1024 : Shape := ⟨5, ![4, 4, 8, 256, 1024]⟩
abbrev S16384x1024 : Shape := ⟨2, ![16384, 1024]⟩
abbrev S256 : Shape := ⟨1, ![256]⟩
abbrev S1x256 : Shape := ⟨2, ![1, 256]⟩
abbrev S68x1 : Shape := ⟨2, ![68, 1]⟩
abbrev S68x256 : Shape := ⟨2, ![68, 256]⟩
abbrev S68x256x1 : Shape := ⟨3, ![68, 256, 1]⟩
abbrev S16384 : Shape := ⟨1, ![16384]⟩
abbrev S1x1x16384 : Shape := ⟨3, ![1, 1, 16384]⟩
abbrev S68x256x16384 : Shape := ⟨3, ![68, 256, 16384]⟩
abbrev S68x1x1 : Shape := ⟨3, ![68, 1, 1]⟩
abbrev S_ : Shape := ⟨0, ![]⟩
abbrev S16384x32 : Shape := ⟨2, ![16384, 32]⟩
abbrev S16384x4x8 : Shape := ⟨3, ![16384, 4, 8]⟩
abbrev S16384x1x1 : Shape := ⟨3, ![16384, 1, 1]⟩
abbrev S4 : Shape := ⟨1, ![4]⟩
abbrev S1x4x1 : Shape := ⟨3, ![1, 4, 1]⟩
abbrev S16384x4x1 : Shape := ⟨3, ![16384, 4, 1]⟩
abbrev S1x4x8x1024x256 : Shape := ⟨5, ![1, 4, 8, 1024, 256]⟩
abbrev S4x8x1024x256 : Shape := ⟨4, ![4, 8, 1024, 256]⟩
abbrev S32x1024x256 : Shape := ⟨3, ![32, 1024, 256]⟩
abbrev S1x4x8x256x1024 : Shape := ⟨5, ![1, 4, 8, 256, 1024]⟩
abbrev S4x8x256x1024 : Shape := ⟨4, ![4, 8, 256, 1024]⟩
abbrev S32x256x1024 : Shape := ⟨3, ![32, 256, 1024]⟩
abbrev S16384x32x256 : Shape := ⟨3, ![16384, 32, 256]⟩
abbrev S16384x32x1 : Shape := ⟨3, ![16384, 32, 1]⟩
abbrev S32x1024x16384 : Shape := ⟨3, ![32, 1024, 16384]⟩
abbrev S16384x32x1024 : Shape := ⟨3, ![16384, 32, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x1152, .f32⟩
  | .hbm, ⟨1, _⟩ => ⟨S17408, .i32⟩
  | .hbm, ⟨2, _⟩ => ⟨S68, .i32⟩
  | .hbm, ⟨3, _⟩ => ⟨S68, .i32⟩
  | .hbm, ⟨4, _⟩ => ⟨S4x4x8x1024x256, .bf16⟩
  | .hbm, ⟨5, _⟩ => ⟨S4x4x8x1024x256, .bf16⟩
  | .hbm, ⟨6, _⟩ => ⟨S4x4x8x256x1024, .bf16⟩
  | .hbm, ⟨7, _⟩ => ⟨S16384x1024, .f32⟩
  | .hbm, ⟨8, _⟩ => ⟨S256, .i32⟩
  | .hbm, ⟨9, _⟩ => ⟨S1x256, .i32⟩
  | .hbm, ⟨10, _⟩ => ⟨S68x1, .i32⟩
  | .hbm, ⟨11, _⟩ => ⟨S68x256, .i32⟩
  | .hbm, ⟨12, _⟩ => ⟨S68x256, .i32⟩
  | .hbm, ⟨13, _⟩ => ⟨S68x256, .i1⟩
  | .hbm, ⟨14, _⟩ => ⟨S68x256, .i32⟩
  | .hbm, ⟨15, _⟩ => ⟨S68x256x1, .i32⟩
  | .hbm, ⟨16, _⟩ => ⟨S16384, .i32⟩
  | .hbm, ⟨17, _⟩ => ⟨S1x1x16384, .i32⟩
  | .hbm, ⟨18, _⟩ => ⟨S68x256x16384, .i32⟩
  | .hbm, ⟨19, _⟩ => ⟨S68x256x16384, .i32⟩
  | .hbm, ⟨20, _⟩ => ⟨S68x256x16384, .i1⟩
  | .hbm, ⟨21, _⟩ => ⟨S68x256x1, .i1⟩
  | .hbm, ⟨22, _⟩ => ⟨S68x256x16384, .i1⟩
  | .hbm, ⟨23, _⟩ => ⟨S68x256x16384, .i1⟩
  | .hbm, ⟨24, _⟩ => ⟨S68x1x1, .i32⟩
  | .hbm, ⟨25, _⟩ => ⟨S_, .i32⟩
  | .hbm, ⟨26, _⟩ => ⟨S_, .i32⟩
  | .hbm, ⟨27, _⟩ => ⟨S68x256x16384, .i32⟩
  | .hbm, ⟨28, _⟩ => ⟨S68x256x16384, .i32⟩
  | .hbm, ⟨29, _⟩ => ⟨S68x256x16384, .i32⟩
  | .hbm, ⟨30, _⟩ => ⟨S_, .i32⟩
  | .hbm, ⟨31, _⟩ => ⟨S16384, .i32⟩
  | .hbm, ⟨32, _⟩ => ⟨S16384x32, .f32⟩
  | .hbm, ⟨33, _⟩ => ⟨S16384x4x8, .f32⟩
  | .hbm, ⟨34, _⟩ => ⟨S16384x1x1, .i32⟩
  | .hbm, ⟨35, _⟩ => ⟨S4, .i32⟩
  | .hbm, ⟨36, _⟩ => ⟨S1x4x1, .i32⟩
  | .hbm, ⟨37, _⟩ => ⟨S16384x4x1, .i32⟩
  | .hbm, ⟨38, _⟩ => ⟨S16384x4x1, .i32⟩
  | .hbm, ⟨39, _⟩ => ⟨S16384x4x1, .i1⟩
  | .hbm, ⟨40, _⟩ => ⟨S_, .f32⟩
  | .hbm, ⟨41, _⟩ => ⟨S_, .f32⟩
  | .hbm, ⟨42, _⟩ => ⟨S16384x4x8, .i1⟩
  | .hbm, ⟨43, _⟩ => ⟨S16384x4x8, .f32⟩
  | .hbm, ⟨44, _⟩ => ⟨S16384x4x8, .f32⟩
  | .hbm, ⟨45, _⟩ => ⟨S16384x32, .f32⟩
  | .hbm, ⟨46, _⟩ => ⟨S1x4x8x1024x256, .bf16⟩
  | .hbm, ⟨47, _⟩ => ⟨S4x8x1024x256, .bf16⟩
  | .hbm, ⟨48, _⟩ => ⟨S4x8x1024x256, .f32⟩
  | .hbm, ⟨49, _⟩ => ⟨S32x1024x256, .f32⟩
  | .hbm, ⟨50, _⟩ => ⟨S1x4x8x1024x256, .bf16⟩
  | .hbm, ⟨51, _⟩ => ⟨S4x8x1024x256, .bf16⟩
  | .hbm, ⟨52, _⟩ => ⟨S4x8x1024x256, .f32⟩
  | .hbm, ⟨53, _⟩ => ⟨S32x1024x256, .f32⟩
  | .hbm, ⟨54, _⟩ => ⟨S1x4x8x256x1024, .bf16⟩
  | .hbm, ⟨55, _⟩ => ⟨S4x8x256x1024, .bf16⟩
  | .hbm, ⟨56, _⟩ => ⟨S4x8x256x1024, .f32⟩
  | .hbm, ⟨57, _⟩ => ⟨S32x256x1024, .f32⟩
  | .hbm, ⟨58, _⟩ => ⟨S16384x32x256, .f32⟩
  | .hbm, ⟨59, _⟩ => ⟨S16384x32x256, .f32⟩
  | .hbm, ⟨60, _⟩ => ⟨S16384x32x256, .f32⟩
  | .hbm, ⟨61, _⟩ => ⟨S_, .f32⟩
  | .hbm, ⟨62, _⟩ => ⟨S16384x32x256, .f32⟩
  | .hbm, ⟨63, _⟩ => ⟨S16384x32x256, .f32⟩
  | .hbm, ⟨64, _⟩ => ⟨S_, .f32⟩
  | .hbm, ⟨65, _⟩ => ⟨S16384x32x256, .f32⟩
  | .hbm, ⟨66, _⟩ => ⟨S16384x32x256, .f32⟩
  | .hbm, ⟨67, _⟩ => ⟨S16384x32x256, .f32⟩
  | .hbm, ⟨68, _⟩ => ⟨S16384x32x256, .f32⟩
  | .hbm, ⟨69, _⟩ => ⟨S16384x32x256, .f32⟩
  | .hbm, ⟨70, _⟩ => ⟨S16384x32x1, .f32⟩
  | .hbm, ⟨71, _⟩ => ⟨S32x1024x16384, .f32⟩
  | .hbm, ⟨72, _⟩ => ⟨S16384x32x1024, .f32⟩
  | .hbm, ⟨73, _⟩ => ⟨S16384x32x1024, .f32⟩
  | .hbm, ⟨74, _⟩ => ⟨S16384x32x1024, .f32⟩
  | .hbm, ⟨75, _⟩ => ⟨S_, .f32⟩
  | .hbm, ⟨76, _⟩ => ⟨S16384x1024, .f32⟩
  | _, _ => ⟨S16384x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_c_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_1 : Ref sig .tc := ⟨.hbm, 75, rfl⟩
abbrev main_v51 : Ref sig .tc := ⟨.hbm, 76, rfl⟩

abbrev nD : Nat := 1
abbrev τ : Topo := Topo.v7x

variable {F : FTy → Type} [FloatOps F]
-- ==== FinalLn.lean ====
abbrev S16384x1024 : Shape := ⟨2, ![16384, 1024]⟩
abbrev S2x1x6144 : Shape := ⟨3, ![2, 1, 6144]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1x6144, .f32⟩
  | .hbm, ⟨3, _⟩ => ⟨S1x1024, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinalLnIdeal.lean ====
variable {F : FTy → Type} [FloatOps F] [Named F]
def κ : String → Option EReal := fun
  | "alpha" => some ((Real.sqrt (Real.sqrt 8) : ℝ) : EReal)
  | _ => none
-- ==== FinalLnRefIdeal.lean ====
abbrev S16384x1024 : Shape := ⟨2, ![16384, 1024]⟩
abbrev S2x1x6144 : Shape := ⟨3, ![2, 1, 6144]⟩
abbrev S1x1024 : Shape := ⟨2, ![1, 1024]⟩
abbrev S2x1x1024 : Shape := ⟨3, ![2, 1, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1x6144, .f32⟩
  | .hbm, ⟨3, _⟩ => ⟨S1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x8192x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x8192, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1, .f32⟩
  | .hbm, ⟨45, _⟩ => ⟨S2x8192x1024, .f32⟩
  | .hbm, ⟨46, _⟩ => ⟨S2x8192x1024, .f32⟩
  | .hbm, ⟨47, _⟩ => ⟨S1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Adaln.lean ====
abbrev S136x1024 : Shape := ⟨2, ![136, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x136x6144 : Shape := ⟨3, ![4, 136, 6144]⟩
abbrev S1x1024x1536 : Shape := ⟨3, ![1, 1024, 1536]⟩
abbrev S1x1x1536 : Shape := ⟨3, ![1, 1, 1536]⟩
abbrev S1x136x1536 : Shape := ⟨3, ![1, 136, 1536]⟩
abbrev S1024x1536 : Shape := ⟨2, ![1024, 1536]⟩
abbrev S136x1536 : Shape := ⟨2, ![136, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S136x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x136x6144, .f32⟩
  | .local _ .vmem, ⟨0, _⟩ => ⟨S136x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x136x1536, .f32⟩
  | .local _ .vmem, ⟨6, _⟩ => ⟨S1x136x1536, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnRefIdeal.lean ====
abbrev S136x1024 : Shape := ⟨2, ![136, 1024]⟩
abbrev S4x1024x6144 : Shape := ⟨3, ![4, 1024, 6144]⟩
abbrev S4x6144 : Shape := ⟨2, ![4, 6144]⟩
abbrev S_ : Shape := ⟨0, ![]⟩
abbrev S4x6144x136 : Shape := ⟨3, ![4, 6144, 136]⟩
abbrev S4x136x6144 : Shape := ⟨3, ![4, 136, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S4x1024x6144, .f32⟩
  | .hbm, ⟨2, _⟩ => ⟨S4x6144, .f32⟩
  | .hbm, ⟨3, _⟩ => ⟨S136x1024, .f32⟩
  | .hbm, ⟨4, _⟩ => ⟨S136x1024, .f32⟩
  | .hbm, ⟨5, _⟩ => ⟨S_, .f32⟩
  | .hbm, ⟨6, _⟩ => ⟨S136x1024, .f32⟩
  | .hbm, ⟨7, _⟩ => ⟨S136x1024, .f32⟩
  | .hbm, ⟨8, _⟩ => ⟨S_, .f32⟩
  | .hbm, ⟨9, _⟩ => ⟨S136x1024, .f32⟩
  | .hbm, ⟨10, _⟩ => ⟨S136x1024, .f32⟩
  | .hbm, ⟨11, _⟩ => ⟨S136x1024, .f32⟩
  | .hbm, ⟨12, _⟩ => ⟨S4x6144x136, .f32⟩
  | .hbm, ⟨13, _⟩ => ⟨S4x136x6144, .f32⟩
  | .hbm, ⟨14, _⟩ => ⟨S4x1x6144, .f32⟩
  | .hbm, ⟨15, _⟩ => ⟨S4x136x6144, .f32⟩
  | .hbm, ⟨16, _⟩ => ⟨S4x136x6144, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Conv.lean ====
abbrev S2x8192x512 : Shape := ⟨3, ![2, 8192, 512]⟩
abbrev S2x2x512 : Shape := ⟨3, ![2, 2, 512]⟩
abbrev S3x512 : Shape := ⟨2, ![3, 512]⟩
abbrev S1x512x512 : Shape := ⟨3, ![1, 512, 512]⟩
abbrev S1x2x512 : Shape := ⟨3, ![1, 2, 512]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x2x512, .f32⟩
  | .hbm, ⟨3, _⟩ => ⟨S3x512, .f32⟩
  | .hbm, ⟨4, _⟩ => ⟨S2x8192x512, .f32⟩
  | .hbm, ⟨5, _⟩ => ⟨S2x2x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x2x512, .f32⟩
  | .local _ .vmem, ⟨5, _⟩ => ⟨S1x2x512, .f32⟩
  | .local _ .vmem, ⟨6, _⟩ => ⟨S3x512, .f32⟩
  | .local _ .vmem, ⟨7, _⟩ => ⟨S1x512x512, .f32⟩
  | .local _ .vmem, ⟨8, _⟩ => ⟨S1x512x512, .f32⟩
  | .local _ .vmem, ⟨9, _⟩ => ⟨S1x2x512, .f32⟩
  | .local _ .vmem, ⟨10, _⟩ => ⟨S1x2x512, .f32⟩
  | .local _ .vmem, ⟨11, _⟩ => ⟨S1x2x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ConvRefIdeal.lean ====
abbrev S2x8192x512 : Shape := ⟨3, ![2, 8192, 512]⟩
abbrev S2x2x512 : Shape := ⟨3, ![2, 2, 512]⟩
abbrev S3x512 : Shape := ⟨2, ![3, 512]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x2x512, .f32⟩
  | .hbm, ⟨3, _⟩ => ⟨S3x512, .f32⟩
  | .hbm, ⟨4, _⟩ => ⟨S2x8194x512, .f32⟩
  | .hbm, ⟨5, _⟩ => ⟨S1x512, .f32⟩
  | .hbm, ⟨6, _⟩ => ⟨S512, .f32⟩
  | .hbm, ⟨7, _⟩ => ⟨S2x8192x512, .f32⟩
  | .hbm, ⟨8, _⟩ => ⟨S1x1x512, .f32⟩
  | .hbm, ⟨9, _⟩ => ⟨S2x8192x512, .f32⟩
  | .hbm, ⟨10, _⟩ => ⟨S2x8192x512, .f32⟩
  | .hbm, ⟨11, _⟩ => ⟨S_, .f32⟩
  | .hbm, ⟨12, _⟩ => ⟨S2x8192x512, .f32⟩
  | .hbm, ⟨13, _⟩ => ⟨S2x8192x512, .f32⟩
  | .hbm, ⟨14, _⟩ => ⟨S1x512, .f32⟩
  | .hbm, ⟨15, _⟩ => ⟨S512, .f32⟩
  | .hbm, ⟨16, _⟩ => ⟨S2x8192x512, .f32⟩
  | .hbm, ⟨17, _⟩ => ⟨S1x1x512, .f32⟩
  | .hbm, ⟨18, _⟩ => ⟨S2x8192x512, .f32⟩
  | .hbm, ⟨19, _⟩ => ⟨S2x8192x512, .f32⟩
  | .hbm, ⟨20, _⟩ => ⟨S2x8192x512, .f32⟩
  | .hbm, ⟨21, _⟩ => ⟨S1x512, .f32⟩
  | .hbm, ⟨22, _⟩ => ⟨S512, .f32⟩
  | .hbm, ⟨23, _⟩ => ⟨S2x8192x512, .f32⟩
  | .hbm, ⟨24, _⟩ => ⟨S1x1x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x512, .f32⟩
  | .hbm, ⟨29, _⟩ => ⟨S2x2x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== GateSums.lean ====
abbrev S16384x128 : Shape := ⟨2, ![16384, 128]⟩
abbrev S16384x8 : Shape := ⟨2, ![16384, 8]⟩
abbrev S2x8x8192 : Shape := ⟨3, ![2, 8, 8192]⟩
abbrev S512x128 : Shape := ⟨2, ![512, 128]⟩
abbrev S512x8 : Shape := ⟨2, ![512, 8]⟩
abbrev S1x8x512 : Shape := ⟨3, ![1, 8, 512]⟩
abbrev S1x128 : Shape := ⟨2, ![1, 128]⟩
abbrev S512x512 : Shape := ⟨2, ![512, 512]⟩
abbrev S8x128 : Shape := ⟨2, ![8, 128]⟩
abbrev S8x512 : Shape := ⟨2, ![8, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x8, .f32⟩
  | .hbm, ⟨2, _⟩ => ⟨S16384x128, .f32⟩
  | .hbm, ⟨3, _⟩ => ⟨S2x8x8192, .f32⟩
  | .local _ .vmem, ⟨0, _⟩ => ⟨S512x128, .f32⟩
  | .local _ .vmem, ⟨1, _⟩ => ⟨S512x128, .f32⟩
  | .local _ .vmem, ⟨2, _⟩ => ⟨S512x8, .f32⟩
  | .local _ .vmem, ⟨3, _⟩ => ⟨S512x8, .f32⟩
  | .local _ .vmem, ⟨4, _⟩ => ⟨S512x128, .f32⟩
  | .local _ .vmem, ⟨5, _⟩ => ⟨S512x128, .f32⟩
  | .local _ .vmem, ⟨6, _⟩ => ⟨S1x8x512, .f32⟩
  | .local _ .vmem, ⟨7, _⟩ => ⟨S1x8x512, .f32⟩
  | .local _ .vmem, ⟨8, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateSumsRefIdeal.lean ====
abbrev S16384x128 : Shape := ⟨2, ![16384, 128]⟩
abbrev S2x8192x128 : Shape := ⟨3, ![2, 8192, 128]⟩
abbrev S_ : Shape := ⟨0, ![]⟩
abbrev S16384x8 : Shape := ⟨2, ![16384, 8]⟩
abbrev S2x8192x8 : Shape := ⟨3, ![2, 8192, 8]⟩
abbrev S2x8x8192 : Shape := ⟨3, ![2, 8, 8192]⟩

abbrev nBuf : Space → Nat
  | .hbm => 9
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x8192x128, .f32⟩
  | .hbm, ⟨2, _⟩ => ⟨S_, .f32⟩
  | .hbm, ⟨3, _⟩ => ⟨S_, .f32⟩
  | .hbm, ⟨4, _⟩ => ⟨S2x8192x128, .f32⟩
  | .hbm, ⟨5, _⟩ => ⟨S16384x8, .f32⟩
  | .hbm, ⟨6, _⟩ => ⟨S16384x128, .f32⟩
  | .hbm, ⟨7, _⟩ => ⟨S2x8192x8, .f32⟩
  | .hbm, ⟨8, _⟩ => ⟨S2x8x8192, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.OnlineSoftmax.lean ====
/- The mathematics of the one-pass softmax over the extended reals, with no kernel in it.

   A row of scores `s 0, s 1, …` is read in blocks. After the first `n` scores the kernel holds their maximum
   (`top s n`), the sum of their exponentials taken off that maximum (`mass s n`), and the same sum with each
   exponential times a value (`dot s v n`). This file proves that a block of `B` further scores moves those three by
   the kernel's update (`top_add`, `mass_add`, `dot_add`), that scores of `⊥` past `n` change nothing
   (`top_eq_of_bot`, …), and that dividing once at the end is weighing each value by its softmax (`dot_div_mass`). -/
module

public import Idealize.ShloMosaic.PureOps.Ideal.Laws

@[expose] public section

noncomputable section

namespace Cert.Softmax

open Idealize.ShloMosaic Finset

/-- The largest of the first `n` scores (`⊥` of none). -/
def top (s : ℕ → EReal) (n : ℕ) : EReal := (range n).sup s

/-- The first `n` scores' exponentials, taken off their maximum, summed. -/
def mass (s : ℕ → EReal) (n : ℕ) : EReal := ∑ k ∈ range n, Ideal.exp (s k - top s n)

/-- The first `n` values weighed by their scores' exponentials, taken off the maximum, summed. -/
def dot (s v : ℕ → EReal) (n : ℕ) : EReal := ∑ k ∈ range n, Ideal.exp (s k - top s n) * v k

theorem top_zero (s : ℕ → EReal) : top s 0 = ⊥ := rfl
theorem mass_zero (s : ℕ → EReal) : mass s 0 = 0 := rfl
theorem dot_zero (s v : ℕ → EReal) : dot s v 0 = 0 := rfl

/-! ## The exponential -/

theorem exp_bot : Ideal.exp ⊥ = 0 := rfl
theorem exp_coe (r : ℝ) : Ideal.exp (r : EReal) = ((Real.exp r : ℝ) : EReal) := rfl

/-- An exponential is not negative. -/
theorem exp_nonneg (x : EReal) : 0 ≤ Ideal.exp x := by
  induction x with
  | bot => exact le_refl _
  | top => exact le_top
  | coe r => exact EReal.coe_nonneg.2 (Real.exp_pos r).le

/-- Below `⊤` an exponential is a real. -/
theorem exp_ne_top {x : EReal} (h : x ≠ ⊤) : Ideal.exp x ≠ ⊤ := by
  induction x with
  | bot => exact EReal.zero_ne_top
  | top => exact absurd rfl h
  | coe r => exact EReal.coe_ne_top _

/-- The difference of two scores in order is not `⊤`. -/
theorem sub_ne_top {a b : EReal} (h : a ≤ b) : a - b ≠ ⊤ := by
  induction b with
  | bot => rw [le_bot_iff.1 h]; simp
  | top => simp [EReal.sub_top]
  | coe r =>
    induction a with
    | bot => simp
    | top => exact absurd h (by simp)
    | coe q => rw [← EReal.coe_sub]; exact EReal.coe_ne_top _

/-- Moving the exponential of a score from one maximum to a later one, at the infinities too. -/
theorem exp_shift {s a b : EReal} (hsa : s ≤ a) (hab : a ≤ b) :
    Ideal.exp (a - b) * Ideal.exp (s - a) = Ideal.exp (s - b) := by
  induction s with
  | bot => rw [EReal.bot_sub, EReal.bot_sub, exp_bot, mul_zero]
  | top =>
    obtain rfl : a = ⊤ := top_le_iff.1 hsa
    obtain rfl : b = ⊤ := top_le_iff.1 hab
    rw [EReal.sub_top, exp_bot, zero_mul]
  | coe x =>
    induction a with
    | bot => exact absurd hsa (by simp)
    | top =>
      obtain rfl : b = ⊤ := top_le_iff.1 hab
      rw [EReal.sub_top, EReal.sub_top, exp_bot, zero_mul]
    | coe y =>
      induction b with
      | bot => exact absurd hab (by simp)
      | top => rw [EReal.sub_top, EReal.sub_top, exp_bot, zero_mul]
      | coe z =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2; ring

/-! ## Sums and a factor that is a real and not negative -/

/-- Such a factor goes into a sum. -/
theorem mul_sum_of_nonneg {ι : Type*} (t : Finset ι) {c : EReal} (h0 : 0 ≤ c) (ht : c ≠ ⊤) (f : ι → EReal) :
    c * ∑ k ∈ t, f k = ∑ k ∈ t, c * f k := by
  classical
  induction t using Finset.induction_on with
  | empty => simp
  | insert a t ha ih => rw [sum_insert ha, sum_insert ha, EReal.left_distrib_of_nonneg_of_ne_top h0 ht, ih]

/-! ## One block more -/

theorem top_add (s : ℕ → EReal) (n B : ℕ) :
    top s (n + B) = max (top s n) ((univ : Finset (Fin B)).sup fun k => s (n + k)) := by
  unfold top
  apply le_antisymm
  · refine Finset.sup_le fun k hk => ?_
    by_cases hn : k < n
    · exact le_max_of_le_left (Finset.le_sup (f := s) (mem_range.2 hn))
    · have hk' := mem_range.1 hk
      have := Finset.le_sup (f := fun q : Fin B => s (n + q)) (mem_univ ⟨k - n, by omega⟩)
      refine le_max_of_le_right (le_trans (le_of_eq ?_) this)
      congr 1; show k = n + (k - n); omega
  · refine max_le (Finset.sup_mono (range_mono (Nat.le_add_right _ _))) (Finset.sup_le fun k _ => ?_)
    exact Finset.le_sup (f := s) (mem_range.2 (by omega))

theorem le_top_of_lt (s : ℕ → EReal) {k n : ℕ} (h : k < n) : s k ≤ top s n :=
  Finset.le_sup (f := s) (mem_range.2 h)

theorem top_le_top_add (s : ℕ → EReal) (n B : ℕ) : top s n ≤ top s (n + B) := by
  rw [top_add]; exact le_max_left _ _

theorem mass_add (s : ℕ → EReal) (n B : ℕ) :
    mass s (n + B) = Ideal.exp (top s n - top s (n + B)) * mass s n
      + ∑ k : Fin B, Ideal.exp (s (n + k) - top s (n + B)) := by
  rw [mass, sum_range_add, ← sum_range fun k => Ideal.exp (s (n + k) - top s (n + B)), mass,
    mul_sum_of_nonneg _ (exp_nonneg _) (exp_ne_top (sub_ne_top (top_le_top_add s n B)))]
  congr 1
  exact sum_congr rfl fun k hk => (exp_shift (le_top_of_lt s (mem_range.1 hk)) (top_le_top_add s n B)).symm

theorem dot_add (s v : ℕ → EReal) (n B : ℕ) :
    dot s v (n + B) = Ideal.exp (top s n - top s (n + B)) * dot s v n
      + ∑ k : Fin B, Ideal.exp (s (n + k) - top s (n + B)) * v (n + k) := by
  rw [dot, sum_range_add, ← sum_range fun k => Ideal.exp (s (n + k) - top s (n + B)) * v (n + k), dot,
    mul_sum_of_nonneg _ (exp_nonneg _) (exp_ne_top (sub_ne_top (top_le_top_add s n B)))]
  congr 1
  refine sum_congr rfl fun k hk => ?_
  rw [← mul_assoc, exp_shift (le_top_of_lt s (mem_range.1 hk)) (top_le_top_add s n B)]

/-! ## Scores of `⊥` past the end -/

theorem top_eq_of_bot (s : ℕ → EReal) {n N : ℕ} (hn : n ≤ N) (h : ∀ k, n ≤ k → s k = ⊥) : top s N = top s n := by
  apply le_antisymm
  · refine Finset.sup_le fun k _ => ?_
    by_cases hk : k < n
    · exact le_top_of_lt s hk
    · rw [h k (not_lt.1 hk)]; exact bot_le
  · exact Finset.sup_mono (range_mono hn)

theorem mass_eq_of_bot (s : ℕ → EReal) {n N : ℕ} (hn : n ≤ N) (h : ∀ k, n ≤ k → s k = ⊥) : mass s N = mass s n := by
  rw [mass, mass, top_eq_of_bot s hn h]
  refine (sum_subset (range_mono hn) fun k _ hk => ?_).symm
  rw [h k (not_lt.1 fun h' => hk (mem_range.2 h')), EReal.bot_sub]; rfl

theorem dot_eq_of_bot (s v : ℕ → EReal) {n N : ℕ} (hn : n ≤ N) (h : ∀ k, n ≤ k → s k = ⊥) :
    dot s v N = dot s v n := by
  rw [dot, dot, top_eq_of_bot s hn h]
  refine (sum_subset (range_mono hn) fun k _ hk => ?_).symm
  rw [h k (not_lt.1 fun h' => hk (mem_range.2 h')), EReal.bot_sub]
  exact zero_mul _

/-! ## The division -/

theorem mass_nonneg (s : ℕ → EReal) (n : ℕ) : 0 ≤ mass s n := sum_nonneg fun _ _ => exp_nonneg _

/-- Of scores below `⊤` of which the first is above `⊥`, the maximum is a real. -/
theorem top_real (s : ℕ → EReal) {n : ℕ} (hn : 0 < n) (h0 : s 0 ≠ ⊥) (ht : ∀ k, k < n → s k ≠ ⊤) :
    ∃ r : ℝ, top s n = r ∧ ∃ k, k < n ∧ s k = r := by
  obtain ⟨k, hk, e⟩ := Finset.exists_mem_eq_sup (range n) ⟨0, mem_range.2 hn⟩ s
  have hk' := mem_range.1 hk
  have e' : top s n = s k := e
  have hb : top s n ≠ ⊥ := fun hb => h0 (le_bot_iff.1 (hb ▸ le_top_of_lt s hn))
  refine ⟨(top s n).toReal, ?_, k, hk', ?_⟩
  · rw [EReal.coe_toReal (e' ▸ ht k hk') hb]
  · rw [EReal.coe_toReal (e' ▸ ht k hk') hb, e']

/-- The sum of their exponentials is then positive. -/
theorem mass_pos (s : ℕ → EReal) {n : ℕ} (hn : 0 < n) (h0 : s 0 ≠ ⊥) (ht : ∀ k, k < n → s k ≠ ⊤) : 0 < mass s n := by
  obtain ⟨r, hr, k, hk, e⟩ := top_real s hn h0 ht
  have h1 : (1 : EReal) ≤ mass s n := by
    refine le_trans (le_of_eq ?_)
      (single_le_sum (f := fun k => Ideal.exp (s k - top s n)) (fun _ _ => exp_nonneg _) (mem_range.2 hk))
    show 1 = Ideal.exp (s k - top s n)
    rw [hr, e, ← EReal.coe_sub, sub_self]
    show (1 : EReal) = ((Real.exp 0 : ℝ) : EReal)
    rw [Real.exp_zero]; rfl
  exact lt_of_lt_of_le zero_lt_one h1

/-- The inverse of a number that is not negative is a real, and not negative. -/
theorem inv_real {x : EReal} (h : 0 ≤ x) : 0 ≤ x⁻¹ ∧ x⁻¹ ≠ ⊤ := by
  induction x with
  | bot => exact absurd h (by simp)
  | top => simp
  | coe r =>
    rw [← EReal.coe_inv]
    exact ⟨EReal.coe_nonneg.2 (inv_nonneg.2 (EReal.coe_nonneg.1 h)), EReal.coe_ne_top _⟩

theorem div_of_pos {x y : EReal} (h : 0 < y) : Ideal.div x y = x * y⁻¹ := by rw [Ideal.div, if_neg h.ne']

/-- Dividing the weighed sum once is weighing each value by its softmax. -/
theorem dot_div_mass (s v : ℕ → EReal) (n : ℕ) (h : 0 < mass s n) :
    Ideal.div (dot s v n) (mass s n)
      = ∑ k ∈ range n, Ideal.div (Ideal.exp (s k - top s n)) (mass s n) * v k := by
  obtain ⟨h0, ht⟩ := inv_real (mass_nonneg s n)
  rw [div_of_pos h, mul_comm, dot, mul_sum_of_nonneg _ h0 ht]
  refine sum_congr rfl fun k _ => ?_
  rw [div_of_pos h, ← mul_assoc, mul_comm (mass s n)⁻¹]

end Cert.Softmax

end
-- ==== Proof.FoxSpec.lean ====
/- The forgetting attention over whole arrays: what one entry of the result is, as a softmax of scores over the keys up
   to the query, weighing the values. Rows are tokens, 8192 to a sequence; columns are 8 heads of 64 lanes. -/
module

public import proofs.«01_k».proof.Proof.OnlineSoftmax
public import Idealize.ShloMosaic.Lib.ValueIdx

@[expose] public section

noncomputable section

namespace Cert.Fox

open Idealize.ShloMosaic Idealize.ShloMosaic.ValueIdx Cert.Softmax

abbrev Tokens : Shape := ⟨2, ![16384, 512]⟩
abbrev Gates : Shape := ⟨2, ![16384, 128]⟩
abbrev Sums : Shape := ⟨3, ![2, 8, 8192]⟩

/-- Token `κ` of the sequence of row `R`. -/
def key (R : Fin 16384) (κ : Fin 8192) : Fin 16384 := ⟨8192 * (R.val / 8192) + κ.val, by omega⟩

/-- Lane `e` of head `h`. -/
def col (h : Fin 8) (e : Fin 64) : Fin 512 := ⟨64 * h.val + e.val, by omega⟩

/-- The head of a column. -/
def headOfCol (C : Fin 512) : Fin 8 := ⟨C.val / 64, by omega⟩

def gate (h : Fin 8) : Fin 128 := ⟨h.val, by omega⟩

def seqOf (R : Fin 16384) : Fin 2 := ⟨R.val / 8192, by omega⟩

def posOf (R : Fin 16384) : Fin 8192 := ⟨R.val % 8192, by omega⟩

variable (Q K V : Tokens.Idx → EReal) (g : Gates.Idx → EReal) (s : Sums.Idx → EReal)

/-- Head `h`'s score of key `κ` for the query of row `R`: none after the row's own token. -/
def score (R : Fin 16384) (h : Fin 8) (κ : ℕ) : EReal :=
  if hκ : κ < 8192 then
    if κ ≤ (posOf R).val then
      (∑ e : Fin 64, Q (ix2 R (col h e)) * K (ix2 (key R ⟨κ, hκ⟩) (col h e))) + g (ix2 R (gate h))
        - s (ix3 (seqOf R) h ⟨κ, hκ⟩)
    else ⊥
  else ⊥

/-- The value of key `κ` in column `C`. -/
def value (R : Fin 16384) (C : Fin 512) (κ : ℕ) : EReal := if hκ : κ < 8192 then V (ix2 (key R ⟨κ, hκ⟩) C) else 0

/-- One entry of the attention. -/
def attention (R : Fin 16384) (C : Fin 512) : EReal :=
  Ideal.div (dot (score Q K g s R (headOfCol C)) (value V R C) 8192) (mass (score Q K g s R (headOfCol C)) 8192)

end Cert.Fox

end
-- ==== Proof.Blocks.lean ====
/- What several kernels' blocks have in common: loads from a buffer whose contents are known, the mask of the places up to
   a row, and the two halves of 128 lanes. -/
module

public import Idealize.ShloMosaic.Lib.ValueIdx
public import Idealize.ShloMosaic.Lib.Pipeline.Value
public import Idealize.ShloMosaic.Lib.VecWindow

@[expose] public section

noncomputable section

namespace Cert.Blocks

open Idealize.ShloMosaic Idealize.ShloMosaic.Ideal Idealize.ShloMosaic.ValueIdx Idealize.ShloMosaic.TcCoe

variable {sig : RefSig}

/-- Lane `e` of head `half`. -/
def lane (half : Fin 2) (e : Fin 64) : Fin 128 := ⟨64 * half.val + e.val, by omega⟩

theorem sum_lanes (f : Fin 128 → EReal) : ∑ e, f e = ∑ e, f (lane 0 e) + ∑ e, f (lane 1 e) := by
  refine (Fin.sum_univ_add (a := 64) (b := 64) f).trans ?_
  refine congrArg₂ (· + ·) (Finset.sum_congr rfl fun e _ => congrArg f (Fin.ext ?_))
    (Finset.sum_congr rfl fun e _ => congrArg f (Fin.ext ?_))
  · show e.val = 64 * 0 + e.val; omega
  · show 64 + e.val = 64 * 1 + e.val; omega

/-- The mask of the places up to the row. -/
theorem below_bit (r k : Fin 512) :
    IntOp.cmpi .sle (BitVec.ofNat 32 (0 * 512 + k.val)) (BitVec.ofNat 32 (0 * 512 + r.val)) = if k.val ≤ r.val then 1#1 else 0#1 := by
  have h : ∀ n : Fin 512, (BitVec.ofNat 32 (0 * 512 + n.val)).toInt = n.val := fun n => by
    rw [Nat.zero_mul, Nat.zero_add, BitVec.toInt_eq_toNat_of_lt] <;> simp [Nat.mod_eq_of_lt (show n.val < 4294967296 by omega)]
    omega
  show BitVec.ofBool (BitVec.sle _ _) = _
  unfold BitVec.sle
  rw [h, h]
  by_cases hk : k.val ≤ r.val
  · rw [if_pos hk, decide_eq_true (by exact_mod_cast hk)]; rfl
  · rw [if_neg hk, decide_eq_false (by exact_mod_cast hk)]; rfl

theorem block_off (n : ℕ) (h : n < 16) :
    (Scalar.indexCast (Scalar.muli (Scf.iv 0#32 1#32 n) 512#32)).toNat = 512 * n :=
  (by decide +kernel : ∀ n : Fin 16, (Scalar.indexCast (Scalar.muli (Scf.iv 0#32 1#32 n.val) 512#32)).toNat = 512 * n.val) ⟨n, h⟩

theorem diag_off (n : ℕ) (h : n < 16) :
    (Scalar.indexCast (Scalar.muli (BitVec.ofNat 32 n) 512#32)).toNat = 512 * n :=
  (by decide +kernel : ∀ n : Fin 16, (Scalar.indexCast (Scalar.muli (BitVec.ofNat 32 n.val) 512#32)).toNat = 512 * n.val) ⟨n, h⟩

/-- A load of part of a buffer whose contents are known, at an index. -/
theorem load_apply {s : Shape} {e : EltTy} (M : Memref sig .tc .vmem s e) (h : M.IsWhole) (X : s.Idx → Elt Ideal e)
    {off size : Fin s.rank → Nat} (inb : ∀ a, off a + size a ≤ s.size a) (j : (⟨s.rank, size⟩ : Shape).Idx) (k : s.Idx)
    (hk : ∀ a, (k a).val = off a + (j a).val) :
    M.view.readAt (Elt Ideal) (Rect.unit off size inb).toLoadRect (h.unread X) j = X k := by
  have e1 : M.view.readAt (Elt Ideal) (Rect.unit off size inb).toLoadRect (h.unread X)
      = View.ld (M.view.read (Elt Ideal) (h.unread X)) (Rect.unit off size inb) := rfl
  rw [e1, h.read_unread, View.ld_unit]
  show X _ = X k
  congr 1
  funext a
  exact Fin.ext (hk a).symm

/-- A load of the whole of it. -/
theorem load_whole {s : Shape} {e : EltTy} (M : Memref sig .tc .vmem s e) (h : M.IsWhole) (X : s.Idx → Elt Ideal e)
    {off : Fin s.rank → Nat} (h0 : off = fun _ => 0) (inb : ∀ a, off a + s.size a ≤ s.size a) :
    M.view.readAt (Elt Ideal) (Rect.unit off s.size inb).toLoadRect (h.unread X) = X := by
  have e1 : M.view.readAt (Elt Ideal) (Rect.unit off s.size inb).toLoadRect (h.unread X)
      = View.ld (M.view.read (Elt Ideal) (h.unread X)) (Rect.unit off s.size inb) := rfl
  rw [e1, h.read_unread, View.ld_unit_zero h0]

/-- A block of keys or values at row offset `512 n`. -/
theorem load_block (n : ℕ) (hn : n < 16) (M : Memref sig .tc .vmem ⟨2, ![8192, 128]⟩ .bf16) (h : M.IsWhole)
    (X : Vec Ideal ⟨2, ![8192, 128]⟩ .bf16) {off : Fin 2 → ℕ} (ho : off = ![512 * n, 0])
    (inb : ∀ a, off a + (⟨2, ![512, 128]⟩ : Shape).size a ≤ (⟨2, ![8192, 128]⟩ : Shape).size a) (k : Fin 512) (d : Fin 128) :
    M.view.readAt (Elt Ideal) (Rect.unit (s := ⟨2, ![8192, 128]⟩) off (⟨2, ![512, 128]⟩ : Shape).size inb).toLoadRect (h.unread X) (ix2 k d)
      = X (ix2 ⟨512 * n + k.val, by omega⟩ d) := by
  subst ho
  refine load_apply M h X inb _ _ fun a => ?_
  match a with
  | ⟨0, _⟩ => rfl
  | ⟨1, _⟩ => exact (Nat.zero_add _).symm

end Cert.Blocks

end
-- ==== Proof.Update.lean ====
/- One block of keys taken into the running softmax of 512 query rows: the update as vector operations (`newMax`,
   `newMass`, `newDot`), and its meaning row by row. `Holds s v n r m l a` says that row `r` of the carried maximum,
   sum and weighed values is what `OnlineSoftmax` calls `top`, `mass` and `dot` of the first `n` keys; `Holds.step`
   says that the update takes it from `n` keys to `n + 512`. The two attention kernels share this file. -/
module

public import proofs.«01_k».proof.Proof.OnlineSoftmax
public import Idealize.ShloMosaic.Lib.ValueIdx
public import Idealize.ShloMosaic.Lib.Pipeline.Value

@[expose] public section

noncomputable section

namespace Cert.Flash

open Idealize.ShloMosaic Idealize.ShloMosaic.Ideal Idealize.ShloMosaic.ValueIdx Cert.Softmax

/-- 512 rows of one number, of 128 and of 512 numbers, and 512 numbers. -/
abbrev Col : Shape := ⟨2, ![512, 1]⟩
abbrev Tile : Shape := ⟨2, ![512, 128]⟩
abbrev Sq : Shape := ⟨2, ![512, 512]⟩
abbrev Row : Shape := ⟨1, ![512]⟩

/-! ## The vector operations read at an index -/

/-- A column repeated along its rows. -/
theorem broadcastCol_apply {α : Type} {n : Nat} (x : Col.Idx → α) (h : Col.Broadcasts ⟨2, ![512, n]⟩) (r : Fin 512)
    (k : Fin n) : broadcastTo ⟨2, ![512, n]⟩ x h (ix2 r k) = x (ix2 r 0) := by
  unfold broadcastTo
  congr 1
  funext a
  match a with
  | ⟨0, _⟩ => exact Fin.ext rfl
  | ⟨1, _⟩ => exact Fin.ext rfl

/-- 512 numbers as a column. -/
theorem colCast_apply {α : Type} (x : Row.Idx → α) (h : Row.ShapeCasts Col) (r : Fin 512) :
    shapeCast Col x h (ix2 r 0) = x (ix1 r) := by
  refine shapeCast_apply x h _ _ ?_
  rw [Shape.rowMajor_val_one, Shape.rowMajor_val_two]
  show r.val = r.val * 1 + 0
  omega

/-- Row maxima as a column. -/
theorem rowMax_apply (S : FVec Ideal Sq .f32) (h : Sq.Reduces [1] Row) (hφ : FKind.Formats .f32)
    (ha : (0xFF800000#32 : BitVec 32) = FKind.maximumf.neutral .f32 hφ) (hc : Row.ShapeCasts Col) (r : Fin 512) :
    shapeCast Col (multiReduction .maximumf [1] Row S 0xFF800000#32 h hφ ha) hc (ix2 r 0)
      = Finset.univ.sup fun k : Fin 512 => S (ix2 r k) := by
  rw [colCast_apply, multiReduction_maximumf_single]
  have hb : (FloatOps.ofBits .f32 0xFF800000#32 : Ideal .f32) = (⊥ : EReal) := by
    show Ideal.ofBits .f32 0xFF800000#32 = ⊥
    simp [Ideal.ofBits, Ideal.ieee]
  rw [hb]
  show Finset.fold max ⊥ _ _ = Finset.fold max ⊥ _ _
  refine congrArg (fun f => Finset.fold max (⊥ : EReal) f Finset.univ) (funext fun k => ?_)
  show S _ = S _
  congr 1
  funext a
  match a with
  | ⟨0, _⟩ => exact Fin.ext rfl
  | ⟨1, _⟩ => exact Fin.ext rfl

/-- Row sums as a column. -/
theorem rowSum_apply {n : Nat} (S : FVec Ideal ⟨2, ![512, n]⟩ .f32) (h : Shape.Reduces ⟨2, ![512, n]⟩ [1] Row)
    (hφ : FKind.Formats .f32)
    (ha : (0x00000000#32 : BitVec 32) = FKind.add.neutral .f32 hφ) (hc : Row.ShapeCasts Col) (r : Fin 512) :
    shapeCast Col (multiReduction .add [1] Row S 0x00000000#32 h hφ ha) hc (ix2 r 0) = ∑ k : Fin n, S (ix2 r k) := by
  rw [colCast_apply, multiReduction_add_single]
  refine Finset.sum_congr rfl fun k _ => ?_
  congr 1
  funext a
  match a with
  | ⟨0, _⟩ => exact Fin.ext rfl
  | ⟨1, _⟩ => exact Fin.ext rfl

/-- Weights times values. -/
abbrev dotPV (wf : DotDims.WF Sq Tile Tile [1] [0] [0] [1] [] []) : DotDims Sq Tile Tile where
  lhsContracting := [1]
  rhsContracting := [0]
  lhsNonContracting := [0]
  rhsNonContracting := [1]
  lhsBatch := []
  rhsBatch := []
  wf := wf

theorem dotPV_apply (wf : DotDims.WF Sq Tile Tile [1] [0] [0] [1] [] []) (P : FVec Ideal Sq .bf16)
    (V : FVec Ideal Tile .bf16) (r : Fin 512) (d : Fin 128) :
    matmul (dotPV wf) none P V (constant Tile .f32 0x00000000#32) (ix2 r d)
      = ∑ k : Fin 512, (P (ix2 r k) * V (ix2 k d) : EReal) := by
  refine (matmul_constant_zero_apply (dotPV wf) none P V _).trans ?_
  rw [← Equiv.sum_comp (contrEquiv1 (dotPV wf) 512 rfl rfl).symm]
  refine Finset.sum_congr rfl fun k _ => ?_
  congr 2
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- Queries times keys. -/
abbrev dotQK (wf : DotDims.WF Tile Tile Sq [1] [1] [0] [0] [] []) : DotDims Tile Tile Sq where
  lhsContracting := [1]
  rhsContracting := [1]
  lhsNonContracting := [0]
  rhsNonContracting := [0]
  lhsBatch := []
  rhsBatch := []
  wf := wf

theorem dotQK_apply (wf : DotDims.WF Tile Tile Sq [1] [1] [0] [0] [] []) (Q K : FVec Ideal Tile .bf16) (r c : Fin 512) :
    matmul (dotQK wf) none Q K (constant Sq .f32 0x00000000#32) (ix2 r c)
      = ∑ d : Fin 128, (Q (ix2 r d) * K (ix2 c d) : EReal) := by
  refine (matmul_constant_zero_apply (dotQK wf) none Q K _).trans ?_
  rw [← Equiv.sum_comp (contrEquiv1 (dotQK wf) 128 rfl rfl).symm]
  refine Finset.sum_congr rfl fun k _ => ?_
  congr 2
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-! ## The update -/

section Update

variable (hr : Sq.Reduces [1] Row) (hc : Row.ShapeCasts Col) (hb : Col.Broadcasts Sq) (hb' : Col.Broadcasts Tile)
variable (wf : DotDims.WF Sq Tile Tile [1] [0] [0] [1] [] [])

/-- The maximum after a block of scores `S`. -/
def newMax (m : FVec Ideal Col .f32) (S : FVec Ideal Sq .f32) : FVec Ideal Col .f32 :=
  maximumf m (shapeCast Col (multiReduction .maximumf [1] Row S 0xFF800000#32 hr (.inl rfl) rfl) hc)

/-- What the sums so far are scaled by when the maximum moves. -/
def rescale (m m' : FVec Ideal Col .f32) : FVec Ideal Col .f32 := Idealize.ShloMosaic.exp (subf m m')

/-- The block's exponentials. -/
def weights (S : FVec Ideal Sq .f32) (m' : FVec Ideal Col .f32) : FVec Ideal Sq .f32 :=
  Idealize.ShloMosaic.exp (subf S (broadcastTo Sq m' hb))

/-- The sum of exponentials after the block. -/
def newMass (m m' l : FVec Ideal Col .f32) (S : FVec Ideal Sq .f32) : FVec Ideal Col .f32 :=
  addf (mulf (rescale m m') l)
    (shapeCast Col (multiReduction .add [1] Row (weights hb S m') 0x00000000#32 hr (.inl rfl) rfl) hc)

/-- The weighed values after the block. -/
def newDot (m m' : FVec Ideal Col .f32) (a : FVec Ideal Tile .f32) (S : FVec Ideal Sq .f32) (V : FVec Ideal Tile .bf16)
    (ht : FTy.bf16.bits < FTy.f32.bits) : FVec Ideal Tile .f32 :=
  addf (mulf (broadcastTo Tile (rescale m m') hb') a)
    (matmul (dotPV wf) none (truncf .bf16 (weights hb S m') ht) V (constant Tile .f32 0x00000000#32))

/-- Row `r` of the carried maximum, sum and weighed values is that of the first `n` keys, their scores `s` and values
    `v d` (lane `d`). -/
structure Holds (s : ℕ → EReal) (v : Fin 128 → ℕ → EReal) (n : ℕ) (r : Fin 512) (m l : FVec Ideal Col .f32)
    (a : FVec Ideal Tile .f32) : Prop where
  max : m (ix2 r 0) = top s n
  mass : l (ix2 r 0) = Softmax.mass s n
  dot : ∀ d, a (ix2 r d) = Softmax.dot s (v d) n

/-- Before any key. -/
theorem Holds.init (s : ℕ → EReal) (v : Fin 128 → ℕ → EReal) (r : Fin 512) {m l : FVec Ideal Col .f32}
    {a : FVec Ideal Tile .f32} (hm : m (ix2 r 0) = (⊥ : EReal)) (hl : l (ix2 r 0) = (0 : EReal))
    (ha : ∀ d, a (ix2 r d) = (0 : EReal)) : Holds s v 0 r m l a :=
  ⟨hm, hl, ha⟩

/-- One block more. -/
theorem Holds.step {s : ℕ → EReal} {v : Fin 128 → ℕ → EReal} {n : ℕ} {r : Fin 512} {m l : FVec Ideal Col .f32}
    {a : FVec Ideal Tile .f32} (h : Holds s v n r m l a) {S : FVec Ideal Sq .f32} {V : FVec Ideal Tile .bf16}
    (hS : ∀ k : Fin 512, S (ix2 r k) = s (n + k)) (hV : ∀ (k : Fin 512) (d : Fin 128), V (ix2 k d) = v d (n + k))
    (ht : FTy.bf16.bits < FTy.f32.bits) :
    Holds s v (n + 512) r (newMax hr hc m S) (newMass hr hc hb m (newMax hr hc m S) l S)
      (newDot hb hb' wf m (newMax hr hc m S) a S V ht) := by
  have hmax : newMax hr hc m S (ix2 r 0) = top s (n + 512) := by
    refine (congrArg₂ Max.max h.max (rowMax_apply S hr _ _ hc r)).trans ?_
    rw [top_add]
    simp only [hS]
  have hscale : rescale m (newMax hr hc m S) (ix2 r 0) = Ideal.exp (top s n - top s (n + 512)) := by
    show Ideal.exp (m (ix2 r 0) - newMax hr hc m S (ix2 r 0)) = _
    rw [h.max, hmax]
  have hw : ∀ k : Fin 512, weights hb S (newMax hr hc m S) (ix2 r k) = Ideal.exp (s (n + k) - top s (n + 512)) := by
    intro k
    show Ideal.exp (S (ix2 r k) - broadcastTo Sq (newMax hr hc m S) hb (ix2 r k)) = _
    rw [broadcastCol_apply, hmax, hS]
  refine ⟨hmax, ?_, fun d => ?_⟩
  · refine (congrArg₂ (· + ·) (congrArg₂ (· * ·) hscale h.mass)
      (rowSum_apply (weights hb S (newMax hr hc m S)) hr _ _ hc r)).trans ?_
    rw [mass_add]
    simp only [hw]
  · refine (congrArg₂ (· + ·) (congrArg₂ (· * ·) ((broadcastCol_apply _ hb' r d).trans hscale) (h.dot d))
      (dotPV_apply wf _ V r d)).trans ?_
    rw [dot_add]
    congr 1
    refine Finset.sum_congr rfl fun k _ => ?_
    rw [hV, truncf_apply, hw]

end Update

end Cert.Flash

end
-- ==== Proof.FoxBlock.lean ====
/- What the forgetting-attention kernel writes at one grid point: each of its 512 query rows' softmax of scores over
   the keys up to the row, weighing the values — the running form of `Update`, carried through the counted loop over
   the earlier key blocks and closed by the masked block on the diagonal. The two heads of the point share the 128
   lanes: head `half` has the lanes `64 · half …`. -/
module

public import proofs.«01_k».proof.Proof.Blocks
public import proofs.«01_k».proof.Proof.Update
public import proofs.«01_k».proof.Proof.Gen.FoxIdeal.Value

@[expose] public section

noncomputable section

namespace Cert.Fox.Block

open Idealize.ShloMosaic Idealize.ShloMosaic.Ideal Idealize.ShloMosaic.ValueIdx Idealize.ShloMosaic.TcCoe
open Idealize.SL.Sem
open Cert.FoxIdeal Cert.FoxIdeal.Gen Cert.Softmax Cert.Flash Cert.Blocks

/-! ## The grid point's numbers -/

theorem trips1 (i : grid0.Coords) : (k0_t1_loop i).trips = (i 2).val :=
  (by decide +kernel : ∀ n : Fin 16, (⟨0#32, Scalar.addi 0#32 (Scalar.muli (Scalar.divsi (Scalar.subi (BitVec.ofNat 32 n.val) 0#32) 1#32) 1#32), 1#32⟩ : Scf.Loop 32).trips = n.val) (i 2)

theorem trips2 (i : grid0.Coords) : (k0_t2_loop i).trips = 0 :=
  (by decide +kernel : ∀ n : Fin 16, (⟨Scalar.addi 0#32 (Scalar.muli (Scalar.divsi (Scalar.subi (BitVec.ofNat 32 n.val) 0#32) 1#32) 1#32), Scalar.addi 0#32 (Scalar.subi (BitVec.ofNat 32 n.val) 0#32), 1#32⟩ : Scf.Loop 32).trips = 0) (i 2)

theorem trip_lt (i : grid0.Coords) (k : Fin (k0_t1_loop i).trips) : k.val < (i 2).val :=
  lt_of_lt_of_eq k.isLt (trips1 i)

theorem coord2_lt (i : grid0.Coords) : (i 2).val < 16 := (i 2).isLt
theorem coord1_lt (i : grid0.Coords) : (i 1).val < 4 := (i 1).isLt

theorem off1_eq (i : grid0.Coords) (k : Fin (k0_t1_loop i).trips) : k0_off1 i k = ![512 * k.val, 0] := by
  have h : k.val < 16 := lt_trans (trip_lt i k) (coord2_lt i)
  show ![(Scalar.indexCast (Scalar.muli (Scf.iv 0#32 1#32 k.val) 512#32)).toNat, 0] = _
  rw [block_off _ h]

theorem off2_eq (i : grid0.Coords) (k : Fin (k0_t1_loop i).trips) : k0_off2 i k = ![0, 0, 0, 512 * k.val] := by
  have h : k.val < 16 := lt_trans (trip_lt i k) (coord2_lt i)
  show ![0, 0, 0, (Scalar.indexCast (Scalar.muli (Scf.iv 0#32 1#32 k.val) 512#32)).toNat] = _
  rw [block_off _ h]

theorem off3_eq (i : grid0.Coords) (k : Fin (k0_t1_loop i).trips) : k0_off3 i k = ![0, 0, 1, 512 * k.val] := by
  have h : k.val < 16 := lt_trans (trip_lt i k) (coord2_lt i)
  show ![0, 0, 1, (Scalar.indexCast (Scalar.muli (Scf.iv 0#32 1#32 k.val) 512#32)).toNat] = _
  rw [block_off _ h]

theorem off7_eq (i : grid0.Coords) : k0_off7 i = ![512 * (i 2).val, 0] := by
  show ![(Scalar.indexCast (Scalar.muli (BitVec.ofNat 32 (i 2).val) 512#32)).toNat, 0] = _
  rw [diag_off _ (coord2_lt i)]

theorem off8_eq (i : grid0.Coords) : k0_off8 i = ![0, 0, 0, 512 * (i 2).val] := by
  show ![0, 0, 0, (Scalar.indexCast (Scalar.muli (BitVec.ofNat 32 (i 2).val) 512#32)).toNat] = _
  rw [diag_off _ (coord2_lt i)]

theorem off9_eq (i : grid0.Coords) : k0_off9 i = ![0, 0, 1, 512 * (i 2).val] := by
  show ![0, 0, 1, (Scalar.indexCast (Scalar.muli (BitVec.ofNat 32 (i 2).val) 512#32)).toNat] = _
  rw [diag_off _ (coord2_lt i)]

/-! ## Scores -/

theorem scores_apply (q : Vec Ideal S512x128 .bf16) (cq : FVec Ideal S512x1 .f32) (K : Vec Ideal S512x128 .bf16)
    (ck : Vec Ideal S1x1x1x512 .f32) (r c : Fin 512) :
    k0_pay2 q cq K ck (ix2 r c)
      = ((∑ e : Fin 128, (q (ix2 r e) * K (ix2 c e) : EReal)) + cq (ix2 r 0) - ck (ix4 0 0 0 c) : EReal) := by
  refine congrArg₂ (· - ·) (congrArg₂ (· + ·) (dotQK_apply _ q K r c) (broadcastCol_apply cq _ r c)) ?_
  refine (?_ : _ = shapeCast S1x512 ck shapeCasts_S1x1x1x512_S1x512 (ix2 0 c)).trans ?_
  · unfold broadcastTo
    congr 1
    funext a
    match a with
    | ⟨0, _⟩ => exact Fin.ext rfl
    | ⟨1, _⟩ => exact Fin.ext rfl
  · refine shapeCast_apply ck _ _ _ ?_
    rw [Shape.rowMajor_val_four, Shape.rowMajor_val_two]
    rfl

/-- The bit of the lane mask. -/
theorem lane_bit (r : Fin 512) (e : Fin 128) : k0_pay20 (ix2 r e) = if e.val < 64 then 1#1 else 0#1 :=
  (by decide +kernel : ∀ e : Fin 128, IntOp.cmpi .slt (BitVec.ofNat 32 (0 * 128 + e.val)) 64#32 = if e.val < 64 then 1#1 else 0#1) e

theorem zero_bf16 (j : S512x128.Idx) : (k0_pay21 : FVec Ideal S512x128 .bf16) j = (0 : EReal) := by
  show Ideal.ofBits .bf16 0x0000#16 = 0
  simp [Ideal.ofBits, Ideal.ieee]

theorem queriesA_dot (q K : Vec Ideal S512x128 .bf16) (r c : Fin 512) :
    ∑ e : Fin 128, (k0_pay22 q (ix2 r e) * K (ix2 c e) : EReal)
      = ∑ e : Fin 64, (q (ix2 r (lane 0 e)) * K (ix2 c (lane 0 e)) : EReal) := by
  have hq : ∀ e : Fin 128, k0_pay22 q (ix2 r e) = (if e.val < 64 then q (ix2 r e) else (0 : EReal) : EReal) := fun e => by
    show Scalar.select (k0_pay20 (ix2 r e)) (q (ix2 r e) : Ideal .bf16) ((k0_pay21 : FVec Ideal S512x128 .bf16) (ix2 r e)) = _
    rw [lane_bit, zero_bf16]
    split <;> rfl
  rw [sum_lanes]
  have h1 : ∑ e, (k0_pay22 q (ix2 r (lane 1 e)) * K (ix2 c (lane 1 e)) : EReal) = 0 :=
    Finset.sum_eq_zero fun e _ => by rw [hq, if_neg (by show ¬ (64 * 1 + e.val < 64); omega), zero_mul]
  rw [h1, add_zero]
  refine Finset.sum_congr rfl fun e _ => ?_
  rw [hq, if_pos (by show 64 * 0 + e.val < 64; omega)]

theorem queriesB_dot (q K : Vec Ideal S512x128 .bf16) (r c : Fin 512) :
    ∑ e : Fin 128, (k0_pay23 q (ix2 r e) * K (ix2 c e) : EReal)
      = ∑ e : Fin 64, (q (ix2 r (lane 1 e)) * K (ix2 c (lane 1 e)) : EReal) := by
  have hq : ∀ e : Fin 128, k0_pay23 q (ix2 r e) = (if e.val < 64 then (0 : EReal) else q (ix2 r e) : EReal) := fun e => by
    show Scalar.select (k0_pay20 (ix2 r e)) ((k0_pay21 : FVec Ideal S512x128 .bf16) (ix2 r e)) (q (ix2 r e) : Ideal .bf16) = _
    rw [lane_bit, zero_bf16]
    split <;> rfl
  rw [sum_lanes]
  have h0 : ∑ e, (k0_pay23 q (ix2 r (lane 0 e)) * K (ix2 c (lane 0 e)) : EReal) = 0 :=
    Finset.sum_eq_zero fun e _ => by rw [hq, if_pos (by show 64 * 0 + e.val < 64; omega), zero_mul]
  rw [h0, zero_add]
  refine Finset.sum_congr rfl fun e _ => ?_
  rw [hq, if_neg (by show ¬ (64 * 1 + e.val < 64); omega)]

/-- A sum that a mask on one lane leaves one term of. -/
theorem pick_lane (x : FVec Ideal S512x128 .f32) (r : Fin 512) (w : BitVec 32) (n : Fin 128)
    (hw : w = BitVec.ofNat 32 n.val) :
    ∑ e : Fin 128, (Scalar.select (IntOp.cmpi .eq (BitVec.ofNat 32 (0 * 128 + e.val)) w) (x (ix2 r e))
      (Ideal.ofBits .f32 0x00000000#32) : EReal) = x (ix2 r n) := by
  have hb : ∀ e : Fin 128, IntOp.cmpi .eq (BitVec.ofNat 32 (0 * 128 + e.val)) w = if e = n then 1#1 else 0#1 := by
    intro e; subst hw
    exact (by decide +kernel : ∀ e n : Fin 128, IntOp.cmpi .eq (BitVec.ofNat 32 (0 * 128 + e.val)) (BitVec.ofNat 32 n.val)
      = if e = n then 1#1 else 0#1) e n
  rw [Finset.sum_eq_single n]
  · rw [hb, if_pos rfl]; rfl
  · intro e _ he; rw [hb, if_neg he, ofBits_zero_f32]; rfl
  · intro h; exact absurd (Finset.mem_univ n) h

/-- The head's column of the query-side sums. -/
def headLane (i : grid0.Coords) (half : Fin 2) : Fin 128 := ⟨2 * (i 1).val + half.val, by have := coord1_lt i; omega⟩

theorem columnA_apply (i : grid0.Coords) (x : Vec Ideal S512x128 .f32) (r : Fin 512) :
    k0_pay24 i x (ix2 r 0) = x (ix2 r (headLane i 0)) := by
  refine (rowSum_apply _ _ _ _ _ r).trans (pick_lane x r _ _ ?_)
  exact (by decide +kernel : ∀ n : Fin 4, Scalar.muli 2#32 (BitVec.ofNat 32 n.val) = BitVec.ofNat 32 (2 * n.val + 0)) (i 1)

theorem columnB_apply (i : grid0.Coords) (x : Vec Ideal S512x128 .f32) (r : Fin 512) :
    k0_pay25 i x (ix2 r 0) = x (ix2 r (headLane i 1)) := by
  refine (rowSum_apply _ _ _ _ _ r).trans (pick_lane x r _ _ ?_)
  exact (by decide +kernel : ∀ n : Fin 4, Scalar.addi (Scalar.muli 2#32 (BitVec.ofNat 32 n.val)) 1#32 = BitVec.ofNat 32 (2 * n.val + 1)) (i 1)

/-! ## The running softmax of a row -/

section Point

variable (i : grid0.Coords) (x0 : Vec Ideal S512x128 .bf16) (x1 x2 : Vec Ideal S8192x128 .bf16)
variable (x3 : Vec Ideal S512x128 .f32) (x4 : Vec Ideal S1x1x2x8192 .f32)

/-- The score of key `κ` on row `r`, of head `half`: `⊥` past the row. -/
def score (half : Fin 2) (r : Fin 512) (κ : ℕ) : EReal :=
  if h : κ < 8192 then
    if κ ≤ 512 * (i 2).val + r.val then
      (∑ e : Fin 64, (x0 (ix2 r (lane half e)) * x1 (ix2 ⟨κ, h⟩ (lane half e)) : EReal)) + x3 (ix2 r (headLane i half))
        - x4 (ix4 0 0 half ⟨κ, h⟩)
    else ⊥
  else ⊥

/-- The value of key `κ` on lane `d`. -/
def value (d : Fin 128) (κ : ℕ) : EReal := if h : κ < 8192 then x2 (ix2 ⟨κ, h⟩ d) else 0

variable (arg4 : Memref sig .tc .vmem S8192x128 .bf16) (harg4 : arg4.IsWhole)
variable (arg5 : Memref sig .tc .vmem S8192x128 .bf16) (harg5 : arg5.IsWhole)
variable (arg7 : Memref sig .tc .vmem S1x1x2x8192 .f32) (harg7 : arg7.IsWhole)

/-- A block of the key-side sums at offset `512 n`. -/
theorem load_sums (n : ℕ) (hn : n < 16) (half : Fin 2) (M : Memref sig .tc .vmem S1x1x2x8192 .f32) (h : M.IsWhole)
    (X : Vec Ideal S1x1x2x8192 .f32) {off : Fin 4 → ℕ} (ho : off = ![0, 0, half.val, 512 * n])
    (inb : ∀ a, off a + S1x1x1x512.size a ≤ S1x1x2x8192.size a) (k : Fin 512) :
    M.view.readAt (Elt Ideal) (Rect.unit (s := S1x1x2x8192) off S1x1x1x512.size inb).toLoadRect (h.unread X) (ix4 0 0 0 k)
      = X (ix4 0 0 half ⟨512 * n + k.val, by omega⟩) := by
  subst ho
  refine load_apply M h X inb _ _ fun a => ?_
  match a with
  | ⟨0, _⟩ => rfl
  | ⟨1, _⟩ => rfl
  | ⟨2, _⟩ => rfl
  | ⟨3, _⟩ => rfl

/-- One trip of the loop over the earlier blocks. -/
theorem trip_holds (𝒱 : Variants) (c : Dev nD) (bd : Option 𝒱.V) (arg3 : Memref sig .tc .vmem S512x128 .bf16)
    (harg3 : arg3.IsWhole) (arg6 : Memref sig .tc .vmem S512x128 .f32) (harg6 : arg6.IsWhole)
    (arg8 : Memref sig .tc .vmem S512x128 .f32) (harg8 : arg8.IsWhole) (k : Fin (k0_t1_loop i).trips) (acc) (r : Fin 512)
    (hA : Holds (score i x0 x1 x3 x4 0 r) (value x2) (512 * k.val) r acc.1 acc.2.1 acc.2.2.1)
    (hB : Holds (score i x0 x1 x3 x4 1 r) (value x2) (512 * k.val) r acc.2.2.2.1 acc.2.2.2.2.1 acc.2.2.2.2.2) :
    let acc' := tripR_k0_t1 (F := Ideal) 𝒱 c bd i arg3 harg3 arg4 harg4 arg5 harg5 arg6 harg6 arg7 harg7 arg8 harg8 x0 x3
      (harg4.unread x1) (harg5.unread x2) (harg7.unread x4) k acc
    Holds (score i x0 x1 x3 x4 0 r) (value x2) (512 * (k.val + 1)) r acc'.1 acc'.2.1 acc'.2.2.1
      ∧ Holds (score i x0 x1 x3 x4 1 r) (value x2) (512 * (k.val + 1)) r acc'.2.2.2.1 acc'.2.2.2.2.1 acc'.2.2.2.2.2 := by
  have hk := trip_lt i k
  have hi := coord2_lt i
  have hk' : k.val < 16 := lt_trans hk hi
  have hV : ∀ (j : Fin 512) (d : Fin 128), arg5.view.readAt (Elt Ideal)
      (Rect.unit (s := S8192x128) (k0_off1 i k) S512x128.size (k0_off1_inb i k)).toLoadRect (harg5.unread x2) (ix2 j d)
        = value x2 d (512 * k.val + j.val) := fun j d => by
    rw [load_block k.val hk' arg5 harg5 x2 (off1_eq i k), value, dif_pos (by omega)]
  unfold tripR_k0_t1 trip_k0_t1
  dsimp only
  refine ⟨Holds.step _ _ _ _ _ hA (S := k0_pay2 (k0_pay22 x0) (k0_pay24 i x3) _ _) (fun j => ?_) hV _,
    Holds.step _ _ _ _ _ hB (S := k0_pay3 (k0_pay23 x0) (k0_pay25 i x3) _ _) (fun j => ?_) hV _⟩
  · rw [scores_apply, queriesA_dot, columnA_apply, score, dif_pos (by omega), if_pos (by omega)]
    rw [load_sums k.val hk' 0 arg7 harg7 x4 (off2_eq i k)]
    simp only [load_block k.val hk' arg4 harg4 x1 (off1_eq i k)]
  · refine (scores_apply _ _ _ _ _ _).trans ?_
    rw [queriesB_dot, columnB_apply, score, dif_pos (by omega), if_pos (by omega)]
    rw [load_sums k.val hk' 1 arg7 harg7 x4 (off3_eq i k)]
    simp only [load_block k.val hk' arg4 harg4 x1 (off1_eq i k)]

/-- The loop over the earlier blocks, after `n` trips. -/
theorem loop_holds (𝒱 : Variants) (c : Dev nD) (bd : Option 𝒱.V) (arg3 : Memref sig .tc .vmem S512x128 .bf16)
    (harg3 : arg3.IsWhole) (arg6 : Memref sig .tc .vmem S512x128 .f32) (harg6 : arg6.IsWhole)
    (arg8 : Memref sig .tc .vmem S512x128 .f32) (harg8 : arg8.IsWhole) (r : Fin 512) (n : ℕ) (hn : n ≤ (i 2).val) :
    let acc := st_k0_t1 (F := Ideal) 𝒱 c bd i arg3 harg3 arg4 harg4 arg5 harg5 arg6 harg6 arg7 harg7 arg8 harg8 x0 x3
      (harg4.unread x1) (harg5.unread x2) (harg7.unread x4)
      (k0_pay26, k0_pay27, k0_pay28, k0_pay26, k0_pay27, k0_pay28) n
    Holds (score i x0 x1 x3 x4 0 r) (value x2) (512 * n) r acc.1 acc.2.1 acc.2.2.1
      ∧ Holds (score i x0 x1 x3 x4 1 r) (value x2) (512 * n) r acc.2.2.2.1 acc.2.2.2.2.1 acc.2.2.2.2.2 := by
  induction n with
  | zero =>
    have hm : (k0_pay26 : FVec Ideal S512x1 .f32) (ix2 r 0) = (⊥ : EReal) := IdealRules.named_const.ideal_named_scalar _ _ _ _ rfl
    have hl : (k0_pay27 : FVec Ideal S512x1 .f32) (ix2 r 0) = (0 : EReal) := ofBits_zero_f32
    have ha : ∀ d, (k0_pay28 : FVec Ideal S512x128 .f32) (ix2 r d) = (0 : EReal) := fun _ => ofBits_zero_f32
    exact ⟨Holds.init _ _ r hm hl ha, Holds.init _ _ r hm hl ha⟩
  | succ n ih =>
    have h := trip_holds i x0 x1 x2 x3 x4 arg4 harg4 arg5 harg5 arg7 harg7 𝒱 c bd arg3 harg3 arg6 harg6 arg8 harg8
      ⟨n, lt_of_lt_of_eq hn (trips1 i).symm⟩ _ r (ih (Nat.le_of_succ_le hn)).1 (ih (Nat.le_of_succ_le hn)).2
    rw [st_k0_t1_succ (F := Ideal) 𝒱 c bd i arg3 harg3 arg4 harg4 arg5 harg5 arg6 harg6 arg7 harg7 arg8 harg8 x0 x3
      (harg4.unread x1) (harg5.unread x2) (harg7.unread x4) _ ⟨n, lt_of_lt_of_eq hn (trips1 i).symm⟩]
    exact h

/-- The head a lane belongs to. -/
def headOf (d : Fin 128) : Fin 2 := if d.val < 64 then 0 else 1

/-- The mask of the diagonal block: the keys up to the row. -/
theorem causal_bit (r k : Fin 512) : k0_pay35 (ix2 r k) = if k.val ≤ r.val then 1#1 else 0#1 := below_bit r k

/-- The masked scores of the diagonal block. -/
theorem masked_apply (q : Vec Ideal S512x128 .bf16) (cq : FVec Ideal S512x1 .f32) (K : Vec Ideal S512x128 .bf16)
    (ck : Vec Ideal S1x1x1x512 .f32) (r k : Fin 512) :
    k0_pay36 q cq K ck (ix2 r k) = if k.val ≤ r.val then k0_pay2 q cq K ck (ix2 r k) else (⊥ : EReal) := by
  have hm : (Named.named κ "mask" 0xF149F2CA#32 : Ideal .f32) = (⊥ : EReal) := IdealRules.named_const.ideal_named_scalar _ _ _ _ rfl
  show Scalar.select (k0_pay35 (ix2 r k)) (k0_pay2 q cq K ck (ix2 r k)) (Named.named κ "mask" 0xF149F2CA#32 : Ideal .f32) = _
  rw [causal_bit, hm]
  split <;> rfl

/-- The diagonal block and the division. -/
theorem close_apply (acc : FVec Ideal S512x1 .f32 × FVec Ideal S512x1 .f32 × FVec Ideal S512x128 .f32 × FVec Ideal S512x1 .f32 × FVec Ideal S512x1 .f32 × FVec Ideal S512x128 .f32)
    (K V : Vec Ideal S512x128 .bf16) (ckA ckB : Vec Ideal S1x1x1x512 .f32) (r : Fin 512) (d : Fin 128)
    (hK : ∀ (k : Fin 512) (e : Fin 128), K (ix2 k e) = x1 (ix2 ⟨512 * (i 2).val + k.val, by have := coord2_lt i; omega⟩ e))
    (hV : ∀ (k : Fin 512) (e : Fin 128), V (ix2 k e) = value x2 e (512 * (i 2).val + k.val))
    (hcA : ∀ k : Fin 512, ckA (ix4 0 0 0 k) = x4 (ix4 0 0 0 ⟨512 * (i 2).val + k.val, by have := coord2_lt i; omega⟩))
    (hcB : ∀ k : Fin 512, ckB (ix4 0 0 0 k) = x4 (ix4 0 0 1 ⟨512 * (i 2).val + k.val, by have := coord2_lt i; omega⟩))
    (hA : Holds (score i x0 x1 x3 x4 0 r) (value x2) (512 * (i 2).val) r acc.1 acc.2.1 acc.2.2.1)
    (hB : Holds (score i x0 x1 x3 x4 1 r) (value x2) (512 * (i 2).val) r acc.2.2.2.1 acc.2.2.2.2.1 acc.2.2.2.2.2) :
    k0_pay1 k0_pay20 acc.2.2.2.1 acc.2.2.2.2.1 acc.2.2.2.2.2 V (k0_pay37 (k0_pay23 x0) (k0_pay25 i x3) K ckB)
        (k0_pay41 (k0_pay22 x0) (k0_pay24 i x3) acc.1 acc.2.1 K ckA)
        (k0_pay42 (k0_pay22 x0) (k0_pay24 i x3) acc.1 acc.2.2.1 K V ckA)
        (k0_pay43 (k0_pay23 x0) (k0_pay25 i x3) K ckB) (ix2 r d)
      = Ideal.div (dot (score i x0 x1 x3 x4 (headOf d) r) (value x2 d) (512 * (i 2).val + 512))
          (mass (score i x0 x1 x3 x4 (headOf d) r) (512 * (i 2).val + 512)) := by
  have hi := coord2_lt i
  have SA : ∀ k : Fin 512, k0_pay36 (k0_pay22 x0) (k0_pay24 i x3) K ckA (ix2 r k)
      = score i x0 x1 x3 x4 0 r (512 * (i 2).val + k.val) := fun k => by
    rw [masked_apply, score, dif_pos (by omega)]
    by_cases hk : k.val ≤ r.val
    · rw [if_pos hk, if_pos (by omega), scores_apply, queriesA_dot, columnA_apply, hcA]
      simp only [hK]
    · rw [if_neg hk, if_neg (by omega)]
  have SB : ∀ k : Fin 512, k0_pay37 (k0_pay23 x0) (k0_pay25 i x3) K ckB (ix2 r k)
      = score i x0 x1 x3 x4 1 r (512 * (i 2).val + k.val) := fun k => by
    refine (masked_apply (k0_pay23 x0) (k0_pay25 i x3) K ckB r k).trans ?_
    rw [score, dif_pos (by omega)]
    by_cases hk : k.val ≤ r.val
    · rw [if_pos hk, if_pos (by omega), scores_apply, queriesB_dot, columnB_apply, hcB]
      simp only [hK]
    · rw [if_neg hk, if_neg (by omega)]
  have HA := Holds.step reduces_S512x512_S512 shapeCasts_S512_S512x1 broadcasts_S512x1_S512x512
    broadcasts_S512x1_S512x128 dot_S512x512_S512x128_S512x128_1_0_0_1_n_n_wf hA SA hV bitsLt_bf16_f32
  have HB := Holds.step reduces_S512x512_S512 shapeCasts_S512_S512x1 broadcasts_S512x1_S512x512
    broadcasts_S512x1_S512x128 dot_S512x512_S512x128_S512x128_1_0_0_1_n_n_wf hB SB hV bitsLt_bf16_f32
  have e : ∀ (a b : Ideal .f32), Scalar.select (k0_pay20 (ix2 r d)) a b = if d.val < 64 then a else b := fun a b => by
    rw [lane_bit]; split <;> rfl
  refine (e _ _).trans ?_
  unfold headOf
  split
  · exact congrArg₂ Ideal.div (HA.dot d) ((broadcastCol_apply _ broadcasts_S512x1_S512x128 r d).trans HA.mass)
  · exact congrArg₂ Ideal.div (HB.dot d) ((broadcastCol_apply _ broadcasts_S512x1_S512x128 r d).trans HB.mass)

/-- What the point leaves of its output block, at row `r` and lane `d`. -/
theorem out_apply (c : Dev nD) (arg3 : Memref sig .tc .vmem S512x128 .bf16)
    (harg3 : arg3.IsWhole) (arg6 : Memref sig .tc .vmem S512x128 .f32) (harg6 : arg6.IsWhole)
    (arg8 : Memref sig .tc .vmem S512x128 .f32) (harg8 : arg8.IsWhole) (r : Fin 512) (d : Fin 128) :
    out0_A_5 (F := Ideal) c i arg3 harg3 arg4 harg4 arg5 harg5 arg6 harg6 arg7 harg7 arg8 harg8 x0 x1 x2 x3 x4 (ix2 r d)
      = Ideal.div (dot (score i x0 x1 x3 x4 (headOf d) r) (value x2 d) (512 * (i 2).val + 512))
          (mass (score i x0 x1 x3 x4 (headOf d) r) (512 * (i 2).val + 512)) := by
  unfold out0_A_5 kernelRun0_A
  dsimp only
  rw [View.read_writes_junk_eq_canon, View.canon_unit_zero (by funext a; fin_cases a <;> rfl)]
  unfold kernelRun0_A.sl.r_7 kernelRun0_A.sl.r_8 kernelRun0_A.sl.r_9 kernelRun0_A.sl.r_10 kernelRun0_A.sl.r_11
    kernelRun0_A.sl.r_12 kernelRun0_A.sl.r_13 kernelRun0_A.sl.r_14 kernelRun0_A.sl.r_4 kernelRun0_A.sl.r_5
    kernelRun0_A.sl.r_6 kernelRun0_A.sl.r_3 kernelRun0_A.sl.r_2 kernelRun0_A.sl.r_1 kernelRun0_A.sl.r
  have hz : (![0, 0] : Fin 2 → ℕ) = fun _ => 0 := by funext a; fin_cases a <;> rfl
  have e1 : Scf.trips (k0_t1_loop i).lb (k0_t1_loop i).ub (k0_t1_loop i).st = (i 2).val := trips1 i
  have e2 : Scf.trips (k0_t2_loop i).lb (k0_t2_loop i).ub (k0_t2_loop i).st = 0 := trips2 i
  rw [e1, e2, load_whole arg3 harg3 x0 hz, load_whole arg6 harg6 x3 hz]
  simp only [st_k0_t2_zero]
  have hL := loop_holds i x0 x1 x2 x3 x4 arg4 harg4 arg5 harg5 arg7 harg7 Variants.none c none arg3 harg3 arg6 harg6
    arg8 harg8 r (i 2).val le_rfl
  exact close_apply i x0 x1 x2 x3 x4 _ _ _ _ _ r d
    (fun k e => load_block _ (coord2_lt i) arg4 harg4 x1 (off7_eq i) _ k e)
    (fun k e => (load_block _ (coord2_lt i) arg5 harg5 x2 (off7_eq i) _ k e).trans
      (by have := coord2_lt i; rw [value, dif_pos (by omega)]))
    (fun k => load_sums _ (coord2_lt i) 0 arg7 harg7 x4 (off8_eq i) _ k)
    (fun k => load_sums _ (coord2_lt i) 1 arg7 harg7 x4 (off9_eq i) _ k) hL.1 hL.2

end Point

end Cert.Fox.Block

end
-- ==== Proof.Finite.lean ====
/- What the preconditions say: an array whose absolute values compare below the infinity holds real numbers; and sums
   and products of real numbers are real. -/
module

public import Idealize.ShloMosaic.PureOps.Ideal.Laws
public import Idealize.ShloMosaic.PureOps.Vector

@[expose] public section

noncomputable section

namespace Cert.Finite

open Idealize.ShloMosaic

/-- A value that is a real number. -/
def IsReal (x : EReal) : Prop := ∃ r : ℝ, x = r

theorem isReal_of_abs_lt {x : EReal} (h : max x (-x) < ⊤) : IsReal x := by
  induction x with
  | bot => simp at h
  | top => simp at h
  | coe r => exact ⟨r, rfl⟩

/-- One bit of the comparison. -/
theorem isReal_of_bit {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  refine isReal_of_abs_lt ?_
  by_contra hn
  have : Ideal.cmp .olt (max x (-x)) ⊤ = BitVec.ofBool (decide (max x (-x) < ⊤)) := rfl
  rw [this, decide_eq_false hn] at h
  exact absurd h (by decide)

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.zero : IsReal 0 := ⟨0, rfl⟩
theorem IsReal.sum {ι : Type*} (t : Finset ι) (f : ι → EReal) (h : ∀ i ∈ t, IsReal (f i)) : IsReal (∑ i ∈ t, f i) := by
  classical
  induction t using Finset.induction_on with
  | empty => exact IsReal.zero
  | insert a t ha ih =>
    rw [Finset.sum_insert ha]
    exact (h a (Finset.mem_insert_self a t)).add (ih fun i hi => h i (Finset.mem_insert_of_mem hi))
theorem IsReal.ne_bot {x : EReal} : IsReal x → x ≠ ⊥
  | ⟨_, ha⟩ => ha ▸ EReal.coe_ne_bot _
theorem IsReal.ne_top {x : EReal} : IsReal x → x ≠ ⊤
  | ⟨_, ha⟩ => ha ▸ EReal.coe_ne_top _

end Cert.Finite

end
-- ==== Proof.FoxValue.lean ====
/- The forgetting-attention call over whole arrays: which rows and columns each grid point's blocks are, so that its
   result array is `FoxSpec`'s attention of the arguments; and the weights' sums under finite arguments. -/
module

public import proofs.«01_k».proof.Proof.FoxSpec
public import proofs.«01_k».proof.Proof.FoxBlock
public import proofs.«01_k».proof.Proof.Finite
public import Idealize.ShloMosaic.Lib.Pipeline.Covers

@[expose] public section

noncomputable section

namespace Cert.Fox.Value

open Idealize.ShloMosaic Idealize.ShloMosaic.Ideal Idealize.ShloMosaic.ValueIdx Idealize.ShloMosaic.TcCoe
open Idealize.SL.Sem
open Cert.FoxIdeal Cert.FoxIdeal.Gen Cert.FoxIdeal.Value Cert.Softmax Cert.Fox.Block Cert.Blocks Cert.Finite

/-! ## Which block a grid point has -/

theorem coord0_lt (i : grid0.Coords) : (i 0).val < 2 := (i 0).isLt

/-- Row `r` of the point's query block. -/
def row (i : grid0.Coords) (r : Fin 512) : Fin 16384 :=
  ⟨8192 * (i 0).val + 512 * (i 2).val + r.val, by have := coord0_lt i; have := coord2_lt i; omega⟩

/-- Lane `d` of the point's pair of heads. -/
def column (i : grid0.Coords) (d : Fin 128) : Fin 512 := ⟨128 * (i 1).val + d.val, by have := coord1_lt i; omega⟩

/-- Key `κ` of the point's sequence. -/
def keyRow (i : grid0.Coords) (κ : Fin 8192) : Fin 16384 := ⟨8192 * (i 0).val + κ.val, by have := coord0_lt i; omega⟩

theorem map_rows (i : grid0.Coords) : cc0_transform_0 i = ![16 * (i 0).val + (i 2).val, (i 1).val] :=
  (by decide +kernel : ∀ (a : Fin 2) (b : Fin 4) (c : Fin 16),
    ![(Scalar.addi (Scalar.muli (BitVec.ofNat 32 a.val) 16#32) (BitVec.ofNat 32 c.val)).toNat, (BitVec.ofNat 32 b.val).toNat]
      = ![16 * a.val + c.val, b.val]) (i 0) (i 1) (i 2)

theorem map_keys (i : grid0.Coords) : cc0_transform_1 i = ![(i 0).val, (i 1).val] :=
  (by decide +kernel : ∀ (a : Fin 2) (b : Fin 4), ![(BitVec.ofNat 32 a.val).toNat, (BitVec.ofNat 32 b.val).toNat] = ![a.val, b.val])
    (i 0) (i 1)

theorem map_gates (i : grid0.Coords) : cc0_transform_3 i = ![16 * (i 0).val + (i 2).val, 0] :=
  (by decide +kernel : ∀ (a : Fin 2) (c : Fin 16),
    ![(Scalar.addi (Scalar.muli (BitVec.ofNat 32 a.val) 16#32) (BitVec.ofNat 32 c.val)).toNat, (0#32 : BitVec 32).toNat]
      = ![16 * a.val + c.val, 0]) (i 0) (i 2)

theorem map_sums (i : grid0.Coords) : cc0_transform_4 i = ![(i 0).val, (i 1).val, 0, 0] :=
  (by decide +kernel : ∀ (a : Fin 2) (b : Fin 4),
    ![(BitVec.ofNat 32 a.val).toNat, (BitVec.ofNat 32 b.val).toNat, (0#32 : BitVec 32).toNat, (0#32 : BitVec 32).toNat]
      = ![a.val, b.val, 0, 0]) (i 0) (i 1)

variable (m : (ℓ : Loc nD τ sig) → Buf (Elt Ideal) ℓ) (c : Dev nD) (t : Fin cfg0.N)

/-- The point's queries. -/
theorem query_block (r : Fin 512) (d : Fin 128) :
    iblk m c 0 t (ix2 r d) = m ((c : Thread nD τ).loc main_arg0) (ix2 (row (grid0.coords t) r) (column (grid0.coords t) d)) := by
  rw [← V_main_arg0 m c]
  show V m c main_arg0 _ = V m c main_arg0 _
  congr 1
  funext a
  match a with
  | ⟨0, _⟩ => exact Fin.ext ((win0_0.rect_emb_val t (ix2 r d) 0).trans (by
      show cc0_transform_0 (grid0.coords t) 0 * 512 + r.val = 8192 * ((grid0.coords t) 0).val + 512 * ((grid0.coords t) 2).val + r.val
      rw [map_rows]; show (16 * _ + _) * 512 + r.val = _; omega))
  | ⟨1, _⟩ => exact Fin.ext ((win0_0.rect_emb_val t (ix2 r d) 1).trans (by
      show cc0_transform_0 (grid0.coords t) 1 * 128 + d.val = 128 * ((grid0.coords t) 1).val + d.val
      rw [map_rows]; show ((grid0.coords t) 1).val * 128 + d.val = _; omega))

/-- The point's keys. -/
theorem key_block (κ : Fin 8192) (d : Fin 128) :
    iblk m c 1 t (ix2 κ d) = m ((c : Thread nD τ).loc main_arg1) (ix2 (keyRow (grid0.coords t) κ) (column (grid0.coords t) d)) := by
  rw [← V_main_arg1 m c]
  show V m c main_arg1 _ = V m c main_arg1 _
  congr 1
  funext a
  match a with
  | ⟨0, _⟩ => exact Fin.ext ((win0_1.rect_emb_val t (ix2 κ d) 0).trans (by
      show cc0_transform_1 (grid0.coords t) 0 * 8192 + κ.val = 8192 * ((grid0.coords t) 0).val + κ.val
      rw [map_keys]; show ((grid0.coords t) 0).val * 8192 + κ.val = _; omega))
  | ⟨1, _⟩ => exact Fin.ext ((win0_1.rect_emb_val t (ix2 κ d) 1).trans (by
      show cc0_transform_1 (grid0.coords t) 1 * 128 + d.val = 128 * ((grid0.coords t) 1).val + d.val
      rw [map_keys]; show ((grid0.coords t) 1).val * 128 + d.val = _; omega))

/-- The point's values. -/
theorem value_block (κ : Fin 8192) (d : Fin 128) :
    iblk m c 2 t (ix2 κ d) = m ((c : Thread nD τ).loc main_arg2) (ix2 (keyRow (grid0.coords t) κ) (column (grid0.coords t) d)) := by
  rw [← V_main_arg2 m c]
  show V m c main_arg2 _ = V m c main_arg2 _
  congr 1
  funext a
  match a with
  | ⟨0, _⟩ => exact Fin.ext ((win0_2.rect_emb_val t (ix2 κ d) 0).trans (by
      show cc0_transform_1 (grid0.coords t) 0 * 8192 + κ.val = 8192 * ((grid0.coords t) 0).val + κ.val
      rw [map_keys]; show ((grid0.coords t) 0).val * 8192 + κ.val = _; omega))
  | ⟨1, _⟩ => exact Fin.ext ((win0_2.rect_emb_val t (ix2 κ d) 1).trans (by
      show cc0_transform_1 (grid0.coords t) 1 * 128 + d.val = 128 * ((grid0.coords t) 1).val + d.val
      rw [map_keys]; show ((grid0.coords t) 1).val * 128 + d.val = _; omega))

/-- The point's gate sums at its queries. -/
theorem gate_block (r : Fin 512) (d : Fin 128) :
    iblk m c 3 t (ix2 r d) = m ((c : Thread nD τ).loc main_arg3) (ix2 (row (grid0.coords t) r) d) := by
  rw [← V_main_arg3 m c]
  show V m c main_arg3 _ = V m c main_arg3 _
  congr 1
  funext a
  match a with
  | ⟨0, _⟩ => exact Fin.ext ((win0_3.rect_emb_val t (ix2 r d) 0).trans (by
      show cc0_transform_3 (grid0.coords t) 0 * 512 + r.val = 8192 * ((grid0.coords t) 0).val + 512 * ((grid0.coords t) 2).val + r.val
      rw [map_gates]; show (16 * _ + _) * 512 + r.val = _; omega))
  | ⟨1, _⟩ => exact Fin.ext ((win0_3.rect_emb_val t (ix2 r d) 1).trans (by
      show cc0_transform_3 (grid0.coords t) 1 * 128 + d.val = d.val
      rw [map_gates]; show 0 * 128 + d.val = _; omega))

/-- Head `half` of the point's pair. -/
def head (i : grid0.Coords) (half : Fin 2) : Fin 8 := ⟨2 * (i 1).val + half.val, by have := coord1_lt i; omega⟩

theorem paired : V m c main_v0 = shapeCast S2x4x2x8192 (m ((c : Thread nD τ).loc main_arg4)) shapeCasts_S2x8x8192_S2x4x2x8192 := by
  simp only [V, hostOps0]
  after_results_simp <;> rfl

/-- The point's gate sums at its keys: the host pairs the heads. -/
theorem sum_block (half : Fin 2) (κ : Fin 8192) :
    iblk m c 4 t (ix4 0 0 half κ) = m ((c : Thread nD τ).loc main_arg4) (ix3 ⟨((grid0.coords t) 0).val, coord0_lt (grid0.coords t)⟩ (head (grid0.coords t) half) κ) := by
  refine Eq.trans (b := V m c main_v0 (ix4 ⟨((grid0.coords t) 0).val, coord0_lt (grid0.coords t)⟩ ⟨((grid0.coords t) 1).val, coord1_lt (grid0.coords t)⟩ half κ)) ?_ ?_
  · show V m c main_v0 _ = V m c main_v0 _
    congr 1
    funext a
    match a with
    | ⟨0, _⟩ => exact Fin.ext ((win0_4.rect_emb_val t (ix4 0 0 half κ) 0).trans (by
        show cc0_transform_4 (grid0.coords t) 0 * 1 + 0 = ((grid0.coords t) 0).val
        rw [map_sums]; show ((grid0.coords t) 0).val * 1 + 0 = _; omega))
    | ⟨1, _⟩ => exact Fin.ext ((win0_4.rect_emb_val t (ix4 0 0 half κ) 1).trans (by
        show cc0_transform_4 (grid0.coords t) 1 * 1 + 0 = ((grid0.coords t) 1).val
        rw [map_sums]; show ((grid0.coords t) 1).val * 1 + 0 = _; omega))
    | ⟨2, _⟩ => exact Fin.ext ((win0_4.rect_emb_val t (ix4 0 0 half κ) 2).trans (by
        show cc0_transform_4 (grid0.coords t) 2 * 2 + half.val = half.val
        rw [map_sums]; show 0 * 2 + half.val = _; omega))
    | ⟨3, _⟩ => exact Fin.ext ((win0_4.rect_emb_val t (ix4 0 0 half κ) 3).trans (by
        show cc0_transform_4 (grid0.coords t) 3 * 8192 + κ.val = κ.val
        rw [map_sums]; show 0 * 8192 + κ.val = _; omega))
  · rw [paired]
    refine shapeCast_apply _ _ _ _ ?_
    show (S2x8x8192.rowMajor (ix3 ⟨((grid0.coords t) 0).val, coord0_lt (grid0.coords t)⟩ (head (grid0.coords t) half) κ)).val = _
    rw [Shape.rowMajor_val_three, Shape.rowMajor_val_four]
    show (((grid0.coords t) 0).val * 8 + (2 * ((grid0.coords t) 1).val + half.val)) * 8192 + κ.val = ((((grid0.coords t) 0).val * 4 + ((grid0.coords t) 1).val) * 2 + half.val) * 8192 + κ.val
    omega

/-- Where the point's result lies. -/
theorem result_block (r : Fin 512) (d : Fin 128) :
    ((cfg0.win 5).blk t).view.emb (ix2 r d : S512x128.Idx) = (ix2 (row (grid0.coords t) r) (column (grid0.coords t) d) : S16384x512.Idx) := by
  funext a
  match a with
  | ⟨0, _⟩ => exact Fin.ext ((win0_5.rect_emb_val t (ix2 r d) 0).trans (by
      show cc0_transform_0 (grid0.coords t) 0 * 512 + r.val = 8192 * ((grid0.coords t) 0).val + 512 * ((grid0.coords t) 2).val + r.val
      rw [map_rows]; show (16 * _ + _) * 512 + r.val = _; omega))
  | ⟨1, _⟩ => exact Fin.ext ((win0_5.rect_emb_val t (ix2 r d) 1).trans (by
      show cc0_transform_0 (grid0.coords t) 1 * 128 + d.val = 128 * ((grid0.coords t) 1).val + d.val
      rw [map_rows]; show ((grid0.coords t) 1).val * 128 + d.val = _; omega))

/-! ## From the point's scores to the array's -/

theorem key_row (i : grid0.Coords) (r : Fin 512) (κ : Fin 8192) : key (row i r) κ = keyRow i κ :=
  Fin.ext (by have := coord2_lt i; have := coord0_lt i; show 8192 * ((8192 * (i 0).val + 512 * (i 2).val + r.val) / 8192) + κ.val = 8192 * (i 0).val + κ.val; omega)

theorem pos_row (i : grid0.Coords) (r : Fin 512) : (posOf (row i r)).val = 512 * (i 2).val + r.val := by
  have := coord2_lt i
  show (8192 * (i 0).val + 512 * (i 2).val + r.val) % 8192 = _
  omega

theorem seq_row (i : grid0.Coords) (r : Fin 512) : seqOf (row i r) = ⟨(i 0).val, coord0_lt i⟩ :=
  Fin.ext (by have := coord2_lt i; have := coord0_lt i; show (8192 * (i 0).val + 512 * (i 2).val + r.val) / 8192 = (i 0).val; omega)

theorem lane_column (i : grid0.Coords) (half : Fin 2) (e : Fin 64) : column i (lane half e) = col (head i half) e :=
  Fin.ext (by show 128 * (i 1).val + (64 * half.val + e.val) = 64 * (2 * (i 1).val + half.val) + e.val; omega)

theorem head_column (i : grid0.Coords) (d : Fin 128) : headOfCol (column i d) = head i (headOf d) := by
  refine Fin.ext ?_
  show (128 * (i 1).val + d.val) / 64 = 2 * (i 1).val + (headOf d).val
  by_cases h : d.val < 64
  · rw [headOf, if_pos h]; show _ = 2 * (i 1).val + 0; omega
  · rw [headOf, if_neg h]; show _ = 2 * (i 1).val + 1; omega

/-- The argument arrays. -/
abbrev argQ : FVec Ideal S16384x512 .bf16 := m ((c : Thread nD τ).loc main_arg0)
abbrev argK : FVec Ideal S16384x512 .bf16 := m ((c : Thread nD τ).loc main_arg1)
abbrev argV : FVec Ideal S16384x512 .bf16 := m ((c : Thread nD τ).loc main_arg2)
abbrev argG : FVec Ideal S16384x128 .f32 := m ((c : Thread nD τ).loc main_arg3)
abbrev argS : FVec Ideal S2x8x8192 .f32 := m ((c : Thread nD τ).loc main_arg4)

theorem score_eq (half : Fin 2) (r : Fin 512) :
    Block.score (grid0.coords t) (iblk m c 0 t) (iblk m c 1 t) (iblk m c 3 t) (iblk m c 4 t) half r
      = Fox.score (argQ m c) (argK m c) (argG m c) (argS m c) (row (grid0.coords t) r) (head (grid0.coords t) half) := by
  funext κ
  rw [Block.score, Fox.score]
  by_cases hκ : κ < 8192
  · rw [dif_pos hκ, dif_pos hκ, pos_row]
    by_cases hc : κ ≤ 512 * ((grid0.coords t) 2).val + r.val
    · rw [if_pos hc, if_pos hc]
      refine congrArg₂ (· - ·) (congrArg₂ (· + ·) (Finset.sum_congr rfl fun e _ => congrArg₂ (· * ·) ?_ ?_) ?_) ?_
      · rw [query_block, lane_column]
      · rw [key_block, lane_column, key_row]
      · rw [gate_block]; rfl
      · rw [sum_block, seq_row]
    · rw [if_neg hc, if_neg hc]
  · rw [dif_neg hκ, dif_neg hκ]

theorem value_eq (r : Fin 512) (d : Fin 128) :
    Block.value (iblk m c 2 t) d = Fox.value (argV m c) (row (grid0.coords t) r) (column (grid0.coords t) d) := by
  funext κ
  rw [Block.value, Fox.value]
  by_cases hκ : κ < 8192
  · rw [dif_pos hκ, dif_pos hκ, value_block, key_row]
  · rw [dif_neg hκ, dif_neg hκ]

/-- A row's scores end with its own block of keys. -/
theorem score_bot (i : grid0.Coords) (Q K : Tokens.Idx → EReal) (g : Gates.Idx → EReal) (s : Sums.Idx → EReal) (r : Fin 512)
    (h : Fin 8) (κ : ℕ) (hκ : 512 * (i 2).val + 512 ≤ κ) : Fox.score Q K g s (row i r) h κ = ⊥ := by
  rw [Fox.score]
  by_cases h8 : κ < 8192
  · rw [dif_pos h8, pos_row, if_neg (by omega)]
  · rw [dif_neg h8]

/-- What a grid point writes, in the array. -/
theorem block_apply (r : Fin 512) (d : Fin 128) :
    (dats m 0 c).arrAt 5 cfg0.N (ix2 (row (grid0.coords t) r) (column (grid0.coords t) d) : S16384x512.Idx)
      = attention (argQ m c) (argK m c) (argV m c) (argG m c) (argS m c) (row (grid0.coords t) r) (column (grid0.coords t) d) := by
  rw [← result_block t r d]
  refine ((dats m 0 c).arrAt_emb_eq_flushed 5 disjoint5 t (flush0_5 t) (ix2 r d : S512x128.Idx)).trans ?_
  rw [_root_.cast_eq, flushed5_A]
  refine (out_apply (grid0.coords t) (iblk m c 0 t) (iblk m c 1 t) (iblk m c 2 t) (iblk m c 3 t) (iblk m c 4 t) _ _ _ _ _ _ c _ _ _ _ _ _ r d).trans ?_
  have hn : 512 * ((grid0.coords t) 2).val + 512 ≤ 8192 := by have := coord2_lt (grid0.coords t); omega
  rw [score_eq, value_eq m c t r d, attention, head_column, dot_eq_of_bot _ _ hn (score_bot (grid0.coords t) _ _ _ _ r _),
    mass_eq_of_bot _ hn (score_bot (grid0.coords t) _ _ _ _ r _)]

/-- The call's result array. -/
theorem result_apply (R : Fin 16384) (C : Fin 512) :
    (dats m 0 c).arrAt 5 cfg0.N (ix2 R C : S16384x512.Idx)
      = attention (argQ m c) (argK m c) (argV m c) (argG m c) (argS m c) R C := by
  have hR := R.isLt
  have hC := C.isLt
  obtain ⟨t, ht⟩ := grid0.coords_surjective (fun a => match a with
    | ⟨0, _⟩ => (⟨R.val / 8192, by omega⟩ : Fin 2)
    | ⟨1, _⟩ => (⟨C.val / 128, by omega⟩ : Fin 4)
    | ⟨2, _⟩ => (⟨R.val % 8192 / 512, by omega⟩ : Fin 16))
  have h0 : (grid0.coords t 0).val = R.val / 8192 := by rw [ht]
  have h1 : (grid0.coords t 1).val = C.val / 128 := by rw [ht]
  have h2 : (grid0.coords t 2).val = R.val % 8192 / 512 := by rw [ht]
  have hr : row (grid0.coords t) ⟨R.val % 512, by omega⟩ = R := Fin.ext (by
    show 8192 * (grid0.coords t 0).val + 512 * (grid0.coords t 2).val + R.val % 512 = R.val
    rw [h0, h2]; omega)
  have hc : column (grid0.coords t) ⟨C.val % 128, by omega⟩ = C := Fin.ext (by
    show 128 * (grid0.coords t 1).val + C.val % 128 = C.val
    rw [h1]; omega)
  have h := block_apply m c t ⟨R.val % 512, by omega⟩ ⟨C.val % 128, by omega⟩
  rwa [hr, hc] at h

/-! ## Finite arguments -/

/-- Under finite queries, keys and gate sums the weights of every row sum to a positive number. -/
theorem mass_pos_of_real (Q K : Tokens.Idx → EReal) (g : Gates.Idx → EReal) (s : Sums.Idx → EReal) (hQ : ∀ j, IsReal (Q j))
    (hK : ∀ j, IsReal (K j)) (hg : ∀ j, IsReal (g j)) (hs : ∀ j, IsReal (s j)) (R : Fin 16384) (h : Fin 8) :
    0 < mass (Fox.score Q K g s R h) 8192 := by
  have hreal : ∀ (κ : ℕ) (hκ : κ < 8192), IsReal ((∑ e : Fin 64, Q (ix2 R (col h e)) * K (ix2 (key R ⟨κ, hκ⟩) (col h e)))
      + g (ix2 R (gate h)) - s (ix3 (seqOf R) h ⟨κ, hκ⟩)) := fun κ hκ =>
    ((IsReal.sum _ _ fun e _ => (hQ _).mul (hK _)).add (hg _)).sub (hs _)
  refine mass_pos _ (by norm_num) ?_ fun κ hκ => ?_
  · rw [Fox.score, dif_pos (by norm_num), if_pos (Nat.zero_le _)]
    exact (hreal 0 _).ne_bot
  · rw [Fox.score, dif_pos hκ]
    split
    · exact (hreal κ hκ).ne_top
    · exact bot_ne_top

end Cert.Fox.Value

end
-- ==== Proof.FoxRef.lean ====
/- The reference forgetting attention, entry by entry: its `[2, 8192, 8, 64]` layout undone, its normalised weights
   summed against the values — the entry of `FoxSpec` wherever the weights' sum is positive. -/
module

public import proofs.«01_k».proof.Proof.FoxSpec
public import proofs.«01_k».proof.Proof.Gen.FoxRefIdeal.Read
public import Idealize.ShloMosaic.Lib.WordCmp

@[expose] public section

noncomputable section

namespace Cert.Fox.Ref

open Idealize.ShloMosaic Idealize.ShloMosaic.Ideal Idealize.ShloMosaic.ValueIdx
open Cert.FoxRefIdeal Cert.FoxRefIdeal.Gen Cert.FoxRefIdeal.Read Cert.Softmax

variable (Q K V : FVec Ideal S16384x512 .bf16) (g : FVec Ideal S16384x128 .f32) (s : FVec Ideal S2x8x8192 .f32)

/-- The score array's entry of row `R`, head `h`, key `κ`. -/
def at4 (R : Fin 16384) (h : Fin 8) (κ : Fin 8192) : S2x8x8192x8192.Idx := ix4 (seqOf R) h (posOf R) κ

theorem row_of (b p h e : ℕ) (hh : h < 8) (he : e < 64) : (((b * 8192 + p) * 8 + h) * 64 + e) / 512 = b * 8192 + p := by omega

theorem col_of (b p h e : ℕ) (hh : h < 8) (he : e < 64) : (((b * 8192 + p) * 8 + h) * 64 + e) % 512 = 64 * h + e := by omega

theorem query_apply (R : Fin 16384) (h : Fin 8) (e : Fin 64) :
    val_main_v1 (F := Ideal) Q (ix4 (seqOf R) (posOf R) h e) = Q (ix2 R (col h e)) := by
  rw [val_main_v1_apply]
  show Q _ = Q _
  congr 1
  funext a
  match a with
  | ⟨0, _⟩ => exact Fin.ext ((row_of (R.val / 8192) (R.val % 8192) h.val e.val h.isLt e.isLt).trans (by show _ = R.val; omega))
  | ⟨1, _⟩ => exact Fin.ext (col_of (R.val / 8192) (R.val % 8192) h.val e.val h.isLt e.isLt)

theorem key_apply (R : Fin 16384) (h : Fin 8) (e : Fin 64) (κ : Fin 8192) :
    val_main_v3 (F := Ideal) K (ix4 (seqOf R) κ h e) = K (ix2 (key R κ) (col h e)) := by
  rw [val_main_v3_apply]
  show K _ = K _
  congr 1
  funext a
  match a with
  | ⟨0, _⟩ => exact Fin.ext ((row_of (R.val / 8192) κ.val h.val e.val h.isLt e.isLt).trans (by rw [key]; show _ = 8192 * _ + κ.val; omega))
  | ⟨1, _⟩ => exact Fin.ext (col_of (R.val / 8192) κ.val h.val e.val h.isLt e.isLt)

theorem value_apply (R : Fin 16384) (h : Fin 8) (e : Fin 64) (κ : Fin 8192) :
    val_main_v5 (F := Ideal) V (ix4 (seqOf R) κ h e) = V (ix2 (key R κ) (col h e)) := by
  rw [val_main_v5_apply]
  show V _ = V _
  congr 1
  funext a
  match a with
  | ⟨0, _⟩ => exact Fin.ext ((row_of (R.val / 8192) κ.val h.val e.val h.isLt e.isLt).trans (by rw [key]; show _ = 8192 * _ + κ.val; omega))
  | ⟨1, _⟩ => exact Fin.ext (col_of (R.val / 8192) κ.val h.val e.val h.isLt e.isLt)

theorem gate_apply (R : Fin 16384) (h : Fin 8) (κ : Fin 8192) :
    val_main_v12 (F := Ideal) g (at4 R h κ) = g (ix2 R (gate h)) := by
  rw [val_main_v12_apply, val_main_v11_apply, val_main_v10_apply, val_main_v7_apply, val_main_v6_apply]
  congr 1
  funext a
  have hh := h.isLt
  match a with
  | ⟨0, _⟩ => exact Fin.ext (by show ((R.val / 8192 * 8192 + R.val % 8192) * 8 + h.val) / 8 = R.val; omega)
  | ⟨1, _⟩ => exact Fin.ext (by show ((R.val / 8192 * 8192 + R.val % 8192) * 8 + h.val) % 8 = h.val; omega)

theorem sum_apply (R : Fin 16384) (h : Fin 8) (κ : Fin 8192) :
    val_main_v15 (F := Ideal) s (at4 R h κ) = s (ix3 (seqOf R) h κ) := by
  rw [val_main_v15_apply, val_main_v14_apply]
  congr 1
  funext a
  match a with
  | ⟨0, _⟩ => rfl
  | ⟨1, _⟩ => rfl
  | ⟨2, _⟩ => rfl

theorem product_apply (R : Fin 16384) (h : Fin 8) (κ : Fin 8192) :
    val_main_v9 (F := Ideal) Q K (at4 R h κ) = ∑ e : Fin 64, (Q (ix2 R (col h e)) * K (ix2 (key R κ) (col h e)) : EReal) := by
  rw [val_main_v9_apply]
  refine Finset.sum_congr rfl fun e _ => congrArg₂ (· * ·) ?_ ?_
  · refine Eq.trans (congrArg _ ?_) (query_apply Q R h e)
    funext a
    match a with
    | ⟨0, _⟩ => rfl
    | ⟨1, _⟩ => rfl
    | ⟨2, _⟩ => rfl
    | ⟨3, _⟩ => rfl
  · refine Eq.trans (congrArg _ ?_) (key_apply K R h e κ)
    funext a
    match a with
    | ⟨0, _⟩ => rfl
    | ⟨1, _⟩ => rfl
    | ⟨2, _⟩ => rfl
    | ⟨3, _⟩ => rfl

theorem causal_apply (R : Fin 16384) (h : Fin 8) (κ : Fin 8192) :
    val_main_call0_v1 (F := Ideal) (at4 R h κ) = if κ.val ≤ (posOf R).val then 1#1 else 0#1 := by
  rw [val_main_call0_v1_apply, val_main_v21_apply, val_main_v19_apply, val_main_v17_apply, val_main_v20_apply,
    val_main_v18_apply, val_main_v8_apply, val_main_v8_apply]
  show IntOp.cmpi .sle (BitVec.ofNat 32 κ.val) (BitVec.ofNat 32 (posOf R).val) = _
  have hp := (posOf R).isLt
  have hκ := κ.isLt
  rw [WordCmp.cmpi_sle_ofNat (by omega) (by omega)]
  by_cases hk : κ.val ≤ (posOf R).val
  · rw [if_pos hk, decide_eq_true hk]; rfl
  · rw [if_neg hk, decide_eq_false hk]; rfl

theorem bot_word : (FloatOps.ofBits .f32 0xFF800000#32 : Ideal .f32) = (⊥ : EReal) := by
  show Ideal.ofBits .f32 0xFF800000#32 = ⊥
  simp [Ideal.ofBits, Ideal.ieee]

/-- The masked scores. -/
theorem score_apply (R : Fin 16384) (h : Fin 8) (κ : Fin 8192) :
    val_main_v22 (F := Ideal) Q K g s (at4 R h κ) = score Q K g s R h κ.val := by
  rw [val_main_v22_apply, causal_apply, val_main_v16_apply, val_main_v13_apply, product_apply, gate_apply, sum_apply,
    val_main_call0_v2_apply, score, dif_pos κ.isLt]
  have hb : val_main_call0_v0 (F := Ideal) (idx_main_call0_v2 (at4 R h κ)) = (⊥ : EReal) := bot_word
  rw [hb]
  split <;> rfl

/-- A fold of maxima from the least value. -/
theorem fold_max (n : ℕ) (f : Fin n → EReal) :
    Finset.fold (FloatOps.maximumf (F := Ideal) (φ := .f32)) (FloatOps.ofBits .f32 0xFF800000#32 : Ideal .f32) f Finset.univ
      = Finset.univ.sup f := by
  rw [bot_word]
  rfl

theorem top_fin (f : ℕ → EReal) (n : ℕ) : top f n = Finset.univ.sup fun k : Fin n => f k.val := by
  refine le_antisymm (Finset.sup_le fun k hk => ?_) (Finset.sup_le fun k _ => le_top_of_lt f k.isLt)
  exact Finset.le_sup (f := fun k : Fin n => f k.val) (Finset.mem_univ ⟨k, Finset.mem_range.mp hk⟩)

/-- The rows' maxima. -/
theorem max_apply (R : Fin 16384) (h : Fin 8) :
    val_main_v25 (F := Ideal) Q K g s (ix3 (seqOf R) h (posOf R)) = top (score Q K g s R h) 8192 := by
  have hb : val_main_v24 (F := Ideal) (ix3 (seqOf R) h (posOf R)) = (⊥ : EReal) := (val_main_v24_apply _).trans bot_word
  rw [val_main_v25_apply, hb]
  show max (⊥ : EReal) _ = _
  rw [max_eq_right bot_le, val_main_v23]
  refine (Host.reduce_eq_fold_single (FloatOps.maximumf (F := Ideal) (φ := .f32)) _ _ _ (by decide) _ _).trans ?_
  refine (fold_max _ _).trans ((congrArg (fun f => Finset.univ.sup f) (funext fun κ => ?_)).trans (top_fin _ 8192).symm)
  refine Eq.trans (congrArg (val_main_v22 (F := Ideal) Q K g s) ?_) (score_apply Q K g s R h κ)
  funext a
  match a with
  | ⟨0, _⟩ => exact Fin.ext (by rfl)
  | ⟨1, _⟩ => exact Fin.ext (by rfl)
  | ⟨2, _⟩ => exact Fin.ext (by rfl)
  | ⟨3, _⟩ => exact Fin.ext (by rfl)

/-- The weights before they are normalised. -/
theorem weight_apply (R : Fin 16384) (h : Fin 8) (κ : Fin 8192) :
    val_main_v29 (F := Ideal) Q K g s (at4 R h κ)
      = Ideal.exp (score Q K g s R h κ.val - top (score Q K g s R h) 8192) := by
  rw [val_main_v29_apply, val_main_v28_apply, score_apply, val_main_v27_apply, val_main_v26_apply]
  refine congrArg (fun x => Ideal.exp (score Q K g s R h κ.val - x)) (Eq.trans (congrArg _ ?_) (max_apply Q K g s R h))
  funext a
  match a with
  | ⟨0, _⟩ => rfl
  | ⟨1, _⟩ => rfl
  | ⟨2, _⟩ => rfl

/-- The rows' sums of weights. -/
theorem mass_apply (R : Fin 16384) (h : Fin 8) :
    val_main_v30 (F := Ideal) Q K g s (ix3 (seqOf R) h (posOf R)) = mass (score Q K g s R h) 8192 := by
  rw [val_main_v30_apply]
  have hz : val_main_cst_2 (F := Ideal) (Shape.Idx.first h_S_) = (0 : EReal) := ofBits_zero_f32
  rw [hz, zero_add, mass, Finset.sum_range]
  refine Finset.sum_congr rfl fun κ _ => Eq.trans (congrArg _ ?_) (weight_apply Q K g s R h κ)
  funext a
  match a with
  | ⟨0, _⟩ => rfl
  | ⟨1, _⟩ => rfl
  | ⟨2, _⟩ => rfl
  | ⟨3, _⟩ => rfl

/-- The normalised weights. -/
theorem prob_apply (R : Fin 16384) (h : Fin 8) (κ : Fin 8192) :
    val_main_v33 (F := Ideal) Q K g s (at4 R h κ)
      = Ideal.div (Ideal.exp (score Q K g s R h κ.val - top (score Q K g s R h) 8192)) (mass (score Q K g s R h) 8192) := by
  rw [val_main_v33_apply, weight_apply, val_main_v32_apply, val_main_v31_apply]
  refine congrArg (Ideal.div _) (Eq.trans (congrArg _ ?_) (mass_apply Q K g s R h))
  funext a
  match a with
  | ⟨0, _⟩ => rfl
  | ⟨1, _⟩ => rfl
  | ⟨2, _⟩ => rfl

/-- The reference's result where the weights of the row sum to a positive number. -/
theorem result_apply (R : Fin 16384) (C : Fin 512) (hpos : 0 < mass (score Q K g s R (headOfCol C)) 8192) :
    val_main_v36 (F := Ideal) Q K V g s (ix2 R C) = attention Q K V g s R C := by
  rw [attention, dot_div_mass _ _ _ hpos, val_main_v36_apply, val_main_v35_apply, val_main_v34_apply, Finset.sum_range]
  have hC := C.isLt
  refine Finset.sum_congr rfl fun κ _ => (mul_comm _ _).trans (congrArg₂ (· * ·) ?_ ?_)
  · refine Eq.trans (congrArg _ ?_) (prob_apply Q K g s R (headOfCol C) κ)
    funext a
    match a with
    | ⟨0, _⟩ => exact Fin.ext (by show (R.val * 512 + C.val) / 4194304 = R.val / 8192; omega)
    | ⟨1, _⟩ => exact Fin.ext (by show (R.val * 512 + C.val) / 64 % 8 = C.val / 64; omega)
    | ⟨2, _⟩ => exact Fin.ext (by show (R.val * 512 + C.val) / 512 % 8192 = R.val % 8192; omega)
    | ⟨3, _⟩ => rfl
  · rw [value, dif_pos κ.isLt]
    refine Eq.trans (congrArg _ ?_) ((value_apply V R (headOfCol C) ⟨C.val % 64, by omega⟩ κ).trans (congrArg (fun c => V (ix2 (key R κ) c)) ?_))
    · funext a
      match a with
      | ⟨0, _⟩ => exact Fin.ext (by show (R.val * 512 + C.val) / 4194304 = R.val / 8192; omega)
      | ⟨1, _⟩ => rfl
      | ⟨2, _⟩ => exact Fin.ext (by show (R.val * 512 + C.val) / 64 % 8 = C.val / 64; omega)
      | ⟨3, _⟩ => exact Fin.ext (by show (R.val * 512 + C.val) % 64 = C.val % 64; omega)
    · exact Fin.ext (by show 64 * (C.val / 64) + C.val % 64 = C.val; omega)

end Cert.Fox.Ref

end
-- ==== Proof.FoxClaim.lean ====
/- The claims about the forgetting attention: the three programs leave their arguments and their counters as they were,
   and over the extended reals the kernel's result is the reference's whenever the queries, the keys and the gate sums
   are finite. -/
module

public import proofs.«01_k».proof.Defs
public import proofs.«01_k».proof.Proof.FoxValue
public import proofs.«01_k».proof.Proof.FoxRef
public import proofs.«01_k».proof.Proof.Gen.Fox.Frame
public import proofs.«01_k».proof.Proof.Gen.FoxRefIdeal.Run

@[expose] public section

noncomputable section

namespace Cert.Fox.Claims

open Idealize.ShloMosaic Idealize.ShloMosaic.ValueIdx Idealize.ShloMosaic.TcCoe Idealize.SL.Sem Cert.Finite

instance preFacts : Cert.Pre_finite.Facts := ⟨by decide, by decide, by decide, by decide⟩

theorem frame_kernel : Cert.quiescent_Fox := fun m ρ _ => Cert.Fox.Gen.frame m ρ

theorem frame_ideal : Cert.quiescent_FoxIdeal := fun m ρ _ => Cert.FoxIdeal.Gen.frame m ρ

theorem frame_ideal_pre : Cert.quiescent_FoxIdeal_pre_finite := fun m ρ _ => Cert.FoxIdeal.Gen.frame m ρ

theorem frame_reference : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

theorem frame_reference_pre : Cert.quiescent_FoxRefIdeal_pre_finite := fun m ρ _ => frame_reference m ρ trivial

theorem preserves : Cert.preserves_Fox_FoxIdeal := IdealRules.named_const.statement Cert.FoxIdeal.κ "mask" .f32 0xF149F2CA#32 ⊥ rfl

/-- What the precondition says of the kernel's arguments. -/
theorem args_real {m : (ℓ : Loc Cert.FoxIdeal.nD Cert.FoxIdeal.τ Cert.FoxIdeal.sig) → Buf (Elt Ideal) ℓ}
    (h : Cert.Pre_FoxIdeal_finite m) (c : Dev Cert.FoxIdeal.nD) :
    (∀ j, IsReal (Value.argQ m c j)) ∧ (∀ j, IsReal (Value.argK m c j)) ∧ (∀ j, IsReal (Value.argG m c j))
      ∧ ∀ j, IsReal (Value.argS m c j) :=
  ⟨fun j => isReal_of_bit (congrFun (h c).1 j), fun j => isReal_of_bit (congrFun (h c).2.1 j),
    fun j => isReal_of_bit (congrFun (h c).2.2.1 j), fun j => isReal_of_bit (congrFun (h c).2.2.2 j)⟩

theorem algebraic : Cert.algebraic_FoxIdeal_FoxRefIdeal_pre_finite := by
  intro m ρ m' ρ' hpre hagree
  refine ⟨_, Cert.FoxIdeal.Value.run_blocks m ρ, ?_⟩
  refine (θ_run Cert.FoxRefIdeal.defs _ _).mono (fun _ h c => ⟨(h c).1.trans ?_, (h c).2⟩)
    (Cert.FoxRefIdeal.Value.run (F := Ideal) m' ρ')
  obtain ⟨h0, h1, h2, h3, h4⟩ := hagree c
  obtain ⟨hQ, hK, hG, hS⟩ := args_real hpre c
  rw [Cert.FoxRefIdeal.Read.val_main_v36_eq, h0, h1, h2, h3, h4]
  funext j
  rw [eq_ix2 j]
  exact (Ref.result_apply _ _ _ _ _ _ _ (Value.mass_pos_of_real _ _ _ _ hQ hK hG hS _ _)).trans
    (Value.result_apply m c _ _).symm

end Cert.Fox.Claims

end
-- ==== Proof.FinitePre.lean ====
/- The shape conditions of the differential attention's precondition. -/
module

public import proofs.«01_k».proof.Pre_finite2

@[expose] public section

namespace Cert.Diff.Claims

instance preFacts : Cert.Pre_finite2.Facts := ⟨by decide, by decide, by decide⟩

end Cert.Diff.Claims
-- ==== Proof.DiffSpec.lean ====
/- The differential attention over whole arrays: what one entry of the result is. Rows are tokens, 8192 to a sequence;
   columns are 8 heads of 128 lanes. A head has two maps of scores, one from the first 64 lanes of its queries and keys
   and one from the last 64; both weigh the same 128 lanes of values, the second map's result is subtracted `λ` times,
   and the head's 128 numbers are divided by the root of their mean square and scaled. -/
module

public import proofs.«01_k».proof.Proof.OnlineSoftmax
public import Idealize.ShloMosaic.Lib.ValueIdx

@[expose] public section

noncomputable section

namespace Cert.Diff

open Idealize.ShloMosaic Idealize.ShloMosaic.ValueIdx Cert.Softmax

abbrev Tokens : Shape := ⟨2, ![16384, 1024]⟩
abbrev Coeffs : Shape := ⟨2, ![1, 64]⟩
abbrev Gains : Shape := ⟨2, ![1, 128]⟩

/-- Token `κ` of the sequence of row `R`. -/
def key (R : Fin 16384) (κ : Fin 8192) : Fin 16384 := ⟨8192 * (R.val / 8192) + κ.val, by omega⟩

/-- Lane `e` of half `half` of head `h`. -/
def col (h : Fin 8) (half : Fin 2) (e : Fin 64) : Fin 1024 := ⟨128 * h.val + (64 * half.val + e.val), by omega⟩

/-- Lane `d` of head `h`. -/
def wide (h : Fin 8) (d : Fin 128) : Fin 1024 := ⟨128 * h.val + d.val, by omega⟩

def headOf (C : Fin 1024) : Fin 8 := ⟨C.val / 128, by omega⟩

def laneOf (C : Fin 1024) : Fin 128 := ⟨C.val % 128, by omega⟩

def seqOf (R : Fin 16384) : Fin 2 := ⟨R.val / 8192, by omega⟩

def posOf (R : Fin 16384) : Fin 8192 := ⟨R.val % 8192, by omega⟩

/-- The factor of the second map: `w` is the layer's initial value of it. -/
def factor (a b c d : Coeffs.Idx → EReal) (w : EReal) : EReal :=
  Ideal.exp (∑ e : Fin 64, a (ix2 0 e) * b (ix2 0 e)) - Ideal.exp (∑ e : Fin 64, c (ix2 0 e) * d (ix2 0 e)) + w

/-- 128 numbers `x` over the root of their mean square, times their gains `g` and the layer's scale `w`. -/
def normed (x : Fin 128 → EReal) (g : Gains.Idx → EReal) (w : EReal) (d : Fin 128) : EReal :=
  x d * Ideal.rsqrt (Ideal.div (∑ e, x e * x e) (Ideal.ofBits .f32 0x43000000#32) + Ideal.ofBits .f32 0x3727C5AC#32)
    * g (ix2 0 d) * w

/-- The two maps' weighed values, the second taken from the first `lam` times. -/
def twoMaps (s : Fin 2 → ℕ → EReal) (v : ℕ → EReal) (lam : EReal) (n : ℕ) : EReal :=
  Ideal.div (dot (s 0) v n) (mass (s 0) n) - lam * Ideal.div (dot (s 1) v n) (mass (s 1) n)

variable (Q K V : Tokens.Idx → EReal)

/-- The score of key `κ` for the query of row `R`, in map `half` of head `h`: none after the row's own token. -/
def score (R : Fin 16384) (h : Fin 8) (half : Fin 2) (κ : ℕ) : EReal :=
  if hκ : κ < 8192 then
    if κ ≤ (posOf R).val then ∑ e : Fin 64, Q (ix2 R (col h half e)) * K (ix2 (key R ⟨κ, hκ⟩) (col h half e)) else ⊥
  else ⊥

/-- The value of key `κ` in lane `d` of head `h`. -/
def value (R : Fin 16384) (h : Fin 8) (d : Fin 128) (κ : ℕ) : EReal :=
  if hκ : κ < 8192 then V (ix2 (key R ⟨κ, hκ⟩) (wide h d)) else 0

/-- One entry of the attention. -/
def attention (lam : EReal) (g : Gains.Idx → EReal) (w : EReal) (R : Fin 16384) (C : Fin 1024) : EReal :=
  normed (fun d => twoMaps (score Q K R (headOf C)) (value V R (headOf C) d) lam 8192) g w (laneOf C)

end Cert.Diff

end
-- ==== Proof.DiffBlock.lean ====
/- What the differential-attention kernel writes at one grid point: for each of its 512 query rows the two maps'
   softmaxes over the keys up to the row, weighing the same values — the running form of `Update`, carried through the
   counted loop over the earlier key blocks and closed by the masked block on the diagonal —, the second taken from the
   first and the row normed. -/
module

public import proofs.«01_k».proof.Proof.Blocks
public import proofs.«01_k».proof.Proof.Update
public import proofs.«01_k».proof.Proof.DiffSpec
public import proofs.«01_k».proof.Proof.Gen.DiffIdeal.Value

@[expose] public section

noncomputable section

namespace Cert.Diff.Block

open Idealize.ShloMosaic Idealize.ShloMosaic.Ideal Idealize.ShloMosaic.ValueIdx Idealize.ShloMosaic.TcCoe
open Idealize.SL.Sem
open Cert.DiffIdeal Cert.DiffIdeal.Gen Cert.Softmax Cert.Flash Cert.Blocks Cert.Diff

/-! ## The grid point's numbers -/

theorem trips1 (i : grid0.Coords) : (k0_t1_loop i).trips = (i 2).val :=
  (by decide +kernel : ∀ n : Fin 16, (⟨0#32, Scalar.addi 0#32 (Scalar.muli (Scalar.divsi (Scalar.subi (BitVec.ofNat 32 n.val) 0#32) 1#32) 1#32), 1#32⟩ : Scf.Loop 32).trips = n.val) (i 2)

theorem trips2 (i : grid0.Coords) : (k0_t2_loop i).trips = 0 :=
  (by decide +kernel : ∀ n : Fin 16, (⟨Scalar.addi 0#32 (Scalar.muli (Scalar.divsi (Scalar.subi (BitVec.ofNat 32 n.val) 0#32) 1#32) 1#32), Scalar.addi 0#32 (Scalar.subi (BitVec.ofNat 32 n.val) 0#32), 1#32⟩ : Scf.Loop 32).trips = 0) (i 2)

theorem trip_lt (i : grid0.Coords) (k : Fin (k0_t1_loop i).trips) : k.val < (i 2).val :=
  lt_of_lt_of_eq k.isLt (trips1 i)

theorem coord2_lt (i : grid0.Coords) : (i 2).val < 16 := (i 2).isLt
theorem coord1_lt (i : grid0.Coords) : (i 1).val < 8 := (i 1).isLt

theorem off1_eq (i : grid0.Coords) (k : Fin (k0_t1_loop i).trips) : k0_off1 i k = ![512 * k.val, 0] := by
  have h : k.val < 16 := lt_trans (trip_lt i k) (coord2_lt i)
  show ![(Scalar.indexCast (Scalar.muli (Scf.iv 0#32 1#32 k.val) 512#32)).toNat, 0] = _
  rw [block_off _ h]

theorem off3_eq (i : grid0.Coords) : k0_off3 i = ![512 * (i 2).val, 0] := by
  show ![(Scalar.indexCast (Scalar.muli (BitVec.ofNat 32 (i 2).val) 512#32)).toNat, 0] = _
  rw [diag_off _ (coord2_lt i)]

/-! ## Scores -/

/-- The bit of the lane mask. -/
theorem lane_bit (r : Fin 512) (e : Fin 128) : k0_pay2 (ix2 r e) = if e.val < 64 then 1#1 else 0#1 :=
  (by decide +kernel : ∀ e : Fin 128, IntOp.cmpi .slt (BitVec.ofNat 32 (0 * 128 + e.val)) 64#32 = if e.val < 64 then 1#1 else 0#1) e

theorem zero_bf16 (j : S512x128.Idx) : (k0_pay3 : FVec Ideal S512x128 .bf16) j = (0 : EReal) := by
  show Ideal.ofBits .bf16 0x0000#16 = 0
  simp [Ideal.ofBits, Ideal.ieee]

theorem scoresA_apply (q K : Vec Ideal S512x128 .bf16) (r c : Fin 512) :
    k0_pay9 q K (ix2 r c) = ∑ e : Fin 64, (q (ix2 r (lane 0 e)) * K (ix2 c (lane 0 e)) : EReal) := by
  refine (dotQK_apply _ (k0_pay4 q) K r c).trans ?_
  have hq : ∀ e : Fin 128, k0_pay4 q (ix2 r e) = (if e.val < 64 then q (ix2 r e) else (0 : EReal) : EReal) := fun e => by
    show Scalar.select (k0_pay2 (ix2 r e)) (q (ix2 r e) : Ideal .bf16) ((k0_pay3 : FVec Ideal S512x128 .bf16) (ix2 r e)) = _
    rw [lane_bit, zero_bf16]
    split <;> rfl
  rw [sum_lanes]
  have h1 : ∑ e, (k0_pay4 q (ix2 r (lane 1 e)) * K (ix2 c (lane 1 e)) : EReal) = 0 :=
    Finset.sum_eq_zero fun e _ => by rw [hq, if_neg (by show ¬ (64 * 1 + e.val < 64); omega), zero_mul]
  rw [h1, add_zero]
  refine Finset.sum_congr rfl fun e _ => ?_
  rw [hq, if_pos (by show 64 * 0 + e.val < 64; omega)]

theorem scoresB_apply (q K : Vec Ideal S512x128 .bf16) (r c : Fin 512) :
    k0_pay10 q K (ix2 r c) = ∑ e : Fin 64, (q (ix2 r (lane 1 e)) * K (ix2 c (lane 1 e)) : EReal) := by
  refine (dotQK_apply _ (k0_pay5 q) K r c).trans ?_
  have hq : ∀ e : Fin 128, k0_pay5 q (ix2 r e) = (if e.val < 64 then (0 : EReal) else q (ix2 r e) : EReal) := fun e => by
    show Scalar.select (k0_pay2 (ix2 r e)) ((k0_pay3 : FVec Ideal S512x128 .bf16) (ix2 r e)) (q (ix2 r e) : Ideal .bf16) = _
    rw [lane_bit, zero_bf16]
    split <;> rfl
  rw [sum_lanes]
  have h0 : ∑ e, (k0_pay5 q (ix2 r (lane 0 e)) * K (ix2 c (lane 0 e)) : EReal) = 0 :=
    Finset.sum_eq_zero fun e _ => by rw [hq, if_pos (by show 64 * 0 + e.val < 64; omega), zero_mul]
  rw [h0, zero_add]
  refine Finset.sum_congr rfl fun e _ => ?_
  rw [hq, if_neg (by show ¬ (64 * 1 + e.val < 64); omega)]

/-- The mask of the diagonal block: the keys up to the row. -/
theorem causal_bit (r k : Fin 512) : k0_pay33 (ix2 r k) = if k.val ≤ r.val then 1#1 else 0#1 := below_bit r k

/-- A block of scores under the diagonal block's mask. -/
theorem masked_apply (S : FVec Ideal S512x512 .f32) (r k : Fin 512) :
    select k0_pay33 S (broadcast S512x512 (Named.named κ "mask" 0xF149F2CA#32 : Ideal .f32)) (ix2 r k)
      = if k.val ≤ r.val then S (ix2 r k) else (⊥ : EReal) := by
  have hm : (Named.named κ "mask" 0xF149F2CA#32 : Ideal .f32) = (⊥ : EReal) := IdealRules.named_const.ideal_named_scalar _ _ _ _ rfl
  show Scalar.select (k0_pay33 (ix2 r k)) (S (ix2 r k)) (Named.named κ "mask" 0xF149F2CA#32 : Ideal .f32) = _
  rw [causal_bit, hm]
  split <;> rfl

/-! ## The factor of the second map and the norm -/

/-- A product of two rows of coefficients, summed. -/
theorem coeffs_apply (a b : Vec Ideal S1x64 .f32) :
    shapeCast S1x1 (multiReduction .add [1] S1 (mulf a b : FVec Ideal S1x64 .f32) 0x00000000#32 reduces_S1x64_S1 (.inl rfl) rfl) shapeCasts_S1_S1x1 (ix2 0 0)
      = ∑ e : Fin 64, (a (ix2 0 e) * b (ix2 0 e) : EReal) := by
  refine (shapeCast_apply _ _ (ix2 0 0) (ix1 0) ?_).trans ?_
  · rw [Shape.rowMajor_val_one, Shape.rowMajor_val_two]; rfl
  · refine (multiReduction_add_single _ _ _ _ _ _).trans ?_
    refine Finset.sum_congr rfl fun e _ => ?_
    show (mulf a b : FVec Ideal S1x64 .f32) _ = (mulf a b : FVec Ideal S1x64 .f32) (ix2 0 e)
    congr 1
    funext x
    match x with
    | ⟨0, _⟩ => exact Fin.ext rfl
    | ⟨1, _⟩ => exact Fin.ext rfl

theorem factor_apply (a b c d : Vec Ideal S1x64 .f32) :
    k0_pay46 a b c d (ix2 0 0) = factor a b c d (Ideal.ofBits .f32 0x3EB60549#32) :=
  congrArg₂ (· + ·) (congrArg₂ (· - ·) (congrArg Ideal.exp (coeffs_apply a b)) (congrArg Ideal.exp (coeffs_apply c d))) rfl

/-- The end of the point: the difference of the maps, normed. -/
theorem norm_apply (aA aB lA : FVec Ideal S512x128 .f32) (lB : FVec Ideal S512x1 .f32) (lam : FVec Ideal S1x1 .f32)
    (g : Vec Ideal S1x128 .f32) (r : Fin 512) (d : Fin 128) :
    k0_pay1 aA lB aB lam lA g (ix2 r d)
      = normed (fun e => Ideal.div (aA (ix2 r e)) (lA (ix2 r e)) - lam (ix2 0 0) * Ideal.div (aB (ix2 r e)) (lB (ix2 r 0))) g
          (Ideal.ofBits .f32 0x3F24FD5C#32) d := by
  have hl : ∀ e, broadcastTo S512x128 lam broadcasts_S1x1_S512x128 (ix2 r e) = lam (ix2 0 0) := fun e => by
    unfold broadcastTo
    congr 1
    funext a
    match a with
    | ⟨0, _⟩ => exact Fin.ext rfl
    | ⟨1, _⟩ => exact Fin.ext rfl
  have hx : ∀ e, (subf (divf aA lA) (mulf (broadcastTo S512x128 lam broadcasts_S1x1_S512x128)
      (divf aB (broadcastTo S512x128 lB broadcasts_S512x1_S512x128))) : FVec Ideal S512x128 .f32) (ix2 r e)
        = Ideal.div (aA (ix2 r e)) (lA (ix2 r e)) - lam (ix2 0 0) * Ideal.div (aB (ix2 r e)) (lB (ix2 r 0)) := fun e =>
    congrArg₂ (· - ·) rfl (congrArg₂ (· * ·) (hl e) (congrArg (Ideal.div _) (broadcastCol_apply lB _ r e)))
  have hg : broadcastTo S512x128 g broadcasts_S1x128_S512x128 (ix2 r d) = g (ix2 0 d) := by
    unfold broadcastTo
    congr 1
    funext a
    match a with
    | ⟨0, _⟩ => exact Fin.ext rfl
    | ⟨1, _⟩ => exact Fin.ext rfl
  refine congrArg₂ (· * ·) (congrArg₂ (· * ·) (congrArg₂ (· * ·) (hx d) ?_) hg) rfl
  refine (broadcastCol_apply _ broadcasts_S512x1_S512x128 r d).trans (congrArg Ideal.rsqrt (congrArg₂ (· + ·) (congrArg₂ Ideal.div ?_ rfl) rfl))
  refine (rowSum_apply _ reduces_S512x128_S512 (.inl rfl) rfl shapeCasts_S512_S512x1 r).trans ?_
  exact Finset.sum_congr rfl fun e _ => congrArg₂ (· * ·) (hx e) (hx e)

/-! ## The running softmax of a row -/

section Point

variable (i : grid0.Coords) (x0 : Vec Ideal S512x128 .bf16) (x1 x2 : Vec Ideal S8192x128 .bf16)

/-- The score of key `κ` on row `r`, in map `half`: `⊥` past the row. -/
def score (r : Fin 512) (half : Fin 2) (κ : ℕ) : EReal :=
  if h : κ < 8192 then
    if κ ≤ 512 * (i 2).val + r.val then ∑ e : Fin 64, (x0 (ix2 r (lane half e)) * x1 (ix2 ⟨κ, h⟩ (lane half e)) : EReal)
    else ⊥
  else ⊥

/-- The value of key `κ` on lane `d`. -/
def value (d : Fin 128) (κ : ℕ) : EReal := if h : κ < 8192 then x2 (ix2 ⟨κ, h⟩ d) else 0

variable (arg4 : Memref sig .tc .vmem S8192x128 .bf16) (harg4 : arg4.IsWhole)
variable (arg5 : Memref sig .tc .vmem S8192x128 .bf16) (harg5 : arg5.IsWhole)

variable (arg3 : Memref sig .tc .vmem S512x128 .bf16) (harg3 : arg3.IsWhole)
variable (arg6 : Memref sig .tc .vmem S1x64 .f32) (harg6 : arg6.IsWhole)
variable (arg7 : Memref sig .tc .vmem S1x64 .f32) (harg7 : arg7.IsWhole)
variable (arg8 : Memref sig .tc .vmem S1x64 .f32) (harg8 : arg8.IsWhole)
variable (arg9 : Memref sig .tc .vmem S1x64 .f32) (harg9 : arg9.IsWhole)
variable (arg10 : Memref sig .tc .vmem S1x128 .f32) (harg10 : arg10.IsWhole)
variable (arg11 : Memref sig .tc .vmem S512x128 .f32) (harg11 : arg11.IsWhole)

/-- One trip of the loop over the earlier blocks. -/
theorem trip_holds (𝒱 : Variants) (c : Dev nD) (bd : Option 𝒱.V) (k : Fin (k0_t1_loop i).trips) (acc) (r : Fin 512)
    (hA : Holds (score i x0 x1 r 0) (value x2) (512 * k.val) r acc.1 acc.2.1 acc.2.2.1)
    (hB : Holds (score i x0 x1 r 1) (value x2) (512 * k.val) r acc.2.2.2.1 acc.2.2.2.2.1 acc.2.2.2.2.2) :
    let acc' := tripR_k0_t1 (F := Ideal) 𝒱 c bd i arg3 harg3 arg4 harg4 arg5 harg5 arg6 harg6 arg7 harg7 arg8 harg8 arg9
      harg9 arg10 harg10 arg11 harg11 x0 (harg4.unread x1) (harg5.unread x2) k acc
    Holds (score i x0 x1 r 0) (value x2) (512 * (k.val + 1)) r acc'.1 acc'.2.1 acc'.2.2.1
      ∧ Holds (score i x0 x1 r 1) (value x2) (512 * (k.val + 1)) r acc'.2.2.2.1 acc'.2.2.2.2.1 acc'.2.2.2.2.2 := by
  have hk := trip_lt i k
  have hi := coord2_lt i
  have hk' : k.val < 16 := lt_trans hk hi
  have hV : ∀ (j : Fin 512) (d : Fin 128), arg5.view.readAt (Elt Ideal)
      (Rect.unit (s := S8192x128) (k0_off1 i k) S512x128.size (k0_off1_inb i k)).toLoadRect (harg5.unread x2) (ix2 j d)
        = value x2 d (512 * k.val + j.val) := fun j d => by
    rw [load_block k.val hk' arg5 harg5 x2 (off1_eq i k), value, dif_pos (by omega)]
  unfold tripR_k0_t1 trip_k0_t1
  dsimp only
  refine ⟨Holds.step _ _ _ _ _ hA (S := k0_pay9 x0 _) (fun j => ?_) hV _,
    Holds.step _ _ _ _ _ hB (S := k0_pay10 x0 _) (fun j => ?_) hV _⟩
  · rw [scoresA_apply, score, dif_pos (by omega), if_pos (by omega)]
    simp only [load_block k.val hk' arg4 harg4 x1 (off1_eq i k)]
  · rw [scoresB_apply, score, dif_pos (by omega), if_pos (by omega)]
    simp only [load_block k.val hk' arg4 harg4 x1 (off1_eq i k)]

/-- The loop over the earlier blocks, after `n` trips. -/
theorem loop_holds (𝒱 : Variants) (c : Dev nD) (bd : Option 𝒱.V) (r : Fin 512) (n : ℕ) (hn : n ≤ (i 2).val) :
    let acc := st_k0_t1 (F := Ideal) 𝒱 c bd i arg3 harg3 arg4 harg4 arg5 harg5 arg6 harg6 arg7 harg7 arg8 harg8 arg9
      harg9 arg10 harg10 arg11 harg11 x0 (harg4.unread x1) (harg5.unread x2)
      (k0_pay6, k0_pay7, k0_pay8, k0_pay6, k0_pay7, k0_pay8) n
    Holds (score i x0 x1 r 0) (value x2) (512 * n) r acc.1 acc.2.1 acc.2.2.1
      ∧ Holds (score i x0 x1 r 1) (value x2) (512 * n) r acc.2.2.2.1 acc.2.2.2.2.1 acc.2.2.2.2.2 := by
  induction n with
  | zero =>
    have hm : (k0_pay6 : FVec Ideal S512x1 .f32) (ix2 r 0) = (⊥ : EReal) := IdealRules.named_const.ideal_named_scalar _ _ _ _ rfl
    have hl : (k0_pay7 : FVec Ideal S512x1 .f32) (ix2 r 0) = (0 : EReal) := ofBits_zero_f32
    have ha : ∀ d, (k0_pay8 : FVec Ideal S512x128 .f32) (ix2 r d) = (0 : EReal) := fun _ => ofBits_zero_f32
    exact ⟨Holds.init _ _ r hm hl ha, Holds.init _ _ r hm hl ha⟩
  | succ n ih =>
    have h := trip_holds i x0 x1 x2 arg4 harg4 arg5 harg5 arg3 harg3 arg6 harg6 arg7 harg7 arg8 harg8 arg9 harg9 arg10
      harg10 arg11 harg11 𝒱 c bd ⟨n, lt_of_lt_of_eq hn (trips1 i).symm⟩ _ r (ih (Nat.le_of_succ_le hn)).1
      (ih (Nat.le_of_succ_le hn)).2
    rw [st_k0_t1_succ (F := Ideal) 𝒱 c bd i arg3 harg3 arg4 harg4 arg5 harg5 arg6 harg6 arg7 harg7 arg8 harg8 arg9 harg9
      arg10 harg10 arg11 harg11 x0 (harg4.unread x1) (harg5.unread x2) _ ⟨n, lt_of_lt_of_eq hn (trips1 i).symm⟩]
    exact h

/-- The diagonal block, the difference and the norm. -/
theorem close_apply (acc : FVec Ideal S512x1 .f32 × FVec Ideal S512x1 .f32 × FVec Ideal S512x128 .f32 × FVec Ideal S512x1 .f32 × FVec Ideal S512x1 .f32 × FVec Ideal S512x128 .f32)
    (K V : Vec Ideal S512x128 .bf16) (lam : FVec Ideal S1x1 .f32) (g : Vec Ideal S1x128 .f32) (r : Fin 512) (d : Fin 128)
    (hK : ∀ (k : Fin 512) (e : Fin 128), K (ix2 k e) = x1 (ix2 ⟨512 * (i 2).val + k.val, by have := coord2_lt i; omega⟩ e))
    (hV : ∀ (k : Fin 512) (e : Fin 128), V (ix2 k e) = value x2 e (512 * (i 2).val + k.val))
    (hA : Holds (score i x0 x1 r 0) (value x2) (512 * (i 2).val) r acc.1 acc.2.1 acc.2.2.1)
    (hB : Holds (score i x0 x1 r 1) (value x2) (512 * (i 2).val) r acc.2.2.2.1 acc.2.2.2.2.1 acc.2.2.2.2.2) :
    k0_pay1 (k0_pay40 acc.2.2.1 V (k0_pay34 x0 K) (k0_pay37 x0 acc.1 K) (k0_pay38 x0 acc.1 K))
        (k0_pay44 acc.2.2.2.1 acc.2.2.2.2.1 (k0_pay35 x0 K)) (k0_pay45 acc.2.2.2.1 acc.2.2.2.2.2 V (k0_pay35 x0 K)) lam
        (k0_pay47 acc.2.1 (k0_pay34 x0 K) (k0_pay37 x0 acc.1 K) (k0_pay38 x0 acc.1 K)) g (ix2 r d)
      = normed (fun e => twoMaps (score i x0 x1 r) (value x2 e) (lam (ix2 0 0)) (512 * (i 2).val + 512)) g
          (Ideal.ofBits .f32 0x3F24FD5C#32) d := by
  have hi := coord2_lt i
  have SA : ∀ k : Fin 512, k0_pay34 x0 K (ix2 r k) = score i x0 x1 r 0 (512 * (i 2).val + k.val) := fun k => by
    refine (masked_apply (k0_pay9 x0 K) r k).trans ?_
    rw [score, dif_pos (by omega)]
    by_cases hk : k.val ≤ r.val
    · rw [if_pos hk, if_pos (by omega), scoresA_apply]
      simp only [hK]
    · rw [if_neg hk, if_neg (by omega)]
  have SB : ∀ k : Fin 512, k0_pay35 x0 K (ix2 r k) = score i x0 x1 r 1 (512 * (i 2).val + k.val) := fun k => by
    refine (masked_apply (k0_pay10 x0 K) r k).trans ?_
    rw [score, dif_pos (by omega)]
    by_cases hk : k.val ≤ r.val
    · rw [if_pos hk, if_pos (by omega), scoresB_apply]
      simp only [hK]
    · rw [if_neg hk, if_neg (by omega)]
  have HA := Holds.step reduces_S512x512_S512 shapeCasts_S512_S512x1 broadcasts_S512x1_S512x512
    broadcasts_S512x1_S512x128 dot_S512x512_S512x128_S512x128_1_0_0_1_n_n_wf hA SA hV bitsLt_bf16_f32
  have HB := Holds.step reduces_S512x512_S512 shapeCasts_S512_S512x1 broadcasts_S512x1_S512x512
    broadcasts_S512x1_S512x128 dot_S512x512_S512x128_S512x128_1_0_0_1_n_n_wf hB SB hV bitsLt_bf16_f32
  refine (norm_apply _ _ _ _ lam g r d).trans (congrArg (fun x => normed x g _ d) (funext fun e => ?_))
  refine congrArg₂ (· - ·) (congrArg₂ Ideal.div (HA.dot e) ?_) (congrArg (lam (ix2 0 0) * ·) (congrArg₂ Ideal.div (HB.dot e) HB.mass))
  exact (broadcastCol_apply _ broadcasts_S512x1_S512x128 r e).trans HA.mass

/-- What the point leaves of its output block, at row `r` and lane `d`. -/
theorem out_apply (c : Dev nD) (x3 x4 x5 x6 : Vec Ideal S1x64 .f32) (x7 : Vec Ideal S1x128 .f32) (r : Fin 512) (d : Fin 128) :
    out0_A_8 (F := Ideal) c i arg3 harg3 arg4 harg4 arg5 harg5 arg6 harg6 arg7 harg7 arg8 harg8 arg9 harg9 arg10 harg10
        arg11 harg11 x0 x1 x2 x3 x4 x5 x6 x7 (ix2 r d)
      = normed (fun e => twoMaps (score i x0 x1 r) (value x2 e) (factor x3 x4 x5 x6 (Ideal.ofBits .f32 0x3EB60549#32))
          (512 * (i 2).val + 512)) x7 (Ideal.ofBits .f32 0x3F24FD5C#32) d := by
  unfold out0_A_8 kernelRun0_A
  dsimp only
  rw [View.read_writes_junk_eq_canon, View.canon_unit_zero (by funext a; fin_cases a <;> rfl)]
  unfold kernelRun0_A.sl.r_10 kernelRun0_A.sl.r_11 kernelRun0_A.sl.r_12 kernelRun0_A.sl.r_13 kernelRun0_A.sl.r_14
    kernelRun0_A.sl.r_9 kernelRun0_A.sl.r_8 kernelRun0_A.sl.r_7 kernelRun0_A.sl.r_6 kernelRun0_A.sl.r_5
    kernelRun0_A.sl.r_4 kernelRun0_A.sl.r_3 kernelRun0_A.sl.r_2 kernelRun0_A.sl.r_1 kernelRun0_A.sl.r
  have hz : (![0, 0] : Fin 2 → ℕ) = fun _ => 0 := by funext a; fin_cases a <;> rfl
  have e1 : Scf.trips (k0_t1_loop i).lb (k0_t1_loop i).ub (k0_t1_loop i).st = (i 2).val := trips1 i
  have e2 : Scf.trips (k0_t2_loop i).lb (k0_t2_loop i).ub (k0_t2_loop i).st = 0 := trips2 i
  rw [e1, e2, load_whole arg3 harg3 x0 hz, load_whole arg6 harg6 x3 hz, load_whole arg7 harg7 x4 hz,
    load_whole arg8 harg8 x5 hz, load_whole arg9 harg9 x6 hz, load_whole arg10 harg10 x7 hz]
  simp only [st_k0_t2_zero]
  have hL := loop_holds i x0 x1 x2 arg4 harg4 arg5 harg5 arg3 harg3 arg6 harg6 arg7 harg7 arg8 harg8 arg9 harg9 arg10
    harg10 arg11 harg11 Variants.none c none r (i 2).val le_rfl
  rw [← factor_apply]
  exact close_apply i x0 x1 x2 _ _ _ _ _ r d
    (fun k e => load_block _ (coord2_lt i) arg4 harg4 x1 (off3_eq i) _ k e)
    (fun k e => (load_block _ (coord2_lt i) arg5 harg5 x2 (off3_eq i) _ k e).trans
      (by have := coord2_lt i; rw [value, dif_pos (by omega)])) hL.1 hL.2

end Point

end Cert.Diff.Block

end
-- ==== Proof.DiffValue.lean ====
/- The differential-attention call over whole arrays: which rows and columns each grid point's blocks are, so that its
   result array is `DiffSpec`'s attention of the arguments. -/
module

public import proofs.«01_k».proof.Proof.DiffSpec
public import proofs.«01_k».proof.Proof.DiffBlock
public import Idealize.ShloMosaic.Lib.Pipeline.Covers

@[expose] public section

noncomputable section

namespace Cert.Diff.Value

open Idealize.ShloMosaic Idealize.ShloMosaic.Ideal Idealize.ShloMosaic.ValueIdx Idealize.ShloMosaic.TcCoe
open Idealize.SL.Sem
open Cert.DiffIdeal Cert.DiffIdeal.Gen Cert.DiffIdeal.Value Cert.Softmax Cert.Diff Cert.Diff.Block Cert.Blocks

/-! ## Which block a grid point has -/

theorem coord0_lt (i : grid0.Coords) : (i 0).val < 2 := (i 0).isLt

/-- Row `r` of the point's query block. -/
def row (i : grid0.Coords) (r : Fin 512) : Fin 16384 :=
  ⟨8192 * (i 0).val + 512 * (i 2).val + r.val, by have := coord0_lt i; have := coord2_lt i; omega⟩

/-- The point's head. -/
def head (i : grid0.Coords) : Fin 8 := ⟨(i 1).val, coord1_lt i⟩

/-- Key `κ` of the point's sequence. -/
def keyRow (i : grid0.Coords) (κ : Fin 8192) : Fin 16384 := ⟨8192 * (i 0).val + κ.val, by have := coord0_lt i; omega⟩

theorem map_rows (i : grid0.Coords) : cc0_transform_0 i = ![16 * (i 0).val + (i 2).val, (i 1).val] :=
  (by decide +kernel : ∀ (a : Fin 2) (b : Fin 8) (c : Fin 16),
    ![(Scalar.addi (Scalar.muli (BitVec.ofNat 32 a.val) 16#32) (BitVec.ofNat 32 c.val)).toNat, (BitVec.ofNat 32 b.val).toNat]
      = ![16 * a.val + c.val, b.val]) (i 0) (i 1) (i 2)

theorem map_keys (i : grid0.Coords) : cc0_transform_1 i = ![(i 0).val, (i 1).val] :=
  (by decide +kernel : ∀ (a : Fin 2) (b : Fin 8), ![(BitVec.ofNat 32 a.val).toNat, (BitVec.ofNat 32 b.val).toNat] = ![a.val, b.val])
    (i 0) (i 1)

/-- The points are numbered by their coordinates. -/
theorem number (t : Fin cfg0.N) :
    t.val = 128 * (grid0.coords t 0).val + 16 * (grid0.coords t 1).val + (grid0.coords t 2).val :=
  (by decide +kernel : ∀ t : Fin grid0.N,
    t.val = 128 * (grid0.coords t 0).val + 16 * (grid0.coords t 1).val + (grid0.coords t 2).val) t

/-- Two points' results share no entry. -/
theorem disjoint8 (t t' : Fin cfg0.N) (_ : (cfg0.win 8).flush t = true) (_ : (cfg0.win 8).flush t' = true) (hne : t ≠ t') :
    Disjoint ((cfg0.win 8).blk t).view.set ((cfg0.win 8).blk t').view.set := by
  refine (cfg0.win 8).disjoint_blk fun h => hne (Fin.ext ?_)
  have h' : cc0_transform_0 (grid0.coords t) = cc0_transform_0 (grid0.coords t') := h
  rw [map_rows, map_rows] at h'
  have h0 : 16 * (grid0.coords t 0).val + (grid0.coords t 2).val = 16 * (grid0.coords t' 0).val + (grid0.coords t' 2).val :=
    congrFun h' 0
  have h1 : (grid0.coords t 1).val = (grid0.coords t' 1).val := congrFun h' 1
  have := coord2_lt (grid0.coords t)
  have := coord2_lt (grid0.coords t')
  rw [number t, number t']
  omega

variable (m : (ℓ : Loc nD τ sig) → Buf (Elt Ideal) ℓ) (c : Dev nD) (t : Fin cfg0.N)

/-- The point's queries. -/
theorem query_block (r : Fin 512) (d : Fin 128) :
    iblk m c 0 t (ix2 r d) = m ((c : Thread nD τ).loc main_arg0) (ix2 (row (grid0.coords t) r) (wide (head (grid0.coords t)) d)) := by
  rw [← V_main_arg0 m c]
  show V m c main_arg0 _ = V m c main_arg0 _
  congr 1
  funext a
  match a with
  | ⟨0, _⟩ => exact Fin.ext ((win0_0.rect_emb_val t (ix2 r d) 0).trans (by
      show cc0_transform_0 (grid0.coords t) 0 * 512 + r.val = 8192 * ((grid0.coords t) 0).val + 512 * ((grid0.coords t) 2).val + r.val
      rw [map_rows]; show (16 * _ + _) * 512 + r.val = _; omega))
  | ⟨1, _⟩ => exact Fin.ext ((win0_0.rect_emb_val t (ix2 r d) 1).trans (by
      show cc0_transform_0 (grid0.coords t) 1 * 128 + d.val = 128 * ((grid0.coords t) 1).val + d.val
      rw [map_rows]; show ((grid0.coords t) 1).val * 128 + d.val = _; omega))

/-- The point's keys. -/
theorem key_block (κ : Fin 8192) (d : Fin 128) :
    iblk m c 1 t (ix2 κ d) = m ((c : Thread nD τ).loc main_arg1) (ix2 (keyRow (grid0.coords t) κ) (wide (head (grid0.coords t)) d)) := by
  rw [← V_main_arg1 m c]
  show V m c main_arg1 _ = V m c main_arg1 _
  congr 1
  funext a
  match a with
  | ⟨0, _⟩ => exact Fin.ext ((win0_1.rect_emb_val t (ix2 κ d) 0).trans (by
      show cc0_transform_1 (grid0.coords t) 0 * 8192 + κ.val = 8192 * ((grid0.coords t) 0).val + κ.val
      rw [map_keys]; show ((grid0.coords t) 0).val * 8192 + κ.val = _; omega))
  | ⟨1, _⟩ => exact Fin.ext ((win0_1.rect_emb_val t (ix2 κ d) 1).trans (by
      show cc0_transform_1 (grid0.coords t) 1 * 128 + d.val = 128 * ((grid0.coords t) 1).val + d.val
      rw [map_keys]; show ((grid0.coords t) 1).val * 128 + d.val = _; omega))

/-- The point's values. -/
theorem value_block (κ : Fin 8192) (d : Fin 128) :
    iblk m c 2 t (ix2 κ d) = m ((c : Thread nD τ).loc main_arg2) (ix2 (keyRow (grid0.coords t) κ) (wide (head (grid0.coords t)) d)) := by
  rw [← V_main_arg2 m c]
  show V m c main_arg2 _ = V m c main_arg2 _
  congr 1
  funext a
  match a with
  | ⟨0, _⟩ => exact Fin.ext ((win0_2.rect_emb_val t (ix2 κ d) 0).trans (by
      show cc0_transform_1 (grid0.coords t) 0 * 8192 + κ.val = 8192 * ((grid0.coords t) 0).val + κ.val
      rw [map_keys]; show ((grid0.coords t) 0).val * 8192 + κ.val = _; omega))
  | ⟨1, _⟩ => exact Fin.ext ((win0_2.rect_emb_val t (ix2 κ d) 1).trans (by
      show cc0_transform_1 (grid0.coords t) 1 * 128 + d.val = 128 * ((grid0.coords t) 1).val + d.val
      rw [map_keys]; show ((grid0.coords t) 1).val * 128 + d.val = _; omega))

/-- The coefficients and the gains, whole at every point. -/
theorem lq1_block : iblk m c 3 t = m ((c : Thread nD τ).loc main_arg3) := by
  rw [← V_main_arg3 m c]
  funext j
  show V m c main_arg3 _ = V m c main_arg3 _
  congr 1
  funext a
  exact Fin.ext ((win0_3.rect_emb_val t j a).trans (by
    match a with
    | ⟨0, _⟩ => show 0 * 1 + (j 0).val = (j 0).val; omega
    | ⟨1, _⟩ => show 0 * 64 + (j 1).val = (j 1).val; omega))

theorem lk1_block : iblk m c 4 t = m ((c : Thread nD τ).loc main_arg4) := by
  rw [← V_main_arg4 m c]
  funext j
  show V m c main_arg4 _ = V m c main_arg4 _
  congr 1
  funext a
  exact Fin.ext ((win0_4.rect_emb_val t j a).trans (by
    match a with
    | ⟨0, _⟩ => show 0 * 1 + (j 0).val = (j 0).val; omega
    | ⟨1, _⟩ => show 0 * 64 + (j 1).val = (j 1).val; omega))

theorem lq2_block : iblk m c 5 t = m ((c : Thread nD τ).loc main_arg5) := by
  rw [← V_main_arg5 m c]
  funext j
  show V m c main_arg5 _ = V m c main_arg5 _
  congr 1
  funext a
  exact Fin.ext ((win0_5.rect_emb_val t j a).trans (by
    match a with
    | ⟨0, _⟩ => show 0 * 1 + (j 0).val = (j 0).val; omega
    | ⟨1, _⟩ => show 0 * 64 + (j 1).val = (j 1).val; omega))

theorem lk2_block : iblk m c 6 t = m ((c : Thread nD τ).loc main_arg6) := by
  rw [← V_main_arg6 m c]
  funext j
  show V m c main_arg6 _ = V m c main_arg6 _
  congr 1
  funext a
  exact Fin.ext ((win0_6.rect_emb_val t j a).trans (by
    match a with
    | ⟨0, _⟩ => show 0 * 1 + (j 0).val = (j 0).val; omega
    | ⟨1, _⟩ => show 0 * 64 + (j 1).val = (j 1).val; omega))

theorem gain_block : iblk m c 7 t = m ((c : Thread nD τ).loc main_arg7) := by
  rw [← V_main_arg7 m c]
  funext j
  show V m c main_arg7 _ = V m c main_arg7 _
  congr 1
  funext a
  exact Fin.ext ((win0_7.rect_emb_val t j a).trans (by
    match a with
    | ⟨0, _⟩ => show 0 * 1 + (j 0).val = (j 0).val; omega
    | ⟨1, _⟩ => show 0 * 128 + (j 1).val = (j 1).val; omega))

/-- Where the point's result lies. -/
theorem result_block (r : Fin 512) (d : Fin 128) :
    ((cfg0.win 8).blk t).view.emb (ix2 r d : S512x128.Idx) = (ix2 (row (grid0.coords t) r) (wide (head (grid0.coords t)) d) : S16384x1024.Idx) := by
  funext a
  match a with
  | ⟨0, _⟩ => exact Fin.ext ((win0_8.rect_emb_val t (ix2 r d) 0).trans (by
      show cc0_transform_0 (grid0.coords t) 0 * 512 + r.val = 8192 * ((grid0.coords t) 0).val + 512 * ((grid0.coords t) 2).val + r.val
      rw [map_rows]; show (16 * _ + _) * 512 + r.val = _; omega))
  | ⟨1, _⟩ => exact Fin.ext ((win0_8.rect_emb_val t (ix2 r d) 1).trans (by
      show cc0_transform_0 (grid0.coords t) 1 * 128 + d.val = 128 * ((grid0.coords t) 1).val + d.val
      rw [map_rows]; show ((grid0.coords t) 1).val * 128 + d.val = _; omega))

/-! ## From the point's scores to the array's -/

theorem key_row (i : grid0.Coords) (r : Fin 512) (κ : Fin 8192) : key (row i r) κ = keyRow i κ :=
  Fin.ext (by have := coord2_lt i; have := coord0_lt i; show 8192 * ((8192 * (i 0).val + 512 * (i 2).val + r.val) / 8192) + κ.val = 8192 * (i 0).val + κ.val; omega)

theorem pos_row (i : grid0.Coords) (r : Fin 512) : (posOf (row i r)).val = 512 * (i 2).val + r.val := by
  have := coord2_lt i
  show (8192 * (i 0).val + 512 * (i 2).val + r.val) % 8192 = _
  omega

theorem wide_lane (h : Fin 8) (half : Fin 2) (e : Fin 64) : wide h (lane half e) = col h half e := rfl

theorem head_wide (h : Fin 8) (d : Fin 128) : headOf (wide h d) = h :=
  Fin.ext (by show (128 * h.val + d.val) / 128 = h.val; omega)

theorem lane_wide (h : Fin 8) (d : Fin 128) : laneOf (wide h d) = d :=
  Fin.ext (by show (128 * h.val + d.val) % 128 = d.val; omega)

/-- The argument arrays. -/
abbrev argQ : FVec Ideal S16384x1024 .bf16 := m ((c : Thread nD τ).loc main_arg0)
abbrev argK : FVec Ideal S16384x1024 .bf16 := m ((c : Thread nD τ).loc main_arg1)
abbrev argV : FVec Ideal S16384x1024 .bf16 := m ((c : Thread nD τ).loc main_arg2)
abbrev argA : FVec Ideal S1x64 .f32 := m ((c : Thread nD τ).loc main_arg3)
abbrev argB : FVec Ideal S1x64 .f32 := m ((c : Thread nD τ).loc main_arg4)
abbrev argC : FVec Ideal S1x64 .f32 := m ((c : Thread nD τ).loc main_arg5)
abbrev argD : FVec Ideal S1x64 .f32 := m ((c : Thread nD τ).loc main_arg6)
abbrev argG : FVec Ideal S1x128 .f32 := m ((c : Thread nD τ).loc main_arg7)

theorem score_eq (r : Fin 512) :
    Block.score (grid0.coords t) (iblk m c 0 t) (iblk m c 1 t) r
      = Diff.score (argQ m c) (argK m c) (row (grid0.coords t) r) (head (grid0.coords t)) := by
  funext half κ
  rw [Block.score, Diff.score]
  by_cases hκ : κ < 8192
  · rw [dif_pos hκ, dif_pos hκ, pos_row]
    by_cases hc : κ ≤ 512 * ((grid0.coords t) 2).val + r.val
    · rw [if_pos hc, if_pos hc]
      refine Finset.sum_congr rfl fun e _ => congrArg₂ (· * ·) ?_ ?_
      · rw [query_block, wide_lane]
      · rw [key_block, wide_lane, key_row]
    · rw [if_neg hc, if_neg hc]
  · rw [dif_neg hκ, dif_neg hκ]

theorem value_eq (r : Fin 512) (d : Fin 128) :
    Block.value (iblk m c 2 t) d = Diff.value (argV m c) (row (grid0.coords t) r) (head (grid0.coords t)) d := by
  funext κ
  rw [Block.value, Diff.value]
  by_cases hκ : κ < 8192
  · rw [dif_pos hκ, dif_pos hκ, value_block, key_row]
  · rw [dif_neg hκ, dif_neg hκ]

/-- A row's scores end with its own block of keys. -/
theorem score_bot (i : grid0.Coords) (Q K : Tokens.Idx → EReal) (r : Fin 512) (h : Fin 8) (half : Fin 2) (κ : ℕ)
    (hκ : 512 * (i 2).val + 512 ≤ κ) : Diff.score Q K (row i r) h half κ = ⊥ := by
  rw [Diff.score]
  by_cases h8 : κ < 8192
  · rw [dif_pos h8, pos_row, if_neg (by omega)]
  · rw [dif_neg h8]

/-- What a grid point writes, in the array. -/
theorem block_apply (r : Fin 512) (d : Fin 128) :
    (dats m 0 c).arrAt 8 cfg0.N (ix2 (row (grid0.coords t) r) (wide (head (grid0.coords t)) d) : S16384x1024.Idx)
      = attention (argQ m c) (argK m c) (argV m c)
          (factor (argA m c) (argB m c) (argC m c) (argD m c) (Ideal.ofBits .f32 0x3EB60549#32)) (argG m c)
          (Ideal.ofBits .f32 0x3F24FD5C#32) (row (grid0.coords t) r) (wide (head (grid0.coords t)) d) := by
  rw [← result_block t r d]
  refine ((dats m 0 c).arrAt_emb_eq_flushed 8 disjoint8 t (flush0_8 t) (ix2 r d : S512x128.Idx)).trans ?_
  rw [_root_.cast_eq, flushed8_A]
  refine (out_apply (grid0.coords t) (iblk m c 0 t) (iblk m c 1 t) (iblk m c 2 t) _ _ _ _ _ _ _ _ _ _ _ _ _ _ _ _ _ _ c
    (iblk m c 3 t) (iblk m c 4 t) (iblk m c 5 t) (iblk m c 6 t) (iblk m c 7 t) r d).trans ?_
  have hn : 512 * ((grid0.coords t) 2).val + 512 ≤ 8192 := by have := coord2_lt (grid0.coords t); omega
  rw [lq1_block, lk1_block, lq2_block, lk2_block, gain_block, score_eq, attention, head_wide, lane_wide]
  refine congrArg (fun x => normed x _ _ d) (funext fun e => ?_)
  rw [value_eq m c t r e, twoMaps, twoMaps]
  have hb := score_bot (grid0.coords t) (argQ m c) (argK m c) r (head (grid0.coords t))
  rw [dot_eq_of_bot _ _ hn (hb 0), dot_eq_of_bot _ _ hn (hb 1), mass_eq_of_bot _ hn (hb 0), mass_eq_of_bot _ hn (hb 1)]

/-- The call's result array. -/
theorem result_apply (R : Fin 16384) (C : Fin 1024) :
    (dats m 0 c).arrAt 8 cfg0.N (ix2 R C : S16384x1024.Idx)
      = attention (argQ m c) (argK m c) (argV m c)
          (factor (argA m c) (argB m c) (argC m c) (argD m c) (Ideal.ofBits .f32 0x3EB60549#32)) (argG m c)
          (Ideal.ofBits .f32 0x3F24FD5C#32) R C := by
  have hR := R.isLt
  have hC := C.isLt
  obtain ⟨t, ht⟩ := grid0.coords_surjective (fun a => match a with
    | ⟨0, _⟩ => (⟨R.val / 8192, by omega⟩ : Fin 2)
    | ⟨1, _⟩ => (⟨C.val / 128, by omega⟩ : Fin 8)
    | ⟨2, _⟩ => (⟨R.val % 8192 / 512, by omega⟩ : Fin 16))
  have h0 : (grid0.coords t 0).val = R.val / 8192 := by rw [ht]
  have h1 : (grid0.coords t 1).val = C.val / 128 := by rw [ht]
  have h2 : (grid0.coords t 2).val = R.val % 8192 / 512 := by rw [ht]
  have hr : row (grid0.coords t) ⟨R.val % 512, by omega⟩ = R := Fin.ext (by
    show 8192 * (grid0.coords t 0).val + 512 * (grid0.coords t 2).val + R.val % 512 = R.val
    rw [h0, h2]; omega)
  have hc : wide (head (grid0.coords t)) ⟨C.val % 128, by omega⟩ = C := Fin.ext (by
    show 128 * (grid0.coords t 1).val + C.val % 128 = C.val
    rw [h1]; omega)
  have h := block_apply m c t ⟨R.val % 512, by omega⟩ ⟨C.val % 128, by omega⟩
  rwa [hr, hc] at h

end Cert.Diff.Value

end
-- ==== Proof.TwoMaps.lean ====
/- The difference of two softmaxes: over real scores (or none) and real values, weighing the values by the difference of
   the normalised weights is the difference of the weighed values. -/
module

public import proofs.«01_k».proof.Proof.DiffSpec
public import proofs.«01_k».proof.Proof.Finite

@[expose] public section

noncomputable section

namespace Cert.Diff

open Idealize.ShloMosaic Cert.Softmax Cert.Finite Finset

theorem coe_sum (f : ℕ → ℝ) (n : ℕ) : ((∑ k ∈ range n, f k : ℝ) : EReal) = ∑ k ∈ range n, (f k : EReal) := by
  induction n with
  | zero => rfl
  | succ n ih => rw [sum_range_succ, sum_range_succ, EReal.coe_add, ih]

/-- The algebra of it. -/
theorem sum_sub_mul (p q v : ℕ → ℝ) (lam : ℝ) (n : ℕ) :
    ∑ k ∈ range n, (v k : EReal) * ((p k : EReal) - (lam : EReal) * (q k : EReal))
      = ∑ k ∈ range n, (p k : EReal) * (v k : EReal) - (lam : EReal) * ∑ k ∈ range n, (q k : EReal) * (v k : EReal) := by
  have h1 : ∀ k, (v k : EReal) * ((p k : EReal) - (lam : EReal) * (q k : EReal)) = ((v k * (p k - lam * q k) : ℝ) : EReal) :=
    fun k => by rw [EReal.coe_mul, EReal.coe_sub, EReal.coe_mul]
  simp only [h1, ← EReal.coe_mul, ← coe_sum, ← EReal.coe_sub]
  refine congrArg _ ?_
  rw [mul_sum, ← sum_sub_distrib]
  exact sum_congr rfl fun k _ => by ring

/-- The exponential of a real number, or of nothing, is real. -/
theorem exp_real {x : EReal} (h : x ≠ ⊤) : IsReal (Ideal.exp x) := by
  induction x with
  | bot => exact IsReal.zero
  | top => exact absurd rfl h
  | coe r => exact ⟨Real.exp r, rfl⟩

/-- A normalised weight is real. -/
theorem weight_real (s : ℕ → EReal) {n : ℕ} (hn : 0 < n) (h0 : s 0 ≠ ⊥) (ht : ∀ k, k < n → s k ≠ ⊤) (k : ℕ) (hk : k < n) :
    IsReal (Ideal.div (Ideal.exp (s k - top s n)) (mass s n)) := by
  rw [div_of_pos (mass_pos s hn h0 ht)]
  have hi := inv_real (mass_nonneg s n)
  have hle : ∀ k, k < n → s k - top s n ≠ ⊤ := fun k hk => sub_ne_top (le_top_of_lt s hk)
  refine (exp_real (hle k hk)).mul ?_
  generalize (mass s n)⁻¹ = y at hi
  induction y with
  | bot => exact absurd hi.1 (by simp)
  | top => exact absurd rfl hi.2
  | coe r => exact ⟨r, rfl⟩

/-- The values weighed by the difference of two normalised weights. -/
theorem sum_twoMaps (s : Fin 2 → ℕ → EReal) (v : ℕ → EReal) (lam : EReal) {n : ℕ} (hn : 0 < n) (h0 : ∀ i, s i 0 ≠ ⊥)
    (ht : ∀ i k, k < n → s i k ≠ ⊤) (hv : ∀ k, k < n → IsReal (v k)) (hlam : IsReal lam) :
    ∑ k ∈ range n, v k * (Ideal.div (Ideal.exp (s 0 k - top (s 0) n)) (mass (s 0) n)
        - lam * Ideal.div (Ideal.exp (s 1 k - top (s 1) n)) (mass (s 1) n)) = twoMaps s v lam n := by
  have hp : ∀ i, ∃ p : ℕ → ℝ, ∀ k, k < n → Ideal.div (Ideal.exp (s i k - top (s i) n)) (mass (s i) n) = p k := fun i => by
    have h : ∀ k, ∃ r : ℝ, k < n → Ideal.div (Ideal.exp (s i k - top (s i) n)) (mass (s i) n) = r := fun k => by
      by_cases hk : k < n
      · obtain ⟨r, hr⟩ := weight_real (s i) hn (h0 i) (ht i) k hk
        exact ⟨r, fun _ => hr⟩
      · exact ⟨0, fun h => absurd h hk⟩
    choose p hp using h
    exact ⟨p, hp⟩
  obtain ⟨p, hp0⟩ := hp 0
  obtain ⟨q, hp1⟩ := hp 1
  have hw : ∃ w : ℕ → ℝ, ∀ k, k < n → v k = w k := by
    have h : ∀ k, ∃ r : ℝ, k < n → v k = r := fun k => by
      by_cases hk : k < n
      · obtain ⟨r, hr⟩ := hv k hk
        exact ⟨r, fun _ => hr⟩
      · exact ⟨0, fun h => absurd h hk⟩
    choose w hw using h
    exact ⟨w, hw⟩
  obtain ⟨w, hw⟩ := hw
  obtain ⟨l, rfl⟩ := hlam
  rw [twoMaps, dot_div_mass _ _ _ (mass_pos _ hn (h0 0) (ht 0)), dot_div_mass _ _ _ (mass_pos _ hn (h0 1) (ht 1))]
  refine Eq.trans (sum_congr rfl fun k hk => ?_) ((sum_sub_mul p q w l n).trans (congrArg₂ (· - ·) ?_ (congrArg (_ * ·) ?_)))
  · have hk := mem_range.1 hk
    rw [hp0 k hk, hp1 k hk, hw k hk]
  · exact sum_congr rfl fun k hk => by rw [hp0 k (mem_range.1 hk), hw k (mem_range.1 hk)]
  · exact sum_congr rfl fun k hk => by rw [hp1 k (mem_range.1 hk), hw k (mem_range.1 hk)]

variable (Q K V : Tokens.Idx → EReal)

/-- Finite queries and keys: every score up to the row is a real number. -/
theorem score_ne_top (hQ : ∀ j, IsReal (Q j)) (hK : ∀ j, IsReal (K j)) (R : Fin 16384) (h : Fin 8) (half : Fin 2) (κ : ℕ) :
    score Q K R h half κ ≠ ⊤ := by
  rw [score]
  split
  · split
    · exact (IsReal.sum _ _ fun e _ => (hQ _).mul (hK _)).ne_top
    · exact bot_ne_top
  · exact bot_ne_top

theorem score_zero_ne_bot (hQ : ∀ j, IsReal (Q j)) (hK : ∀ j, IsReal (K j)) (R : Fin 16384) (h : Fin 8) (half : Fin 2) :
    score Q K R h half 0 ≠ ⊥ := by
  rw [score, dif_pos (by norm_num), if_pos (Nat.zero_le _)]
  exact (IsReal.sum _ _ fun e _ => (hQ _).mul (hK _)).ne_bot

theorem value_real (hV : ∀ j, IsReal (V j)) (R : Fin 16384) (h : Fin 8) (d : Fin 128) (κ : ℕ) : IsReal (value V R h d κ) := by
  rw [value]
  split
  · exact hV _
  · exact IsReal.zero

theorem factor_real (a b c d : Coeffs.Idx → EReal) (w : EReal) (ha : ∀ j, IsReal (a j)) (hb : ∀ j, IsReal (b j))
    (hc : ∀ j, IsReal (c j)) (hd : ∀ j, IsReal (d j)) (hw : IsReal w) : IsReal (factor a b c d w) :=
  ((exp_real (IsReal.sum _ _ fun _ _ => (ha _).mul (hb _)).ne_top).sub
    (exp_real (IsReal.sum _ _ fun _ _ => (hc _).mul (hd _)).ne_top)).add hw

end Cert.Diff

end
-- ==== Proof.DiffRef.lean ====
/- The reference differential attention, entry by entry: its `[2, 8192, 8, 2, 64]` layout undone, its values weighed by
   the difference of the two softmaxes — the entry of `DiffSpec` for finite arguments. -/
module

public import proofs.«01_k».proof.Proof.TwoMaps
public import proofs.«01_k».proof.Proof.FoxRef
public import proofs.«01_k».proof.Proof.Gen.DiffRefIdeal.Read

@[expose] public section

noncomputable section

namespace Cert.Diff.Ref

open Idealize.ShloMosaic Idealize.ShloMosaic.Ideal Idealize.ShloMosaic.ValueIdx
open Cert.DiffRefIdeal Cert.DiffRefIdeal.Gen Cert.DiffRefIdeal.Read Cert.Softmax Cert.Finite Cert.Diff
open Cert.Fox.Ref (bot_word fold_max top_fin)

variable (Q K V : FVec Ideal S16384x1024 .bf16) (a b c d : FVec Ideal S1x64 .f32) (g : FVec Ideal S1x128 .f32)

/-- The score array's entry of row `R`, head `h`, map `half`, key `κ`. -/
def at5 (R : Fin 16384) (h : Fin 8) (half : Fin 2) (κ : Fin 8192) : S2x8x2x8192x8192.Idx := ix5 (seqOf R) h half (posOf R) κ

theorem row_of (b p h i e : ℕ) (hh : h < 8) (hi : i < 2) (he : e < 64) :
    ((((b * 8192 + p) * 8 + h) * 2 + i) * 64 + e) / 1024 = b * 8192 + p := by omega

theorem col_of (b p h i e : ℕ) (hh : h < 8) (hi : i < 2) (he : e < 64) :
    ((((b * 8192 + p) * 8 + h) * 2 + i) * 64 + e) % 1024 = 128 * h + (64 * i + e) := by omega

theorem query_apply (R : Fin 16384) (h : Fin 8) (half : Fin 2) (e : Fin 64) :
    val_main_v1 (F := Ideal) Q (ix5 (seqOf R) (posOf R) h half e) = Q (ix2 R (col h half e)) := by
  rw [val_main_v1_apply]
  show Q _ = Q _
  congr 1
  funext x
  match x with
  | ⟨0, _⟩ => exact Fin.ext ((row_of (R.val / 8192) (R.val % 8192) h.val half.val e.val h.isLt half.isLt e.isLt).trans (by show _ = R.val; omega))
  | ⟨1, _⟩ => exact Fin.ext (col_of (R.val / 8192) (R.val % 8192) h.val half.val e.val h.isLt half.isLt e.isLt)

theorem key_apply (R : Fin 16384) (h : Fin 8) (half : Fin 2) (e : Fin 64) (κ : Fin 8192) :
    val_main_v3 (F := Ideal) K (ix5 (seqOf R) κ h half e) = K (ix2 (key R κ) (col h half e)) := by
  rw [val_main_v3_apply]
  show K _ = K _
  congr 1
  funext x
  match x with
  | ⟨0, _⟩ => exact Fin.ext ((row_of (R.val / 8192) κ.val h.val half.val e.val h.isLt half.isLt e.isLt).trans (by rw [key]; show _ = 8192 * _ + κ.val; omega))
  | ⟨1, _⟩ => exact Fin.ext (col_of (R.val / 8192) κ.val h.val half.val e.val h.isLt half.isLt e.isLt)

theorem value_apply (R : Fin 16384) (h : Fin 8) (e : Fin 128) (κ : Fin 8192) :
    val_main_v5 (F := Ideal) V (ix4 (seqOf R) κ h e) = V (ix2 (key R κ) (wide h e)) := by
  rw [val_main_v5_apply]
  show V _ = V _
  have hh := h.isLt
  have he := e.isLt
  congr 1
  funext x
  match x with
  | ⟨0, _⟩ => exact Fin.ext (by rw [key]; show ((((R.val / 8192) * 8192 + κ.val) * 8 + h.val) * 128 + e.val) / 1024 = 8192 * (R.val / 8192) + κ.val; omega)
  | ⟨1, _⟩ => exact Fin.ext (by show ((((R.val / 8192) * 8192 + κ.val) * 8 + h.val) * 128 + e.val) % 1024 = 128 * h.val + e.val; omega)

theorem product_apply (R : Fin 16384) (h : Fin 8) (half : Fin 2) (κ : Fin 8192) :
    val_main_v19 (F := Ideal) Q K (at5 R h half κ)
      = ∑ e : Fin 64, (Q (ix2 R (col h half e)) * K (ix2 (key R κ) (col h half e)) : EReal) := by
  rw [val_main_v19_apply]
  refine Finset.sum_congr rfl fun e _ => congrArg₂ (· * ·) ?_ ?_
  · refine Eq.trans (congrArg _ ?_) (query_apply Q R h half e)
    funext x
    match x with
    | ⟨0, _⟩ => rfl
    | ⟨1, _⟩ => rfl
    | ⟨2, _⟩ => rfl
    | ⟨3, _⟩ => rfl
    | ⟨4, _⟩ => rfl
  · refine Eq.trans (congrArg _ ?_) (key_apply K R h half e κ)
    funext x
    match x with
    | ⟨0, _⟩ => rfl
    | ⟨1, _⟩ => rfl
    | ⟨2, _⟩ => rfl
    | ⟨3, _⟩ => rfl
    | ⟨4, _⟩ => rfl

theorem causal_apply (R : Fin 16384) (h : Fin 8) (half : Fin 2) (κ : Fin 8192) :
    val_main_call0_v1 (F := Ideal) (at5 R h half κ) = if κ.val ≤ (posOf R).val then 1#1 else 0#1 := by
  rw [val_main_call0_v1_apply, val_main_v24_apply, val_main_v22_apply, val_main_v20_apply, val_main_v23_apply,
    val_main_v21_apply, val_main_v18_apply, val_main_v18_apply]
  show IntOp.cmpi .sle (BitVec.ofNat 32 κ.val) (BitVec.ofNat 32 (posOf R).val) = _
  have hp := (posOf R).isLt
  have hκ := κ.isLt
  rw [WordCmp.cmpi_sle_ofNat (by omega) (by omega)]
  by_cases hk : κ.val ≤ (posOf R).val
  · rw [if_pos hk, decide_eq_true hk]; rfl
  · rw [if_neg hk, decide_eq_false hk]; rfl

/-- The masked scores. -/
theorem score_apply (R : Fin 16384) (h : Fin 8) (half : Fin 2) (κ : Fin 8192) :
    val_main_v25 (F := Ideal) Q K (at5 R h half κ) = score Q K R h half κ.val := by
  rw [val_main_v25_apply, causal_apply, product_apply, val_main_call0_v2_apply, score, dif_pos κ.isLt]
  have hb : val_main_call0_v0 (F := Ideal) (idx_main_call0_v2 (at5 R h half κ)) = (⊥ : EReal) := bot_word
  rw [hb]
  split <;> rfl

/-- The rows' maxima. -/
theorem max_apply (R : Fin 16384) (h : Fin 8) (half : Fin 2) :
    val_main_v28 (F := Ideal) Q K (ix4 (seqOf R) h half (posOf R)) = top (score Q K R h half) 8192 := by
  have hb : val_main_v27 (F := Ideal) (ix4 (seqOf R) h half (posOf R)) = (⊥ : EReal) := (val_main_v27_apply _).trans bot_word
  rw [val_main_v28_apply, hb]
  show max (⊥ : EReal) _ = _
  rw [max_eq_right bot_le, val_main_v26]
  refine (Host.reduce_eq_fold_single (FloatOps.maximumf (F := Ideal) (φ := .f32)) _ _ _ (by decide) _ _).trans ?_
  refine (fold_max _ _).trans ((congrArg (fun f => Finset.univ.sup f) (funext fun κ => ?_)).trans (top_fin _ 8192).symm)
  refine Eq.trans (congrArg (val_main_v25 (F := Ideal) Q K) ?_) (score_apply Q K R h half κ)
  funext x
  match x with
  | ⟨0, _⟩ => exact Fin.ext (by rfl)
  | ⟨1, _⟩ => exact Fin.ext (by rfl)
  | ⟨2, _⟩ => exact Fin.ext (by rfl)
  | ⟨3, _⟩ => exact Fin.ext (by rfl)
  | ⟨4, _⟩ => exact Fin.ext (by rfl)

/-- The weights before they are normalised. -/
theorem weight_apply (R : Fin 16384) (h : Fin 8) (half : Fin 2) (κ : Fin 8192) :
    val_main_v32 (F := Ideal) Q K (at5 R h half κ)
      = Ideal.exp (score Q K R h half κ.val - top (score Q K R h half) 8192) := by
  rw [val_main_v32_apply, val_main_v31_apply, score_apply, val_main_v30_apply, val_main_v29_apply]
  refine congrArg (fun x => Ideal.exp (score Q K R h half κ.val - x)) (Eq.trans (congrArg _ ?_) (max_apply Q K R h half))
  funext x
  match x with
  | ⟨0, _⟩ => rfl
  | ⟨1, _⟩ => rfl
  | ⟨2, _⟩ => rfl
  | ⟨3, _⟩ => rfl

/-- The rows' sums of weights. -/
theorem mass_apply (R : Fin 16384) (h : Fin 8) (half : Fin 2) :
    val_main_v33 (F := Ideal) Q K (ix4 (seqOf R) h half (posOf R)) = mass (score Q K R h half) 8192 := by
  rw [val_main_v33_apply]
  have hz : val_main_cst_5 (F := Ideal) (Shape.Idx.first h_S_) = (0 : EReal) := ofBits_zero_f32
  rw [hz, zero_add, mass, Finset.sum_range]
  refine Finset.sum_congr rfl fun κ _ => Eq.trans (congrArg _ ?_) (weight_apply Q K R h half κ)
  funext x
  match x with
  | ⟨0, _⟩ => rfl
  | ⟨1, _⟩ => rfl
  | ⟨2, _⟩ => rfl
  | ⟨3, _⟩ => rfl
  | ⟨4, _⟩ => rfl

/-- A normalised weight. -/
def prob (R : Fin 16384) (h : Fin 8) (half : Fin 2) (κ : ℕ) : EReal :=
  Ideal.div (Ideal.exp (score Q K R h half κ - top (score Q K R h half) 8192)) (mass (score Q K R h half) 8192)

theorem prob_apply (R : Fin 16384) (h : Fin 8) (half : Fin 2) (κ : Fin 8192) :
    val_main_v36 (F := Ideal) Q K (at5 R h half κ) = prob Q K R h half κ.val := by
  rw [val_main_v36_apply, weight_apply, val_main_v35_apply, val_main_v34_apply]
  refine congrArg (Ideal.div _) (Eq.trans (congrArg _ ?_) (mass_apply Q K R h half))
  funext x
  match x with
  | ⟨0, _⟩ => rfl
  | ⟨1, _⟩ => rfl
  | ⟨2, _⟩ => rfl
  | ⟨3, _⟩ => rfl

theorem digits (b h p k : ℕ) (hb : b < 2) (hh : h < 8) (hp : p < 8192) (hk : k < 8192) :
    (((b * 8 + h) * 8192 + p) * 8192 + k) / 536870912 = b ∧ (((b * 8 + h) * 8192 + p) * 8192 + k) / 67108864 % 8 = h
      ∧ (((b * 8 + h) * 8192 + p) * 8192 + k) / 8192 % 8192 = p ∧ (((b * 8 + h) * 8192 + p) * 8192 + k) % 8192 = k := by
  omega

/-- The two maps' weights, apart. -/
theorem first_apply (R : Fin 16384) (h : Fin 8) (κ : Fin 8192) :
    val_main_v38 (F := Ideal) Q K (ix4 (seqOf R) h (posOf R) κ) = prob Q K R h 0 κ.val := by
  rw [val_main_v38_apply, val_main_v37_apply]
  obtain ⟨d0, d1, d2, d3⟩ := digits (seqOf R).val h.val (posOf R).val κ.val (seqOf R).isLt h.isLt (posOf R).isLt κ.isLt
  refine Eq.trans (congrArg _ ?_) (prob_apply Q K R h 0 κ)
  funext x
  match x with
  | ⟨0, _⟩ => exact Fin.ext d0
  | ⟨1, _⟩ => exact Fin.ext d1
  | ⟨2, _⟩ => exact Fin.ext (by rfl)
  | ⟨3, _⟩ => exact Fin.ext d2
  | ⟨4, _⟩ => exact Fin.ext d3

theorem second_apply (R : Fin 16384) (h : Fin 8) (κ : Fin 8192) :
    val_main_v40 (F := Ideal) Q K (ix4 (seqOf R) h (posOf R) κ) = prob Q K R h 1 κ.val := by
  rw [val_main_v40_apply, val_main_v39_apply]
  obtain ⟨d0, d1, d2, d3⟩ := digits (seqOf R).val h.val (posOf R).val κ.val (seqOf R).isLt h.isLt (posOf R).isLt κ.isLt
  refine Eq.trans (congrArg _ ?_) (prob_apply Q K R h 1 κ)
  funext x
  match x with
  | ⟨0, _⟩ => exact Fin.ext d0
  | ⟨1, _⟩ => exact Fin.ext d1
  | ⟨2, _⟩ => exact Fin.ext (by rfl)
  | ⟨3, _⟩ => exact Fin.ext d2
  | ⟨4, _⟩ => exact Fin.ext d3

/-- A sum of products of coefficients. -/
theorem coeffs_apply (f : S64.Idx → EReal) : ∑ j, f j = ∑ e : Fin 64, f (ix1 e) :=
  (Fintype.sum_equiv ⟨fun j => j 0, fun e => ix1 e, fun j => (eq_ix1 j).symm, fun _ => rfl⟩ f (fun e => f (ix1 e))
    fun j => congrArg f (eq_ix1 j))

/-- The factor of the second map. -/
theorem factor_apply (i : S_.Idx) :
    val_main_v17 (F := Ideal) a b c d i = factor a b c d (Ideal.ofBits .f32 0x3EB60549#32) := by
  rw [val_main_v17_apply, val_main_v16_apply, val_main_v10_apply, val_main_v15_apply, val_main_v9_apply, val_main_v14_apply,
    coeffs_apply, coeffs_apply]
  have hz : val_main_cst (F := Ideal) (Shape.Idx.first h_S_) = (0 : EReal) := ofBits_zero_f32
  have hz' : val_main_cst_0 (F := Ideal) (Shape.Idx.first h_S_) = (0 : EReal) := ofBits_zero_f32
  rw [hz, hz', zero_add, zero_add]
  refine congrArg₂ (· + ·) (congrArg₂ (· - ·) (congrArg Ideal.exp (Finset.sum_congr rfl fun e _ => ?_))
    (congrArg Ideal.exp (Finset.sum_congr rfl fun e _ => ?_))) rfl
  · rw [val_main_v8_apply, val_main_v6_apply, val_main_v7_apply]
    refine congrArg₂ (· * ·) (congrArg a ?_) (congrArg b ?_) <;>
    · funext x
      match x with
      | ⟨0, _⟩ => exact Fin.ext (by rfl)
      | ⟨1, _⟩ => exact Fin.ext (Nat.mod_eq_of_lt e.isLt)
  · rw [val_main_v13_apply, val_main_v11_apply, val_main_v12_apply]
    refine congrArg₂ (· * ·) (congrArg c ?_) (congrArg d ?_) <;>
    · funext x
      match x with
      | ⟨0, _⟩ => exact Fin.ext (by rfl)
      | ⟨1, _⟩ => exact Fin.ext (Nat.mod_eq_of_lt e.isLt)

/-- The difference of the maps' weights. -/
theorem difference_apply (R : Fin 16384) (h : Fin 8) (κ : Fin 8192) :
    val_main_v43 (F := Ideal) Q K a b c d (ix4 (seqOf R) h (posOf R) κ)
      = prob Q K R h 0 κ.val - factor a b c d (Ideal.ofBits .f32 0x3EB60549#32) * prob Q K R h 1 κ.val := by
  rw [val_main_v43_apply, val_main_v42_apply, first_apply, second_apply, val_main_v41_apply, factor_apply]
  rfl

/-- What the precondition gives: real arguments. -/
structure Real : Prop where
  q : ∀ j, IsReal (Q j)
  k : ∀ j, IsReal (K j)
  v : ∀ j, IsReal (V j)
  a : ∀ j, IsReal (a j)
  b : ∀ j, IsReal (b j)
  c : ∀ j, IsReal (c j)
  d : ∀ j, IsReal (d j)

theorem word_real (w : BitVec 32) (h : IsReal (Ideal.ofBits .f32 w)) (hr : Real Q K V a b c d) :
    IsReal (factor a b c d (Ideal.ofBits .f32 w)) := factor_real _ _ _ _ _ hr.a hr.b hr.c hr.d h

theorem init_real : IsReal (Ideal.ofBits .f32 0x3EB60549#32) := ⟨_, by simp [Ideal.ofBits, Ideal.ieee]; rfl⟩

/-- The weighed values. -/
theorem weighed_apply (hr : Real Q K V a b c d) (R : Fin 16384) (h : Fin 8) (e : Fin 128) :
    val_main_v45 (F := Ideal) Q K V a b c d (ix4 (seqOf R) (posOf R) h e)
      = twoMaps (score Q K R h) (value V R h e) (factor a b c d (Ideal.ofBits .f32 0x3EB60549#32)) 8192 := by
  rw [val_main_v45_apply, val_main_v44_apply]
  refine Eq.trans ?_ (sum_twoMaps (score Q K R h) (value V R h e) _ (by norm_num) (fun i => score_zero_ne_bot Q K hr.q hr.k R h i)
    (fun i k _ => score_ne_top Q K hr.q hr.k R h i k) (fun k _ => value_real V hr.v R h e k)
    (word_real Q K V a b c d _ init_real hr))
  rw [Finset.sum_range]
  refine Finset.sum_congr rfl fun κ _ => congrArg₂ (· * ·) ?_ ?_
  · rw [value, dif_pos κ.isLt]
    refine Eq.trans (congrArg _ ?_) (value_apply V R h e κ)
    funext x
    match x with
    | ⟨0, _⟩ => rfl
    | ⟨1, _⟩ => rfl
    | ⟨2, _⟩ => rfl
    | ⟨3, _⟩ => rfl
  · refine Eq.trans (congrArg _ ?_) (difference_apply Q K a b c d R h κ)
    funext x
    match x with
    | ⟨0, _⟩ => rfl
    | ⟨1, _⟩ => rfl
    | ⟨2, _⟩ => rfl
    | ⟨3, _⟩ => rfl

/-- The mean square's root, under one. -/
theorem scale_apply (hr : Real Q K V a b c d) (R : Fin 16384) (h : Fin 8) (e : Fin 128) :
    val_main_v54 (F := Ideal) Q K V a b c d (ix4 (seqOf R) (posOf R) h e)
      = Ideal.rsqrt (Ideal.div (∑ e, twoMaps (score Q K R h) (value V R h e) (factor a b c d (Ideal.ofBits .f32 0x3EB60549#32)) 8192
          * twoMaps (score Q K R h) (value V R h e) (factor a b c d (Ideal.ofBits .f32 0x3EB60549#32)) 8192)
            (Ideal.ofBits .f32 0x43000000#32) + Ideal.ofBits .f32 0x3727C5AC#32) := by
  rw [val_main_v54_apply, val_main_v53_apply, val_main_v52_apply, val_main_v50_apply, val_main_v48_apply, val_main_v47_apply]
  refine congrArg Ideal.rsqrt (congrArg₂ (· + ·) (congrArg₂ Ideal.div ?_ ?_) ?_)
  · have hz : val_main_cst_6 (F := Ideal) (Shape.Idx.first h_S_) = (0 : EReal) := ofBits_zero_f32
    rw [hz, zero_add]
    refine Finset.sum_congr rfl fun e' _ => ?_
    rw [val_main_v46_apply]
    have he : val_main_v45 (F := Ideal) Q K V a b c d (idx_main_v47 (idx_main_v48 (idx_main_v54 (ix4 (seqOf R) (posOf R) h e))) e')
        = twoMaps (score Q K R h) (value V R h e') (factor a b c d (Ideal.ofBits .f32 0x3EB60549#32)) 8192 := by
      refine Eq.trans (congrArg _ ?_) (weighed_apply Q K V a b c d hr R h e')
      funext x
      match x with
      | ⟨0, _⟩ => rfl
      | ⟨1, _⟩ => rfl
      | ⟨2, _⟩ => rfl
      | ⟨3, _⟩ => rfl
    rw [he]
    rfl
  · rw [val_main_v49_apply]; rfl
  · rw [val_main_v51_apply]; rfl

/-- The reference's result for finite arguments. -/
theorem result_apply (hr : Real Q K V a b c d) (R : Fin 16384) (C : Fin 1024) :
    val_main_v62 (F := Ideal) Q K V a b c d g (ix2 R C)
      = attention Q K V (factor a b c d (Ideal.ofBits .f32 0x3EB60549#32)) g (Ideal.ofBits .f32 0x3F24FD5C#32) R C := by
  have hC := C.isLt
  have hi : idx_main_v62 (ix2 R C) = ix4 (seqOf R) (posOf R) (headOf C) (laneOf C) := by
    funext x
    match x with
    | ⟨0, _⟩ => exact Fin.ext (by show (R.val * 1024 + C.val) / 8388608 = R.val / 8192; omega)
    | ⟨1, _⟩ => exact Fin.ext (by show (R.val * 1024 + C.val) / 1024 % 8192 = R.val % 8192; omega)
    | ⟨2, _⟩ => exact Fin.ext (by show (R.val * 1024 + C.val) / 128 % 8 = C.val / 128; omega)
    | ⟨3, _⟩ => exact Fin.ext (by show (R.val * 1024 + C.val) % 128 = C.val % 128; omega)
  rw [val_main_v62_apply, hi, val_main_v61_apply, val_main_v59_apply, val_main_v55_apply, weighed_apply _ _ _ _ _ _ _ hr,
    scale_apply _ _ _ _ _ _ _ hr, val_main_v58_apply, val_main_v57_apply, val_main_v56_apply, val_main_v60_apply]
  refine congrArg₂ (· * ·) (congrArg₂ (· * ·) rfl (congrArg g ?_)) rfl
  funext x
  match x with
  | ⟨0, _⟩ => exact Fin.ext (by rfl)
  | ⟨1, _⟩ => exact Fin.ext (Nat.mod_eq_of_lt (laneOf C).isLt)

end Cert.Diff.Ref

end
-- ==== Proof.DiffClaim.lean ====
/- The claims about the differential attention: the three programs leave their arguments and their counters as they were,
   and over the extended reals the kernel's result is the reference's whenever the queries, the keys, the values and the
   coefficients are finite. -/
module

public import proofs.«01_k».proof.Defs
public import proofs.«01_k».proof.Proof.FinitePre
public import proofs.«01_k».proof.Proof.DiffValue
public import proofs.«01_k».proof.Proof.DiffRef
public import proofs.«01_k».proof.Proof.Gen.Diff.Frame
public import proofs.«01_k».proof.Proof.Gen.DiffRefIdeal.Run

@[expose] public section

noncomputable section

namespace Cert.Diff.Claims

open Idealize.ShloMosaic Idealize.ShloMosaic.ValueIdx Idealize.ShloMosaic.TcCoe Idealize.SL.Sem Cert.Finite

theorem frame_kernel : Cert.quiescent_Diff := fun m ρ _ => Cert.Diff.Gen.frame m ρ

theorem frame_ideal : Cert.quiescent_DiffIdeal := fun m ρ _ => Cert.DiffIdeal.Gen.frame m ρ

theorem frame_ideal_pre : Cert.quiescent_DiffIdeal_pre_finite2 := fun m ρ _ => Cert.DiffIdeal.Gen.frame m ρ

theorem frame_reference : Cert.quiescent_DiffRefIdeal := fun m ρ _ =>
  (θ_run Cert.DiffRefIdeal.defs _ _).mono (fun r h => ⟨fun c => (h c).2, sem_eq_zero_of_no_sems (by decide) r.2⟩)
    (Cert.DiffRefIdeal.Value.run (F := Ideal) m ρ)

theorem frame_reference_pre : Cert.quiescent_DiffRefIdeal_pre_finite2 := fun m ρ _ => frame_reference m ρ trivial

theorem preserves : Cert.preserves_Diff_DiffIdeal := IdealRules.named_const.statement Cert.DiffIdeal.κ "mask" .f32 0xF149F2CA#32 ⊥ rfl

/-- What the precondition says of the kernel's arguments. -/
theorem args_real {m : (ℓ : Loc Cert.DiffIdeal.nD Cert.DiffIdeal.τ Cert.DiffIdeal.sig) → Buf (Elt Ideal) ℓ}
    (h : Cert.Pre_DiffIdeal_finite2 m) (c : Dev Cert.DiffIdeal.nD) :
    Ref.Real (Value.argQ m c) (Value.argK m c) (Value.argV m c) (Value.argA m c) (Value.argB m c) (Value.argC m c)
      (Value.argD m c) :=
  ⟨fun j => isReal_of_bit (congrFun (h c).1 j), fun j => isReal_of_bit (congrFun (h c).2.1 j),
    fun j => isReal_of_bit (congrFun (h c).2.2.1 j), fun j => isReal_of_bit (congrFun (h c).2.2.2.1 j),
    fun j => isReal_of_bit (congrFun (h c).2.2.2.2.1 j), fun j => isReal_of_bit (congrFun (h c).2.2.2.2.2.1 j),
    fun j => isReal_of_bit (congrFun (h c).2.2.2.2.2.2 j)⟩

theorem algebraic : Cert.algebraic_DiffIdeal_DiffRefIdeal_pre_finite2 := by
  intro m ρ m' ρ' hpre hagree
  refine ⟨_, Cert.DiffIdeal.Value.run_blocks m ρ, ?_⟩
  refine (θ_run Cert.DiffRefIdeal.defs _ _).mono (fun _ h c => ⟨(h c).1.trans ?_, (h c).2⟩)
    (Cert.DiffRefIdeal.Value.run (F := Ideal) m' ρ')
  obtain ⟨h0, h1, h2, h3, h4, h5, h6, h7⟩ := hagree c
  rw [Cert.DiffRefIdeal.Read.val_main_v62_eq, h0, h1, h2, h3, h4, h5, h6, h7]
  funext j
  rw [eq_ix2 j]
  exact (Ref.result_apply _ _ _ _ _ _ _ _ (args_real hpre c) _ _).trans (Value.result_apply m c _ _).symm

end Cert.Diff.Claims

end
-- ==== Proof.DiffLateBlock.lean ====
/- What the later layer's differential-attention kernel writes at one grid point: for each of its 512 query rows the two maps'
   softmaxes over the keys up to the row, weighing the same values — the running form of `Update`, carried through the
   counted loop over the earlier key blocks and closed by the masked block on the diagonal —, the second taken from the
   first and the row normed. -/
module

public import proofs.«01_k».proof.Proof.Blocks
public import proofs.«01_k».proof.Proof.Update
public import proofs.«01_k».proof.Proof.DiffSpec
public import proofs.«01_k».proof.Proof.Gen.DiffLateIdeal.Value

@[expose] public section

noncomputable section

namespace Cert.DiffLate.Block

open Idealize.ShloMosaic Idealize.ShloMosaic.Ideal Idealize.ShloMosaic.ValueIdx Idealize.ShloMosaic.TcCoe
open Idealize.SL.Sem
open Cert.DiffLateIdeal Cert.DiffLateIdeal.Gen Cert.Softmax Cert.Flash Cert.Blocks Cert.Diff

/-! ## The grid point's numbers -/

theorem trips1 (i : grid0.Coords) : (k0_t1_loop i).trips = (i 2).val :=
  (by decide +kernel : ∀ n : Fin 16, (⟨0#32, Scalar.addi 0#32 (Scalar.muli (Scalar.divsi (Scalar.subi (BitVec.ofNat 32 n.val) 0#32) 1#32) 1#32), 1#32⟩ : Scf.Loop 32).trips = n.val) (i 2)

theorem trips2 (i : grid0.Coords) : (k0_t2_loop i).trips = 0 :=
  (by decide +kernel : ∀ n : Fin 16, (⟨Scalar.addi 0#32 (Scalar.muli (Scalar.divsi (Scalar.subi (BitVec.ofNat 32 n.val) 0#32) 1#32) 1#32), Scalar.addi 0#32 (Scalar.subi (BitVec.ofNat 32 n.val) 0#32), 1#32⟩ : Scf.Loop 32).trips = 0) (i 2)

theorem trip_lt (i : grid0.Coords) (k : Fin (k0_t1_loop i).trips) : k.val < (i 2).val :=
  lt_of_lt_of_eq k.isLt (trips1 i)

theorem coord2_lt (i : grid0.Coords) : (i 2).val < 16 := (i 2).isLt
theorem coord1_lt (i : grid0.Coords) : (i 1).val < 8 := (i 1).isLt

theorem off1_eq (i : grid0.Coords) (k : Fin (k0_t1_loop i).trips) : k0_off1 i k = ![512 * k.val, 0] := by
  have h : k.val < 16 := lt_trans (trip_lt i k) (coord2_lt i)
  show ![(Scalar.indexCast (Scalar.muli (Scf.iv 0#32 1#32 k.val) 512#32)).toNat, 0] = _
  rw [block_off _ h]

theorem off3_eq (i : grid0.Coords) : k0_off3 i = ![512 * (i 2).val, 0] := by
  show ![(Scalar.indexCast (Scalar.muli (BitVec.ofNat 32 (i 2).val) 512#32)).toNat, 0] = _
  rw [diag_off _ (coord2_lt i)]

/-! ## Scores -/

/-- The bit of the lane mask. -/
theorem lane_bit (r : Fin 512) (e : Fin 128) : k0_pay2 (ix2 r e) = if e.val < 64 then 1#1 else 0#1 :=
  (by decide +kernel : ∀ e : Fin 128, IntOp.cmpi .slt (BitVec.ofNat 32 (0 * 128 + e.val)) 64#32 = if e.val < 64 then 1#1 else 0#1) e

theorem zero_bf16 (j : S512x128.Idx) : (k0_pay3 : FVec Ideal S512x128 .bf16) j = (0 : EReal) := by
  show Ideal.ofBits .bf16 0x0000#16 = 0
  simp [Ideal.ofBits, Ideal.ieee]

theorem scoresA_apply (q K : Vec Ideal S512x128 .bf16) (r c : Fin 512) :
    k0_pay9 q K (ix2 r c) = ∑ e : Fin 64, (q (ix2 r (lane 0 e)) * K (ix2 c (lane 0 e)) : EReal) := by
  refine (dotQK_apply _ (k0_pay4 q) K r c).trans ?_
  have hq : ∀ e : Fin 128, k0_pay4 q (ix2 r e) = (if e.val < 64 then q (ix2 r e) else (0 : EReal) : EReal) := fun e => by
    show Scalar.select (k0_pay2 (ix2 r e)) (q (ix2 r e) : Ideal .bf16) ((k0_pay3 : FVec Ideal S512x128 .bf16) (ix2 r e)) = _
    rw [lane_bit, zero_bf16]
    split <;> rfl
  rw [sum_lanes]
  have h1 : ∑ e, (k0_pay4 q (ix2 r (lane 1 e)) * K (ix2 c (lane 1 e)) : EReal) = 0 :=
    Finset.sum_eq_zero fun e _ => by rw [hq, if_neg (by show ¬ (64 * 1 + e.val < 64); omega), zero_mul]
  rw [h1, add_zero]
  refine Finset.sum_congr rfl fun e _ => ?_
  rw [hq, if_pos (by show 64 * 0 + e.val < 64; omega)]

theorem scoresB_apply (q K : Vec Ideal S512x128 .bf16) (r c : Fin 512) :
    k0_pay10 q K (ix2 r c) = ∑ e : Fin 64, (q (ix2 r (lane 1 e)) * K (ix2 c (lane 1 e)) : EReal) := by
  refine (dotQK_apply _ (k0_pay5 q) K r c).trans ?_
  have hq : ∀ e : Fin 128, k0_pay5 q (ix2 r e) = (if e.val < 64 then (0 : EReal) else q (ix2 r e) : EReal) := fun e => by
    show Scalar.select (k0_pay2 (ix2 r e)) ((k0_pay3 : FVec Ideal S512x128 .bf16) (ix2 r e)) (q (ix2 r e) : Ideal .bf16) = _
    rw [lane_bit, zero_bf16]
    split <;> rfl
  rw [sum_lanes]
  have h0 : ∑ e, (k0_pay5 q (ix2 r (lane 0 e)) * K (ix2 c (lane 0 e)) : EReal) = 0 :=
    Finset.sum_eq_zero fun e _ => by rw [hq, if_pos (by show 64 * 0 + e.val < 64; omega), zero_mul]
  rw [h0, zero_add]
  refine Finset.sum_congr rfl fun e _ => ?_
  rw [hq, if_neg (by show ¬ (64 * 1 + e.val < 64); omega)]

/-- The mask of the diagonal block: the keys up to the row. -/
theorem causal_bit (r k : Fin 512) : k0_pay33 (ix2 r k) = if k.val ≤ r.val then 1#1 else 0#1 := below_bit r k

/-- A block of scores under the diagonal block's mask. -/
theorem masked_apply (S : FVec Ideal S512x512 .f32) (r k : Fin 512) :
    select k0_pay33 S (broadcast S512x512 (Named.named κ "mask" 0xF149F2CA#32 : Ideal .f32)) (ix2 r k)
      = if k.val ≤ r.val then S (ix2 r k) else (⊥ : EReal) := by
  have hm : (Named.named κ "mask" 0xF149F2CA#32 : Ideal .f32) = (⊥ : EReal) := IdealRules.named_const.ideal_named_scalar _ _ _ _ rfl
  show Scalar.select (k0_pay33 (ix2 r k)) (S (ix2 r k)) (Named.named κ "mask" 0xF149F2CA#32 : Ideal .f32) = _
  rw [causal_bit, hm]
  split <;> rfl

/-! ## The factor of the second map and the norm -/

/-- A product of two rows of coefficients, summed. -/
theorem coeffs_apply (a b : Vec Ideal S1x64 .f32) :
    shapeCast S1x1 (multiReduction .add [1] S1 (mulf a b : FVec Ideal S1x64 .f32) 0x00000000#32 reduces_S1x64_S1 (.inl rfl) rfl) shapeCasts_S1_S1x1 (ix2 0 0)
      = ∑ e : Fin 64, (a (ix2 0 e) * b (ix2 0 e) : EReal) := by
  refine (shapeCast_apply _ _ (ix2 0 0) (ix1 0) ?_).trans ?_
  · rw [Shape.rowMajor_val_one, Shape.rowMajor_val_two]; rfl
  · refine (multiReduction_add_single _ _ _ _ _ _).trans ?_
    refine Finset.sum_congr rfl fun e _ => ?_
    show (mulf a b : FVec Ideal S1x64 .f32) _ = (mulf a b : FVec Ideal S1x64 .f32) (ix2 0 e)
    congr 1
    funext x
    match x with
    | ⟨0, _⟩ => exact Fin.ext rfl
    | ⟨1, _⟩ => exact Fin.ext rfl

theorem factor_apply (a b c d : Vec Ideal S1x64 .f32) :
    k0_pay46 a b c d (ix2 0 0) = factor a b c d (Ideal.ofBits .f32 0x3F0E59D5#32) :=
  congrArg₂ (· + ·) (congrArg₂ (· - ·) (congrArg Ideal.exp (coeffs_apply a b)) (congrArg Ideal.exp (coeffs_apply c d))) rfl

/-- The end of the point: the difference of the maps, normed. -/
theorem norm_apply (aA aB lA : FVec Ideal S512x128 .f32) (lB : FVec Ideal S512x1 .f32) (lam : FVec Ideal S1x1 .f32)
    (g : Vec Ideal S1x128 .f32) (r : Fin 512) (d : Fin 128) :
    k0_pay1 aA lB aB lam lA g (ix2 r d)
      = normed (fun e => Ideal.div (aA (ix2 r e)) (lA (ix2 r e)) - lam (ix2 0 0) * Ideal.div (aB (ix2 r e)) (lB (ix2 r 0))) g
          (Ideal.ofBits .f32 0x3EE34C57#32) d := by
  have hl : ∀ e, broadcastTo S512x128 lam broadcasts_S1x1_S512x128 (ix2 r e) = lam (ix2 0 0) := fun e => by
    unfold broadcastTo
    congr 1
    funext a
    match a with
    | ⟨0, _⟩ => exact Fin.ext rfl
    | ⟨1, _⟩ => exact Fin.ext rfl
  have hx : ∀ e, (subf (divf aA lA) (mulf (broadcastTo S512x128 lam broadcasts_S1x1_S512x128)
      (divf aB (broadcastTo S512x128 lB broadcasts_S512x1_S512x128))) : FVec Ideal S512x128 .f32) (ix2 r e)
        = Ideal.div (aA (ix2 r e)) (lA (ix2 r e)) - lam (ix2 0 0) * Ideal.div (aB (ix2 r e)) (lB (ix2 r 0)) := fun e =>
    congrArg₂ (· - ·) rfl (congrArg₂ (· * ·) (hl e) (congrArg (Ideal.div _) (broadcastCol_apply lB _ r e)))
  have hg : broadcastTo S512x128 g broadcasts_S1x128_S512x128 (ix2 r d) = g (ix2 0 d) := by
    unfold broadcastTo
    congr 1
    funext a
    match a with
    | ⟨0, _⟩ => exact Fin.ext rfl
    | ⟨1, _⟩ => exact Fin.ext rfl
  refine congrArg₂ (· * ·) (congrArg₂ (· * ·) (congrArg₂ (· * ·) (hx d) ?_) hg) rfl
  refine (broadcastCol_apply _ broadcasts_S512x1_S512x128 r d).trans (congrArg Ideal.rsqrt (congrArg₂ (· + ·) (congrArg₂ Ideal.div ?_ rfl) rfl))
  refine (rowSum_apply _ reduces_S512x128_S512 (.inl rfl) rfl shapeCasts_S512_S512x1 r).trans ?_
  exact Finset.sum_congr rfl fun e _ => congrArg₂ (· * ·) (hx e) (hx e)

/-! ## The running softmax of a row -/

section Point

variable (i : grid0.Coords) (x0 : Vec Ideal S512x128 .bf16) (x1 x2 : Vec Ideal S8192x128 .bf16)

/-- The score of key `κ` on row `r`, in map `half`: `⊥` past the row. -/
def score (r : Fin 512) (half : Fin 2) (κ : ℕ) : EReal :=
  if h : κ < 8192 then
    if κ ≤ 512 * (i 2).val + r.val then ∑ e : Fin 64, (x0 (ix2 r (lane half e)) * x1 (ix2 ⟨κ, h⟩ (lane half e)) : EReal)
    else ⊥
  else ⊥

/-- The value of key `κ` on lane `d`. -/
def value (d : Fin 128) (κ : ℕ) : EReal := if h : κ < 8192 then x2 (ix2 ⟨κ, h⟩ d) else 0

variable (arg4 : Memref sig .tc .vmem S8192x128 .bf16) (harg4 : arg4.IsWhole)
variable (arg5 : Memref sig .tc .vmem S8192x128 .bf16) (harg5 : arg5.IsWhole)

variable (arg3 : Memref sig .tc .vmem S512x128 .bf16) (harg3 : arg3.IsWhole)
variable (arg6 : Memref sig .tc .vmem S1x64 .f32) (harg6 : arg6.IsWhole)
variable (arg7 : Memref sig .tc .vmem S1x64 .f32) (harg7 : arg7.IsWhole)
variable (arg8 : Memref sig .tc .vmem S1x64 .f32) (harg8 : arg8.IsWhole)
variable (arg9 : Memref sig .tc .vmem S1x64 .f32) (harg9 : arg9.IsWhole)
variable (arg10 : Memref sig .tc .vmem S1x128 .f32) (harg10 : arg10.IsWhole)
variable (arg11 : Memref sig .tc .vmem S512x128 .f32) (harg11 : arg11.IsWhole)

/-- One trip of the loop over the earlier blocks. -/
theorem trip_holds (𝒱 : Variants) (c : Dev nD) (bd : Option 𝒱.V) (k : Fin (k0_t1_loop i).trips) (acc) (r : Fin 512)
    (hA : Holds (score i x0 x1 r 0) (value x2) (512 * k.val) r acc.1 acc.2.1 acc.2.2.1)
    (hB : Holds (score i x0 x1 r 1) (value x2) (512 * k.val) r acc.2.2.2.1 acc.2.2.2.2.1 acc.2.2.2.2.2) :
    let acc' := tripR_k0_t1 (F := Ideal) 𝒱 c bd i arg3 harg3 arg4 harg4 arg5 harg5 arg6 harg6 arg7 harg7 arg8 harg8 arg9
      harg9 arg10 harg10 arg11 harg11 x0 (harg4.unread x1) (harg5.unread x2) k acc
    Holds (score i x0 x1 r 0) (value x2) (512 * (k.val + 1)) r acc'.1 acc'.2.1 acc'.2.2.1
      ∧ Holds (score i x0 x1 r 1) (value x2) (512 * (k.val + 1)) r acc'.2.2.2.1 acc'.2.2.2.2.1 acc'.2.2.2.2.2 := by
  have hk := trip_lt i k
  have hi := coord2_lt i
  have hk' : k.val < 16 := lt_trans hk hi
  have hV : ∀ (j : Fin 512) (d : Fin 128), arg5.view.readAt (Elt Ideal)
      (Rect.unit (s := S8192x128) (k0_off1 i k) S512x128.size (k0_off1_inb i k)).toLoadRect (harg5.unread x2) (ix2 j d)
        = value x2 d (512 * k.val + j.val) := fun j d => by
    rw [load_block k.val hk' arg5 harg5 x2 (off1_eq i k), value, dif_pos (by omega)]
  unfold tripR_k0_t1 trip_k0_t1
  dsimp only
  refine ⟨Holds.step _ _ _ _ _ hA (S := k0_pay9 x0 _) (fun j => ?_) hV _,
    Holds.step _ _ _ _ _ hB (S := k0_pay10 x0 _) (fun j => ?_) hV _⟩
  · rw [scoresA_apply, score, dif_pos (by omega), if_pos (by omega)]
    simp only [load_block k.val hk' arg4 harg4 x1 (off1_eq i k)]
  · rw [scoresB_apply, score, dif_pos (by omega), if_pos (by omega)]
    simp only [load_block k.val hk' arg4 harg4 x1 (off1_eq i k)]

/-- The loop over the earlier blocks, after `n` trips. -/
theorem loop_holds (𝒱 : Variants) (c : Dev nD) (bd : Option 𝒱.V) (r : Fin 512) (n : ℕ) (hn : n ≤ (i 2).val) :
    let acc := st_k0_t1 (F := Ideal) 𝒱 c bd i arg3 harg3 arg4 harg4 arg5 harg5 arg6 harg6 arg7 harg7 arg8 harg8 arg9
      harg9 arg10 harg10 arg11 harg11 x0 (harg4.unread x1) (harg5.unread x2)
      (k0_pay6, k0_pay7, k0_pay8, k0_pay6, k0_pay7, k0_pay8) n
    Holds (score i x0 x1 r 0) (value x2) (512 * n) r acc.1 acc.2.1 acc.2.2.1
      ∧ Holds (score i x0 x1 r 1) (value x2) (512 * n) r acc.2.2.2.1 acc.2.2.2.2.1 acc.2.2.2.2.2 := by
  induction n with
  | zero =>
    have hm : (k0_pay6 : FVec Ideal S512x1 .f32) (ix2 r 0) = (⊥ : EReal) := IdealRules.named_const.ideal_named_scalar _ _ _ _ rfl
    have hl : (k0_pay7 : FVec Ideal S512x1 .f32) (ix2 r 0) = (0 : EReal) := ofBits_zero_f32
    have ha : ∀ d, (k0_pay8 : FVec Ideal S512x128 .f32) (ix2 r d) = (0 : EReal) := fun _ => ofBits_zero_f32
    exact ⟨Holds.init _ _ r hm hl ha, Holds.init _ _ r hm hl ha⟩
  | succ n ih =>
    have h := trip_holds i x0 x1 x2 arg4 harg4 arg5 harg5 arg3 harg3 arg6 harg6 arg7 harg7 arg8 harg8 arg9 harg9 arg10
      harg10 arg11 harg11 𝒱 c bd ⟨n, lt_of_lt_of_eq hn (trips1 i).symm⟩ _ r (ih (Nat.le_of_succ_le hn)).1
      (ih (Nat.le_of_succ_le hn)).2
    rw [st_k0_t1_succ (F := Ideal) 𝒱 c bd i arg3 harg3 arg4 harg4 arg5 harg5 arg6 harg6 arg7 harg7 arg8 harg8 arg9 harg9
      arg10 harg10 arg11 harg11 x0 (harg4.unread x1) (harg5.unread x2) _ ⟨n, lt_of_lt_of_eq hn (trips1 i).symm⟩]
    exact h

/-- The diagonal block, the difference and the norm. -/
theorem close_apply (acc : FVec Ideal S512x1 .f32 × FVec Ideal S512x1 .f32 × FVec Ideal S512x128 .f32 × FVec Ideal S512x1 .f32 × FVec Ideal S512x1 .f32 × FVec Ideal S512x128 .f32)
    (K V : Vec Ideal S512x128 .bf16) (lam : FVec Ideal S1x1 .f32) (g : Vec Ideal S1x128 .f32) (r : Fin 512) (d : Fin 128)
    (hK : ∀ (k : Fin 512) (e : Fin 128), K (ix2 k e) = x1 (ix2 ⟨512 * (i 2).val + k.val, by have := coord2_lt i; omega⟩ e))
    (hV : ∀ (k : Fin 512) (e : Fin 128), V (ix2 k e) = value x2 e (512 * (i 2).val + k.val))
    (hA : Holds (score i x0 x1 r 0) (value x2) (512 * (i 2).val) r acc.1 acc.2.1 acc.2.2.1)
    (hB : Holds (score i x0 x1 r 1) (value x2) (512 * (i 2).val) r acc.2.2.2.1 acc.2.2.2.2.1 acc.2.2.2.2.2) :
    k0_pay1 (k0_pay40 acc.2.2.1 V (k0_pay34 x0 K) (k0_pay37 x0 acc.1 K) (k0_pay38 x0 acc.1 K))
        (k0_pay44 acc.2.2.2.1 acc.2.2.2.2.1 (k0_pay35 x0 K)) (k0_pay45 acc.2.2.2.1 acc.2.2.2.2.2 V (k0_pay35 x0 K)) lam
        (k0_pay47 acc.2.1 (k0_pay34 x0 K) (k0_pay37 x0 acc.1 K) (k0_pay38 x0 acc.1 K)) g (ix2 r d)
      = normed (fun e => twoMaps (score i x0 x1 r) (value x2 e) (lam (ix2 0 0)) (512 * (i 2).val + 512)) g
          (Ideal.ofBits .f32 0x3EE34C57#32) d := by
  have hi := coord2_lt i
  have SA : ∀ k : Fin 512, k0_pay34 x0 K (ix2 r k) = score i x0 x1 r 0 (512 * (i 2).val + k.val) := fun k => by
    refine (masked_apply (k0_pay9 x0 K) r k).trans ?_
    rw [score, dif_pos (by omega)]
    by_cases hk : k.val ≤ r.val
    · rw [if_pos hk, if_pos (by omega), scoresA_apply]
      simp only [hK]
    · rw [if_neg hk, if_neg (by omega)]
  have SB : ∀ k : Fin 512, k0_pay35 x0 K (ix2 r k) = score i x0 x1 r 1 (512 * (i 2).val + k.val) := fun k => by
    refine (masked_apply (k0_pay10 x0 K) r k).trans ?_
    rw [score, dif_pos (by omega)]
    by_cases hk : k.val ≤ r.val
    · rw [if_pos hk, if_pos (by omega), scoresB_apply]
      simp only [hK]
    · rw [if_neg hk, if_neg (by omega)]
  have HA := Holds.step reduces_S512x512_S512 shapeCasts_S512_S512x1 broadcasts_S512x1_S512x512
    broadcasts_S512x1_S512x128 dot_S512x512_S512x128_S512x128_1_0_0_1_n_n_wf hA SA hV bitsLt_bf16_f32
  have HB := Holds.step reduces_S512x512_S512 shapeCasts_S512_S512x1 broadcasts_S512x1_S512x512
    broadcasts_S512x1_S512x128 dot_S512x512_S512x128_S512x128_1_0_0_1_n_n_wf hB SB hV bitsLt_bf16_f32
  refine (norm_apply _ _ _ _ lam g r d).trans (congrArg (fun x => normed x g _ d) (funext fun e => ?_))
  refine congrArg₂ (· - ·) (congrArg₂ Ideal.div (HA.dot e) ?_) (congrArg (lam (ix2 0 0) * ·) (congrArg₂ Ideal.div (HB.dot e) HB.mass))
  exact (broadcastCol_apply _ broadcasts_S512x1_S512x128 r e).trans HA.mass

/-- What the point leaves of its output block, at row `r` and lane `d`. -/
theorem out_apply (c : Dev nD) (x3 x4 x5 x6 : Vec Ideal S1x64 .f32) (x7 : Vec Ideal S1x128 .f32) (r : Fin 512) (d : Fin 128) :
    out0_A_8 (F := Ideal) c i arg3 harg3 arg4 harg4 arg5 harg5 arg6 harg6 arg7 harg7 arg8 harg8 arg9 harg9 arg10 harg10
        arg11 harg11 x0 x1 x2 x3 x4 x5 x6 x7 (ix2 r d)
      = normed (fun e => twoMaps (score i x0 x1 r) (value x2 e) (factor x3 x4 x5 x6 (Ideal.ofBits .f32 0x3F0E59D5#32))
          (512 * (i 2).val + 512)) x7 (Ideal.ofBits .f32 0x3EE34C57#32) d := by
  unfold out0_A_8 kernelRun0_A
  dsimp only
  rw [View.read_writes_junk_eq_canon, View.canon_unit_zero (by funext a; fin_cases a <;> rfl)]
  unfold kernelRun0_A.sl.r_10 kernelRun0_A.sl.r_11 kernelRun0_A.sl.r_12 kernelRun0_A.sl.r_13 kernelRun0_A.sl.r_14
    kernelRun0_A.sl.r_9 kernelRun0_A.sl.r_8 kernelRun0_A.sl.r_7 kernelRun0_A.sl.r_6 kernelRun0_A.sl.r_5
    kernelRun0_A.sl.r_4 kernelRun0_A.sl.r_3 kernelRun0_A.sl.r_2 kernelRun0_A.sl.r_1 kernelRun0_A.sl.r
  have hz : (![0, 0] : Fin 2 → ℕ) = fun _ => 0 := by funext a; fin_cases a <;> rfl
  have e1 : Scf.trips (k0_t1_loop i).lb (k0_t1_loop i).ub (k0_t1_loop i).st = (i 2).val := trips1 i
  have e2 : Scf.trips (k0_t2_loop i).lb (k0_t2_loop i).ub (k0_t2_loop i).st = 0 := trips2 i
  rw [e1, e2, load_whole arg3 harg3 x0 hz, load_whole arg6 harg6 x3 hz, load_whole arg7 harg7 x4 hz,
    load_whole arg8 harg8 x5 hz, load_whole arg9 harg9 x6 hz, load_whole arg10 harg10 x7 hz]
  simp only [st_k0_t2_zero]
  have hL := loop_holds i x0 x1 x2 arg4 harg4 arg5 harg5 arg3 harg3 arg6 harg6 arg7 harg7 arg8 harg8 arg9 harg9 arg10
    harg10 arg11 harg11 Variants.none c none r (i 2).val le_rfl
  rw [← factor_apply]
  exact close_apply i x0 x1 x2 _ _ _ _ _ r d
    (fun k e => load_block _ (coord2_lt i) arg4 harg4 x1 (off3_eq i) _ k e)
    (fun k e => (load_block _ (coord2_lt i) arg5 harg5 x2 (off3_eq i) _ k e).trans
      (by have := coord2_lt i; rw [value, dif_pos (by omega)])) hL.1 hL.2

end Point

end Cert.DiffLate.Block

end
-- ==== Proof.DiffLateValue.lean ====
/- The later layer's differential-attention call over whole arrays: which rows and columns each grid point's blocks are, so that its
   result array is `DiffSpec`'s attention of the arguments. -/
module

public import proofs.«01_k».proof.Proof.DiffSpec
public import proofs.«01_k».proof.Proof.DiffLateBlock
public import Idealize.ShloMosaic.Lib.Pipeline.Covers

@[expose] public section

noncomputable section

namespace Cert.DiffLate.Value

open Idealize.ShloMosaic Idealize.ShloMosaic.Ideal Idealize.ShloMosaic.ValueIdx Idealize.ShloMosaic.TcCoe
open Idealize.SL.Sem
open Cert.DiffLateIdeal Cert.DiffLateIdeal.Gen Cert.DiffLateIdeal.Value Cert.Softmax Cert.Diff Cert.DiffLate.Block Cert.Blocks

/-! ## Which block a grid point has -/

theorem coord0_lt (i : grid0.Coords) : (i 0).val < 2 := (i 0).isLt

/-- Row `r` of the point's query block. -/
def row (i : grid0.Coords) (r : Fin 512) : Fin 16384 :=
  ⟨8192 * (i 0).val + 512 * (i 2).val + r.val, by have := coord0_lt i; have := coord2_lt i; omega⟩

/-- The point's head. -/
def head (i : grid0.Coords) : Fin 8 := ⟨(i 1).val, coord1_lt i⟩

/-- Key `κ` of the point's sequence. -/
def keyRow (i : grid0.Coords) (κ : Fin 8192) : Fin 16384 := ⟨8192 * (i 0).val + κ.val, by have := coord0_lt i; omega⟩

theorem map_rows (i : grid0.Coords) : cc0_transform_0 i = ![16 * (i 0).val + (i 2).val, (i 1).val] :=
  (by decide +kernel : ∀ (a : Fin 2) (b : Fin 8) (c : Fin 16),
    ![(Scalar.addi (Scalar.muli (BitVec.ofNat 32 a.val) 16#32) (BitVec.ofNat 32 c.val)).toNat, (BitVec.ofNat 32 b.val).toNat]
      = ![16 * a.val + c.val, b.val]) (i 0) (i 1) (i 2)

theorem map_keys (i : grid0.Coords) : cc0_transform_1 i = ![(i 0).val, (i 1).val] :=
  (by decide +kernel : ∀ (a : Fin 2) (b : Fin 8), ![(BitVec.ofNat 32 a.val).toNat, (BitVec.ofNat 32 b.val).toNat] = ![a.val, b.val])
    (i 0) (i 1)

/-- The points are numbered by their coordinates. -/
theorem number (t : Fin cfg0.N) :
    t.val = 128 * (grid0.coords t 0).val + 16 * (grid0.coords t 1).val + (grid0.coords t 2).val :=
  (by decide +kernel : ∀ t : Fin grid0.N,
    t.val = 128 * (grid0.coords t 0).val + 16 * (grid0.coords t 1).val + (grid0.coords t 2).val) t

/-- Two points' results share no entry. -/
theorem disjoint8 (t t' : Fin cfg0.N) (_ : (cfg0.win 8).flush t = true) (_ : (cfg0.win 8).flush t' = true) (hne : t ≠ t') :
    Disjoint ((cfg0.win 8).blk t).view.set ((cfg0.win 8).blk t').view.set := by
  refine (cfg0.win 8).disjoint_blk fun h => hne (Fin.ext ?_)
  have h' : cc0_transform_0 (grid0.coords t) = cc0_transform_0 (grid0.coords t') := h
  rw [map_rows, map_rows] at h'
  have h0 : 16 * (grid0.coords t 0).val + (grid0.coords t 2).val = 16 * (grid0.coords t' 0).val + (grid0.coords t' 2).val :=
    congrFun h' 0
  have h1 : (grid0.coords t 1).val = (grid0.coords t' 1).val := congrFun h' 1
  have := coord2_lt (grid0.coords t)
  have := coord2_lt (grid0.coords t')
  rw [number t, number t']
  omega

variable (m : (ℓ : Loc nD τ sig) → Buf (Elt Ideal) ℓ) (c : Dev nD) (t : Fin cfg0.N)

/-- The point's queries. -/
theorem query_block (r : Fin 512) (d : Fin 128) :
    iblk m c 0 t (ix2 r d) = m ((c : Thread nD τ).loc main_arg0) (ix2 (row (grid0.coords t) r) (wide (head (grid0.coords t)) d)) := by
  rw [← V_main_arg0 m c]
  show V m c main_arg0 _ = V m c main_arg0 _
  congr 1
  funext a
  match a with
  | ⟨0, _⟩ => exact Fin.ext ((win0_0.rect_emb_val t (ix2 r d) 0).trans (by
      show cc0_transform_0 (grid0.coords t) 0 * 512 + r.val = 8192 * ((grid0.coords t) 0).val + 512 * ((grid0.coords t) 2).val + r.val
      rw [map_rows]; show (16 * _ + _) * 512 + r.val = _; omega))
  | ⟨1, _⟩ => exact Fin.ext ((win0_0.rect_emb_val t (ix2 r d) 1).trans (by
      show cc0_transform_0 (grid0.coords t) 1 * 128 + d.val = 128 * ((grid0.coords t) 1).val + d.val
      rw [map_rows]; show ((grid0.coords t) 1).val * 128 + d.val = _; omega))

/-- The point's keys. -/
theorem key_block (κ : Fin 8192) (d : Fin 128) :
    iblk m c 1 t (ix2 κ d) = m ((c : Thread nD τ).loc main_arg1) (ix2 (keyRow (grid0.coords t) κ) (wide (head (grid0.coords t)) d)) := by
  rw [← V_main_arg1 m c]
  show V m c main_arg1 _ = V m c main_arg1 _
  congr 1
  funext a
  match a with
  | ⟨0, _⟩ => exact Fin.ext ((win0_1.rect_emb_val t (ix2 κ d) 0).trans (by
      show cc0_transform_1 (grid0.coords t) 0 * 8192 + κ.val = 8192 * ((grid0.coords t) 0).val + κ.val
      rw [map_keys]; show ((grid0.coords t) 0).val * 8192 + κ.val = _; omega))
  | ⟨1, _⟩ => exact Fin.ext ((win0_1.rect_emb_val t (ix2 κ d) 1).trans (by
      show cc0_transform_1 (grid0.coords t) 1 * 128 + d.val = 128 * ((grid0.coords t) 1).val + d.val
      rw [map_keys]; show ((grid0.coords t) 1).val * 128 + d.val = _; omega))

/-- The point's values. -/
theorem value_block (κ : Fin 8192) (d : Fin 128) :
    iblk m c 2 t (ix2 κ d) = m ((c : Thread nD τ).loc main_arg2) (ix2 (keyRow (grid0.coords t) κ) (wide (head (grid0.coords t)) d)) := by
  rw [← V_main_arg2 m c]
  show V m c main_arg2 _ = V m c main_arg2 _
  congr 1
  funext a
  match a with
  | ⟨0, _⟩ => exact Fin.ext ((win0_2.rect_emb_val t (ix2 κ d) 0).trans (by
      show cc0_transform_1 (grid0.coords t) 0 * 8192 + κ.val = 8192 * ((grid0.coords t) 0).val + κ.val
      rw [map_keys]; show ((grid0.coords t) 0).val * 8192 + κ.val = _; omega))
  | ⟨1, _⟩ => exact Fin.ext ((win0_2.rect_emb_val t (ix2 κ d) 1).trans (by
      show cc0_transform_1 (grid0.coords t) 1 * 128 + d.val = 128 * ((grid0.coords t) 1).val + d.val
      rw [map_keys]; show ((grid0.coords t) 1).val * 128 + d.val = _; omega))

/-- The coefficients and the gains, whole at every point. -/
theorem lq1_block : iblk m c 3 t = m ((c : Thread nD τ).loc main_arg3) := by
  rw [← V_main_arg3 m c]
  funext j
  show V m c main_arg3 _ = V m c main_arg3 _
  congr 1
  funext a
  exact Fin.ext ((win0_3.rect_emb_val t j a).trans (by
    match a with
    | ⟨0, _⟩ => show 0 * 1 + (j 0).val = (j 0).val; omega
    | ⟨1, _⟩ => show 0 * 64 + (j 1).val = (j 1).val; omega))

theorem lk1_block : iblk m c 4 t = m ((c : Thread nD τ).loc main_arg4) := by
  rw [← V_main_arg4 m c]
  funext j
  show V m c main_arg4 _ = V m c main_arg4 _
  congr 1
  funext a
  exact Fin.ext ((win0_4.rect_emb_val t j a).trans (by
    match a with
    | ⟨0, _⟩ => show 0 * 1 + (j 0).val = (j 0).val; omega
    | ⟨1, _⟩ => show 0 * 64 + (j 1).val = (j 1).val; omega))

theorem lq2_block : iblk m c 5 t = m ((c : Thread nD τ).loc main_arg5) := by
  rw [← V_main_arg5 m c]
  funext j
  show V m c main_arg5 _ = V m c main_arg5 _
  congr 1
  funext a
  exact Fin.ext ((win0_5.rect_emb_val t j a).trans (by
    match a with
    | ⟨0, _⟩ => show 0 * 1 + (j 0).val = (j 0).val; omega
    | ⟨1, _⟩ => show 0 * 64 + (j 1).val = (j 1).val; omega))

theorem lk2_block : iblk m c 6 t = m ((c : Thread nD τ).loc main_arg6) := by
  rw [← V_main_arg6 m c]
  funext j
  show V m c main_arg6 _ = V m c main_arg6 _
  congr 1
  funext a
  exact Fin.ext ((win0_6.rect_emb_val t j a).trans (by
    match a with
    | ⟨0, _⟩ => show 0 * 1 + (j 0).val = (j 0).val; omega
    | ⟨1, _⟩ => show 0 * 64 + (j 1).val = (j 1).val; omega))

theorem gain_block : iblk m c 7 t = m ((c : Thread nD τ).loc main_arg7) := by
  rw [← V_main_arg7 m c]
  funext j
  show V m c main_arg7 _ = V m c main_arg7 _
  congr 1
  funext a
  exact Fin.ext ((win0_7.rect_emb_val t j a).trans (by
    match a with
    | ⟨0, _⟩ => show 0 * 1 + (j 0).val = (j 0).val; omega
    | ⟨1, _⟩ => show 0 * 128 + (j 1).val = (j 1).val; omega))

/-- Where the point's result lies. -/
theorem result_block (r : Fin 512) (d : Fin 128) :
    ((cfg0.win 8).blk t).view.emb (ix2 r d : S512x128.Idx) = (ix2 (row (grid0.coords t) r) (wide (head (grid0.coords t)) d) : S16384x1024.Idx) := by
  funext a
  match a with
  | ⟨0, _⟩ => exact Fin.ext ((win0_8.rect_emb_val t (ix2 r d) 0).trans (by
      show cc0_transform_0 (grid0.coords t) 0 * 512 + r.val = 8192 * ((grid0.coords t) 0).val + 512 * ((grid0.coords t) 2).val + r.val
      rw [map_rows]; show (16 * _ + _) * 512 + r.val = _; omega))
  | ⟨1, _⟩ => exact Fin.ext ((win0_8.rect_emb_val t (ix2 r d) 1).trans (by
      show cc0_transform_0 (grid0.coords t) 1 * 128 + d.val = 128 * ((grid0.coords t) 1).val + d.val
      rw [map_rows]; show ((grid0.coords t) 1).val * 128 + d.val = _; omega))

/-! ## From the point's scores to the array's -/

theorem key_row (i : grid0.Coords) (r : Fin 512) (κ : Fin 8192) : key (row i r) κ = keyRow i κ :=
  Fin.ext (by have := coord2_lt i; have := coord0_lt i; show 8192 * ((8192 * (i 0).val + 512 * (i 2).val + r.val) / 8192) + κ.val = 8192 * (i 0).val + κ.val; omega)

theorem pos_row (i : grid0.Coords) (r : Fin 512) : (posOf (row i r)).val = 512 * (i 2).val + r.val := by
  have := coord2_lt i
  show (8192 * (i 0).val + 512 * (i 2).val + r.val) % 8192 = _
  omega

theorem wide_lane (h : Fin 8) (half : Fin 2) (e : Fin 64) : wide h (lane half e) = col h half e := rfl

theorem head_wide (h : Fin 8) (d : Fin 128) : headOf (wide h d) = h :=
  Fin.ext (by show (128 * h.val + d.val) / 128 = h.val; omega)

theorem lane_wide (h : Fin 8) (d : Fin 128) : laneOf (wide h d) = d :=
  Fin.ext (by show (128 * h.val + d.val) % 128 = d.val; omega)

/-- The argument arrays. -/
abbrev argQ : FVec Ideal S16384x1024 .bf16 := m ((c : Thread nD τ).loc main_arg0)
abbrev argK : FVec Ideal S16384x1024 .bf16 := m ((c : Thread nD τ).loc main_arg1)
abbrev argV : FVec Ideal S16384x1024 .bf16 := m ((c : Thread nD τ).loc main_arg2)
abbrev argA : FVec Ideal S1x64 .f32 := m ((c : Thread nD τ).loc main_arg3)
abbrev argB : FVec Ideal S1x64 .f32 := m ((c : Thread nD τ).loc main_arg4)
abbrev argC : FVec Ideal S1x64 .f32 := m ((c : Thread nD τ).loc main_arg5)
abbrev argD : FVec Ideal S1x64 .f32 := m ((c : Thread nD τ).loc main_arg6)
abbrev argG : FVec Ideal S1x128 .f32 := m ((c : Thread nD τ).loc main_arg7)

theorem score_eq (r : Fin 512) :
    Block.score (grid0.coords t) (iblk m c 0 t) (iblk m c 1 t) r
      = Diff.score (argQ m c) (argK m c) (row (grid0.coords t) r) (head (grid0.coords t)) := by
  funext half κ
  rw [Block.score, Diff.score]
  by_cases hκ : κ < 8192
  · rw [dif_pos hκ, dif_pos hκ, pos_row]
    by_cases hc : κ ≤ 512 * ((grid0.coords t) 2).val + r.val
    · rw [if_pos hc, if_pos hc]
      refine Finset.sum_congr rfl fun e _ => congrArg₂ (· * ·) ?_ ?_
      · rw [query_block, wide_lane]
      · rw [key_block, wide_lane, key_row]
    · rw [if_neg hc, if_neg hc]
  · rw [dif_neg hκ, dif_neg hκ]

theorem value_eq (r : Fin 512) (d : Fin 128) :
    Block.value (iblk m c 2 t) d = Diff.value (argV m c) (row (grid0.coords t) r) (head (grid0.coords t)) d := by
  funext κ
  rw [Block.value, Diff.value]
  by_cases hκ : κ < 8192
  · rw [dif_pos hκ, dif_pos hκ, value_block, key_row]
  · rw [dif_neg hκ, dif_neg hκ]

/-- A row's scores end with its own block of keys. -/
theorem score_bot (i : grid0.Coords) (Q K : Tokens.Idx → EReal) (r : Fin 512) (h : Fin 8) (half : Fin 2) (κ : ℕ)
    (hκ : 512 * (i 2).val + 512 ≤ κ) : Diff.score Q K (row i r) h half κ = ⊥ := by
  rw [Diff.score]
  by_cases h8 : κ < 8192
  · rw [dif_pos h8, pos_row, if_neg (by omega)]
  · rw [dif_neg h8]

/-- What a grid point writes, in the array. -/
theorem block_apply (r : Fin 512) (d : Fin 128) :
    (dats m 0 c).arrAt 8 cfg0.N (ix2 (row (grid0.coords t) r) (wide (head (grid0.coords t)) d) : S16384x1024.Idx)
      = attention (argQ m c) (argK m c) (argV m c)
          (factor (argA m c) (argB m c) (argC m c) (argD m c) (Ideal.ofBits .f32 0x3F0E59D5#32)) (argG m c)
          (Ideal.ofBits .f32 0x3EE34C57#32) (row (grid0.coords t) r) (wide (head (grid0.coords t)) d) := by
  rw [← result_block t r d]
  refine ((dats m 0 c).arrAt_emb_eq_flushed 8 disjoint8 t (flush0_8 t) (ix2 r d : S512x128.Idx)).trans ?_
  rw [_root_.cast_eq, flushed8_A]
  refine (out_apply (grid0.coords t) (iblk m c 0 t) (iblk m c 1 t) (iblk m c 2 t) _ _ _ _ _ _ _ _ _ _ _ _ _ _ _ _ _ _ c
    (iblk m c 3 t) (iblk m c 4 t) (iblk m c 5 t) (iblk m c 6 t) (iblk m c 7 t) r d).trans ?_
  have hn : 512 * ((grid0.coords t) 2).val + 512 ≤ 8192 := by have := coord2_lt (grid0.coords t); omega
  rw [lq1_block, lk1_block, lq2_block, lk2_block, gain_block, score_eq, attention, head_wide, lane_wide]
  refine congrArg (fun x => normed x _ _ d) (funext fun e => ?_)
  rw [value_eq m c t r e, twoMaps, twoMaps]
  have hb := score_bot (grid0.coords t) (argQ m c) (argK m c) r (head (grid0.coords t))
  rw [dot_eq_of_bot _ _ hn (hb 0), dot_eq_of_bot _ _ hn (hb 1), mass_eq_of_bot _ hn (hb 0), mass_eq_of_bot _ hn (hb 1)]

/-- The call's result array. -/
theorem result_apply (R : Fin 16384) (C : Fin 1024) :
    (dats m 0 c).arrAt 8 cfg0.N (ix2 R C : S16384x1024.Idx)
      = attention (argQ m c) (argK m c) (argV m c)
          (factor (argA m c) (argB m c) (argC m c) (argD m c) (Ideal.ofBits .f32 0x3F0E59D5#32)) (argG m c)
          (Ideal.ofBits .f32 0x3EE34C57#32) R C := by
  have hR := R.isLt
  have hC := C.isLt
  obtain ⟨t, ht⟩ := grid0.coords_surjective (fun a => match a with
    | ⟨0, _⟩ => (⟨R.val / 8192, by omega⟩ : Fin 2)
    | ⟨1, _⟩ => (⟨C.val / 128, by omega⟩ : Fin 8)
    | ⟨2, _⟩ => (⟨R.val % 8192 / 512, by omega⟩ : Fin 16))
  have h0 : (grid0.coords t 0).val = R.val / 8192 := by rw [ht]
  have h1 : (grid0.coords t 1).val = C.val / 128 := by rw [ht]
  have h2 : (grid0.coords t 2).val = R.val % 8192 / 512 := by rw [ht]
  have hr : row (grid0.coords t) ⟨R.val % 512, by omega⟩ = R := Fin.ext (by
    show 8192 * (grid0.coords t 0).val + 512 * (grid0.coords t 2).val + R.val % 512 = R.val
    rw [h0, h2]; omega)
  have hc : wide (head (grid0.coords t)) ⟨C.val % 128, by omega⟩ = C := Fin.ext (by
    show 128 * (grid0.coords t 1).val + C.val % 128 = C.val
    rw [h1]; omega)
  have h := block_apply m c t ⟨R.val % 512, by omega⟩ ⟨C.val % 128, by omega⟩
  rwa [hr, hc] at h

end Cert.DiffLate.Value

end
-- ==== Proof.DiffLateRef.lean ====
/- The later layer's reference differential attention, entry by entry: its `[2, 8192, 8, 2, 64]` layout undone, its values weighed by
   the difference of the two softmaxes — the entry of `DiffSpec` for finite arguments. -/
module

public import proofs.«01_k».proof.Proof.TwoMaps
public import proofs.«01_k».proof.Proof.FoxRef
public import proofs.«01_k».proof.Proof.Gen.DiffLateRefIdeal.Read

@[expose] public section

noncomputable section

namespace Cert.DiffLate.Ref

open Idealize.ShloMosaic Idealize.ShloMosaic.Ideal Idealize.ShloMosaic.ValueIdx
open Cert.DiffLateRefIdeal Cert.DiffLateRefIdeal.Gen Cert.DiffLateRefIdeal.Read Cert.Softmax Cert.Finite Cert.Diff
open Cert.Fox.Ref (bot_word fold_max top_fin)

variable (Q K V : FVec Ideal S16384x1024 .bf16) (a b c d : FVec Ideal S1x64 .f32) (g : FVec Ideal S1x128 .f32)

/-- The score array's entry of row `R`, head `h`, map `half`, key `κ`. -/
def at5 (R : Fin 16384) (h : Fin 8) (half : Fin 2) (κ : Fin 8192) : S2x8x2x8192x8192.Idx := ix5 (seqOf R) h half (posOf R) κ

theorem row_of (b p h i e : ℕ) (hh : h < 8) (hi : i < 2) (he : e < 64) :
    ((((b * 8192 + p) * 8 + h) * 2 + i) * 64 + e) / 1024 = b * 8192 + p := by omega

theorem col_of (b p h i e : ℕ) (hh : h < 8) (hi : i < 2) (he : e < 64) :
    ((((b * 8192 + p) * 8 + h) * 2 + i) * 64 + e) % 1024 = 128 * h + (64 * i + e) := by omega

theorem query_apply (R : Fin 16384) (h : Fin 8) (half : Fin 2) (e : Fin 64) :
    val_main_v1 (F := Ideal) Q (ix5 (seqOf R) (posOf R) h half e) = Q (ix2 R (col h half e)) := by
  rw [val_main_v1_apply]
  show Q _ = Q _
  congr 1
  funext x
  match x with
  | ⟨0, _⟩ => exact Fin.ext ((row_of (R.val / 8192) (R.val % 8192) h.val half.val e.val h.isLt half.isLt e.isLt).trans (by show _ = R.val; omega))
  | ⟨1, _⟩ => exact Fin.ext (col_of (R.val / 8192) (R.val % 8192) h.val half.val e.val h.isLt half.isLt e.isLt)

theorem key_apply (R : Fin 16384) (h : Fin 8) (half : Fin 2) (e : Fin 64) (κ : Fin 8192) :
    val_main_v3 (F := Ideal) K (ix5 (seqOf R) κ h half e) = K (ix2 (key R κ) (col h half e)) := by
  rw [val_main_v3_apply]
  show K _ = K _
  congr 1
  funext x
  match x with
  | ⟨0, _⟩ => exact Fin.ext ((row_of (R.val / 8192) κ.val h.val half.val e.val h.isLt half.isLt e.isLt).trans (by rw [key]; show _ = 8192 * _ + κ.val; omega))
  | ⟨1, _⟩ => exact Fin.ext (col_of (R.val / 8192) κ.val h.val half.val e.val h.isLt half.isLt e.isLt)

theorem value_apply (R : Fin 16384) (h : Fin 8) (e : Fin 128) (κ : Fin 8192) :
    val_main_v5 (F := Ideal) V (ix4 (seqOf R) κ h e) = V (ix2 (key R κ) (wide h e)) := by
  rw [val_main_v5_apply]
  show V _ = V _
  have hh := h.isLt
  have he := e.isLt
  congr 1
  funext x
  match x with
  | ⟨0, _⟩ => exact Fin.ext (by rw [key]; show ((((R.val / 8192) * 8192 + κ.val) * 8 + h.val) * 128 + e.val) / 1024 = 8192 * (R.val / 8192) + κ.val; omega)
  | ⟨1, _⟩ => exact Fin.ext (by show ((((R.val / 8192) * 8192 + κ.val) * 8 + h.val) * 128 + e.val) % 1024 = 128 * h.val + e.val; omega)

theorem product_apply (R : Fin 16384) (h : Fin 8) (half : Fin 2) (κ : Fin 8192) :
    val_main_v19 (F := Ideal) Q K (at5 R h half κ)
      = ∑ e : Fin 64, (Q (ix2 R (col h half e)) * K (ix2 (key R κ) (col h half e)) : EReal) := by
  rw [val_main_v19_apply]
  refine Finset.sum_congr rfl fun e _ => congrArg₂ (· * ·) ?_ ?_
  · refine Eq.trans (congrArg _ ?_) (query_apply Q R h half e)
    funext x
    match x with
    | ⟨0, _⟩ => rfl
    | ⟨1, _⟩ => rfl
    | ⟨2, _⟩ => rfl
    | ⟨3, _⟩ => rfl
    | ⟨4, _⟩ => rfl
  · refine Eq.trans (congrArg _ ?_) (key_apply K R h half e κ)
    funext x
    match x with
    | ⟨0, _⟩ => rfl
    | ⟨1, _⟩ => rfl
    | ⟨2, _⟩ => rfl
    | ⟨3, _⟩ => rfl
    | ⟨4, _⟩ => rfl

theorem causal_apply (R : Fin 16384) (h : Fin 8) (half : Fin 2) (κ : Fin 8192) :
    val_main_call0_v1 (F := Ideal) (at5 R h half κ) = if κ.val ≤ (posOf R).val then 1#1 else 0#1 := by
  rw [val_main_call0_v1_apply, val_main_v24_apply, val_main_v22_apply, val_main_v20_apply, val_main_v23_apply,
    val_main_v21_apply, val_main_v18_apply, val_main_v18_apply]
  show IntOp.cmpi .sle (BitVec.ofNat 32 κ.val) (BitVec.ofNat 32 (posOf R).val) = _
  have hp := (posOf R).isLt
  have hκ := κ.isLt
  rw [WordCmp.cmpi_sle_ofNat (by omega) (by omega)]
  by_cases hk : κ.val ≤ (posOf R).val
  · rw [if_pos hk, decide_eq_true hk]; rfl
  · rw [if_neg hk, decide_eq_false hk]; rfl

/-- The masked scores. -/
theorem score_apply (R : Fin 16384) (h : Fin 8) (half : Fin 2) (κ : Fin 8192) :
    val_main_v25 (F := Ideal) Q K (at5 R h half κ) = score Q K R h half κ.val := by
  rw [val_main_v25_apply, causal_apply, product_apply, val_main_call0_v2_apply, score, dif_pos κ.isLt]
  have hb : val_main_call0_v0 (F := Ideal) (idx_main_call0_v2 (at5 R h half κ)) = (⊥ : EReal) := bot_word
  rw [hb]
  split <;> rfl

/-- The rows' maxima. -/
theorem max_apply (R : Fin 16384) (h : Fin 8) (half : Fin 2) :
    val_main_v28 (F := Ideal) Q K (ix4 (seqOf R) h half (posOf R)) = top (score Q K R h half) 8192 := by
  have hb : val_main_v27 (F := Ideal) (ix4 (seqOf R) h half (posOf R)) = (⊥ : EReal) := (val_main_v27_apply _).trans bot_word
  rw [val_main_v28_apply, hb]
  show max (⊥ : EReal) _ = _
  rw [max_eq_right bot_le, val_main_v26]
  refine (Host.reduce_eq_fold_single (FloatOps.maximumf (F := Ideal) (φ := .f32)) _ _ _ (by decide) _ _).trans ?_
  refine (fold_max _ _).trans ((congrArg (fun f => Finset.univ.sup f) (funext fun κ => ?_)).trans (top_fin _ 8192).symm)
  refine Eq.trans (congrArg (val_main_v25 (F := Ideal) Q K) ?_) (score_apply Q K R h half κ)
  funext x
  match x with
  | ⟨0, _⟩ => exact Fin.ext (by rfl)
  | ⟨1, _⟩ => exact Fin.ext (by rfl)
  | ⟨2, _⟩ => exact Fin.ext (by rfl)
  | ⟨3, _⟩ => exact Fin.ext (by rfl)
  | ⟨4, _⟩ => exact Fin.ext (by rfl)

/-- The weights before they are normalised. -/
theorem weight_apply (R : Fin 16384) (h : Fin 8) (half : Fin 2) (κ : Fin 8192) :
    val_main_v32 (F := Ideal) Q K (at5 R h half κ)
      = Ideal.exp (score Q K R h half κ.val - top (score Q K R h half) 8192) := by
  rw [val_main_v32_apply, val_main_v31_apply, score_apply, val_main_v30_apply, val_main_v29_apply]
  refine congrArg (fun x => Ideal.exp (score Q K R h half κ.val - x)) (Eq.trans (congrArg _ ?_) (max_apply Q K R h half))
  funext x
  match x with
  | ⟨0, _⟩ => rfl
  | ⟨1, _⟩ => rfl
  | ⟨2, _⟩ => rfl
  | ⟨3, _⟩ => rfl

/-- The rows' sums of weights. -/
theorem mass_apply (R : Fin 16384) (h : Fin 8) (half : Fin 2) :
    val_main_v33 (F := Ideal) Q K (ix4 (seqOf R) h half (posOf R)) = mass (score Q K R h half) 8192 := by
  rw [val_main_v33_apply]
  have hz : val_main_cst_5 (F := Ideal) (Shape.Idx.first h_S_) = (0 : EReal) := ofBits_zero_f32
  rw [hz, zero_add, mass, Finset.sum_range]
  refine Finset.sum_congr rfl fun κ _ => Eq.trans (congrArg _ ?_) (weight_apply Q K R h half κ)
  funext x
  match x with
  | ⟨0, _⟩ => rfl
  | ⟨1, _⟩ => rfl
  | ⟨2, _⟩ => rfl
  | ⟨3, _⟩ => rfl
  | ⟨4, _⟩ => rfl

/-- A normalised weight. -/
def prob (R : Fin 16384) (h : Fin 8) (half : Fin 2) (κ : ℕ) : EReal :=
  Ideal.div (Ideal.exp (score Q K R h half κ - top (score Q K R h half) 8192)) (mass (score Q K R h half) 8192)

theorem prob_apply (R : Fin 16384) (h : Fin 8) (half : Fin 2) (κ : Fin 8192) :
    val_main_v36 (F := Ideal) Q K (at5 R h half κ) = prob Q K R h half κ.val := by
  rw [val_main_v36_apply, weight_apply, val_main_v35_apply, val_main_v34_apply]
  refine congrArg (Ideal.div _) (Eq.trans (congrArg _ ?_) (mass_apply Q K R h half))
  funext x
  match x with
  | ⟨0, _⟩ => rfl
  | ⟨1, _⟩ => rfl
  | ⟨2, _⟩ => rfl
  | ⟨3, _⟩ => rfl

theorem digits (b h p k : ℕ) (hb : b < 2) (hh : h < 8) (hp : p < 8192) (hk : k < 8192) :
    (((b * 8 + h) * 8192 + p) * 8192 + k) / 536870912 = b ∧ (((b * 8 + h) * 8192 + p) * 8192 + k) / 67108864 % 8 = h
      ∧ (((b * 8 + h) * 8192 + p) * 8192 + k) / 8192 % 8192 = p ∧ (((b * 8 + h) * 8192 + p) * 8192 + k) % 8192 = k := by
  omega

/-- The two maps' weights, apart. -/
theorem first_apply (R : Fin 16384) (h : Fin 8) (κ : Fin 8192) :
    val_main_v38 (F := Ideal) Q K (ix4 (seqOf R) h (posOf R) κ) = prob Q K R h 0 κ.val := by
  rw [val_main_v38_apply, val_main_v37_apply]
  obtain ⟨d0, d1, d2, d3⟩ := digits (seqOf R).val h.val (posOf R).val κ.val (seqOf R).isLt h.isLt (posOf R).isLt κ.isLt
  refine Eq.trans (congrArg _ ?_) (prob_apply Q K R h 0 κ)
  funext x
  match x with
  | ⟨0, _⟩ => exact Fin.ext d0
  | ⟨1, _⟩ => exact Fin.ext d1
  | ⟨2, _⟩ => exact Fin.ext (by rfl)
  | ⟨3, _⟩ => exact Fin.ext d2
  | ⟨4, _⟩ => exact Fin.ext d3

theorem second_apply (R : Fin 16384) (h : Fin 8) (κ : Fin 8192) :
    val_main_v40 (F := Ideal) Q K (ix4 (seqOf R) h (posOf R) κ) = prob Q K R h 1 κ.val := by
  rw [val_main_v40_apply, val_main_v39_apply]
  obtain ⟨d0, d1, d2, d3⟩ := digits (seqOf R).val h.val (posOf R).val κ.val (seqOf R).isLt h.isLt (posOf R).isLt κ.isLt
  refine Eq.trans (congrArg _ ?_) (prob_apply Q K R h 1 κ)
  funext x
  match x with
  | ⟨0, _⟩ => exact Fin.ext d0
  | ⟨1, _⟩ => exact Fin.ext d1
  | ⟨2, _⟩ => exact Fin.ext (by rfl)
  | ⟨3, _⟩ => exact Fin.ext d2
  | ⟨4, _⟩ => exact Fin.ext d3

/-- A sum of products of coefficients. -/
theorem coeffs_apply (f : S64.Idx → EReal) : ∑ j, f j = ∑ e : Fin 64, f (ix1 e) :=
  (Fintype.sum_equiv ⟨fun j => j 0, fun e => ix1 e, fun j => (eq_ix1 j).symm, fun _ => rfl⟩ f (fun e => f (ix1 e))
    fun j => congrArg f (eq_ix1 j))

/-- The factor of the second map. -/
theorem factor_apply (i : S_.Idx) :
    val_main_v17 (F := Ideal) a b c d i = factor a b c d (Ideal.ofBits .f32 0x3F0E59D5#32) := by
  rw [val_main_v17_apply, val_main_v16_apply, val_main_v10_apply, val_main_v15_apply, val_main_v9_apply, val_main_v14_apply,
    coeffs_apply, coeffs_apply]
  have hz : val_main_cst (F := Ideal) (Shape.Idx.first h_S_) = (0 : EReal) := ofBits_zero_f32
  have hz' : val_main_cst_0 (F := Ideal) (Shape.Idx.first h_S_) = (0 : EReal) := ofBits_zero_f32
  rw [hz, hz', zero_add, zero_add]
  refine congrArg₂ (· + ·) (congrArg₂ (· - ·) (congrArg Ideal.exp (Finset.sum_congr rfl fun e _ => ?_))
    (congrArg Ideal.exp (Finset.sum_congr rfl fun e _ => ?_))) rfl
  · rw [val_main_v8_apply, val_main_v6_apply, val_main_v7_apply]
    refine congrArg₂ (· * ·) (congrArg a ?_) (congrArg b ?_) <;>
    · funext x
      match x with
      | ⟨0, _⟩ => exact Fin.ext (by rfl)
      | ⟨1, _⟩ => exact Fin.ext (Nat.mod_eq_of_lt e.isLt)
  · rw [val_main_v13_apply, val_main_v11_apply, val_main_v12_apply]
    refine congrArg₂ (· * ·) (congrArg c ?_) (congrArg d ?_) <;>
    · funext x
      match x with
      | ⟨0, _⟩ => exact Fin.ext (by rfl)
      | ⟨1, _⟩ => exact Fin.ext (Nat.mod_eq_of_lt e.isLt)

/-- The difference of the maps' weights. -/
theorem difference_apply (R : Fin 16384) (h : Fin 8) (κ : Fin 8192) :
    val_main_v43 (F := Ideal) Q K a b c d (ix4 (seqOf R) h (posOf R) κ)
      = prob Q K R h 0 κ.val - factor a b c d (Ideal.ofBits .f32 0x3F0E59D5#32) * prob Q K R h 1 κ.val := by
  rw [val_main_v43_apply, val_main_v42_apply, first_apply, second_apply, val_main_v41_apply, factor_apply]
  rfl

/-- What the precondition gives: real arguments. -/
structure Real : Prop where
  q : ∀ j, IsReal (Q j)
  k : ∀ j, IsReal (K j)
  v : ∀ j, IsReal (V j)
  a : ∀ j, IsReal (a j)
  b : ∀ j, IsReal (b j)
  c : ∀ j, IsReal (c j)
  d : ∀ j, IsReal (d j)

theorem word_real (w : BitVec 32) (h : IsReal (Ideal.ofBits .f32 w)) (hr : Real Q K V a b c d) :
    IsReal (factor a b c d (Ideal.ofBits .f32 w)) := factor_real _ _ _ _ _ hr.a hr.b hr.c hr.d h

theorem init_real : IsReal (Ideal.ofBits .f32 0x3F0E59D5#32) := ⟨_, by simp [Ideal.ofBits, Ideal.ieee]; rfl⟩

/-- The weighed values. -/
theorem weighed_apply (hr : Real Q K V a b c d) (R : Fin 16384) (h : Fin 8) (e : Fin 128) :
    val_main_v45 (F := Ideal) Q K V a b c d (ix4 (seqOf R) (posOf R) h e)
      = twoMaps (score Q K R h) (value V R h e) (factor a b c d (Ideal.ofBits .f32 0x3F0E59D5#32)) 8192 := by
  rw [val_main_v45_apply, val_main_v44_apply]
  refine Eq.trans ?_ (sum_twoMaps (score Q K R h) (value V R h e) _ (by norm_num) (fun i => score_zero_ne_bot Q K hr.q hr.k R h i)
    (fun i k _ => score_ne_top Q K hr.q hr.k R h i k) (fun k _ => value_real V hr.v R h e k)
    (word_real Q K V a b c d _ init_real hr))
  rw [Finset.sum_range]
  refine Finset.sum_congr rfl fun κ _ => congrArg₂ (· * ·) ?_ ?_
  · rw [value, dif_pos κ.isLt]
    refine Eq.trans (congrArg _ ?_) (value_apply V R h e κ)
    funext x
    match x with
    | ⟨0, _⟩ => rfl
    | ⟨1, _⟩ => rfl
    | ⟨2, _⟩ => rfl
    | ⟨3, _⟩ => rfl
  · refine Eq.trans (congrArg _ ?_) (difference_apply Q K a b c d R h κ)
    funext x
    match x with
    | ⟨0, _⟩ => rfl
    | ⟨1, _⟩ => rfl
    | ⟨2, _⟩ => rfl
    | ⟨3, _⟩ => rfl

/-- The mean square's root, under one. -/
theorem scale_apply (hr : Real Q K V a b c d) (R : Fin 16384) (h : Fin 8) (e : Fin 128) :
    val_main_v54 (F := Ideal) Q K V a b c d (ix4 (seqOf R) (posOf R) h e)
      = Ideal.rsqrt (Ideal.div (∑ e, twoMaps (score Q K R h) (value V R h e) (factor a b c d (Ideal.ofBits .f32 0x3F0E59D5#32)) 8192
          * twoMaps (score Q K R h) (value V R h e) (factor a b c d (Ideal.ofBits .f32 0x3F0E59D5#32)) 8192)
            (Ideal.ofBits .f32 0x43000000#32) + Ideal.ofBits .f32 0x3727C5AC#32) := by
  rw [val_main_v54_apply, val_main_v53_apply, val_main_v52_apply, val_main_v50_apply, val_main_v48_apply, val_main_v47_apply]
  refine congrArg Ideal.rsqrt (congrArg₂ (· + ·) (congrArg₂ Ideal.div ?_ ?_) ?_)
  · have hz : val_main_cst_6 (F := Ideal) (Shape.Idx.first h_S_) = (0 : EReal) := ofBits_zero_f32
    rw [hz, zero_add]
    refine Finset.sum_congr rfl fun e' _ => ?_
    rw [val_main_v46_apply]
    have he : val_main_v45 (F := Ideal) Q K V a b c d (idx_main_v47 (idx_main_v48 (idx_main_v54 (ix4 (seqOf R) (posOf R) h e))) e')
        = twoMaps (score Q K R h) (value V R h e') (factor a b c d (Ideal.ofBits .f32 0x3F0E59D5#32)) 8192 := by
      refine Eq.trans (congrArg _ ?_) (weighed_apply Q K V a b c d hr R h e')
      funext x
      match x with
      | ⟨0, _⟩ => rfl
      | ⟨1, _⟩ => rfl
      | ⟨2, _⟩ => rfl
      | ⟨3, _⟩ => rfl
    rw [he]
    rfl
  · rw [val_main_v49_apply]; rfl
  · rw [val_main_v51_apply]; rfl

/-- The reference's result for finite arguments. -/
theorem result_apply (hr : Real Q K V a b c d) (R : Fin 16384) (C : Fin 1024) :
    val_main_v62 (F := Ideal) Q K V a b c d g (ix2 R C)
      = attention Q K V (factor a b c d (Ideal.ofBits .f32 0x3F0E59D5#32)) g (Ideal.ofBits .f32 0x3EE34C57#32) R C := by
  have hC := C.isLt
  have hi : idx_main_v62 (ix2 R C) = ix4 (seqOf R) (posOf R) (headOf C) (laneOf C) := by
    funext x
    match x with
    | ⟨0, _⟩ => exact Fin.ext (by show (R.val * 1024 + C.val) / 8388608 = R.val / 8192; omega)
    | ⟨1, _⟩ => exact Fin.ext (by show (R.val * 1024 + C.val) / 1024 % 8192 = R.val % 8192; omega)
    | ⟨2, _⟩ => exact Fin.ext (by show (R.val * 1024 + C.val) / 128 % 8 = C.val / 128; omega)
    | ⟨3, _⟩ => exact Fin.ext (by show (R.val * 1024 + C.val) % 128 = C.val % 128; omega)
  rw [val_main_v62_apply, hi, val_main_v61_apply, val_main_v59_apply, val_main_v55_apply, weighed_apply _ _ _ _ _ _ _ hr,
    scale_apply _ _ _ _ _ _ _ hr, val_main_v58_apply, val_main_v57_apply, val_main_v56_apply, val_main_v60_apply]
  refine congrArg₂ (· * ·) (congrArg₂ (· * ·) rfl (congrArg g ?_)) rfl
  funext x
  match x with
  | ⟨0, _⟩ => exact Fin.ext (by rfl)
  | ⟨1, _⟩ => exact Fin.ext (Nat.mod_eq_of_lt (laneOf C).isLt)

end Cert.DiffLate.Ref

end
-- ==== Proof.DiffLateClaim.lean ====
/- The claims about the later layer's differential attention: the three programs leave their arguments and their counters as they were,
   and over the extended reals the kernel's result is the reference's whenever the queries, the keys, the values and the
   coefficients are finite. -/
module

public import proofs.«01_k».proof.Defs
public import proofs.«01_k».proof.Proof.FinitePre
public import proofs.«01_k».proof.Proof.DiffLateValue
public import proofs.«01_k».proof.Proof.DiffLateRef
public import proofs.«01_k».proof.Proof.Gen.DiffLate.Frame
public import proofs.«01_k».proof.Proof.Gen.DiffLateRefIdeal.Run

@[expose] public section

noncomputable section

namespace Cert.DiffLate.Claims

open Idealize.ShloMosaic Idealize.ShloMosaic.ValueIdx Idealize.ShloMosaic.TcCoe Idealize.SL.Sem Cert.Finite

theorem frame_kernel : Cert.quiescent_DiffLate := fun m ρ _ => Cert.DiffLate.Gen.frame m ρ

theorem frame_ideal : Cert.quiescent_DiffLateIdeal := fun m ρ _ => Cert.DiffLateIdeal.Gen.frame m ρ

theorem frame_ideal_pre : Cert.quiescent_DiffLateIdeal_pre_finite2 := fun m ρ _ => Cert.DiffLateIdeal.Gen.frame m ρ

theorem frame_reference : Cert.quiescent_DiffLateRefIdeal := fun m ρ _ =>
  (θ_run Cert.DiffLateRefIdeal.defs _ _).mono (fun r h => ⟨fun c => (h c).2, sem_eq_zero_of_no_sems (by decide) r.2⟩)
    (Cert.DiffLateRefIdeal.Value.run (F := Ideal) m ρ)

theorem frame_reference_pre : Cert.quiescent_DiffLateRefIdeal_pre_finite2 := fun m ρ _ => frame_reference m ρ trivial

theorem preserves : Cert.preserves_DiffLate_DiffLateIdeal := IdealRules.named_const.statement Cert.DiffLateIdeal.κ "mask" .f32 0xF149F2CA#32 ⊥ rfl

/-- What the precondition says of the kernel's arguments. -/
theorem args_real {m : (ℓ : Loc Cert.DiffLateIdeal.nD Cert.DiffLateIdeal.τ Cert.DiffLateIdeal.sig) → Buf (Elt Ideal) ℓ}
    (h : Cert.Pre_DiffLateIdeal_finite2 m) (c : Dev Cert.DiffLateIdeal.nD) :
    Ref.Real (Value.argQ m c) (Value.argK m c) (Value.argV m c) (Value.argA m c) (Value.argB m c) (Value.argC m c)
      (Value.argD m c) :=
  ⟨fun j => isReal_of_bit (congrFun (h c).1 j), fun j => isReal_of_bit (congrFun (h c).2.1 j),
    fun j => isReal_of_bit (congrFun (h c).2.2.1 j), fun j => isReal_of_bit (congrFun (h c).2.2.2.1 j),
    fun j => isReal_of_bit (congrFun (h c).2.2.2.2.1 j), fun j => isReal_of_bit (congrFun (h c).2.2.2.2.2.1 j),
    fun j => isReal_of_bit (congrFun (h c).2.2.2.2.2.2 j)⟩

theorem algebraic : Cert.algebraic_DiffLateIdeal_DiffLateRefIdeal_pre_finite2 := by
  intro m ρ m' ρ' hpre hagree
  refine ⟨_, Cert.DiffLateIdeal.Value.run_blocks m ρ, ?_⟩
  refine (θ_run Cert.DiffLateRefIdeal.defs _ _).mono (fun _ h c => ⟨(h c).1.trans ?_, (h c).2⟩)
    (Cert.DiffLateRefIdeal.Value.run (F := Ideal) m' ρ')
  obtain ⟨h0, h1, h2, h3, h4, h5, h6, h7⟩ := hagree c
  rw [Cert.DiffLateRefIdeal.Read.val_main_v62_eq, h0, h1, h2, h3, h4, h5, h6, h7]
  funext j
  rw [eq_ix2 j]
  exact (Ref.result_apply _ _ _ _ _ _ _ _ (args_real hpre c) _ _).trans (Value.result_apply m c _ _).symm

end Cert.DiffLate.Claims

end
-- ==== Proof.Proj.lean ====
/- The projections around the attention, over whole arrays: a token's row is scaled and shifted by two of its sequence's
   six chunks of 1024 numbers, and multiplied by a matrix of weights. Also what the calls' blocks of 512 rows compute,
   entry by entry, and how their rows lie in the array. -/
module

public import proofs.«01_k».proof.Proof.DiffSpec
public import Idealize.ShloMosaic.Lib.ValueIdx
public import Idealize.ShloMosaic.Lib.MatmulPlain
public import Idealize.ShloMosaic.Lib.Pipeline.Value
public import Idealize.ShloMosaic.PureOps.Ideal.Laws

@[expose] public section

noncomputable section

namespace Cert.Proj

open Idealize.ShloMosaic Idealize.ShloMosaic.ValueIdx Cert.Diff
open scoped BigOperators

/-- Two sequences' six chunks. -/
abbrev Chunks : Shape := ⟨3, ![2, 1, 6144]⟩

/-- A point's rows. -/
abbrev Rows : Shape := ⟨2, ![512, 1024]⟩
/-- A chunk as fetched. -/
abbrev Chunk : Shape := ⟨3, ![1, 1, 1024]⟩
/-- A chunk as one row. -/
abbrev One : Shape := ⟨2, ![1, 1024]⟩

/-- Number `d` of chunk `n`. -/
def chunk (n : Fin 6) (d : Fin 1024) : Fin 6144 := ⟨1024 * n.val + d.val, by omega⟩

/-- Token `s` of sequence `b`. -/
def token (b : Fin 2) (s : Fin 8192) : Fin 16384 := ⟨8192 * b.val + s.val, by omega⟩

/-- Row `r` of the block of point `n`. -/
def row (n : Fin 32) (r : Fin 512) : Fin 16384 := ⟨512 * n.val + r.val, by omega⟩

/-- The sequence of point `n`. -/
def seqAt (n : Fin 32) : Fin 2 := ⟨n.val / 16, by omega⟩

theorem seqOf_row (n : Fin 32) (r : Fin 512) : seqOf (row n r) = seqAt n :=
  Fin.ext (by show (512 * n.val + r.val) / 8192 = n.val / 16; omega)

theorem seqOf_token (b : Fin 2) (s : Fin 8192) : seqOf (token b s) = b :=
  Fin.ext (by show (8192 * b.val + s.val) / 8192 = b.val; omega)

/-- Every row lies in one point's block. -/
theorem exists_row (R : Fin 16384) : ∃ n r, row n r = R :=
  ⟨⟨R.val / 512, by omega⟩, ⟨R.val % 512, by omega⟩, Fin.ext (by show 512 * (R.val / 512) + R.val % 512 = R.val; omega)⟩

/-- The word of 1. -/
def one : EReal := Ideal.ofBits .f32 0x3F800000#32

/-- Row `R`, scaled by one plus its sequence's second chunk and shifted by its first. -/
def modulated (x : Tokens.Idx → EReal) (mod : Chunks.Idx → EReal) (R : Fin 16384) (d : Fin 1024) : EReal :=
  x (ix2 R d) * (one + mod (ix3 (seqOf R) 0 (chunk 1 d))) + mod (ix3 (seqOf R) 0 (chunk 0 d))

/-- The modulated row against column `C` of the weights. -/
def project {n : ℕ} (x : Tokens.Idx → EReal) (mod : Chunks.Idx → EReal) (w : (⟨2, ![1024, n]⟩ : Shape).Idx → EReal)
    (R : Fin 16384) (C : Fin n) : EReal :=
  ∑ d : Fin 1024, modulated x mod R d * w (ix2 d C)

/-! ## What a block computes -/

/-- A product into zeros. -/
theorem product_apply {M K N : ℕ} (prec : Option ContractPrecision) {φ₁ φ₂ : FTy} (lhs : FVec Ideal ⟨2, ![M, K]⟩ φ₁)
    (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, (lhs (ix2 r k) * rhs (ix2 k c) : EReal) := by
  refine (Ideal.matmul_plain_apply prec lhs rhs _ r c).trans ?_
  show Ideal.ofBits .f32 0x00000000#32 + _ = _
  rw [Ideal.ofBits_zero_f32, zero_add]

/-- A fetched chunk as a row. -/
theorem chunk_row (hc : Shape.ShapeCasts Chunk One) (v : Vec Ideal Chunk .f32) (d : Fin 1024) :
    shapeCast One v hc (ix2 0 d) = v (ix3 0 0 d) :=
  shapeCast_apply v hc _ _ (by rw [Shape.rowMajor_val_three, Shape.rowMajor_val_two]; rfl)

/-- One row, for every row of the block. -/
theorem spread_row (hb : Shape.Broadcasts One Rows) (v : Vec Ideal One .f32) (r : Fin 512) (d : Fin 1024) :
    broadcastTo Rows v hb (ix2 r d) = v (ix2 0 d) :=
  broadcastTo_apply v hb _ _ (fun a => match a with
    | ⟨0, _⟩ => rfl
    | ⟨1, _⟩ => rfl)

/-- A block's modulated rows. -/
theorem modulated_apply (hc hc' : Shape.ShapeCasts Chunk One) (hb hb' : Shape.Broadcasts One Rows) (ht : FTy.bf16.bits < FTy.f32.bits)
    (x : Vec Ideal Rows .f32) (v u : Vec Ideal Chunk .f32) (r : Fin 512) (d : Fin 1024) :
    truncf .bf16 (addf (mulf x (broadcastTo Rows
        (addf (broadcast One (Scalar.ofBits (F := Ideal) .f32 0x3F800000#32)) (shapeCast One v hc)) hb))
        (broadcastTo Rows (shapeCast One u hc') hb')) ht (ix2 r d)
      = (x (ix2 r d) * (one + v (ix3 0 0 d)) + u (ix3 0 0 d) : EReal) := by
  show (x (ix2 r d) * broadcastTo Rows _ hb (ix2 r d) + broadcastTo Rows _ hb' (ix2 r d) : EReal) = _
  rw [spread_row, spread_row, chunk_row]
  show (x (ix2 r d) * (one + shapeCast One v hc (ix2 0 d)) + _ : EReal) = _
  rw [chunk_row]

end Cert.Proj

end
-- ==== Proof.OddInValue.lean ====
/- The projection call before the differential attention, over whole arrays: its five results are the modulated rows
   against the first, second and third 1024 columns of the weights, the first scaled by an eighth. -/
module

public import proofs.«01_k».proof.Proof.Proj
public import proofs.«01_k».proof.Proof.Gen.OddInIdeal.Value
public import Idealize.ShloMosaic.Lib.Pipeline.Covers

@[expose] public section

noncomputable section

namespace Cert.OddIn.Value

open Idealize.ShloMosaic Idealize.ShloMosaic.Ideal Idealize.ShloMosaic.ValueIdx Idealize.ShloMosaic.TcCoe
open Idealize.SL.Sem
open Cert.OddInIdeal Cert.OddInIdeal.Gen Cert.OddInIdeal.Value Cert.Diff Cert.Proj
open scoped BigOperators

/-- Column `c` of third `n` of the weights. -/
def third (n : Fin 3) (c : Fin 1024) : Fin 3072 := ⟨1024 * n.val + c.val, by omega⟩

/-! ## A block -/

section Blocks

variable (x : Vec Ideal S512x1024 .f32) (v u : Vec Ideal S1x1x1024 .f32) (w : Vec Ideal S1024x3072 .bf16)

/-- A block's modulated row against column `C` of the weights. -/
def against (r : Fin 512) (C : Fin 3072) : EReal :=
  ∑ d : Fin 1024, (x (ix2 r d) * (one + v (ix3 0 0 d)) + u (ix3 0 0 d)) * w (ix2 d C)

/-- The product of the modulated rows and a part of the weights. -/
theorem part_apply (p : Vec Ideal S1024x1024 .bf16) (r : Fin 512) (c : Fin 1024) (C : Fin 3072)
    (hp : ∀ d : Fin 1024, p (ix2 d c) = w (ix2 d C)) :
    matmul (φ₂ := .bf16) dot_S512x1024_S1024x1024_S512x1024_1_0_0_1_n_n none (k0_pay1 x v u) p (constant S512x1024 .f32 0x00000000#32) (ix2 r c)
      = against x v u w r C := by
  refine (product_apply none (k0_pay1 x v u) p r c).trans (Finset.sum_congr rfl fun d _ => congrArg₂ (· * ·) ?_ (hp d))
  exact modulated_apply _ _ _ _ _ x v u r d

theorem read_x : View.ld x r0_0 = x := View.ld_unit_zero (by decide) _ x

theorem read_v : View.ld v r0_1 = v := View.ld_unit_zero (by decide) _ v

theorem read_first (d c : Fin 1024) : View.ld w r0_2 (ix2 d c) = w (ix2 d (third 0 c)) := by
  show w _ = w _
  congr 1
  funext a
  match a with
  | ⟨0, _⟩ => exact Fin.ext (by show 0 + 1 * d.val = d.val; omega)
  | ⟨1, _⟩ => exact Fin.ext (by show 0 + 1 * c.val = 1024 * 0 + c.val; omega)

theorem read_second (d c : Fin 1024) : View.ld w r0_3 (ix2 d c) = w (ix2 d (third 1 c)) := by
  show w _ = w _
  congr 1
  funext a
  match a with
  | ⟨0, _⟩ => exact Fin.ext (by show 0 + 1 * d.val = d.val; omega)
  | ⟨1, _⟩ => exact Fin.ext (by show 1024 + 1 * c.val = 1024 * 1 + c.val; omega)

theorem read_third (d c : Fin 1024) : View.ld w r0_4 (ix2 d c) = w (ix2 d (third 2 c)) := by
  show w _ = w _
  congr 1
  funext a
  match a with
  | ⟨0, _⟩ => exact Fin.ext (by show 0 + 1 * d.val = d.val; omega)
  | ⟨1, _⟩ => exact Fin.ext (by show 2048 + 1 * c.val = 1024 * 2 + c.val; omega)

/-- The five blocks a point writes. -/
theorem out4_apply (r : Fin 512) (c : Fin 1024) :
    out0_4 x v u w (ix2 r c) = against x v u w r (third 0 c) * Ideal.ofBits .f32 0x3E000000#32 := by
  unfold out0_4
  rw [View.canon_unit_zero (by decide), read_x, read_v, read_v]
  exact congrArg (· * Ideal.ofBits .f32 0x3E000000#32) (part_apply x v u w _ r c _ fun d => read_first w d c)

theorem out7_apply (r : Fin 512) (c : Fin 1024) : out0_7 x v u w (ix2 r c) = against x v u w r (third 1 c) := by
  unfold out0_7
  rw [View.canon_unit_zero (by decide), read_x, read_v, read_v]
  exact part_apply x v u w _ r c _ fun d => read_second w d c

theorem out8_apply (r : Fin 512) (c : Fin 1024) : out0_8 x v u w (ix2 r c) = against x v u w r (third 2 c) := by
  unfold out0_8
  rw [View.canon_unit_zero (by decide), read_x, read_v, read_v]
  exact part_apply x v u w _ r c _ fun d => read_third w d c

theorem out5_apply (r : Fin 512) (c : Fin 1024) : out0_5 x v u w (ix2 r c) = against x v u w r (third 1 c) := by
  unfold out0_5
  rw [View.canon_unit_zero (by decide), read_x, read_v, read_v]
  exact part_apply x v u w _ r c _ fun d => read_second w d c

theorem out6_apply (r : Fin 512) (c : Fin 1024) : out0_6 x v u w (ix2 r c) = against x v u w r (third 2 c) := by
  unfold out0_6
  rw [View.canon_unit_zero (by decide), read_x, read_v, read_v]
  exact part_apply x v u w _ r c _ fun d => read_third w d c

end Blocks

/-! ## Which block a grid point has -/

/-- The point's number. -/
def point (i : grid0.Coords) : Fin 32 := i 0

/-- The point of a number. -/
def coords (n : Fin 32) : grid0.Coords := fun a => match a with
  | ⟨0, _⟩ => n

theorem map_rows (i : grid0.Coords) : cc0_transform_0 i = ![(point i).val, 0] :=
  (by decide +kernel : ∀ a : Fin 32, ![(BitVec.ofNat 32 a.val).toNat, (0#32 : BitVec 32).toNat] = ![a.val, 0]) (i 0)

theorem map_scale (i : grid0.Coords) : cc0_transform_1 i = ![(point i).val / 16, 0, 1] :=
  (by decide +kernel : ∀ a : Fin 32, cc0_transform_1 (coords a) = ![a.val / 16, 0, 1]) (i 0)

theorem map_shift (i : grid0.Coords) : cc0_transform_2 i = ![(point i).val / 16, 0, 0] :=
  (by decide +kernel : ∀ a : Fin 32, cc0_transform_2 (coords a) = ![a.val / 16, 0, 0]) (i 0)

variable (m : (ℓ : Loc nD τ sig) → Buf (Elt Ideal) ℓ) (c : Dev nD) (t : Fin cfg0.N)

/-- The call's arguments: the rows, the six chunks and the weights. -/
abbrev argX : Tokens.Idx → EReal := m ((c : Thread nD τ).loc main_arg0)
abbrev argM : Chunks.Idx → EReal := m ((c : Thread nD τ).loc main_arg1)
abbrev argW : S1024x3072.Idx → EReal := m ((c : Thread nD τ).loc main_arg2)

theorem x_block (r : Fin 512) (d : Fin 1024) :
    iblk m c 0 t (ix2 r d) = argX m c (ix2 (row (point (grid0.coords t)) r) d) := by
  show _ = m ((c : Thread nD τ).loc main_arg0) _
  rw [← V_main_arg0 m c]
  show V m c main_arg0 _ = V m c main_arg0 _
  congr 1
  funext a
  match a with
  | ⟨0, _⟩ => exact Fin.ext ((win0_0.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_0.rect_emb_val t (ix2 r d) 1).trans (by
      show cc0_transform_0 (grid0.coords t) 1 * 1024 + d.val = d.val
      rw [map_rows]; show 0 * 1024 + d.val = _; omega))

theorem scale_block (d : Fin 1024) :
    iblk m c 1 t (ix3 0 0 d) = argM m c (ix3 (seqAt (point (grid0.coords t))) 0 (chunk 1 d)) := by
  show _ = m ((c : Thread nD τ).loc main_arg1) _
  rw [← V_main_arg1 m c]
  show V m c main_arg1 _ = V m c main_arg1 _
  congr 1
  funext a
  match a with
  | ⟨0, _⟩ => exact Fin.ext ((win0_1.rect_emb_val t (ix3 0 0 d) 0).trans (by
      show cc0_transform_1 (grid0.coords t) 0 * 1 + 0 = (point (grid0.coords t)).val / 16
      rw [map_scale]; show (point (grid0.coords t)).val / 16 * 1 + 0 = _; omega))
  | ⟨1, _⟩ => exact Fin.ext ((win0_1.rect_emb_val t (ix3 0 0 d) 1).trans (by
      show cc0_transform_1 (grid0.coords t) 1 * 1 + 0 = 0
      rw [map_scale]; rfl))
  | ⟨2, _⟩ => exact Fin.ext ((win0_1.rect_emb_val t (ix3 0 0 d) 2).trans (by
      show cc0_transform_1 (grid0.coords t) 2 * 1024 + d.val = 1024 * 1 + d.val
      rw [map_scale]; rfl))

theorem shift_block (d : Fin 1024) :
    iblk m c 2 t (ix3 0 0 d) = argM m c (ix3 (seqAt (point (grid0.coords t))) 0 (chunk 0 d)) := by
  show _ = m ((c : Thread nD τ).loc main_arg1) _
  rw [← V_main_arg1 m c]
  show V m c main_arg1 _ = V m c main_arg1 _
  congr 1
  funext a
  match a with
  | ⟨0, _⟩ => exact Fin.ext ((win0_2.rect_emb_val t (ix3 0 0 d) 0).trans (by
      show cc0_transform_2 (grid0.coords t) 0 * 1 + 0 = (point (grid0.coords t)).val / 16
      rw [map_shift]; show (point (grid0.coords t)).val / 16 * 1 + 0 = _; omega))
  | ⟨1, _⟩ => exact Fin.ext ((win0_2.rect_emb_val t (ix3 0 0 d) 1).trans (by
      show cc0_transform_2 (grid0.coords t) 1 * 1 + 0 = 0
      rw [map_shift]; rfl))
  | ⟨2, _⟩ => exact Fin.ext ((win0_2.rect_emb_val t (ix3 0 0 d) 2).trans (by
      show cc0_transform_2 (grid0.coords t) 2 * 1024 + d.val = 1024 * 0 + d.val
      rw [map_shift]; rfl))

theorem weight_block : iblk m c 3 t = argW m c := by
  show _ = m ((c : Thread nD τ).loc main_arg2)
  rw [← V_main_arg2 m c]
  funext j
  show V m c main_arg2 _ = V m c main_arg2 _
  congr 1
  funext a
  exact Fin.ext ((win0_3.rect_emb_val t j a).trans (by
    match a with
    | ⟨0, _⟩ => show 0 * 1024 + (j 0).val = (j 0).val; omega
    | ⟨1, _⟩ => show 0 * 3072 + (j 1).val = (j 1).val; omega))

/-- A point's products, over the arrays. -/
theorem against_eq (r : Fin 512) (C : Fin 3072) :
    against (iblk m c 0 t) (iblk m c 1 t) (iblk m c 2 t) (iblk m c 3 t) r C
      = project (argX m c) (argM m c) (argW m c) (row (point (grid0.coords t)) r) C := by
  refine Finset.sum_congr rfl fun d _ => ?_
  rw [modulated, seqOf_row, weight_block]
  refine congrArg (· * argW m c (ix2 d C)) (congrArg₂ (· + ·) (congrArg₂ (· * ·) ?_ (congrArg (one + ·) ?_)) ?_)
  · exact x_block m c t r d
  · exact scale_block m c t d
  · exact shift_block m c t d

/-- Where the points' results lie. -/
theorem place4 (r : Fin 512) (d : Fin 1024) :
    ((cfg0.win 4).blk t).view.emb (ix2 r d : S512x1024.Idx) = (ix2 (row (point (grid0.coords t)) r) d : S16384x1024.Idx) := by
  funext a
  match a with
  | ⟨0, _⟩ => exact Fin.ext ((win0_4.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_4.rect_emb_val t (ix2 r d) 1).trans (by
      show cc0_transform_0 (grid0.coords t) 1 * 1024 + d.val = d.val
      rw [map_rows]; show 0 * 1024 + d.val = _; omega))

theorem place5 (r : Fin 512) (d : Fin 1024) :
    ((cfg0.win 5).blk t).view.emb (ix2 r d : S512x1024.Idx) = (ix2 (row (point (grid0.coords t)) r) d : S16384x1024.Idx) :=
  place4 t r d

theorem place6 (r : Fin 512) (d : Fin 1024) :
    ((cfg0.win 6).blk t).view.emb (ix2 r d : S512x1024.Idx) = (ix2 (row (point (grid0.coords t)) r) d : S16384x1024.Idx) :=
  place4 t r d

theorem place7 (r : Fin 512) (d : Fin 1024) :
    ((cfg0.win 7).blk t).view.emb (ix2 r d : S512x1024.Idx) = (ix2 (row (point (grid0.coords t)) r) d : S16384x1024.Idx) :=
  place4 t r d

theorem place8 (r : Fin 512) (d : Fin 1024) :
    ((cfg0.win 8).blk t).view.emb (ix2 r d : S512x1024.Idx) = (ix2 (row (point (grid0.coords t)) r) d : S16384x1024.Idx) :=
  place4 t r d

/-- Every row is a point's. -/
theorem exists_point (R : Fin 16384) : ∃ (t : Fin cfg0.N) (r : Fin 512), row (point (grid0.coords t)) r = R := by
  obtain ⟨n, r, h⟩ := exists_row R
  obtain ⟨t, ht⟩ := grid0.coords_surjective (fun a => match a with
    | ⟨0, _⟩ => n)
  exact ⟨t, r, by rw [show point (grid0.coords t) = n by rw [ht]; rfl, h]⟩

/-! ## The results -/

theorem result4 (R : Fin 16384) (C : Fin 1024) :
    (dats m 0 c).arrAt 4 cfg0.N (ix2 R C : S16384x1024.Idx)
      = project (argX m c) (argM m c) (argW m c) R (third 0 C) * Ideal.ofBits .f32 0x3E000000#32 := by
  obtain ⟨t, r, rfl⟩ := exists_point R
  rw [← place4 t r C]
  refine ((dats m 0 c).arrAt_emb_eq_flushed 4 disjoint4 t (flush0_4 t) (ix2 r C : S512x1024.Idx)).trans ?_
  rw [_root_.cast_eq, flushed4]
  refine (out4_apply (iblk m c 0 t) (iblk m c 1 t) (iblk m c 2 t) (iblk m c 3 t) r C).trans ?_
  rw [against_eq]

theorem result5 (R : Fin 16384) (C : Fin 1024) :
    (dats m 0 c).arrAt 5 cfg0.N (ix2 R C : S16384x1024.Idx) = project (argX m c) (argM m c) (argW m c) R (third 1 C) := by
  obtain ⟨t, r, rfl⟩ := exists_point R
  rw [← place5 t r C]
  refine ((dats m 0 c).arrAt_emb_eq_flushed 5 disjoint5 t (flush0_5 t) (ix2 r C : S512x1024.Idx)).trans ?_
  rw [_root_.cast_eq, flushed5]
  refine (out5_apply (iblk m c 0 t) (iblk m c 1 t) (iblk m c 2 t) (iblk m c 3 t) r C).trans ?_
  rw [against_eq]

theorem result6 (R : Fin 16384) (C : Fin 1024) :
    (dats m 0 c).arrAt 6 cfg0.N (ix2 R C : S16384x1024.Idx) = project (argX m c) (argM m c) (argW m c) R (third 2 C) := by
  obtain ⟨t, r, rfl⟩ := exists_point R
  rw [← place6 t r C]
  refine ((dats m 0 c).arrAt_emb_eq_flushed 6 disjoint6 t (flush0_6 t) (ix2 r C : S512x1024.Idx)).trans ?_
  rw [_root_.cast_eq, flushed6]
  refine (out6_apply (iblk m c 0 t) (iblk m c 1 t) (iblk m c 2 t) (iblk m c 3 t) r C).trans ?_
  rw [against_eq]

theorem result7 (R : Fin 16384) (C : Fin 1024) :
    (dats m 0 c).arrAt 7 cfg0.N (ix2 R C : S16384x1024.Idx) = project (argX m c) (argM m c) (argW m c) R (third 1 C) := by
  obtain ⟨t, r, rfl⟩ := exists_point R
  rw [← place7 t r C]
  refine ((dats m 0 c).arrAt_emb_eq_flushed 7 disjoint7 t (flush0_7 t) (ix2 r C : S512x1024.Idx)).trans ?_
  rw [_root_.cast_eq, flushed7]
  refine (out7_apply (iblk m c 0 t) (iblk m c 1 t) (iblk m c 2 t) (iblk m c 3 t) r C).trans ?_
  rw [against_eq]

theorem result8 (R : Fin 16384) (C : Fin 1024) :
    (dats m 0 c).arrAt 8 cfg0.N (ix2 R C : S16384x1024.Idx) = project (argX m c) (argM m c) (argW m c) R (third 2 C) := by
  obtain ⟨t, r, rfl⟩ := exists_point R
  rw [← place8 t r C]
  refine ((dats m 0 c).arrAt_emb_eq_flushed 8 disjoint8 t (flush0_8 t) (ix2 r C : S512x1024.Idx)).trans ?_
  rw [_root_.cast_eq, flushed8]
  refine (out8_apply (iblk m c 0 t) (iblk m c 1 t) (iblk m c 2 t) (iblk m c 3 t) r C).trans ?_
  rw [against_eq]

end Cert.OddIn.Value

end
-- ==== Proof.OddInRef.lean ====
/- The projection's reference, read at an entry: the modulated rows against the three parts of the weights. -/
module

public import proofs.«01_k».proof.Proof.OddInValue
public import proofs.«01_k».proof.Proof.Gen.OddInRefIdeal.Read

@[expose] public section

noncomputable section

namespace Cert.OddIn.Ref

open Idealize.ShloMosaic Idealize.ShloMosaic.ValueIdx Cert.OddInRefIdeal Cert.OddInRefIdeal.Read Cert.Diff Cert.Proj
open Cert.OddIn.Value (third)
open scoped BigOperators

variable (x : Tokens.Idx → EReal) (mod : Chunks.Idx → EReal) (w : S1024x3072.Idx → EReal)

/-- A token's modulated row. -/
theorem modulated_eq (b : Fin 2) (s : Fin 8192) (d : Fin 1024) :
    val_main_v12 (F := Ideal) x mod (ix3 b s d) = modulated x mod (token b s) d := by
  rw [val_main_v12_apply, val_main_v10_apply, val_main_v6_apply, val_main_v9_apply, val_main_v8_apply, val_main_v1_apply,
    val_main_v11_apply, val_main_v0_apply, modulated, seqOf_token]
  have hx : idx_main_v6 (ix3 b s d) = ix2 (token b s) d := by
    funext a
    match a with
    | ⟨0, _⟩ => exact Fin.ext (by show ((b.val * 8192 + s.val) * 1024 + d.val) / 1024 = 8192 * b.val + s.val; omega)
    | ⟨1, _⟩ => exact Fin.ext (by show ((b.val * 8192 + s.val) * 1024 + d.val) % 1024 = d.val; omega)
  have h1 : idx_main_v1 (idx_main_v9 (ix3 b s d)) = ix3 b 0 (chunk 1 d) := by
    funext a
    match a with
    | ⟨0, _⟩ => exact Fin.ext rfl
    | ⟨1, _⟩ => exact Fin.ext rfl
    | ⟨2, _⟩ => exact Fin.ext rfl
  have h0 : idx_main_v0 (idx_main_v11 (ix3 b s d)) = ix3 b 0 (chunk 0 d) := by
    funext a
    match a with
    | ⟨0, _⟩ => exact Fin.ext rfl
    | ⟨1, _⟩ => exact Fin.ext rfl
    | ⟨2, _⟩ => exact Fin.ext (by show d.val = 1024 * 0 + d.val; omega)
  rw [hx, h1, h0]
  rfl

/-- The product. -/
theorem product_eq (b : Fin 2) (s : Fin 8192) (C : Fin 3072) :
    val_main_v14 (F := Ideal) x mod w (ix3 b s C) = project x mod w (token b s) C := by
  rw [val_main_v14_apply]
  refine Finset.sum_congr rfl fun d _ => congrArg₂ (· * ·) ?_ ?_
  · refine (congrArg (val_main_v12 (F := Ideal) x mod) (?_ : lidx_main_v14 (ix3 b s C) d = ix3 b s d)).trans (modulated_eq x mod b s d)
    funext a
    match a with
    | ⟨0, _⟩ => rfl
    | ⟨1, _⟩ => rfl
    | ⟨2, _⟩ => rfl
  · show w (ridx_main_v14 (ix3 b s C) d) = w (ix2 d C)
    congr 1
    funext a
    match a with
    | ⟨0, _⟩ => rfl
    | ⟨1, _⟩ => rfl

theorem token_eq (R : Fin 16384) : token (seqOf R) (posOf R) = R :=
  Fin.ext (by show 8192 * (R.val / 8192) + R.val % 8192 = R.val; omega)

/-- Where a row of a result is read. -/
theorem place20 (R : Fin 16384) (C : Fin 1024) : idx_main_v20 (ix2 R C) = ix3 (seqOf R) (posOf R) C := by
  funext a
  match a with
  | ⟨0, _⟩ => exact Fin.ext (by show (R.val * 1024 + C.val) / 8388608 = R.val / 8192; omega)
  | ⟨1, _⟩ => exact Fin.ext (by show (R.val * 1024 + C.val) / 1024 % 8192 = R.val % 8192; omega)
  | ⟨2, _⟩ => exact Fin.ext (by show (R.val * 1024 + C.val) % 1024 = C.val; omega)

theorem first_eq (R : Fin 16384) (C : Fin 1024) :
    val_main_v23 (F := Ideal) x mod w (ix2 R C) = project x mod w R (third 0 C) * Ideal.ofBits .f32 0x3E000000#32 := by
  rw [val_main_v23_apply, val_main_v20_apply, val_main_v19_apply, val_main_v15_apply, val_main_v18_apply, place20]
  refine congrArg (· * Ideal.ofBits .f32 0x3E000000#32) ?_
  rw [show idx_main_v15 (ix3 (seqOf R) (posOf R) C) = ix3 (seqOf R) (posOf R) (third 0 C) from by
    funext a
    match a with
    | ⟨0, _⟩ => rfl
    | ⟨1, _⟩ => rfl
    | ⟨2, _⟩ => exact Fin.ext (by show C.val = 1024 * 0 + C.val; omega), product_eq, token_eq]

theorem second_eq (R : Fin 16384) (C : Fin 1024) :
    val_main_v21 (F := Ideal) x mod w (ix2 R C) = project x mod w R (third 1 C) := by
  rw [val_main_v21_apply, show idx_main_v21 (ix2 R C) = ix3 (seqOf R) (posOf R) C from place20 R C, val_main_v16_apply,
    show idx_main_v16 (ix3 (seqOf R) (posOf R) C) = ix3 (seqOf R) (posOf R) (third 1 C) from by
    funext a
    match a with
    | ⟨0, _⟩ => rfl
    | ⟨1, _⟩ => rfl
    | ⟨2, _⟩ => rfl, product_eq, token_eq]

theorem third_eq (R : Fin 16384) (C : Fin 1024) :
    val_main_v22 (F := Ideal) x mod w (ix2 R C) = project x mod w R (third 2 C) := by
  rw [val_main_v22_apply, show idx_main_v22 (ix2 R C) = ix3 (seqOf R) (posOf R) C from place20 R C, val_main_v17_apply,
    show idx_main_v17 (ix3 (seqOf R) (posOf R) C) = ix3 (seqOf R) (posOf R) (third 2 C) from by
    funext a
    match a with
    | ⟨0, _⟩ => rfl
    | ⟨1, _⟩ => rfl
    | ⟨2, _⟩ => rfl, product_eq, token_eq]

end Cert.OddIn.Ref

end
-- ==== Proof.OddInClaim.lean ====
/- The claims about the projection before the differential attention: the three programs leave their arguments and their
   counters as they were, and over the extended reals the kernel's five results are the reference's. -/
module

public import proofs.«01_k».proof.Defs
public import proofs.«01_k».proof.Proof.OddInValue
public import proofs.«01_k».proof.Proof.OddInRef
public import proofs.«01_k».proof.Proof.Gen.OddIn.Frame
public import proofs.«01_k».proof.Proof.Gen.OddInRefIdeal.Run

@[expose] public section

noncomputable section

namespace Cert.OddIn.Claims

open Idealize.ShloMosaic Idealize.ShloMosaic.ValueIdx Idealize.ShloMosaic.TcCoe Idealize.SL.Sem

theorem frame_kernel : Cert.quiescent_OddIn := fun m ρ _ => Cert.OddIn.Gen.frame m ρ

theorem frame_ideal : Cert.quiescent_OddInIdeal := fun m ρ _ => Cert.OddInIdeal.Gen.frame m ρ

theorem frame_reference : Cert.quiescent_OddInRefIdeal := fun m ρ _ =>
  (θ_run Cert.OddInRefIdeal.defs _ _).mono (fun r h => ⟨fun c => (h c).2.2.2.2.2, sem_eq_zero_of_no_sems (by decide) r.2⟩)
    (Cert.OddInRefIdeal.Value.run (F := Ideal) m ρ)

theorem preserves : Cert.preserves_OddIn_OddInIdeal := trivial

theorem algebraic : Cert.algebraic_OddInIdeal_OddInRefIdeal := by
  intro m ρ m' ρ' _ hagree
  refine ⟨_, _, _, _, _, Cert.OddInIdeal.Value.run_blocks m ρ, ?_⟩
  refine (θ_run Cert.OddInRefIdeal.defs _ _).mono (fun _ h c => ?_) (Cert.OddInRefIdeal.Value.run (F := Ideal) m' ρ')
  obtain ⟨g0, g1, g2, g3, g4, g⟩ := h c
  obtain ⟨h0, h1, h2⟩ := hagree c
  refine ⟨g0.trans ?_, g1.trans ?_, g2.trans ?_, g3.trans ?_, g4.trans ?_, g⟩
  · rw [Cert.OddInRefIdeal.Read.val_main_v23_eq, h0, h1, h2]
    funext j
    rw [eq_ix2 j]
    exact (Ref.first_eq _ _ _ _ _).trans (Value.result4 m c _ _).symm
  · rw [Cert.OddInRefIdeal.Read.val_main_v24_eq, h0, h1, h2]
    funext j
    rw [eq_ix2 j]
    exact (Ref.second_eq _ _ _ _ _).trans (Value.result5 m c _ _).symm
  · rw [Cert.OddInRefIdeal.Read.val_main_v25_eq, h0, h1, h2]
    funext j
    rw [eq_ix2 j]
    exact (Ref.third_eq _ _ _ _ _).trans (Value.result6 m c _ _).symm
  · rw [Cert.OddInRefIdeal.Read.val_main_v21_eq, h0, h1, h2]
    funext j
    rw [eq_ix2 j]
    exact (Ref.second_eq _ _ _ _ _).trans (Value.result7 m c _ _).symm
  · rw [Cert.OddInRefIdeal.Read.val_main_v22_eq, h0, h1, h2]
    funext j
    rw [eq_ix2 j]
    exact (Ref.third_eq _ _ _ _ _).trans (Value.result8 m c _ _).symm

end Cert.OddIn.Claims

end
-- ==== Proof.EvenInValue.lean ====
/- The projection call before the even layers' attention, over whole arrays: seven results are products of the modulated
   rows and parts of 512 columns of the weights, and the eighth is the logarithm of the sigmoid of the forget gates. -/
module

public import proofs.«01_k».proof.Proof.Proj
public import proofs.«01_k».proof.Proof.Gen.EvenInIdeal.Value
public import Idealize.ShloMosaic.Lib.Pipeline.Covers
public import Idealize.ShloMosaic.Lib.WordCmp

@[expose] public section

noncomputable section

namespace Cert.EvenIn.Value

open Idealize.ShloMosaic Idealize.ShloMosaic.Ideal Idealize.ShloMosaic.ValueIdx Idealize.ShloMosaic.TcCoe
open Idealize.SL.Sem
open Cert.EvenInIdeal Cert.EvenInIdeal.Gen Cert.EvenInIdeal.Value Cert.Diff Cert.Proj
open scoped BigOperators

/-- Column `c` of sixth `n` of the weights. -/
def sixth (n : Fin 6) (c : Fin 512) : Fin 3072 := ⟨512 * n.val + c.val, by omega⟩

/-- The logarithm of the sigmoid of `z`, as the smaller of `z` and 0 less `log (1 + exp (-|z|))`. -/
def logSigmoid (z : EReal) : EReal := min z 0 - Ideal.log1p (Ideal.exp (0 - max z (-z)))

/-- The eight forget gates of a row, and zeros in the lanes after them. -/
def gates (x : Tokens.Idx → EReal) (mod : Chunks.Idx → EReal) (w : S1024x128.Idx → EReal) (b : S1x128.Idx → EReal)
    (R : Fin 16384) (l : Fin 128) : EReal :=
  if l.val < 8 then logSigmoid (project x mod w R l + b (ix2 0 l)) else 0

/-! ## A block -/

section Blocks

variable (x : Vec Ideal S512x1024 .f32) (v u : Vec Ideal S1x1x1024 .f32) (w : Vec Ideal S1024x3072 .bf16)
  (wf : Vec Ideal S1024x128 .bf16) (bf : Vec Ideal S1x128 .f32)

/-- A block's modulated row against column `C` of the weights. -/
def against {n : ℕ} (w : (⟨2, ![1024, n]⟩ : Shape).Idx → EReal) (r : Fin 512) (C : Fin n) : EReal :=
  ∑ d : Fin 1024, (x (ix2 r d) * (one + v (ix3 0 0 d)) + u (ix3 0 0 d)) * w (ix2 d C)

/-- The product of the modulated rows and a part of the weights. -/
theorem part_apply (p : Vec Ideal S1024x512 .bf16) (r : Fin 512) (c : Fin 512) (C : Fin 3072)
    (hp : ∀ d : Fin 1024, p (ix2 d c) = w (ix2 d C)) :
    matmul (φ₂ := .bf16) dot_S512x1024_S1024x512_S512x512_1_0_0_1_n_n none (k0_pay4 x v u) p (constant S512x512 .f32 0x00000000#32) (ix2 r c)
      = against x v u w r C := by
  refine (product_apply none (k0_pay4 x v u) p r c).trans (Finset.sum_congr rfl fun d _ => congrArg₂ (· * ·) ?_ (hp d))
  exact modulated_apply _ _ _ _ _ x v u r d

/-- The product of the modulated rows and the gates' weights. -/
theorem gate_apply (r : Fin 512) (l : Fin 128) :
    matmul (φ₂ := .bf16) dot_S512x1024_S1024x128_S512x128_1_0_0_1_n_n none (k0_pay4 x v u) wf (constant S512x128 .f32 0x00000000#32) (ix2 r l)
      = against x v u wf r l := by
  refine (product_apply none (k0_pay4 x v u) wf r l).trans (Finset.sum_congr rfl fun d _ => congrArg (· * wf (ix2 d l)) ?_)
  exact modulated_apply _ _ _ _ _ x v u r d

theorem read_x : View.ld x r0_0 = x := View.ld_unit_zero (by decide) _ x

theorem read_v : View.ld v r0_1 = v := View.ld_unit_zero (by decide) _ v

theorem read_wf : View.ld wf r0_9 = wf := View.ld_unit_zero (by decide) _ wf

theorem read_bf : View.ld bf r0_10 = bf := View.ld_unit_zero (by decide) _ bf

theorem read_rows : k0_pay10 x v u w wf bf = k0_pay4 x v u := by
  unfold k0_pay10
  rw [read_x, read_v, read_v]

theorem read_part0 (d : Fin 1024) (c : Fin 512) : View.ld w r0_2 (ix2 d c) = w (ix2 d (sixth 0 c)) := by
  show w _ = w _
  congr 1
  funext a
  match a with
  | ⟨0, _⟩ => exact Fin.ext (by show 0 + 1 * d.val = d.val; omega)
  | ⟨1, _⟩ => exact Fin.ext (by show 0 + 1 * c.val = 512 * 0 + c.val; omega)

theorem read_part1 (d : Fin 1024) (c : Fin 512) : View.ld w r0_4 (ix2 d c) = w (ix2 d (sixth 1 c)) := by
  show w _ = w _
  congr 1
  funext a
  match a with
  | ⟨0, _⟩ => exact Fin.ext (by show 0 + 1 * d.val = d.val; omega)
  | ⟨1, _⟩ => exact Fin.ext (by show 512 + 1 * c.val = 512 * 1 + c.val; omega)

theorem read_part2 (d : Fin 1024) (c : Fin 512) : View.ld w r0_5 (ix2 d c) = w (ix2 d (sixth 2 c)) := by
  show w _ = w _
  congr 1
  funext a
  match a with
  | ⟨0, _⟩ => exact Fin.ext (by show 0 + 1 * d.val = d.val; omega)
  | ⟨1, _⟩ => exact Fin.ext (by show 1024 + 1 * c.val = 512 * 2 + c.val; omega)

theorem read_part3 (d : Fin 1024) (c : Fin 512) : View.ld w r0_6 (ix2 d c) = w (ix2 d (sixth 3 c)) := by
  show w _ = w _
  congr 1
  funext a
  match a with
  | ⟨0, _⟩ => exact Fin.ext (by show 0 + 1 * d.val = d.val; omega)
  | ⟨1, _⟩ => exact Fin.ext (by show 1536 + 1 * c.val = 512 * 3 + c.val; omega)

theorem read_part4 (d : Fin 1024) (c : Fin 512) : View.ld w r0_7 (ix2 d c) = w (ix2 d (sixth 4 c)) := by
  show w _ = w _
  congr 1
  funext a
  match a with
  | ⟨0, _⟩ => exact Fin.ext (by show 0 + 1 * d.val = d.val; omega)
  | ⟨1, _⟩ => exact Fin.ext (by show 2048 + 1 * c.val = 512 * 4 + c.val; omega)

theorem read_part5 (d : Fin 1024) (c : Fin 512) : View.ld w r0_8 (ix2 d c) = w (ix2 d (sixth 5 c)) := by
  show w _ = w _
  congr 1
  funext a
  match a with
  | ⟨0, _⟩ => exact Fin.ext (by show 0 + 1 * d.val = d.val; omega)
  | ⟨1, _⟩ => exact Fin.ext (by show 2560 + 1 * c.val = 512 * 5 + c.val; omega)

/-! The eight blocks a point writes. -/

theorem out6_apply (r c : Fin 512) :
    out0_6 x v u w wf bf (ix2 r c) = against x v u w r (sixth 0 c) * Ideal.ofBits .f32 0x3E000000#32 := by
  unfold out0_6
  rw [View.canon_unit_zero (by decide), read_x, read_v, read_v]
  exact congrArg (· * Ideal.ofBits .f32 0x3E000000#32) (part_apply x v u w _ r c _ fun d => read_part0 w d c)

theorem out7_apply (r c : Fin 512) : out0_7 x v u w wf bf (ix2 r c) = against x v u w r (sixth 1 c) := by
  unfold out0_7
  rw [View.canon_unit_zero (by decide), read_x, read_v, read_v]
  exact part_apply x v u w _ r c _ fun d => read_part1 w d c

theorem out8_apply (r c : Fin 512) : out0_8 x v u w wf bf (ix2 r c) = against x v u w r (sixth 2 c) := by
  unfold out0_8
  rw [View.canon_unit_zero (by decide), read_x, read_v, read_v]
  exact part_apply x v u w _ r c _ fun d => read_part2 w d c

theorem out9_apply (r c : Fin 512) : out0_9 x v u w wf bf (ix2 r c) = against x v u w r (sixth 1 c) := by
  unfold out0_9
  rw [View.canon_unit_zero (by decide), read_x, read_v, read_v]
  exact part_apply x v u w _ r c _ fun d => read_part1 w d c

theorem out10_apply (r c : Fin 512) : out0_10 x v u w wf bf (ix2 r c) = against x v u w r (sixth 2 c) := by
  unfold out0_10
  rw [View.canon_unit_zero (by decide), read_x, read_v, read_v]
  exact part_apply x v u w _ r c _ fun d => read_part2 w d c

theorem out11_apply (r c : Fin 512) : out0_11 x v u w wf bf (ix2 r c) = against x v u w r (sixth 3 c) := by
  unfold out0_11
  rw [View.canon_unit_zero (by decide), read_rows]
  exact part_apply x v u w _ r c _ fun d => read_part3 w d c

theorem out12_apply (r c : Fin 512) :
    out0_12 x v u w wf bf (ix2 r c) = against x v u w r (sixth 4 c) * against x v u w r (sixth 5 c) := by
  unfold out0_12
  rw [View.canon_unit_zero (by decide), read_rows]
  exact congrArg₂ (· * ·) (part_apply x v u w _ r c _ fun d => read_part4 w d c)
    (part_apply x v u w _ r c _ fun d => read_part5 w d c)

theorem out13_apply (r : Fin 512) (l : Fin 128) :
    out0_13 x v u w wf bf (ix2 r l) = if l.val < 8 then logSigmoid (against x v u wf r l + bf (ix2 0 l)) else 0 := by
  unfold out0_13
  rw [View.canon_unit_zero (by decide), read_rows, read_wf, read_bf]
  have hz : addf (matmul (φ₂ := .bf16) dot_S512x1024_S1024x128_S512x128_1_0_0_1_n_n none (k0_pay4 x v u) wf
      (constant S512x128 .f32 0x00000000#32)) (broadcastTo S512x128 bf broadcasts_S1x128_S512x128) (ix2 r l)
        = against x v u wf r l + bf (ix2 0 l) := by
    refine congrArg₂ (· + ·) (gate_apply x v u wf r l) ?_
    exact broadcastTo_apply bf _ _ _ (fun a => match a with
      | ⟨0, _⟩ => rfl
      | ⟨1, _⟩ => rfl)
  have hl : cmpi .slt (iota .tc S512x128 32 [1] iota_S512x128_d1_w32) (broadcast S512x128 8#32) (ix2 r l)
      = BitVec.ofBool (decide (l.val < 8)) := by
    show IntOp.cmpi .slt (iota .tc S512x128 32 [1] iota_S512x128_d1_w32 (ix2 r l)) (BitVec.ofNat 32 8) = _
    rw [show iota .tc S512x128 32 [1] iota_S512x128_d1_w32 (ix2 r l) = BitVec.ofNat 32 l.val from by
      show BitVec.ofNat 32 (0 * 128 + l.val) = _
      rw [Nat.zero_mul, Nat.zero_add]]
    exact WordCmp.cmpi_slt_ofNat (by omega) (by omega)
  refine (congrArg (fun b => Scalar.select b _ _) hl).trans ?_
  by_cases h : l.val < 8
  · rw [if_pos h, decide_eq_true h]
    show min _ (Ideal.ofBits .f32 0x00000000#32) - Ideal.log1p (Ideal.exp (Ideal.ofBits .f32 0x00000000#32 - max _ (-_))) = _
    rw [hz, Ideal.ofBits_zero_f32, logSigmoid]
  · rw [if_neg h, decide_eq_false h]
    exact Ideal.ofBits_zero_f32

end Blocks

/-! ## Which block a grid point has -/

/-- The point's number. -/
def point (i : grid0.Coords) : Fin 32 := i 0

/-- The point of a number. -/
def coords (n : Fin 32) : grid0.Coords := fun a => match a with
  | ⟨0, _⟩ => n

theorem map_rows (i : grid0.Coords) : cc0_transform_0 i = ![(point i).val, 0] :=
  (by decide +kernel : ∀ a : Fin 32, ![(BitVec.ofNat 32 a.val).toNat, (0#32 : BitVec 32).toNat] = ![a.val, 0]) (i 0)

theorem map_scale (i : grid0.Coords) : cc0_transform_1 i = ![(point i).val / 16, 0, 1] :=
  (by decide +kernel : ∀ a : Fin 32, cc0_transform_1 (coords a) = ![a.val / 16, 0, 1]) (i 0)

theorem map_shift (i : grid0.Coords) : cc0_transform_2 i = ![(point i).val / 16, 0, 0] :=
  (by decide +kernel : ∀ a : Fin 32, cc0_transform_2 (coords a) = ![a.val / 16, 0, 0]) (i 0)

variable (m : (ℓ : Loc nD τ sig) → Buf (Elt Ideal) ℓ) (c : Dev nD) (t : Fin cfg0.N)

/-- The call's arguments: the rows, the six chunks, the weights, the gates' weights and their offsets. -/
abbrev argX : Tokens.Idx → EReal := m ((c : Thread nD τ).loc main_arg0)
abbrev argM : Chunks.Idx → EReal := m ((c : Thread nD τ).loc main_arg1)
abbrev argW : S1024x3072.Idx → EReal := m ((c : Thread nD τ).loc main_arg2)
abbrev argF : S1024x128.Idx → EReal := m ((c : Thread nD τ).loc main_arg3)
abbrev argB : S1x128.Idx → EReal := m ((c : Thread nD τ).loc main_arg4)

theorem x_block (r : Fin 512) (d : Fin 1024) :
    iblk m c 0 t (ix2 r d) = argX m c (ix2 (row (point (grid0.coords t)) r) d) := by
  show _ = m ((c : Thread nD τ).loc main_arg0) _
  rw [← V_main_arg0 m c]
  show V m c main_arg0 _ = V m c main_arg0 _
  congr 1
  funext a
  match a with
  | ⟨0, _⟩ => exact Fin.ext ((win0_0.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_0.rect_emb_val t (ix2 r d) 1).trans (by
      show cc0_transform_0 (grid0.coords t) 1 * 1024 + d.val = d.val
      rw [map_rows]; show 0 * 1024 + d.val = _; omega))

theorem scale_block (d : Fin 1024) :
    iblk m c 1 t (ix3 0 0 d) = argM m c (ix3 (seqAt (point (grid0.coords t))) 0 (chunk 1 d)) := by
  show _ = m ((c : Thread nD τ).loc main_arg1) _
  rw [← V_main_arg1 m c]
  show V m c main_arg1 _ = V m c main_arg1 _
  congr 1
  funext a
  match a with
  | ⟨0, _⟩ => exact Fin.ext ((win0_1.rect_emb_val t (ix3 0 0 d) 0).trans (by
      show cc0_transform_1 (grid0.coords t) 0 * 1 + 0 = (point (grid0.coords t)).val / 16
      rw [map_scale]; show (point (grid0.coords t)).val / 16 * 1 + 0 = _; omega))
  | ⟨1, _⟩ => exact Fin.ext ((win0_1.rect_emb_val t (ix3 0 0 d) 1).trans (by
      show cc0_transform_1 (grid0.coords t) 1 * 1 + 0 = 0
      rw [map_scale]; rfl))
  | ⟨2, _⟩ => exact Fin.ext ((win0_1.rect_emb_val t (ix3 0 0 d) 2).trans (by
      show cc0_transform_1 (grid0.coords t) 2 * 1024 + d.val = 1024 * 1 + d.val
      rw [map_scale]; rfl))

theorem shift_block (d : Fin 1024) :
    iblk m c 2 t (ix3 0 0 d) = argM m c (ix3 (seqAt (point (grid0.coords t))) 0 (chunk 0 d)) := by
  show _ = m ((c : Thread nD τ).loc main_arg1) _
  rw [← V_main_arg1 m c]
  show V m c main_arg1 _ = V m c main_arg1 _
  congr 1
  funext a
  match a with
  | ⟨0, _⟩ => exact Fin.ext ((win0_2.rect_emb_val t (ix3 0 0 d) 0).trans (by
      show cc0_transform_2 (grid0.coords t) 0 * 1 + 0 = (point (grid0.coords t)).val / 16
      rw [map_shift]; show (point (grid0.coords t)).val / 16 * 1 + 0 = _; omega))
  | ⟨1, _⟩ => exact Fin.ext ((win0_2.rect_emb_val t (ix3 0 0 d) 1).trans (by
      show cc0_transform_2 (grid0.coords t) 1 * 1 + 0 = 0
      rw [map_shift]; rfl))
  | ⟨2, _⟩ => exact Fin.ext ((win0_2.rect_emb_val t (ix3 0 0 d) 2).trans (by
      show cc0_transform_2 (grid0.coords t) 2 * 1024 + d.val = 1024 * 0 + d.val
      rw [map_shift]; rfl))

theorem weight_block : iblk m c 3 t = argW m c := by
  show _ = m ((c : Thread nD τ).loc main_arg2)
  rw [← V_main_arg2 m c]
  funext j
  show V m c main_arg2 _ = V m c main_arg2 _
  congr 1
  funext a
  exact Fin.ext ((win0_3.rect_emb_val t j a).trans (by
    match a with
    | ⟨0, _⟩ => show 0 * 1024 + (j 0).val = (j 0).val; omega
    | ⟨1, _⟩ => show 0 * 3072 + (j 1).val = (j 1).val; omega))

theorem gateWeight_block : iblk m c 4 t = argF m c := by
  show _ = m ((c : Thread nD τ).loc main_arg3)
  rw [← V_main_arg3 m c]
  funext j
  show V m c main_arg3 _ = V m c main_arg3 _
  congr 1
  funext a
  exact Fin.ext ((win0_4.rect_emb_val t j a).trans (by
    match a with
    | ⟨0, _⟩ => show 0 * 1024 + (j 0).val = (j 0).val; omega
    | ⟨1, _⟩ => show 0 * 128 + (j 1).val = (j 1).val; omega))

theorem offset_block : iblk m c 5 t = argB m c := by
  show _ = m ((c : Thread nD τ).loc main_arg4)
  rw [← V_main_arg4 m c]
  funext j
  show V m c main_arg4 _ = V m c main_arg4 _
  congr 1
  funext a
  exact Fin.ext ((win0_5.rect_emb_val t j a).trans (by
    match a with
    | ⟨0, _⟩ => show 0 * 1 + (j 0).val = (j 0).val; omega
    | ⟨1, _⟩ => show 0 * 128 + (j 1).val = (j 1).val; omega))

/-- A point's products, over the arrays. -/
theorem against_eq {n : ℕ} (w : (⟨2, ![1024, n]⟩ : Shape).Idx → EReal) (r : Fin 512) (C : Fin n) :
    against (iblk m c 0 t) (iblk m c 1 t) (iblk m c 2 t) w r C
      = project (argX m c) (argM m c) w (row (point (grid0.coords t)) r) C := by
  refine Finset.sum_congr rfl fun d _ => ?_
  rw [modulated, seqOf_row]
  refine congrArg (· * w (ix2 d C)) (congrArg₂ (· + ·) (congrArg₂ (· * ·) ?_ (congrArg (one + ·) ?_)) ?_)
  · exact x_block m c t r d
  · exact scale_block m c t d
  · exact shift_block m c t d

/-- Where the points' results lie. -/
theorem place6 (r : Fin 512) (d : Fin 512) :
    ((cfg0.win 6).blk t).view.emb (ix2 r d : S512x512.Idx) = (ix2 (row (point (grid0.coords t)) r) d : S16384x512.Idx) := by
  funext a
  match a with
  | ⟨0, _⟩ => exact Fin.ext ((win0_6.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_6.rect_emb_val t (ix2 r d) 1).trans (by
      show cc0_transform_0 (grid0.coords t) 1 * 512 + d.val = d.val
      rw [map_rows]; show 0 * 512 + d.val = _; omega))

theorem place7 (r d : Fin 512) :
    ((cfg0.win 7).blk t).view.emb (ix2 r d : S512x512.Idx) = (ix2 (row (point (grid0.coords t)) r) d : S16384x512.Idx) :=
  place6 t r d

theorem place8 (r d : Fin 512) :
    ((cfg0.win 8).blk t).view.emb (ix2 r d : S512x512.Idx) = (ix2 (row (point (grid0.coords t)) r) d : S16384x512.Idx) :=
  place6 t r d

theorem place9 (r d : Fin 512) :
    ((cfg0.win 9).blk t).view.emb (ix2 r d : S512x512.Idx) = (ix2 (row (point (grid0.coords t)) r) d : S16384x512.Idx) :=
  place6 t r d

theorem place10 (r d : Fin 512) :
    ((cfg0.win 10).blk t).view.emb (ix2 r d : S512x512.Idx) = (ix2 (row (point (grid0.coords t)) r) d : S16384x512.Idx) :=
  place6 t r d

theorem place11 (r d : Fin 512) :
    ((cfg0.win 11).blk t).view.emb (ix2 r d : S512x512.Idx) = (ix2 (row (point (grid0.coords t)) r) d : S16384x512.Idx) :=
  place6 t r d

theorem place12 (r d : Fin 512) :
    ((cfg0.win 12).blk t).view.emb (ix2 r d : S512x512.Idx) = (ix2 (row (point (grid0.coords t)) r) d : S16384x512.Idx) :=
  place6 t r d

theorem place13 (r : Fin 512) (d : Fin 128) :
    ((cfg0.win 13).blk t).view.emb (ix2 r d : S512x128.Idx) = (ix2 (row (point (grid0.coords t)) r) d : S16384x128.Idx) := by
  funext a
  match a with
  | ⟨0, _⟩ => exact Fin.ext ((win0_13.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_13.rect_emb_val t (ix2 r d) 1).trans (by
      show cc0_transform_0 (grid0.coords t) 1 * 128 + d.val = d.val
      rw [map_rows]; show 0 * 128 + d.val = _; omega))

/-- Every row is a point's. -/
theorem exists_point (R : Fin 16384) : ∃ (t : Fin cfg0.N) (r : Fin 512), row (point (grid0.coords t)) r = R := by
  obtain ⟨n, r, h⟩ := exists_row R
  obtain ⟨t, ht⟩ := grid0.coords_surjective (fun a => match a with
    | ⟨0, _⟩ => n)
  exact ⟨t, r, by rw [show point (grid0.coords t) = n by rw [ht]; rfl, h]⟩

/-! ## The results -/

theorem result6 (R : Fin 16384) (C : Fin 512) :
    (dats m 0 c).arrAt 6 cfg0.N (ix2 R C : S16384x512.Idx)
      = project (argX m c) (argM m c) (argW m c) R (sixth 0 C) * Ideal.ofBits .f32 0x3E000000#32 := by
  obtain ⟨t, r, rfl⟩ := exists_point R
  rw [← place6 t r C]
  refine ((dats m 0 c).arrAt_emb_eq_flushed 6 disjoint6 t (flush0_6 t) (ix2 r C : S512x512.Idx)).trans ?_
  rw [_root_.cast_eq, flushed6]
  refine (out6_apply (iblk m c 0 t) (iblk m c 1 t) (iblk m c 2 t) (iblk m c 3 t) (iblk m c 4 t) (iblk m c 5 t) r C).trans ?_
  rw [weight_block, against_eq]

theorem result7 (R : Fin 16384) (C : Fin 512) :
    (dats m 0 c).arrAt 7 cfg0.N (ix2 R C : S16384x512.Idx)
      = project (argX m c) (argM m c) (argW m c) R (sixth 1 C) := by
  obtain ⟨t, r, rfl⟩ := exists_point R
  rw [← place7 t r C]
  refine ((dats m 0 c).arrAt_emb_eq_flushed 7 disjoint7 t (flush0_7 t) (ix2 r C : S512x512.Idx)).trans ?_
  rw [_root_.cast_eq, flushed7]
  refine (out7_apply (iblk m c 0 t) (iblk m c 1 t) (iblk m c 2 t) (iblk m c 3 t) (iblk m c 4 t) (iblk m c 5 t) r C).trans ?_
  rw [weight_block, against_eq]

theorem result8 (R : Fin 16384) (C : Fin 512) :
    (dats m 0 c).arrAt 8 cfg0.N (ix2 R C : S16384x512.Idx)
      = project (argX m c) (argM m c) (argW m c) R (sixth 2 C) := by
  obtain ⟨t, r, rfl⟩ := exists_point R
  rw [← place8 t r C]
  refine ((dats m 0 c).arrAt_emb_eq_flushed 8 disjoint8 t (flush0_8 t) (ix2 r C : S512x512.Idx)).trans ?_
  rw [_root_.cast_eq, flushed8]
  refine (out8_apply (iblk m c 0 t) (iblk m c 1 t) (iblk m c 2 t) (iblk m c 3 t) (iblk m c 4 t) (iblk m c 5 t) r C).trans ?_
  rw [weight_block, against_eq]

theorem result9 (R : Fin 16384) (C : Fin 512) :
    (dats m 0 c).arrAt 9 cfg0.N (ix2 R C : S16384x512.Idx)
      = project (argX m c) (argM m c) (argW m c) R (sixth 1 C) := by
  obtain ⟨t, r, rfl⟩ := exists_point R
  rw [← place9 t r C]
  refine ((dats m 0 c).arrAt_emb_eq_flushed 9 disjoint9 t (flush0_9 t) (ix2 r C : S512x512.Idx)).trans ?_
  rw [_root_.cast_eq, flushed9]
  refine (out9_apply (iblk m c 0 t) (iblk m c 1 t) (iblk m c 2 t) (iblk m c 3 t) (iblk m c 4 t) (iblk m c 5 t) r C).trans ?_
  rw [weight_block, against_eq]

theorem result10 (R : Fin 16384) (C : Fin 512) :
    (dats m 0 c).arrAt 10 cfg0.N (ix2 R C : S16384x512.Idx)
      = project (argX m c) (argM m c) (argW m c) R (sixth 2 C) := by
  obtain ⟨t, r, rfl⟩ := exists_point R
  rw [← place10 t r C]
  refine ((dats m 0 c).arrAt_emb_eq_flushed 10 disjoint10 t (flush0_10 t) (ix2 r C : S512x512.Idx)).trans ?_
  rw [_root_.cast_eq, flushed10]
  refine (out10_apply (iblk m c 0 t) (iblk m c 1 t) (iblk m c 2 t) (iblk m c 3 t) (iblk m c 4 t) (iblk m c 5 t) r C).trans ?_
  rw [weight_block, against_eq]

theorem result11 (R : Fin 16384) (C : Fin 512) :
    (dats m 0 c).arrAt 11 cfg0.N (ix2 R C : S16384x512.Idx)
      = project (argX m c) (argM m c) (argW m c) R (sixth 3 C) := by
  obtain ⟨t, r, rfl⟩ := exists_point R
  rw [← place11 t r C]
  refine ((dats m 0 c).arrAt_emb_eq_flushed 11 disjoint11 t (flush0_11 t) (ix2 r C : S512x512.Idx)).trans ?_
  rw [_root_.cast_eq, flushed11]
  refine (out11_apply (iblk m c 0 t) (iblk m c 1 t) (iblk m c 2 t) (iblk m c 3 t) (iblk m c 4 t) (iblk m c 5 t) r C).trans ?_
  rw [weight_block, against_eq]

theorem result12 (R : Fin 16384) (C : Fin 512) :
    (dats m 0 c).arrAt 12 cfg0.N (ix2 R C : S16384x512.Idx)
      = project (argX m c) (argM m c) (argW m c) R (sixth 4 C)
        * project (argX m c) (argM m c) (argW m c) R (sixth 5 C) := by
  obtain ⟨t, r, rfl⟩ := exists_point R
  rw [← place12 t r C]
  refine ((dats m 0 c).arrAt_emb_eq_flushed 12 disjoint12 t (flush0_12 t) (ix2 r C : S512x512.Idx)).trans ?_
  rw [_root_.cast_eq, flushed12]
  refine (out12_apply (iblk m c 0 t) (iblk m c 1 t) (iblk m c 2 t) (iblk m c 3 t) (iblk m c 4 t) (iblk m c 5 t) r C).trans ?_
  rw [weight_block, against_eq, against_eq]

theorem result13 (R : Fin 16384) (l : Fin 128) :
    (dats m 0 c).arrAt 13 cfg0.N (ix2 R l : S16384x128.Idx) = gates (argX m c) (argM m c) (argF m c) (argB m c) R l := by
  obtain ⟨t, r, rfl⟩ := exists_point R
  rw [← place13 t r l]
  refine ((dats m 0 c).arrAt_emb_eq_flushed 13 disjoint13 t (flush0_13 t) (ix2 r l : S512x128.Idx)).trans ?_
  rw [_root_.cast_eq, flushed13]
  refine (out13_apply (iblk m c 0 t) (iblk m c 1 t) (iblk m c 2 t) (iblk m c 3 t) (iblk m c 4 t) (iblk m c 5 t) r l).trans ?_
  rw [gateWeight_block, offset_block, against_eq, gates]

end Cert.EvenIn.Value

end
-- ==== Proof.EvenInRef.lean ====
/- The even layers' projection's reference, read at an entry. The host's logarithm of the sigmoid is minus a softplus; it
   is the kernel's form of it at every extended real. -/
module

public import proofs.«01_k».proof.Proof.EvenInValue
public import proofs.«01_k».proof.Proof.OddInRef
public import proofs.«01_k».proof.Proof.Gen.EvenInRefIdeal.Read
public import Idealize.ShloMosaic.Lib.KernelVsHost

@[expose] public section

noncomputable section

namespace Cert.EvenIn.Ref

open Idealize.ShloMosaic Idealize.ShloMosaic.ValueIdx Cert.EvenInRefIdeal Cert.EvenInRefIdeal.Read Cert.Diff Cert.Proj
open Cert.EvenIn.Value (sixth logSigmoid gates)
open Cert.OddIn.Ref (token_eq)
open scoped BigOperators

/-! ## The logarithm of the sigmoid -/

/-- `log (1 + exp u)` is not the least extended real. -/
theorem log1p_exp_ne_bot (u : EReal) : Ideal.log1p (Ideal.exp u) ≠ ⊥ := by
  induction u using EReal.rec with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | coe r =>
    show Ideal.log (1 + (Real.exp r : EReal)) ≠ ⊥
    rw [← EReal.coe_one, ← EReal.coe_add]
    show (if (1 + Real.exp r : ℝ) ≤ 0 then (⊥ : EReal) else (Real.log (1 + Real.exp r) : EReal)) ≠ ⊥
    rw [if_neg (by have := Real.exp_pos r; linarith)]
    exact EReal.coe_ne_bot _
  | top =>
    show Ideal.log (1 + ⊤) ≠ ⊥
    rw [EReal.add_top_of_ne_bot (by rw [← EReal.coe_one]; exact EReal.coe_ne_bot 1)]
    exact top_ne_bot

/-- Minus the softplus of `-z`, as the host computes it, is `logSigmoid z`. -/
theorem logSigmoid_eq (z : EReal) :
    -(max (-z) 0 + Ideal.log1p (Ideal.exp (-(max (-z) (- -z))))) = logSigmoid z := by
  have h0 : max (-z) 0 ≠ ⊥ := fun h => absurd ((le_max_right (-z) 0).trans_eq h) (not_le.mpr EReal.bot_lt_zero)
  rw [EReal.neg_add (.inl h0) (.inr (log1p_exp_ne_bot _)), logSigmoid, neg_neg, max_comm (-z) z, zero_sub]
  refine congrArg (· - _) ?_
  rcases le_total z 0 with h | h
  · rw [min_eq_left h, max_eq_left (by rw [← neg_zero, EReal.neg_le_neg_iff]; exact h), neg_neg]
  · rw [min_eq_right h, max_eq_right (by rw [← neg_zero, EReal.neg_le_neg_iff]; exact h), neg_zero]

/-! ## The products -/

variable (x : Tokens.Idx → EReal) (mod : Chunks.Idx → EReal) (w : S1024x3072.Idx → EReal) (wf : S1024x128.Idx → EReal)
  (bf : S1x128.Idx → EReal)

/-- A token's modulated row. -/
theorem modulated_eq (b : Fin 2) (s : Fin 8192) (d : Fin 1024) :
    val_main_v12 (F := Ideal) x mod (ix3 b s d) = modulated x mod (token b s) d := Cert.OddIn.Ref.modulated_eq x mod b s d

/-- The product. -/
theorem product_eq (b : Fin 2) (s : Fin 8192) (C : Fin 3072) :
    val_main_v14 (F := Ideal) x mod w (ix3 b s C) = project x mod w (token b s) C := Cert.OddIn.Ref.product_eq x mod w b s C

/-- Where a row of a result is read. -/
theorem place33 (R : Fin 16384) (C : Fin 512) : idx_main_v33 (ix2 R C) = ix3 (seqOf R) (posOf R) C := by
  funext a
  match a with
  | ⟨0, _⟩ => exact Fin.ext (by show (R.val * 512 + C.val) / 4194304 = R.val / 8192; omega)
  | ⟨1, _⟩ => exact Fin.ext (by show (R.val * 512 + C.val) / 512 % 8192 = R.val % 8192; omega)
  | ⟨2, _⟩ => exact Fin.ext (by show (R.val * 512 + C.val) % 512 = C.val; omega)

theorem part0 (b : Fin 2) (s : Fin 8192) (C : Fin 512) :
    val_main_v15 (F := Ideal) x mod w (ix3 b s C) = project x mod w (token b s) (sixth 0 C) := by
  rw [val_main_v15_apply, ← product_eq]
  congr 1
  funext a
  match a with
  | ⟨0, _⟩ => rfl
  | ⟨1, _⟩ => rfl
  | ⟨2, _⟩ => exact Fin.ext (by show C.val = 512 * 0 + C.val; omega)

theorem part1 (b : Fin 2) (s : Fin 8192) (C : Fin 512) :
    val_main_v16 (F := Ideal) x mod w (ix3 b s C) = project x mod w (token b s) (sixth 1 C) := by
  rw [val_main_v16_apply, ← product_eq]
  congr 1
  funext a
  match a with
  | ⟨0, _⟩ => rfl
  | ⟨1, _⟩ => rfl
  | ⟨2, _⟩ => rfl

theorem part2 (b : Fin 2) (s : Fin 8192) (C : Fin 512) :
    val_main_v17 (F := Ideal) x mod w (ix3 b s C) = project x mod w (token b s) (sixth 2 C) := by
  rw [val_main_v17_apply, ← product_eq]
  congr 1
  funext a
  match a with
  | ⟨0, _⟩ => rfl
  | ⟨1, _⟩ => rfl
  | ⟨2, _⟩ => rfl

theorem part3 (b : Fin 2) (s : Fin 8192) (C : Fin 512) :
    val_main_v18 (F := Ideal) x mod w (ix3 b s C) = project x mod w (token b s) (sixth 3 C) := by
  rw [val_main_v18_apply, ← product_eq]
  congr 1
  funext a
  match a with
  | ⟨0, _⟩ => rfl
  | ⟨1, _⟩ => rfl
  | ⟨2, _⟩ => rfl

theorem part4 (b : Fin 2) (s : Fin 8192) (C : Fin 512) :
    val_main_v19 (F := Ideal) x mod w (ix3 b s C) = project x mod w (token b s) (sixth 4 C) := by
  rw [val_main_v19_apply, ← product_eq]
  congr 1
  funext a
  match a with
  | ⟨0, _⟩ => rfl
  | ⟨1, _⟩ => rfl
  | ⟨2, _⟩ => rfl

theorem part5 (b : Fin 2) (s : Fin 8192) (C : Fin 512) :
    val_main_v20 (F := Ideal) x mod w (ix3 b s C) = project x mod w (token b s) (sixth 5 C) := by
  rw [val_main_v20_apply, ← product_eq]
  congr 1
  funext a
  match a with
  | ⟨0, _⟩ => rfl
  | ⟨1, _⟩ => rfl
  | ⟨2, _⟩ => rfl

theorem queries_eq (R : Fin 16384) (C : Fin 512) :
    val_main_v36 (F := Ideal) x mod w (ix2 R C) = project x mod w R (sixth 0 C) * Ideal.ofBits .f32 0x3E000000#32 := by
  rw [val_main_v36_apply, val_main_v33_apply, val_main_v32_apply, val_main_v31_apply, place33, part0, token_eq]
  rfl

theorem keys_eq (R : Fin 16384) (C : Fin 512) :
    val_main_v34 (F := Ideal) x mod w (ix2 R C) = project x mod w R (sixth 1 C) := by
  rw [val_main_v34_apply, show idx_main_v34 (ix2 R C) = ix3 (seqOf R) (posOf R) C from place33 R C, part1, token_eq]

theorem values_eq (R : Fin 16384) (C : Fin 512) :
    val_main_v35 (F := Ideal) x mod w (ix2 R C) = project x mod w R (sixth 2 C) := by
  rw [val_main_v35_apply, show idx_main_v35 (ix2 R C) = ix3 (seqOf R) (posOf R) C from place33 R C, part2, token_eq]

theorem before_eq (R : Fin 16384) (C : Fin 512) :
    val_main_v39 (F := Ideal) x mod w (ix2 R C) = project x mod w R (sixth 3 C) := by
  rw [val_main_v39_apply, show idx_main_v39 (ix2 R C) = ix3 (seqOf R) (posOf R) C from place33 R C, part3, token_eq]

theorem conv_eq (R : Fin 16384) (C : Fin 512) :
    val_main_v41 (F := Ideal) x mod w (ix2 R C) = project x mod w R (sixth 4 C) * project x mod w R (sixth 5 C) := by
  rw [val_main_v41_apply, show idx_main_v41 (ix2 R C) = ix3 (seqOf R) (posOf R) C from place33 R C, val_main_v40_apply, part4,
    part5, token_eq]
  rfl

/-! ## The gates -/

/-- Lane `l` of the eight, of 128. -/
def lane (l : Fin 8) : Fin 128 := ⟨l.val, by omega⟩

theorem logit_eq (b : Fin 2) (s : Fin 8192) (l : Fin 8) :
    val_main_v28 (F := Ideal) x mod wf bf (ix3 b s l) = project x mod wf (token b s) (lane l) + bf (ix2 0 (lane l)) := by
  rw [val_main_v28_apply]
  refine congrArg₂ (· + ·) ?_ ?_
  · rw [val_main_v23_apply]
    refine Finset.sum_congr rfl fun d _ => congrArg₂ (· * ·) ?_ ?_
    · refine (congrArg (val_main_v12 (F := Ideal) x mod) (?_ : lidx_main_v23 (ix3 b s l) d = ix3 b s d)).trans (modulated_eq x mod b s d)
      funext a
      match a with
      | ⟨0, _⟩ => rfl
      | ⟨1, _⟩ => rfl
      | ⟨2, _⟩ => rfl
    · rw [val_main_v22_apply, val_main_v21_apply]
      show wf _ = wf _
      congr 1
      funext a
      match a with
      | ⟨0, _⟩ => rfl
      | ⟨1, _⟩ => rfl
  · rw [val_main_v27_apply, val_main_v26_apply, val_main_v25_apply, val_main_v24_apply]
    congr 1
    funext a
    match a with
    | ⟨0, _⟩ => exact Subsingleton.elim (α := Fin 1) _ _
    | ⟨1, _⟩ => exact Fin.ext (by show l.val % 8 = l.val; omega)

theorem gate_eq (b : Fin 2) (s : Fin 8192) (l : Fin 8) :
    val_main_v29 (F := Ideal) x mod wf bf (ix3 b s l)
      = logSigmoid (project x mod wf (token b s) (lane l) + bf (ix2 0 (lane l))) := by
  rw [← logSigmoid_eq, ← logit_eq]
  generalize hz : val_main_v28 (F := Ideal) x mod wf bf (ix3 b s l) = z
  have h0 : val_main_call0_v0 (F := Ideal) x mod wf bf (ix3 b s l) = -z := by rw [← hz]; rfl
  have hc : val_main_call0_call0_v0 (F := Ideal) (ix3 b s l) = 0 := Ideal.ofBits_zero_f32
  have h3 : val_main_call0_call0_v3 (F := Ideal) x mod wf bf (ix3 b s l) = -z := by
    rw [val_main_call0_call0_v3_apply, h0, show val_main_call0_call0_v2 (F := Ideal) (ix3 b s l) = 0 from Ideal.ofBits_zero_f32]
    exact sub_zero _
  rw [val_main_v29_apply, val_main_call0_v1_apply, val_main_call0_call0_v4_apply, h3,
    show FloatOps.cmpf (F := Ideal) (φ := .f32) .une (-z) (-z) = 0#1 from by
      show BitVec.ofBool (decide (-z ≠ -z)) = 0#1
      rw [decide_eq_false (fun h => h rfl)]
      rfl,
    val_main_call0_call0_v11_apply, val_main_call0_call0_v1_apply, val_main_call0_call0_v10_apply, val_main_call0_call0_v9_apply,
    val_main_call0_call0_v8_apply, val_main_call0_call0_v7_apply, h0, h3, hc]
  rfl

theorem place42 (R : Fin 16384) (l : Fin 128) : idx_main_v42 (ix2 R l) = ix3 (seqOf R) (posOf R) l := by
  funext a
  match a with
  | ⟨0, _⟩ => exact Fin.ext (by show (R.val * 128 + l.val) / 1048576 = R.val / 8192; omega)
  | ⟨1, _⟩ => exact Fin.ext (by show (R.val * 128 + l.val) / 128 % 8192 = R.val % 8192; omega)
  | ⟨2, _⟩ => exact Fin.ext (by show (R.val * 128 + l.val) % 128 = l.val; omega)

theorem gates_eq (R : Fin 16384) (l : Fin 128) :
    val_main_v42 (F := Ideal) x mod wf bf (ix2 R l) = gates x mod wf bf R l := by
  rw [val_main_v42_apply, place42, gates]
  unfold val_main_v30
  by_cases h : l.val < 8
  · rw [if_pos h]
    refine (pad_apply_of_inside _ _ _ _ _ _ _ _ (ix3 (seqOf R) (posOf R) ⟨l.val, h⟩) (fun a => ?_)).trans ?_
    · match a with
      | ⟨0, _⟩ => show (seqOf R).val = 0 + (seqOf R).val * (0 + 1); omega
      | ⟨1, _⟩ => show (posOf R).val = 0 + (posOf R).val * (0 + 1); omega
      | ⟨2, _⟩ => show l.val = 0 + l.val * (0 + 1); omega
    · rw [gate_eq, token_eq]
      rfl
  · rw [if_neg h]
    refine (pad_apply_of_not_inside _ _ _ _ _ _ _ _ (2 : Fin 3) (fun hin => h ?_)).trans ?_
    · have h2 : (l.val - 0) / (0 + 1) < 8 := hin.2.2
      omega
    · show (((0#32 : BitVec 32).toInt : ℝ) : EReal) = 0
      norm_num

end Cert.EvenIn.Ref

end
-- ==== Proof.EvenInClaim.lean ====
/- The claims about the projection before the gated attention: the three programs leave their arguments and their
   counters as they were, and over the extended reals the kernel's eight results are the reference's. -/
module

public import proofs.«01_k».proof.Defs
public import proofs.«01_k».proof.Proof.EvenInValue
public import proofs.«01_k».proof.Proof.EvenInRef
public import proofs.«01_k».proof.Proof.Gen.EvenIn.Frame
public import proofs.«01_k».proof.Proof.Gen.EvenInRefIdeal.Run

@[expose] public section

noncomputable section

namespace Cert.EvenIn.Claims

open Idealize.ShloMosaic Idealize.ShloMosaic.ValueIdx Idealize.ShloMosaic.TcCoe Idealize.SL.Sem

theorem frame_kernel : Cert.quiescent_EvenIn := fun m ρ _ => Cert.EvenIn.Gen.frame m ρ

theorem frame_ideal : Cert.quiescent_EvenInIdeal := fun m ρ _ => Cert.EvenInIdeal.Gen.frame m ρ

theorem frame_reference : Cert.quiescent_EvenInRefIdeal := fun m ρ _ =>
  (θ_run Cert.EvenInRefIdeal.defs _ _).mono (fun r h => ⟨fun c => (h c).2.2.2.2.2.2.2.2, sem_eq_zero_of_no_sems (by decide) r.2⟩)
    (Cert.EvenInRefIdeal.Value.run (F := Ideal) m ρ)

theorem preserves : Cert.preserves_EvenIn_EvenInIdeal := trivial

theorem algebraic : Cert.algebraic_EvenInIdeal_EvenInRefIdeal := by
  intro m ρ m' ρ' _ hagree
  refine ⟨_, _, _, _, _, _, _, _, Cert.EvenInIdeal.Value.run_blocks m ρ, ?_⟩
  refine (θ_run Cert.EvenInRefIdeal.defs _ _).mono (fun _ h c => ?_) (Cert.EvenInRefIdeal.Value.run (F := Ideal) m' ρ')
  obtain ⟨g0, g1, g2, g3, g4, g5, g6, g7, g⟩ := h c
  obtain ⟨h0, h1, h2, h3, h4⟩ := hagree c
  refine ⟨g0.trans ?_, g1.trans ?_, g2.trans ?_, g3.trans ?_, g4.trans ?_, g5.trans ?_, g6.trans ?_, g7.trans ?_, g⟩
  · rw [Cert.EvenInRefIdeal.Read.val_main_v36_eq, h0, h1, h2]
    funext j
    rw [eq_ix2 j]
    exact (Ref.queries_eq _ _ _ _ _).trans (Value.result6 m c _ _).symm
  · rw [Cert.EvenInRefIdeal.Read.val_main_v37_eq, h0, h1, h2]
    funext j
    rw [eq_ix2 j]
    exact (Ref.keys_eq _ _ _ _ _).trans (Value.result7 m c _ _).symm
  · rw [Cert.EvenInRefIdeal.Read.val_main_v38_eq, h0, h1, h2]
    funext j
    rw [eq_ix2 j]
    exact (Ref.values_eq _ _ _ _ _).trans (Value.result8 m c _ _).symm
  · rw [Cert.EvenInRefIdeal.Read.val_main_v34_eq, h0, h1, h2]
    funext j
    rw [eq_ix2 j]
    exact (Ref.keys_eq _ _ _ _ _).trans (Value.result9 m c _ _).symm
  · rw [Cert.EvenInRefIdeal.Read.val_main_v35_eq, h0, h1, h2]
    funext j
    rw [eq_ix2 j]
    exact (Ref.values_eq _ _ _ _ _).trans (Value.result10 m c _ _).symm
  · rw [Cert.EvenInRefIdeal.Read.val_main_v39_eq, h0, h1, h2]
    funext j
    rw [eq_ix2 j]
    exact (Ref.before_eq _ _ _ _ _).trans (Value.result11 m c _ _).symm
  · rw [Cert.EvenInRefIdeal.Read.val_main_v41_eq, h0, h1, h2]
    funext j
    rw [eq_ix2 j]
    exact (Ref.conv_eq _ _ _ _ _).trans (Value.result12 m c _ _).symm
  · rw [Cert.EvenInRefIdeal.Read.val_main_v42_eq, h0, h1, h3, h4]
    funext j
    rw [eq_ix2 j]
    exact (Ref.gates_eq _ _ _ _ _ _).trans (Value.result13 m c _ _).symm

end Cert.EvenIn.Claims

end
-- ==== Proof.Out.lean ====
/- The end of a mixer, over whole arrays: the heads' results against a matrix of weights, scaled by one plus the
   sequence's third chunk and added to `alpha` times the row; each row is then centred, divided by the root of its variance
   and scaled and shifted per column. Also what the calls' blocks of 512 rows compute, entry by entry. -/
module

public import proofs.«01_k».proof.Proof.Proj
public import proofs.«01_k».proof.Proof.Update
public import Idealize.ShloMosaic.Lib.KernelVsHost

@[expose] public section

noncomputable section

namespace Cert.Out

open Idealize.ShloMosaic Idealize.ShloMosaic.ValueIdx Cert.Diff Cert.Proj Cert.Flash
open scoped BigOperators

/-- The weights. -/
abbrev Square : Shape := ⟨2, ![1024, 1024]⟩

/-- The fourth root of 8. -/
def alpha : EReal := ((Real.sqrt (Real.sqrt 8) : ℝ) : EReal)

/-- The words of 1024 and of the number under the root. -/
def width : EReal := Ideal.ofBits .f32 0x44800000#32
def small : EReal := Ideal.ofBits .f32 0x3727C5AC#32

/-- A row's mean and its variance. -/
def mean (z : Fin 1024 → EReal) : EReal := Ideal.div (∑ d, z d) width
def variance (z : Fin 1024 → EReal) : EReal := Ideal.div (∑ d, (z d - mean z) * (z d - mean z)) width

/-- A normed row, scaled and shifted. -/
def normed (z : Fin 1024 → EReal) (g b : One.Idx → EReal) (d : Fin 1024) : EReal :=
  (z d - mean z) * Ideal.rsqrt (variance z + small) * g (ix2 0 d) + b (ix2 0 d)

/-- Row `R` before the norm. -/
def stream (o : Tokens.Idx → EReal) (w : Square.Idx → EReal) (x : Tokens.Idx → EReal) (mod : Chunks.Idx → EReal)
    (R : Fin 16384) (d : Fin 1024) : EReal :=
  alpha * x (ix2 R d) + (one + mod (ix3 (seqOf R) 0 (chunk 2 d))) * ∑ k : Fin 1024, o (ix2 R k) * w (ix2 k d)

/-- Row `k` of the weights' upper and lower half. -/
def upper (k : Fin 512) : Fin 1024 := ⟨k.val, by omega⟩
def lower (k : Fin 512) : Fin 1024 := ⟨512 + k.val, by omega⟩

/-- Two arrays of 512 columns side by side. -/
def beside (p q : (⟨2, ![16384, 512]⟩ : Shape).Idx → EReal) : Tokens.Idx → EReal := fun j =>
  if h : (j 1).val < 512 then p (ix2 (j 0) ⟨(j 1).val, h⟩)
  else q (ix2 (j 0) ⟨(j 1).val - 512, by have h1 : (j 1).val < 1024 := (j 1).isLt; omega⟩)

theorem beside_upper (p q : (⟨2, ![16384, 512]⟩ : Shape).Idx → EReal) (R : Fin 16384) (k : Fin 512) :
    beside p q (ix2 R (upper k)) = p (ix2 R k) := dif_pos k.isLt

theorem beside_lower (p q : (⟨2, ![16384, 512]⟩ : Shape).Idx → EReal) (R : Fin 16384) (k : Fin 512) :
    beside p q (ix2 R (lower k)) = q (ix2 R k) := by
  refine (dif_neg (show ¬ 512 + k.val < 512 by omega)).trans (congrArg (fun l => q (ix2 R l)) (Fin.ext ?_))
  show 512 + k.val - 512 = k.val
  omega

/-- The sum over two arrays side by side, in its halves. -/
theorem stream_beside (p q : (⟨2, ![16384, 512]⟩ : Shape).Idx → EReal) (w : Square.Idx → EReal) (x : Tokens.Idx → EReal)
    (mod : Chunks.Idx → EReal) (R : Fin 16384) (d : Fin 1024) :
    stream (beside p q) w x mod R d
      = alpha * x (ix2 R d) + (one + mod (ix3 (seqOf R) 0 (chunk 2 d)))
        * (∑ k : Fin 512, p (ix2 R k) * w (ix2 (upper k) d) + ∑ k : Fin 512, q (ix2 R k) * w (ix2 (lower k) d)) := by
  refine congrArg (fun y => alpha * x (ix2 R d) + (one + mod (ix3 (seqOf R) 0 (chunk 2 d))) * y) ?_
  refine (Fin.sum_univ_add (a := 512) (b := 512) fun k : Fin 1024 => beside p q (ix2 R k) * w (ix2 k d)).trans ?_
  refine congrArg₂ (· + ·) (Finset.sum_congr rfl fun k _ => ?_) (Finset.sum_congr rfl fun k _ => ?_)
  · exact congrArg (· * w (ix2 (upper k) d)) (beside_upper p q R k)
  · exact congrArg (· * w (ix2 (lower k) d)) (beside_lower p q R k)

/-! ## What a block computes -/

/-- The rows' means as a column. -/
def means (hr : Shape.Reduces Rows [1] Row) (hc : Row.ShapeCasts Col) (z : FVec Ideal Rows .f32) : FVec Ideal Col .f32 :=
  divf (shapeCast Col (multiReduction .add [1] Row z 0x00000000#32 hr (.inl rfl) rfl) hc)
    (broadcast Col (Scalar.ofBits (F := Ideal) .f32 0x44800000#32))

theorem means_apply (hr : Shape.Reduces Rows [1] Row) (hc : Row.ShapeCasts Col) (z : FVec Ideal Rows .f32) (r : Fin 512) :
    means hr hc z (ix2 r 0) = mean fun d => z (ix2 r d) :=
  congrArg (Ideal.div · width) (rowSum_apply z hr (.inl rfl) rfl hc r)

/-- The centred rows. -/
def centred (hr : Shape.Reduces Rows [1] Row) (hc : Row.ShapeCasts Col) (hb : Col.Broadcasts Rows) (z : FVec Ideal Rows .f32) :
    FVec Ideal Rows .f32 :=
  subf z (broadcastTo Rows (means hr hc z) hb)

theorem centred_apply (hr : Shape.Reduces Rows [1] Row) (hc : Row.ShapeCasts Col) (hb : Col.Broadcasts Rows)
    (z : FVec Ideal Rows .f32) (r : Fin 512) (d : Fin 1024) :
    centred hr hc hb z (ix2 r d) = z (ix2 r d) - mean fun d => z (ix2 r d) :=
  congrArg (z (ix2 r d) - ·) ((broadcastCol_apply _ hb r d).trans (means_apply hr hc z r))

/-- The normed rows. -/
def norm (hr : Shape.Reduces Rows [1] Row) (hc : Row.ShapeCasts Col) (hb : Col.Broadcasts Rows) (hb' : Shape.Broadcasts One Rows)
    (z : FVec Ideal Rows .f32) (g b : FVec Ideal One .f32) : FVec Ideal Rows .f32 :=
  addf (mulf (mulf (centred hr hc hb z)
      (broadcastTo Rows (rsqrt (addf (means hr hc (mulf (centred hr hc hb z) (centred hr hc hb z)))
        (broadcast Col (Scalar.ofBits (F := Ideal) .f32 0x3727C5AC#32)))) hb))
    (broadcastTo Rows g hb')) (broadcastTo Rows b hb')

theorem norm_apply (hr : Shape.Reduces Rows [1] Row) (hc : Row.ShapeCasts Col) (hb : Col.Broadcasts Rows)
    (hb' : Shape.Broadcasts One Rows) (z : FVec Ideal Rows .f32) (g b : FVec Ideal One .f32) (r : Fin 512) (d : Fin 1024) :
    norm hr hc hb hb' z g b (ix2 r d) = normed (fun d => z (ix2 r d)) g b d := by
  refine congrArg₂ (· + ·) (congrArg₂ (· * ·) (congrArg₂ (· * ·) (centred_apply hr hc hb z r d) ?_) (spread_row hb' g r d))
    (spread_row hb' b r d)
  refine (broadcastCol_apply _ hb r d).trans (congrArg (fun v => Ideal.rsqrt (v + small)) ?_)
  refine (means_apply hr hc _ r).trans (congrArg (Ideal.div · width) (Finset.sum_congr rfl fun k _ => ?_))
  exact congrArg₂ (· * ·) (centred_apply hr hc hb z r k) (centred_apply hr hc hb z r k)

/-- The rows before the norm, from their products. -/
def before (hc : Shape.ShapeCasts Chunk One) (hb : Shape.Broadcasts One Rows) (a : EReal) (x y : FVec Ideal Rows .f32)
    (g : FVec Ideal Chunk .f32) : FVec Ideal Rows .f32 :=
  addf (mulf (broadcast Rows (a : Ideal .f32)) x)
    (mulf (broadcastTo Rows (addf (broadcast One (Scalar.ofBits (F := Ideal) .f32 0x3F800000#32)) (shapeCast One g hc)) hb) y)

theorem before_apply (hc : Shape.ShapeCasts Chunk One) (hb : Shape.Broadcasts One Rows) (a : EReal) (x y : FVec Ideal Rows .f32)
    (g : FVec Ideal Chunk .f32) (r : Fin 512) (d : Fin 1024) :
    before hc hb a x y g (ix2 r d) = a * x (ix2 r d) + (one + g (ix3 0 0 d)) * y (ix2 r d) :=
  congrArg (fun v => a * x (ix2 r d) + v * y (ix2 r d))
    ((spread_row hb _ r d).trans (congrArg (one + ·) (chunk_row hc g d)))

end Cert.Out

end
-- ==== Proof.OddOutValue.lean ====
/- The call behind the differential attention, over whole arrays: its result is the normed rows. -/
module

public import proofs.«01_k».proof.Proof.Out
public import proofs.«01_k».proof.Proof.Gen.OddOutIdeal.Value
public import Idealize.ShloMosaic.Lib.Pipeline.Covers

@[expose] public section

noncomputable section

namespace Cert.OddOut.Value

open Idealize.ShloMosaic Idealize.ShloMosaic.Ideal Idealize.ShloMosaic.ValueIdx Idealize.ShloMosaic.TcCoe
open Idealize.SL.Sem
open Cert.OddOutIdeal Cert.OddOutIdeal.Gen Cert.OddOutIdeal.Value Cert.Diff Cert.Proj Cert.Out
open scoped BigOperators

/-- The kernel's constant is the fourth root of 8. -/
theorem alpha_eq : (Named.named κ "alpha" 0x3FD744FD#32 : Ideal .f32) = alpha :=
  IdealRules.named_const.ideal_named_scalar _ _ _ _ rfl

/-! ## A block -/

section Blocks

variable (o : Vec Ideal S512x1024 .f32) (w : Vec Ideal S1024x1024 .bf16) (x : Vec Ideal S512x1024 .f32)
  (g : Vec Ideal S1x1x1024 .f32) (lg lb : Vec Ideal S1x1024 .f32)

/-- A block's row before the norm. -/
def sums (r : Fin 512) (d : Fin 1024) : EReal :=
  alpha * x (ix2 r d) + (one + g (ix3 0 0 d)) * ∑ k : Fin 1024, o (ix2 r k) * w (ix2 k d)

/-- What a point writes. -/
theorem out_apply (r : Fin 512) (d : Fin 1024) : out0_6 o w x g lg lb (ix2 r d) = normed (sums o w x g r) lg lb d := by
  unfold out0_6
  rw [View.canon_unit_zero (by decide), show View.ld o r0_0 = o from View.ld_unit_zero (by decide) _ o,
    show View.ld w r0_1 = w from View.ld_unit_zero (by decide) _ w, show View.ld x r0_0 = x from View.ld_unit_zero (by decide) _ x,
    show View.ld g r0_2 = g from View.ld_unit_zero (by decide) _ g,
    show View.ld lg r0_3 = lg from View.ld_unit_zero (by decide) _ lg,
    show View.ld lb r0_3 = lb from View.ld_unit_zero (by decide) _ lb]
  refine (norm_apply reduces_S512x1024_S512 shapeCasts_S512_S512x1 broadcasts_S512x1_S512x1024 broadcasts_S1x1024_S512x1024
    (before shapeCasts_S1x1x1024_S1x1024 broadcasts_S1x1024_S512x1024 (Named.named κ "alpha" 0x3FD744FD#32 : Ideal .f32) x
      (matmul (φ₂ := .bf16) dot_S512x1024_S1024x1024_S512x1024_1_0_0_1_n_n none (truncf .bf16 o bitsLt_bf16_f32) w
        (constant S512x1024 .f32 0x00000000#32)) g) lg lb r d).trans ?_
  refine congrArg (normed · lg lb d) (funext fun d => ?_)
  refine (before_apply _ _ _ x _ g r d).trans ?_
  rw [alpha_eq, sums]
  exact congrArg (fun y => alpha * x (ix2 r d) + (one + g (ix3 0 0 d)) * y)
    (product_apply none (truncf .bf16 o bitsLt_bf16_f32) w r d)

end Blocks

/-! ## Which block a grid point has -/

/-- The point's number. -/
def point (i : grid0.Coords) : Fin 32 := i 0

/-- The point of a number. -/
def coords (n : Fin 32) : grid0.Coords := fun a => match a with
  | ⟨0, _⟩ => n

theorem map_rows (i : grid0.Coords) : cc0_transform_0 i = ![(point i).val, 0] :=
  (by decide +kernel : ∀ a : Fin 32, ![(BitVec.ofNat 32 a.val).toNat, (0#32 : BitVec 32).toNat] = ![a.val, 0]) (i 0)

theorem map_gate (i : grid0.Coords) : cc0_transform_3 i = ![(point i).val / 16, 0, 2] :=
  (by decide +kernel : ∀ a : Fin 32, cc0_transform_3 (coords a) = ![a.val / 16, 0, 2]) (i 0)

variable (m : (ℓ : Loc nD τ sig) → Buf (Elt Ideal) ℓ) (c : Dev nD) (t : Fin cfg0.N)

/-- The call's arguments. -/
abbrev argO : Tokens.Idx → EReal := m ((c : Thread nD τ).loc main_arg0)
abbrev argW : S1024x1024.Idx → EReal := m ((c : Thread nD τ).loc main_arg1)
abbrev argX : Tokens.Idx → EReal := m ((c : Thread nD τ).loc main_arg2)
abbrev argM : Chunks.Idx → EReal := m ((c : Thread nD τ).loc main_arg3)
abbrev argG : S1x1024.Idx → EReal := m ((c : Thread nD τ).loc main_arg4)
abbrev argB : S1x1024.Idx → EReal := m ((c : Thread nD τ).loc main_arg5)

theorem heads_block (r : Fin 512) (d : Fin 1024) :
    iblk m c 0 t (ix2 r d) = argO m c (ix2 (row (point (grid0.coords t)) r) d) := by
  show _ = m ((c : Thread nD τ).loc main_arg0) _
  rw [← V_main_arg0 m c]
  show V m c main_arg0 _ = V m c main_arg0 _
  congr 1
  funext a
  match a with
  | ⟨0, _⟩ => exact Fin.ext ((win0_0.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_0.rect_emb_val t (ix2 r d) 1).trans (by
      show cc0_transform_0 (grid0.coords t) 1 * 1024 + d.val = d.val
      rw [map_rows]; show 0 * 1024 + d.val = _; omega))

theorem row_block (r : Fin 512) (d : Fin 1024) :
    iblk m c 2 t (ix2 r d) = argX m c (ix2 (row (point (grid0.coords t)) r) d) := by
  show _ = m ((c : Thread nD τ).loc main_arg2) _
  rw [← V_main_arg2 m c]
  show V m c main_arg2 _ = V m c main_arg2 _
  congr 1
  funext a
  match a with
  | ⟨0, _⟩ => exact Fin.ext ((win0_2.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_2.rect_emb_val t (ix2 r d) 1).trans (by
      show cc0_transform_0 (grid0.coords t) 1 * 1024 + d.val = d.val
      rw [map_rows]; show 0 * 1024 + d.val = _; omega))

theorem weight_block : iblk m c 1 t = argW m c := by
  show _ = m ((c : Thread nD τ).loc main_arg1)
  rw [← V_main_arg1 m c]
  funext j
  show V m c main_arg1 _ = V m c main_arg1 _
  congr 1
  funext a
  exact Fin.ext ((win0_1.rect_emb_val t j a).trans (by
    match a with
    | ⟨0, _⟩ => show 0 * 1024 + (j 0).val = (j 0).val; omega
    | ⟨1, _⟩ => show 0 * 1024 + (j 1).val = (j 1).val; omega))

theorem gain_block : iblk m c 4 t = argG m c := by
  show _ = m ((c : Thread nD τ).loc main_arg4)
  rw [← V_main_arg4 m c]
  funext j
  show V m c main_arg4 _ = V m c main_arg4 _
  congr 1
  funext a
  exact Fin.ext ((win0_4.rect_emb_val t j a).trans (by
    match a with
    | ⟨0, _⟩ => show 0 * 1 + (j 0).val = (j 0).val; omega
    | ⟨1, _⟩ => show 0 * 1024 + (j 1).val = (j 1).val; omega))

theorem bias_block : iblk m c 5 t = argB m c := by
  show _ = m ((c : Thread nD τ).loc main_arg5)
  rw [← V_main_arg5 m c]
  funext j
  show V m c main_arg5 _ = V m c main_arg5 _
  congr 1
  funext a
  exact Fin.ext ((win0_5.rect_emb_val t j a).trans (by
    match a with
    | ⟨0, _⟩ => show 0 * 1 + (j 0).val = (j 0).val; omega
    | ⟨1, _⟩ => show 0 * 1024 + (j 1).val = (j 1).val; omega))

theorem gate_block (d : Fin 1024) :
    iblk m c 3 t (ix3 0 0 d) = argM m c (ix3 (seqAt (point (grid0.coords t))) 0 (chunk 2 d)) := by
  show _ = m ((c : Thread nD τ).loc main_arg3) _
  rw [← V_main_arg3 m c]
  show V m c main_arg3 _ = V m c main_arg3 _
  congr 1
  funext a
  match a with
  | ⟨0, _⟩ => exact Fin.ext ((win0_3.rect_emb_val t (ix3 0 0 d) 0).trans (by
      show cc0_transform_3 (grid0.coords t) 0 * 1 + 0 = (point (grid0.coords t)).val / 16
      rw [map_gate]; show (point (grid0.coords t)).val / 16 * 1 + 0 = _; omega))
  | ⟨1, _⟩ => exact Fin.ext ((win0_3.rect_emb_val t (ix3 0 0 d) 1).trans (by
      show cc0_transform_3 (grid0.coords t) 1 * 1 + 0 = 0
      rw [map_gate]; rfl))
  | ⟨2, _⟩ => exact Fin.ext ((win0_3.rect_emb_val t (ix3 0 0 d) 2).trans (by
      show cc0_transform_3 (grid0.coords t) 2 * 1024 + d.val = 1024 * 2 + d.val
      rw [map_gate]; show 2 * 1024 + d.val = _; omega))

/-- A point's rows before the norm, over the arrays. -/
theorem sums_eq (r : Fin 512) :
    sums (iblk m c 0 t) (iblk m c 1 t) (iblk m c 2 t) (iblk m c 3 t) r
      = stream (argO m c) (argW m c) (argX m c) (argM m c) (row (point (grid0.coords t)) r) := by
  funext d
  rw [sums, stream, seqOf_row, weight_block]
  refine congrArg₂ (· + ·) (congrArg (alpha * ·) (row_block m c t r d)) (congrArg₂ (· * ·) (congrArg (one + ·) (gate_block m c t d))
    (Finset.sum_congr rfl fun k _ => ?_))
  exact congrArg (· * argW m c (ix2 k d)) (heads_block m c t r k)

/-- Where a point's result lies. -/
theorem place (r : Fin 512) (d : Fin 1024) :
    ((cfg0.win 6).blk t).view.emb (ix2 r d : S512x1024.Idx) = (ix2 (row (point (grid0.coords t)) r) d : S16384x1024.Idx) := by
  funext a
  match a with
  | ⟨0, _⟩ => exact Fin.ext ((win0_6.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_6.rect_emb_val t (ix2 r d) 1).trans (by
      show cc0_transform_0 (grid0.coords t) 1 * 1024 + d.val = d.val
      rw [map_rows]; show 0 * 1024 + d.val = _; omega))

/-- Every row is a point's. -/
theorem exists_point (R : Fin 16384) : ∃ (t : Fin cfg0.N) (r : Fin 512), row (point (grid0.coords t)) r = R := by
  obtain ⟨n, r, h⟩ := exists_row R
  obtain ⟨t, ht⟩ := grid0.coords_surjective (fun a => match a with
    | ⟨0, _⟩ => n)
  exact ⟨t, r, by rw [show point (grid0.coords t) = n by rw [ht]; rfl, h]⟩

/-- The result. -/
theorem result (R : Fin 16384) (C : Fin 1024) :
    (dats m 0 c).arrAt 6 cfg0.N (ix2 R C : S16384x1024.Idx)
      = normed (stream (argO m c) (argW m c) (argX m c) (argM m c) R) (argG m c) (argB m c) C := by
  obtain ⟨t, r, rfl⟩ := exists_point R
  rw [← place t r C]
  refine ((dats m 0 c).arrAt_emb_eq_flushed 6 disjoint6 t (flush0_6 t) (ix2 r C : S512x1024.Idx)).trans ?_
  rw [_root_.cast_eq, flushed6]
  refine (out_apply (iblk m c 0 t) (iblk m c 1 t) (iblk m c 2 t) (iblk m c 3 t) (iblk m c 4 t) (iblk m c 5 t) r C).trans ?_
  rw [sums_eq, gain_block, bias_block]

end Cert.OddOut.Value

end
-- ==== Proof.OddOutRef.lean ====
/- The reference of the call behind the differential attention, read at an entry. -/
module

public import proofs.«01_k».proof.Proof.Out
public import proofs.«01_k».proof.Proof.OddInRef
public import proofs.«01_k».proof.Proof.Gen.OddOutRefIdeal.Read

@[expose] public section

noncomputable section

namespace Cert.OddOut.Ref

open Idealize.ShloMosaic Idealize.ShloMosaic.ValueIdx Cert.OddOutRefIdeal Cert.OddOutRefIdeal.Read Cert.Diff Cert.Proj Cert.Out
open Cert.OddIn.Ref (token_eq)
open scoped BigOperators

/-- The word of 8. -/
theorem eight : Ideal.ofBits .f32 0x41000000#32 = ((8 : ℝ) : EReal) := by
  simp [Ideal.ofBits, Ideal.ieee, -EReal.coe_mul]; norm_num

/-- The host's root of its root is the fourth root. -/
theorem alpha_eq (i : S_.Idx) : val_main_v10 (F := Ideal) i = alpha := by
  show Ideal.sqrt (Ideal.sqrt (Ideal.ofBits .f32 0x41000000#32)) = alpha
  rw [eight, Ideal.sqrt_coe, if_neg (by norm_num), Ideal.sqrt_coe, if_neg (not_lt.mpr (Real.sqrt_nonneg _))]
  rfl

variable (o : Tokens.Idx → EReal) (w : Square.Idx → EReal) (x : Tokens.Idx → EReal) (mod : Chunks.Idx → EReal)
  (g b : One.Idx → EReal)

/-- Where a token's row lies. -/
theorem place6 (n : Fin 2) (s : Fin 8192) (d : Fin 1024) : idx_main_v6 (ix3 n s d) = ix2 (token n s) d := by
  funext a
  match a with
  | ⟨0, _⟩ => exact Fin.ext (by show ((n.val * 8192 + s.val) * 1024 + d.val) / 1024 = 8192 * n.val + s.val; omega)
  | ⟨1, _⟩ => exact Fin.ext (by show ((n.val * 8192 + s.val) * 1024 + d.val) % 1024 = d.val; omega)

theorem product_eq (n : Fin 2) (s : Fin 8192) (d : Fin 1024) :
    val_main_v8 (F := Ideal) o w (ix3 n s d) = ∑ k : Fin 1024, o (ix2 (token n s) k) * w (ix2 k d) := by
  rw [val_main_v8_apply]
  refine Finset.sum_congr rfl fun k _ => congrArg₂ (· * ·) ?_ ?_
  · refine (congrArg (val_main_v6 (F := Ideal) o) (?_ : lidx_main_v8 (ix3 n s d) k = ix3 n s k)).trans ?_
    · funext a
      match a with
      | ⟨0, _⟩ => rfl
      | ⟨1, _⟩ => rfl
      | ⟨2, _⟩ => rfl
    · rw [val_main_v6_apply, place6]
  · show w (ridx_main_v8 (ix3 n s d) k) = w (ix2 k d)
    congr 1
    funext a
    match a with
    | ⟨0, _⟩ => rfl
    | ⟨1, _⟩ => rfl

/-- A row before the norm. -/
theorem stream_eq (n : Fin 2) (s : Fin 8192) (d : Fin 1024) :
    val_main_v18 (F := Ideal) o w x mod (ix3 n s d) = stream o w x mod (token n s) d := by
  rw [val_main_v18_apply, val_main_v13_apply, val_main_v12_apply, alpha_eq, val_main_v11_apply, val_main_v17_apply,
    val_main_v16_apply, val_main_v15_apply, val_main_v14_apply, val_main_v2_apply, product_eq,
    show idx_main_v11 (ix3 n s d) = ix2 (token n s) d from place6 n s d, stream, seqOf_token]
  have h2 : idx_main_v2 (idx_main_v16 (ix3 n s d)) = ix3 n 0 (chunk 2 d) := by
    funext a
    match a with
    | ⟨0, _⟩ => exact Fin.ext rfl
    | ⟨1, _⟩ => exact Fin.ext rfl
    | ⟨2, _⟩ => exact Fin.ext rfl
  rw [h2]
  rfl

/-- The token's row. -/
abbrev line (n : Fin 2) (s : Fin 8192) : Fin 1024 → EReal := fun d => stream o w x mod (token n s) d

theorem mean_eq (n : Fin 2) (s : Fin 8192) :
    val_main_v22 (F := Ideal) o w x mod (ix3 n s 0) = mean (line o w x mod n s) := by
  rw [val_main_v22_apply, val_main_v20_apply, val_main_v19_apply]
  refine congrArg (Ideal.div · width) ?_
  refine (congrArg (· + _) Ideal.ofBits_zero_f32).trans ((zero_add _).trans (Finset.sum_congr rfl fun d _ => ?_))
  refine (congrArg (val_main_v18 (F := Ideal) o w x mod) ?_).trans (stream_eq o w x mod n s d)
  funext a
  match a with
  | ⟨0, _⟩ => rfl
  | ⟨1, _⟩ => rfl
  | ⟨2, _⟩ => rfl

theorem spread_col (n : Fin 2) (s : Fin 8192) (d : Fin 1024) : idx_main_v23 (ix3 n s d) = ix3 n s 0 := by
  funext a
  match a with
  | ⟨0, _⟩ => rfl
  | ⟨1, _⟩ => rfl
  | ⟨2, _⟩ => rfl

theorem centred_eq (n : Fin 2) (s : Fin 8192) (d : Fin 1024) :
    val_main_v24 (F := Ideal) o w x mod (ix3 n s d) = line o w x mod n s d - mean (line o w x mod n s) := by
  rw [val_main_v24_apply, val_main_v23_apply, stream_eq, spread_col, mean_eq]
  rfl

theorem variance_eq (n : Fin 2) (s : Fin 8192) :
    val_main_v29 (F := Ideal) o w x mod (ix3 n s 0) = variance (line o w x mod n s) := by
  rw [val_main_v29_apply, val_main_v27_apply, val_main_v26_apply]
  refine congrArg (Ideal.div · width) ?_
  refine (congrArg (· + _) Ideal.ofBits_zero_f32).trans ((zero_add _).trans (Finset.sum_congr rfl fun d _ => ?_))
  refine (congrArg (val_main_v25 (F := Ideal) o w x mod) (?_ : _ = ix3 n s d)).trans ?_
  · funext a
    match a with
    | ⟨0, _⟩ => rfl
    | ⟨1, _⟩ => rfl
    | ⟨2, _⟩ => rfl
  · rw [val_main_v25_apply, centred_eq]
    rfl

theorem normed_eq (n : Fin 2) (s : Fin 8192) (d : Fin 1024) :
    val_main_v44 (F := Ideal) o w x mod g b (ix3 n s d) = normed (line o w x mod n s) g b d := by
  have hg : idx_main_v37 (idx_main_v38 (idx_main_v39 (ix3 n s d))) = ix2 0 d := by
    funext a
    match a with
    | ⟨0, _⟩ => exact Subsingleton.elim (α := Fin 1) _ _
    | ⟨1, _⟩ => exact Fin.ext (by show d.val % 1024 = d.val; omega)
  have hb : idx_main_v41 (idx_main_v42 (idx_main_v43 (ix3 n s d))) = ix2 0 d := hg
  rw [val_main_v44_apply, val_main_v40_apply, val_main_v36_apply, val_main_v35_apply, val_main_v34_apply, val_main_v33_apply,
    val_main_v43_apply, val_main_v42_apply, val_main_v41_apply, hb, val_main_v39_apply, val_main_v38_apply, val_main_v37_apply, hg,
    show idx_main_v35 (ix3 n s d) = ix3 n s 0 from spread_col n s d, variance_eq,
    show val_main_v31 (F := Ideal) o w x mod (ix3 n s d) = _ from centred_eq o w x mod n s d]
  rfl

theorem place45 (R : Fin 16384) (C : Fin 1024) : idx_main_v45 (ix2 R C) = ix3 (seqOf R) (posOf R) C := by
  funext a
  match a with
  | ⟨0, _⟩ => exact Fin.ext (by show (R.val * 1024 + C.val) / 8388608 = R.val / 8192; omega)
  | ⟨1, _⟩ => exact Fin.ext (by show (R.val * 1024 + C.val) / 1024 % 8192 = R.val % 8192; omega)
  | ⟨2, _⟩ => exact Fin.ext (by show (R.val * 1024 + C.val) % 1024 = C.val; omega)

/-- The result. -/
theorem result_eq (R : Fin 16384) (C : Fin 1024) :
    val_main_v45 (F := Ideal) o w x mod g b (ix2 R C) = normed (stream o w x mod R) g b C := by
  rw [val_main_v45_apply, place45, normed_eq]
  refine congrArg (normed · g b C) (funext fun d => ?_)
  show stream o w x mod (token (seqOf R) (posOf R)) d = _
  rw [token_eq]

end Cert.OddOut.Ref

end
-- ==== Proof.OddOutClaim.lean ====
/- The claims about the call behind the differential attention: the three programs leave their arguments and their counters as they were, and over the
   extended reals the kernel's result is the reference's. -/
module

public import proofs.«01_k».proof.Defs
public import proofs.«01_k».proof.Proof.OddOutValue
public import proofs.«01_k».proof.Proof.OddOutRef
public import proofs.«01_k».proof.Proof.Gen.OddOut.Frame
public import proofs.«01_k».proof.Proof.Gen.OddOutRefIdeal.Run

@[expose] public section

noncomputable section

namespace Cert.OddOut.Claims

open Idealize.ShloMosaic Idealize.ShloMosaic.ValueIdx Idealize.ShloMosaic.TcCoe Idealize.SL.Sem

theorem frame_kernel : Cert.quiescent_OddOut := fun m ρ _ => Cert.OddOut.Gen.frame m ρ

theorem frame_ideal : Cert.quiescent_OddOutIdeal := fun m ρ _ => Cert.OddOutIdeal.Gen.frame m ρ

theorem frame_reference : Cert.quiescent_OddOutRefIdeal := fun m ρ _ =>
  (θ_run Cert.OddOutRefIdeal.defs _ _).mono (fun r h => ⟨fun c => (h c).2, sem_eq_zero_of_no_sems (by decide) r.2⟩)
    (Cert.OddOutRefIdeal.Value.run (F := Ideal) m ρ)

theorem preserves : Cert.preserves_OddOut_OddOutIdeal :=
  IdealRules.named_const.statement Cert.OddOutIdeal.κ "alpha" .f32 0x3FD744FD#32 Cert.Out.alpha rfl

theorem algebraic : Cert.algebraic_OddOutIdeal_OddOutRefIdeal := by
  intro m ρ m' ρ' _ hagree
  refine ⟨_, Cert.OddOutIdeal.Value.run_blocks m ρ, ?_⟩
  refine (θ_run Cert.OddOutRefIdeal.defs _ _).mono (fun _ h c => ?_) (Cert.OddOutRefIdeal.Value.run (F := Ideal) m' ρ')
  obtain ⟨g0, g⟩ := h c
  obtain ⟨h0, h1, h2, h3, h4, h5⟩ := hagree c
  refine ⟨g0.trans ?_, g⟩
  rw [Cert.OddOutRefIdeal.Read.val_main_v45_eq, h0, h1, h2, h3, h4, h5]
  funext j
  rw [eq_ix2 j]
  exact (Ref.result_eq _ _ _ _ _ _ _ _).trans (Value.result m c _ _).symm

end Cert.OddOut.Claims

end
-- ==== Proof.EvenOutValue.lean ====
/- The call behind the gated attention and the convolution, over whole arrays: its result is the normed rows, with
   the two arrays side by side. -/
module

public import proofs.«01_k».proof.Proof.Out
public import proofs.«01_k».proof.Proof.Gen.EvenOutIdeal.Value
public import Idealize.ShloMosaic.Lib.Pipeline.Covers

@[expose] public section

noncomputable section

namespace Cert.EvenOut.Value

open Idealize.ShloMosaic Idealize.ShloMosaic.Ideal Idealize.ShloMosaic.ValueIdx Idealize.ShloMosaic.TcCoe
open Idealize.SL.Sem
open Cert.EvenOutIdeal Cert.EvenOutIdeal.Gen Cert.EvenOutIdeal.Value Cert.Diff Cert.Proj Cert.Out
open scoped BigOperators

/-- The kernel's constant is the fourth root of 8. -/
theorem alpha_eq : (Named.named κ "alpha" 0x3FD744FD#32 : Ideal .f32) = alpha :=
  IdealRules.named_const.ideal_named_scalar _ _ _ _ rfl

/-! ## A block -/

section Blocks

variable (o₁ o₂ : Vec Ideal S512x512 .f32) (w : Vec Ideal S1024x1024 .bf16) (x : Vec Ideal S512x1024 .f32)
  (g : Vec Ideal S1x1x1024 .f32) (lg lb : Vec Ideal S1x1024 .f32)

/-- A block's row before the norm: the first 512 rows of the weights go with the one array, the last with the other. -/
def sums (r : Fin 512) (d : Fin 1024) : EReal :=
  alpha * x (ix2 r d) + (one + g (ix3 0 0 d)) * (∑ k : Fin 512, o₁ (ix2 r k) * w (ix2 (upper k) d)
    + ∑ k : Fin 512, o₂ (ix2 r k) * w (ix2 (lower k) d))

theorem read_upper (k : Fin 512) (d : Fin 1024) : View.ld w r0_1 (ix2 k d) = w (ix2 (upper k) d) := by
  show w _ = w _
  congr 1
  funext a
  match a with
  | ⟨0, _⟩ => exact Fin.ext (by show 0 + 1 * k.val = k.val; omega)
  | ⟨1, _⟩ => exact Fin.ext (by show 0 + 1 * d.val = d.val; omega)

theorem read_lower (k : Fin 512) (d : Fin 1024) : View.ld w r0_2 (ix2 k d) = w (ix2 (lower k) d) := by
  show w _ = w _
  congr 1
  funext a
  match a with
  | ⟨0, _⟩ => exact Fin.ext (by show 512 + 1 * k.val = 512 + k.val; omega)
  | ⟨1, _⟩ => exact Fin.ext (by show 0 + 1 * d.val = d.val; omega)

/-- What a point writes. -/
theorem out_apply (r : Fin 512) (d : Fin 1024) :
    out0_7 o₁ o₂ w x g lg lb (ix2 r d) = normed (sums o₁ o₂ w x g r) lg lb d := by
  unfold out0_7
  rw [View.canon_unit_zero (by decide), show View.ld o₁ r0_0 = o₁ from View.ld_unit_zero (by decide) _ o₁,
    show View.ld o₂ r0_0 = o₂ from View.ld_unit_zero (by decide) _ o₂, show View.ld x r0_3 = x from View.ld_unit_zero (by decide) _ x,
    show View.ld g r0_4 = g from View.ld_unit_zero (by decide) _ g,
    show View.ld lg r0_5 = lg from View.ld_unit_zero (by decide) _ lg,
    show View.ld lb r0_5 = lb from View.ld_unit_zero (by decide) _ lb]
  refine (norm_apply reduces_S512x1024_S512 shapeCasts_S512_S512x1 broadcasts_S512x1_S512x1024 broadcasts_S1x1024_S512x1024
    (before shapeCasts_S1x1x1024_S1x1024 broadcasts_S1x1024_S512x1024 (Named.named κ "alpha" 0x3FD744FD#32 : Ideal .f32) x
      (addf (matmul (φ₂ := .bf16) dot_S512x512_S512x1024_S512x1024_1_0_0_1_n_n none (truncf .bf16 o₁ bitsLt_bf16_f32)
          (View.ld w r0_1) (constant S512x1024 .f32 0x00000000#32))
        (matmul (φ₂ := .bf16) dot_S512x512_S512x1024_S512x1024_1_0_0_1_n_n none (truncf .bf16 o₂ bitsLt_bf16_f32)
          (View.ld w r0_2) (constant S512x1024 .f32 0x00000000#32))) g) lg lb r d).trans ?_
  refine congrArg (normed · lg lb d) (funext fun d => ?_)
  refine (before_apply _ _ _ x _ g r d).trans ?_
  rw [alpha_eq, sums]
  refine congrArg (fun y => alpha * x (ix2 r d) + (one + g (ix3 0 0 d)) * y) (congrArg₂ (· + ·) ?_ ?_)
  · refine (product_apply none (truncf .bf16 o₁ bitsLt_bf16_f32) (View.ld w r0_1) r d).trans (Finset.sum_congr rfl fun k _ => ?_)
    exact congrArg (o₁ (ix2 r k) * ·) (read_upper w k d)
  · refine (product_apply none (truncf .bf16 o₂ bitsLt_bf16_f32) (View.ld w r0_2) r d).trans (Finset.sum_congr rfl fun k _ => ?_)
    exact congrArg (o₂ (ix2 r k) * ·) (read_lower w k d)

end Blocks

/-! ## Which block a grid point has -/

/-- The point's number. -/
def point (i : grid0.Coords) : Fin 32 := i 0

/-- The point of a number. -/
def coords (n : Fin 32) : grid0.Coords := fun a => match a with
  | ⟨0, _⟩ => n

theorem map_rows (i : grid0.Coords) : cc0_transform_0 i = ![(point i).val, 0] :=
  (by decide +kernel : ∀ a : Fin 32, ![(BitVec.ofNat 32 a.val).toNat, (0#32 : BitVec 32).toNat] = ![a.val, 0]) (i 0)

theorem map_gate (i : grid0.Coords) : cc0_transform_4 i = ![(point i).val / 16, 0, 2] :=
  (by decide +kernel : ∀ a : Fin 32, cc0_transform_4 (coords a) = ![a.val / 16, 0, 2]) (i 0)

variable (m : (ℓ : Loc nD τ sig) → Buf (Elt Ideal) ℓ) (c : Dev nD) (t : Fin cfg0.N)

/-- The call's arguments. -/
abbrev argO₁ : S16384x512.Idx → EReal := m ((c : Thread nD τ).loc main_arg0)
abbrev argO₂ : S16384x512.Idx → EReal := m ((c : Thread nD τ).loc main_arg1)
abbrev argW : S1024x1024.Idx → EReal := m ((c : Thread nD τ).loc main_arg2)
abbrev argX : Tokens.Idx → EReal := m ((c : Thread nD τ).loc main_arg3)
abbrev argM : Chunks.Idx → EReal := m ((c : Thread nD τ).loc main_arg4)
abbrev argG : S1x1024.Idx → EReal := m ((c : Thread nD τ).loc main_arg5)
abbrev argB : S1x1024.Idx → EReal := m ((c : Thread nD τ).loc main_arg6)

theorem first_block (r : Fin 512) (d : Fin 512) :
    iblk m c 0 t (ix2 r d) = argO₁ m c (ix2 (row (point (grid0.coords t)) r) d) := by
  show _ = m ((c : Thread nD τ).loc main_arg0) _
  rw [← V_main_arg0 m c]
  show V m c main_arg0 _ = V m c main_arg0 _
  congr 1
  funext a
  match a with
  | ⟨0, _⟩ => exact Fin.ext ((win0_0.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_0.rect_emb_val t (ix2 r d) 1).trans (by
      show cc0_transform_0 (grid0.coords t) 1 * 512 + d.val = d.val
      rw [map_rows]; show 0 * 512 + d.val = _; omega))

theorem second_block (r : Fin 512) (d : Fin 512) :
    iblk m c 1 t (ix2 r d) = argO₂ m c (ix2 (row (point (grid0.coords t)) r) d) := by
  show _ = m ((c : Thread nD τ).loc main_arg1) _
  rw [← V_main_arg1 m c]
  show V m c main_arg1 _ = V m c main_arg1 _
  congr 1
  funext a
  match a with
  | ⟨0, _⟩ => exact Fin.ext ((win0_1.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_1.rect_emb_val t (ix2 r d) 1).trans (by
      show cc0_transform_0 (grid0.coords t) 1 * 512 + d.val = d.val
      rw [map_rows]; show 0 * 512 + d.val = _; omega))

theorem row_block (r : Fin 512) (d : Fin 1024) :
    iblk m c 3 t (ix2 r d) = argX m c (ix2 (row (point (grid0.coords t)) r) d) := by
  show _ = m ((c : Thread nD τ).loc main_arg3) _
  rw [← V_main_arg3 m c]
  show V m c main_arg3 _ = V m c main_arg3 _
  congr 1
  funext a
  match a with
  | ⟨0, _⟩ => exact Fin.ext ((win0_3.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_3.rect_emb_val t (ix2 r d) 1).trans (by
      show cc0_transform_0 (grid0.coords t) 1 * 1024 + d.val = d.val
      rw [map_rows]; show 0 * 1024 + d.val = _; omega))

theorem weight_block : iblk m c 2 t = argW m c := by
  show _ = m ((c : Thread nD τ).loc main_arg2)
  rw [← V_main_arg2 m c]
  funext j
  show V m c main_arg2 _ = V m c main_arg2 _
  congr 1
  funext a
  exact Fin.ext ((win0_2.rect_emb_val t j a).trans (by
    match a with
    | ⟨0, _⟩ => show 0 * 1024 + (j 0).val = (j 0).val; omega
    | ⟨1, _⟩ => show 0 * 1024 + (j 1).val = (j 1).val; omega))

theorem gain_block : iblk m c 5 t = argG m c := by
  show _ = m ((c : Thread nD τ).loc main_arg5)
  rw [← V_main_arg5 m c]
  funext j
  show V m c main_arg5 _ = V m c main_arg5 _
  congr 1
  funext a
  exact Fin.ext ((win0_5.rect_emb_val t j a).trans (by
    match a with
    | ⟨0, _⟩ => show 0 * 1 + (j 0).val = (j 0).val; omega
    | ⟨1, _⟩ => show 0 * 1024 + (j 1).val = (j 1).val; omega))

theorem bias_block : iblk m c 6 t = argB m c := by
  show _ = m ((c : Thread nD τ).loc main_arg6)
  rw [← V_main_arg6 m c]
  funext j
  show V m c main_arg6 _ = V m c main_arg6 _
  congr 1
  funext a
  exact Fin.ext ((win0_6.rect_emb_val t j a).trans (by
    match a with
    | ⟨0, _⟩ => show 0 * 1 + (j 0).val = (j 0).val; omega
    | ⟨1, _⟩ => show 0 * 1024 + (j 1).val = (j 1).val; omega))

theorem gate_block (d : Fin 1024) :
    iblk m c 4 t (ix3 0 0 d) = argM m c (ix3 (seqAt (point (grid0.coords t))) 0 (chunk 2 d)) := by
  show _ = m ((c : Thread nD τ).loc main_arg4) _
  rw [← V_main_arg4 m c]
  show V m c main_arg4 _ = V m c main_arg4 _
  congr 1
  funext a
  match a with
  | ⟨0, _⟩ => exact Fin.ext ((win0_4.rect_emb_val t (ix3 0 0 d) 0).trans (by
      show cc0_transform_4 (grid0.coords t) 0 * 1 + 0 = (point (grid0.coords t)).val / 16
      rw [map_gate]; show (point (grid0.coords t)).val / 16 * 1 + 0 = _; omega))
  | ⟨1, _⟩ => exact Fin.ext ((win0_4.rect_emb_val t (ix3 0 0 d) 1).trans (by
      show cc0_transform_4 (grid0.coords t) 1 * 1 + 0 = 0
      rw [map_gate]; rfl))
  | ⟨2, _⟩ => exact Fin.ext ((win0_4.rect_emb_val t (ix3 0 0 d) 2).trans (by
      show cc0_transform_4 (grid0.coords t) 2 * 1024 + d.val = 1024 * 2 + d.val
      rw [map_gate]; show 2 * 1024 + d.val = _; omega))

/-- A point's rows before the norm, over the arrays. -/
theorem sums_eq (r : Fin 512) :
    sums (iblk m c 0 t) (iblk m c 1 t) (iblk m c 2 t) (iblk m c 3 t) (iblk m c 4 t) r
      = stream (beside (argO₁ m c) (argO₂ m c)) (argW m c) (argX m c) (argM m c) (row (point (grid0.coords t)) r) := by
  funext d
  rw [sums, stream_beside, seqOf_row, weight_block]
  refine congrArg₂ (· + ·) (congrArg (alpha * ·) (row_block m c t r d)) (congrArg₂ (· * ·) (congrArg (one + ·) (gate_block m c t d))
    (congrArg₂ (· + ·) (Finset.sum_congr rfl fun k _ => ?_) (Finset.sum_congr rfl fun k _ => ?_)))
  · exact congrArg (· * argW m c (ix2 (upper k) d)) (first_block m c t r k)
  · exact congrArg (· * argW m c (ix2 (lower k) d)) (second_block m c t r k)

/-- Where a point's result lies. -/
theorem place (r : Fin 512) (d : Fin 1024) :
    ((cfg0.win 7).blk t).view.emb (ix2 r d : S512x1024.Idx) = (ix2 (row (point (grid0.coords t)) r) d : S16384x1024.Idx) := by
  funext a
  match a with
  | ⟨0, _⟩ => exact Fin.ext ((win0_7.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_7.rect_emb_val t (ix2 r d) 1).trans (by
      show cc0_transform_0 (grid0.coords t) 1 * 1024 + d.val = d.val
      rw [map_rows]; show 0 * 1024 + d.val = _; omega))

/-- Every row is a point's. -/
theorem exists_point (R : Fin 16384) : ∃ (t : Fin cfg0.N) (r : Fin 512), row (point (grid0.coords t)) r = R := by
  obtain ⟨n, r, h⟩ := exists_row R
  obtain ⟨t, ht⟩ := grid0.coords_surjective (fun a => match a with
    | ⟨0, _⟩ => n)
  exact ⟨t, r, by rw [show point (grid0.coords t) = n by rw [ht]; rfl, h]⟩

/-- The result. -/
theorem result (R : Fin 16384) (C : Fin 1024) :
    (dats m 0 c).arrAt 7 cfg0.N (ix2 R C : S16384x1024.Idx)
      = normed (stream (beside (argO₁ m c) (argO₂ m c)) (argW m c) (argX m c) (argM m c) R) (argG m c) (argB m c) C := by
  obtain ⟨t, r, rfl⟩ := exists_point R
  rw [← place t r C]
  refine ((dats m 0 c).arrAt_emb_eq_flushed 7 disjoint7 t (flush0_7 t) (ix2 r C : S512x1024.Idx)).trans ?_
  rw [_root_.cast_eq, flushed7]
  refine (out_apply (iblk m c 0 t) (iblk m c 1 t) (iblk m c 2 t) (iblk m c 3 t) (iblk m c 4 t) (iblk m c 5 t) (iblk m c 6 t) r C).trans ?_
  rw [sums_eq, gain_block, bias_block]

end Cert.EvenOut.Value

end
-- ==== Proof.EvenOutRef.lean ====
/- The reference of the call behind the gated attention and the convolution, read at an entry: the two arrays side by side,
   then the lines of the other call's reference. -/
module

public import proofs.«01_k».proof.Proof.OddOutRef
public import proofs.«01_k».proof.Proof.Gen.EvenOutRefIdeal.Read

@[expose] public section

noncomputable section

namespace Cert.EvenOut.Ref

open Idealize.ShloMosaic Idealize.ShloMosaic.ValueIdx Cert.EvenOutRefIdeal Cert.EvenOutRefIdeal.Read Cert.Diff Cert.Proj Cert.Out

variable (p q : S16384x512.Idx → EReal)

theorem upper_eq (R : Fin 16384) (k : Fin 512) : val_main_v0 (F := Ideal) p q (ix2 R (upper k)) = p (ix2 R k) :=
  concatenate_pair_apply_left (t := S16384x1024) 1 p q _ (ix2 R (upper k)) rfl (ix2 R k) fun a => match a with
    | ⟨0, _⟩ => rfl
    | ⟨1, _⟩ => rfl

theorem lower_eq (R : Fin 16384) (k : Fin 512) : val_main_v0 (F := Ideal) p q (ix2 R (lower k)) = q (ix2 R k) :=
  concatenate_pair_apply_right (t := S16384x1024) 1 p q _ (ix2 R (lower k)) rfl rfl (ix2 R k)
    (fun a ha => match a, ha with
      | ⟨0, _⟩, _ => rfl
      | ⟨1, _⟩, ha => absurd rfl ha)
    (by show k.val + 512 = 512 + k.val; omega)

theorem entry_eq (R : Fin 16384) (C : Fin 1024) : val_main_v0 (F := Ideal) p q (ix2 R C) = beside p q (ix2 R C) := by
  by_cases h : C.val < 512
  · rw [show C = upper ⟨C.val, h⟩ from rfl, upper_eq, beside_upper]
  · rw [show C = lower ⟨C.val - 512, by omega⟩ from Fin.ext (by show C.val = 512 + (C.val - 512); omega), lower_eq, beside_lower]

/-- The two arrays side by side. -/
theorem beside_eq : val_main_v0 (F := Ideal) p q = beside p q := by
  funext j
  rw [eq_ix2 j]
  exact entry_eq p q _ _

/-- The result. -/
theorem result_eq (w : Square.Idx → EReal) (x : Tokens.Idx → EReal) (mod : Chunks.Idx → EReal) (g b : One.Idx → EReal)
    (R : Fin 16384) (C : Fin 1024) :
    val_main_v46 (F := Ideal) p q w x mod g b (ix2 R C) = normed (stream (beside p q) w x mod R) g b C := by
  rw [← beside_eq]
  exact Cert.OddOut.Ref.result_eq (val_main_v0 (F := Ideal) p q) w x mod g b R C

end Cert.EvenOut.Ref

end
-- ==== Proof.EvenOutClaim.lean ====
/- The claims about the call behind the gated attention and the convolution: the three programs leave their arguments and their counters as they were, and over the
   extended reals the kernel's result is the reference's. -/
module

public import proofs.«01_k».proof.Defs
public import proofs.«01_k».proof.Proof.EvenOutValue
public import proofs.«01_k».proof.Proof.EvenOutRef
public import proofs.«01_k».proof.Proof.Gen.EvenOut.Frame
public import proofs.«01_k».proof.Proof.Gen.EvenOutRefIdeal.Run

@[expose] public section

noncomputable section

namespace Cert.EvenOut.Claims

open Idealize.ShloMosaic Idealize.ShloMosaic.ValueIdx Idealize.ShloMosaic.TcCoe Idealize.SL.Sem

theorem frame_kernel : Cert.quiescent_EvenOut := fun m ρ _ => Cert.EvenOut.Gen.frame m ρ

theorem frame_ideal : Cert.quiescent_EvenOutIdeal := fun m ρ _ => Cert.EvenOutIdeal.Gen.frame m ρ

theorem frame_reference : Cert.quiescent_EvenOutRefIdeal := fun m ρ _ =>
  (θ_run Cert.EvenOutRefIdeal.defs _ _).mono (fun r h => ⟨fun c => (h c).2, sem_eq_zero_of_no_sems (by decide) r.2⟩)
    (Cert.EvenOutRefIdeal.Value.run (F := Ideal) m ρ)

theorem preserves : Cert.preserves_EvenOut_EvenOutIdeal :=
  IdealRules.named_const.statement Cert.EvenOutIdeal.κ "alpha" .f32 0x3FD744FD#32 Cert.Out.alpha rfl

theorem algebraic : Cert.algebraic_EvenOutIdeal_EvenOutRefIdeal := by
  intro m ρ m' ρ' _ hagree
  refine ⟨_, Cert.EvenOutIdeal.Value.run_blocks m ρ, ?_⟩
  refine (θ_run Cert.EvenOutRefIdeal.defs _ _).mono (fun _ h c => ?_) (Cert.EvenOutRefIdeal.Value.run (F := Ideal) m' ρ')
  obtain ⟨g0, g⟩ := h c
  obtain ⟨h0, h1, h2, h3, h4, h5, h6⟩ := hagree c
  refine ⟨g0.trans ?_, g⟩
  rw [Cert.EvenOutRefIdeal.Read.val_main_v46_eq, h0, h1, h2, h3, h4, h5, h6]
  funext j
  rw [eq_ix2 j]
  exact (Ref.result_eq _ _ _ _ _ _ _ _ _).trans (Value.result m c _ _).symm

end Cert.EvenOut.Claims

end
-- ==== Proof.Routed.lean ====
/-
What the precondition `routed` says of the three tables.

A tile has at most 256 rows, its group is one of four, and a word of the token table names one of 16384
tokens. Row `j` of tile `T` is taken by token `n` when the row is one of the tile's rows and its word is
`n`; each token takes exactly one row. The count is a wrapping sum of ones, which cannot wrap because
there are 17408 rows in all.
-/
module

public import proofs.«01_k».proof.Pre_routed
public import proofs.«01_k».proof.Proof.Gen.MoeRefIdeal.Read
public import Idealize.ShloMosaic.Lib.Routing.BitFacts

@[expose] public section

set_option maxRecDepth 16384

noncomputable section

namespace Cert.Routed

open Idealize.ShloMosaic Cert.MoeRefIdeal Cert.MoeRefIdeal.Gen Cert.MoeRefIdeal.Read

instance preFacts : Cert.Pre_routed.Facts := by
  constructor <;> decide

/-! ### Wrapping sums over a set -/

theorem fold_zero {ι : Type} [DecidableEq ι] (s : Finset ι) (f : ι → BitVec 32) (h : ∀ i ∈ s, f i = 0#32) :
    s.fold IntOp.addi 0#32 f = 0#32 := by
  induction s using Finset.induction_on with
  | empty => rfl
  | insert a s ha ih =>
    rw [Finset.fold_insert ha, h a (Finset.mem_insert_self _ _), ih fun i hi => h i (Finset.mem_insert_of_mem hi)]
    rfl

/-- One summand apart, all are zero. -/
theorem fold_single {ι : Type} [DecidableEq ι] (s : Finset ι) (f : ι → BitVec 32) (i : ι) (hi : i ∈ s) (h : ∀ k ∈ s, k ≠ i → f k = 0#32) :
    s.fold IntOp.addi 0#32 f = f i := by
  conv_lhs => rw [← Finset.insert_erase hi]
  rw [Finset.fold_insert (Finset.notMem_erase _ _), fold_zero _ _ fun k hk => h k (Finset.mem_of_mem_erase hk) (Finset.ne_of_mem_erase hk)]
  exact BitVec.add_zero _

/-- A sum of ones is the number of them. -/
theorem fold_count {ι : Type} [DecidableEq ι] (s : Finset ι) (p : ι → Prop) [DecidablePred p] :
    s.fold IntOp.addi 0#32 (fun i => if p i then 1#32 else 0#32) = BitVec.ofNat 32 (s.filter p).card := by
  induction s using Finset.induction_on with
  | empty => rfl
  | insert a s ha ih =>
    rw [Finset.fold_insert ha, ih, Finset.filter_insert]
    split
    · rw [Finset.card_insert_of_notMem (fun h => ha (Finset.mem_of_mem_filter _ h)), Nat.add_comm, BitVec.ofNat_add]
      rfl
    · exact BitVec.zero_add _

/-! ### A row and its token -/

/-- Row `j` of tile `T`, as a position of the token table. -/
def place (T : Fin 68) (j : Fin 256) : S17408.Idx := fun a => match a with
  | 0 => (⟨T.val * 256 + j.val, by have := T.isLt; have := j.isLt; omega⟩ : Fin 17408)
def one68 (T : Fin 68) : S68.Idx := fun a => match a with | 0 => T
def three (T : Fin 68) (j : Fin 256) (n : Fin 16384) : S68x256x16384.Idx := fun a => match a with
  | 0 => T
  | 1 => j
  | 2 => n

abbrev tileIx (i : S68x256x16384.Idx) : Fin 68 := i 0
abbrev rowIx (i : S68x256x16384.Idx) : Fin 256 := i 1
abbrev tokIx (i : S68x256x16384.Idx) : Fin 16384 := i 2

/-- Token `n` takes row `j` of tile `T`. -/
def Takes (x1 : S17408.Idx → BitVec 32) (x3 : S68.Idx → BitVec 32) (T : Fin 68) (j : Fin 256) (n : Fin 16384) : Prop :=
  x1 (place T j) = BitVec.ofNat 32 n.val ∧ (BitVec.ofNat 32 j.val).slt (x3 (one68 T)) = true

instance (x1 : S17408.Idx → BitVec 32) (x3 : S68.Idx → BitVec 32) (T j n) : Decidable (Takes x1 x3 T j n) := by
  unfold Takes; infer_instance

theorem taken_apply (x1 : S17408.Idx → BitVec 32) (x3 : S68.Idx → BitVec 32) (i : S68x256x16384.Idx) :
    val_main_v16 (F := Ideal) x1 x3 i = if Takes x1 x3 (tileIx i) (rowIx i) (tokIx i) then 1#1 else 0#1 := by
  rw [val_main_v16_apply, val_main_v13_apply, val_main_v15_apply, val_main_v14_apply, val_main_v6_apply, val_main_v4_apply,
    val_main_v5_apply, val_main_v3_apply, val_main_v2_apply, val_main_v1_apply, val_main_v11_apply, val_main_v8_apply, val_main_v7_apply,
    val_main_v12_apply, val_main_v10_apply, val_main_v9_apply]
  have e1 : idx_main_v7 (idx_main_v8 (idx_main_v11 i)) = place (tileIx i) (rowIx i) := by
    funext a; match a with | 0 => rfl
  have e3 : idx_main_v3 (idx_main_v5 (idx_main_v14 (idx_main_v15 i))) = one68 (tileIx i) := by
    funext a; match a with | 0 => rfl
  rw [e1, e3]
  show IntOp.andi (BitVec.ofBool (x1 (place (tileIx i) (rowIx i)) == BitVec.ofNat 32 (tokIx i).val)) (BitVec.ofBool ((BitVec.ofNat 32 (rowIx i).val).slt (x3 (one68 (tileIx i))))) = _
  unfold IntOp.andi
  by_cases h1 : x1 (place (tileIx i) (rowIx i)) = BitVec.ofNat 32 (tokIx i).val
  · cases h2 : (BitVec.ofNat 32 (rowIx i).val).slt (x3 (one68 (tileIx i)))
    · rw [if_neg (fun h => Bool.false_ne_true (h2.symm.trans h.2)), beq_iff_eq.mpr h1]; rfl
    · rw [if_pos ⟨h1, h2⟩, beq_iff_eq.mpr h1]; rfl
  · rw [if_neg (fun h : Takes x1 x3 (tileIx i) (rowIx i) (tokIx i) => h1 h.1), beq_eq_false_iff_ne.mpr h1]
    cases (BitVec.ofNat 32 (rowIx i).val).slt (x3 (one68 (tileIx i))) <;> rfl

/-! ### The precondition, decoded -/

/-- What the kernel and the comparison need of the tables. -/
structure Tables (x1 : S17408.Idx → BitVec 32) (x2 x3 : S68.Idx → BitVec 32) : Prop where
  token : ∀ i, (x1 i).toNat < 16384
  group : ∀ i, (x2 i).toNat < 4
  rows : ∀ i, (x3 i).toNat ≤ 256
  once : ∀ n : Fin 16384, ∃ T j, Takes x1 x3 T j n ∧ ∀ T' j', Takes x1 x3 T' j' n → T' = T ∧ j' = j

theorem range_lt {x a : BitVec 32} (ha : a.toNat < 2 ^ 31) (h : IntOp.andi (IntOp.cmpi .sge x 0#32) (IntOp.cmpi .slt x a) = 1#1) : x.toNat < a.toNat := by
  have h' : (BitVec.ofBool ((0#32).sle x)) &&& (BitVec.ofBool (x.slt a)) = 1#1 := h
  cases e1 : (0#32).sle x <;> cases e2 : x.slt a <;> rw [e1, e2] at h' <;> first | exact absurd h' (by decide) | skip
  rw [BitVec.sle, decide_eq_true_eq] at e1
  rw [BitVec.slt, decide_eq_true_eq] at e2
  rw [show (0#32).toInt = 0 from rfl] at e1
  have hl := Idealize.ShloMosaic.Routing.toNat_lt_of_toInt_nonneg x e1
  have hx : x.toInt = x.toNat := by rw [BitVec.toInt_eq_toNat_cond, if_pos (by omega)]
  have hb : a.toInt = a.toNat := by rw [BitVec.toInt_eq_toNat_cond, if_pos (by omega)]
  omega

theorem range_le {x a : BitVec 32} (ha : a.toNat < 2 ^ 31) (h : IntOp.andi (IntOp.cmpi .sge x 0#32) (IntOp.cmpi .sle x a) = 1#1) : x.toNat ≤ a.toNat := by
  have h' : (BitVec.ofBool ((0#32).sle x)) &&& (BitVec.ofBool (x.sle a)) = 1#1 := h
  cases e1 : (0#32).sle x <;> cases e2 : x.sle a <;> rw [e1, e2] at h' <;> first | exact absurd h' (by decide) | skip
  rw [BitVec.sle, decide_eq_true_eq] at e1 e2
  rw [show (0#32).toInt = 0 from rfl] at e1
  have hl := Idealize.ShloMosaic.Routing.toNat_lt_of_toInt_nonneg x e1
  have hx : x.toInt = x.toNat := by rw [BitVec.toInt_eq_toNat_cond, if_pos (by omega)]
  have hb : a.toInt = a.toNat := by rw [BitVec.toInt_eq_toNat_cond, if_pos (by omega)]
  omega

/-- The rows summed for token `n`. -/
def above (n : Fin 16384) : Finset S68x256x16384.Idx :=
  Finset.univ.filter fun i => reducesTo_S68x256x16384_S16384_d0_1.drop i = (fun a => match a with | 0 => n : S16384.Idx)

theorem mem_above (n : Fin 16384) (i : S68x256x16384.Idx) : i ∈ above n ↔ i 2 = n := by
  unfold above
  rw [Finset.mem_filter]
  have e : ∀ i : S68x256x16384.Idx, (reducesTo_S68x256x16384_S16384_d0_1.drop i 0 : ℕ) = i 2 := fun i =>
    Shape.ReducesTo.drop_apply_val_of_eq _ i 0 2
  constructor
  · rintro ⟨-, h⟩
    have h0 := congrFun h 0
    exact Fin.ext ((e i).symm.trans (congrArg Fin.val h0))
  · intro h
    refine ⟨Finset.mem_univ _, funext fun a => ?_⟩
    match a with
    | 0 => exact Fin.ext ((e i).trans (congrArg Fin.val h))

theorem three_of (i : S68x256x16384.Idx) : i = three (i 0) (i 1) (i 2) := by
  funext a; match a with | 0 => rfl | 1 => rfl | 2 => rfl

theorem card_above_le (n : Fin 16384) (p : S68x256x16384.Idx → Prop) [DecidablePred p] : ((above n).filter p).card ≤ 17408 := by
  have h : ((above n).filter p).card ≤ (Finset.univ : Finset (Fin 68 × Fin 256)).card := by
    refine Finset.card_le_card_of_injOn (fun i => (i 0, i 1)) (fun _ _ => Finset.mem_coe.mpr (Finset.mem_univ _)) ?_
    intro a ha b hb hab
    have ha' := (mem_above n a).1 (Finset.mem_of_mem_filter _ ha)
    have hb' := (mem_above n b).1 (Finset.mem_of_mem_filter _ hb)
    rw [three_of a, three_of b, ha', hb', (Prod.mk.inj hab).1, (Prod.mk.inj hab).2]
  refine h.trans (le_of_eq ?_)
  rw [Finset.card_univ, Fintype.card_prod, Fintype.card_fin, Fintype.card_fin]

variable {F : FTy → Type} [FloatOps F]

theorem tables_of (x0 : FVec F Cert.Pre_routed.S16384x1152 .f32) (x1 : IVec Cert.Pre_routed.S17408 32) (x2 x3 : IVec Cert.Pre_routed.S68 32)
    (x4 x5 : FVec F Cert.Pre_routed.S4x4x8x1024x256 .bf16) (x6 : FVec F Cert.Pre_routed.S4x4x8x256x1024 .bf16)
    (h1 : (Cert.Pre_routed.fn (F := F) x0 x1 x2 x3 x4 x5 x6).1 = fun _ => 1#1)
    (h2 : (Cert.Pre_routed.fn (F := F) x0 x1 x2 x3 x4 x5 x6).2.1 = fun _ => 1#1)
    (h3 : (Cert.Pre_routed.fn (F := F) x0 x1 x2 x3 x4 x5 x6).2.2.1 = fun _ => 1#1)
    (h4 : (Cert.Pre_routed.fn (F := F) x0 x1 x2 x3 x4 x5 x6).2.2.2 = fun _ => 1#1) : Tables x1 x2 x3 := by
  refine ⟨fun i => range_lt (a := 16384#32) (by decide) (congrFun h1 i), fun i => range_lt (a := 4#32) (by decide) (congrFun h2 i),
    fun i => range_le (a := 256#32) (by decide) (congrFun h3 i), fun n => ?_⟩
  have h4' : (cmpi .eq (Host.reduce IntOp.addi (extui 32 (val_main_v16 (F := Ideal) x1 x3) (by decide)) (constantI S_ 32 0#32)
      reducesTo_S68x256x16384_S16384_d0_1 h_S_) (broadcastInDim S16384 ![] Cert.Pre_routed.Facts.bcast_S_S16384 (constantI S_ 32 1#32)) : IVec S16384 1) = fun _ => 1#1 := by
    unfold Cert.Pre_routed.fn Cert.Pre_routed.fn_part1 at h4
    unfold val_main_v16 val_main_v13 val_main_v15 val_main_v14 val_main_v6 val_main_v4 val_main_v5 val_main_v3 val_main_v2 val_main_v1 val_main_v11 val_main_v8 val_main_v7 val_main_v12 val_main_v10 val_main_v9
    dsimp only at h4
    refine Eq.trans ?_ h4
    refine congrArg₂ (fun a b => cmpi .eq a b) ?_ rfl
    refine congrArg (fun x => Host.reduce IntOp.addi x (constantI S_ 32 0#32) reducesTo_S68x256x16384_S16384_d0_1 h_S_) ?_
    refine congrArg (fun x => extui 32 x (by decide)) ?_
    refine congrArg₂ (fun a b => andi a b) ?_ ?_
    · refine congrArg₂ (fun a b => cmpi .eq a b) ?_ ?_ <;> rfl
    · rfl
  have e : IntOp.cmpi .eq (Host.reduce IntOp.addi (fun i => (val_main_v16 (F := Ideal) x1 x3 i).setWidth 32) (constantI S_ 32 0#32)
      reducesTo_S68x256x16384_S16384_d0_1 h_S_ (fun a => match a with | 0 => n : S16384.Idx)) 1#32 = 1#1 :=
    congrFun h4' (fun a => match a with | 0 => n : S16384.Idx)
  rw [Host.reduce_eq_fold] at e
  have e' : (above n).fold IntOp.addi 0#32 (fun i => if Takes x1 x3 (tileIx i) (rowIx i) (tokIx i) then 1#32 else 0#32) = 1#32 := by
    have hf : (fun i => (val_main_v16 (F := Ideal) x1 x3 i).setWidth 32) = fun i => if Takes x1 x3 (tileIx i) (rowIx i) (tokIx i) then 1#32 else 0#32 := by
      funext i
      rw [taken_apply]
      split <;> rfl
    rw [hf] at e
    have e2 : BitVec.ofBool ((above n).fold IntOp.addi 0#32 (fun i => if Takes x1 x3 (tileIx i) (rowIx i) (tokIx i) then 1#32 else 0#32) == 1#32) = 1#1 := e
    revert e2
    generalize (above n).fold IntOp.addi 0#32 (fun i => if Takes x1 x3 (tileIx i) (rowIx i) (tokIx i) then 1#32 else 0#32) = z
    intro e2
    by_contra hz
    rw [beq_eq_false_iff_ne.mpr hz] at e2
    exact absurd e2 (by decide)
  rw [fold_count] at e'
  have hc := card_above_le n (fun i => Takes x1 x3 (tileIx i) (rowIx i) (tokIx i))
  have h1c : ((above n).filter fun i => Takes x1 x3 (tileIx i) (rowIx i) (tokIx i)).card = 1 := by
    have := congrArg BitVec.toNat e'
    rw [BitVec.toNat_ofNat, Nat.mod_eq_of_lt (by omega)] at this
    exact this
  obtain ⟨i, hi⟩ := Finset.card_eq_one.1 h1c
  have hm : i ∈ ((above n).filter fun i => Takes x1 x3 (tileIx i) (rowIx i) (tokIx i)) := by rw [hi]; exact Finset.mem_singleton_self _
  obtain ⟨ha, ht⟩ := Finset.mem_filter.1 hm
  rw [show tokIx i = n from (mem_above n i).1 ha] at ht
  refine ⟨i 0, i 1, ht, fun T' j' h' => ?_⟩
  have hm' : three T' j' n ∈ ((above n).filter fun i => Takes x1 x3 (tileIx i) (rowIx i) (tokIx i)) :=
    Finset.mem_filter.2 ⟨(mem_above n _).2 rfl, h'⟩
  rw [hi, Finset.mem_singleton] at hm'
  exact ⟨congrFun hm' 0, congrFun hm' 1⟩

/-- A token's group, as the reference finds it: the group of the tile it is in. -/
theorem group_of {x1 : S17408.Idx → BitVec 32} {x2 x3 : S68.Idx → BitVec 32} (n : Fin 16384) {T : Fin 68} {j : Fin 256}
    (h : Takes x1 x3 T j n) (hu : ∀ T' j', Takes x1 x3 T' j' n → T' = T ∧ j' = j) :
    val_main_v19 (F := Ideal) x1 x2 x3 (fun a => match a with | 0 => n) = x2 (one68 T) := by
  unfold val_main_v19
  rw [Host.reduce_eq_fold]
  have hv : ∀ i, val_main_v18 (F := Ideal) x1 x2 x3 i = if Takes x1 x3 (tileIx i) (rowIx i) (tokIx i) then x2 (one68 (tileIx i)) else 0#32 := by
    intro i
    rw [val_main_v18_apply, taken_apply, val_main_call0_v1_apply, val_main_v17_apply]
    have e : idx_main_v17 (idx_main_call0_v1 i) = one68 (tileIx i) := by funext a; match a with | 0 => rfl
    rw [e]
    split <;> rfl
  refine (fold_single (above n) _ (three T j n) ((mem_above n _).2 rfl) ?_).trans ?_
  · intro k hk hne
    rw [hv, if_neg]
    intro ht
    rw [show tokIx k = n from (mem_above n k).1 hk] at ht
    obtain ⟨a, b⟩ := hu _ _ ht
    apply hne
    rw [three_of k, (mem_above n k).1 hk]
    exact congrArg₂ (fun T j => three T j n) a b
  · rw [hv]; exact if_pos h

end Cert.Routed

end
-- ==== Proof.MoeIdealKit.lean ====
/-
The launch of the expert kernel, set up by hand.

The kernel is called with three tables of words, three arrays of weights that the pipeline stages
block by block (which block, the table of groups says), the array of tokens, which the kernel reads
by transfers of its own, and the result, which it writes by transfers of its own. Here are the names
the proof uses for these things, and how what the pipeline hands to the body at a point reads when it
is listed piece by piece.
-/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.FrameValue
public import Idealize.ShloMosaic.Lib.Ring
public import Idealize.ShloMosaic.Lib.Batch
public import Idealize.ShloMosaic.Lib.Tactic
public import Idealize.ShloMosaic.Lib.Claim

@[expose] public section

set_option maxRecDepth 16384

noncomputable section

namespace Cert.MoeIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MoeIdeal Cert.MoeIdeal.Gen

variable {F : FTy → Type} [FloatOps F]

local notation "𝕄" => MT nD τ sig Unit (Elt F) ℕ (Pipeline.UD sig nD τ) ℕ

variable (m : (ℓ : Loc nD τ sig) → Buf (Elt F) ℓ)

/-! ## The arrays and the tables as the call finds them -/

/-- A core's buffers when the pipeline starts: nothing runs before it. -/
abbrev atEntry (c : Dev nD) (b : Ref sig .tc) : Buf (Elt F) ((c : Thread nD τ).loc b) := m ((c : Thread nD τ).loc b)

theorem enters (𝒱₀ : Variants) : Pipeline.HMainP (Ix := Unit) (Name := ℕ) (U := Pipeline.UD sig nD τ) (Lvl := ℕ) pcfgs 0 defs₀ 𝒱₀ m (main (F := F)) (atEntry m) :=
  Pipeline.hmainP_region pcfgs 0 defs₀ 𝒱₀ m main fun c => (main_chain c).trans rfl

/-- What the three tables hold. -/
def words : pre0.Contents (Elt F) := fun j => atEntry m (0 : Dev nD) (pre0.ref j)

theorem words_eq (c : Dev nD) (j : Fin 3) : atEntry m c (pre0.ref j) = words m j := by
  obtain rfl : c = 0 := Subsingleton.elim _ _; rfl

/-- The tables name blocks that exist. -/
abbrev Named : Prop := ok0 (F := F) (words m)
abbrev admitted (hO : Named m) : (pcfg0 (F := F)).Adm := ⟨words m, hO⟩
abbrev pipe (hO : Named m) : Pipeline.Cfg sig Λ₀ := cfg0 (admitted m hO)

/-! ## The memrefs the body is given -/

abbrev srcM : Memref sig .tc .smem S17408 .i32 := Memref.whole main_arg1
abbrev groupM : Memref sig .tc .smem S68 .i32 := Memref.whole main_arg2
abbrev rowsM : Memref sig .tc .smem S68 .i32 := Memref.whole main_arg3
abbrev tokM : Memref sig .tc .hbm S16384x1152 .f32 := Memref.whole main_arg0
abbrev outM : Memref sig .tc .hbm S16384x1024 .f32 := Memref.whole main_v0
abbrev gatM : Memref sig .tc .vmem S256x1152 .f32 := Memref.whole cc0_scratch0
abbrev resM : Memref sig .tc .vmem S256x1024 .f32 := Memref.whole cc0_scratch1

/-- What a memref's buffer can hold. -/
abbrev Held (c : Dev nD) {sp : Space} {S : Shape} {e : EltTy} (M : Memref sig .tc sp S e) : Type := Buf (Elt F) (M.view.loc (c : Thread nD τ))
/-- A memref's buffer owned whole. -/
abbrev full (c : Dev nD) {sp : Space} {S : Shape} {e : EltTy} (M : Memref sig .tc sp S e) (f : Held (F := F) c M) : sProp 𝕄 :=
  M.view.loc (c : Thread nD τ) ↦{fullShare} f
/-- A table readable: the pipeline keeps the other half. -/
abbrev table (c : Dev nD) {S : Shape} {e : EltTy} (M : Memref sig .tc .smem S e) (f : Held (F := F) c M) : sProp 𝕄 :=
  M.view.loc (c : Thread nD τ) ↦{fullShare.right} f

theorem tables_eq (c : Dev nD) : (Pipeline.ΦT pre0 (words m) c : sProp 𝕄) = iprop(table c srcM (words m 0) ∗ table c groupM (words m 1) ∗ table c rowsM (words m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The blocks of the weights -/

/-- The block of window `w` at point `t`. -/
def block (hO : Named m) (c : Dev nD) (w : Fin (pipe m hO).W) (t : Fin (pipe m hO).N) : (((pipe m hO).win w).xblock ((pipe m hO).grid.coords t)).Idx → Elt F ((pipe m hO).win w).elt :=
  (((pipe m hO).win w).blk t).view.read (Elt F) (atEntry m c (Pipeline.arrRef spec0 w))

theorem staged0 (hO : Named m) {c : Dev nD} (dat : Dat τ (Elt F) Unit ℕ (Pipeline.UD sig nD τ) ℕ (pipe m hO) c) (hA : dat.A 0 = atEntry m c (Pipeline.arrRef spec0 0))
    (hafter : ∀ t, dat.after 0 t = block m hO c 0 t) (t : Fin (pipe m hO).N) (d) : dat.before 0 t d = block m hO c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
theorem staged1 (hO : Named m) {c : Dev nD} (dat : Dat τ (Elt F) Unit ℕ (Pipeline.UD sig nD τ) ℕ (pipe m hO) c) (hA : dat.A 1 = atEntry m c (Pipeline.arrRef spec0 1))
    (hafter : ∀ t, dat.after 1 t = block m hO c 1 t) (t : Fin (pipe m hO).N) (d) : dat.before 1 t d = block m hO c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
theorem staged2 (hO : Named m) {c : Dev nD} (dat : Dat τ (Elt F) Unit ℕ (Pipeline.UD sig nD τ) ℕ (pipe m hO) c) (hA : dat.A 2 = atEntry m c (Pipeline.arrRef spec0 2))
    (hafter : ∀ t, dat.after 2 t = block m hO c 2 t) (t : Fin (pipe m hO).N) (d) : dat.before 2 t d = block m hO c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)

abbrev buf0 (hO : Named m) (t : Fin (pipe m hO).N) : Memref sig .tc .vmem S1x1x8x1024x256 .bf16 := spec0_0.stage ((pipe m hO).slots t 0)
abbrev buf1 (hO : Named m) (t : Fin (pipe m hO).N) : Memref sig .tc .vmem S1x1x8x1024x256 .bf16 := spec0_1.stage ((pipe m hO).slots t 1)
abbrev buf2 (hO : Named m) (t : Fin (pipe m hO).N) : Memref sig .tc .vmem S1x1x8x256x1024 .bf16 := spec0_2.stage ((pipe m hO).slots t 2)

/-! ## The kernel's own semaphores and its own arrays -/

abbrev ownCells : Fin 2 → SemLoc sig := fun j => (![SemLoc.dma 6, SemLoc.dma 7] : Fin 2 → SemLoc sig) j
theorem ownCells_facts : Pipeline.OwnSemFacts spec0 ownCells := by decide
/-- The array it reads and the array it writes by itself. -/
def readSet : Finset (Ref sig .tc) := {main_arg0}
def writeSet : Finset (Ref sig .tc) := {main_v0}
theorem readSet_sub : readSet ⊆ Pipeline.restRefsP sig pre0 spec0 := by decide
theorem writeSet_sub : writeSet ⊆ Pipeline.restRefsP sig pre0 spec0 \ readSet := by decide

theorem cells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 6) 0 ∗ semVal ((c : Thread nD τ), SemLoc.dma 7) 0) := by
  rw [Pipeline.ownSems0_eq_of_list c ownCells [0, 1] (by decide) (by decide)]; rfl
theorem read_eq (c : Dev nD) :
    (bigSep readSet (fun b => ((c : Thread nD τ).loc b) ↦{fullShare} atEntry m c b) : sProp 𝕄) = full c tokM (atEntry m c main_arg0) := by
  rw [BI.bigSep_eq_bigSepL_of_eq [main_arg0] (by decide) (by decide)]; rfl
theorem written_eq (c : Dev nD) (W : (b : Ref sig .tc) → Buf (Elt F) ((c.tc : Thread nD τ).loc b)) :
    (Pipeline.routed writeSet c W : sProp 𝕄) = full c outM (W main_v0) := by
  unfold Pipeline.routed; rw [BI.bigSep_eq_bigSepL_of_eq [main_v0] (by decide) (by decide)]; rfl

/-- What the body owns between points, piece by piece. -/
theorem between_eq (c : Dev nD) (G : (c : Dev nD) → (b : Ref sig .tc) → Buf (Elt F) ((c.tc : Thread nD τ).loc b)) :
    (Pipeline.ΦDRG ownCells spec0 readSet writeSet (atEntry m) G c : sProp 𝕄)
      = iprop(((∃ f, full c gatM f) ∗ (∃ f, full c resM f)) ∗ (∃ r, prngReg c r)
          ∗ (semVal ((c : Thread nD τ), SemLoc.dma 6) 0 ∗ semVal ((c : Thread nD τ), SemLoc.dma 7) 0)
          ∗ full c tokM (atEntry m c main_arg0) ∗ full c outM (G c main_v0)) := by
  rw [Pipeline.ΦDRG_eq, scopedRest0_eq, cells_eq, read_eq, written_eq]; try rfl

/-- The body at point `t`, on what the pipeline calls it with. -/
abbrev bodyOf (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (Memref.whole main_arg3) (Memref.isWhole_whole _) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole main_v0) (Memref.isWhole_whole _) (Memref.whole cc0_scratch0) (Memref.isWhole_whole _) (Memref.whole cc0_scratch1) (Memref.isWhole_whole _) cc0_scratch2 cc0_scratch3

theorem body_row (hO : Named m) (t : Fin (pipe m hO).N) :
    defs₀ (F := F) .tc (pipe m hO).body ((pipe m hO).bodyArgs t ((pipe m hO).slots t)) = bodyOf (admitted m hO) t := by
  unfold defs₀; rw [Defs.onTc_tc]

end Cert.MoeIdeal.Own

end
-- ==== Proof.MoeIdealGather.lean ====
/-
The rows of a tile are fetched.

Before a tile is worked on, its 256 rows are copied, one by one, from the array of tokens to a buffer
of the kernel. The copies are started in one loop and waited for in a second one, all on one
semaphore. A row may be fetched more than once within a tile, so every copy reads through a share of
its own of the token array. After the second loop the buffer holds, in row `t`, the row of the token
array that the tile's word `t` names.
-/
module

public import proofs.«01_k».proof.Proof.MoeIdealKit

@[expose] public section

set_option maxRecDepth 16384

noncomputable section

namespace Cert.MoeIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MoeIdeal Cert.MoeIdeal.Gen

variable {F : FTy → Type} [FloatOps F]

local notation "𝕄" => MT nD τ sig Unit (Elt F) ℕ (Pipeline.UD sig nD τ) ℕ

/-! ## Rows -/

theorem tok_inb (r : Fin 16384) : ∀ a, (![r.val, 0] : Fin 2 → ℕ) a + S1x1152.size a ≤ S16384x1152.size a := by
  have := r.isLt; intro a; fin_cases a
  · show r.val + 1 ≤ 16384; omega
  · show 0 + 1152 ≤ 1152; omega
theorem gat_inb (t : Fin 256) : ∀ a, (![t.val, 0] : Fin 2 → ℕ) a + S1x1152.size a ≤ S256x1152.size a := by
  have := t.isLt; intro a; fin_cases a
  · show t.val + 1 ≤ 256; omega
  · show 0 + 1152 ≤ 1152; omega

/-- Row `r` of the token array, and row `t` of the buffer. -/
def tokRow (r : Fin 16384) : Memref sig .tc .hbm S1x1152 .f32 := tokM.slice (Rect.unit (s := S16384x1152) ![r.val, 0] S1x1152.size (tok_inb r)) (fun _ => rfl)
def gatRow (t : Fin 256) : Memref sig .tc .vmem S1x1152 .f32 := gatM.slice (Rect.unit (s := S256x1152) ![t.val, 0] S1x1152.size (gat_inb t)) (fun _ => rfl)

theorem tokRow_of (r : Fin 16384) (off : Fin 2 → ℕ) (h : ∀ a, off a + S1x1152.size a ≤ S16384x1152.size a) (e : off = ![r.val, 0]) :
    tokRow r = tokM.slice (Rect.unit (s := S16384x1152) off S1x1152.size h) (fun _ => rfl) := by
  subst e; rfl
theorem gatRow_of (t : Fin 256) (off : Fin 2 → ℕ) (h : ∀ a, off a + S1x1152.size a ≤ S256x1152.size a) (e : off = ![t.val, 0]) :
    gatRow t = gatM.slice (Rect.unit (s := S256x1152) off S1x1152.size h) (fun _ => rfl) := by
  subst e; rfl

/-- The elements of a row of the buffer. -/
abbrev gatSet (t : Fin 256) : Finset S256x1152.Idx := (Rect.unit (s := S256x1152) ![t.val, 0] S1x1152.size (gat_inb t)).set
abbrev tokSet (r : Fin 16384) : Finset S16384x1152.Idx := (Rect.unit (s := S16384x1152) ![r.val, 0] S1x1152.size (tok_inb r)).set
theorem gatRow_set (t : Fin 256) : (gatRow t).view.set = gatSet t := by unfold gatRow; exact View.set_slice_whole _ _
theorem tokRow_set (r : Fin 16384) : (tokRow r).view.set = tokSet r := by unfold tokRow; exact View.set_slice_whole _ _
theorem mem_gatSet (t : Fin 256) (y : S256x1152.Idx) : y ∈ gatSet t ↔ (y 0).val = t.val := by
  rw [Rect.mem_set_unit]
  have h2 : (y 1).val < 1152 := (y 1).isLt
  constructor
  · intro H; have a0 : t.val ≤ (y 0).val ∧ (y 0).val < t.val + 1 := H 0; omega
  · intro H a; fin_cases a
    · show t.val ≤ (y 0).val ∧ (y 0).val < t.val + 1; omega
    · show 0 ≤ (y 1).val ∧ (y 1).val < 0 + 1152; omega
theorem gatSet_disjoint : ∀ b b' : Fin 256, b ≠ b' → Disjoint (gatSet b) (gatSet b') := fun b b' hne => by
  rw [Finset.disjoint_left]; intro y hy hy'; rw [mem_gatSet] at hy hy'; exact hne (Fin.ext (by omega))
/-- A buffer held whole is its pieces, disjoint from one another and covering it. -/
theorem all_pieces {ℓ : Loc nD τ sig} {q : PosShare TreeShare} (f : Buf (Elt F) ℓ) (K : Fin 256 → Finset (Idx ℓ))
    (hd : ∀ t t', t ≠ t' → Disjoint (K t) (K t')) (hc : ∀ y, ∃ t, y ∈ K t) : (ℓ ↦{q} f : sProp 𝕄) = bigSep Finset.univ (fun t => ℓ ↦[K t]{q} f) :=
  Ring.pointsTo_blocks K hd (Finset.eq_univ_of_forall fun y => Finset.mem_biUnion.mpr ((hc y).imp fun _ h => ⟨Finset.mem_univ _, h⟩)) f

theorem gat_blocks (c : Dev nD) (f : Held (F := F) c gatM) :
    (full c gatM f : sProp 𝕄) = bigSep Finset.univ (fun t => gatM.view.loc (c : Thread nD τ) ↦[gatSet t]{fullShare} f) :=
  all_pieces (ℓ := gatM.view.loc (c : Thread nD τ)) f (fun t => gatSet t) gatSet_disjoint
    fun y => ⟨(show S256x1152.Idx from y) 0, (mem_gatSet _ y).mpr rfl⟩

theorem both {P Q : sProp 𝕄} (h : P ⊣⊢ Q) : P = Q := equiv_iff.mp ⟨h.1, h.2⟩
theorem pair_family {I : Type} (S : Finset I) (Φ Ψ : I → sProp 𝕄) : (bigSep S (fun t => iprop(Φ t ∗ Ψ t)) : sProp 𝕄) = iprop(bigSep S Φ ∗ bigSep S Ψ) :=
  BI.bigSep_sep S Φ Ψ
theorem set_union {ℓ : Loc nD τ sig} {q : PosShare TreeShare} (f : Buf (Elt F) ℓ) (I J : Finset (Idx ℓ)) (h : Disjoint I J) :
    (ℓ ↦[I ∪ J]{q} f : sProp 𝕄) = iprop((ℓ ↦[I]{q} f) ∗ ℓ ↦[J]{q} f) := both (pointsTo_union h)

/-- What some pieces leave of a buffer. -/
def others {ℓ : Loc nD τ sig} (S : Finset (Fin 256)) (K : Fin 256 → Finset (Idx ℓ)) : Finset (Idx ℓ) := Finset.univ \ S.biUnion K
theorem mem_others {ℓ : Loc nD τ sig} (S : Finset (Fin 256)) (K : Fin 256 → Finset (Idx ℓ)) (y : Idx ℓ) : y ∈ others S K ↔ ∀ t ∈ S, y ∉ K t := by
  unfold others
  rw [Finset.mem_sdiff, Finset.mem_biUnion]
  constructor
  · intro h t ht hy; exact h.2 ⟨t, ht, hy⟩
  · intro h; exact ⟨Finset.mem_univ _, fun ⟨t, ht, hy⟩ => h t ht hy⟩

/-- A buffer held whole is some of its pieces, disjoint from one another, and what is left. -/
theorem pieces {ℓ : Loc nD τ sig} {q : PosShare TreeShare} (f : Buf (Elt F) ℓ) (S : Finset (Fin 256)) (K : Fin 256 → Finset (Idx ℓ))
    (hd : ∀ t ∈ S, ∀ t' ∈ S, t ≠ t' → Disjoint (K t) (K t')) :
    (ℓ ↦{q} f : sProp 𝕄) = iprop(bigSep S (fun t => ℓ ↦[K t]{q} f) ∗ (ℓ ↦[others S K]{q} f)) := by
  have h := set_union f (q := q) (S.biUnion K) (Finset.univ \ S.biUnion K) Finset.disjoint_sdiff
  rw [Finset.union_sdiff_of_subset (Finset.subset_univ _), pointsTo_biUnion S K hd] at h
  exact h

/-! ## The words of a tile -/

/-- Where word `t` of tile `i` stands. -/
def slotIdx (i : grid0.Coords) (t : Fin 256) : S17408.Idx := fun a => match a with
  | 0 => (⟨256 * (i 0).val + t.val, by have h : (i 0).val < 68 := (i 0).isLt; have := t.isLt; omega⟩ : Fin 17408)
/-- Word `t` of tile `i`. -/
def slot (c : Dev nD) (xs : Held (F := F) c srcM) (i : grid0.Coords) (t : Fin 256) : BitVec 32 :=
  xs (slotIdx i t)

theorem slot_of (c : Dev nD) (xs : Held (F := F) c srcM) (i : grid0.Coords) (t : Fin 256) (off : Fin 1 → ℕ)
    (h : ∀ a, off a + S1.size a ≤ S17408.size a) (e : off = ![256 * (i 0).val + t.val]) :
    srcM.view.readAt (Elt F) (Rect.unit (s := S17408) off S1.size h).toLoadRect xs (Shape.Idx.first (numel1_S1.symm ▸ Nat.one_pos)) = slot c xs i t := by
  subst e
  rw [View.readAt_apply, View.read_apply]
  unfold slot
  show xs _ = xs _
  congr 1
  refine funext fun (a : Fin 1) => ?_
  obtain rfl : a = 0 := Subsingleton.elim _ _
  apply Fin.ext
  have h0 : ((Shape.Idx.first (numel1_S1.symm ▸ Nat.one_pos) : S1.Idx) 0).val = 0 := by
    have : ((Shape.Idx.first (numel1_S1.symm ▸ Nat.one_pos) : S1.Idx) 0).val < 1 := ((Shape.Idx.first (numel1_S1.symm ▸ Nat.one_pos) : S1.Idx) 0).isLt
    omega
  show (256 * (i 0).val + t.val) + 1 * ((Shape.Idx.first (numel1_S1.symm ▸ Nat.one_pos) : S1.Idx) 0).val = 256 * (i 0).val + t.val
  rw [h0, Nat.mul_zero, Nat.add_zero]

/-- What the buffer holds once the rows are there. -/
def gathered (c : Dev nD) (fh : Held (F := F) c tokM) (rw : Fin 256 → Fin 16384) : Held (F := F) c gatM :=
  fun y : S256x1152.Idx => fh (fun a => match a with | 0 => rw (y 0) | 1 => y 1 : S16384x1152.Idx)

/-- Copying the named row lands the row of `gathered`. -/
theorem row_lands (c : Dev nD) (fh : Held (F := F) c tokM) (f9 : Held (F := F) c gatM) (rw : Fin 256 → Fin 16384) (t : Fin 256) :
    ∀ y ∈ gatSet t, (gatRow t).view.write (Elt F) f9 ((tokRow (rw t)).view.read (Elt F) fh) Finset.univ y = gathered c fh rw y := by
  intro y hy
  have e0 : y 0 = t := Fin.ext ((mem_gatSet t y).1 hy)
  rw [← gatRow_set] at hy
  obtain ⟨x, -, hx⟩ := Finset.mem_map.1 hy
  have hx : ((gatRow t).view.emb x : S256x1152.Idx) = y := hx
  subst hx
  refine (View.write_emb_of_mem (v := (gatRow t).view) f9 _ (Finset.mem_univ x)).trans ?_
  show fh ((tokRow (rw t)).view.emb x) = _
  unfold gathered
  rw [e0]
  refine congrArg (fun z : S16384x1152.Idx => fh z) (funext fun (a : Fin 2) => ?_)
  match a with
  | 0 =>
    apply Fin.ext
    have : (x 0).val < 1 := (x 0).isLt
    show ((rw t).val + 1 * (x 0).val : ℕ) = (rw t).val
    omega
  | 1 => rfl

/-! ## Starting the copies -/

theorem trips1 : k0_t1_loop.trips = 256 := by decide +kernel
theorem trips2 : k0_t2_loop.trips = 256 := by decide +kernel

section Run

variable (c : Dev nD) (i : grid0.Coords) (xs : Held (F := F) c srcM) (fh : Held (F := F) c tokM) (f9 : Held (F := F) c gatM)
  (rw : Fin 256 → Fin 16384) (hrw : ∀ t, (slot c xs i t).toNat = (rw t).val)

/-- What copy `t` delivers: the buffer's row, and the share of the token row it read through. -/
abbrev gotten (t : Fin 256) : sProp 𝕄 :=
  iprop((gatM.view.loc (c : Thread nD τ) ↦[gatSet t]{fullShare} gathered c fh rw)
    ∗ (tokM.view.loc (c : Thread nD τ) ↦[tokSet (rw t)]{Transfers.shareTokN fullShare t.val} fh))

/-- What copy `t` takes: the same two, the buffer's row as it was. -/
abbrev ready (t : Fin 256) : sProp 𝕄 :=
  iprop((gatM.view.loc (c : Thread nD τ) ↦[gatSet t]{fullShare} f9)
    ∗ (tokM.view.loc (c : Thread nD τ) ↦[tokSet (rw t)]{Transfers.shareTokN fullShare t.val} fh))

abbrev gatBatch (j u : ℕ) : sProp 𝕄 :=
  Transfers.Batch (countersEmb (U := Pipeline.UD sig nD τ)) (c : Thread nD τ) (.dma cc0_scratch2.sem) () 144 (gotten c fh rw) j u

/-- Before trip `k`: `k` copies started, the rows from `k` on still in hand. -/
def issueAt (k : ℕ) (_ : Unit) : sProp 𝕄 :=
  iprop(gatBatch c fh rw k 0 ∗ table c srcM xs ∗ bigSep (Ring.rangeSet 256 k 256) (ready c fh f9 rw))

/-- Before trip `k` of the second loop: `k` rows waited for. -/
def drainAt (k : ℕ) (_ : Unit) : sProp 𝕄 :=
  iprop((∃ W, owes (c : Thread nD τ) 0 W) ∗ gatBatch c fh rw 256 (k * 144))

variable (arg5 : Memref sig .tc .vmem S1x1x8x1024x256 .bf16) (h5 : arg5.IsWhole)
  (arg6 : Memref sig .tc .vmem S1x1x8x1024x256 .bf16) (h6 : arg6.IsWhole)
  (arg7 : Memref sig .tc .vmem S1x1x8x256x1024 .bf16) (h7 : arg7.IsWhole) (a0 v0 v2 : BitVec 32) (hc : k0_cond1 v2 = 1#1)

/-- The two loops' bodies on the buffers of the call. -/
abbrev body1 := k0_t1_body (F := F) i srcM (Memref.isWhole_whole _) groupM (Memref.isWhole_whole _) rowsM (Memref.isWhole_whole _) tokM (Memref.isWhole_whole _)
  arg5 h5 arg6 h6 arg7 h7 outM (Memref.isWhole_whole _) gatM (Memref.isWhole_whole _) resM (Memref.isWhole_whole _) cc0_scratch2 cc0_scratch3 a0 v0 v2 hc
abbrev body2 := k0_t2_body (F := F) i srcM (Memref.isWhole_whole _) groupM (Memref.isWhole_whole _) rowsM (Memref.isWhole_whole _) tokM (Memref.isWhole_whole _)
  arg5 h5 arg6 h6 arg7 h7 outM (Memref.isWhole_whole _) gatM (Memref.isWhole_whole _) resM (Memref.isWhole_whole _) cc0_scratch2 cc0_scratch3 a0 v0 v2 hc

theorem chk1_of (v : BitVec 32) (r : Fin 16384) (h : v.toNat = r.val) : k0_chk1 v2 v := by
  have := r.isLt
  intro _ a; fin_cases a
  · show v.toNat + 1 ≤ 16384; omega
  · show 0 + 1152 ≤ 1152; omega

/-- The credit of one row. -/
theorem gat_credit : sig.dmaCredit .tc (Kind.tc.table .vmem) gatM.view.buf S1x1152 .f32 = 144 := by decide +kernel

/-- One copy started: row `t` of the buffer and a share of the token row go in. -/
theorem gat_issue (t : Fin 256) {o3 o4 : Fin 2 → ℕ} {b3 : ∀ a, o3 a + S1x1152.size a ≤ S256x1152.size a}
    {b4 : ∀ a, o4 a + S1x1152.size a ≤ S16384x1152.size a} (e3 : o3 = ![t.val, 0]) (e4 : o4 = ![(rw t).val, 0])
    {w1 w2 w3} {kk : PUnit → Prog (TpuEff nD τ sig (Elt F) Λ₀ .tc) PUnit} {Q : PUnit → sProp 𝕄} :
    iprop(ready c fh f9 rw t ∗ gatBatch c fh rw t.val 0)
      ⊢ iprop((gatBatch c fh rw (t.val + 1) 0 -∗ wp frame (wpE (defs₀ (F := F)) Variants.none (c : Thread nD τ) none) Set.univ (kk ⟨⟩) Q)
        -∗ wp frame (wpE (defs₀ (F := F)) Variants.none (c : Thread nD τ) none) Set.univ
          (.op (.enqueueDma (tokM.slice (Rect.unit (s := S16384x1152) o4 S1x1152.size b4) (fun _ => rfl))
            (.here (gatM.slice (Rect.unit (s := S256x1152) o3 S1x1152.size b3) (fun _ => rfl))) (.dma cc0_scratch2.sem) w1 w2 w3) kk) Q) := by
  subst e3 e4
  have key := Transfers.wp_dmaBatch (countersEmb (U := Pipeline.UD sig nD τ)) (defs := defs₀ (F := F)) (Q := Q) Variants.none (c : Thread nD τ) none (src := tokRow (rw t)) (via := .same)
    (dst := gatRow t) (sm := .dma cc0_scratch2.sem) (hsrc := w1) (hdst := w2) (hsem := w3) (k := kk) (q := Transfers.shareTokN fullShare t.val) (fs := fh)
    (Sd := gatSet t) (fd := f9) (D := gotten c fh rw) (j := t.val) (u := 0) () 144 gat_credit (gatRow_set t).le t.isLt (Nat.zero_le _)
    (by
      refine BI.sep_mono ?_ ?_
      · exact Entails.of_eq (pointsTo_congr (row_lands c fh f9 rw t))
      · exact Entails.of_eq (congrArg (fun S => (tokM.view.loc (c : Thread nD τ) ↦[S]{Transfers.shareTokN fullShare t.val} fh : sProp 𝕄)) (tokRow_set (rw t))))
  refine BIBase.Entails.trans ?_ key
  rw [tokRow_set]
  iintro ⟨⟨HG, HK⟩, HB⟩
  isplitl [HK]; · iexact HK
  isplitl [HG]; · iexact HG
  iexact HB

set_option maxHeartbeats 4000000 in
theorem issue_step (hrw : ∀ t, (slot c xs i t).toNat = (rw t).val) (k : Fin k0_t1_loop.trips) (acc : Unit) :
    issueAt c xs fh f9 rw k acc ⊢ wp frame (wpE (defs₀ (F := F)) Variants.none (c : Thread nD τ) none) Set.univ
      (body1 (F := F) i arg5 h5 arg6 h6 arg7 h7 a0 v0 v2 hc k acc) (issueAt c xs fh f9 rw (k.val + 1)) := by
  have hk : k.val < 256 := trips1 ▸ k.isLt
  unfold issueAt
  rw [Ring.bigSep_rangeSet_head (Φ := ready c fh f9 rw) hk hk]
  have hword := slot_of c xs i ⟨k.val, hk⟩ (k0_off2 i k) (k0_off2_inb i k) (k0_off2_eq i k)
  have hrow : (srcM.view.readAt (Elt F) (Rect.unit (s := S17408) (k0_off2 i k) S1.size (k0_off2_inb i k)).toLoadRect xs (Shape.Idx.first (numel1_S1.symm ▸ Nat.one_pos))).toNat = (rw ⟨k.val, hk⟩).val :=
    (congrArg BitVec.toNat hword).trans (hrw _)
  have hchk : k0_chk1 v2 (srcM.view.readAt (Elt F) (Rect.unit (s := S17408) (k0_off2 i k) S1.size (k0_off2_inb i k)).toLoadRect xs (Shape.Idx.first (numel1_S1.symm ▸ Nat.one_pos))) :=
    chk1_of v2 _ (rw ⟨k.val, hk⟩) hrow
  iintro ⟨HB, HT, HGK, HR⟩
  dsimp only [body1, k0_t1_body]
  sl_exec (disch := first | sl_exact hchk)
  iapply (gat_issue c fh f9 rw ⟨k.val, hk⟩ (k0_off3_eq k) (congrArg (fun n : ℕ => (![n, 0] : Fin 2 → ℕ)) hrow)) $$ [HGK HB]
  · isplitl [HGK]; · iexact HGK
    iexact HB
  iintro HB
  sl_step
  isplitl [HB]; · iexact HB
  isplitl [HT]; · iexact HT
  iexact HR

theorem drain_step (k : Fin k0_t2_loop.trips) (acc : Unit) :
    drainAt c fh rw k acc ⊢ wp frame (wpE (defs₀ (F := F)) Variants.none (c : Thread nD τ) none) Set.univ
      (body2 (F := F) i arg5 h5 arg6 h6 arg7 h7 a0 v0 v2 hc k acc) (drainAt c fh rw (k.val + 1)) := by
  have hk : k.val < 256 := trips2 ▸ k.isLt
  unfold drainAt
  iintro ⟨⟨%W, HO⟩, HB⟩
  have hil : Transfers.InterleavedWaits (c : Thread nD τ) (.dma cc0_scratch2.sem : SemLoc sig) := trivial
  dsimp only [body2, k0_t2_body]
  sl_exec
  sl_step
  isplitl [HO]; · iexists _; iexact HO
  rw [show (k.val + 1) * 144 = k.val * 144 + 144 by omega]
  iexact HB

/-- What of the token array is not lent out: what is left of the share, and of each share the other rows. -/
abbrev kept : sProp 𝕄 :=
  iprop((tokM.view.loc (c : Thread nD τ) ↦{Transfers.shareDrop fullShare 256} fh)
    ∗ bigSep Finset.univ (fun t : Fin 256 => tokM.view.loc (c : Thread nD τ) ↦[Finset.univ \ tokSet (rw t)]{Transfers.shareTokN fullShare t.val} fh))

/-- One share of the token array: the row the copy reads, and the others. -/
theorem tok_one (t : Fin 256) : (tokM.view.loc (c : Thread nD τ) ↦{Transfers.shareTokN fullShare t.val} fh : sProp 𝕄)
      = iprop((tokM.view.loc (c : Thread nD τ) ↦[Finset.univ \ tokSet (rw t)]{Transfers.shareTokN fullShare t.val} fh)
        ∗ (tokM.view.loc (c : Thread nD τ) ↦[tokSet (rw t)]{Transfers.shareTokN fullShare t.val} fh)) := by
  have h := set_union fh (q := Transfers.shareTokN fullShare t.val) (Finset.univ \ tokSet (rw t)) (tokSet (rw t)) Finset.sdiff_disjoint
  rw [Finset.sdiff_union_of_subset (Finset.subset_univ _)] at h
  exact h

theorem tok_shares : (full c tokM fh : sProp 𝕄) = iprop((tokM.view.loc (c : Thread nD τ) ↦{Transfers.shareDrop fullShare 256} fh)
    ∗ bigSep Finset.univ (fun t : Fin 256 => tokM.view.loc (c : Thread nD τ) ↦{Transfers.shareTokN fullShare t.val} fh)) := by
  rw [Ring.bigSep_fin_eq_range 256 (fun t : Fin 256 => (tokM.view.loc (c : Thread nD τ) ↦{Transfers.shareTokN fullShare t.val} fh : sProp 𝕄))
    (fun t => tokM.view.loc (c : Thread nD τ) ↦{Transfers.shareTokN fullShare t} fh) (fun _ _ => rfl)]
  exact both (Transfers.pointsTo_toks_range fullShare 256)

theorem tok_split : (full c tokM fh : sProp 𝕄) ⊣⊢ iprop(kept c fh rw ∗ bigSep Finset.univ (fun t : Fin 256 => tokM.view.loc (c : Thread nD τ) ↦[tokSet (rw t)]{Transfers.shareTokN fullShare t.val} fh)) := by
  rw [tok_shares, BI.bigSep_congr (fun t _ => tok_one c fh rw t), pair_family]
  constructor
  · iintro ⟨H0, H1, H2⟩
    isplitr [H2]
    · isplitl [H0]; · iexact H0
      iexact H1
    iexact H2
  · iintro ⟨⟨H0, H1⟩, H2⟩
    isplitl [H0]; · iexact H0
    isplitl [H1]; · iexact H1
    iexact H2

theorem gather_split : iprop(full c gatM f9 ∗ full c tokM fh) ⊢ iprop(kept c fh rw ∗ bigSep Finset.univ (ready c fh f9 rw)) := by
  rw [gat_blocks c f9]
  unfold ready
  rw [pair_family]
  iintro ⟨HG, HT⟩
  ihave H := (tok_split c fh rw).1 $$ HT
  icases H with ⟨HK, HT⟩
  isplitl [HK]; · iexact HK
  isplitl [HG]; · iexact HG
  iexact HT

theorem gather_join : iprop(kept c fh rw ∗ bigSep Finset.univ (gotten c fh rw)) ⊢ iprop(full c gatM (gathered c fh rw) ∗ full c tokM fh) := by
  rw [gat_blocks c (gathered c fh rw)]
  unfold gotten
  rw [pair_family]
  iintro ⟨HK, HG, HT⟩
  isplitl [HG]; · iexact HG
  iapply (tok_split c fh rw).2
  isplitl [HK]; · iexact HK
  iexact HT

end Run

end Cert.MoeIdeal.Own

end
-- ==== Proof.MoeIdealWords.lean ====
/-
The words that the expert kernel counts and addresses with.

A tile that has rows has at most 256 of them, and its number is at most 67, so that the kernel's word
arithmetic neither wraps nor changes sign: its loops run once for every row, the loops that would
finish an unrolled one have nothing to do, and every address is the number it is meant to be.
-/
module

public import proofs.«01_k».proof.Proof.MoeIdealKit

@[expose] public section

set_option maxRecDepth 16384

noncomputable section

namespace Cert.MoeIdeal.Own

open Idealize.ShloMosaic Idealize.ShloMosaic.TcCoe Idealize.ShloMosaic.Tactic
open Cert.MoeIdeal Cert.MoeIdeal.Gen

theorem counts_fin : ∀ n : Fin 257, (k0_t3_loop (BitVec.ofNat 32 n.val)).trips = n.val ∧ (k0_t3_loop (BitVec.ofNat 32 n.val)).OK
    ∧ (k0_t4_loop (BitVec.ofNat 32 n.val)).trips = 0 ∧ (k0_t4_loop (BitVec.ofNat 32 n.val)).OK
    ∧ (k0_t5_loop (BitVec.ofNat 32 n.val)).trips = n.val ∧ (k0_t5_loop (BitVec.ofNat 32 n.val)).OK
    ∧ (k0_t6_loop (BitVec.ofNat 32 n.val)).trips = 0 ∧ (k0_t6_loop (BitVec.ofNat 32 n.val)).OK
    ∧ (k0_cond1 (BitVec.ofNat 32 n.val) = 1#1 ↔ 0 < n.val) := by decide +kernel

theorem counts (v : BitVec 32) (h : v.toNat ≤ 256) : (k0_t3_loop v).trips = v.toNat ∧ (k0_t3_loop v).OK ∧ (k0_t4_loop v).trips = 0 ∧ (k0_t4_loop v).OK
    ∧ (k0_t5_loop v).trips = v.toNat ∧ (k0_t5_loop v).OK ∧ (k0_t6_loop v).trips = 0 ∧ (k0_t6_loop v).OK ∧ (k0_cond1 v = 1#1 ↔ 0 < v.toNat) := by
  have e : v = BitVec.ofNat 32 v.toNat := BitVec.eq_of_toNat_eq (by rw [BitVec.toNat_ofNat, Nat.mod_eq_of_lt v.isLt])
  have key := counts_fin ⟨v.toNat, Nat.lt_succ_of_le h⟩
  dsimp only at key
  rw [← e] at key
  exact key

theorem step_fin : ∀ k : Fin 256, (Scf.iv 0#32 1#32 k.val).toNat = k.val := by decide +kernel
theorem place_fin : ∀ (a : Fin 68) (k : Fin 256), (Scalar.addi (Scalar.muli (BitVec.ofNat 32 a.val) 256#32) (Scf.iv 0#32 1#32 k.val)).toNat = 256 * a.val + k.val := by decide +kernel

theorem off7_eq (i : grid0.Coords) (v : BitVec 32) (k : Fin (k0_t3_loop v).trips) (hk : k.val < 256) : k0_off7 i v k = ![256 * (i 0).val + k.val] :=
  congrArg (fun n : ℕ => (![n] : Fin 1 → ℕ)) (place_fin (i 0) ⟨k.val, hk⟩)
theorem off9_eq (v : BitVec 32) (k : Fin (k0_t3_loop v).trips) (hk : k.val < 256) : k0_off9 v k = ![k.val, 0] :=
  congrArg (fun n : ℕ => (![n, 0] : Fin 2 → ℕ)) (step_fin ⟨k.val, hk⟩)
theorem off13_eq (v : BitVec 32) (k : Fin (k0_t5_loop v).trips) (hk : k.val < 256) : k0_off13 v k = ![k.val, 0] :=
  congrArg (fun n : ℕ => (![n, 0] : Fin 2 → ℕ)) (step_fin ⟨k.val, hk⟩)

/-- The side condition of a tile's row count. -/
theorem chk2_of (i : grid0.Coords) (v : BitVec 32) (h : v.toNat ≤ 256) : k0_chk2 i v := by
  obtain ⟨t3, o3, t4, o4, t5, o5, t6, o6, -⟩ := counts v h
  have hi : (i 0).val < 68 := (i 0).isLt
  refine ⟨fun _ => o3, fun k _ a => ?_, fun k _ a => ?_, fun _ => o4, fun k => absurd k.isLt (by omega), fun k => absurd k.isLt (by omega),
    fun _ => o5, fun k _ a => ?_, fun _ => o6, fun k => absurd k.isLt (by omega)⟩
  · have hk : k.val < 256 := by have := k.isLt; omega
    rw [off7_eq i v k hk]
    obtain rfl : a = 0 := Subsingleton.elim (α := Fin 1) _ _
    show 256 * (i 0).val + k.val + 1 ≤ 17408
    omega
  · have hk : k.val < 256 := by have := k.isLt; omega
    rw [off9_eq v k hk]
    fin_cases a
    · show k.val + 1 ≤ 256; omega
    · show 0 + 1024 ≤ 1024; omega
  · have hk : k.val < 256 := by have := k.isLt; omega
    rw [off13_eq v k hk]
    fin_cases a
    · show k.val + 1 ≤ 256; omega
    · show 0 + 1024 ≤ 1024; omega

end Cert.MoeIdeal.Own

end
-- ==== Proof.MoeIdealScatter.lean ====
/-
The rows of a tile are written back.

After a tile has been worked on, the buffer of results holds one row for each of its `n` rows, and
these are copied, one by one, to the rows of the result array that the tile's words name: in one loop
the copies are started, in a second one they are waited for, all on one semaphore. The words of a
tile's rows name different rows, so that the copies do not touch one another. After the second loop
the named rows of the result array are the rows of the buffer, and its other rows are as they were.
-/
module

public import proofs.«01_k».proof.Proof.MoeIdealGather
public import proofs.«01_k».proof.Proof.MoeIdealWords

@[expose] public section

set_option maxRecDepth 16384

noncomputable section

namespace Cert.MoeIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MoeIdeal Cert.MoeIdeal.Gen

variable {F : FTy → Type} [FloatOps F]

local notation "𝕄" => MT nD τ sig Unit (Elt F) ℕ (Pipeline.UD sig nD τ) ℕ

/-! ## Rows -/

theorem out_inb (r : Fin 16384) : ∀ a, (![r.val, 0] : Fin 2 → ℕ) a + S1x1024.size a ≤ S16384x1024.size a := by
  have := r.isLt; intro a; fin_cases a
  · show r.val + 1 ≤ 16384; omega
  · show 0 + 1024 ≤ 1024; omega
theorem res_inb (t : Fin 256) : ∀ a, (![t.val, 0] : Fin 2 → ℕ) a + S1x1024.size a ≤ S256x1024.size a := by
  have := t.isLt; intro a; fin_cases a
  · show t.val + 1 ≤ 256; omega
  · show 0 + 1024 ≤ 1024; omega

/-- Row `r` of the result array, and row `t` of the buffer. -/
def outRow (r : Fin 16384) : Memref sig .tc .hbm S1x1024 .f32 := outM.slice (Rect.unit (s := S16384x1024) ![r.val, 0] S1x1024.size (out_inb r)) (fun _ => rfl)
def resRow (t : Fin 256) : Memref sig .tc .vmem S1x1024 .f32 := resM.slice (Rect.unit (s := S256x1024) ![t.val, 0] S1x1024.size (res_inb t)) (fun _ => rfl)

abbrev outSet (r : Fin 16384) : Finset S16384x1024.Idx := (Rect.unit (s := S16384x1024) ![r.val, 0] S1x1024.size (out_inb r)).set
abbrev resSet (t : Fin 256) : Finset S256x1024.Idx := (Rect.unit (s := S256x1024) ![t.val, 0] S1x1024.size (res_inb t)).set
theorem outRow_set (r : Fin 16384) : (outRow r).view.set = outSet r := by unfold outRow; exact View.set_slice_whole _ _
theorem resRow_set (t : Fin 256) : (resRow t).view.set = resSet t := by unfold resRow; exact View.set_slice_whole _ _
theorem mem_outSet (r : Fin 16384) (y : S16384x1024.Idx) : y ∈ outSet r ↔ y 0 = r := by
  rw [Rect.mem_set_unit]
  have h2 : (y 1).val < 1024 := (y 1).isLt
  constructor
  · intro H; have a0 : r.val ≤ (y 0).val ∧ (y 0).val < r.val + 1 := H 0; exact Fin.ext (by omega)
  · rintro rfl a; fin_cases a
    · show (y 0).val ≤ (y 0).val ∧ (y 0).val < (y 0).val + 1; omega
    · show 0 ≤ (y 1).val ∧ (y 1).val < 0 + 1024; omega
theorem mem_resSet (t : Fin 256) (y : S256x1024.Idx) : y ∈ resSet t ↔ y 0 = t := by
  rw [Rect.mem_set_unit]
  have h2 : (y 1).val < 1024 := (y 1).isLt
  constructor
  · intro H; have a0 : t.val ≤ (y 0).val ∧ (y 0).val < t.val + 1 := H 0; exact Fin.ext (by omega)
  · rintro rfl a; fin_cases a
    · show (y 0).val ≤ (y 0).val ∧ (y 0).val < (y 0).val + 1; omega
    · show 0 ≤ (y 1).val ∧ (y 1).val < 0 + 1024; omega

/-- Place `(t, o)` of the buffer of results. -/
def resIdx (t : Fin 256) (o : Fin 1024) : S256x1024.Idx := fun a => match a with | 0 => t | 1 => o

open Classical in
/-- The result array once the rows are there: the rows of the tile's words are the buffer's, the others as before. -/
def scattered (c : Dev nD) (g : Held (F := F) c outM) (fb : Held (F := F) c resM) (rw : Fin 256 → Fin 16384) (n : ℕ) : Held (F := F) c outM :=
  fun y : S16384x1024.Idx => if h : ∃ t : Fin 256, t.val < n ∧ rw t = y 0 then fb (resIdx h.choose (y 1)) else g y

/-- The words of a tile's rows differ. -/
def Apart (rw : Fin 256 → Fin 16384) (n : ℕ) : Prop := ∀ t t' : Fin 256, t.val < n → t'.val < n → rw t = rw t' → t = t'

theorem scattered_of (c : Dev nD) (g : Held (F := F) c outM) (fb : Held (F := F) c resM) {rw : Fin 256 → Fin 16384} {n : ℕ} (ha : Apart rw n)
    {t : Fin 256} (ht : t.val < n) (y : S16384x1024.Idx) (hy : y 0 = rw t) : scattered c g fb rw n y = fb (resIdx t (y 1)) := by
  have h : ∃ t : Fin 256, t.val < n ∧ rw t = y 0 := ⟨t, ht, hy.symm⟩
  have e : h.choose = t := ha _ _ h.choose_spec.1 ht (h.choose_spec.2.trans hy)
  unfold scattered
  rw [dif_pos h, e]
theorem scattered_else (c : Dev nD) (g : Held (F := F) c outM) (fb : Held (F := F) c resM) {rw : Fin 256 → Fin 16384} {n : ℕ}
    (y : S16384x1024.Idx) (hy : ∀ t : Fin 256, t.val < n → rw t ≠ y 0) : scattered c g fb rw n y = g y := by
  unfold scattered
  exact dif_neg fun ⟨t, ht, e⟩ => hy t ht e

/-- Copying the buffer's row lands the row of `scattered`. -/
theorem out_lands (c : Dev nD) (g : Held (F := F) c outM) (fb : Held (F := F) c resM) {rw : Fin 256 → Fin 16384} {n : ℕ} (ha : Apart rw n) {t : Fin 256} (ht : t.val < n) :
    ∀ y ∈ outSet (rw t), (outRow (rw t)).view.write (Elt F) g ((resRow t).view.read (Elt F) fb) Finset.univ y = scattered c g fb rw n y := by
  intro y hy
  have e0 : y 0 = rw t := (mem_outSet _ y).1 hy
  rw [← outRow_set] at hy
  obtain ⟨x, -, hx⟩ := Finset.mem_map.1 hy
  have hx : ((outRow (rw t)).view.emb x : S16384x1024.Idx) = y := hx
  subst hx
  refine (View.write_emb_of_mem (v := (outRow (rw t)).view) g _ (Finset.mem_univ x)).trans ?_
  refine Eq.trans ?_ (scattered_of c g fb ha ht _ e0).symm
  show fb ((resRow t).view.emb x) = _
  refine congrArg (fun z : S256x1024.Idx => fb z) (funext fun (a : Fin 2) => ?_)
  match a with
  | 0 =>
    apply Fin.ext
    have : (x 0).val < 1 := (x 0).isLt
    show (t.val + 1 * (x 0).val : ℕ) = t.val
    omega
  | 1 => rfl

section Run

variable (c : Dev nD) (i : grid0.Coords) (xs : Held (F := F) c srcM) (g : Held (F := F) c outM) (fb : Held (F := F) c resM)
  (rw : Fin 256 → Fin 16384) (n : ℕ) (hn : n ≤ 256)

/-- What copy `t` takes: the row of the result array as it was, and the buffer's row. -/
abbrev toSend (t : Fin 256) : sProp 𝕄 :=
  iprop((outM.view.loc (c : Thread nD τ) ↦[outSet (rw t)]{fullShare} g) ∗ (resM.view.loc (c : Thread nD τ) ↦[resSet t]{fullShare} fb))

/-- What copy `t` delivers: the same two, the row of the result array written. -/
abbrev sent (t : Fin 256) : sProp 𝕄 :=
  iprop((outM.view.loc (c : Thread nD τ) ↦[outSet (rw t)]{fullShare} scattered c g fb rw n) ∗ (resM.view.loc (c : Thread nD τ) ↦[resSet t]{fullShare} fb))

instance sent_storable (t : Fin 256) : BI.Storable (upEmb : UEmb _ 𝕄) (sent c g fb rw n t) := by
  unfold sent; infer_instance

abbrev outBatch (j u : ℕ) : sProp 𝕄 :=
  Transfers.Batch (countersEmb (U := Pipeline.UD sig nD τ)) (c : Thread nD τ) (.dma cc0_scratch3.sem) () 128 (fun t : Fin n => sent c g fb rw n (t.castLE hn)) j u

/-- Before trip `k`: `k` copies started, the rows from `k` on still in hand. -/
def sendAt (k : ℕ) (_ : Unit) : sProp 𝕄 :=
  iprop(outBatch c g fb rw n hn k 0 ∗ table c srcM xs ∗ bigSep (Ring.rangeSet 256 k n) (toSend c g fb rw))

/-- Before trip `k` of the second loop: `k` rows waited for. -/
def settleAt (k : ℕ) (_ : Unit) : sProp 𝕄 :=
  iprop((∃ W, owes (c : Thread nD τ) 0 W) ∗ outBatch c g fb rw n hn n (k * 128))

/-- The credit of one row. -/
theorem out_credit : sig.dmaCredit .tc (Kind.tc.table .hbm) outM.view.buf S1x1024 .f32 = 128 := by decide +kernel

theorem out_issue (ha : Apart rw n) (t : Fin 256) (ht : t.val < n) {o8 o9 : Fin 2 → ℕ} {b9 : ∀ a, o9 a + S1x1024.size a ≤ S256x1024.size a}
    {b8 : ∀ a, o8 a + S1x1024.size a ≤ S16384x1024.size a} (e9 : o9 = ![t.val, 0]) (e8 : o8 = ![(rw t).val, 0])
    {w1 w2 w3} {kk : PUnit → Prog (TpuEff nD τ sig (Elt F) Λ₀ .tc) PUnit} {Q : PUnit → sProp 𝕄} :
    iprop(toSend c g fb rw t ∗ outBatch c g fb rw n hn t.val 0)
      ⊢ iprop((outBatch c g fb rw n hn (t.val + 1) 0 -∗ wp frame (wpE (defs₀ (F := F)) Variants.none (c : Thread nD τ) none) Set.univ (kk ⟨⟩) Q)
        -∗ wp frame (wpE (defs₀ (F := F)) Variants.none (c : Thread nD τ) none) Set.univ
          (.op (.enqueueDma (resM.slice (Rect.unit (s := S256x1024) o9 S1x1024.size b9) (fun _ => rfl))
            (.here (outM.slice (Rect.unit (s := S16384x1024) o8 S1x1024.size b8) (fun _ => rfl))) (.dma cc0_scratch3.sem) w1 w2 w3) kk) Q) := by
  subst e8 e9
  have key := Transfers.wp_dmaBatch (countersEmb (U := Pipeline.UD sig nD τ)) (defs := defs₀ (F := F)) (Q := Q) Variants.none (c : Thread nD τ) none (src := resRow t) (via := .same)
    (dst := outRow (rw t)) (sm := .dma cc0_scratch3.sem) (hsrc := w1) (hdst := w2) (hsem := w3) (k := kk) (q := fullShare) (fs := fb)
    (Sd := outSet (rw t)) (fd := g) (D := fun t : Fin n => sent c g fb rw n (t.castLE hn)) (j := t.val) (u := 0) () 128 out_credit (outRow_set (rw t)).le ht (Nat.zero_le _)
    (by
      refine BI.sep_mono ?_ ?_
      · exact Entails.of_eq (pointsTo_congr (out_lands c g fb ha ht))
      · exact Entails.of_eq (congrArg (fun S => (resM.view.loc (c : Thread nD τ) ↦[S]{fullShare} fb : sProp 𝕄)) (resRow_set t)))
  refine BIBase.Entails.trans ?_ key
  rw [resRow_set]
  iintro ⟨⟨HO, HR⟩, HB⟩
  isplitl [HR]; · iexact HR
  isplitl [HO]; · iexact HO
  iexact HB

variable (arg5 : Memref sig .tc .vmem S1x1x8x1024x256 .bf16) (h5 : arg5.IsWhole)
  (arg6 : Memref sig .tc .vmem S1x1x8x1024x256 .bf16) (h6 : arg6.IsWhole)
  (arg7 : Memref sig .tc .vmem S1x1x8x256x1024 .bf16) (h7 : arg7.IsWhole) (v2 : BitVec 32) (hw : k0_chk2 i v2) (hc : k0_cond1 v2 = 1#1)

/-- The two loops' bodies on the buffers of the call. -/
abbrev body3 := k0_t3_body (F := F) i srcM (Memref.isWhole_whole _) groupM (Memref.isWhole_whole _) rowsM (Memref.isWhole_whole _) tokM (Memref.isWhole_whole _)
  arg5 h5 arg6 h6 arg7 h7 outM (Memref.isWhole_whole _) gatM (Memref.isWhole_whole _) resM (Memref.isWhole_whole _) cc0_scratch2 cc0_scratch3 v2 hw hc
abbrev body5 := k0_t5_body (F := F) i srcM (Memref.isWhole_whole _) groupM (Memref.isWhole_whole _) rowsM (Memref.isWhole_whole _) tokM (Memref.isWhole_whole _)
  arg5 h5 arg6 h6 arg7 h7 outM (Memref.isWhole_whole _) gatM (Memref.isWhole_whole _) resM (Memref.isWhole_whole _) cc0_scratch2 cc0_scratch3 v2 hw hc

theorem chk3_of (v : BitVec 32) (r : Fin 16384) (h : v.toNat = r.val) : k0_chk3 v2 v := by
  have := r.isLt
  intro _ a; fin_cases a
  · show v.toNat + 1 ≤ 16384; omega
  · show 0 + 1024 ≤ 1024; omega

set_option maxHeartbeats 4000000 in
theorem send_step (ha : Apart rw n) (hv : v2.toNat = n) (hrw : ∀ t, (slot c xs i t).toNat = (rw t).val) (k : Fin (k0_t3_loop v2).trips) (acc : Unit) :
    sendAt c xs g fb rw n hn k acc ⊢ wp frame (wpE (defs₀ (F := F)) Variants.none (c : Thread nD τ) none) Set.univ
      (body3 (F := F) i arg5 h5 arg6 h6 arg7 h7 v2 hw hc k acc) (sendAt c xs g fb rw n hn (k.val + 1)) := by
  have hkn : k.val < n := by have := k.isLt; have := (counts v2 (hv ▸ hn)).1; omega
  have hk : k.val < 256 := by omega
  unfold sendAt
  rw [Ring.bigSep_rangeSet_head (Φ := toSend c g fb rw) hkn hk]
  have hword := slot_of c xs i ⟨k.val, hk⟩ (k0_off7 i v2 k) (k0_off7_inb i v2 hw k hc) (off7_eq i v2 k hk)
  have hrow : (srcM.view.readAt (Elt F) (Rect.unit (s := S17408) (k0_off7 i v2 k) S1.size (k0_off7_inb i v2 hw k hc)).toLoadRect xs (Shape.Idx.first (numel1_S1.symm ▸ Nat.one_pos))).toNat = (rw ⟨k.val, hk⟩).val :=
    (congrArg BitVec.toNat hword).trans (hrw _)
  have hchk : k0_chk3 v2 (srcM.view.readAt (Elt F) (Rect.unit (s := S17408) (k0_off7 i v2 k) S1.size (k0_off7_inb i v2 hw k hc)).toLoadRect xs (Shape.Idx.first (numel1_S1.symm ▸ Nat.one_pos))) :=
    chk3_of v2 _ (rw ⟨k.val, hk⟩) hrow
  iintro ⟨HB, HT, HGK, HR⟩
  dsimp only [body3, k0_t3_body]
  sl_exec (disch := first | sl_exact hchk)
  iapply (out_issue c g fb rw n hn ha ⟨k.val, hk⟩ hkn (off9_eq v2 k hk) (congrArg (fun n : ℕ => (![n, 0] : Fin 2 → ℕ)) hrow)) $$ [HGK HB]
  · isplitl [HGK]; · iexact HGK
    iexact HB
  iintro HB
  sl_step
  isplitl [HB]; · iexact HB
  isplitl [HT]; · iexact HT
  iexact HR

theorem settle_step (hv : v2.toNat = n) (k : Fin (k0_t5_loop v2).trips) (acc : Unit) :
    settleAt c g fb rw n hn k acc ⊢ wp frame (wpE (defs₀ (F := F)) Variants.none (c : Thread nD τ) none) Set.univ
      (body5 (F := F) i arg5 h5 arg6 h6 arg7 h7 v2 hw hc k acc) (settleAt c g fb rw n hn (k.val + 1)) := by
  have hkn : k.val < n := by have := k.isLt; have := (counts v2 (hv ▸ hn)).2.2.2.2.1; omega
  unfold settleAt
  iintro ⟨⟨%W, HO⟩, HB⟩
  have hil : Transfers.InterleavedWaits (c : Thread nD τ) (.dma cc0_scratch3.sem : SemLoc sig) := trivial
  dsimp only [body5, k0_t5_body]
  sl_exec
  sl_step
  isplitl [HO]; · iexists _; iexact HO
  rw [show (k.val + 1) * 128 = k.val * 128 + 128 by omega]
  iexact HB

/-! ## Before the loops, and after them -/

/-- What of the two buffers no copy touches. -/
abbrev aside (f : Held (F := F) c outM) : sProp 𝕄 :=
  iprop((outM.view.loc (c : Thread nD τ) ↦[others (ℓ := outM.view.loc (c : Thread nD τ)) (Ring.rangeSet 256 0 n) (fun t => outSet (rw t))]{fullShare} f)
    ∗ (resM.view.loc (c : Thread nD τ) ↦[others (ℓ := resM.view.loc (c : Thread nD τ)) (Ring.rangeSet 256 0 n) (fun t => resSet t)]{fullShare} fb))

theorem rows_split (ha : Apart rw n) (f : Held (F := F) c outM) : (iprop(full c outM f ∗ full c resM fb) : sProp 𝕄)
    ⊣⊢ iprop(aside c fb rw n f ∗ bigSep (Ring.rangeSet 256 0 n) (fun t => iprop((outM.view.loc (c : Thread nD τ) ↦[outSet (rw t)]{fullShare} f) ∗ (resM.view.loc (c : Thread nD τ) ↦[resSet t]{fullShare} fb)))) := by
  have eo := pieces (F := F) (ℓ := outM.view.loc (c : Thread nD τ)) (q := fullShare) f (Ring.rangeSet 256 0 n) (fun t => outSet (rw t))
    (fun t ht t' ht' hne => Finset.disjoint_left.mpr fun y hy hy' => hne (ha t t' ((Ring.mem_rangeSet _ _ _).1 ht).2 ((Ring.mem_rangeSet _ _ _).1 ht').2
      (((mem_outSet _ y).1 hy).symm.trans ((mem_outSet _ y).1 hy'))))
  have er := pieces (F := F) (ℓ := resM.view.loc (c : Thread nD τ)) (q := fullShare) fb (Ring.rangeSet 256 0 n) (fun t => resSet t)
    (fun t ht t' ht' hne => Finset.disjoint_left.mpr fun y hy hy' => hne (((mem_resSet _ y).1 hy).symm.trans ((mem_resSet _ y).1 hy')))
  rw [pair_family]
  constructor
  · iintro ⟨HO, HR⟩
    ihave HO' := (Entails.of_eq eo) $$ HO
    ihave HR' := (Entails.of_eq er) $$ HR
    icases HO' with ⟨O1, O2⟩
    icases HR' with ⟨R1, R2⟩
    isplitl [O2 R2]
    · isplitl [O2]; · iexact O2
      iexact R2
    isplitl [O1]; · iexact O1
    iexact R1
  · iintro ⟨⟨O2, R2⟩, O1, R1⟩
    isplitl [O1 O2]
    · iapply (Entails.of_eq eo.symm)
      isplitl [O1]; · iexact O1
      iexact O2
    · iapply (Entails.of_eq er.symm)
      isplitl [R1]; · iexact R1
      iexact R2

theorem sent_family : (bigSep Finset.univ (fun t : Fin n => sent c g fb rw n (t.castLE hn)) : sProp 𝕄) = bigSep (Ring.rangeSet 256 0 n) (sent c g fb rw n) := by
  have hΨ : ∀ (k : ℕ) (h : k < 256), (if h : k < 256 then sent c g fb rw n ⟨k, h⟩ else BI.emp : sProp 𝕄) = sent c g fb rw n ⟨k, h⟩ := fun k h => dif_pos h
  rw [Ring.bigSep_fin_eq_range n (fun t : Fin n => sent c g fb rw n (t.castLE hn)) (fun k => if h : k < 256 then sent c g fb rw n ⟨k, h⟩ else BI.emp) (fun t h => hΨ t (by omega)),
    Ring.bigSep_rangeSet_eq_range (Φ := sent c g fb rw n) hn (fun k => if h : k < 256 then sent c g fb rw n ⟨k, h⟩ else BI.emp)
      (fun k h => by rw [hΨ k (by omega)]; congr 1; apply Fin.ext; dsimp only; omega), Nat.sub_zero]

theorem aside_eq : (aside c fb rw n g : sProp 𝕄) = aside c fb rw n (scattered c g fb rw n) := by
  unfold aside
  rw [pointsTo_congr (f := g) (g := scattered c g fb rw n) fun y hy => (scattered_else c g fb y fun t ht e =>
    (mem_others _ _ y).1 hy t ((Ring.mem_rangeSet _ _ _).2 ⟨Nat.zero_le _, ht⟩) ((mem_outSet _ y).2 e.symm)).symm]

theorem send_join (ha : Apart rw n) : iprop(aside c fb rw n g ∗ bigSep Finset.univ (fun t : Fin n => sent c g fb rw n (t.castLE hn)))
    ⊢ iprop(full c outM (scattered c g fb rw n) ∗ full c resM fb) := by
  rw [sent_family, aside_eq]
  exact (rows_split c fb rw n ha (scattered c g fb rw n)).2

end Run

end Cert.MoeIdeal.Own

end
-- ==== Proof.MoeIdealTile.lean ====
/-
What the expert kernel writes for one tile of 256 rows: the sum over the eight experts of a group of the
gate's column times the expert's output.
-/
module

public import proofs.«01_k».proof.Proof.MoeIdealScatter

@[expose] public section

noncomputable section

open Idealize.ShloMosaic Idealize.SL.Sem
open Cert.MoeIdeal Cert.MoeIdeal.Gen

namespace Cert.MoeIdeal.Own

variable {F : FTy → Type} [FloatOps F]

theorem wide_inb (e : Fin 8) : ∀ a, (![0, 0, e.val, 0, 0] : Fin 5 → ℕ) a + S1x1x1x1024x256.size a ≤ S1x1x8x1024x256.size a := by
  revert e; decide
theorem tall_inb (e : Fin 8) : ∀ a, (![0, 0, e.val, 0, 0] : Fin 5 → ℕ) a + S1x1x1x256x1024.size a ≤ S1x1x8x256x1024.size a := by
  revert e; decide

/-- Expert `e`'s matrix of a block of eight. -/
def wide (x : Vec F S1x1x8x1024x256 .bf16) (e : Fin 8) : Vec F S1x1x1x1024x256 .bf16 :=
  fun y => x ((Rect.unit (s := S1x1x8x1024x256) ![0, 0, e.val, 0, 0] S1x1x1x1024x256.size (wide_inb e)).toLoadRect.idx y)
def tall (x : Vec F S1x1x8x256x1024 .bf16) (e : Fin 8) : Vec F S1x1x1x256x1024 .bf16 :=
  fun y => x ((Rect.unit (s := S1x1x8x256x1024) ![0, 0, e.val, 0, 0] S1x1x1x256x1024.size (tall_inb e)).toLoadRect.idx y)

/-- The rows through an expert's two entry matrices: `silu (x a) * (x b)`. -/
def hidden (v11 : FVec F S256x1024 .bf16) (a b : Vec F S1x1x1x1024x256 .bf16) : FVec F S256x256 .bf16 :=
  let p : FVec F S256x256 .f32 := matmul dot_S256x1024_S1024x256_S256x256_1_0_0_1_n_n none v11 (shapeCast S1024x256 a shapeCasts_S1x1x1x1024x256_S1024x256 : FVec F S1024x256 .bf16) (constant S256x256 .f32 0x00000000#32)
  let q : FVec F S256x256 .f32 := matmul dot_S256x1024_S1024x256_S256x256_1_0_0_1_n_n none v11 (shapeCast S1024x256 b shapeCasts_S1x1x1x1024x256_S1024x256 : FVec F S1024x256 .bf16) (constant S256x256 .f32 0x00000000#32)
  truncf .bf16 (mulf (mulf p (logistic p)) q) bitsLt_bf16_f32

/-- The gates of expert `e` of group `v9`, a column. -/
def column (v9 e : BitVec 32) (v12 : Vec F S256x128 .f32) : FVec F S256x1 .f32 :=
  shapeCast S256x1 (multiReduction .add [1] S256 (select (cmpi .eq (iota .tc S256x128 32 [1] iota_S256x128_d1_w32) (broadcast S256x128 (Scalar.addi (Scalar.addi 4#32 (Scalar.muli v9 8#32)) e)))
    v12 (broadcast S256x128 (Scalar.ofBits .f32 0x00000000#32 : F .f32)) : Vec F S256x128 .f32) 0x00000000#32 reduces_S256x128_S256 (.inl rfl) rfl : FVec F S256 .f32) shapeCasts_S256_S256x1

/-- One expert added to what the ones before it gave. -/
def addExpert (v9 e : BitVec 32) (v11 : FVec F S256x1024 .bf16) (v12 : Vec F S256x128 .f32) (a b : Vec F S1x1x1x1024x256 .bf16) (d : Vec F S1x1x1x256x1024 .bf16)
    (acc : FVec F S256x1024 .f32) : FVec F S256x1024 .f32 :=
  addf acc (mulf (broadcastTo S256x1024 (column v9 e v12) broadcasts_S256x1_S256x1024 : FVec F S256x1024 .f32)
    (matmul dot_S256x256_S256x1024_S256x1024_1_0_0_1_n_n none (hidden v11 a b) (shapeCast S256x1024 d shapeCasts_S1x1x1x256x1024_S256x1024 : FVec F S256x1024 .bf16) (constant S256x1024 .f32 0x00000000#32)))

/-- The sum after the first experts. -/
def upTo (v9 : BitVec 32) (v10 : Vec F S256x1024 .f32) (v12 : Vec F S256x128 .f32) (x0 x1 : Vec F S1x1x8x1024x256 .bf16) (x2 : Vec F S1x1x8x256x1024 .bf16) :
    FVec F S256x1024 .f32 :=
  let go := fun (e : Fin 8) (b : BitVec 32) => addExpert v9 b (truncf .bf16 v10 bitsLt_bf16_f32 : FVec F S256x1024 .bf16) v12 (wide x0 e) (wide x1 e) (tall x2 e)
  go 7 7#32 (go 6 6#32 (go 5 5#32 (go 4 4#32 (go 3 3#32 (go 2 2#32 (go 1 1#32 (go 0 0#32 (broadcast S256x1024 (Scalar.ofBits .f32 0x00000000#32 : F .f32)))))))))

/-- The tile the kernel stores. -/
def tileOf (v9 : BitVec 32) (v10 : Vec F S256x1024 .f32) (v12 : Vec F S256x128 .f32) (x0 x1 : Vec F S1x1x8x1024x256 .bf16) (x2 : Vec F S1x1x8x256x1024 .bf16) :
    FVec F S256x1024 .f32 :=
  shapeCast S256x1024 (upTo v9 v10 v12 x0 x1 x2) shapeCasts_S256x1024_S256x1024

set_option maxRecDepth 65536 in
set_option maxHeartbeats 4000000 in
theorem payload (v9 : BitVec 32) (v10 : Vec F S256x1024 .f32) (v12 : Vec F S256x128 .f32) (x0 x1 : Vec F S1x1x8x1024x256 .bf16) (x2 : Vec F S1x1x8x256x1024 .bf16) :
    (k0_pay14 v9 (k0_pay1 v10) v12 (iota .tc S256x128 32 [1] iota_S256x128_d1_w32)
      (k0_pay13 v9 (k0_pay1 v10) v12 (iota .tc S256x128 32 [1] iota_S256x128_d1_w32)
        (k0_pay10 v12 (iota .tc S256x128 32 [1] iota_S256x128_d1_w32)
          (k0_pay8 v9 (k0_pay1 v10) v12 (iota .tc S256x128 32 [1] iota_S256x128_d1_w32)
            (k0_pay6 v9 (k0_pay1 v10) v12 (iota .tc S256x128 32 [1] iota_S256x128_d1_w32)
              (k0_pay5 v9 (k0_pay1 v10) v12 (iota .tc S256x128 32 [1] iota_S256x128_d1_w32) k0_pay2 (k0_pay3 v10 (wide x0 0) (wide x1 0)) (k0_pay4 v9 v12) (tall x2 0) (wide x0 1) (wide x1 1) (tall x2 1))
              (wide x0 2) (wide x1 2) (tall x2 2))
            (k0_pay7 (k0_pay1 v10) (wide x0 3)) (wide x1 3) (tall x2 3))
          (k0_pay9 (k0_pay1 v10) (wide x0 4) (wide x1 4)) (Scalar.muli v9 8#32) (tall x2 4))
        (k0_pay11 (k0_pay1 v10) (wide x0 5) (wide x1 5)) (k0_pay12 v9 v12 (iota .tc S256x128 32 [1] iota_S256x128_d1_w32)) (tall x2 5) (wide x0 6) (wide x1 6) (tall x2 6))
      (wide x0 7) (wide x1 7) (tall x2 7))
    = tileOf v9 v10 v12 x0 x1 x2 := rfl

end Cert.MoeIdeal.Own

end
-- ==== Proof.MoeIdealBody.lean ====
/-
One point of the expert kernel.

At a point the body reads how many rows its tile has. A tile without rows is passed over. Otherwise
its rows are fetched, eight experts are applied to them one after the other, and the rows of the
result are written back to where the tile's words say.
-/
module

public import proofs.«01_k».proof.Proof.MoeIdealScatter
public import proofs.«01_k».proof.Proof.MoeIdealTile
public import Idealize.ShloMosaic.Lib.VecWindow
public import Idealize.ShloMosaic.Lib.WholeRead

@[expose] public section

set_option maxRecDepth 16384

noncomputable section

namespace Cert.MoeIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MoeIdeal Cert.MoeIdeal.Gen

variable {F : FTy → Type} [FloatOps F]

local notation "𝕄" => MT nD τ sig Unit (Elt F) ℕ (Pipeline.UD sig nD τ) ℕ

/-- The word of point `i` in a table of 68 words. -/
abbrev wordAt (c : Dev nD) (M : Memref sig .tc .smem S68 .i32) (xs : Held (F := F) c M) (off : Fin 1 → ℕ) (h : ∀ a, off a + S1.size a ≤ S68.size a) : BitVec 32 :=
  M.view.readAt (Elt F) (Rect.unit (s := S68) off S1.size h).toLoadRect xs (Shape.Idx.first (numel1_S1.symm ▸ Nat.one_pos))

section Run

variable (c : Dev nD) (i : grid0.Coords) (xs : Held (F := F) c srcM) (xg : Held (F := F) c groupM) (xr : Held (F := F) c rowsM)
  (fh : Held (F := F) c tokM) (g : Held (F := F) c outM)
  (rw : Fin 256 → Fin 16384)
  (arg5 : Memref sig .tc .vmem S1x1x8x1024x256 .bf16) (h5 : arg5.IsWhole)
  (arg6 : Memref sig .tc .vmem S1x1x8x1024x256 .bf16) (h6 : arg6.IsWhole)
  (arg7 : Memref sig .tc .vmem S1x1x8x256x1024 .bf16) (h7 : arg7.IsWhole)
  (x0 : Vec F S1x1x8x1024x256 .bf16) (x1 : Vec F S1x1x8x1024x256 .bf16) (x2 : Vec F S1x1x8x256x1024 .bf16)

abbrev call : Prog (TpuEff nD τ sig (Elt F) Λ₀ .tc) PUnit :=
  cc0_moe_experts (F := F) i srcM (Memref.isWhole_whole _) groupM (Memref.isWhole_whole _) rowsM (Memref.isWhole_whole _) tokM (Memref.isWhole_whole _)
    arg5 h5 arg6 h6 arg7 h7 outM (Memref.isWhole_whole _) gatM (Memref.isWhole_whole _) resM (Memref.isWhole_whole _) cc0_scratch2 cc0_scratch3

/-- The tile's row count. -/
abbrev rowsOf : BitVec 32 := wordAt c rowsM xr (k0_off1 i) (k0_off1_inb i)

theorem gat_open : (semVal ((c : Thread nD τ), SemLoc.dma 6) 0 : sProp 𝕄) ⊢ |={Set.univ}=> gatBatch c fh rw 0 0 :=
  Transfers.batch_alloc' (Lvl := ℕ) (countersEmb (U := Pipeline.UD sig nD τ)) (c : Thread nD τ) () 144 (gotten c fh rw) (sm := .dma cc0_scratch2.sem) (E := Set.univ)
theorem gat_close : (gatBatch c fh rw 256 (256 * 144) : sProp 𝕄) ⊢ |={Set.univ}=> iprop(bigSep Finset.univ (gotten c fh rw) ∗ semVal ((c : Thread nD τ), SemLoc.dma 6) 0) :=
  Transfers.batch_collect' (Lvl := ℕ) (countersEmb (U := Pipeline.UD sig nD τ)) (c : Thread nD τ) (sm := .dma cc0_scratch2.sem) (N := 144) (by decide)
theorem out_open (fb : Held (F := F) c resM) (n : ℕ) (hn : n ≤ 256) : (semVal ((c : Thread nD τ), SemLoc.dma 7) 0 : sProp 𝕄) ⊢ |={Set.univ}=> outBatch c g fb rw n hn 0 0 :=
  Transfers.batch_alloc' (Lvl := ℕ) (countersEmb (U := Pipeline.UD sig nD τ)) (c : Thread nD τ) () 128 (fun t : Fin n => sent c g fb rw n (t.castLE hn)) (sm := .dma cc0_scratch3.sem) (E := Set.univ)
theorem out_close (fb : Held (F := F) c resM) (n : ℕ) (hn : n ≤ 256) : (outBatch c g fb rw n hn n (n * 128) : sProp 𝕄)
    ⊢ |={Set.univ}=> iprop(bigSep Finset.univ (fun t : Fin n => sent c g fb rw n (t.castLE hn)) ∗ semVal ((c : Thread nD τ), SemLoc.dma 7) 0) := by
  rw [Nat.mul_comm]
  exact Transfers.batch_collect' (Lvl := ℕ) (countersEmb (U := Pipeline.UD sig nD τ)) (c : Thread nD τ) (sm := .dma cc0_scratch3.sem) (N := 128) (by decide)

theorem issue_start (fg : Held (F := F) c gatM) (u : Unit) : iprop(gatBatch c fh rw 0 0 ∗ table c srcM xs ∗ bigSep Finset.univ (ready c fh fg rw)) ⊢ issueAt c xs fh fg rw 0 u := by
  unfold issueAt; rw [Ring.rangeSet_univ]
theorem issue_end (fg : Held (F := F) c gatM) {k : ℕ} (hk : k = 256) (u : Unit) : issueAt c xs fh fg rw k u ⊢ iprop(gatBatch c fh rw 256 0 ∗ table c srcM xs) := by
  subst hk
  unfold issueAt; rw [Ring.bigSep_rangeSet_empty le_rfl]
  iintro ⟨HB, HT, -⟩
  isplitl [HB]; · iexact HB
  iexact HT
theorem drain_start {k : ℕ} (hk : k = 0) (W : Waits sig Unit) (u : Unit) : iprop(owes (c : Thread nD τ) 0 W ∗ gatBatch c fh rw 256 0) ⊢ drainAt c fh rw k u := by
  subst hk
  unfold drainAt; rw [Nat.zero_mul]
  iintro ⟨HW, HB⟩
  isplitl [HW]; · iexists _; iexact HW
  iexact HB
theorem drain_end {k : ℕ} (hk : k = 256) (u : Unit) : drainAt c fh rw k u ⊢ iprop((∃ W, owes (c : Thread nD τ) 0 W) ∗ gatBatch c fh rw 256 (256 * 144)) := by
  subst hk; unfold drainAt; exact .rfl
theorem send_start (fb : Held (F := F) c resM) (n : ℕ) (hn : n ≤ 256) (u : Unit) :
    iprop(outBatch c g fb rw n hn 0 0 ∗ table c srcM xs ∗ bigSep (Ring.rangeSet 256 0 n) (toSend c g fb rw)) ⊢ sendAt c xs g fb rw n hn 0 u := by
  unfold sendAt; exact .rfl
theorem send_end (fb : Held (F := F) c resM) (n : ℕ) (hn : n ≤ 256) {k : ℕ} (hk : k = n) (u : Unit) : sendAt c xs g fb rw n hn k u ⊢ iprop(outBatch c g fb rw n hn n 0 ∗ table c srcM xs) := by
  subst hk
  unfold sendAt; rw [Ring.bigSep_rangeSet_empty le_rfl]
  iintro ⟨HB, HT, -⟩
  isplitl [HB]; · iexact HB
  iexact HT
theorem settle_start (fb : Held (F := F) c resM) (n : ℕ) (hn : n ≤ 256) {k : ℕ} (hk : k = 0) (W : Waits sig Unit) (u : Unit) :
    iprop(owes (c : Thread nD τ) 0 W ∗ outBatch c g fb rw n hn n 0) ⊢ settleAt c g fb rw n hn k u := by
  subst hk
  unfold settleAt; rw [Nat.zero_mul]
  iintro ⟨HW, HB⟩
  isplitl [HW]; · iexists _; iexact HW
  iexact HB
theorem settle_end (fb : Held (F := F) c resM) (n : ℕ) (hn : n ≤ 256) {k : ℕ} (hk : k = n) (u : Unit) :
    settleAt c g fb rw n hn k u ⊢ iprop((∃ W, owes (c : Thread nD τ) 0 W) ∗ outBatch c g fb rw n hn n (n * 128)) := by
  subst hk; unfold settleAt; exact .rfl

/-- What every point holds besides the result array. -/
abbrev around : sProp 𝕄 :=
  iprop(owns (c : Thread nD τ) arg5 fullShare x0 ∗ owns (c : Thread nD τ) arg6 fullShare x1 ∗ owns (c : Thread nD τ) arg7 fullShare x2
    ∗ (∃ f, full c gatM f) ∗ (∃ f, full c resM f) ∗ table c srcM xs ∗ table c groupM xg ∗ table c rowsM xr
    ∗ semVal ((c : Thread nD τ), SemLoc.dma 6) 0 ∗ semVal ((c : Thread nD τ), SemLoc.dma 7) 0 ∗ full c tokM fh ∗ (∃ W', owes (c : Thread nD τ) 0 W'))

set_option maxHeartbeats 4000000 in
theorem body_none (hv : (rowsOf c i xr).toNat = 0) (K : PUnit → sProp 𝕄) :
    iprop(around c xs xg xr fh arg5 arg6 arg7 x0 x1 x2 ∗ full c outM g
        ∗ (iprop(around c xs xg xr fh arg5 arg6 arg7 x0 x1 x2 ∗ full c outM g) -∗ K ⟨⟩))
      ⊢ wp frame (wpE (defs₀ (F := F)) Variants.none c none) Set.univ (call i arg5 h5 arg6 h6 arg7 h7) K := by
  have hw : k0_chk2 i (rowsOf c i xr) := chk2_of i _ (by omega)
  have hn : ¬ k0_cond1 (rowsOf c i xr) = 1#1 := fun h => by have := (counts _ (by omega)).2.2.2.2.2.2.2.2.1 h; omega
  unfold call
  simp only [cc0_moe_experts_eq_skeleton]; unfold cc0_moe_experts_skel
  iintro ⟨⟨H0, H1, H2, HG, HR, HT0, HT1, HT2, Hq0, Hq1, Hh, ⟨%W, HW⟩⟩, HO, Hk⟩
  sl_exec (disch := first | sl_exact hw | sl_exact hn)
  sl_step
  iapply Hk
  isplitr [HO]; swap; · iexact HO
  isplitl [H0]; · iexact H0
  isplitl [H1]; · iexact H1
  isplitl [H2]; · iexact H2
  isplitl [HG]; · iexact HG
  isplitl [HR]; · iexact HR
  isplitl [HT0]; · iexact HT0
  isplitl [HT1]; · iexact HT1
  isplitl [HT2]; · iexact HT2
  isplitl [Hq0]; · iexact Hq0
  isplitl [Hq1]; · iexact Hq1
  isplitl [Hh]; · iexact Hh
  iexists _; iexact HW

/-- The tile of the rows `rw`: the group is the word of `xg` the point reads. -/
def tileAt : Held (F := F) c resM :=
  tileOf (wordAt c groupM xg (k0_off6 i) (k0_off6_inb i))
    (gatM.view.readAt (Elt F) (Rect.unit (s := S256x1152) ![0, 0] S256x1024.size inb_S256x1152_S256x1024_0_0).toLoadRect (gathered c fh rw))
    (gatM.view.readAt (Elt F) (Rect.unit (s := S256x1152) ![0, 1024] S256x128.size inb_S256x1152_S256x128_0_1024).toLoadRect (gathered c fh rw)) x0 x1 x2

set_option maxHeartbeats 8000000 in
theorem body_some (hv : 0 < (rowsOf c i xr).toNat) (hv' : (rowsOf c i xr).toNat ≤ 256) (hrw : ∀ t, (slot c xs i t).toNat = (rw t).val)
    (ha : Apart rw (rowsOf c i xr).toNat) (K : PUnit → sProp 𝕄) :
    iprop(around c xs xg xr fh arg5 arg6 arg7 x0 x1 x2 ∗ full c outM g
        ∗ (iprop(around c xs xg xr fh arg5 arg6 arg7 x0 x1 x2 ∗ full c outM (scattered c g (tileAt c i xg fh rw x0 x1 x2) rw (rowsOf c i xr).toNat)) -∗ K ⟨⟩))
      ⊢ wp frame (wpE (defs₀ (F := F)) Variants.none c none) Set.univ (call i arg5 h5 arg6 h6 arg7 h7) K := by
  have hw : k0_chk2 i (rowsOf c i xr) := chk2_of i _ hv'
  have hn : k0_cond1 (rowsOf c i xr) = 1#1 := (counts _ hv').2.2.2.2.2.2.2.2.2 hv
  unfold call
  simp only [cc0_moe_experts_eq_skeleton]; unfold cc0_moe_experts_skel
  iintro ⟨⟨H0, H1, H2, HG, HR, HT0, HT1, HT2, Hq0, Hq1, Hh, ⟨%W, HW⟩⟩, HO, Hk⟩
  unfold owns
  icases H0 with ⟨%f0, %hf0, H0⟩
  icases H1 with ⟨%f1, %hf1, H1⟩
  icases H2 with ⟨%f2, %hf2, H2⟩
  icases HG with ⟨%fg, HG⟩
  icases HR with ⟨%fr, HR⟩
  obtain rfl := h5.eq_unread hf0; obtain rfl := h6.eq_unread hf1; obtain rfl := h7.eq_unread hf2
  sl_exec (disch := first | sl_exact hw | sl_exact hn)
  -- the rows are fetched
  imod (gat_open c fh rw) $$ Hq0 with HB
  ihave HS := (gather_split c fh fg rw) $$ [HG Hh]
  · isplitl [HG]; · iexact HG
    iexact Hh
  icases HS with ⟨HK, HS⟩
  sl_for (issueAt c xs fh fg rw) $$ [HB HT0 HS]
  · intro k acc
    exact issue_step c i xs fh fg rw arg5 h5 arg6 h6 arg7 h7 _ _ _ hn hrw k acc
  · iapply (issue_start c xs fh rw fg _)
    isplitl [HB]; · iexact HB
    isplitl [HT0]; · iexact HT0
    iexact HS
  iintro %acc HL
  ihave HL' := (issue_end c xs fh rw fg trips1 acc) $$ HL
  icases HL' with ⟨HB, HT0⟩
  sl_for (drainAt c fh rw) $$ [HW HB]
  · intro k acc
    exact drain_step c i fh rw arg5 h5 arg6 h6 arg7 h7 _ _ _ hn k acc
  · iapply (drain_start c fh rw rfl W _)
    isplitl [HW]; · iexact HW
    iexact HB
  iintro %acc2 HL
  ihave HL' := (drain_end c fh rw trips2 acc2) $$ HL
  icases HL' with ⟨⟨%W2, HW⟩, HB⟩
  imod (gat_close c fh rw) $$ HB with ⟨HS, Hq0⟩
  ihave HJ := (gather_join c fh rw) $$ [HK HS]
  · isplitl [HK]; · iexact HK
    iexact HS
  icases HJ with ⟨HG, Hh⟩
  -- eight experts are applied
  sl_exec
  have hfb : resM.view.writes (Elt F) resM.view.junk (body_some.sl.HR_1 c i xg fh rw arg5 h5 arg6 h6 arg7 h7 x0 x1 x2) = tileAt c i xg fh rw x0 x1 x2 := by
    unfold body_some.sl.HR_1
    refine Eq.trans (b := View.read (Elt F) resM.view (resM.view.writes (Elt F) resM.view.junk [⟨Rect.unit ![0, 0] S256x1024.size inb_S256x1024_S256x1024_0_0, _⟩])) rfl ?_
    refine (View.read_writes_full resM.view _ _ _ []).trans ?_
    refine Eq.trans ?_ (payload _ _ _ x0 x1 x2)
    have hA : ∀ e : Fin 8, arg5.view.readAt (Elt F) (Rect.unit (s := S1x1x8x1024x256) ![0, 0, e.val, 0, 0] S1x1x1x1024x256.size (wide_inb e)).toLoadRect (h5.unread x0) = wide x0 e := fun e => funext fun y => Memref.IsWhole.readAt_unread h5 x0 _ y
    have hB : ∀ e : Fin 8, arg6.view.readAt (Elt F) (Rect.unit (s := S1x1x8x1024x256) ![0, 0, e.val, 0, 0] S1x1x1x1024x256.size (wide_inb e)).toLoadRect (h6.unread x1) = wide x1 e := fun e => funext fun y => Memref.IsWhole.readAt_unread h6 x1 _ y
    have hD : ∀ e : Fin 8, arg7.view.readAt (Elt F) (Rect.unit (s := S1x1x8x256x1024) ![0, 0, e.val, 0, 0] S1x1x1x256x1024.size (tall_inb e)).toLoadRect (h7.unread x2) = tall x2 e := fun e => funext fun y => Memref.IsWhole.readAt_unread h7 x2 _ y
    simp only [← hA, ← hB, ← hD]
    rfl
  rw [hfb]
  imod (out_open c g rw (tileAt c i xg fh rw x0 x1 x2) _ hv') $$ Hq1 with HB
  ihave HS := (rows_split c (tileAt c i xg fh rw x0 x1 x2) rw _ ha g).1 $$ [HO HR]
  · isplitl [HO]; · iexact HO
    iexact HR
  icases HS with ⟨HK, HS⟩
  have htr4 : (k0_t4_loop (body_some.sl.r c i xr)).trips = 0 := (counts _ hv').2.2.1
  have htr6 : (k0_t6_loop (body_some.sl.r c i xr)).trips = 0 := (counts _ hv').2.2.2.2.2.2.1
  sl_for (sendAt c xs g (tileAt c i xg fh rw x0 x1 x2) rw _ hv') $$ [HB HT0 HS]
  · intro k acc
    exact send_step c i xs g (tileAt c i xg fh rw x0 x1 x2) rw _ hv' arg5 h5 arg6 h6 arg7 h7 _ _ hn ha rfl hrw k acc
  · iapply (send_start c xs g rw _ _ hv' _)
    isplitl [HB]; · iexact HB
    isplitl [HT0]; · iexact HT0
    iexact HS
  iintro %acc3 HL
  have e3 : Scf.trips (k0_t3_loop (body_some.sl.r c i xr)).lb (k0_t3_loop (body_some.sl.r c i xr)).ub (k0_t3_loop (body_some.sl.r c i xr)).st = (rowsOf c i xr).toNat := (counts _ hv').1
  ihave HL' := (send_end c xs g rw (tileAt c i xg fh rw x0 x1 x2) _ hv' e3 acc3) $$ HL
  icases HL' with ⟨HB, HT0⟩
  sl_exec
  have hil : Transfers.InterleavedWaits (c : Thread nD τ) (.dma cc0_scratch3.sem : SemLoc sig) := trivial
  sl_for (settleAt c g (tileAt c i xg fh rw x0 x1 x2) rw _ hv') $$ [HW HB]
  · intro k acc
    exact settle_step c i g (tileAt c i xg fh rw x0 x1 x2) rw _ hv' arg5 h5 arg6 h6 arg7 h7 _ _ hn rfl k acc
  · iapply (settle_start c g rw (tileAt c i xg fh rw x0 x1 x2) _ hv' rfl W2 _)
    isplitl [HW]; · iexact HW
    iexact HB
  iintro %acc4 HL
  have e5 : Scf.trips (k0_t5_loop (body_some.sl.r c i xr)).lb (k0_t5_loop (body_some.sl.r c i xr)).ub (k0_t5_loop (body_some.sl.r c i xr)).st = (rowsOf c i xr).toNat := (counts _ hv').2.2.2.2.1
  ihave HL' := (settle_end c g rw (tileAt c i xg fh rw x0 x1 x2) _ hv' e5 acc4) $$ HL
  icases HL' with ⟨⟨%W3, HW⟩, HB⟩
  imod (out_close c g rw (tileAt c i xg fh rw x0 x1 x2) _ hv') $$ HB with ⟨HS, Hq1⟩
  ihave HJ := (send_join c g (tileAt c i xg fh rw x0 x1 x2) rw _ hv' ha) $$ [HK HS]
  · isplitl [HK]; · iexact HK
    iexact HS
  icases HJ with ⟨HO, HR⟩
  sl_exec
  sl_step
  iapply Hk
  isplitr [HO]
  · unfold around owns
    isplitl [H0]
    · iexists _; isplitr; · ipureintro; exact h5.read_unread _
      iexact H0
    isplitl [H1]
    · iexists _; isplitr; · ipureintro; exact h6.read_unread _
      iexact H1
    isplitl [H2]
    · iexists _; isplitr; · ipureintro; exact h7.read_unread _
      iexact H2
    isplitl [HG]; · iexists _; iexact HG
    isplitl [HR]; · iexists _; iexact HR
    isplitl [HT0]; · iexact HT0
    isplitl [HT1]; · iexact HT1
    isplitl [HT2]; · iexact HT2
    isplitl [Hq0]; · iexact Hq0
    isplitl [Hq1]; · iexact Hq1
    isplitl [Hh]; · iexact Hh
    iexists _; iexact HW
  · iexact HO

end Run

end Cert.MoeIdeal.Own

end
-- ==== Proof.MoeIdealRun.lean ====
/-
The run of the expert kernel.

The pipeline stages the weights of a tile's group; between points the kernel owns its two buffers, its
two semaphores, the tokens as the call found them and the result array as the tiles done so far have
left it. So the run ends with the argument arrays as they were, and with the result array as all tiles,
one after another, leave it.
-/
module

public import proofs.«01_k».proof.Proof.MoeIdealBody

@[expose] public section

set_option maxRecDepth 16384

noncomputable section

namespace Cert.MoeIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the tables say: `rw i t` is the token of row `t` of the tile of point `i`, a tile has at most
256 rows, and its rows are of different tokens. -/
structure Plan (rw : grid0.Coords → Fin 256 → Fin 16384) : Prop where
  named : Named m
  few : ∀ (c : Dev nD) i, (rowsOf c i (words m 2)).toNat ≤ 256
  tokens : ∀ (c : Dev nD) i t, (slot c (words m 0) i t).toNat = (rw i t).val
  apart : ∀ (c : Dev nD) i, Apart (rw i) (rowsOf c i (words m 2)).toNat

variable {rw : grid0.Coords → Fin 256 → Fin 16384} (hp : Plan m rw)

/-- The tile of point `t`. -/
def tile (c : Dev nD) (t : Fin (pipe m hp.named).N) : Held (F := F) c resM :=
  tileAt c (grid0.coords t) (words m 1) (atEntry m c main_arg0) (rw (grid0.coords t)) (block m hp.named c 0 t) (block m hp.named c 1 t) (block m hp.named c 2 t)

/-- The result array after the first `t` tiles. -/
def result (c : Dev nD) : ℕ → Held (F := F) c outM
  | 0 => atEntry m c main_v0
  | t + 1 => if h : t < (pipe m hp.named).N then
      scattered c (result c t) (tile m hp c ⟨t, h⟩) (rw (grid0.coords ⟨t, h⟩)) (rowsOf c (grid0.coords ⟨t, h⟩) (words m 2)).toNat
    else result c t

theorem result_succ (c : Dev nD) (t : Fin (pipe m hp.named).N) : result m hp c (t.val + 1)
    = scattered c (result m hp c t.val) (tile m hp c t) (rw (grid0.coords t)) (rowsOf c (grid0.coords t) (words m 2)).toNat := by
  rw [result, dif_pos t.isLt]

/-- The buffers, with the result array after `t` tiles. -/
def left (t : ℕ) (c : Dev nD) (b : Ref sig .tc) : Buf (Elt F) ((c.tc : Thread nD τ).loc b) :=
  if h : b = main_v0 then h ▸ result m hp c t else atEntry m c b

theorem left_out (t : ℕ) (c : Dev nD) : left m hp t c main_v0 = result m hp c t := by
  unfold left; rw [dif_pos rfl]

def dats (_ : Fin 1) (c : Dev nD) : Dat τ (Elt F) Unit ℕ (Pipeline.UD sig nD τ) ℕ (pipe m hp.named) c where
  A w := atEntry m c (Pipeline.arrRef spec0 w)
  after w t := match w with
    | ⟨0, _⟩ => block m hp.named c 0 t
    | ⟨1, _⟩ => block m hp.named c 1 t
    | ⟨2, _⟩ => block m hp.named c 2 t
  Φ t := iprop(Pipeline.ΦDRG ownCells spec0 readSet writeSet (atEntry m) (left m hp t.val) c ∗ Pipeline.ΦT pre0 (words m) c)
  q _ := fullShare
  owed _ := 0

theorem dats_A (c : Dev nD) (w : Fin (pipe m hp.named).W) : (dats m hp 0 c).A w = atEntry m c (Pipeline.arrRef spec0 w) := by
  dsimp only [dats]
theorem dats_after0 (c : Dev nD) (t : Fin (pipe m hp.named).N) : (dats m hp 0 c).after 0 t = block m hp.named c 0 t := by dsimp only [dats]; try rfl
theorem dats_after1 (c : Dev nD) (t : Fin (pipe m hp.named).N) : (dats m hp 0 c).after 1 t = block m hp.named c 1 t := by dsimp only [dats]; try rfl
theorem dats_after2 (c : Dev nD) (t : Fin (pipe m hp.named).N) : (dats m hp 0 c).after 2 t = block m hp.named c 2 t := by dsimp only [dats]; try rfl
theorem dats_before0 (c : Dev nD) (t : Fin (pipe m hp.named).N) (d) : (dats m hp 0 c).before 0 t d = block m hp.named c 0 t :=
  staged0 m hp.named (dats m hp 0 c) (dats_A m hp c 0) (dats_after0 m hp c) t d
theorem dats_before1 (c : Dev nD) (t : Fin (pipe m hp.named).N) (d) : (dats m hp 0 c).before 1 t d = block m hp.named c 1 t :=
  staged1 m hp.named (dats m hp 0 c) (dats_A m hp c 1) (dats_after1 m hp c) t d
theorem dats_before2 (c : Dev nD) (t : Fin (pipe m hp.named).N) (d) : (dats m hp 0 c).before 2 t d = block m hp.named c 2 t :=
  staged2 m hp.named (dats m hp 0 c) (dats_A m hp c 2) (dats_after2 m hp c) t d

/-- What the body is called with at a point, and what it returns. -/
def given (c : Dev nD) (t : Fin (pipe m hp.named).N) : sProp 𝕄 :=
  iprop((dats m hp 0 c).Φ t.castSucc ∗ (dats m hp 0 c).owesAt () t.castSucc
    ∗ (∃ d, owns (c : Thread nD τ) (buf0 m hp.named t) fullShare ((dats m hp 0 c).before 0 t d))
    ∗ (∃ d, owns (c : Thread nD τ) (buf1 m hp.named t) fullShare ((dats m hp 0 c).before 1 t d))
    ∗ (∃ d, owns (c : Thread nD τ) (buf2 m hp.named t) fullShare ((dats m hp 0 c).before 2 t d)))
def returned (c : Dev nD) (t : Fin (pipe m hp.named).N) : sProp 𝕄 :=
  iprop((dats m hp 0 c).Φ t.succ ∗ (dats m hp 0 c).owesAt () t.succ
    ∗ owns (c : Thread nD τ) (buf0 m hp.named t) fullShare ((dats m hp 0 c).after 0 t)
    ∗ owns (c : Thread nD τ) (buf1 m hp.named t) fullShare ((dats m hp 0 c).after 1 t)
    ∗ owns (c : Thread nD τ) (buf2 m hp.named t) fullShare ((dats m hp 0 c).after 2 t))

/-- The body on a tile of any number of rows. -/
theorem body_any (c : Dev nD) (i : grid0.Coords) (xs : Held (F := F) c srcM) (xg : Held (F := F) c groupM) (xr : Held (F := F) c rowsM)
    (fh : Held (F := F) c tokM) (g : Held (F := F) c outM) (rw : Fin 256 → Fin 16384)
    (arg5 : Memref sig .tc .vmem S1x1x8x1024x256 .bf16) (h5 : arg5.IsWhole)
    (arg6 : Memref sig .tc .vmem S1x1x8x1024x256 .bf16) (h6 : arg6.IsWhole)
    (arg7 : Memref sig .tc .vmem S1x1x8x256x1024 .bf16) (h7 : arg7.IsWhole)
    (x0 : Vec F S1x1x8x1024x256 .bf16) (x1 : Vec F S1x1x8x1024x256 .bf16) (x2 : Vec F S1x1x8x256x1024 .bf16)
    (hv' : (rowsOf c i xr).toNat ≤ 256) (hrw : ∀ t, (slot c xs i t).toNat = (rw t).val)
    (ha : Apart rw (rowsOf c i xr).toNat) (K : PUnit → sProp 𝕄) :
    iprop(around c xs xg xr fh arg5 arg6 arg7 x0 x1 x2 ∗ full c outM g
        ∗ (iprop(around c xs xg xr fh arg5 arg6 arg7 x0 x1 x2 ∗ full c outM (scattered c g (tileAt c i xg fh rw x0 x1 x2) rw (rowsOf c i xr).toNat)) -∗ K ⟨⟩))
      ⊢ wp frame (wpE (defs₀ (F := F)) Variants.none c none) Set.univ (call i arg5 h5 arg6 h6 arg7 h7) K := by
  rcases Nat.eq_zero_or_pos (rowsOf c i xr).toNat with h0 | h0
  · have e : scattered c g (tileAt c i xg fh rw x0 x1 x2) rw (rowsOf c i xr).toNat = g := by
      funext y
      exact scattered_else c g _ y fun t ht => by omega
    rw [e]
    exact body_none c i xs xg xr fh g arg5 h5 arg6 h6 arg7 h7 x0 x1 x2 h0 K
  · exact body_some c i xs xg xr fh g rw arg5 h5 arg6 h6 arg7 h7 x0 x1 x2 h0 hv' hrw ha K

theorem sound_body (c : Dev nD) (t : Fin (pipe m hp.named).N) :
    given m hp c t ⊢ wp frame (wpE (defs₀ (F := F)) Variants.none c none) Set.univ (bodyOf (admitted m hp.named) t) (fun _ => returned m hp c t) := by
  unfold given returned
  simp only [dats_before0, dats_before1, dats_before2]
  rw [dats_after0, dats_after1, dats_after2]
  rw [show (dats m hp 0 c).Φ t.castSucc = iprop(Pipeline.ΦDRG ownCells spec0 readSet writeSet (atEntry m) (left m hp t.val) c ∗ Pipeline.ΦT pre0 (words m) c) from rfl,
    show (dats m hp 0 c).Φ t.succ = iprop(Pipeline.ΦDRG ownCells spec0 readSet writeSet (atEntry m) (left m hp (t.val + 1)) c ∗ Pipeline.ΦT pre0 (words m) c) from rfl,
    between_eq, between_eq, tables_eq, left_out, left_out, result_succ]
  unfold Dat.owesAt Pipeline.owesWithin
  rw [show (dats m hp 0 c).owed t.castSucc = 0 from rfl, show (dats m hp 0 c).owed t.succ = 0 from rfl]
  iintro ⟨⟨⟨⟨HS0, HS1⟩, Hg, ⟨Hq0, Hq1⟩, Hh0, HO⟩, ⟨HT0, HT1, HT2⟩⟩, ⟨%W, -, HW⟩, ⟨%d0, H0⟩, ⟨%d1, H1⟩, ⟨%d2, H2⟩⟩
  iapply (body_any c (grid0.coords t) (words m 0) (words m 1) (words m 2) (atEntry m c main_arg0) (result m hp c t.val) (rw (grid0.coords t))
    _ _ _ _ _ _ (block m hp.named c 0 t) (block m hp.named c 1 t) (block m hp.named c 2 t) (hp.few c _) (hp.tokens c _) (hp.apart c _) _)
  isplitl [H0 H1 H2 HS0 HS1 HT0 HT1 HT2 Hq0 Hq1 Hh0 HW]
  · isplitl [H0]; · iexact H0
    isplitl [H1]; · iexact H1
    isplitl [H2]; · iexact H2
    isplitl [HS0]; · iexact HS0
    isplitl [HS1]; · iexact HS1
    isplitl [HT0]; · iexact HT0
    isplitl [HT1]; · iexact HT1
    isplitl [HT2]; · iexact HT2
    isplitl [Hq0]; · iexact Hq0
    isplitl [Hq1]; · iexact Hq1
    isplitl [Hh0]; · iexact Hh0
    iexists _; iexact HW
  isplitl [HO]; · iexact HO
  iintro ⟨⟨H0, H1, H2, HS0, HS1, HT0, HT1, HT2, Hq0, Hq1, Hh0, ⟨%W', HW'⟩⟩, HO⟩
  isplitl [HS0 HS1 Hg Hq0 Hq1 Hh0 HO HT0 HT1 HT2]
  · isplitl [HS0 HS1 Hg Hq0 Hq1 Hh0 HO]
    · isplitl [HS0 HS1]
      · isplitl [HS0]; · iexact HS0
        iexact HS1
      isplitl [Hg]; · iexact Hg
      isplitl [Hq0 Hq1]
      · isplitl [Hq0]; · iexact Hq0
        iexact Hq1
      isplitl [Hh0]; · iexact Hh0
      iexact HO
    isplitl [HT0]; · iexact HT0
    isplitl [HT1]; · iexact HT1
    iexact HT2
  isplitl [HW']
  · iexists W'; isplitr; · ipureintro; exact fun _ _ => Or.inl trivial
    iexact HW'
  isplitl [H0]; · iexact H0
  isplitl [H1]; · iexact H1
  iexact H2

theorem obligation (c : Dev nD) : BodyObligation (dats (F := F) m hp 0 c) (defs₀ (F := F)) Variants.none () Set.univ := fun t => by
  rw [bigSep_W0, bigSep_W0, body_row m hp.named]
  exact triple_restated (sound_body m hp c t) rfl .rfl fun _ => .rfl

theorem left_zero : left m hp 0 = atEntry m := by
  funext c b
  unfold left
  split
  · next h => subst h; rfl
  · rfl

set_option backward.isDefEq.respectTransparency.types false in
/-- The run: everything the pipeline keeps, the written array, and all counters at zero. -/
theorem runs : θ_run defs (onTc (τ := τ) (main (F := F))) (s₀ m ρ)
    (fun r => Pipeline.FramePostRG (Pipeline.pin pcfgs fun _ => admitted m hp.named) (dats m hp) 0 writeSet (atEntry m) (left m hp (pipe m hp.named).N) r ∧ r.2.sem = fun _ => 0) :=
  Pipeline.θ_run_frameP_dmaRG (Q' := _) pcfgs (fun _ => admitted m hp.named) (dats m hp) (0 : Fin 1) launch0 ownCells defs₀ Variants.none ownCells_facts readSet writeSet readSet_sub writeSet_sub m ρ main
    (hbody := fun c => (obligation m hp c).loose) (hshare := fun c => (dats m hp 0 c).share_full fun _ => rfl)
    (howed := fun _ _ => rfl) (V := atEntry m) (hmain := enters m Variants.none) (hA := dats_A m hp) (hpf := words_eq m)
    (G := left m hp (pipe m hp.named).N)
    (hin := fun c => by
      rw [show (dats m hp 0 c).Φ 0 = iprop(Pipeline.ΦDRG ownCells spec0 readSet writeSet (atEntry m) (left m hp 0) c ∗ Pipeline.ΦT pre0 (words m) c) from rfl, left_zero])
    (hout := fun c => by change iprop(_ ∗ _) ⊢ _; iintro ⟨HD, -⟩; iexact HD)
    (hQ' := fun _ h => h)

/-- The argument arrays end unchanged, the result array as all tiles leave it, and the counters at zero. -/
theorem ends : θ_run defs (onTc (τ := τ) (main (F := F))) ⟨m, fun _ => 0, ρ⟩ (fun r => (∀ c : Dev nD,
      r.2.mem ((c.tc : Thread nD τ).loc main_v0) = result m hp c (pipe m hp.named).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      (h.1.written c (by decide : main_v0 ∈ writeSet)).trans (left_out m hp _ c),
      ((h.1.toR c).2 main_arg0 (by decide : main_arg0 ∈ Pipeline.restRefs sig spec0 \ writeSet)),
      ((h.1.toR c).2 main_arg1 (by decide : main_arg1 ∈ Pipeline.restRefs sig spec0 \ writeSet)),
      ((h.1.toR c).2 main_arg2 (by decide : main_arg2 ∈ Pipeline.restRefs sig spec0 \ writeSet)),
      ((h.1.toR c).2 main_arg3 (by decide : main_arg3 ∈ Pipeline.restRefs sig spec0 \ writeSet)),
      ((h.1.toR c).1 0).trans (((dats m hp 0 c).arrAt_in 0 rfl _).trans (dats_A m hp c 0)),
      ((h.1.toR c).1 1).trans (((dats m hp 0 c).arrAt_in 1 rfl _).trans (dats_A m hp c 1)),
      ((h.1.toR c).1 2).trans (((dats m hp 0 c).arrAt_in 2 rfl _).trans (dats_A m hp c 2))⟩, h.2⟩) (runs m ρ hp)

end Cert.MoeIdeal.Own

end
-- ==== Proof.MoeIdealPlan.lean ====
/-
From the precondition to the plan of the run.

The three tables are the three arrays of words of the arguments, so what `routed` says of those arrays is
what the run needs of the tables: the blocks a point names exist, a tile has at most 256 rows, its words
name tokens, and its rows are of different tokens.
-/
module

public import proofs.«01_k».proof.Proof.MoeIdealRun
public import proofs.«01_k».proof.Proof.Routed

@[expose] public section

set_option maxRecDepth 16384

noncomputable section

namespace Cert.MoeIdeal.Own

open Idealize.ShloMosaic Idealize.ShloMosaic.TcCoe Idealize.SL.Sem
open Cert.MoeIdeal Cert.MoeIdeal.Gen
open Cert.Routed (Tables Takes place one68)

variable {F : FTy → Type} [FloatOps F]

variable (m : (ℓ : Loc nD τ sig) → Buf (Elt F) ℓ)

/-- The arguments' tables, as arrays of words. -/
abbrev srcOf : S17408.Idx → BitVec 32 := words m 0
abbrev groupOf : S68.Idx → BitVec 32 := words m 1
abbrev countOf : S68.Idx → BitVec 32 := words m 2

/-- A point's tile. -/
abbrev tileNo (i : grid0.Coords) : Fin 68 := i 0

theorem off1_eq : ∀ i : grid0.Coords, k0_off1 i = ![(tileNo i).val] := by
  have h : ∀ a : Fin 68, (Scalar.indexCast (BitVec.ofNat 32 a.val)).toNat = a.val := by decide +kernel
  intro i
  show ![(Scalar.indexCast (BitVec.ofNat 32 (tileNo i).val)).toNat] = _
  rw [h]
theorem off6_eq : ∀ i : grid0.Coords, k0_off6 i = ![(tileNo i).val] := off1_eq

/-- The word of a 68-word table at an offset. -/
theorem word_at (x : S68.Idx → BitVec 32) (T : Fin 68) (off : Fin 1 → ℕ) (h : ∀ a, off a + S1.size a ≤ S68.size a) (e : off = ![T.val])
    (y : S1.Idx) : x ((Rect.unit (s := S68) off S1.size h).toLoadRect.idx y) = x (one68 T) := by
  subst e
  congr 1
  refine funext fun (a : Fin 1) => ?_
  obtain rfl : a = 0 := Subsingleton.elim _ _
  apply Fin.ext
  have h0 : (y 0).val = 0 := by have : (y 0).val < 1 := (y 0).isLt; omega
  show T.val + 1 * (y 0).val = T.val
  rw [h0, Nat.mul_zero, Nat.add_zero]

theorem rows_at (c : Dev nD) (i : grid0.Coords) (xr : Held (F := F) c rowsM) : rowsOf c i xr = (show S68.Idx → BitVec 32 from xr) (one68 (tileNo i)) := by
  show rowsM.view.readAt (Elt F) _ _ _ = _
  rw [View.readAt_apply, View.read_apply]
  exact word_at (show S68.Idx → BitVec 32 from xr) (tileNo i) _ (k0_off1_inb i) (off1_eq i) _

theorem group_at (c : Dev nD) (i : grid0.Coords) (xg : Held (F := F) c groupM) :
    wordAt c groupM xg (k0_off6 i) (k0_off6_inb i) = (show S68.Idx → BitVec 32 from xg) (one68 (tileNo i)) := by
  show groupM.view.readAt (Elt F) _ _ _ = _
  rw [View.readAt_apply, View.read_apply]
  exact word_at (show S68.Idx → BitVec 32 from xg) (tileNo i) _ (k0_off6_inb i) (off6_eq i) _

theorem rows_word (c : Dev nD) (i : grid0.Coords) : rowsOf c i (words m 2) = countOf m (one68 (tileNo i)) := rows_at c i (words m 2)

theorem group_word (c : Dev nD) (i : grid0.Coords) : wordAt c groupM (words m 1) (k0_off6 i) (k0_off6_inb i) = groupOf m (one68 (tileNo i)) :=
  group_at c i (words m 1)

theorem slot_word (c : Dev nD) (i : grid0.Coords) (t : Fin 256) : slot c (words m 0) i t = srcOf m (place (tileNo i) t) := by
  unfold slot
  show srcOf m _ = srcOf m _
  congr 1
  refine funext fun (a : Fin 1) => ?_
  obtain rfl : a = 0 := Subsingleton.elim _ _
  apply Fin.ext
  show 256 * (tileNo i).val + t.val = (tileNo i).val * 256 + t.val
  omega

/-- The block a point names. -/
theorem names (i : grid0.Coords) : cc0_transform_1 k0_off1_inb numel1_S1 (words m) i = ![0, (groupOf m (one68 (tileNo i))).toNat, 0, 0, 0] := by
  have e : (words m).at 1 (Rect.unit (s := S68) (k0_off1 i) S1.size (k0_off1_inb i)) numel1_S1 = groupOf m (one68 (tileNo i)) :=
    word_at (groupOf m) (tileNo i) _ (k0_off1_inb i) (off1_eq i) _
  show ![(0#32).toNat, ((words m).at 1 (Rect.unit (s := S68) (k0_off1 i) S1.size (k0_off1_inb i)) numel1_S1).toNat, (0#32).toNat, (0#32).toNat, (0#32).toNat] = _
  rw [e]
  rfl

theorem wide_blocks : ∀ g : Fin 4, ∃ h : (∀ a, ((![0, g.val, 0, 0, 0] : Fin 5 → ℕ) a + 1) * S1x1x8x1024x256.size a ≤ S4x4x8x1024x256.size a),
    EltTy.bits .bf16 = 32 ∨ (Rect.block (s := S4x4x8x1024x256) S1x1x8x1024x256.size ![0, g.val, 0, 0, 0] h).WholeWords (EltTy.packing .bf16) := by
  decide +kernel
theorem tall_blocks : ∀ g : Fin 4, ∃ h : (∀ a, ((![0, g.val, 0, 0, 0] : Fin 5 → ℕ) a + 1) * S1x1x8x256x1024.size a ≤ S4x4x8x256x1024.size a),
    EltTy.bits .bf16 = 32 ∨ (Rect.block (s := S4x4x8x256x1024) S1x1x8x256x1024.size ![0, g.val, 0, 0, 0] h).WholeWords (EltTy.packing .bf16) := by
  decide +kernel

variable (hT : Tables (srcOf m) (groupOf m) (countOf m))
include hT

theorem named_of : Named m := by
  have hw : ∀ i : grid0.Coords, _ := fun i => wide_blocks ⟨(groupOf m (one68 (tileNo i))).toNat, hT.group _⟩
  have ht : ∀ i : grid0.Coords, _ := fun i => tall_blocks ⟨(groupOf m (one68 (tileNo i))).toNat, hT.group _⟩
  refine ⟨fun i => ?_, fun i => ?_, fun i => ?_⟩
  · have e := names m i
    rw [e]; exact hw i
  · have e : cc0_transform_2 k0_off1_inb numel1_S1 (words m) i = _ := names m i
    rw [e]; exact hw i
  · have e : cc0_transform_3 k0_off1_inb numel1_S1 (words m) i = _ := names m i
    rw [e]; exact ht i

/-- The token of row `t` of the tile of point `i`. -/
def rowTok (i : grid0.Coords) (t : Fin 256) : Fin 16384 := ⟨(srcOf m (place (tileNo i) t)).toNat, hT.token _⟩

/-- A row of a tile is taken by its token. -/
theorem takes_row (i : grid0.Coords) (t : Fin 256) (ht : t.val < (countOf m (one68 (tileNo i))).toNat) :
    Takes (srcOf m) (countOf m) (tileNo i) t (rowTok m hT i t) := by
  refine ⟨?_, ?_⟩
  · show srcOf m (place (tileNo i) t) = BitVec.ofNat 32 (srcOf m (place (tileNo i) t)).toNat
    rw [BitVec.ofNat_toNat, BitVec.setWidth_eq]
  · have hr := hT.rows (one68 (tileNo i))
    have e : countOf m (one68 (tileNo i)) = BitVec.ofNat 32 (countOf m (one68 (tileNo i))).toNat := by
      rw [BitVec.ofNat_toNat, BitVec.setWidth_eq]
    rw [e, Idealize.ShloMosaic.Routing.slt_ofNat32 (by have := t.isLt; omega) (by omega)]
    exact decide_eq_true ht

theorem row_takes {i : grid0.Coords} {t : Fin 256} {n : Fin 16384} (h : Takes (srcOf m) (countOf m) (tileNo i) t n) :
    rowTok m hT i t = n ∧ t.val < (countOf m (one68 (tileNo i))).toNat := by
  constructor
  · apply Fin.ext
    show (srcOf m (place (tileNo i) t)).toNat = n.val
    rw [h.1, BitVec.toNat_ofNat]
    exact Nat.mod_eq_of_lt (by have := n.isLt; omega)
  · have hr := hT.rows (one68 (tileNo i))
    have h2 := h.2
    have e : countOf m (one68 (tileNo i)) = BitVec.ofNat 32 (countOf m (one68 (tileNo i))).toNat := by
      rw [BitVec.ofNat_toNat, BitVec.setWidth_eq]
    rw [e, Idealize.ShloMosaic.Routing.slt_ofNat32 (by have := t.isLt; omega) (by omega)] at h2
    exact of_decide_eq_true h2

theorem plan_of : Plan m (rowTok m hT) where
  named := named_of m hT
  few c i := by rw [rows_word]; exact hT.rows _
  tokens c i t := by rw [slot_word]; rfl
  apart c i := by
    rw [rows_word]
    intro t t' ht ht' he
    obtain ⟨T, j, -, hu⟩ := hT.once (rowTok m hT i t)
    have h1 := takes_row m hT i t ht
    have h2 := takes_row m hT i t' ht'
    rw [← he] at h2
    exact (hu _ _ h1).2.trans (hu _ _ h2).2.symm

end Cert.MoeIdeal.Own

end
-- ==== Proof.Experts.lean ====
/-
The experts, over whole arrays: a token's row goes through the eight experts of the token's group, and the
sum of what they give, each times the token's gate of the expert, is the token's row of the result.
-/
module

public import Idealize.ShloMosaic.Lib.ValueIdx
public import Idealize.ShloMosaic.PureOps.Ideal.Laws

@[expose] public section

noncomputable section

namespace Cert.Experts

open Idealize.ShloMosaic Idealize.ShloMosaic.ValueIdx
open scoped BigOperators

/-- 16384 rows of a token's 1024 numbers, four weights of groups, 32 gates, and padding. -/
abbrev Rows : Shape := ⟨2, ![16384, 1152]⟩
/-- Layers of groups of eight matrices, into an expert and out of it. -/
abbrev Into : Shape := ⟨5, ![4, 4, 8, 1024, 256]⟩
abbrev Out : Shape := ⟨5, ![4, 4, 8, 256, 1024]⟩

/-- A matrix entry of expert `e` of group `g` of the first layer. -/
def into (g : Fin 4) (e : Fin 8) (k : Fin 1024) (f : Fin 256) : Into.Idx := fun a => match a with
  | 0 => (0 : Fin 4)
  | 1 => g
  | 2 => e
  | 3 => k
  | 4 => f
def out (g : Fin 4) (e : Fin 8) (f : Fin 256) (d : Fin 1024) : Out.Idx := fun a => match a with
  | 0 => (0 : Fin 4)
  | 1 => g
  | 2 => e
  | 3 => f
  | 4 => d

/-- Number `k` of a row, and where its gate of an expert stands. -/
def number (k : Fin 1024) : Fin 1152 := ⟨k.val, by omega⟩
def gateLane (g : Fin 4) (e : Fin 8) : Fin 1152 := ⟨1028 + (8 * g.val + e.val), by omega⟩

/-- Expert `e` of group `g`, among the 32. -/
def among (g : Fin 4) (e : Fin 8) : Fin 32 := ⟨8 * g.val + e.val, by omega⟩

section

variable (hx : Rows.Idx → EReal) (w1 w3 : Into.Idx → EReal) (w2 : Out.Idx → EReal)

/-- A row against a column of a matrix into an expert. -/
def against (w : Into.Idx → EReal) (n : Fin 16384) (g : Fin 4) (e : Fin 8) (f : Fin 256) : EReal :=
  ∑ k : Fin 1024, hx (ix2 n (number k)) * w (into g e k f)

/-- What is inside the expert. -/
def inside (n : Fin 16384) (g : Fin 4) (e : Fin 8) (f : Fin 256) : EReal :=
  against hx w1 n g e f * Ideal.logistic (against hx w1 n g e f) * against hx w3 n g e f

/-- What the expert answers. -/
def answer (n : Fin 16384) (g : Fin 4) (e : Fin 8) (d : Fin 1024) : EReal :=
  ∑ f : Fin 256, inside hx w1 w3 n g e f * w2 (out g e f d)

/-- What the experts of group `g` give together. -/
def together (n : Fin 16384) (g : Fin 4) (d : Fin 1024) : EReal :=
  ∑ e : Fin 8, hx (ix2 n (gateLane g e)) * answer hx w1 w3 w2 n g e d

end

/-- A sum over the 32 experts, group by group. -/
theorem sum_among (f : Fin 32 → EReal) : ∑ k : Fin 32, f k = ∑ g : Fin 4, ∑ e : Fin 8, f (among g e) := by
  rw [← (finProdFinEquiv (m := 4) (n := 8)).sum_comp f, Fintype.sum_prod_type]
  refine Finset.sum_congr rfl fun g _ => Finset.sum_congr rfl fun e _ => congrArg f (Fin.ext ?_)
  show e.val + 8 * g.val = 8 * g.val + e.val
  omega

/-- A sum over the 32 experts of which only one group's are not zero. -/
theorem sum_group (f : Fin 32 → EReal) (g : Fin 4) (h : ∀ g' e, g' ≠ g → f (among g' e) = 0) :
    ∑ k : Fin 32, f k = ∑ e : Fin 8, f (among g e) := by
  rw [sum_among]
  exact Finset.sum_eq_single g (fun g' _ hg => Finset.sum_eq_zero fun e _ => h g' e hg) (fun hg => absurd (Finset.mem_univ _) hg)

end Cert.Experts

end
-- ==== Proof.MoeValue.lean ====
/-
The expert kernel's tile, entry by entry: the sum over the group's experts of the row's gate times what the
expert gives, every gate read from the row's lanes behind its numbers.
-/
module

public import proofs.«01_k».proof.Proof.MoeIdealPlan
public import proofs.«01_k».proof.Proof.Experts
public import proofs.«01_k».proof.Proof.Proj
public import Idealize.ShloMosaic.Lib.Pipeline.Covers

@[expose] public section

set_option maxRecDepth 16384

noncomputable section

namespace Cert.MoeIdeal.Own

open Idealize.ShloMosaic Idealize.ShloMosaic.ValueIdx Idealize.ShloMosaic.TcCoe Idealize.SL.Sem
open Cert.MoeIdeal Cert.MoeIdeal.Gen
open scoped BigOperators

theorem wide_apply (x : Vec Ideal S1x1x8x1024x256 .bf16) (e : Fin 8) (k : Fin 1024) (f : Fin 256) :
    shapeCast S1024x256 (wide x e) shapeCasts_S1x1x1x1024x256_S1024x256 (ix2 k f) = x (ix5 0 0 e k f) := by
  refine (shapeCast_apply (wide x e) shapeCasts_S1x1x1x1024x256_S1024x256 (ix2 k f) (ix5 0 0 0 k f : S1x1x1x1024x256.Idx) ?_).trans ?_
  · rw [Shape.rowMajor_val_two, Shape.rowMajor_val_five]
    show (((0 * 1 + 0) * 1 + 0) * 1024 + k.val) * 256 + f.val = k.val * 256 + f.val
    omega
  · show x _ = x _
    congr 1
    funext a
    match a with
    | ⟨0, _⟩ => rfl
    | ⟨1, _⟩ => rfl
    | ⟨2, _⟩ => exact Fin.ext (by show e.val + 1 * 0 = e.val; omega)
    | ⟨3, _⟩ => exact Fin.ext (by show 0 + 1 * k.val = k.val; omega)
    | ⟨4, _⟩ => exact Fin.ext (by show 0 + 1 * f.val = f.val; omega)

theorem tall_apply (x : Vec Ideal S1x1x8x256x1024 .bf16) (e : Fin 8) (f : Fin 256) (d : Fin 1024) :
    shapeCast S256x1024 (tall x e) shapeCasts_S1x1x1x256x1024_S256x1024 (ix2 f d) = x (ix5 0 0 e f d) := by
  refine (shapeCast_apply (tall x e) shapeCasts_S1x1x1x256x1024_S256x1024 (ix2 f d) (ix5 0 0 0 f d : S1x1x1x256x1024.Idx) ?_).trans ?_
  · rw [Shape.rowMajor_val_two, Shape.rowMajor_val_five]
    show (((0 * 1 + 0) * 1 + 0) * 256 + f.val) * 1024 + d.val = f.val * 1024 + d.val
    omega
  · show x _ = x _
    congr 1
    funext a
    match a with
    | ⟨0, _⟩ => rfl
    | ⟨1, _⟩ => rfl
    | ⟨2, _⟩ => exact Fin.ext (by show e.val + 1 * 0 = e.val; omega)
    | ⟨3, _⟩ => exact Fin.ext (by show 0 + 1 * f.val = f.val; omega)
    | ⟨4, _⟩ => exact Fin.ext (by show 0 + 1 * d.val = d.val; omega)

/-- A row of numbers against a column of an expert's matrix. -/
def dots (v10 : Vec Ideal S256x1024 .f32) (x : Vec Ideal S1x1x8x1024x256 .bf16) (j : Fin 256) (e : Fin 8) (f : Fin 256) : EReal :=
  ∑ k : Fin 1024, v10 (ix2 j k) * x (ix5 0 0 e k f)

theorem dots_apply (v10 : Vec Ideal S256x1024 .f32) (x : Vec Ideal S1x1x8x1024x256 .bf16) (j : Fin 256) (e : Fin 8) (f : Fin 256) :
    matmul (φ₂ := .bf16) dot_S256x1024_S1024x256_S256x256_1_0_0_1_n_n none (truncf .bf16 v10 bitsLt_bf16_f32 : FVec Ideal S256x1024 .bf16)
      (shapeCast S1024x256 (wide x e) shapeCasts_S1x1x1x1024x256_S1024x256 : FVec Ideal S1024x256 .bf16) (constant S256x256 .f32 0x00000000#32) (ix2 j f)
      = dots v10 x j e f :=
  (Cert.Proj.product_apply none _ _ j f).trans (Finset.sum_congr rfl fun k _ => congrArg (v10 (ix2 j k) * ·) (wide_apply x e k f))

theorem hidden_apply (v10 : Vec Ideal S256x1024 .f32) (x0 x1 : Vec Ideal S1x1x8x1024x256 .bf16) (j : Fin 256) (e : Fin 8) (f : Fin 256) :
    hidden (truncf .bf16 v10 bitsLt_bf16_f32 : FVec Ideal S256x1024 .bf16) (wide x0 e) (wide x1 e) (ix2 j f)
      = dots v10 x0 j e f * Ideal.logistic (dots v10 x0 j e f) * dots v10 x1 j e f := by
  rw [← dots_apply, ← dots_apply]
  rfl

/-- The lane of the numbers behind a row that has its gate of an expert. -/
def lane (g : Fin 4) (e : Fin 8) : Fin 128 := ⟨4 + (8 * g.val + e.val), by omega⟩

theorem lane_word : ∀ (g : Fin 4) (e : Fin 8),
    Scalar.addi (Scalar.addi 4#32 (Scalar.muli (BitVec.ofNat 32 g.val) 8#32)) (BitVec.ofNat 32 e.val) = BitVec.ofNat 32 (lane g e).val := by
  decide +kernel

theorem column_apply (v12 : Vec Ideal S256x128 .f32) (j : Fin 256) (g : Fin 4) (e : Fin 8) :
    column (BitVec.ofNat 32 g.val) (BitVec.ofNat 32 e.val) v12 (ix2 j 0) = v12 (ix2 j (lane g e)) := by
  unfold column
  rw [lane_word]
  refine (shapeCast_apply _ shapeCasts_S256_S256x1 (ix2 j 0) (ix1 j : S256.Idx) (by
    rw [Shape.rowMajor_val_two, Shape.rowMajor_val_one]; show j.val = j.val * 1 + 0; omega)).trans ?_
  refine (Ideal.multiReduction_add_single _ _ reduces_S256x128_S256 _ _ _).trans ?_
  have hl : ∀ k : Fin 128, reduces_S256x128_S256.lift (ix1 j) k = (ix2 j k : S256x128.Idx) := by
    intro k
    funext a
    match a with
    | ⟨0, _⟩ => exact Fin.ext rfl
    | ⟨1, _⟩ => exact Fin.ext rfl
  have hi : ∀ k : Fin 128, iota .tc S256x128 32 [1] iota_S256x128_d1_w32 (ix2 j k) = BitVec.ofNat 32 k.val := fun k => iota_single_apply _ _ _ _ _ _
  refine (Finset.sum_congr rfl fun k _ => congrArg _ (hl k)).trans ?_
  refine (Finset.sum_eq_single (lane g e) (fun k _ hk => ?_) (fun h => absurd (Finset.mem_univ _) h)).trans ?_
  · show Scalar.select (BitVec.ofBool (iota .tc S256x128 32 [1] iota_S256x128_d1_w32 (ix2 j k) == BitVec.ofNat 32 (lane g e).val)) _ (Ideal.ofBits .f32 0x00000000#32) = 0
    rw [hi, beq_eq_false_iff_ne.mpr, Ideal.ofBits_zero_f32]
    · rfl
    · intro h
      apply hk
      have h' := congrArg BitVec.toNat h
      rw [BitVec.toNat_ofNat, BitVec.toNat_ofNat, Nat.mod_eq_of_lt (by have : k.val < 128 := k.isLt; omega),
        Nat.mod_eq_of_lt (by have : (lane g e).val < 128 := (lane g e).isLt; omega)] at h'
      exact Fin.ext h'
  · show Scalar.select (BitVec.ofBool (iota .tc S256x128 32 [1] iota_S256x128_d1_w32 (ix2 j (lane g e)) == BitVec.ofNat 32 (lane g e).val)) (v12 _) _ = _
    rw [hi, beq_self_eq_true]
    rfl

/-- What an expert gives at an entry. -/
def oneExpert (v10 : Vec Ideal S256x1024 .f32) (x0 x1 : Vec Ideal S1x1x8x1024x256 .bf16) (x2 : Vec Ideal S1x1x8x256x1024 .bf16)
    (j : Fin 256) (e : Fin 8) (d : Fin 1024) : EReal :=
  ∑ f : Fin 256, dots v10 x0 j e f * Ideal.logistic (dots v10 x0 j e f) * dots v10 x1 j e f * x2 (ix5 0 0 e f d)

theorem add_apply (v10 : Vec Ideal S256x1024 .f32) (v12 : Vec Ideal S256x128 .f32) (x0 x1 : Vec Ideal S1x1x8x1024x256 .bf16) (x2 : Vec Ideal S1x1x8x256x1024 .bf16)
    (acc : FVec Ideal S256x1024 .f32) (g : Fin 4) (e : Fin 8) (j : Fin 256) (d : Fin 1024) :
    addExpert (BitVec.ofNat 32 g.val) (BitVec.ofNat 32 e.val) (truncf .bf16 v10 bitsLt_bf16_f32 : FVec Ideal S256x1024 .bf16) v12
        (wide x0 e) (wide x1 e) (tall x2 e) acc (ix2 j d)
      = acc (ix2 j d) + v12 (ix2 j (lane g e)) * oneExpert v10 x0 x1 x2 j e d := by
  refine congrArg (acc (ix2 j d) + ·) (congrArg₂ (· * ·) ?_ ?_)
  · refine (broadcastTo_apply _ _ (ix2 j d) (ix2 j 0 : S256x1.Idx) fun a => ?_).trans (column_apply v12 j g e)
    match a with
    | ⟨0, _⟩ => rfl
    | ⟨1, _⟩ => rfl
  · exact (Cert.Proj.product_apply none _ _ j d).trans (Finset.sum_congr rfl fun f _ =>
      congrArg₂ (· * ·) (hidden_apply v10 x0 x1 j e f) (tall_apply x2 e f d))

theorem tileOf_apply (v10 : Vec Ideal S256x1024 .f32) (v12 : Vec Ideal S256x128 .f32) (x0 x1 : Vec Ideal S1x1x8x1024x256 .bf16) (x2 : Vec Ideal S1x1x8x256x1024 .bf16)
    (g : Fin 4) (j : Fin 256) (d : Fin 1024) :
    tileOf (BitVec.ofNat 32 g.val) v10 v12 x0 x1 x2 (ix2 j d) = ∑ e : Fin 8, v12 (ix2 j (lane g e)) * oneExpert v10 x0 x1 x2 j e d := by
  refine (shapeCast_apply _ shapeCasts_S256x1024_S256x1024 (ix2 j d) (ix2 j d) rfl).trans ?_
  unfold upTo
  rw [Fin.sum_univ_eight]
  refine (add_apply v10 v12 x0 x1 x2 _ g 7 j d).trans (congrArg (· + _) ?_)
  refine (add_apply v10 v12 x0 x1 x2 _ g 6 j d).trans (congrArg (· + _) ?_)
  refine (add_apply v10 v12 x0 x1 x2 _ g 5 j d).trans (congrArg (· + _) ?_)
  refine (add_apply v10 v12 x0 x1 x2 _ g 4 j d).trans (congrArg (· + _) ?_)
  refine (add_apply v10 v12 x0 x1 x2 _ g 3 j d).trans (congrArg (· + _) ?_)
  refine (add_apply v10 v12 x0 x1 x2 _ g 2 j d).trans (congrArg (· + _) ?_)
  refine (add_apply v10 v12 x0 x1 x2 _ g 1 j d).trans (congrArg (· + _) ?_)
  refine (add_apply v10 v12 x0 x1 x2 _ g 0 j d).trans ?_
  exact (congrArg (· + _) Ideal.ofBits_zero_f32).trans (zero_add _)

variable (m : (ℓ : Loc nD τ sig) → Buf (Elt Ideal) ℓ) (c : Dev nD)

/-- The call's float arguments. -/
abbrev argX : Cert.Experts.Rows.Idx → EReal := m ((c : Thread nD τ).loc main_arg0)
abbrev argIn : Cert.Experts.Into.Idx → EReal := m ((c : Thread nD τ).loc main_arg4)
abbrev argGate : Cert.Experts.Into.Idx → EReal := m ((c : Thread nD τ).loc main_arg5)
abbrev argOut : Cert.Experts.Out.Idx → EReal := m ((c : Thread nD τ).loc main_arg6)

section Blocks

variable (hO : Named m) (t : Fin (pipe m hO).N) (g : Fin 4)
  (hg : (groupOf m (Cert.Routed.one68 (tileNo (grid0.coords t)))).toNat = g.val)
include hg

theorem in_block (e : Fin 8) (k : Fin 1024) (f : Fin 256) :
    (block m hO c 0 t : S1x1x8x1024x256.Idx → EReal) (ix5 0 0 e k f) = argIn m c (Cert.Experts.into g e k f) := by
  show m ((c : Thread nD τ).loc main_arg4) _ = m ((c : Thread nD τ).loc main_arg4) _
  congr 1
  have hn := names m (grid0.coords t)
  rw [hg] at hn
  funext a
  refine Fin.ext ((((pipe m hO).win 0).rect_emb_val t (ix5 0 0 e k f : S1x1x8x1024x256.Idx) a).trans ?_)
  show cc0_transform_1 k0_off1_inb numel1_S1 (words m) (grid0.coords t) a * _ + _ = _
  rw [hn]
  match a with
  | ⟨0, _⟩ => rfl
  | ⟨1, _⟩ => show g.val * 1 + 0 = g.val; omega
  | ⟨2, _⟩ => show 0 * 8 + e.val = e.val; omega
  | ⟨3, _⟩ => show 0 * 1024 + k.val = k.val; omega
  | ⟨4, _⟩ => show 0 * 256 + f.val = f.val; omega

theorem gate_block (e : Fin 8) (k : Fin 1024) (f : Fin 256) :
    (block m hO c 1 t : S1x1x8x1024x256.Idx → EReal) (ix5 0 0 e k f) = argGate m c (Cert.Experts.into g e k f) := by
  show m ((c : Thread nD τ).loc main_arg5) _ = m ((c : Thread nD τ).loc main_arg5) _
  congr 1
  have hn : cc0_transform_2 k0_off1_inb numel1_S1 (words m) (grid0.coords t) = _ := names m (grid0.coords t)
  rw [hg] at hn
  funext a
  refine Fin.ext ((((pipe m hO).win 1).rect_emb_val t (ix5 0 0 e k f : S1x1x8x1024x256.Idx) a).trans ?_)
  show cc0_transform_2 k0_off1_inb numel1_S1 (words m) (grid0.coords t) a * _ + _ = _
  rw [hn]
  match a with
  | ⟨0, _⟩ => rfl
  | ⟨1, _⟩ => show g.val * 1 + 0 = g.val; omega
  | ⟨2, _⟩ => show 0 * 8 + e.val = e.val; omega
  | ⟨3, _⟩ => show 0 * 1024 + k.val = k.val; omega
  | ⟨4, _⟩ => show 0 * 256 + f.val = f.val; omega

theorem out_block (e : Fin 8) (f : Fin 256) (d : Fin 1024) :
    (block m hO c 2 t : S1x1x8x256x1024.Idx → EReal) (ix5 0 0 e f d) = argOut m c (Cert.Experts.out g e f d) := by
  show m ((c : Thread nD τ).loc main_arg6) _ = m ((c : Thread nD τ).loc main_arg6) _
  congr 1
  have hn : cc0_transform_3 k0_off1_inb numel1_S1 (words m) (grid0.coords t) = _ := names m (grid0.coords t)
  rw [hg] at hn
  funext a
  refine Fin.ext ((((pipe m hO).win 2).rect_emb_val t (ix5 0 0 e f d : S1x1x8x256x1024.Idx) a).trans ?_)
  show cc0_transform_3 k0_off1_inb numel1_S1 (words m) (grid0.coords t) a * _ + _ = _
  rw [hn]
  match a with
  | ⟨0, _⟩ => rfl
  | ⟨1, _⟩ => show g.val * 1 + 0 = g.val; omega
  | ⟨2, _⟩ => show 0 * 8 + e.val = e.val; omega
  | ⟨3, _⟩ => show 0 * 256 + f.val = f.val; omega
  | ⟨4, _⟩ => show 0 * 1024 + d.val = d.val; omega

end Blocks

/-- The fetched rows' numbers and the lanes behind them. -/
theorem numbers_apply (fh : Held (F := Ideal) c tokM) (rw : Fin 256 → Fin 16384) (j : Fin 256) (k : Fin 1024) :
    gatM.view.readAt (Elt Ideal) (Rect.unit (s := S256x1152) ![0, 0] S256x1024.size inb_S256x1152_S256x1024_0_0).toLoadRect (gathered c fh rw) (ix2 j k)
      = (show Cert.Experts.Rows.Idx → EReal from fh) (ix2 (rw j) (Cert.Experts.number k)) := by
  rw [View.readAt_apply, View.read_apply]
  show fh _ = fh _
  congr 1
  funext a
  match a with
  | ⟨0, _⟩ =>
    show rw _ = rw j
    exact congrArg rw (Fin.ext (by show 0 + 1 * j.val = j.val; omega))
  | ⟨1, _⟩ => exact Fin.ext (by show 0 + 1 * k.val = k.val; omega)

theorem lanes_apply (fh : Held (F := Ideal) c tokM) (rw : Fin 256 → Fin 16384) (j : Fin 256) (g : Fin 4) (e : Fin 8) :
    gatM.view.readAt (Elt Ideal) (Rect.unit (s := S256x1152) ![0, 1024] S256x128.size inb_S256x1152_S256x128_0_1024).toLoadRect (gathered c fh rw) (ix2 j (lane g e))
      = (show Cert.Experts.Rows.Idx → EReal from fh) (ix2 (rw j) (Cert.Experts.gateLane g e)) := by
  rw [View.readAt_apply, View.read_apply]
  show fh _ = fh _
  congr 1
  funext a
  match a with
  | ⟨0, _⟩ =>
    show rw _ = rw j
    exact congrArg rw (Fin.ext (by show 0 + 1 * j.val = j.val; omega))
  | ⟨1, _⟩ => exact Fin.ext (by show 1024 + 1 * (4 + (8 * g.val + e.val)) = 1028 + (8 * g.val + e.val); omega)

variable {rw : grid0.Coords → Fin 256 → Fin 16384} (hp : Plan m rw)

/-- A row of a point's tile. -/
theorem tile_apply (t : Fin (pipe m hp.named).N) (g : Fin 4) (hg : (groupOf m (Cert.Routed.one68 (tileNo (grid0.coords t)))).toNat = g.val)
    (j : Fin 256) (d : Fin 1024) :
    (show S256x1024.Idx → EReal from tile m hp c t) (ix2 j d)
      = Cert.Experts.together (argX m c) (argIn m c) (argGate m c) (argOut m c) (rw (grid0.coords t) j) g d := by
  have hw : groupOf m (Cert.Routed.one68 (tileNo (grid0.coords t))) = BitVec.ofNat 32 g.val := by
    rw [← hg, BitVec.ofNat_toNat, BitVec.setWidth_eq]
  unfold tile tileAt
  rw [group_word, hw]
  refine (tileOf_apply _ _ _ _ _ g j d).trans (Finset.sum_congr rfl fun e _ => congrArg₂ (· * ·) (lanes_apply c _ _ j g e) ?_)
  have hd : ∀ (f : Fin 256), _ := fun f => Finset.sum_congr (s₁ := Finset.univ) rfl fun (k : Fin 1024) _ =>
    congrArg₂ (fun x y : EReal => x * y) (numbers_apply c (atEntry m c main_arg0) (rw (grid0.coords t)) j k) (in_block m c hp.named t g hg e k f)
  have hq : ∀ (f : Fin 256), _ := fun f => Finset.sum_congr (s₁ := Finset.univ) rfl fun (k : Fin 1024) _ =>
    congrArg₂ (fun x y : EReal => x * y) (numbers_apply c (atEntry m c main_arg0) (rw (grid0.coords t)) j k) (gate_block m c hp.named t g hg e k f)
  refine Finset.sum_congr rfl fun f _ => ?_
  exact congrArg₂ (fun x y : EReal => x * y) (congrArg₂ (fun x y : EReal => x * y)
    (congrArg (fun x : EReal => x * Ideal.logistic x) (hd f)) (hq f)) (out_block m c hp.named t g hg e f d)

/-- A point's tile is the point's number. -/
theorem tileNo_val (hO : Named m) (t : Fin (pipe m hO).N) : (tileNo (grid0.coords t)).val = t.val := by
  have ht : t.val < 68 := t.isLt
  refine (Pipeline.Grid.coords_val (G := grid0) t 0 (S := 1) (B := 68) (by decide) rfl).trans ?_
  rw [Nat.div_one, Nat.mod_eq_of_lt ht]

variable (hT : Cert.Routed.Tables (srcOf m) (groupOf m) (countOf m))

/-- A token's row, once its tile is done: what the experts of the tile's group give. -/
theorem result_row (n : Fin 16384) (g : Fin 4) (T : Fin 68) (j : Fin 256) (hk : Cert.Routed.Takes (srcOf m) (countOf m) T j n)
    (hu : ∀ T' j', Cert.Routed.Takes (srcOf m) (countOf m) T' j' n → T' = T ∧ j' = j)
    (hg : (groupOf m (Cert.Routed.one68 T)).toNat = g.val) (d : Fin 1024) :
    ∀ t : ℕ, t ≤ (pipe m (plan_of m hT).named).N → T.val < t →
      (show S16384x1024.Idx → EReal from result m (plan_of m hT) c t) (ix2 n d)
        = Cert.Experts.together (argX m c) (argIn m c) (argGate m c) (argOut m c) n g d := by
  intro t
  induction t with
  | zero => intro _ h; omega
  | succ t ih =>
    intro hN hlt
    have hv := tileNo_val m (plan_of m hT).named ⟨t, hN⟩
    refine (congrFun (result_succ m (plan_of m hT) c ⟨t, hN⟩) (ix2 n d)).trans ?_
    by_cases e : t = T.val
    · have eT : tileNo (grid0.coords ⟨t, hN⟩) = T := Fin.ext (hv.trans e)
      have hk' : Cert.Routed.Takes (srcOf m) (countOf m) (tileNo (grid0.coords ⟨t, hN⟩)) j n := by rw [eT]; exact hk
      obtain ⟨h1, h2⟩ := row_takes m hT hk'
      refine (scattered_of c _ _ ((plan_of m hT).apart c _) (t := j) (by rw [rows_word]; exact h2) (ix2 n d) h1.symm).trans ?_
      refine Eq.trans (congrArg (show S256x1024.Idx → EReal from tile m (plan_of m hT) c ⟨t, hN⟩) ?_)
        ((tile_apply m c (plan_of m hT) ⟨t, hN⟩ g (by rw [eT]; exact hg) j d).trans (by rw [h1]))
      funext a
      match a with
      | ⟨0, _⟩ => rfl
      | ⟨1, _⟩ => rfl
    · refine (scattered_else c _ _ (ix2 n d) fun t' ht' h => ?_).trans (ih (by omega) (by omega))
      rw [rows_word] at ht'
      have h3 := takes_row m hT (grid0.coords ⟨t, hN⟩) t' ht'
      have h4 : rowTok m hT (grid0.coords ⟨t, hN⟩) t' = n := h
      rw [h4] at h3
      exact e (hv.symm.trans (congrArg Fin.val (hu _ _ h3).1))

end Cert.MoeIdeal.Own

end
-- ==== Proof.MoeRefValue.lean ====
/-
The reference of the expert kernel, entry by entry: a token's gates are zero outside the group of the tile
that takes it, so of the sum over all 32 experts the eight of that group are left.
-/
module

public import proofs.«01_k».proof.Proof.Routed
public import proofs.«01_k».proof.Proof.Experts

@[expose] public section

noncomputable section

namespace Cert.Experts

open Idealize.ShloMosaic Idealize.ShloMosaic.ValueIdx
open Cert.MoeRefIdeal Cert.MoeRefIdeal.Gen Cert.MoeRefIdeal.Read
open Cert.Routed (Tables Takes one68)
open scoped BigOperators

section

variable (x0 : S16384x1152.Idx → EReal) (x4 x5 : S4x4x8x1024x256.Idx → EReal) (x6 : S4x4x8x256x1024.Idx → EReal)

/-- The weights, expert by expert. -/
theorem first_weight (g : Fin 4) (e : Fin 8) (k : Fin 1024) (f : Fin 256) :
    val_main_v33 (F := Ideal) x4 (ix3 (among g e) k f) = x4 (into g e k f) := by
  have hg := g.isLt; have he := e.isLt; have hk := k.isLt; have hf := f.isLt
  have e1 : idx_main_v33 (ix3 (among g e) k f) = ix4 g e k f := by
    funext a
    match a with
    | ⟨0, _⟩ => exact Fin.ext (by show (((8 * g.val + e.val) * 1024 + k.val) * 256 + f.val) / 2097152 = g.val; omega)
    | ⟨1, _⟩ => exact Fin.ext (by show (((8 * g.val + e.val) * 1024 + k.val) * 256 + f.val) / 262144 % 8 = e.val; omega)
    | ⟨2, _⟩ => exact Fin.ext (by show (((8 * g.val + e.val) * 1024 + k.val) * 256 + f.val) / 256 % 1024 = k.val; omega)
    | ⟨3, _⟩ => exact Fin.ext (by show (((8 * g.val + e.val) * 1024 + k.val) * 256 + f.val) % 256 = f.val; omega)
  have e2 : idx_main_v31 (ix4 g e k f) = ix5 0 g e k f := by
    funext a
    match a with
    | ⟨0, _⟩ => rfl
    | ⟨1, _⟩ => exact Fin.ext (by show (((g.val * 8 + e.val) * 1024 + k.val) * 256 + f.val) / 2097152 % 4 = g.val; omega)
    | ⟨2, _⟩ => exact Fin.ext (by show (((g.val * 8 + e.val) * 1024 + k.val) * 256 + f.val) / 262144 % 8 = e.val; omega)
    | ⟨3, _⟩ => exact Fin.ext (by show (((g.val * 8 + e.val) * 1024 + k.val) * 256 + f.val) / 256 % 1024 = k.val; omega)
    | ⟨4, _⟩ => exact Fin.ext (by show (((g.val * 8 + e.val) * 1024 + k.val) * 256 + f.val) % 256 = f.val; omega)
  have e3 : idx_main_v30 (ix5 0 g e k f) = into g e k f := by
    funext a
    match a with
    | ⟨0, _⟩ => rfl
    | ⟨1, _⟩ => rfl
    | ⟨2, _⟩ => rfl
    | ⟨3, _⟩ => rfl
    | ⟨4, _⟩ => rfl
  rw [val_main_v33_apply, e1, val_main_v32_apply, val_main_v31_apply, e2, val_main_v30_apply, e3]
  rfl

theorem second_weight (g : Fin 4) (e : Fin 8) (k : Fin 1024) (f : Fin 256) :
    val_main_v37 (F := Ideal) x5 (ix3 (among g e) k f) = x5 (into g e k f) := by
  have hg := g.isLt; have he := e.isLt; have hk := k.isLt; have hf := f.isLt
  have e1 : idx_main_v37 (ix3 (among g e) k f) = ix4 g e k f := by
    funext a
    match a with
    | ⟨0, _⟩ => exact Fin.ext (by show (((8 * g.val + e.val) * 1024 + k.val) * 256 + f.val) / 2097152 = g.val; omega)
    | ⟨1, _⟩ => exact Fin.ext (by show (((8 * g.val + e.val) * 1024 + k.val) * 256 + f.val) / 262144 % 8 = e.val; omega)
    | ⟨2, _⟩ => exact Fin.ext (by show (((8 * g.val + e.val) * 1024 + k.val) * 256 + f.val) / 256 % 1024 = k.val; omega)
    | ⟨3, _⟩ => exact Fin.ext (by show (((8 * g.val + e.val) * 1024 + k.val) * 256 + f.val) % 256 = f.val; omega)
  have e2 : idx_main_v35 (ix4 g e k f) = ix5 0 g e k f := by
    funext a
    match a with
    | ⟨0, _⟩ => rfl
    | ⟨1, _⟩ => exact Fin.ext (by show (((g.val * 8 + e.val) * 1024 + k.val) * 256 + f.val) / 2097152 % 4 = g.val; omega)
    | ⟨2, _⟩ => exact Fin.ext (by show (((g.val * 8 + e.val) * 1024 + k.val) * 256 + f.val) / 262144 % 8 = e.val; omega)
    | ⟨3, _⟩ => exact Fin.ext (by show (((g.val * 8 + e.val) * 1024 + k.val) * 256 + f.val) / 256 % 1024 = k.val; omega)
    | ⟨4, _⟩ => exact Fin.ext (by show (((g.val * 8 + e.val) * 1024 + k.val) * 256 + f.val) % 256 = f.val; omega)
  have e3 : idx_main_v34 (ix5 0 g e k f) = into g e k f := by
    funext a
    match a with
    | ⟨0, _⟩ => rfl
    | ⟨1, _⟩ => rfl
    | ⟨2, _⟩ => rfl
    | ⟨3, _⟩ => rfl
    | ⟨4, _⟩ => rfl
  rw [val_main_v37_apply, e1, val_main_v36_apply, val_main_v35_apply, e2, val_main_v34_apply, e3]
  rfl

theorem third_weight (g : Fin 4) (e : Fin 8) (f : Fin 256) (d : Fin 1024) :
    val_main_v41 (F := Ideal) x6 (ix3 (among g e) f d) = x6 (out g e f d) := by
  have hg := g.isLt; have he := e.isLt; have hk := f.isLt; have hf := d.isLt
  have e1 : idx_main_v41 (ix3 (among g e) f d) = ix4 g e f d := by
    funext a
    match a with
    | ⟨0, _⟩ => exact Fin.ext (by show (((8 * g.val + e.val) * 256 + f.val) * 1024 + d.val) / 2097152 = g.val; omega)
    | ⟨1, _⟩ => exact Fin.ext (by show (((8 * g.val + e.val) * 256 + f.val) * 1024 + d.val) / 262144 % 8 = e.val; omega)
    | ⟨2, _⟩ => exact Fin.ext (by show (((8 * g.val + e.val) * 256 + f.val) * 1024 + d.val) / 1024 % 256 = f.val; omega)
    | ⟨3, _⟩ => exact Fin.ext (by show (((8 * g.val + e.val) * 256 + f.val) * 1024 + d.val) % 1024 = d.val; omega)
  have e2 : idx_main_v39 (ix4 g e f d) = ix5 0 g e f d := by
    funext a
    match a with
    | ⟨0, _⟩ => rfl
    | ⟨1, _⟩ => exact Fin.ext (by show (((g.val * 8 + e.val) * 256 + f.val) * 1024 + d.val) / 2097152 % 4 = g.val; omega)
    | ⟨2, _⟩ => exact Fin.ext (by show (((g.val * 8 + e.val) * 256 + f.val) * 1024 + d.val) / 262144 % 8 = e.val; omega)
    | ⟨3, _⟩ => exact Fin.ext (by show (((g.val * 8 + e.val) * 256 + f.val) * 1024 + d.val) / 1024 % 256 = f.val; omega)
    | ⟨4, _⟩ => exact Fin.ext (by show (((g.val * 8 + e.val) * 256 + f.val) * 1024 + d.val) % 1024 = d.val; omega)
  have e3 : idx_main_v38 (ix5 0 g e f d) = out g e f d := by
    funext a
    match a with
    | ⟨0, _⟩ => rfl
    | ⟨1, _⟩ => rfl
    | ⟨2, _⟩ => rfl
    | ⟨3, _⟩ => rfl
    | ⟨4, _⟩ => rfl
  rw [val_main_v41_apply, e1, val_main_v40_apply, val_main_v39_apply, e2, val_main_v38_apply, e3]
  rfl

/-- A row against an expert's columns. -/
theorem first_against (n : Fin 16384) (g : Fin 4) (e : Fin 8) (f : Fin 256) :
    val_main_v42 (F := Ideal) x0 x4 (ix3 n (among g e) f) = against x0 x4 n g e f := by
  rw [val_main_v42_apply]
  refine Finset.sum_congr rfl fun k _ => congrArg₂ (· * ·) ?_ ?_
  · rw [val_main_v0_apply]
    refine congrArg x0 (funext fun a => ?_)
    match a with
    | ⟨0, _⟩ => rfl
    | ⟨1, _⟩ => exact Fin.ext (by first | rfl | (show 0 + k.val = k.val; omega))
  · refine Eq.trans (congrArg _ (funext fun a => ?_)) (first_weight x4 g e k f)
    match a with
    | ⟨0, _⟩ => rfl
    | ⟨1, _⟩ => rfl
    | ⟨2, _⟩ => rfl
theorem second_against (n : Fin 16384) (g : Fin 4) (e : Fin 8) (f : Fin 256) :
    val_main_v44 (F := Ideal) x0 x5 (ix3 n (among g e) f) = against x0 x5 n g e f := by
  rw [val_main_v44_apply]
  refine Finset.sum_congr rfl fun k _ => congrArg₂ (· * ·) ?_ ?_
  · rw [val_main_v0_apply]
    refine congrArg x0 (funext fun a => ?_)
    match a with
    | ⟨0, _⟩ => rfl
    | ⟨1, _⟩ => exact Fin.ext (by first | rfl | (show 0 + k.val = k.val; omega))
  · refine Eq.trans (congrArg _ (funext fun a => ?_)) (second_weight x5 g e k f)
    match a with
    | ⟨0, _⟩ => rfl
    | ⟨1, _⟩ => rfl
    | ⟨2, _⟩ => rfl

theorem inside_ref (n : Fin 16384) (g : Fin 4) (e : Fin 8) (f : Fin 256) :
    val_main_v45 (F := Ideal) x0 x4 x5 (ix3 n (among g e) f) = inside x0 x4 x5 n g e f := by
  rw [val_main_v45_apply, val_main_v43_apply, val_main_call2_v5_apply, val_main_call2_v4_apply, val_main_call2_cst_0_apply,
    val_main_call2_v3_apply, val_main_call2_v2_apply, val_main_call2_cst_apply, val_main_call2_v1_apply, val_main_call2_v0_apply,
    first_against, second_against]
  have h1 : (FloatOps.ofBits .f32 0x3F800000#32 : Ideal .f32) = (1 : EReal) := by
    show Ideal.ofBits .f32 0x3F800000#32 = 1
    exact IdealRules.sign_bit.ideal_onePat .f32
  rw [h1]
  rfl

theorem gives_ref (n : Fin 16384) (g : Fin 4) (e : Fin 8) (d : Fin 1024) :
    val_main_v48 (F := Ideal) x0 x4 x5 x6 (ix3 n (among g e) d) = answer x0 x4 x5 x6 n g e d := by
  rw [val_main_v48_apply, val_main_v47_apply]
  refine Finset.sum_congr rfl fun f _ => ?_
  refine Eq.trans (congrArg₂ (· * ·) ((congrArg _ (funext fun a => ?_)).trans (third_weight x6 g e f d)) ((congrArg _ (funext fun a => ?_)).trans (inside_ref x0 x4 x5 n g e f))) (mul_comm _ _)
  · match a with
    | ⟨0, _⟩ => rfl
    | ⟨1, _⟩ => rfl
    | ⟨2, _⟩ => rfl
  · match a with
    | ⟨0, _⟩ => rfl
    | ⟨1, _⟩ => rfl
    | ⟨2, _⟩ => rfl

variable (x1 : S17408.Idx → BitVec 32) (x2 x3 : S68.Idx → BitVec 32)

/-- A token's gate of an expert: zero unless the expert is of the token's group. -/
theorem gate_ref (n : Fin 16384) (g : Fin 4) (e : Fin 8) {w : BitVec 32}
    (hw : val_main_v19 (F := Ideal) x1 x2 x3 (ix1 n) = w) :
    val_main_v46 (F := Ideal) x0 x1 x2 x3 (ix3 n (among g e) 0) = if w = BitVec.ofNat 32 g.val then x0 (ix2 n (gateLane g e)) else 0 := by
  have hn := n.isLt; have hg := g.isLt; have he := e.isLt
  have e1 : idx_main_v29 (idx_main_v46 (ix3 n (among g e) 0)) = ix3 n g e := by
    funext a
    match a with
    | ⟨0, _⟩ => exact Fin.ext (by show (n.val * 32 + (8 * g.val + e.val)) / 32 = n.val; omega)
    | ⟨1, _⟩ => exact Fin.ext (by show (n.val * 32 + (8 * g.val + e.val)) / 8 % 4 = g.val; omega)
    | ⟨2, _⟩ => exact Fin.ext (by show (n.val * 32 + (8 * g.val + e.val)) % 8 = e.val; omega)
  have e2 : idx_main_v20 (idx_main_v21 (ix3 n g e)) = ix2 n (gateLane g e) := by
    funext a
    match a with
    | ⟨0, _⟩ => exact Fin.ext (by show ((n.val * 4 + g.val) * 8 + e.val) / 32 = n.val; omega)
    | ⟨1, _⟩ => exact Fin.ext (by show 1028 + ((n.val * 4 + g.val) * 8 + e.val) % 32 = 1028 + (8 * g.val + e.val); omega)
  have e3 : idx_main_v22 (idx_main_v25 (idx_main_call1_v1 (ix3 n g e))) = ix1 n := by
    funext a
    match a with
    | ⟨0, _⟩ => rfl
  have e4 : ((idx_main_v24 (idx_main_v26 (idx_main_call1_v1 (ix3 n g e)))) 0).val = g.val := rfl
  rw [val_main_v46_apply, val_main_v29_apply, e1, val_main_v28_apply, val_main_call1_v1_apply, val_main_v27_apply, val_main_v25_apply,
    val_main_v22_apply, e3, hw, val_main_v26_apply, val_main_v24_apply, val_main_v23_apply, e4, val_main_v21_apply, val_main_v20_apply, e2,
    val_main_call1_v2_apply, val_main_call1_v0_apply, val_main_cst_apply]
  by_cases h : w = BitVec.ofNat 32 g.val
  · rw [if_pos h, h]
    show Scalar.select (BitVec.ofBool (BitVec.ofNat 32 g.val == BitVec.ofNat 32 g.val)) _ _ = _
    rw [beq_self_eq_true]
    rfl
  · rw [if_neg h]
    show Scalar.select (BitVec.ofBool (w == BitVec.ofNat 32 g.val)) _ (Ideal.ofBits .f32 0x00000000#32) = _
    rw [beq_eq_false_iff_ne.mpr h, Ideal.ofBits_zero_f32]
    rfl

/-- The reference's entry of a token whose group is `g`. -/
theorem reference_apply (n : Fin 16384) (g : Fin 4) (d : Fin 1024)
    (hw : val_main_v19 (F := Ideal) x1 x2 x3 (ix1 n) = BitVec.ofNat 32 g.val) :
    val_main_v51 (F := Ideal) x0 x1 x2 x3 x4 x5 x6 (ix2 n d) = together x0 x4 x5 x6 n g d := by
  have hk : ∀ g' e, val_main_v50 (F := Ideal) x0 x1 x2 x3 x4 x5 x6 (idx_main_v51 (ix2 n d) (among g' e))
      = (if BitVec.ofNat 32 g.val = BitVec.ofNat 32 g'.val then x0 (ix2 n (gateLane g' e)) else 0) * answer x0 x4 x5 x6 n g' e d := by
    intro g' e
    have e1 : idx_main_v51 (ix2 n d) (among g' e) = ix3 n (among g' e) d := by
      funext a
      match a with
      | ⟨0, _⟩ => rfl
      | ⟨1, _⟩ => rfl
      | ⟨2, _⟩ => rfl
    have e2 : idx_main_v49 (ix3 n (among g' e) d) = ix3 n (among g' e) 0 := by
      funext a
      match a with
      | ⟨0, _⟩ => rfl
      | ⟨1, _⟩ => rfl
      | ⟨2, _⟩ => rfl
    rw [e1, val_main_v50_apply, val_main_v49_apply, e2, gate_ref x0 x1 x2 x3 n g' e hw, gives_ref]
    rfl
  rw [val_main_v51_apply, val_main_cst_1_apply]
  refine (congrArg (· + _) Ideal.ofBits_zero_f32).trans ((zero_add _).trans ?_)
  refine (sum_group _ g fun g' e hne => ?_).trans (Finset.sum_congr rfl fun e _ => ?_)
  · rw [hk, if_neg, zero_mul]
    intro h
    apply hne
    have := congrArg BitVec.toNat h
    rw [BitVec.toNat_ofNat, BitVec.toNat_ofNat, Nat.mod_eq_of_lt (by have := g.isLt; omega), Nat.mod_eq_of_lt (by have := g'.isLt; omega)] at this
    exact Fin.ext this.symm
  · rw [hk, if_pos rfl]

/-- The reference's entry of a token in one row of the tiles: what the experts of the row's tile's group give. -/
theorem reference_row (n : Fin 16384) (g : Fin 4) (d : Fin 1024) {T : Fin 68} {j : Fin 256} (h : Cert.Routed.Takes x1 x3 T j n)
    (hu : ∀ T' j', Cert.Routed.Takes x1 x3 T' j' n → T' = T ∧ j' = j) (hg : (x2 (Cert.Routed.one68 T)).toNat = g.val) :
    val_main_v51 (F := Ideal) x0 x1 x2 x3 x4 x5 x6 (ix2 n d) = together x0 x4 x5 x6 n g d := by
  refine reference_apply x0 x4 x5 x6 x1 x2 x3 n g d ?_
  have e : (ix1 n : S16384.Idx) = (fun a => match a with | 0 => n) := by
    funext a
    match a with
    | ⟨0, _⟩ => rfl
  rw [← hg, BitVec.ofNat_toNat, BitVec.setWidth_eq]
  exact (congrArg (val_main_v19 (F := Ideal) x1 x2 x3) e).trans (Cert.Routed.group_of n h hu)

end

end Cert.Experts

end
-- ==== Proof.MoeClaim.lean ====
/- The claims about the expert kernel: the three programs leave their arguments and their counters as they were, and
   over the extended reals the kernel's result is the reference's. -/
module

public import proofs.«01_k».proof.Defs
public import proofs.«01_k».proof.Proof.MoePlan
public import proofs.«01_k».proof.Proof.MoeValue
public import proofs.«01_k».proof.Proof.MoeRefValue
public import proofs.«01_k».proof.Proof.Gen.MoeRefIdeal.Run

@[expose] public section

noncomputable section

namespace Cert.Moe.Claims

open Idealize.ShloMosaic Idealize.ShloMosaic.ValueIdx Idealize.ShloMosaic.TcCoe Idealize.SL.Sem

theorem tables {m : (ℓ : Loc Cert.Moe.nD Cert.Moe.τ Cert.Moe.sig) → Buf (Elt Bits) ℓ} (h : Cert.Pre_Moe m) :
    Cert.Routed.Tables (Cert.Moe.Own.srcOf m) (Cert.Moe.Own.groupOf m) (Cert.Moe.Own.countOf m) := by
  obtain ⟨h1, h2, h3, h4⟩ := h 0
  exact Cert.Routed.tables_of _ _ _ _ _ _ _ h1 h2 h3 h4

theorem tables_ideal {m : (ℓ : Loc Cert.MoeIdeal.nD Cert.MoeIdeal.τ Cert.MoeIdeal.sig) → Buf (Elt Ideal) ℓ} (h : Cert.Pre_MoeIdeal m) :
    Cert.Routed.Tables (Cert.MoeIdeal.Own.srcOf m) (Cert.MoeIdeal.Own.groupOf m) (Cert.MoeIdeal.Own.countOf m) := by
  obtain ⟨h1, h2, h3, h4⟩ := h 0
  exact Cert.Routed.tables_of _ _ _ _ _ _ _ h1 h2 h3 h4

theorem frame_kernel : Cert.quiescent_Moe := fun m ρ hpre =>
  (θ_run Cert.Moe.defs _ _).mono (fun _ h => ⟨fun c => (h.1 c).2, h.2⟩) (Cert.Moe.Own.ends m ρ (Cert.Moe.Own.plan_of m (tables hpre)))

theorem frame_ideal : Cert.quiescent_MoeIdeal := fun m ρ hpre =>
  (θ_run Cert.MoeIdeal.defs _ _).mono (fun _ h => ⟨fun c => (h.1 c).2, h.2⟩) (Cert.MoeIdeal.Own.ends m ρ (Cert.MoeIdeal.Own.plan_of m (tables_ideal hpre)))

theorem frame_reference : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem frame_reference_routed : Cert.quiescent_MoeRefIdeal_pre_routed := fun m ρ _ => frame_reference m ρ trivial

/-- The reference's value over the kernel's arguments is the kernel's result array. -/
theorem same (m : (ℓ : Loc Cert.MoeIdeal.nD Cert.MoeIdeal.τ Cert.MoeIdeal.sig) → Buf (Elt Ideal) ℓ)
    (hT : Cert.Routed.Tables (Cert.MoeIdeal.Own.srcOf m) (Cert.MoeIdeal.Own.groupOf m) (Cert.MoeIdeal.Own.countOf m)) (c : Dev Cert.MoeIdeal.nD)
    (n : Fin 16384) (d : Fin 1024) :
    Cert.MoeRefIdeal.Read.val_main_v51 (F := Ideal) (Cert.MoeIdeal.Own.argX m c) (Cert.MoeIdeal.Own.srcOf m) (Cert.MoeIdeal.Own.groupOf m)
        (Cert.MoeIdeal.Own.countOf m) (Cert.MoeIdeal.Own.argIn m c) (Cert.MoeIdeal.Own.argGate m c) (Cert.MoeIdeal.Own.argOut m c) (ix2 n d)
      = (show Cert.MoeIdeal.S16384x1024.Idx → EReal from Cert.MoeIdeal.Own.result m (Cert.MoeIdeal.Own.plan_of m hT) c
          (Cert.MoeIdeal.Own.pipe m (Cert.MoeIdeal.Own.plan_of m hT).named).N) (ix2 n d) := by
  obtain ⟨T, j, hk, hu⟩ := hT.once n
  refine (Cert.Experts.reference_row _ _ _ _ _ _ _ n ⟨_, hT.group (Cert.Routed.one68 T)⟩ d hk hu rfl).trans ?_
  exact (Cert.MoeIdeal.Own.result_row m c hT n ⟨_, hT.group (Cert.Routed.one68 T)⟩ T j hk hu rfl d _ le_rfl T.isLt).symm

theorem preserves : Cert.preserves_Moe_MoeIdeal := trivial

theorem algebraic : Cert.algebraic_MoeIdeal_MoeRefIdeal := by
  intro m ρ m' ρ' hpre hagree
  have hT := tables_ideal hpre
  refine ⟨fun c => Cert.MoeIdeal.Own.result m (Cert.MoeIdeal.Own.plan_of m hT) c (Cert.MoeIdeal.Own.pipe m (Cert.MoeIdeal.Own.plan_of m hT).named).N,
    (θ_run Cert.MoeIdeal.defs _ _).mono (fun _ h => h.1) (Cert.MoeIdeal.Own.ends m ρ (Cert.MoeIdeal.Own.plan_of m hT)), ?_⟩
  refine (θ_run Cert.MoeRefIdeal.defs _ _).mono (fun _ h c => ?_) (Cert.MoeRefIdeal.Value.run (F := Ideal) m' ρ')
  obtain ⟨g0, g⟩ := h c
  obtain ⟨h0, h1, h2, h3, h4, h5, h6⟩ := hagree c
  refine ⟨g0.trans ?_, g⟩
  rw [Cert.MoeRefIdeal.Read.val_main_v51_eq, h0, h1, h2, h3, h4, h5, h6]
  obtain rfl : c = 0 := Subsingleton.elim _ _
  funext y
  rw [eq_ix2 y]
  exact same m hT 0 _ _

end Cert.Moe.Claims

end
-- ==== Proof.FinalLnValue.lean ====
/- The call behind the experts, over whole arrays: its result is the normed sums of `alpha` times the row and of the
   experts' row scaled by one plus the sequence's sixth chunk. -/
module

public import proofs.«01_k».proof.Proof.Out
public import proofs.«01_k».proof.Proof.Gen.FinalLnIdeal.Value
public import Idealize.ShloMosaic.Lib.Pipeline.Covers

@[expose] public section

noncomputable section

namespace Cert.FinalLn.Value

open Idealize.ShloMosaic Idealize.ShloMosaic.Ideal Idealize.ShloMosaic.ValueIdx Idealize.ShloMosaic.TcCoe
open Idealize.SL.Sem
open Cert.FinalLnIdeal Cert.FinalLnIdeal.Gen Cert.FinalLnIdeal.Value Cert.Diff Cert.Proj Cert.Out
open scoped BigOperators

/-- Row `R` before the norm. -/
def finished (x y : Tokens.Idx → EReal) (mod : Chunks.Idx → EReal) (R : Fin 16384) (d : Fin 1024) : EReal :=
  alpha * x (ix2 R d) + (one + mod (ix3 (seqOf R) 0 (chunk 5 d))) * y (ix2 R d)

/-- The kernel's constant is the fourth root of 8. -/
theorem alpha_eq : (Named.named κ "alpha" 0x3FD744FD#32 : Ideal .f32) = alpha :=
  IdealRules.named_const.ideal_named_scalar _ _ _ _ rfl

/-! ## A block -/

/-- What a point writes. -/
theorem out_apply (x y : Vec Ideal S512x1024 .f32) (g : Vec Ideal S1x1x1024 .f32) (lg lb : Vec Ideal S1x1024 .f32)
    (r : Fin 512) (d : Fin 1024) :
    out0_5 x y g lg lb (ix2 r d) = normed (fun d => alpha * x (ix2 r d) + (one + g (ix3 0 0 d)) * y (ix2 r d)) lg lb d := by
  unfold out0_5
  rw [View.canon_unit_zero (by decide), show View.ld x r0_0 = x from View.ld_unit_zero (by decide) _ x,
    show View.ld y r0_0 = y from View.ld_unit_zero (by decide) _ y,
    show View.ld g r0_1 = g from View.ld_unit_zero (by decide) _ g,
    show View.ld lg r0_2 = lg from View.ld_unit_zero (by decide) _ lg,
    show View.ld lb r0_2 = lb from View.ld_unit_zero (by decide) _ lb]
  refine (norm_apply reduces_S512x1024_S512 shapeCasts_S512_S512x1 broadcasts_S512x1_S512x1024 broadcasts_S1x1024_S512x1024
    (before shapeCasts_S1x1x1024_S1x1024 broadcasts_S1x1024_S512x1024 (Named.named κ "alpha" 0x3FD744FD#32 : Ideal .f32) x y g)
    lg lb r d).trans ?_
  refine congrArg (normed · lg lb d) (funext fun d => ?_)
  refine (before_apply _ _ _ x y g r d).trans ?_
  rw [alpha_eq]

/-! ## Which block a grid point has -/

/-- The point's number. -/
def point (i : grid0.Coords) : Fin 32 := i 0

/-- The point of a number. -/
def coords (n : Fin 32) : grid0.Coords := fun a => match a with
  | ⟨0, _⟩ => n

theorem map_rows (i : grid0.Coords) : cc0_transform_0 i = ![(point i).val, 0] :=
  (by decide +kernel : ∀ a : Fin 32, ![(BitVec.ofNat 32 a.val).toNat, (0#32 : BitVec 32).toNat] = ![a.val, 0]) (i 0)

theorem map_gate (i : grid0.Coords) : cc0_transform_2 i = ![(point i).val / 16, 0, 5] :=
  (by decide +kernel : ∀ a : Fin 32, cc0_transform_2 (coords a) = ![a.val / 16, 0, 5]) (i 0)

variable (m : (ℓ : Loc nD τ sig) → Buf (Elt Ideal) ℓ) (c : Dev nD) (t : Fin cfg0.N)

/-- The call's arguments. -/
abbrev argX : Tokens.Idx → EReal := m ((c : Thread nD τ).loc main_arg0)
abbrev argY : Tokens.Idx → EReal := m ((c : Thread nD τ).loc main_arg1)
abbrev argM : Chunks.Idx → EReal := m ((c : Thread nD τ).loc main_arg2)
abbrev argG : S1x1024.Idx → EReal := m ((c : Thread nD τ).loc main_arg3)
abbrev argB : S1x1024.Idx → EReal := m ((c : Thread nD τ).loc main_arg4)

theorem row_block (r : Fin 512) (d : Fin 1024) :
    iblk m c 0 t (ix2 r d) = argX m c (ix2 (row (point (grid0.coords t)) r) d) := by
  show _ = m ((c : Thread nD τ).loc main_arg0) _
  rw [← V_main_arg0 m c]
  show V m c main_arg0 _ = V m c main_arg0 _
  congr 1
  funext a
  match a with
  | ⟨0, _⟩ => exact Fin.ext ((win0_0.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_0.rect_emb_val t (ix2 r d) 1).trans (by
      show cc0_transform_0 (grid0.coords t) 1 * 1024 + d.val = d.val
      rw [map_rows]; show 0 * 1024 + d.val = _; omega))

theorem experts_block (r : Fin 512) (d : Fin 1024) :
    iblk m c 1 t (ix2 r d) = argY m c (ix2 (row (point (grid0.coords t)) r) d) := by
  show _ = m ((c : Thread nD τ).loc main_arg1) _
  rw [← V_main_arg1 m c]
  show V m c main_arg1 _ = V m c main_arg1 _
  congr 1
  funext a
  match a with
  | ⟨0, _⟩ => exact Fin.ext ((win0_1.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_1.rect_emb_val t (ix2 r d) 1).trans (by
      show cc0_transform_0 (grid0.coords t) 1 * 1024 + d.val = d.val
      rw [map_rows]; show 0 * 1024 + d.val = _; omega))

theorem gain_block : iblk m c 3 t = argG m c := by
  show _ = m ((c : Thread nD τ).loc main_arg3)
  rw [← V_main_arg3 m c]
  funext j
  show V m c main_arg3 _ = V m c main_arg3 _
  congr 1
  funext a
  exact Fin.ext ((win0_3.rect_emb_val t j a).trans (by
    match a with
    | ⟨0, _⟩ => show 0 * 1 + (j 0).val = (j 0).val; omega
    | ⟨1, _⟩ => show 0 * 1024 + (j 1).val = (j 1).val; omega))

theorem bias_block : iblk m c 4 t = argB m c := by
  show _ = m ((c : Thread nD τ).loc main_arg4)
  rw [← V_main_arg4 m c]
  funext j
  show V m c main_arg4 _ = V m c main_arg4 _
  congr 1
  funext a
  exact Fin.ext ((win0_4.rect_emb_val t j a).trans (by
    match a with
    | ⟨0, _⟩ => show 0 * 1 + (j 0).val = (j 0).val; omega
    | ⟨1, _⟩ => show 0 * 1024 + (j 1).val = (j 1).val; omega))

theorem gate_block (d : Fin 1024) :
    iblk m c 2 t (ix3 0 0 d) = argM m c (ix3 (seqAt (point (grid0.coords t))) 0 (chunk 5 d)) := by
  show _ = m ((c : Thread nD τ).loc main_arg2) _
  rw [← V_main_arg2 m c]
  show V m c main_arg2 _ = V m c main_arg2 _
  congr 1
  funext a
  match a with
  | ⟨0, _⟩ => exact Fin.ext ((win0_2.rect_emb_val t (ix3 0 0 d) 0).trans (by
      show cc0_transform_2 (grid0.coords t) 0 * 1 + 0 = (point (grid0.coords t)).val / 16
      rw [map_gate]; show (point (grid0.coords t)).val / 16 * 1 + 0 = _; omega))
  | ⟨1, _⟩ => exact Fin.ext ((win0_2.rect_emb_val t (ix3 0 0 d) 1).trans (by
      show cc0_transform_2 (grid0.coords t) 1 * 1 + 0 = 0
      rw [map_gate]; rfl))
  | ⟨2, _⟩ => exact Fin.ext ((win0_2.rect_emb_val t (ix3 0 0 d) 2).trans (by
      show cc0_transform_2 (grid0.coords t) 2 * 1024 + d.val = 1024 * 5 + d.val
      rw [map_gate]; show 5 * 1024 + d.val = _; omega))

/-- A point's rows before the norm, over the arrays. -/
theorem sums_eq (r : Fin 512) (d : Fin 1024) :
    alpha * iblk m c 0 t (ix2 r d) + (one + iblk m c 2 t (ix3 0 0 d)) * iblk m c 1 t (ix2 r d)
      = finished (argX m c) (argY m c) (argM m c) (row (point (grid0.coords t)) r) d := by
  rw [finished, seqOf_row]
  exact congrArg₂ (· + ·) (congrArg (alpha * ·) (row_block m c t r d))
    (congrArg₂ (· * ·) (congrArg (one + ·) (gate_block m c t d)) (experts_block m c t r d))

/-- Where a point's result lies. -/
theorem place (r : Fin 512) (d : Fin 1024) :
    ((cfg0.win 5).blk t).view.emb (ix2 r d : S512x1024.Idx) = (ix2 (row (point (grid0.coords t)) r) d : S16384x1024.Idx) := by
  funext a
  match a with
  | ⟨0, _⟩ => exact Fin.ext ((win0_5.rect_emb_val t (ix2 r d) 0).trans (by
      show cc0_transform_0 (grid0.coords t) 0 * 512 + r.val = 512 * (point (grid0.coords t)).val + r.val
      rw [map_rows]; show (point (grid0.coords t)).val * 512 + r.val = _; omega))
  | ⟨1, _⟩ => exact Fin.ext ((win0_5.rect_emb_val t (ix2 r d) 1).trans (by
      show cc0_transform_0 (grid0.coords t) 1 * 1024 + d.val = d.val
      rw [map_rows]; show 0 * 1024 + d.val = _; omega))

/-- Every row is a point's. -/
theorem exists_point (R : Fin 16384) : ∃ (t : Fin cfg0.N) (r : Fin 512), row (point (grid0.coords t)) r = R := by
  obtain ⟨n, r, h⟩ := exists_row R
  obtain ⟨t, ht⟩ := grid0.coords_surjective (fun a => match a with
    | ⟨0, _⟩ => n)
  exact ⟨t, r, by rw [show point (grid0.coords t) = n by rw [ht]; rfl, h]⟩

/-- The result. -/
theorem result (R : Fin 16384) (C : Fin 1024) :
    (dats m 0 c).arrAt 5 cfg0.N (ix2 R C : S16384x1024.Idx)
      = normed (finished (argX m c) (argY m c) (argM m c) R) (argG m c) (argB m c) C := by
  obtain ⟨t, r, rfl⟩ := exists_point R
  rw [← place t r C]
  refine ((dats m 0 c).arrAt_emb_eq_flushed 5 disjoint5 t (flush0_5 t) (ix2 r C : S512x1024.Idx)).trans ?_
  rw [_root_.cast_eq, flushed5]
  refine (out_apply (iblk m c 0 t) (iblk m c 1 t) (iblk m c 2 t) (iblk m c 3 t) (iblk m c 4 t) r C).trans ?_
  rw [gain_block, bias_block]
  exact congrArg (normed · (argG m c) (argB m c) C) (funext fun d => sums_eq m c t r d)

end Cert.FinalLn.Value

end
-- ==== Proof.FinalLnRef.lean ====
/- The reference of the call behind the experts, read at an entry. -/
module

public import proofs.«01_k».proof.Proof.OddOutRef
public import proofs.«01_k».proof.Proof.FinalLnValue
public import proofs.«01_k».proof.Proof.Gen.FinalLnRefIdeal.Read

@[expose] public section

noncomputable section

namespace Cert.FinalLn.Ref

open Idealize.ShloMosaic Idealize.ShloMosaic.ValueIdx Cert.FinalLnRefIdeal Cert.FinalLnRefIdeal.Read Cert.Diff Cert.Proj Cert.Out
open Cert.OddIn.Ref (token_eq)
open Cert.FinalLn.Value (finished)
open scoped BigOperators

/-- The host's root of the root of 8 is the fourth root. -/
theorem alpha_eq (i : S_.Idx) : val_main_v8 (F := Ideal) i = alpha := Cert.OddOut.Ref.alpha_eq i

variable (x y : Tokens.Idx → EReal) (mod : Chunks.Idx → EReal) (g b : One.Idx → EReal)

/-- Where a token's row lies. -/
theorem place6 (n : Fin 2) (s : Fin 8192) (d : Fin 1024) : idx_main_v6 (ix3 n s d) = ix2 (token n s) d := by
  funext a
  match a with
  | ⟨0, _⟩ => exact Fin.ext (by show ((n.val * 8192 + s.val) * 1024 + d.val) / 1024 = 8192 * n.val + s.val; omega)
  | ⟨1, _⟩ => exact Fin.ext (by show ((n.val * 8192 + s.val) * 1024 + d.val) % 1024 = d.val; omega)

/-- A row before the norm. -/
theorem stream_eq (n : Fin 2) (s : Fin 8192) (d : Fin 1024) :
    val_main_v16 (F := Ideal) x y mod (ix3 n s d) = finished x y mod (token n s) d := by
  rw [val_main_v16_apply, val_main_v11_apply, val_main_v10_apply, alpha_eq, val_main_v9_apply, val_main_v15_apply,
    val_main_v14_apply, val_main_v13_apply, val_main_v12_apply, val_main_v5_apply, val_main_v6_apply, place6,
    show idx_main_v9 (ix3 n s d) = ix2 (token n s) d from place6 n s d, finished, seqOf_token]
  have h2 : idx_main_v5 (idx_main_v14 (ix3 n s d)) = ix3 n 0 (chunk 5 d) := by
    funext a
    match a with
    | ⟨0, _⟩ => exact Fin.ext rfl
    | ⟨1, _⟩ => exact Fin.ext rfl
    | ⟨2, _⟩ => exact Fin.ext rfl
  rw [h2]
  rfl

/-- The token's row. -/
abbrev line (n : Fin 2) (s : Fin 8192) : Fin 1024 → EReal := fun d => finished x y mod (token n s) d

theorem mean_eq (n : Fin 2) (s : Fin 8192) :
    val_main_v20 (F := Ideal) x y mod (ix3 n s 0) = mean (line x y mod n s) := by
  rw [val_main_v20_apply, val_main_v18_apply, val_main_v17_apply]
  refine congrArg (Ideal.div · width) ?_
  refine (congrArg (· + _) Ideal.ofBits_zero_f32).trans ((zero_add _).trans (Finset.sum_congr rfl fun d _ => ?_))
  refine (congrArg (val_main_v16 (F := Ideal) x y mod) ?_).trans (stream_eq x y mod n s d)
  funext a
  match a with
  | ⟨0, _⟩ => rfl
  | ⟨1, _⟩ => rfl
  | ⟨2, _⟩ => rfl

theorem spread_col (n : Fin 2) (s : Fin 8192) (d : Fin 1024) : idx_main_v21 (ix3 n s d) = ix3 n s 0 := by
  funext a
  match a with
  | ⟨0, _⟩ => rfl
  | ⟨1, _⟩ => rfl
  | ⟨2, _⟩ => rfl

theorem centred_eq (n : Fin 2) (s : Fin 8192) (d : Fin 1024) :
    val_main_v22 (F := Ideal) x y mod (ix3 n s d) = line x y mod n s d - mean (line x y mod n s) := by
  rw [val_main_v22_apply, val_main_v21_apply, stream_eq, spread_col, mean_eq]
  rfl

theorem variance_eq (n : Fin 2) (s : Fin 8192) :
    val_main_v27 (F := Ideal) x y mod (ix3 n s 0) = variance (line x y mod n s) := by
  rw [val_main_v27_apply, val_main_v25_apply, val_main_v24_apply]
  refine congrArg (Ideal.div · width) ?_
  refine (congrArg (· + _) Ideal.ofBits_zero_f32).trans ((zero_add _).trans (Finset.sum_congr rfl fun d _ => ?_))
  refine (congrArg (val_main_v23 (F := Ideal) x y mod) (?_ : _ = ix3 n s d)).trans ?_
  · funext a
    match a with
    | ⟨0, _⟩ => rfl
    | ⟨1, _⟩ => rfl
    | ⟨2, _⟩ => rfl
  · rw [val_main_v23_apply, centred_eq]
    rfl

theorem normed_eq (n : Fin 2) (s : Fin 8192) (d : Fin 1024) :
    val_main_v42 (F := Ideal) x y mod g b (ix3 n s d) = normed (line x y mod n s) g b d := by
  have hg : idx_main_v35 (idx_main_v36 (idx_main_v37 (ix3 n s d))) = ix2 0 d := by
    funext a
    match a with
    | ⟨0, _⟩ => exact Subsingleton.elim (α := Fin 1) _ _
    | ⟨1, _⟩ => exact Fin.ext (by show d.val % 1024 = d.val; omega)
  have hb : idx_main_v39 (idx_main_v40 (idx_main_v41 (ix3 n s d))) = ix2 0 d := hg
  rw [val_main_v42_apply, val_main_v38_apply, val_main_v34_apply, val_main_v33_apply, val_main_v32_apply, val_main_v31_apply,
    val_main_v41_apply, val_main_v40_apply, val_main_v39_apply, hb, val_main_v37_apply, val_main_v36_apply, val_main_v35_apply, hg,
    show idx_main_v33 (ix3 n s d) = ix3 n s 0 from spread_col n s d, variance_eq,
    show val_main_v29 (F := Ideal) x y mod (ix3 n s d) = _ from centred_eq x y mod n s d]
  rfl

theorem place43 (R : Fin 16384) (C : Fin 1024) : idx_main_v43 (ix2 R C) = ix3 (seqOf R) (posOf R) C := by
  funext a
  match a with
  | ⟨0, _⟩ => exact Fin.ext (by show (R.val * 1024 + C.val) / 8388608 = R.val / 8192; omega)
  | ⟨1, _⟩ => exact Fin.ext (by show (R.val * 1024 + C.val) / 1024 % 8192 = R.val % 8192; omega)
  | ⟨2, _⟩ => exact Fin.ext (by show (R.val * 1024 + C.val) % 1024 = C.val; omega)

/-- The result. -/
theorem result_eq (R : Fin 16384) (C : Fin 1024) :
    val_main_v43 (F := Ideal) x y mod g b (ix2 R C) = normed (finished x y mod R) g b C := by
  rw [val_main_v43_apply, place43, normed_eq]
  refine congrArg (normed · g b C) (funext fun d => ?_)
  show finished x y mod (token (seqOf R) (posOf R)) d = _
  rw [token_eq]

end Cert.FinalLn.Ref

end
-- ==== Proof.FinalLnClaim.lean ====
/- The claims about the call behind the experts: the three programs leave their arguments and their counters as they were, and over the
   extended reals the kernel's result is the reference's. -/
module

public import proofs.«01_k».proof.Defs
public import proofs.«01_k».proof.Proof.FinalLnValue
public import proofs.«01_k».proof.Proof.FinalLnRef
public import proofs.«01_k».proof.Proof.Gen.FinalLn.Frame
public import proofs.«01_k».proof.Proof.Gen.FinalLnRefIdeal.Run

@[expose] public section

noncomputable section

namespace Cert.FinalLn.Claims

open Idealize.ShloMosaic Idealize.ShloMosaic.ValueIdx Idealize.ShloMosaic.TcCoe Idealize.SL.Sem

theorem frame_kernel : Cert.quiescent_FinalLn := fun m ρ _ => Cert.FinalLn.Gen.frame m ρ

theorem frame_ideal : Cert.quiescent_FinalLnIdeal := fun m ρ _ => Cert.FinalLnIdeal.Gen.frame m ρ

theorem frame_reference : Cert.quiescent_FinalLnRefIdeal := fun m ρ _ =>
  (θ_run Cert.FinalLnRefIdeal.defs _ _).mono (fun r h => ⟨fun c => (h c).2, sem_eq_zero_of_no_sems (by decide) r.2⟩)
    (Cert.FinalLnRefIdeal.Value.run (F := Ideal) m ρ)

theorem preserves : Cert.preserves_FinalLn_FinalLnIdeal :=
  IdealRules.named_const.statement Cert.FinalLnIdeal.κ "alpha" .f32 0x3FD744FD#32 Cert.Out.alpha rfl

theorem algebraic : Cert.algebraic_FinalLnIdeal_FinalLnRefIdeal := by
  intro m ρ m' ρ' _ hagree
  refine ⟨_, Cert.FinalLnIdeal.Value.run_blocks m ρ, ?_⟩
  refine (θ_run Cert.FinalLnRefIdeal.defs _ _).mono (fun _ h c => ?_) (Cert.FinalLnRefIdeal.Value.run (F := Ideal) m' ρ')
  obtain ⟨g0, g⟩ := h c
  obtain ⟨h0, h1, h2, h3, h4⟩ := hagree c
  refine ⟨g0.trans ?_, g⟩
  rw [Cert.FinalLnRefIdeal.Read.val_main_v43_eq, h0, h1, h2, h3, h4]
  funext j
  rw [eq_ix2 j]
  exact (Ref.result_eq _ _ _ _ _ _ _).trans (Value.result m c _ _).symm

end Cert.FinalLn.Claims

end
-- ==== Proof.AdalnValue.lean ====
/- The call that computes all layers' modulations, over whole arrays: a row through `x * logistic x`, against a layer's
   matrix of weights, plus the layer's bias. -/
module

public import proofs.«01_k».proof.Proof.Proj
public import proofs.«01_k».proof.Proof.Gen.AdalnIdeal.Value
public import Idealize.ShloMosaic.Lib.Pipeline.Covers

@[expose] public section

noncomputable section

namespace Cert.Adaln.Value

open Idealize.ShloMosaic Idealize.ShloMosaic.Ideal Idealize.ShloMosaic.ValueIdx Idealize.ShloMosaic.TcCoe
open Idealize.SL.Sem
open Cert.AdalnIdeal Cert.AdalnIdeal.Gen Cert.AdalnIdeal.Value Cert.Proj
open scoped BigOperators

/-- Number `C` of row `r`'s modulation in layer `l`. -/
def modulation (c : S136x1024.Idx → EReal) (w : S4x1024x6144.Idx → EReal) (b : S4x6144.Idx → EReal) (l : Fin 4) (r : Fin 136)
    (C : Fin 6144) : EReal :=
  (∑ k : Fin 1024, c (ix2 r k) * Ideal.logistic (c (ix2 r k)) * w (ix3 l k C)) + b (ix2 l C)

/-! ## A block -/

/-- What a point writes. -/
theorem out_apply (c : Vec Ideal S136x1024 .f32) (w : Vec Ideal S1x1024x1536 .f32) (b : Vec Ideal S1x1x1536 .f32)
    (r : Fin 136) (d : Fin 1536) :
    out0_3 c w b (ix3 0 r d)
      = (∑ k : Fin 1024, c (ix2 r k) * Ideal.logistic (c (ix2 r k)) * w (ix3 0 k d)) + b (ix3 0 0 d) := by
  unfold out0_3
  rw [View.canon_unit_zero (by decide), show View.ld c r0_0 = c from View.ld_unit_zero (by decide) _ c,
    show View.ld w r0_1 = w from View.ld_unit_zero (by decide) _ w,
    show View.ld b r0_2 = b from View.ld_unit_zero (by decide) _ b]
  unfold k0_pay1
  refine (shapeCast_apply _ shapeCasts_S136x1536_S1x136x1536 (ix3 0 r d) (ix2 r d) (by
    rw [Shape.rowMajor_val_three, Shape.rowMajor_val_two]
    show r.val * 1536 + d.val = (0 * 136 + r.val) * 1536 + d.val
    omega)).trans ?_
  refine congrArg₂ (· + ·) ((product_apply none _ _ r d).trans (Finset.sum_congr rfl fun k _ => ?_)) ?_
  · refine congrArg (c (ix2 r k) * Ideal.logistic (c (ix2 r k)) * ·) ?_
    exact shapeCast_apply w shapeCasts_S1x1024x1536_S1024x1536 (ix2 k d) (ix3 0 k d) (by
      rw [Shape.rowMajor_val_three, Shape.rowMajor_val_two]
      show (0 * 1024 + k.val) * 1536 + d.val = k.val * 1536 + d.val
      omega)
  · refine (broadcastTo_apply _ broadcasts_S1x1536_S136x1536 (ix2 r d) (ix2 0 d) (fun a => match a with
      | ⟨0, _⟩ => rfl
      | ⟨1, _⟩ => rfl)).trans ?_
    exact shapeCast_apply b shapeCasts_S1x1x1536_S1x1536 (ix2 0 d) (ix3 0 0 d) (by
      rw [Shape.rowMajor_val_three, Shape.rowMajor_val_two]; rfl)

/-! ## Which block a grid point has -/

/-- The point's layer and its quarter of the columns. -/
def layer (i : grid0.Coords) : Fin 4 := i 0
def quarter (i : grid0.Coords) : Fin 4 := i 1

/-- Column `d` of quarter `q`. -/
def column (q : Fin 4) (d : Fin 1536) : Fin 6144 := ⟨1536 * q.val + d.val, by omega⟩

/-- The point of a layer and a quarter. -/
def coords (l q : Fin 4) : grid0.Coords := fun a => match a with
  | ⟨0, _⟩ => l
  | ⟨1, _⟩ => q

theorem coords_eq (i : grid0.Coords) : coords (layer i) (quarter i) = i := by
  funext a
  match a with
  | ⟨0, _⟩ => rfl
  | ⟨1, _⟩ => rfl

theorem map_point (i : grid0.Coords) : cc0_transform_1 i = ![(layer i).val, 0, (quarter i).val] := by
  have h : ∀ l q : Fin 4, cc0_transform_1 (coords l q) = ![l.val, 0, q.val] := by decide +kernel
  exact (congrArg cc0_transform_1 (coords_eq i).symm).trans (h _ _)

variable (m : (ℓ : Loc nD τ sig) → Buf (Elt Ideal) ℓ) (c : Dev nD) (t : Fin cfg0.N)

/-- The call's arguments. -/
abbrev argC : S136x1024.Idx → EReal := m ((c : Thread nD τ).loc main_arg0)
abbrev argW : S4x1024x6144.Idx → EReal := m ((c : Thread nD τ).loc main_arg1)
abbrev argB : S4x6144.Idx → EReal := m ((c : Thread nD τ).loc main_arg2)

theorem rows_block : iblk m c 0 t = argC m c := by
  show _ = m ((c : Thread nD τ).loc main_arg0)
  rw [← V_main_arg0 m c]
  funext j
  show V m c main_arg0 _ = V m c main_arg0 _
  congr 1
  funext a
  exact Fin.ext ((win0_0.rect_emb_val t j a).trans (by
    match a with
    | ⟨0, _⟩ => show 0 * 136 + (j 0).val = (j 0).val; omega
    | ⟨1, _⟩ => show 0 * 1024 + (j 1).val = (j 1).val; omega))

theorem weight_block (k : Fin 1024) (d : Fin 1536) :
    iblk m c 1 t (ix3 0 k d) = argW m c (ix3 (layer (grid0.coords t)) k (column (quarter (grid0.coords t)) d)) := by
  show _ = m ((c : Thread nD τ).loc main_arg1) _
  rw [← V_main_arg1 m c]
  show V m c main_arg1 _ = V m c main_arg1 _
  congr 1
  funext a
  match a with
  | ⟨0, _⟩ => exact Fin.ext ((win0_1.rect_emb_val t (ix3 0 k d) 0).trans (by
      show cc0_transform_1 (grid0.coords t) 0 * 1 + 0 = (layer (grid0.coords t)).val
      rw [map_point]; show (layer (grid0.coords t)).val * 1 + 0 = _; omega))
  | ⟨1, _⟩ => exact Fin.ext ((win0_1.rect_emb_val t (ix3 0 k d) 1).trans (by
      show cc0_transform_1 (grid0.coords t) 1 * 1024 + k.val = k.val
      rw [map_point]; show 0 * 1024 + k.val = _; omega))
  | ⟨2, _⟩ => exact Fin.ext ((win0_1.rect_emb_val t (ix3 0 k d) 2).trans (by
      show cc0_transform_1 (grid0.coords t) 2 * 1536 + d.val = 1536 * (quarter (grid0.coords t)).val + d.val
      rw [map_point]; show (quarter (grid0.coords t)).val * 1536 + d.val = _; omega))

/-- The bias has one row for each layer. -/
theorem spaced : V m c main_v0 = shapeCast S4x1x6144 (argB m c) shapeCasts_S4x6144_S4x1x6144 := by
  simp only [V, hostOps0]
  after_results_simp <;> rfl

theorem bias_block (d : Fin 1536) :
    iblk m c 2 t (ix3 0 0 d) = argB m c (ix2 (layer (grid0.coords t)) (column (quarter (grid0.coords t)) d)) := by
  have h : iblk m c 2 t (ix3 0 0 d)
      = V m c main_v0 (ix3 (layer (grid0.coords t)) 0 (column (quarter (grid0.coords t)) d) : S4x1x6144.Idx) := by
    show V m c main_v0 _ = V m c main_v0 _
    congr 1
    funext a
    match a with
    | ⟨0, _⟩ => exact Fin.ext ((win0_2.rect_emb_val t (ix3 0 0 d) 0).trans (by
        show cc0_transform_1 (grid0.coords t) 0 * 1 + 0 = (layer (grid0.coords t)).val
        rw [map_point]; show (layer (grid0.coords t)).val * 1 + 0 = _; omega))
    | ⟨1, _⟩ => exact Fin.ext ((win0_2.rect_emb_val t (ix3 0 0 d) 1).trans (by
        show cc0_transform_1 (grid0.coords t) 1 * 1 + 0 = 0
        rw [map_point]; rfl))
    | ⟨2, _⟩ => exact Fin.ext ((win0_2.rect_emb_val t (ix3 0 0 d) 2).trans (by
        show cc0_transform_1 (grid0.coords t) 2 * 1536 + d.val = 1536 * (quarter (grid0.coords t)).val + d.val
        rw [map_point]; show (quarter (grid0.coords t)).val * 1536 + d.val = _; omega))
  rw [h, spaced]
  refine shapeCast_apply _ _ _ _ ?_
  rw [Shape.rowMajor_val_three, Shape.rowMajor_val_two]
  show (layer (grid0.coords t)).val * 6144 + (column (quarter (grid0.coords t)) d).val
    = ((layer (grid0.coords t)).val * 1 + 0) * 6144 + (column (quarter (grid0.coords t)) d).val
  omega

/-- Where a point's result lies. -/
theorem place (r : Fin 136) (d : Fin 1536) :
    ((cfg0.win 3).blk t).view.emb (ix3 0 r d : S1x136x1536.Idx)
      = (ix3 (layer (grid0.coords t)) r (column (quarter (grid0.coords t)) d) : S4x136x6144.Idx) := by
  funext a
  match a with
  | ⟨0, _⟩ => exact Fin.ext ((win0_3.rect_emb_val t (ix3 0 r d) 0).trans (by
      show cc0_transform_1 (grid0.coords t) 0 * 1 + 0 = (layer (grid0.coords t)).val
      rw [map_point]; show (layer (grid0.coords t)).val * 1 + 0 = _; omega))
  | ⟨1, _⟩ => exact Fin.ext ((win0_3.rect_emb_val t (ix3 0 r d) 1).trans (by
      show cc0_transform_1 (grid0.coords t) 1 * 136 + r.val = r.val
      rw [map_point]; show 0 * 136 + r.val = _; omega))
  | ⟨2, _⟩ => exact Fin.ext ((win0_3.rect_emb_val t (ix3 0 r d) 2).trans (by
      show cc0_transform_1 (grid0.coords t) 2 * 1536 + d.val = 1536 * (quarter (grid0.coords t)).val + d.val
      rw [map_point]; show (quarter (grid0.coords t)).val * 1536 + d.val = _; omega))

/-- Every column of every layer is a point's. -/
theorem exists_point (l : Fin 4) (C : Fin 6144) : ∃ (t : Fin cfg0.N) (d : Fin 1536),
    layer (grid0.coords t) = l ∧ column (quarter (grid0.coords t)) d = C := by
  obtain ⟨t, ht⟩ := grid0.coords_surjective (coords l ⟨C.val / 1536, by omega⟩)
  refine ⟨t, ⟨C.val % 1536, by omega⟩, by rw [ht]; rfl, ?_⟩
  rw [ht]
  exact Fin.ext (by show 1536 * (C.val / 1536) + C.val % 1536 = C.val; omega)

/-- The result. -/
theorem result (l : Fin 4) (r : Fin 136) (C : Fin 6144) :
    (dats m 0 c).arrAt 3 cfg0.N (ix3 l r C : S4x136x6144.Idx) = modulation (argC m c) (argW m c) (argB m c) l r C := by
  obtain ⟨t, d, rfl, rfl⟩ := exists_point l C
  rw [← place t r d]
  refine ((dats m 0 c).arrAt_emb_eq_flushed 3 disjoint3 t (flush0_3 t) (ix3 0 r d : S1x136x1536.Idx)).trans ?_
  rw [_root_.cast_eq, flushed3]
  refine (out_apply (iblk m c 0 t) (iblk m c 1 t) (iblk m c 2 t) r d).trans ?_
  rw [rows_block, modulation]
  exact congrArg₂ (· + ·) (Finset.sum_congr rfl fun k _ => congrArg (_ * ·) (weight_block m c t k d)) (bias_block m c t d)

end Cert.Adaln.Value

end
-- ==== Proof.AdalnRef.lean ====
/- The modulations' reference, read at an entry. -/
module

public import proofs.«01_k».proof.Proof.AdalnValue
public import proofs.«01_k».proof.Proof.Gen.AdalnRefIdeal.Read

@[expose] public section

noncomputable section

namespace Cert.Adaln.Ref

open Idealize.ShloMosaic Idealize.ShloMosaic.ValueIdx Cert.AdalnRefIdeal Cert.AdalnRefIdeal.Read
open Cert.Adaln.Value (modulation)
open scoped BigOperators

variable (c : S136x1024.Idx → EReal) (w : S4x1024x6144.Idx → EReal) (b : S4x6144.Idx → EReal)

/-- The host's `silu`. -/
theorem silu_eq (i : S136x1024.Idx) : val_main_v0 (F := Ideal) c i = c i * Ideal.logistic (c i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply,
    show (FloatOps.ofBits .f32 0x3F800000#32 : Ideal .f32) = (1 : EReal) from IdealRules.sign_bit.ideal_onePat .f32]
  rfl

/-- The result. -/
theorem result_eq (l : Fin 4) (r : Fin 136) (C : Fin 6144) :
    val_main_v5 (F := Ideal) c w b (ix3 l r C) = modulation c w b l r C := by
  rw [val_main_v5_apply, val_main_v2_apply, val_main_v1_apply, val_main_v4_apply, val_main_v3_apply]
  refine congrArg₂ (· + ·) (Finset.sum_congr rfl fun k _ => ?_) (congrArg b (funext fun a => ?_))
  · refine (mul_comm _ _).trans (congrArg₂ (· * ·) ((silu_eq c _).trans ?_) (congrArg w (funext fun a => ?_)))
    · refine congrArg (fun i => c i * Ideal.logistic (c i)) (funext fun a => ?_)
      match a with
      | ⟨0, _⟩ => rfl
      | ⟨1, _⟩ => rfl
    · match a with
      | ⟨0, _⟩ => rfl
      | ⟨1, _⟩ => rfl
      | ⟨2, _⟩ => rfl
  · match a with
    | ⟨0, _⟩ => rfl
    | ⟨1, _⟩ => rfl

end Cert.Adaln.Ref

end
-- ==== Proof.AdalnClaim.lean ====
/- The claims about the call that computes the modulations: the three programs leave their arguments and their counters as
   they were, and over the extended reals the kernel's result is the reference's. -/
module

public import proofs.«01_k».proof.Defs
public import proofs.«01_k».proof.Proof.AdalnRef
public import proofs.«01_k».proof.Proof.Gen.Adaln.Frame
public import proofs.«01_k».proof.Proof.Gen.AdalnRefIdeal.Run

@[expose] public section

noncomputable section

namespace Cert.Adaln.Claims

open Idealize.ShloMosaic Idealize.ShloMosaic.ValueIdx Idealize.ShloMosaic.TcCoe Idealize.SL.Sem

theorem frame_kernel : Cert.quiescent_Adaln := fun m ρ _ => Cert.Adaln.Gen.frame m ρ

theorem frame_ideal : Cert.quiescent_AdalnIdeal := fun m ρ _ => Cert.AdalnIdeal.Gen.frame m ρ

theorem frame_reference : Cert.quiescent_AdalnRefIdeal := fun m ρ _ =>
  (θ_run Cert.AdalnRefIdeal.defs _ _).mono (fun r h => ⟨fun c => (h c).2, sem_eq_zero_of_no_sems (by decide) r.2⟩)
    (Cert.AdalnRefIdeal.Value.run (F := Ideal) m ρ)

theorem preserves : Cert.preserves_Adaln_AdalnIdeal := trivial

theorem algebraic : Cert.algebraic_AdalnIdeal_AdalnRefIdeal := by
  intro m ρ m' ρ' _ hagree
  refine ⟨_, Cert.AdalnIdeal.Value.run_blocks m ρ, ?_⟩
  refine (θ_run Cert.AdalnRefIdeal.defs _ _).mono (fun _ h c => ?_) (Cert.AdalnRefIdeal.Value.run (F := Ideal) m' ρ')
  obtain ⟨g0, g⟩ := h c
  obtain ⟨h0, h1, h2⟩ := hagree c
  refine ⟨g0.trans ?_, g⟩
  rw [Cert.AdalnRefIdeal.Read.val_main_v5_eq, h0, h1, h2]
  funext j
  rw [eq_ix3 j]
  exact (Ref.result_eq _ _ _ _ _ _).trans (Value.result m c _ _ _).symm

end Cert.Adaln.Claims

end
-- ==== Proof.ConvValue.lean ====
/- The short convolution over whole arrays. A block needs the two rows before it: a sequence's first block takes them from
   the buffer that came with the sequence, a later one from the scratch, where the block before left its last two rows. -/
module

public import proofs.«01_k».proof.Proof.Blocks
public import proofs.«01_k».proof.Proof.Proj
public import proofs.«01_k».proof.Proof.Gen.ConvIdeal.Value
public import Idealize.ShloMosaic.Lib.Pipeline.Covers
public import Idealize.ShloMosaic.Lib.KernelVsHost
public import Idealize.ShloMosaic.Lib.VecWindow

@[expose] public section

noncomputable section

namespace Cert.Conv.Value

open Idealize.ShloMosaic Idealize.ShloMosaic.Ideal Idealize.ShloMosaic.ValueIdx Idealize.ShloMosaic.TcCoe
open Idealize.SL.Sem
open Cert.ConvIdeal Cert.ConvIdeal.Gen Cert.ConvIdeal.Value
open Cert.Blocks (load_apply load_whole)

/-- A sequence's column `d`, its buffer's two rows first. -/
def padded (x : S2x8192x512.Idx → EReal) (buf : S2x2x512.Idx → EReal) (b : Fin 2) (d : Fin 512) (n : ℕ) : EReal :=
  if h : n < 2 then buf (ix3 b ⟨n, h⟩ d) else if h' : n - 2 < 8192 then x (ix3 b ⟨n - 2, h'⟩ d) else 0

theorem padded_buf (x : S2x8192x512.Idx → EReal) (buf : S2x2x512.Idx → EReal) (b : Fin 2) (d : Fin 512) (k : Fin 2) :
    padded x buf b d k.val = buf (ix3 b k d) := dif_pos k.isLt

theorem padded_row (x : S2x8192x512.Idx → EReal) (buf : S2x2x512.Idx → EReal) (b : Fin 2) (d : Fin 512) (R : Fin 8192)
    (n : ℕ) (hn : n = R.val + 2) : padded x buf b d n = x (ix3 b R d) := by
  have hR := R.isLt
  rw [padded, dif_neg (by omega), dif_pos (by omega)]
  exact congrArg (fun R => x (ix3 b R d)) (Fin.ext (by show n - 2 = R.val; omega))

/-- Three neighbours of a column, weighed. -/
def weighed (w : S3x512.Idx → EReal) (P : ℕ → EReal) (d : Fin 512) (n : ℕ) : EReal :=
  w (ix2 0 d) * P n + w (ix2 1 d) * P (n + 1) + w (ix2 2 d) * P (n + 2)

/-- The gated convolution of row `R`. -/
def gated (x g : S2x8192x512.Idx → EReal) (buf : S2x2x512.Idx → EReal) (w : S3x512.Idx → EReal) (b : Fin 2) (R : Fin 8192)
    (d : Fin 512) : EReal :=
  g (ix3 b R d) * weighed w (padded x buf b d) d R.val

/-! ## A block -/

/-- The bits of the masks. -/
theorem bit0 (r : Fin 512) : IntOp.cmpi .eq (BitVec.ofNat 32 (0 * 512 + r.val)) 0#32 = if r.val = 0 then 1#1 else 0#1 :=
  (by decide +kernel : ∀ r : Fin 512,
    IntOp.cmpi .eq (BitVec.ofNat 32 (0 * 512 + r.val)) 0#32 = if r.val = 0 then 1#1 else 0#1) r
theorem bit1 (r : Fin 512) : IntOp.cmpi .eq (BitVec.ofNat 32 (0 * 512 + r.val)) 1#32 = if r.val = 1 then 1#1 else 0#1 :=
  (by decide +kernel : ∀ r : Fin 512,
    IntOp.cmpi .eq (BitVec.ofNat 32 (0 * 512 + r.val)) 1#32 = if r.val = 1 then 1#1 else 0#1) r

theorem select_bit {p : Prop} [Decidable p] (a b : Ideal .f32) :
    Scalar.select (if p then 1#1 else 0#1) a b = if p then a else b := by
  split <;> rfl

/-- A row of weights at every row of a block. -/
theorem spread_apply (w : FVec Ideal S1x1x512 .f32) (r d : Fin 512) :
    broadcastTo S1x512x512 w broadcasts_S1x1x512_S1x512x512 (ix3 0 r d) = w (ix3 0 0 d) :=
  broadcastTo_apply w broadcasts_S1x1x512_S1x512x512 (ix3 0 r d) (ix3 0 0 d) (fun a => match a with
    | ⟨0, _⟩ => rfl
    | ⟨1, _⟩ => rfl
    | ⟨2, _⟩ => rfl)

theorem lifted_apply (w : FVec Ideal S1x512 .f32) (d : Fin 512) :
    shapeCast S1x1x512 w shapeCasts_S1x512_S1x1x512 (ix3 0 0 d) = w (ix2 0 d) :=
  shapeCast_apply w shapeCasts_S1x512_S1x1x512 (ix3 0 0 d) (ix2 0 d) (by
    rw [Shape.rowMajor_val_three, Shape.rowMajor_val_two]; rfl)

/-- A block turned by one or two rows. -/
theorem turned_apply (s : BitVec 32) (x : FVec Ideal S1x512x512 .f32) (r r' d : Fin 512)
    (h : r'.val = (r.val + 512 - s.toNat % 512) % 512) :
    dynamicRotate 1 s none x rotates_S1x512x512_d1 (ix3 0 r d) = x (ix3 0 r' d) :=
  dynamicRotate_apply 1 s x rotates_S1x512x512_d1 (ix3 0 r d) (ix3 0 r' d) (fun a => match a with
    | ⟨0, _⟩ => rfl
    | ⟨1, _⟩ => h
    | ⟨2, _⟩ => rfl)

/-- What the body computes at row `r` of a block whose rows, with the two before them, are `P` at column `d`. -/
theorem body_apply (P : ℕ → EReal) (x g : Vec Ideal S1x512x512 .f32) (p₁ p₀ : Vec Ideal S1x1x512 .f32)
    (w₀ w₁ w₂ : Vec Ideal S1x512 .f32) (d : Fin 512) (h₀ : p₀ (ix3 0 0 d) = P 0) (h₁ : p₁ (ix3 0 0 d) = P 1)
    (hx : ∀ r : Fin 512, x (ix3 0 r d) = P (r.val + 2)) (r : Fin 512) :
    k0_pay1 x (k0_pay5 x p₁ p₀ w₀ w₁) (k0_pay6 w₂) g (ix3 0 r d)
      = g (ix3 0 r d) * (w₀ (ix2 0 d) * P r.val + w₁ (ix2 0 d) * P (r.val + 1) + w₂ (ix2 0 d) * P (r.val + 2)) := by
  have hr := r.isLt
  have back₁ : select (cmpi .eq (iota .tc S1x512x512 32 [1] iota_S1x512x512_d1_w32) (broadcast S1x512x512 0#32))
      (broadcastTo S1x512x512 (shapeCast S1x1x512 p₁ shapeCasts_S1x1x512_S1x1x512) broadcasts_S1x1x512_S1x512x512)
      (dynamicRotate 1 1#32 none x rotates_S1x512x512_d1) (ix3 0 r d) = P (r.val + 1) := by
    refine (congrArg₂ (fun b c => Scalar.select b c _) (bit0 r)
      ((spread_apply _ r d).trans (congrFun (shapeCast_self p₁ _) _))).trans ?_
    refine (select_bit _ _).trans ?_
    by_cases h : r.val = 0
    · rw [if_pos h, h₁, h]
    · rw [if_neg h]
      refine (turned_apply 1#32 x r ⟨r.val - 1, by omega⟩ d (by
        show r.val - 1 = (r.val + 512 - 1) % 512; omega)).trans ((hx _).trans (congrArg P ?_))
      show r.val - 1 + 2 = r.val + 1; omega
  have back₂ : select (cmpi .eq (iota .tc S1x512x512 32 [1] iota_S1x512x512_d1_w32) (broadcast S1x512x512 0#32))
      (broadcastTo S1x512x512 (shapeCast S1x1x512 p₀ shapeCasts_S1x1x512_S1x1x512) broadcasts_S1x1x512_S1x512x512)
      (select (cmpi .eq (iota .tc S1x512x512 32 [1] iota_S1x512x512_d1_w32) (broadcast S1x512x512 1#32))
        (broadcastTo S1x512x512 (shapeCast S1x1x512 p₁ shapeCasts_S1x1x512_S1x1x512) broadcasts_S1x1x512_S1x512x512)
        (dynamicRotate 1 2#32 none x rotates_S1x512x512_d1)) (ix3 0 r d) = P r.val := by
    refine (congrArg₂ (fun b c => Scalar.select b c _) (bit0 r)
      ((spread_apply _ r d).trans (congrFun (shapeCast_self p₀ _) _))).trans ?_
    refine (select_bit _ _).trans ?_
    by_cases h : r.val = 0
    · rw [if_pos h, h₀, h]
    rw [if_neg h]
    refine (congrArg₂ (fun b c => Scalar.select b c _) (bit1 r)
      ((spread_apply _ r d).trans (congrFun (shapeCast_self p₁ _) _))).trans ?_
    refine (select_bit _ _).trans ?_
    by_cases h' : r.val = 1
    · rw [if_pos h', h₁, h']
    · rw [if_neg h']
      refine (turned_apply 2#32 x r ⟨r.val - 2, by omega⟩ d (by
        show r.val - 2 = (r.val + 512 - 2) % 512; omega)).trans ((hx _).trans (congrArg P ?_))
      show r.val - 2 + 2 = r.val; omega
  unfold k0_pay1 k0_pay5 k0_pay6
  exact congrArg (g (ix3 0 r d) * ·) (congrArg₂ (· + ·)
    (congrArg₂ (· + ·) (congrArg₂ (· * ·) ((spread_apply _ r d).trans (lifted_apply w₀ d)) back₂)
      (congrArg₂ (· * ·) ((spread_apply _ r d).trans (lifted_apply w₁ d)) back₁))
    (congrArg₂ (· * ·) ((spread_apply _ r d).trans (lifted_apply w₂ d)) (hx r)))

/-- The rows a block leaves for the next. -/
theorem last_apply (x : Vec Ideal S1x512x512 .f32) (k : Fin 2) (d : Fin 512) :
    k0_pay2 x (ix3 0 k d) = x (ix3 0 ⟨510 + k.val, by omega⟩ d) :=
  extractStridedSlice_apply ![0, 510, 0] x slices_S1x512x512_o0_510_0_S1x2x512 (ix3 0 k d) (ix3 0 ⟨510 + k.val, by omega⟩ d)
    (fun a => match a with
      | ⟨0, _⟩ => rfl
      | ⟨1, _⟩ => rfl
      | ⟨2, _⟩ => (Nat.zero_add _).symm)

theorem load_weight (M : Memref sig .tc .vmem S3x512 .f32) (h : M.IsWhole) (w : Vec Ideal S3x512 .f32) (k : Fin 3)
    (inb : ∀ a, (![k.val, 0] : Fin 2 → ℕ) a + S1x512.size a ≤ S3x512.size a) (d : Fin 512) :
    M.view.readAt (Elt Ideal) (Rect.unit (s := S3x512) ![k.val, 0] S1x512.size inb).toLoadRect (h.unread w) (ix2 0 d)
      = w (ix2 k d) :=
  load_apply M h w inb _ _ fun a => match a with
    | ⟨0, _⟩ => rfl
    | ⟨1, _⟩ => (Nat.zero_add _).symm

section Cases

variable (c : Dev nD) (i : grid0.Coords) (a2 : Memref sig .tc .vmem S1x512x512 .f32) (h2 : a2.IsWhole)
  (a3 : Memref sig .tc .vmem S1x512x512 .f32) (h3 : a3.IsWhole) (a4 : Memref sig .tc .vmem S1x2x512 .f32) (h4 : a4.IsWhole)
  (a5 : Memref sig .tc .vmem S3x512 .f32) (h5 : a5.IsWhole) (a6 : Memref sig .tc .vmem S1x512x512 .f32) (h6 : a6.IsWhole)
  (a7 : Memref sig .tc .vmem S1x2x512 .f32) (h7 : a7.IsWhole) (a8 : Memref sig .tc .vmem S1x2x512 .f32) (h8 : a8.IsWhole)
  (x g : Vec Ideal S1x512x512 .f32) (buf : Vec Ideal S1x2x512 .f32) (w : Vec Ideal S3x512 .f32)
  (carried : Vec Ideal S1x2x512 .f32) (P : ℕ → EReal) (d : Fin 512)

/-- A row of the scratch after the buffer was copied into it. -/
theorem copied_apply (k : Fin 2) (inb : ∀ a, (![0, k.val, 0] : Fin 3 → ℕ) a + S1x1x512.size a ≤ S1x2x512.size a) :
    a8.view.readCov (kernelRun0_A.sl.HS0_1 (F := Ideal) c a4 h4 buf)
      (Rect.unit (s := S1x2x512) ![0, k.val, 0] S1x1x512.size inb).toLoadRect (ix3 0 0 d) = buf (ix3 0 k d) := by
  have hz : (![0, 0, 0] : Fin 3 → ℕ) = fun _ => 0 := by decide
  unfold kernelRun0_A.sl.HS0_1 View.readCov
  rw [View.readAt_eq_ld, View.read_writes_full, View.ld_unit]
  unfold k0_pay4
  rw [load_whole a4 h4 buf hz]
  refine (congrFun (shapeCast_self buf _) _).trans (congrArg buf (funext fun a => Fin.ext ?_))
  match a with
  | ⟨0, _⟩ => rfl
  | ⟨1, _⟩ => rfl
  | ⟨2, _⟩ => exact Nat.zero_add _

/-- A sequence's first block takes the rows before it from the buffer. -/
theorem first_apply (hc : cond0_0 i) (hb : ∀ k : Fin 2, buf (ix3 0 k d) = P k.val)
    (hx : ∀ r : Fin 512, x (ix3 0 r d) = P (r.val + 2)) (r : Fin 512) :
    out0_A_4 (F := Ideal) c i a2 h2 a3 h3 a4 h4 a5 h5 a6 h6 a7 h7 a8 h8 hc x g buf w (ix3 0 r d)
      = g (ix3 0 r d) * weighed w P d r.val := by
  have hz : (![0, 0, 0] : Fin 3 → ℕ) = fun _ => 0 := by decide
  unfold out0_A_4 kernelRun0_A
  dsimp only
  rw [View.read_writes_junk_eq_canon, View.canon_unit_zero hz]
  unfold kernelRun0_A.sl.r_1 kernelRun0_A.sl.r_2 kernelRun0_A.sl.r kernelRun0_A.sl.v5 kernelRun0_A.sl.v6
  rw [load_whole a2 h2 x hz]
  refine (body_apply P _ _ _ _ _ _ _ d ((copied_apply c a4 h4 a8 buf d 0 _).trans (hb 0))
    ((copied_apply c a4 h4 a8 buf d 1 _).trans (hb 1)) hx r).trans ?_
  exact congrArg₂ (· * ·) (congrFun (load_whole a3 h3 g hz _) _) (congrArg₂ (· + ·) (congrArg₂ (· + ·)
    (congrArg (· * _) (load_weight a5 h5 w 0 _ d)) (congrArg (· * _) (load_weight a5 h5 w 1 _ d)))
    (congrArg (· * _) (load_weight a5 h5 w 2 _ d)))

/-- A later one takes them from the scratch. -/
theorem later_apply (hc : ¬ cond0_0 i) (hb : ∀ k : Fin 2, carried (ix3 0 k d) = P k.val)
    (hx : ∀ r : Fin 512, x (ix3 0 r d) = P (r.val + 2)) (r : Fin 512) :
    out0_B_4 (F := Ideal) c i a2 h2 a3 h3 a4 h4 a5 h5 a6 h6 a7 h7 a8 h8 hc x g buf w carried (ix3 0 r d)
      = g (ix3 0 r d) * weighed w P d r.val := by
  have hz : (![0, 0, 0] : Fin 3 → ℕ) = fun _ => 0 := by decide
  unfold out0_B_4 kernelRun0_B
  dsimp only
  rw [View.read_writes_junk_eq_canon, View.canon_unit_zero hz]
  unfold kernelRun0_B.sl.r_1 kernelRun0_B.sl.r_2 kernelRun0_B.sl.r
  rw [load_whole a2 h2 x hz]
  refine (body_apply P _ _ _ _ _ _ _ d ((load_apply a8 h8 carried _ _ (ix3 0 0 d) fun a => ?_).trans (hb 0))
    ((load_apply a8 h8 carried _ _ (ix3 0 1 d) fun a => ?_).trans (hb 1)) hx r).trans ?_
  · match a with
    | ⟨0, _⟩ => rfl
    | ⟨1, _⟩ => rfl
    | ⟨2, _⟩ => exact (Nat.zero_add _).symm
  · match a with
    | ⟨0, _⟩ => rfl
    | ⟨1, _⟩ => rfl
    | ⟨2, _⟩ => exact (Nat.zero_add _).symm
  · exact congrArg₂ (· * ·) (congrFun (load_whole a3 h3 g hz _) _) (congrArg₂ (· + ·) (congrArg₂ (· + ·)
      (congrArg (· * _) (load_weight a5 h5 w 0 _ d)) (congrArg (· * _) (load_weight a5 h5 w 1 _ d)))
      (congrArg (· * _) (load_weight a5 h5 w 2 _ d)))

/-- Either leaves its last two rows, in the scratch and as the sequence's new buffer. -/
theorem first_kept (hc : cond0_0 i) :
    out0_A_5 (F := Ideal) c i a2 h2 a3 h3 a4 h4 a5 h5 a6 h6 a7 h7 a8 h8 hc x g buf w = k0_pay2 x := by
  have hz : (![0, 0, 0] : Fin 3 → ℕ) = fun _ => 0 := by decide
  unfold out0_A_5 kernelRun0_A
  dsimp only
  rw [View.read_writes_junk_eq_canon, View.canon_unit_zero hz]
  unfold kernelRun0_A.sl.r
  rw [load_whole a2 h2 x hz]

theorem first_carried (hc : cond0_0 i) :
    sout0_A_0 (F := Ideal) c i a2 h2 a3 h3 a4 h4 a5 h5 a6 h6 a7 h7 a8 h8 hc x g buf w = k0_pay2 x := by
  have hz : (![0, 0, 0] : Fin 3 → ℕ) = fun _ => 0 := by decide
  unfold sout0_A_0 kernelRun0_A
  dsimp only
  rw [View.read_writes_junk_eq_canon, View.canon_cons_unit_zero hz]
  unfold kernelRun0_A.sl.r k0_pay3
  rw [load_whole a2 h2 x hz]
  exact shapeCast_self _ _

theorem later_kept (hc : ¬ cond0_0 i) :
    out0_B_5 (F := Ideal) c i a2 h2 a3 h3 a4 h4 a5 h5 a6 h6 a7 h7 a8 h8 hc x g buf w carried = k0_pay2 x := by
  have hz : (![0, 0, 0] : Fin 3 → ℕ) = fun _ => 0 := by decide
  unfold out0_B_5 kernelRun0_B
  dsimp only
  rw [View.read_writes_junk_eq_canon, View.canon_unit_zero hz]
  unfold kernelRun0_B.sl.r
  rw [load_whole a2 h2 x hz]

theorem later_carried (hc : ¬ cond0_0 i) :
    sout0_B_0 (F := Ideal) c i a2 h2 a3 h3 a4 h4 a5 h5 a6 h6 a7 h7 a8 h8 hc x g buf w carried = k0_pay2 x := by
  have hz : (![0, 0, 0] : Fin 3 → ℕ) = fun _ => 0 := by decide
  unfold sout0_B_0 kernelRun0_B
  dsimp only
  rw [View.read_writes_junk_eq_canon, View.canon_unit_zero hz]
  unfold kernelRun0_B.sl.r k0_pay3
  rw [load_whole a2 h2 x hz]
  exact shapeCast_self _ _

end Cases

/-! ## Which block a grid point has -/

/-- A point's sequence and its block of the sequence. -/
theorem map_rows : ∀ t : Fin cfg0.N, win0_0.index t = ![t.val / 16, t.val % 16, 0] :=
  (by decide +kernel : ∀ t : Fin grid0.N, win0_0.index t = ![t.val / 16, t.val % 16, 0])
theorem map_buffer : ∀ t : Fin cfg0.N, win0_2.index t = ![t.val / 16, 0, 0] :=
  (by decide +kernel : ∀ t : Fin grid0.N, win0_2.index t = ![t.val / 16, 0, 0])

variable (m : (ℓ : Loc nD τ sig) → Buf (Elt Ideal) ℓ) (c : Dev nD) (t : Fin cfg0.N)

/-- The call's arguments. -/
abbrev argX : S2x8192x512.Idx → EReal := m ((c : Thread nD τ).loc main_arg0)
abbrev argG : S2x8192x512.Idx → EReal := m ((c : Thread nD τ).loc main_arg1)
abbrev argBuf : S2x2x512.Idx → EReal := m ((c : Thread nD τ).loc main_arg2)
abbrev argW : S3x512.Idx → EReal := m ((c : Thread nD τ).loc main_arg3)

theorem lt_points : t.val < 32 := lt_of_lt_of_eq t.isLt N_0

/-- The sequence, and row `r` of the point's block in it. -/
def seq : Fin 2 := ⟨t.val / 16, by have := lt_points t; omega⟩
def row (r : Fin 512) : Fin 8192 := ⟨512 * (t.val % 16) + r.val, by omega⟩

/-- Where row `r` of a point's block lies. -/
theorem place (r d : Fin 512) :
    ((cfg0.win 4).blk t).view.emb (ix3 0 r d : S1x512x512.Idx) = (ix3 (seq t) (row t r) d : S2x8192x512.Idx) := by
  funext a
  match a with
  | ⟨0, _⟩ => exact Fin.ext ((win0_4.rect_emb_val t (ix3 0 r d) 0).trans (by
      show win0_0.index t 0 * 1 + 0 = t.val / 16
      rw [map_rows]; show t.val / 16 * 1 + 0 = _; omega))
  | ⟨1, _⟩ => exact Fin.ext ((win0_4.rect_emb_val t (ix3 0 r d) 1).trans (by
      show win0_0.index t 1 * 512 + r.val = 512 * (t.val % 16) + r.val
      rw [map_rows]; show t.val % 16 * 512 + r.val = _; omega))
  | ⟨2, _⟩ => exact Fin.ext ((win0_4.rect_emb_val t (ix3 0 r d) 2).trans (by
      show win0_0.index t 2 * 512 + d.val = d.val
      rw [map_rows]; show 0 * 512 + d.val = _; omega))

/-- Where a sequence's buffer lies. -/
theorem place_buffer (k : Fin 2) (d : Fin 512) :
    ((cfg0.win 5).blk t).view.emb (ix3 0 k d : S1x2x512.Idx) = (ix3 (seq t) k d : S2x2x512.Idx) := by
  funext a
  match a with
  | ⟨0, _⟩ => exact Fin.ext ((win0_5.rect_emb_val t (ix3 0 k d) 0).trans (by
      show win0_2.index t 0 * 1 + 0 = t.val / 16
      rw [map_buffer]; show t.val / 16 * 1 + 0 = _; omega))
  | ⟨1, _⟩ => exact Fin.ext ((win0_5.rect_emb_val t (ix3 0 k d) 1).trans (by
      show win0_2.index t 1 * 2 + k.val = k.val
      rw [map_buffer]; show 0 * 2 + k.val = _; omega))
  | ⟨2, _⟩ => exact Fin.ext ((win0_5.rect_emb_val t (ix3 0 k d) 2).trans (by
      show win0_2.index t 2 * 512 + d.val = d.val
      rw [map_buffer]; show 0 * 512 + d.val = _; omega))

theorem rows_block (r d : Fin 512) : iblk m c 0 t (ix3 0 r d) = argX m c (ix3 (seq t) (row t r) d) := by
  rw [← place t r d]
  show _ = m ((c : Thread nD τ).loc main_arg0) _
  rw [← V_main_arg0 m c]
  rfl

theorem gate_block (r d : Fin 512) : iblk m c 1 t (ix3 0 r d) = argG m c (ix3 (seq t) (row t r) d) := by
  rw [← place t r d]
  show _ = m ((c : Thread nD τ).loc main_arg1) _
  rw [← V_main_arg1 m c]
  rfl

theorem buffer_block (k : Fin 2) (d : Fin 512) : iblk m c 2 t (ix3 0 k d) = argBuf m c (ix3 (seq t) k d) := by
  rw [← place_buffer t k d]
  show _ = m ((c : Thread nD τ).loc main_arg2) _
  rw [← V_main_arg2 m c]
  rfl

theorem weights_block : iblk m c 3 t = argW m c := by
  show _ = m ((c : Thread nD τ).loc main_arg3)
  rw [← V_main_arg3 m c]
  funext j
  show V m c main_arg3 _ = V m c main_arg3 _
  congr 1
  funext a
  exact Fin.ext ((win0_3.rect_emb_val t j a).trans (by
    match a with
    | ⟨0, _⟩ => show 0 * 3 + (j 0).val = (j 0).val; omega
    | ⟨1, _⟩ => show 0 * 512 + (j 1).val = (j 1).val; omega))

/-! ## The results -/

/-- What a point leaves in the scratch and in the buffer. -/
theorem carried : (outsAt0 m c t.val t.isLt).2.2 = k0_pay2 (iblk m c 0 t) := by
  by_cases h : t.val % 16 = 0
  · rw [outsAt0_A m c t h]; dsimp only; rw [first_carried]
  · rw [outsAt0_B m c t h]; dsimp only; rw [later_carried]

theorem kept : (outsAt0 m c t.val t.isLt).2.1 = k0_pay2 (iblk m c 0 t) := by
  by_cases h : t.val % 16 = 0
  · rw [outsAt0_A m c t h]; dsimp only; rw [first_kept]
  · rw [outsAt0_B m c t h]; dsimp only; rw [later_kept]

/-- A point's part of the padded column, from its first row's second predecessor on. -/
def near (d : Fin 512) (n : ℕ) : EReal := padded (argX m c) (argBuf m c) (seq t) d (512 * (t.val % 16) + n)

theorem rows_near (d r : Fin 512) : iblk m c 0 t (ix3 0 r d) = near m c t d (r.val + 2) :=
  (rows_block m c t r d).trans (padded_row _ _ _ _ (row t r) _ (by
    show 512 * (t.val % 16) + (r.val + 2) = 512 * (t.val % 16) + r.val + 2; omega)).symm

/-- What a point writes. -/
theorem out_apply (r d : Fin 512) :
    (outsAt0 m c t.val t.isLt).1 (ix3 0 r d)
      = gated (argX m c) (argG m c) (argBuf m c) (argW m c) (seq t) (row t r) d := by
  refine Eq.trans ?_ (congrArg₂ (· * ·) (gate_block m c t r d)
    (congrArg (fun w => weighed w (near m c t d) d r.val) (weights_block m c t)))
  by_cases h : t.val % 16 = 0
  · rw [outsAt0_A m c t h]
    dsimp only
    refine first_apply c _ _ _ _ _ _ _ _ _ _ _ _ _ _ _ _ _ _ _ (near m c t d) d _ (fun k => ?_) (rows_near m c t d) r
    refine (buffer_block m c t k d).trans ((padded_buf _ _ _ _ k).symm.trans (congrArg _ ?_))
    omega
  · rw [outsAt0_B m c t h]
    dsimp only
    refine later_apply c _ _ _ _ _ _ _ _ _ _ _ _ _ _ _ _ _ _ _ _ (near m c t d) d _ (fun k => ?_) (rows_near m c t d) r
    have ht := lt_points t
    refine (congrFun (carried m c ⟨t.val - 1, Nat.lt_of_le_of_lt (Nat.sub_le _ _) t.isLt⟩) _).trans
      ((last_apply _ k d).trans ((rows_block m c _ _ d).trans ?_))
    refine Eq.trans ?_ (padded_row _ _ (seq t) d ⟨512 * (t.val % 16) + k.val - 2, by omega⟩ _ (by
      show 512 * (t.val % 16) + k.val = 512 * (t.val % 16) + k.val - 2 + 2; omega)).symm
    refine congrArg₂ (fun b R => argX m c (ix3 b R d)) (Fin.ext ?_) (Fin.ext ?_)
    · show (t.val - 1) / 16 = t.val / 16; omega
    · show 512 * ((t.val - 1) % 16) + (510 + k.val) = 512 * (t.val % 16) + k.val - 2; omega

/-- Every row of every sequence is a point's. -/
theorem exists_point (b : Fin 2) (R : Fin 8192) : ∃ (t : Fin cfg0.N) (r : Fin 512), seq t = b ∧ row t r = R := by
  refine ⟨⟨16 * b.val + R.val / 512, lt_of_lt_of_eq (by omega) N_0.symm⟩, ⟨R.val % 512, by omega⟩, Fin.ext ?_, Fin.ext ?_⟩
  · show (16 * b.val + R.val / 512) / 16 = b.val; omega
  · show 512 * ((16 * b.val + R.val / 512) % 16) + R.val % 512 = R.val; omega

/-- The gated convolution. -/
theorem result (b : Fin 2) (R : Fin 8192) (d : Fin 512) :
    (dats m 0 c).arrAt 4 cfg0.N (ix3 b R d : S2x8192x512.Idx)
      = gated (argX m c) (argG m c) (argBuf m c) (argW m c) b R d := by
  obtain ⟨t, r, rfl, rfl⟩ := exists_point b R
  rw [← place t r d]
  refine ((dats m 0 c).arrAt_emb_eq_flushed 4 disjoint4 t (flush0_4 t) (ix3 0 r d : S1x512x512.Idx)).trans ?_
  rw [_root_.cast_eq, flushed4]
  exact out_apply m c t r d

/-- Two blocks of the buffer that are written back lie apart. -/
theorem disjoint5 : ∀ t t' : Fin cfg0.N, (cfg0.win 5).flush t = true → (cfg0.win 5).flush t' = true → t ≠ t' →
    Disjoint ((cfg0.win 5).blk t).view.set ((cfg0.win 5).blk t').view.set := fun t t' h h' hne =>
  (cfg0.win 5).disjoint_blk fun e => hne (Fin.ext (by
    have e0 : t.val / 16 = t'.val / 16 := by
      have := congrFun ((map_buffer t).symm.trans ((show win0_2.index t = win0_2.index t' from e).trans (map_buffer t'))) 0
      exact this
    have := (flush0_5 t).mp h
    have := (flush0_5 t').mp h'
    omega))

/-- The new buffer. -/
theorem buffer (b : Fin 2) (k : Fin 2) (d : Fin 512) :
    (dats m 0 c).arrAt 5 cfg0.N (ix3 b k d : S2x2x512.Idx) = argX m c (ix3 b ⟨8190 + k.val, by omega⟩ d) := by
  obtain ⟨t, r, hb, hr⟩ := exists_point b ⟨8191, by omega⟩
  have hm : t.val % 16 = 15 := by
    have e : 512 * (t.val % 16) + r.val = 8191 := congrArg Fin.val hr
    omega
  subst hb
  rw [← place_buffer t k d]
  refine ((dats m 0 c).arrAt_emb_eq_flushed 5 disjoint5 t ((flush0_5 t).mpr hm) (ix3 0 k d : S1x2x512.Idx)).trans ?_
  rw [_root_.cast_eq, flushed5]
  refine (congrFun (kept m c t) _).trans ((last_apply _ k d).trans ((rows_block m c t _ d).trans ?_))
  refine congrArg (fun R => argX m c (ix3 (seq t) R d)) (Fin.ext ?_)
  show 512 * (t.val % 16) + (510 + k.val) = 8190 + k.val
  omega

end Cert.Conv.Value

end
-- ==== Proof.ConvRef.lean ====
/- The short convolution's reference, read at an entry. -/
module

public import proofs.«01_k».proof.Proof.ConvValue
public import proofs.«01_k».proof.Proof.Gen.ConvRefIdeal.Read

@[expose] public section

noncomputable section

namespace Cert.Conv.Ref

open Idealize.ShloMosaic Idealize.ShloMosaic.ValueIdx Cert.ConvRefIdeal Cert.ConvRefIdeal.Read
open Cert.Conv.Value (padded padded_buf padded_row gated weighed)

variable (x g : S2x8192x512.Idx → EReal) (buf : S2x2x512.Idx → EReal) (w : S3x512.Idx → EReal)

/-- The buffer's rows, then the sequence's. -/
theorem padded_eq (b : Fin 2) (n : Fin 8194) (d : Fin 512) :
    val_main_v0 (F := Ideal) x buf (ix3 b n d) = padded x buf b d n.val := by
  unfold val_main_v0
  by_cases h : n.val < 2
  · refine (concatenate_pair_apply_left 1 buf x _ (ix3 b n d) rfl (ix3 b ⟨n.val, h⟩ d) (fun a => match a with
      | ⟨0, _⟩ => rfl
      | ⟨1, _⟩ => rfl
      | ⟨2, _⟩ => rfl)).trans (padded_buf x buf b d ⟨n.val, h⟩).symm
  · refine (concatenate_pair_apply_right 1 buf x _ (ix3 b n d) rfl rfl (ix3 b ⟨n.val - 2, by omega⟩ d) (fun a ha =>
      match a, ha with
      | ⟨0, _⟩, _ => rfl
      | ⟨1, _⟩, ha => absurd rfl ha
      | ⟨2, _⟩, _ => rfl) (by show n.val - 2 + 2 = n.val; omega)).trans
      (padded_row x buf b d ⟨n.val - 2, by omega⟩ _ (by show n.val = n.val - 2 + 2; omega)).symm

/-- The weights of the three neighbours. -/
theorem weight0 (b : Fin 2) (R : Fin 8192) (d : Fin 512) : val_main_v5 (F := Ideal) w (ix3 b R d) = w (ix2 0 d) := by
  rw [val_main_v5_apply, val_main_v4_apply, val_main_v2_apply, val_main_v1_apply]
  refine congrArg w (funext fun a => ?_)
  match a with
  | ⟨0, _⟩ => rfl
  | ⟨1, _⟩ => exact Fin.ext (Nat.mod_eq_of_lt d.isLt)

theorem weight1 (b : Fin 2) (R : Fin 8192) (d : Fin 512) : val_main_v13 (F := Ideal) w (ix3 b R d) = w (ix2 1 d) := by
  rw [val_main_v13_apply, val_main_v12_apply, val_main_v10_apply, val_main_v9_apply]
  refine congrArg w (funext fun a => ?_)
  match a with
  | ⟨0, _⟩ => rfl
  | ⟨1, _⟩ => exact Fin.ext (Nat.mod_eq_of_lt d.isLt)

theorem weight2 (b : Fin 2) (R : Fin 8192) (d : Fin 512) : val_main_v20 (F := Ideal) w (ix3 b R d) = w (ix2 2 d) := by
  rw [val_main_v20_apply, val_main_v19_apply, val_main_v17_apply, val_main_v16_apply]
  refine congrArg w (funext fun a => ?_)
  match a with
  | ⟨0, _⟩ => rfl
  | ⟨1, _⟩ => exact Fin.ext (Nat.mod_eq_of_lt d.isLt)

/-- The gated convolution. -/
theorem result_eq (b : Fin 2) (R : Fin 8192) (d : Fin 512) :
    val_main_v23 (F := Ideal) x g buf w (ix3 b R d) = gated x g buf w b R d := by
  have e : ∀ (n : Fin 8194) (i : S2x8194x512.Idx), i = ix3 b n d → val_main_v0 (F := Ideal) x buf i = padded x buf b d n.val :=
    fun n i h => by rw [h]; exact padded_eq x buf b n d
  rw [val_main_v23_apply, val_main_v22_apply, val_main_v15_apply, val_main_v8_apply, val_main_v7_apply, val_main_cst_apply,
    val_main_v6_apply, val_main_v14_apply, val_main_v21_apply, weight0, weight1, weight2, val_main_v3_apply,
    val_main_v11_apply, val_main_v18_apply]
  refine congrArg (g (ix3 b R d) * ·) (congrArg₂ (· + ·) (congrArg₂ (· + ·) ?_ (congrArg (w (ix2 1 d) * ·) ?_))
    (congrArg (w (ix2 2 d) * ·) ?_))
  · refine (congrArg (· + _) (Ideal.ofBits_zero_f32)).trans ((zero_add _).trans (congrArg (w (ix2 0 d) * ·) ?_))
    refine e ⟨R.val, by omega⟩ _ (funext fun a => ?_)
    match a with
    | ⟨0, _⟩ => rfl
    | ⟨1, _⟩ => rfl
    | ⟨2, _⟩ => rfl
  · refine (e ⟨1 + R.val, by omega⟩ _ (funext fun a => ?_)).trans (congrArg _ (Nat.add_comm 1 R.val))
    match a with
    | ⟨0, _⟩ => rfl
    | ⟨1, _⟩ => rfl
    | ⟨2, _⟩ => rfl
  · refine (e ⟨2 + R.val, by omega⟩ _ (funext fun a => ?_)).trans (congrArg _ (Nat.add_comm 2 R.val))
    match a with
    | ⟨0, _⟩ => rfl
    | ⟨1, _⟩ => rfl
    | ⟨2, _⟩ => rfl

/-- The new buffer. -/
theorem buffer_eq (b k : Fin 2) (d : Fin 512) :
    val_main_v24 (F := Ideal) x buf (ix3 b k d) = x (ix3 b ⟨8190 + k.val, by omega⟩ d) := by
  rw [val_main_v24_apply]
  refine (congrArg (val_main_v0 (F := Ideal) x buf) (funext fun a => ?_)).trans
    ((padded_eq x buf b ⟨8192 + k.val, by omega⟩ d).trans (padded_row x buf b d ⟨8190 + k.val, by omega⟩ _ (by
      show 8192 + k.val = 8190 + k.val + 2; omega)))
  match a with
  | ⟨0, _⟩ => rfl
  | ⟨1, _⟩ => rfl
  | ⟨2, _⟩ => rfl

end Cert.Conv.Ref

end
-- ==== Proof.ConvClaim.lean ====
/- The claims about the short convolution: the three programs leave their arguments and their counters as they were, and
   over the extended reals the kernel's results, the gated convolution and the new buffer, are the reference's. -/
module

public import proofs.«01_k».proof.Defs
public import proofs.«01_k».proof.Proof.ConvRef
public import proofs.«01_k».proof.Proof.Gen.Conv.Frame
public import proofs.«01_k».proof.Proof.Gen.ConvRefIdeal.Run

@[expose] public section

noncomputable section

namespace Cert.Conv.Claims

open Idealize.ShloMosaic Idealize.ShloMosaic.ValueIdx Idealize.ShloMosaic.TcCoe Idealize.SL.Sem

theorem frame_kernel : Cert.quiescent_Conv := fun m ρ _ => Cert.Conv.Gen.frame m ρ

theorem frame_ideal : Cert.quiescent_ConvIdeal := fun m ρ _ => Cert.ConvIdeal.Gen.frame m ρ

theorem frame_reference : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

theorem preserves : Cert.preserves_Conv_ConvIdeal := trivial

theorem algebraic : Cert.algebraic_ConvIdeal_ConvRefIdeal := by
  intro m ρ m' ρ' _ hagree
  refine ⟨_, _, Cert.ConvIdeal.Value.run_blocks m ρ, ?_⟩
  refine (θ_run Cert.ConvRefIdeal.defs _ _).mono (fun _ h c => ?_) (Cert.ConvRefIdeal.Value.run (F := Ideal) m' ρ')
  obtain ⟨g0, g1, g⟩ := h c
  obtain ⟨h0, h1, h2, h3⟩ := hagree c
  refine ⟨g0.trans ?_, g1.trans ?_, g⟩
  · rw [Cert.ConvRefIdeal.Read.val_main_v23_eq, h0, h1, h2, h3]
    funext j
    rw [eq_ix3 j]
    exact (Ref.result_eq _ _ _ _ _ _ _).trans (Value.result m c _ _ _).symm
  · rw [Cert.ConvRefIdeal.Read.val_main_v24_eq, h0, h2]
    funext j
    rw [eq_ix3 j]
    exact (Ref.buffer_eq _ _ _ _ _).trans (Value.buffer m c _ _ _).symm

end Cert.Conv.Claims

end
-- ==== Proof.GateSumsValue.lean ====
/- The running sums of the gates over whole arrays. A block adds the sums of its rows so far, a product by a triangle of
   ones, to the row the block before left in the scratch; by induction along a sequence that row is the sum of all the
   sequence's rows before the block. -/
module

public import proofs.«01_k».proof.Proof.Blocks
public import proofs.«01_k».proof.Proof.Proj
public import proofs.«01_k».proof.Proof.Gen.GateSumsIdeal.Value
public import Idealize.ShloMosaic.Lib.Pipeline.Covers
public import Idealize.ShloMosaic.Lib.KernelVsHost
public import Idealize.ShloMosaic.Lib.VecWindow

@[expose] public section

noncomputable section

namespace Cert.GateSums.Value

open Idealize.ShloMosaic Idealize.ShloMosaic.Ideal Idealize.ShloMosaic.ValueIdx Idealize.ShloMosaic.TcCoe
open Idealize.SL.Sem
open Cert.GateSumsIdeal Cert.GateSumsIdeal.Gen Cert.GateSumsIdeal.Value
open Cert.Proj (product_apply)
open Cert.Blocks (below_bit load_whole)

/-- Column `d` of sequence `b`. -/
def column (x : S16384x128.Idx → EReal) (b : ℕ) (d : Fin 128) (n : ℕ) : EReal :=
  if h : 8192 * b + n < 16384 then x (ix2 ⟨8192 * b + n, h⟩ d) else 0

theorem column_row (x : S16384x128.Idx → EReal) (b : ℕ) (d : Fin 128) (n : ℕ) (R : Fin 16384) (h : R.val = 8192 * b + n) :
    column x b d n = x (ix2 R d) := by
  have hR := R.isLt
  rw [column, dif_pos (by omega)]
  exact congrArg (fun R => x (ix2 R d)) (Fin.ext h.symm)

/-- The sum of the column up to row `R`, within the row's sequence. -/
def running (x : S16384x128.Idx → EReal) (R : Fin 16384) (d : Fin 128) : EReal :=
  ∑ s ∈ Finset.range (R.val % 8192 + 1), column x (R.val / 8192) d s

/-! ## A block -/

/-- A bit as a number. -/
theorem number_bit {p : Prop} [Decidable p] (b : BitVec 1) (hb : b = if p then 1#1 else 0#1) :
    (Scalar.sitofp .f32 (Scalar.extui b : BitVec 32) : Ideal .f32) = (if p then 1 else 0 : EReal) := by
  subst hb
  by_cases h : p
  · rw [if_pos h, if_pos h, scalar_sitofp_def, show (Scalar.extui 1#1 : BitVec 32).toInt = 1 by decide]
    norm_num
  · rw [if_neg h, if_neg h, scalar_sitofp_def, show (Scalar.extui 0#1 : BitVec 32).toInt = 0 by decide]
    norm_num

/-- The unit matrix's first rows. -/
theorem unit_bit : ∀ (h : Fin 8) (k : Fin 128),
    IntOp.cmpi .eq (BitVec.ofNat 32 (0 * 8 + h.val)) (BitVec.ofNat 32 (0 * 128 + k.val)) = if h.val = k.val then 1#1 else 0#1 := by
  decide +kernel

/-- A row of the triangle picks the rows so far. -/
theorem sum_below (f : ℕ → EReal) (r : Fin 512) :
    ∑ k : Fin 512, (if k.val ≤ r.val then 1 else 0 : EReal) * f k.val = ∑ s ∈ Finset.range (r.val + 1), f s := by
  rw [Fin.sum_univ_eq_sum_range (fun k => (if k ≤ r.val then 1 else 0 : EReal) * f k) 512]
  have hr := r.isLt
  refine Eq.trans (Finset.sum_subset (Finset.range_subset_range.2 (show r.val + 1 ≤ 512 by omega)) fun k _ hk => ?_).symm
    (Finset.sum_congr rfl fun k hk => ?_)
  · rw [if_neg (by rw [Finset.mem_range] at hk; omega), zero_mul]
  · rw [if_pos (by rw [Finset.mem_range] at hk; omega), one_mul]

/-- The block's running sums, where the rows before it sum to the carried row. -/
theorem sums_apply (P : ℕ → EReal) (n : ℕ) (x : Vec Ideal S512x128 .f32) (carry : Vec Ideal S1x128 .f32) (d : Fin 128)
    (hc : carry (ix2 0 d) = ∑ s ∈ Finset.range n, P s) (hx : ∀ r : Fin 512, x (ix2 r d) = P (n + r.val)) (r : Fin 512) :
    k0_pay2 x carry (ix2 r d) = ∑ s ∈ Finset.range (n + (r.val + 1)), P s := by
  unfold k0_pay2
  refine (congrArg₂ (· + ·) (product_apply (some .fp32) _ x r d)
    (broadcastTo_apply carry broadcasts_S1x128_S512x128 (ix2 r d) (ix2 0 d) (fun a => match a with
      | ⟨0, _⟩ => rfl
      | ⟨1, _⟩ => rfl))).trans ?_
  rw [hc, Finset.sum_range_add, add_comm]
  refine congrArg (_ + ·) (Eq.trans (Finset.sum_congr rfl fun k _ => ?_) (sum_below (fun k => P (n + k)) r))
  exact congrArg₂ (· * ·) (number_bit _ (below_bit r k)) (hx k)

/-- The row left for the next block is the last one. -/
theorem left_apply (x : Vec Ideal S512x128 .f32) (carry : Vec Ideal S1x128 .f32) (d : Fin 128) :
    k0_pay3 x carry (ix2 0 d) = k0_pay2 x carry (ix2 511 d) := by
  unfold k0_pay3
  refine (congrFun (shapeCast_self _ _) _).trans ?_
  exact extractStridedSlice_apply ![511, 0] _ slices_S512x128_o511_0_S1x128 (ix2 0 d) (ix2 511 d) (fun a => match a with
    | ⟨0, _⟩ => rfl
    | ⟨1, _⟩ => (Nat.zero_add _).symm)

/-- The lane of a head. -/
def lane (h : Fin 8) : Fin 128 := ⟨h.val, by omega⟩

theorem heads_apply (x : Vec Ideal S512x128 .f32) (r : Fin 512) (h : Fin 8) : k0_pay4 x (ix2 r h) = x (ix2 r (lane h)) :=
  extractStridedSlice_apply ![0, 0] x slices_S512x128_o0_0_S512x8 (ix2 r h) (ix2 r (lane h)) (fun a => match a with
    | ⟨0, _⟩ => (Nat.zero_add _).symm
    | ⟨1, _⟩ => (Nat.zero_add _).symm)

/-- The sums of the heads' lanes, turned. -/
theorem turned_apply (x : Vec Ideal S512x128 .f32) (carry : Vec Ideal S1x128 .f32) (h : Fin 8) (r : Fin 512) :
    k0_pay5 x carry (ix3 0 h r) = k0_pay2 x carry (ix2 r (lane h)) := by
  unfold k0_pay5
  refine (shapeCast_apply _ shapeCasts_S8x512_S1x8x512 (ix3 0 h r) (ix2 h r) (by
    rw [Shape.rowMajor_val_three, Shape.rowMajor_val_two]
    show h.val * 512 + r.val = (0 * 8 + h.val) * 512 + r.val
    omega)).trans ?_
  refine (Ideal.matmul_transposedRhs_apply (some .fp32) _ (k0_pay2 x carry) _ h r).trans ?_
  refine (congrArg₂ (· + ·) (show _ = (0 : EReal) from Ideal.ofBits_zero_f32) (Finset.sum_congr rfl fun k _ =>
    congrArg (· * k0_pay2 x carry (ix2 r k)) (number_bit _ (unit_bit h k)))).trans ?_
  rw [zero_add, Finset.sum_eq_single (lane h)]
  · rw [if_pos (show h.val = (lane h).val from rfl), one_mul]
  · intro k _ hk
    rw [if_neg (fun e => hk (Fin.ext e.symm)), zero_mul]
  · exact fun hk => absurd (Finset.mem_univ _) hk

section Cases

variable (c : Dev nD) (i : grid0.Coords) (a2 : Memref sig .tc .vmem S512x128 .f32) (h2 : a2.IsWhole)
  (a3 : Memref sig .tc .vmem S512x8 .f32) (h3 : a3.IsWhole) (a4 : Memref sig .tc .vmem S512x128 .f32) (h4 : a4.IsWhole)
  (a5 : Memref sig .tc .vmem S1x8x512 .f32) (h5 : a5.IsWhole) (a6 : Memref sig .tc .vmem S1x128 .f32) (h6 : a6.IsWhole)
  (x : Vec Ideal S512x128 .f32) (carry : Vec Ideal S1x128 .f32)

theorem zeros₂ : (![0, 0] : Fin 2 → ℕ) = fun _ => 0 := by decide
theorem zeros₃ : (![0, 0, 0] : Fin 3 → ℕ) = fun _ => 0 := by decide

/-- The scratch after it was set to zero. -/
theorem reset : kernelRun0_A.sl.v10 (F := Ideal) c a6 = (k0_pay1 (F := Ideal) : Vec Ideal S1x128 .f32) := by
  unfold kernelRun0_A.sl.v10 kernelRun0_A.sl.HS0_1 View.readCov
  rw [View.readAt_eq_ld, View.read_writes_full, View.ld_unit_zero zeros₂]

/-- A sequence's first block starts from zero. -/
theorem first_heads (hc : cond0_0 i) :
    out0_A_1 (F := Ideal) c i a2 h2 a3 h3 a4 h4 a5 h5 a6 h6 hc x = k0_pay4 x := by
  unfold out0_A_1 kernelRun0_A
  dsimp only
  rw [View.read_writes_junk_eq_canon, View.canon_unit_zero zeros₂]
  rw [load_whole a2 h2 x zeros₂]

theorem first_sums (hc : cond0_0 i) :
    out0_A_2 (F := Ideal) c i a2 h2 a3 h3 a4 h4 a5 h5 a6 h6 hc x = k0_pay2 x (k0_pay1 (F := Ideal)) := by
  unfold out0_A_2 kernelRun0_A
  dsimp only
  rw [View.read_writes_junk_eq_canon, View.canon_unit_zero zeros₂]
  rw [load_whole a2 h2 x zeros₂, reset]

theorem first_turned (hc : cond0_0 i) :
    out0_A_3 (F := Ideal) c i a2 h2 a3 h3 a4 h4 a5 h5 a6 h6 hc x = k0_pay5 x (k0_pay1 (F := Ideal)) := by
  unfold out0_A_3 kernelRun0_A
  dsimp only
  rw [View.read_writes_junk_eq_canon, View.canon_unit_zero zeros₃]
  rw [load_whole a2 h2 x zeros₂, reset]

theorem first_left (hc : cond0_0 i) :
    sout0_A_0 (F := Ideal) c i a2 h2 a3 h3 a4 h4 a5 h5 a6 h6 hc x = k0_pay3 x (k0_pay1 (F := Ideal)) := by
  unfold sout0_A_0 kernelRun0_A
  dsimp only
  rw [View.read_writes_junk_eq_canon, View.canon_cons_unit_zero zeros₂]
  rw [load_whole a2 h2 x zeros₂, reset]

/-- A later one starts from the row carried to it. -/
theorem later_heads (hc : ¬ cond0_0 i) :
    out0_B_1 (F := Ideal) c i a2 h2 a3 h3 a4 h4 a5 h5 a6 h6 hc x carry = k0_pay4 x := by
  unfold out0_B_1 kernelRun0_B
  dsimp only
  rw [View.read_writes_junk_eq_canon, View.canon_unit_zero zeros₂]
  rw [load_whole a2 h2 x zeros₂]

theorem later_sums (hc : ¬ cond0_0 i) :
    out0_B_2 (F := Ideal) c i a2 h2 a3 h3 a4 h4 a5 h5 a6 h6 hc x carry = k0_pay2 x carry := by
  unfold out0_B_2 kernelRun0_B
  dsimp only
  rw [View.read_writes_junk_eq_canon, View.canon_unit_zero zeros₂]
  rw [load_whole a2 h2 x zeros₂, load_whole a6 h6 carry zeros₂]

theorem later_turned (hc : ¬ cond0_0 i) :
    out0_B_3 (F := Ideal) c i a2 h2 a3 h3 a4 h4 a5 h5 a6 h6 hc x carry = k0_pay5 x carry := by
  unfold out0_B_3 kernelRun0_B
  dsimp only
  rw [View.read_writes_junk_eq_canon, View.canon_unit_zero zeros₃]
  rw [load_whole a2 h2 x zeros₂, load_whole a6 h6 carry zeros₂]

theorem later_left (hc : ¬ cond0_0 i) :
    sout0_B_0 (F := Ideal) c i a2 h2 a3 h3 a4 h4 a5 h5 a6 h6 hc x carry = k0_pay3 x carry := by
  unfold sout0_B_0 kernelRun0_B
  dsimp only
  rw [View.read_writes_junk_eq_canon, View.canon_unit_zero zeros₂]
  rw [load_whole a2 h2 x zeros₂, load_whole a6 h6 carry zeros₂]

end Cases

/-! ## Which block a grid point has -/

theorem map_input : ∀ t : Fin cfg0.N, win0_0.index t = ![t.val, 0] :=
  (by decide +kernel : ∀ t : Fin grid0.N, win0_0.index t = ![t.val, 0])
theorem map_heads : ∀ t : Fin cfg0.N, win0_1.index t = ![t.val, 0] :=
  (by decide +kernel : ∀ t : Fin grid0.N, win0_1.index t = ![t.val, 0])
theorem map_sums : ∀ t : Fin cfg0.N, win0_2.index t = ![t.val, 0] :=
  (by decide +kernel : ∀ t : Fin grid0.N, win0_2.index t = ![t.val, 0])
theorem map_turned : ∀ t : Fin cfg0.N, win0_3.index t = ![t.val / 16, 0, t.val % 16] :=
  (by decide +kernel : ∀ t : Fin grid0.N, win0_3.index t = ![t.val / 16, 0, t.val % 16])

variable (m : (ℓ : Loc nD τ sig) → Buf (Elt Ideal) ℓ) (c : Dev nD) (t : Fin cfg0.N)

/-- The call's argument. -/
abbrev argX : S16384x128.Idx → EReal := m ((c : Thread nD τ).loc main_arg0)

theorem lt_points : t.val < 32 := lt_of_lt_of_eq t.isLt N_0

/-- Row `r` of the point's block: of all rows, and with its sequence. -/
def row (r : Fin 512) : Fin 16384 := ⟨512 * t.val + r.val, by have := lt_points t; omega⟩
def seq : Fin 2 := ⟨t.val / 16, by have := lt_points t; omega⟩
def within (r : Fin 512) : Fin 8192 := ⟨512 * (t.val % 16) + r.val, by omega⟩

theorem place_heads (r : Fin 512) (h : Fin 8) :
    ((cfg0.win 1).blk t).view.emb (ix2 r h : S512x8.Idx) = (ix2 (row t r) h : S16384x8.Idx) := by
  funext a
  match a with
  | ⟨0, _⟩ => exact Fin.ext ((win0_1.rect_emb_val t (ix2 r h) 0).trans (by
      show win0_1.index t 0 * 512 + r.val = 512 * t.val + r.val
      rw [map_heads]; show t.val * 512 + r.val = _; omega))
  | ⟨1, _⟩ => exact Fin.ext ((win0_1.rect_emb_val t (ix2 r h) 1).trans (by
      show win0_1.index t 1 * 8 + h.val = h.val
      rw [map_heads]; show 0 * 8 + h.val = _; omega))

theorem place_sums (r : Fin 512) (d : Fin 128) :
    ((cfg0.win 2).blk t).view.emb (ix2 r d : S512x128.Idx) = (ix2 (row t r) d : S16384x128.Idx) := by
  funext a
  match a with
  | ⟨0, _⟩ => exact Fin.ext ((win0_2.rect_emb_val t (ix2 r d) 0).trans (by
      show win0_2.index t 0 * 512 + r.val = 512 * t.val + r.val
      rw [map_sums]; show t.val * 512 + r.val = _; omega))
  | ⟨1, _⟩ => exact Fin.ext ((win0_2.rect_emb_val t (ix2 r d) 1).trans (by
      show win0_2.index t 1 * 128 + d.val = d.val
      rw [map_sums]; show 0 * 128 + d.val = _; omega))

theorem place_turned (h : Fin 8) (r : Fin 512) :
    ((cfg0.win 3).blk t).view.emb (ix3 0 h r : S1x8x512.Idx) = (ix3 (seq t) h (within t r) : S2x8x8192.Idx) := by
  funext a
  match a with
  | ⟨0, _⟩ => exact Fin.ext ((win0_3.rect_emb_val t (ix3 0 h r) 0).trans (by
      show win0_3.index t 0 * 1 + 0 = t.val / 16
      rw [map_turned]; show t.val / 16 * 1 + 0 = _; omega))
  | ⟨1, _⟩ => exact Fin.ext ((win0_3.rect_emb_val t (ix3 0 h r) 1).trans (by
      show win0_3.index t 1 * 8 + h.val = h.val
      rw [map_turned]; show 0 * 8 + h.val = _; omega))
  | ⟨2, _⟩ => exact Fin.ext ((win0_3.rect_emb_val t (ix3 0 h r) 2).trans (by
      show win0_3.index t 2 * 512 + r.val = 512 * (t.val % 16) + r.val
      rw [map_turned]; show t.val % 16 * 512 + r.val = _; omega))

theorem input_block (r : Fin 512) (d : Fin 128) : iblk m c 0 t (ix2 r d) = argX m c (ix2 (row t r) d) := by
  show _ = m ((c : Thread nD τ).loc main_arg0) _
  rw [← V_main_arg0 m c]
  show V m c main_arg0 _ = V m c main_arg0 _
  congr 1
  funext a
  match a with
  | ⟨0, _⟩ => exact Fin.ext ((win0_0.rect_emb_val t (ix2 r d) 0).trans (by
      show win0_0.index t 0 * 512 + r.val = 512 * t.val + r.val
      rw [map_input]; show t.val * 512 + r.val = _; omega))
  | ⟨1, _⟩ => exact Fin.ext ((win0_0.rect_emb_val t (ix2 r d) 1).trans (by
      show win0_0.index t 1 * 128 + d.val = d.val
      rw [map_input]; show 0 * 128 + d.val = _; omega))

/-! ## The results -/

/-- The row a point starts from. -/
def entering : Vec Ideal S1x128 .f32 :=
  if t.val % 16 = 0 then k0_pay1 (F := Ideal)
  else (outsAt0 m c (t.val - 1) (Nat.lt_of_le_of_lt (Nat.sub_le _ _) t.isLt)).2.2.2

/-- What a point leaves. -/
theorem point : outsAt0 m c t.val t.isLt
    = (k0_pay4 (iblk m c 0 t), k0_pay2 (iblk m c 0 t) (entering m c t), k0_pay5 (iblk m c 0 t) (entering m c t),
      k0_pay3 (iblk m c 0 t) (entering m c t)) := by
  unfold entering
  by_cases h : t.val % 16 = 0
  · rw [outsAt0_A m c t h, first_heads, first_sums, first_turned, first_left, if_pos h]
  · rw [outsAt0_B m c t h, later_heads, later_sums, later_turned, later_left, if_neg h]

/-- A point's rows in their sequence's column. -/
theorem block_column (d : Fin 128) (r : Fin 512) :
    iblk m c 0 t (ix2 r d) = column (argX m c) (t.val / 16) d (512 * (t.val % 16) + r.val) :=
  (input_block m c t r d).trans (column_row _ _ _ _ (row t r) (by
    show 512 * t.val + r.val = 8192 * (t.val / 16) + (512 * (t.val % 16) + r.val); omega)).symm

/-- The row a point starts from is the sum of its sequence's rows before it. -/
theorem entering_apply (d : Fin 128) : ∀ (n : ℕ) (hn : n < cfg0.N),
    entering m c ⟨n, hn⟩ (ix2 0 d) = ∑ s ∈ Finset.range (512 * (n % 16)), column (argX m c) (n / 16) d s := by
  have start : ∀ (n : ℕ) (hn : n < cfg0.N), n % 16 = 0 →
      entering m c ⟨n, hn⟩ (ix2 0 d) = ∑ s ∈ Finset.range (512 * (n % 16)), column (argX m c) (n / 16) d s := fun n hn h => by
    unfold entering
    rw [if_pos h, h, Nat.mul_zero, Finset.range_zero, Finset.sum_empty]
    unfold k0_pay1
    exact (congrFun (shapeCast_self _ _) _).trans Ideal.ofBits_zero_f32
  intro n
  induction n with
  | zero => exact fun hn => start 0 hn rfl
  | succ k ih =>
    intro hn
    by_cases h : (k + 1) % 16 = 0
    · exact start _ hn h
    have hk : k < cfg0.N := Nat.lt_of_succ_lt hn
    unfold entering
    rw [if_neg h]
    refine (congrArg (fun o => o.2.2.2 (ix2 0 d)) (point m c ⟨k, hk⟩)).trans ((left_apply _ _ d).trans ?_)
    refine (sums_apply _ _ _ _ d (ih hk) (block_column m c ⟨k, hk⟩ d) 511).trans ?_
    rw [show (k + 1) / 16 = k / 16 by omega, show 512 * ((k + 1) % 16) = 512 * (k % 16) + 512 by omega]
    rfl

/-- A point's running sums. -/
theorem point_sums (r : Fin 512) (d : Fin 128) :
    k0_pay2 (iblk m c 0 t) (entering m c t) (ix2 r d) = running (argX m c) (row t r) d := by
  refine (sums_apply _ _ _ _ d (entering_apply m c d t.val t.isLt) (block_column m c t d) r).trans ?_
  have hr := r.isLt
  unfold running
  rw [show (row t r).val / 8192 = t.val / 16 by show (512 * t.val + r.val) / 8192 = _; omega,
    show (row t r).val % 8192 = 512 * (t.val % 16) + r.val by show (512 * t.val + r.val) % 8192 = _; omega]
  rfl

/-- Every row is a point's. -/
theorem exists_point (R : Fin 16384) : ∃ (t : Fin cfg0.N) (r : Fin 512), row t r = R := by
  refine ⟨⟨R.val / 512, lt_of_lt_of_eq (by omega) N_0.symm⟩, ⟨R.val % 512, by omega⟩, Fin.ext ?_⟩
  show 512 * (R.val / 512) + R.val % 512 = R.val; omega

/-- The heads' lanes. -/
theorem heads (R : Fin 16384) (h : Fin 8) :
    (dats m 0 c).arrAt 1 cfg0.N (ix2 R h : S16384x8.Idx) = argX m c (ix2 R (lane h)) := by
  obtain ⟨t, r, rfl⟩ := exists_point R
  rw [← place_heads t r h]
  refine ((dats m 0 c).arrAt_emb_eq_flushed 1 disjoint1 t (flush0_1 t) (ix2 r h : S512x8.Idx)).trans ?_
  rw [_root_.cast_eq, flushed1]
  exact (congrArg (fun o => o.1 (ix2 r h)) (point m c t)).trans ((heads_apply _ r h).trans (input_block m c t r (lane h)))

/-- The running sums. -/
theorem sums (R : Fin 16384) (d : Fin 128) :
    (dats m 0 c).arrAt 2 cfg0.N (ix2 R d : S16384x128.Idx) = running (argX m c) R d := by
  obtain ⟨t, r, rfl⟩ := exists_point R
  rw [← place_sums t r d]
  refine ((dats m 0 c).arrAt_emb_eq_flushed 2 disjoint2 t (flush0_2 t) (ix2 r d : S512x128.Idx)).trans ?_
  rw [_root_.cast_eq, flushed2]
  exact (congrArg (fun o => o.2.1 (ix2 r d)) (point m c t)).trans (point_sums m c t r d)

/-- The heads' running sums, turned. -/
theorem turned (b : Fin 2) (h : Fin 8) (R : Fin 8192) :
    (dats m 0 c).arrAt 3 cfg0.N (ix3 b h R : S2x8x8192.Idx)
      = running (argX m c) ⟨8192 * b.val + R.val, by omega⟩ (lane h) := by
  obtain ⟨t, r, e⟩ := exists_point ⟨8192 * b.val + R.val, by omega⟩
  have e' : 512 * t.val + r.val = 8192 * b.val + R.val := congrArg Fin.val e
  have hR := R.isLt
  have hr := r.isLt
  rw [← e, show b = seq t from Fin.ext (by show b.val = t.val / 16; omega),
    show R = within t r from Fin.ext (by show R.val = 512 * (t.val % 16) + r.val; omega), ← place_turned t h r]
  refine ((dats m 0 c).arrAt_emb_eq_flushed 3 disjoint3 t (flush0_3 t) (ix3 0 h r : S1x8x512.Idx)).trans ?_
  rw [_root_.cast_eq, flushed3]
  exact (congrArg (fun o => o.2.2.1 (ix3 0 h r)) (point m c t)).trans
    ((turned_apply _ _ h r).trans (point_sums m c t r (lane h)))

end Cert.GateSums.Value

end
-- ==== Proof.GateSumsRef.lean ====
/- The running sums' reference, read at an entry: a window as long as a sequence, padded before it, sums the rows so far. -/
module

public import proofs.«01_k».proof.Proof.GateSumsValue
public import proofs.«01_k».proof.Proof.Gen.GateSumsRefIdeal.Read

@[expose] public section

noncomputable section

namespace Cert.GateSums.Ref

open Idealize.ShloMosaic Idealize.ShloMosaic.Ideal Idealize.ShloMosaic.ValueIdx Cert.GateSumsRefIdeal Cert.GateSumsRefIdeal.Gen
open Cert.GateSumsRefIdeal.Read
open Cert.GateSums.Value (column column_row running lane)

/-- A fold of sums is the sum. -/
theorem foldl_sum {ι : Type} (g : ι → EReal) (l : List ι) (z : EReal) :
    l.foldl (fun r a => r + g a) z = z + (l.map g).sum := by
  induction l generalizing z with
  | nil => simp
  | cons a l ih => rw [List.foldl_cons, ih, List.map_cons, List.sum_cons, add_assoc]

/-- Of the window's places, the last `R + 1` hold the rows so far and the ones before them nothing. -/
theorem sum_window (P : ℕ → EReal) (R : ℕ) (hR : R < 8192) :
    ∑ n ∈ Finset.range 8192, (if 8191 ≤ R + n then P (R + n - 8191) else 0) = ∑ s ∈ Finset.range (R + 1), P s := by
  rw [show 8192 = (8191 - R) + (R + 1) by omega, Finset.sum_range_add, Finset.sum_eq_zero (fun n hn => if_neg (by
    rw [Finset.mem_range] at hn; omega)), zero_add]
  refine Finset.sum_congr rfl fun n _ => ?_
  rw [if_pos (by omega)]
  exact congrArg P (by omega)

/-- The window. -/
abbrev window : Shape := ⟨3, ![1, 8192, 1]⟩

theorem numel_window : window.numel = 8192 := by
  show ∏ a : Fin 3, (![1, 8192, 1] : Fin 3 → ℕ) a = 8192
  rw [Fin.prod_univ_three]
  rfl

/-- Its places, in order. -/
theorem place_eq (n : Fin window.numel) : window.rowMajor.symm n = ix3 (0 : Fin 1) (n.cast numel_window) (0 : Fin 1) :=
  (window.rowMajor.symm_apply_eq).2 (Fin.ext (by
    rw [Shape.rowMajor_val_three]
    show n.val = (0 * 8192 + n.val) * 1 + 0
    omega))

variable (x : S16384x128.Idx → EReal)

theorem split_apply (b : Fin 2) (R : Fin 8192) (d : Fin 128) :
    val_main_v0 (F := Ideal) x (ix3 b R d) = column x b.val d R.val := by
  rw [val_main_v0_apply]
  refine Eq.trans (congrArg x (funext fun a => Fin.ext ?_))
    (column_row x b.val d R.val ⟨8192 * b.val + R.val, by omega⟩ rfl).symm
  match a with
  | ⟨0, _⟩ => show ((b.val * 8192 + R.val) * 128 + d.val) / 128 = 8192 * b.val + R.val; omega
  | ⟨1, _⟩ => show ((b.val * 8192 + R.val) * 128 + d.val) % 128 = d.val; omega

/-- The running sums. -/
theorem sums_eq (b : Fin 2) (R : Fin 8192) (d : Fin 128) :
    val_main_v1 (F := Ideal) x (ix3 b R d) = ∑ s ∈ Finset.range (R.val + 1), column x b.val d s := by
  have hinit : ∀ j, val_main_call0_call0_v0 (F := Ideal) j = (0 : EReal) := fun j => by
    rw [val_main_call0_call0_v0_apply, val_main_call0_call0_cst_apply]
    exact Ideal.ofBits_zero_f32
  have hb := b.isLt
  have hR := R.isLt
  have hd := d.isLt
  unfold val_main_v1 Host.reduceWindowAdd
  rw [hostReduceWindowAdd_def, hinit]
  unfold Ideal.hostReduceWindowAdd Host.reduceWindow
  dsimp only
  refine (foldl_sum (ι := Fin window.numel) _ (List.finRange window.numel) 0).trans ?_
  rw [zero_add, ← Fin.sum_univ_def]
  refine Eq.trans (Finset.sum_congr rfl fun n _ => ?_) (((Fin.sum_univ_eq_sum_range
    (fun n => if 8191 ≤ R.val + n then column x b.val d (R.val + n - 8191) else 0) window.numel).trans
      (by rw [numel_window])).trans (sum_window (column x b.val d) R.val R.isLt))
  have hw0 : (window.rowMajor.symm n 0).val = 0 := by rw [place_eq]; rfl
  have hw1 : (window.rowMajor.symm n 1).val = n.val := by rw [place_eq]; rfl
  have hw2 : (window.rowMajor.symm n 2).val = 0 := by rw [place_eq]; rfl
  have hn : n.val < 8192 := (n.cast numel_window).isLt
  split
  · next hin =>
    have h1 := hin 1
    change 8191 ≤ R.val * 1 + (window.rowMajor.symm n 1).val ∧ R.val * 1 + (window.rowMajor.symm n 1).val - 8191 < 8192 at h1
    rw [hw1] at h1
    rw [if_pos (by omega), ← split_apply x b ⟨R.val + n.val - 8191, by omega⟩ d]
    refine congrArg (val_main_v0 (F := Ideal) x) (funext fun a => Fin.ext ?_)
    match a with
    | ⟨0, _⟩ => show b.val * 1 + (window.rowMajor.symm n 0).val - 0 = b.val; rw [hw0]; omega
    | ⟨1, _⟩ => show R.val * 1 + (window.rowMajor.symm n 1).val - 8191 = R.val + n.val - 8191; rw [hw1]; omega
    | ⟨2, _⟩ => show d.val * 1 + (window.rowMajor.symm n 2).val - 0 = d.val; rw [hw2]; omega
  · next hin =>
    rw [if_neg fun h => hin fun a => ?_]
    match a with
    | ⟨0, _⟩ =>
      show 0 ≤ b.val * 1 + (window.rowMajor.symm n 0).val ∧ b.val * 1 + (window.rowMajor.symm n 0).val - 0 < 2
      rw [hw0]; omega
    | ⟨1, _⟩ =>
      show 8191 ≤ R.val * 1 + (window.rowMajor.symm n 1).val ∧ R.val * 1 + (window.rowMajor.symm n 1).val - 8191 < 8192
      rw [hw1]; omega
    | ⟨2, _⟩ =>
      show 0 ≤ d.val * 1 + (window.rowMajor.symm n 2).val ∧ d.val * 1 + (window.rowMajor.symm n 2).val - 0 < 128
      rw [hw2]; omega

/-- The three results. -/
theorem heads_eq (R : Fin 16384) (h : Fin 8) : val_main_v2 (F := Ideal) x (ix2 R h) = x (ix2 R (lane h)) := by
  rw [val_main_v2_apply]
  refine congrArg x (funext fun a => Fin.ext ?_)
  match a with
  | ⟨0, _⟩ => rfl
  | ⟨1, _⟩ => rfl

theorem running_eq (R : Fin 16384) (d : Fin 128) : val_main_v3 (F := Ideal) x (ix2 R d) = running x R d := by
  rw [val_main_v3_apply]
  refine Eq.trans (congrArg (val_main_v1 (F := Ideal) x) (funext fun a => Fin.ext ?_))
    (sums_eq x ⟨R.val / 8192, by omega⟩ ⟨R.val % 8192, by omega⟩ d)
  match a with
  | ⟨0, _⟩ => show (R.val * 128 + d.val) / (8192 * 128) = R.val / 8192; omega
  | ⟨1, _⟩ => show (R.val * 128 + d.val) / 128 % 8192 = R.val % 8192; omega
  | ⟨2, _⟩ => show (R.val * 128 + d.val) % 128 = d.val; omega

theorem turned_eq (b : Fin 2) (h : Fin 8) (R : Fin 8192) :
    val_main_v5 (F := Ideal) x (ix3 b h R) = running x ⟨8192 * b.val + R.val, by omega⟩ (lane h) := by
  rw [val_main_v5_apply, val_main_v4_apply]
  refine Eq.trans (congrArg (val_main_v1 (F := Ideal) x) (funext fun a => Fin.ext ?_)) ((sums_eq x b R (lane h)).trans ?_)
  · match a with
    | ⟨0, _⟩ => rfl
    | ⟨1, _⟩ => rfl
    | ⟨2, _⟩ => rfl
  · unfold running
    rw [show (8192 * b.val + R.val) / 8192 = b.val by omega, show (8192 * b.val + R.val) % 8192 = R.val by omega]

end Cert.GateSums.Ref

end
-- ==== Proof.GateSumsClaim.lean ====
/- The claims about the running sums of the gates: the three programs leave their arguments and their counters as they
   were, and over the extended reals the kernel's results, the heads' gates, the running sums and the heads' sums turned,
   are the reference's. -/
module

public import proofs.«01_k».proof.Defs
public import proofs.«01_k».proof.Proof.GateSumsRef
public import proofs.«01_k».proof.Proof.Gen.GateSums.Frame
public import proofs.«01_k».proof.Proof.Gen.GateSumsRefIdeal.Run

@[expose] public section

noncomputable section

namespace Cert.GateSums.Claims

open Idealize.ShloMosaic Idealize.ShloMosaic.ValueIdx Idealize.ShloMosaic.TcCoe Idealize.SL.Sem

theorem frame_kernel : Cert.quiescent_GateSums := fun m ρ _ => Cert.GateSums.Gen.frame m ρ

theorem frame_ideal : Cert.quiescent_GateSumsIdeal := fun m ρ _ => Cert.GateSumsIdeal.Gen.frame m ρ

theorem frame_reference : Cert.quiescent_GateSumsRefIdeal := fun m ρ _ =>
  (θ_run Cert.GateSumsRefIdeal.defs _ _).mono (fun r h => ⟨fun c => (h c).2.2.2, sem_eq_zero_of_no_sems (by decide) r.2⟩)
    (Cert.GateSumsRefIdeal.Value.run (F := Ideal) m ρ)

theorem preserves : Cert.preserves_GateSums_GateSumsIdeal := trivial

theorem algebraic : Cert.algebraic_GateSumsIdeal_GateSumsRefIdeal := by
  intro m ρ m' ρ' _ hagree
  refine ⟨_, _, _, Cert.GateSumsIdeal.Value.run_blocks m ρ, ?_⟩
  refine (θ_run Cert.GateSumsRefIdeal.defs _ _).mono (fun _ h c => ?_) (Cert.GateSumsRefIdeal.Value.run (F := Ideal) m' ρ')
  obtain ⟨g0, g1, g2, g⟩ := h c
  have h0 := hagree c
  refine ⟨g0.trans ?_, g1.trans ?_, g2.trans ?_, g⟩
  · rw [Cert.GateSumsRefIdeal.Read.val_main_v2_eq, h0]
    funext j
    rw [eq_ix2 j]
    exact (Ref.heads_eq _ _ _).trans (Value.heads m c _ _).symm
  · rw [Cert.GateSumsRefIdeal.Read.val_main_v3_eq, h0]
    funext j
    rw [eq_ix2 j]
    exact (Ref.running_eq _ _ _).trans (Value.sums m c _ _).symm
  · rw [Cert.GateSumsRefIdeal.Read.val_main_v5_eq, h0]
    funext j
    rw [eq_ix3 j]
    exact (Ref.turned_eq _ _ _ _).trans (Value.turned m c _ _ _).symm

end Cert.GateSums.Claims

end
-- ==== Proof.lean ====
/- The proof of the certificate's claim: the side conditions of every printed program, then the claims in the order the
   claim lists them. -/
module

public import proofs.«01_k».proof.Defs
public import proofs.«01_k».proof.Proof.FoxClaim
public import proofs.«01_k».proof.Proof.DiffClaim
public import proofs.«01_k».proof.Proof.DiffLateClaim
public import proofs.«01_k».proof.Proof.OddInClaim
public import proofs.«01_k».proof.Proof.EvenInClaim
public import proofs.«01_k».proof.Proof.OddOutClaim
public import proofs.«01_k».proof.Proof.EvenOutClaim
public import proofs.«01_k».proof.Proof.MoeClaim
public import proofs.«01_k».proof.Proof.FinalLnClaim
public import proofs.«01_k».proof.Proof.AdalnClaim
public import proofs.«01_k».proof.Proof.ConvClaim
public import proofs.«01_k».proof.Proof.GateSumsClaim

@[expose] public section

noncomputable section

namespace Cert.Proof

open Idealize.ShloMosaic Idealize.SL.Sem

theorem claim : Cert.Claim :=
  ⟨Cert.Fox.Gen.facts, Cert.FoxIdeal.Gen.facts, Cert.FoxRefIdeal.Gen.facts, Cert.Diff.Gen.facts, Cert.DiffIdeal.Gen.facts,
    Cert.DiffRefIdeal.Gen.facts, Cert.DiffLate.Gen.facts, Cert.DiffLateIdeal.Gen.facts, Cert.DiffLateRefIdeal.Gen.facts,
    Cert.OddIn.Gen.facts, Cert.OddInIdeal.Gen.facts, Cert.OddInRefIdeal.Gen.facts,
    Cert.EvenIn.Gen.facts, Cert.EvenInIdeal.Gen.facts, Cert.EvenInRefIdeal.Gen.facts,
    Cert.OddOut.Gen.facts, Cert.OddOutIdeal.Gen.facts, Cert.OddOutRefIdeal.Gen.facts,
    Cert.EvenOut.Gen.facts, Cert.EvenOutIdeal.Gen.facts, Cert.EvenOutRefIdeal.Gen.facts,
    Cert.Moe.Gen.facts, Cert.MoeIdeal.Gen.facts, Cert.MoeRefIdeal.Gen.facts,
    Cert.FinalLn.Gen.facts, Cert.FinalLnIdeal.Gen.facts, Cert.FinalLnRefIdeal.Gen.facts,
    Cert.Adaln.Gen.facts, Cert.AdalnIdeal.Gen.facts, Cert.AdalnRefIdeal.Gen.facts,
    Cert.Conv.Gen.facts, Cert.ConvIdeal.Gen.facts, Cert.ConvRefIdeal.Gen.facts,
    Cert.GateSums.Gen.facts, Cert.GateSumsIdeal.Gen.facts, Cert.GateSumsRefIdeal.Gen.facts,
    Cert.Fox.Claims.preFacts, Cert.Diff.Claims.preFacts, Cert.Routed.preFacts,
    Cert.Fox.Claims.frame_kernel, Cert.Fox.Claims.frame_ideal, Cert.Fox.Claims.frame_ideal_pre, Cert.Fox.Claims.frame_reference,
    Cert.Fox.Claims.frame_reference_pre,
    Cert.Diff.Claims.frame_kernel, Cert.Diff.Claims.frame_ideal, Cert.Diff.Claims.frame_ideal_pre, Cert.Diff.Claims.frame_reference,
    Cert.Diff.Claims.frame_reference_pre,
    Cert.DiffLate.Claims.frame_kernel, Cert.DiffLate.Claims.frame_ideal, Cert.DiffLate.Claims.frame_ideal_pre,
    Cert.DiffLate.Claims.frame_reference, Cert.DiffLate.Claims.frame_reference_pre,
    Cert.OddIn.Claims.frame_kernel, Cert.OddIn.Claims.frame_ideal, Cert.OddIn.Claims.frame_reference,
    Cert.EvenIn.Claims.frame_kernel, Cert.EvenIn.Claims.frame_ideal, Cert.EvenIn.Claims.frame_reference,
    Cert.OddOut.Claims.frame_kernel, Cert.OddOut.Claims.frame_ideal, Cert.OddOut.Claims.frame_reference,
    Cert.EvenOut.Claims.frame_kernel, Cert.EvenOut.Claims.frame_ideal, Cert.EvenOut.Claims.frame_reference,
    Cert.Moe.Claims.frame_kernel, Cert.Moe.Claims.frame_ideal, Cert.Moe.Claims.frame_reference, Cert.Moe.Claims.frame_reference_routed,
    Cert.FinalLn.Claims.frame_kernel, Cert.FinalLn.Claims.frame_ideal, Cert.FinalLn.Claims.frame_reference,
    Cert.Adaln.Claims.frame_kernel, Cert.Adaln.Claims.frame_ideal, Cert.Adaln.Claims.frame_reference,
    Cert.Conv.Claims.frame_kernel, Cert.Conv.Claims.frame_ideal, Cert.Conv.Claims.frame_reference,
    Cert.GateSums.Claims.frame_kernel, Cert.GateSums.Claims.frame_ideal, Cert.GateSums.Claims.frame_reference,
    Cert.Fox.Claims.preserves, Cert.Fox.Claims.algebraic, Cert.Diff.Claims.preserves, Cert.Diff.Claims.algebraic,
    Cert.DiffLate.Claims.preserves, Cert.DiffLate.Claims.algebraic,
    Cert.OddIn.Claims.preserves, Cert.OddIn.Claims.algebraic,
    Cert.EvenIn.Claims.preserves, Cert.EvenIn.Claims.algebraic,
    Cert.OddOut.Claims.preserves, Cert.OddOut.Claims.algebraic,
    Cert.EvenOut.Claims.preserves, Cert.EvenOut.Claims.algebraic,
    Cert.Moe.Claims.preserves, Cert.Moe.Claims.algebraic,
    Cert.FinalLn.Claims.preserves, Cert.FinalLn.Claims.algebraic,
    Cert.Adaln.Claims.preserves, Cert.Adaln.Claims.algebraic,
    Cert.Conv.Claims.preserves, Cert.Conv.Claims.algebraic,
    Cert.GateSums.Claims.preserves, Cert.GateSums.Claims.algebraic⟩

end Cert.Proof

end
